-- ==== Defs.lean ====
def Pre_Gradients (m : (ℓ : Loc Cert.Gradients.nD Cert.Gradients.τ Cert.Gradients.sig) → Buf (Elt Bits) ℓ) : Prop :=
  True

def Pre_GradientsIdeal (m : (ℓ : Loc Cert.GradientsIdeal.nD Cert.GradientsIdeal.τ Cert.GradientsIdeal.sig) → Buf (Elt Ideal) ℓ) : Prop :=
  True

def Pre_GradientsIdeal_amax_finite [hPre_amax_finite : Cert.Pre_amax_finite.Facts] (m : (ℓ : Loc Cert.GradientsIdeal.nD Cert.GradientsIdeal.τ Cert.GradientsIdeal.sig) → Buf (Elt Ideal) ℓ) : Prop :=
  ∀ c : Dev Cert.GradientsIdeal.nD,
    (Cert.Pre_amax_finite.fn (F := Ideal) (m ((c.tc : Thread Cert.GradientsIdeal.nD Cert.GradientsIdeal.τ).loc Cert.GradientsIdeal.main_arg0)) (m ((c.tc : Thread Cert.GradientsIdeal.nD Cert.GradientsIdeal.τ).loc Cert.GradientsIdeal.main_arg1)) (m ((c.tc : Thread Cert.GradientsIdeal.nD Cert.GradientsIdeal.τ).loc Cert.GradientsIdeal.main_arg2)) (m ((c.tc : Thread Cert.GradientsIdeal.nD Cert.GradientsIdeal.τ).loc Cert.GradientsIdeal.main_arg3)) (m ((c.tc : Thread Cert.GradientsIdeal.nD Cert.GradientsIdeal.τ).loc Cert.GradientsIdeal.main_arg4)) (m ((c.tc : Thread Cert.GradientsIdeal.nD Cert.GradientsIdeal.τ).loc Cert.GradientsIdeal.main_arg5)) (m ((c.tc : Thread Cert.GradientsIdeal.nD Cert.GradientsIdeal.τ).loc Cert.GradientsIdeal.main_arg6)) (m ((c.tc : Thread Cert.GradientsIdeal.nD Cert.GradientsIdeal.τ).loc Cert.GradientsIdeal.main_arg7)) (m ((c.tc : Thread Cert.GradientsIdeal.nD Cert.GradientsIdeal.τ).loc Cert.GradientsIdeal.main_arg8)) (m ((c.tc : Thread Cert.GradientsIdeal.nD Cert.GradientsIdeal.τ).loc Cert.GradientsIdeal.main_arg9))) = (fun _ => 1#1)

def Pre_GradientsRefIdeal (m : (ℓ : Loc Cert.GradientsRefIdeal.nD Cert.GradientsRefIdeal.τ Cert.GradientsRefIdeal.sig) → Buf (Elt Ideal) ℓ) : Prop :=
  True

def Pre_GradientsRefIdeal_amax_finite [hPre_amax_finite : Cert.Pre_amax_finite.Facts] (m : (ℓ : Loc Cert.GradientsRefIdeal.nD Cert.GradientsRefIdeal.τ Cert.GradientsRefIdeal.sig) → Buf (Elt Ideal) ℓ) : Prop :=
  ∀ c : Dev Cert.GradientsRefIdeal.nD,
    (Cert.Pre_amax_finite.fn (F := Ideal) (m ((c.tc : Thread Cert.GradientsRefIdeal.nD Cert.GradientsRefIdeal.τ).loc Cert.GradientsRefIdeal.main_arg0)) (m ((c.tc : Thread Cert.GradientsRefIdeal.nD Cert.GradientsRefIdeal.τ).loc Cert.GradientsRefIdeal.main_arg1)) (m ((c.tc : Thread Cert.GradientsRefIdeal.nD Cert.GradientsRefIdeal.τ).loc Cert.GradientsRefIdeal.main_arg2)) (m ((c.tc : Thread Cert.GradientsRefIdeal.nD Cert.GradientsRefIdeal.τ).loc Cert.GradientsRefIdeal.main_arg3)) (m ((c.tc : Thread Cert.GradientsRefIdeal.nD Cert.GradientsRefIdeal.τ).loc Cert.GradientsRefIdeal.main_arg4)) (m ((c.tc : Thread Cert.GradientsRefIdeal.nD Cert.GradientsRefIdeal.τ).loc Cert.GradientsRefIdeal.main_arg5)) (m ((c.tc : Thread Cert.GradientsRefIdeal.nD Cert.GradientsRefIdeal.τ).loc Cert.GradientsRefIdeal.main_arg6)) (m ((c.tc : Thread Cert.GradientsRefIdeal.nD Cert.GradientsRefIdeal.τ).loc Cert.GradientsRefIdeal.main_arg7)) (m ((c.tc : Thread Cert.GradientsRefIdeal.nD Cert.GradientsRefIdeal.τ).loc Cert.GradientsRefIdeal.main_arg8)) (m ((c.tc : Thread Cert.GradientsRefIdeal.nD Cert.GradientsRefIdeal.τ).loc Cert.GradientsRefIdeal.main_arg9))) = (fun _ => 1#1)

def Pre_QuantiseDy (m : (ℓ : Loc Cert.QuantiseDy.nD Cert.QuantiseDy.τ Cert.QuantiseDy.sig) → Buf (Elt Bits) ℓ) : Prop :=
  True

def Pre_QuantiseDyIdeal (m : (ℓ : Loc Cert.QuantiseDyIdeal.nD Cert.QuantiseDyIdeal.τ Cert.QuantiseDyIdeal.sig) → Buf (Elt Ideal) ℓ) : Prop :=
  True

def Pre_QuantiseDyIdeal_dy_finite [hPre_dy_finite : Cert.Pre_dy_finite.Facts] (m : (ℓ : Loc Cert.QuantiseDyIdeal.nD Cert.QuantiseDyIdeal.τ Cert.QuantiseDyIdeal.sig) → Buf (Elt Ideal) ℓ) : Prop :=
  ∀ c : Dev Cert.QuantiseDyIdeal.nD,
    (Cert.Pre_dy_finite.fn (F := Ideal) (m ((c.tc : Thread Cert.QuantiseDyIdeal.nD Cert.QuantiseDyIdeal.τ).loc Cert.QuantiseDyIdeal.main_arg0)) (m ((c.tc : Thread Cert.QuantiseDyIdeal.nD Cert.QuantiseDyIdeal.τ).loc Cert.QuantiseDyIdeal.main_arg1))) = (fun _ => 1#1)

def Pre_QuantiseDyRefIdeal (m : (ℓ : Loc Cert.QuantiseDyRefIdeal.nD Cert.QuantiseDyRefIdeal.τ Cert.QuantiseDyRefIdeal.sig) → Buf (Elt Ideal) ℓ) : Prop :=
  True

def Pre_QuantiseDyRefIdeal_dy_finite [hPre_dy_finite : Cert.Pre_dy_finite.Facts] (m : (ℓ : Loc Cert.QuantiseDyRefIdeal.nD Cert.QuantiseDyRefIdeal.τ Cert.QuantiseDyRefIdeal.sig) → Buf (Elt Ideal) ℓ) : Prop :=
  ∀ c : Dev Cert.QuantiseDyRefIdeal.nD,
    (Cert.Pre_dy_finite.fn (F := Ideal) (m ((c.tc : Thread Cert.QuantiseDyRefIdeal.nD Cert.QuantiseDyRefIdeal.τ).loc Cert.QuantiseDyRefIdeal.main_arg0)) (m ((c.tc : Thread Cert.QuantiseDyRefIdeal.nD Cert.QuantiseDyRefIdeal.τ).loc Cert.QuantiseDyRefIdeal.main_arg1))) = (fun _ => 1#1)

def Pre_Forward (m : (ℓ : Loc Cert.Forward.nD Cert.Forward.τ Cert.Forward.sig) → Buf (Elt Bits) ℓ) : Prop :=
  True

def Pre_ForwardIdeal (m : (ℓ : Loc Cert.ForwardIdeal.nD Cert.ForwardIdeal.τ Cert.ForwardIdeal.sig) → Buf (Elt Ideal) ℓ) : Prop :=
  True

def Pre_ForwardRefIdeal (m : (ℓ : Loc Cert.ForwardRefIdeal.nD Cert.ForwardRefIdeal.τ Cert.ForwardRefIdeal.sig) → Buf (Elt Ideal) ℓ) : Prop :=
  True

def quiescent_Gradients [hGradients : Cert.Gradients.Facts] : Prop :=
  ∀ (m : (ℓ : Loc Cert.Gradients.nD Cert.Gradients.τ Cert.Gradients.sig) → Buf (Elt Bits) ℓ) (g : Dev Cert.Gradients.nD → PrngReg), Pre_Gradients m →
    θ_run (Cert.Gradients.defs (F := Bits)) (onTc (τ := Cert.Gradients.τ) (Cert.Gradients.main (F := Bits))) ⟨m, fun _ => 0, g⟩ (fun r => (∀ c : Dev Cert.Gradients.nD,
      r.2.mem ((c.tc : Thread Cert.Gradients.nD Cert.Gradients.τ).loc Cert.Gradients.main_arg0) = m ((c.tc : Thread Cert.Gradients.nD Cert.Gradients.τ).loc Cert.Gradients.main_arg0)
      ∧ r.2.mem ((c.tc : Thread Cert.Gradients.nD Cert.Gradients.τ).loc Cert.Gradients.main_arg1) = m ((c.tc : Thread Cert.Gradients.nD Cert.Gradients.τ).loc Cert.Gradients.main_arg1)
      ∧ r.2.mem ((c.tc : Thread Cert.Gradients.nD Cert.Gradients.τ).loc Cert.Gradients.main_arg2) = m ((c.tc : Thread Cert.Gradients.nD Cert.Gradients.τ).loc Cert.Gradients.main_arg2)
      ∧ r.2.mem ((c.tc : Thread Cert.Gradients.nD Cert.Gradients.τ).loc Cert.Gradients.main_arg3) = m ((c.tc : Thread Cert.Gradients.nD Cert.Gradients.τ).loc Cert.Gradients.main_arg3)
      ∧ r.2.mem ((c.tc : Thread Cert.Gradients.nD Cert.Gradients.τ).loc Cert.Gradients.main_arg4) = m ((c.tc : Thread Cert.Gradients.nD Cert.Gradients.τ).loc Cert.Gradients.main_arg4)
      ∧ r.2.mem ((c.tc : Thread Cert.Gradients.nD Cert.Gradients.τ).loc Cert.Gradients.main_arg5) = m ((c.tc : Thread Cert.Gradients.nD Cert.Gradients.τ).loc Cert.Gradients.main_arg5)
      ∧ r.2.mem ((c.tc : Thread Cert.Gradients.nD Cert.Gradients.τ).loc Cert.Gradients.main_arg6) = m ((c.tc : Thread Cert.Gradients.nD Cert.Gradients.τ).loc Cert.Gradients.main_arg6)
      ∧ r.2.mem ((c.tc : Thread Cert.Gradients.nD Cert.Gradients.τ).loc Cert.Gradients.main_arg7) = m ((c.tc : Thread Cert.Gradients.nD Cert.Gradients.τ).loc Cert.Gradients.main_arg7)
      ∧ r.2.mem ((c.tc : Thread Cert.Gradients.nD Cert.Gradients.τ).loc Cert.Gradients.main_arg8) = m ((c.tc : Thread Cert.Gradients.nD Cert.Gradients.τ).loc Cert.Gradients.main_arg8)
      ∧ r.2.mem ((c.tc : Thread Cert.Gradients.nD Cert.Gradients.τ).loc Cert.Gradients.main_arg9) = m ((c.tc : Thread Cert.Gradients.nD Cert.Gradients.τ).loc Cert.Gradients.main_arg9))
      ∧ r.2.sem = fun _ => 0)

def quiescent_GradientsIdeal [hGradientsIdeal : Cert.GradientsIdeal.Facts] : Prop :=
  ∀ (m : (ℓ : Loc Cert.GradientsIdeal.nD Cert.GradientsIdeal.τ Cert.GradientsIdeal.sig) → Buf (Elt Ideal) ℓ) (g : Dev Cert.GradientsIdeal.nD → PrngReg), Pre_GradientsIdeal m →
    θ_run (Cert.GradientsIdeal.defs (F := Ideal)) (onTc (τ := Cert.GradientsIdeal.τ) (Cert.GradientsIdeal.main (F := Ideal))) ⟨m, fun _ => 0, g⟩ (fun r => (∀ c : Dev Cert.GradientsIdeal.nD,
      r.2.mem ((c.tc : Thread Cert.GradientsIdeal.nD Cert.GradientsIdeal.τ).loc Cert.GradientsIdeal.main_arg0) = m ((c.tc : Thread Cert.GradientsIdeal.nD Cert.GradientsIdeal.τ).loc Cert.GradientsIdeal.main_arg0)
      ∧ r.2.mem ((c.tc : Thread Cert.GradientsIdeal.nD Cert.GradientsIdeal.τ).loc Cert.GradientsIdeal.main_arg1) = m ((c.tc : Thread Cert.GradientsIdeal.nD Cert.GradientsIdeal.τ).loc Cert.GradientsIdeal.main_arg1)
      ∧ r.2.mem ((c.tc : Thread Cert.GradientsIdeal.nD Cert.GradientsIdeal.τ).loc Cert.GradientsIdeal.main_arg2) = m ((c.tc : Thread Cert.GradientsIdeal.nD Cert.GradientsIdeal.τ).loc Cert.GradientsIdeal.main_arg2)
      ∧ r.2.mem ((c.tc : Thread Cert.GradientsIdeal.nD Cert.GradientsIdeal.τ).loc Cert.GradientsIdeal.main_arg3) = m ((c.tc : Thread Cert.GradientsIdeal.nD Cert.GradientsIdeal.τ).loc Cert.GradientsIdeal.main_arg3)
      ∧ r.2.mem ((c.tc : Thread Cert.GradientsIdeal.nD Cert.GradientsIdeal.τ).loc Cert.GradientsIdeal.main_arg4) = m ((c.tc : Thread Cert.GradientsIdeal.nD Cert.GradientsIdeal.τ).loc Cert.GradientsIdeal.main_arg4)
      ∧ r.2.mem ((c.tc : Thread Cert.GradientsIdeal.nD Cert.GradientsIdeal.τ).loc Cert.GradientsIdeal.main_arg5) = m ((c.tc : Thread Cert.GradientsIdeal.nD Cert.GradientsIdeal.τ).loc Cert.GradientsIdeal.main_arg5)
      ∧ r.2.mem ((c.tc : Thread Cert.GradientsIdeal.nD Cert.GradientsIdeal.τ).loc Cert.GradientsIdeal.main_arg6) = m ((c.tc : Thread Cert.GradientsIdeal.nD Cert.GradientsIdeal.τ).loc Cert.GradientsIdeal.main_arg6)
      ∧ r.2.mem ((c.tc : Thread Cert.GradientsIdeal.nD Cert.GradientsIdeal.τ).loc Cert.GradientsIdeal.main_arg7) = m ((c.tc : Thread Cert.GradientsIdeal.nD Cert.GradientsIdeal.τ).loc Cert.GradientsIdeal.main_arg7)
      ∧ r.2.mem ((c.tc : Thread Cert.GradientsIdeal.nD Cert.GradientsIdeal.τ).loc Cert.GradientsIdeal.main_arg8) = m ((c.tc : Thread Cert.GradientsIdeal.nD Cert.GradientsIdeal.τ).loc Cert.GradientsIdeal.main_arg8)
      ∧ r.2.mem ((c.tc : Thread Cert.GradientsIdeal.nD Cert.GradientsIdeal.τ).loc Cert.GradientsIdeal.main_arg9) = m ((c.tc : Thread Cert.GradientsIdeal.nD Cert.GradientsIdeal.τ).loc Cert.GradientsIdeal.main_arg9))
      ∧ r.2.sem = fun _ => 0)

def quiescent_GradientsIdeal_pre_amax_finite [hGradientsIdeal : Cert.GradientsIdeal.Facts] [hPre_amax_finite : Cert.Pre_amax_finite.Facts] : Prop :=
  ∀ (m : (ℓ : Loc Cert.GradientsIdeal.nD Cert.GradientsIdeal.τ Cert.GradientsIdeal.sig) → Buf (Elt Ideal) ℓ) (g : Dev Cert.GradientsIdeal.nD → PrngReg), Pre_GradientsIdeal_amax_finite m →
    θ_run (Cert.GradientsIdeal.defs (F := Ideal)) (onTc (τ := Cert.GradientsIdeal.τ) (Cert.GradientsIdeal.main (F := Ideal))) ⟨m, fun _ => 0, g⟩ (fun r => (∀ c : Dev Cert.GradientsIdeal.nD,
      r.2.mem ((c.tc : Thread Cert.GradientsIdeal.nD Cert.GradientsIdeal.τ).loc Cert.GradientsIdeal.main_arg0) = m ((c.tc : Thread Cert.GradientsIdeal.nD Cert.GradientsIdeal.τ).loc Cert.GradientsIdeal.main_arg0)
      ∧ r.2.mem ((c.tc : Thread Cert.GradientsIdeal.nD Cert.GradientsIdeal.τ).loc Cert.GradientsIdeal.main_arg1) = m ((c.tc : Thread Cert.GradientsIdeal.nD Cert.GradientsIdeal.τ).loc Cert.GradientsIdeal.main_arg1)
      ∧ r.2.mem ((c.tc : Thread Cert.GradientsIdeal.nD Cert.GradientsIdeal.τ).loc Cert.GradientsIdeal.main_arg2) = m ((c.tc : Thread Cert.GradientsIdeal.nD Cert.GradientsIdeal.τ).loc Cert.GradientsIdeal.main_arg2)
      ∧ r.2.mem ((c.tc : Thread Cert.GradientsIdeal.nD Cert.GradientsIdeal.τ).loc Cert.GradientsIdeal.main_arg3) = m ((c.tc : Thread Cert.GradientsIdeal.nD Cert.GradientsIdeal.τ).loc Cert.GradientsIdeal.main_arg3)
      ∧ r.2.mem ((c.tc : Thread Cert.GradientsIdeal.nD Cert.GradientsIdeal.τ).loc Cert.GradientsIdeal.main_arg4) = m ((c.tc : Thread Cert.GradientsIdeal.nD Cert.GradientsIdeal.τ).loc Cert.GradientsIdeal.main_arg4)
      ∧ r.2.mem ((c.tc : Thread Cert.GradientsIdeal.nD Cert.GradientsIdeal.τ).loc Cert.GradientsIdeal.main_arg5) = m ((c.tc : Thread Cert.GradientsIdeal.nD Cert.GradientsIdeal.τ).loc Cert.GradientsIdeal.main_arg5)
      ∧ r.2.mem ((c.tc : Thread Cert.GradientsIdeal.nD Cert.GradientsIdeal.τ).loc Cert.GradientsIdeal.main_arg6) = m ((c.tc : Thread Cert.GradientsIdeal.nD Cert.GradientsIdeal.τ).loc Cert.GradientsIdeal.main_arg6)
      ∧ r.2.mem ((c.tc : Thread Cert.GradientsIdeal.nD Cert.GradientsIdeal.τ).loc Cert.GradientsIdeal.main_arg7) = m ((c.tc : Thread Cert.GradientsIdeal.nD Cert.GradientsIdeal.τ).loc Cert.GradientsIdeal.main_arg7)
      ∧ r.2.mem ((c.tc : Thread Cert.GradientsIdeal.nD Cert.GradientsIdeal.τ).loc Cert.GradientsIdeal.main_arg8) = m ((c.tc : Thread Cert.GradientsIdeal.nD Cert.GradientsIdeal.τ).loc Cert.GradientsIdeal.main_arg8)
      ∧ r.2.mem ((c.tc : Thread Cert.GradientsIdeal.nD Cert.GradientsIdeal.τ).loc Cert.GradientsIdeal.main_arg9) = m ((c.tc : Thread Cert.GradientsIdeal.nD Cert.GradientsIdeal.τ).loc Cert.GradientsIdeal.main_arg9))
      ∧ r.2.sem = fun _ => 0)

def quiescent_GradientsRefIdeal [hGradientsRefIdeal : Cert.GradientsRefIdeal.Facts] : Prop :=
  ∀ (m : (ℓ : Loc Cert.GradientsRefIdeal.nD Cert.GradientsRefIdeal.τ Cert.GradientsRefIdeal.sig) → Buf (Elt Ideal) ℓ) (g : Dev Cert.GradientsRefIdeal.nD → PrngReg), Pre_GradientsRefIdeal m →
    θ_run (Cert.GradientsRefIdeal.defs (F := Ideal)) (onTc (τ := Cert.GradientsRefIdeal.τ) (Cert.GradientsRefIdeal.main (F := Ideal))) ⟨m, fun _ => 0, g⟩ (fun r => (∀ c : Dev Cert.GradientsRefIdeal.nD,
      r.2.mem ((c.tc : Thread Cert.GradientsRefIdeal.nD Cert.GradientsRefIdeal.τ).loc Cert.GradientsRefIdeal.main_arg0) = m ((c.tc : Thread Cert.GradientsRefIdeal.nD Cert.GradientsRefIdeal.τ).loc Cert.GradientsRefIdeal.main_arg0)
      ∧ r.2.mem ((c.tc : Thread Cert.GradientsRefIdeal.nD Cert.GradientsRefIdeal.τ).loc Cert.GradientsRefIdeal.main_arg1) = m ((c.tc : Thread Cert.GradientsRefIdeal.nD Cert.GradientsRefIdeal.τ).loc Cert.GradientsRefIdeal.main_arg1)
      ∧ r.2.mem ((c.tc : Thread Cert.GradientsRefIdeal.nD Cert.GradientsRefIdeal.τ).loc Cert.GradientsRefIdeal.main_arg2) = m ((c.tc : Thread Cert.GradientsRefIdeal.nD Cert.GradientsRefIdeal.τ).loc Cert.GradientsRefIdeal.main_arg2)
      ∧ r.2.mem ((c.tc : Thread Cert.GradientsRefIdeal.nD Cert.GradientsRefIdeal.τ).loc Cert.GradientsRefIdeal.main_arg3) = m ((c.tc : Thread Cert.GradientsRefIdeal.nD Cert.GradientsRefIdeal.τ).loc Cert.GradientsRefIdeal.main_arg3)
      ∧ r.2.mem ((c.tc : Thread Cert.GradientsRefIdeal.nD Cert.GradientsRefIdeal.τ).loc Cert.GradientsRefIdeal.main_arg4) = m ((c.tc : Thread Cert.GradientsRefIdeal.nD Cert.GradientsRefIdeal.τ).loc Cert.GradientsRefIdeal.main_arg4)
      ∧ r.2.mem ((c.tc : Thread Cert.GradientsRefIdeal.nD Cert.GradientsRefIdeal.τ).loc Cert.GradientsRefIdeal.main_arg5) = m ((c.tc : Thread Cert.GradientsRefIdeal.nD Cert.GradientsRefIdeal.τ).loc Cert.GradientsRefIdeal.main_arg5)
      ∧ r.2.mem ((c.tc : Thread Cert.GradientsRefIdeal.nD Cert.GradientsRefIdeal.τ).loc Cert.GradientsRefIdeal.main_arg6) = m ((c.tc : Thread Cert.GradientsRefIdeal.nD Cert.GradientsRefIdeal.τ).loc Cert.GradientsRefIdeal.main_arg6)
      ∧ r.2.mem ((c.tc : Thread Cert.GradientsRefIdeal.nD Cert.GradientsRefIdeal.τ).loc Cert.GradientsRefIdeal.main_arg7) = m ((c.tc : Thread Cert.GradientsRefIdeal.nD Cert.GradientsRefIdeal.τ).loc Cert.GradientsRefIdeal.main_arg7)
      ∧ r.2.mem ((c.tc : Thread Cert.GradientsRefIdeal.nD Cert.GradientsRefIdeal.τ).loc Cert.GradientsRefIdeal.main_arg8) = m ((c.tc : Thread Cert.GradientsRefIdeal.nD Cert.GradientsRefIdeal.τ).loc Cert.GradientsRefIdeal.main_arg8)
      ∧ r.2.mem ((c.tc : Thread Cert.GradientsRefIdeal.nD Cert.GradientsRefIdeal.τ).loc Cert.GradientsRefIdeal.main_arg9) = m ((c.tc : Thread Cert.GradientsRefIdeal.nD Cert.GradientsRefIdeal.τ).loc Cert.GradientsRefIdeal.main_arg9))
      ∧ r.2.sem = fun _ => 0)

def quiescent_GradientsRefIdeal_pre_amax_finite [hGradientsRefIdeal : Cert.GradientsRefIdeal.Facts] [hPre_amax_finite : Cert.Pre_amax_finite.Facts] : Prop :=
  ∀ (m : (ℓ : Loc Cert.GradientsRefIdeal.nD Cert.GradientsRefIdeal.τ Cert.GradientsRefIdeal.sig) → Buf (Elt Ideal) ℓ) (g : Dev Cert.GradientsRefIdeal.nD → PrngReg), Pre_GradientsRefIdeal_amax_finite m →
    θ_run (Cert.GradientsRefIdeal.defs (F := Ideal)) (onTc (τ := Cert.GradientsRefIdeal.τ) (Cert.GradientsRefIdeal.main (F := Ideal))) ⟨m, fun _ => 0, g⟩ (fun r => (∀ c : Dev Cert.GradientsRefIdeal.nD,
      r.2.mem ((c.tc : Thread Cert.GradientsRefIdeal.nD Cert.GradientsRefIdeal.τ).loc Cert.GradientsRefIdeal.main_arg0) = m ((c.tc : Thread Cert.GradientsRefIdeal.nD Cert.GradientsRefIdeal.τ).loc Cert.GradientsRefIdeal.main_arg0)
      ∧ r.2.mem ((c.tc : Thread Cert.GradientsRefIdeal.nD Cert.GradientsRefIdeal.τ).loc Cert.GradientsRefIdeal.main_arg1) = m ((c.tc : Thread Cert.GradientsRefIdeal.nD Cert.GradientsRefIdeal.τ).loc Cert.GradientsRefIdeal.main_arg1)
      ∧ r.2.mem ((c.tc : Thread Cert.GradientsRefIdeal.nD Cert.GradientsRefIdeal.τ).loc Cert.GradientsRefIdeal.main_arg2) = m ((c.tc : Thread Cert.GradientsRefIdeal.nD Cert.GradientsRefIdeal.τ).loc Cert.GradientsRefIdeal.main_arg2)
      ∧ r.2.mem ((c.tc : Thread Cert.GradientsRefIdeal.nD Cert.GradientsRefIdeal.τ).loc Cert.GradientsRefIdeal.main_arg3) = m ((c.tc : Thread Cert.GradientsRefIdeal.nD Cert.GradientsRefIdeal.τ).loc Cert.GradientsRefIdeal.main_arg3)
      ∧ r.2.mem ((c.tc : Thread Cert.GradientsRefIdeal.nD Cert.GradientsRefIdeal.τ).loc Cert.GradientsRefIdeal.main_arg4) = m ((c.tc : Thread Cert.GradientsRefIdeal.nD Cert.GradientsRefIdeal.τ).loc Cert.GradientsRefIdeal.main_arg4)
      ∧ r.2.mem ((c.tc : Thread Cert.GradientsRefIdeal.nD Cert.GradientsRefIdeal.τ).loc Cert.GradientsRefIdeal.main_arg5) = m ((c.tc : Thread Cert.GradientsRefIdeal.nD Cert.GradientsRefIdeal.τ).loc Cert.GradientsRefIdeal.main_arg5)
      ∧ r.2.mem ((c.tc : Thread Cert.GradientsRefIdeal.nD Cert.GradientsRefIdeal.τ).loc Cert.GradientsRefIdeal.main_arg6) = m ((c.tc : Thread Cert.GradientsRefIdeal.nD Cert.GradientsRefIdeal.τ).loc Cert.GradientsRefIdeal.main_arg6)
      ∧ r.2.mem ((c.tc : Thread Cert.GradientsRefIdeal.nD Cert.GradientsRefIdeal.τ).loc Cert.GradientsRefIdeal.main_arg7) = m ((c.tc : Thread Cert.GradientsRefIdeal.nD Cert.GradientsRefIdeal.τ).loc Cert.GradientsRefIdeal.main_arg7)
      ∧ r.2.mem ((c.tc : Thread Cert.GradientsRefIdeal.nD Cert.GradientsRefIdeal.τ).loc Cert.GradientsRefIdeal.main_arg8) = m ((c.tc : Thread Cert.GradientsRefIdeal.nD Cert.GradientsRefIdeal.τ).loc Cert.GradientsRefIdeal.main_arg8)
      ∧ r.2.mem ((c.tc : Thread Cert.GradientsRefIdeal.nD Cert.GradientsRefIdeal.τ).loc Cert.GradientsRefIdeal.main_arg9) = m ((c.tc : Thread Cert.GradientsRefIdeal.nD Cert.GradientsRefIdeal.τ).loc Cert.GradientsRefIdeal.main_arg9))
      ∧ r.2.sem = fun _ => 0)

def quiescent_QuantiseDy [hQuantiseDy : Cert.QuantiseDy.Facts] : Prop :=
  ∀ (m : (ℓ : Loc Cert.QuantiseDy.nD Cert.QuantiseDy.τ Cert.QuantiseDy.sig) → Buf (Elt Bits) ℓ) (g : Dev Cert.QuantiseDy.nD → PrngReg), Pre_QuantiseDy m →
    θ_run (Cert.QuantiseDy.defs (F := Bits)) (onTc (τ := Cert.QuantiseDy.τ) (Cert.QuantiseDy.main (F := Bits))) ⟨m, fun _ => 0, g⟩ (fun r => (∀ c : Dev Cert.QuantiseDy.nD,
      r.2.mem ((c.tc : Thread Cert.QuantiseDy.nD Cert.QuantiseDy.τ).loc Cert.QuantiseDy.main_arg0) = m ((c.tc : Thread Cert.QuantiseDy.nD Cert.QuantiseDy.τ).loc Cert.QuantiseDy.main_arg0)
      ∧ r.2.mem ((c.tc : Thread Cert.QuantiseDy.nD Cert.QuantiseDy.τ).loc Cert.QuantiseDy.main_arg1) = m ((c.tc : Thread Cert.QuantiseDy.nD Cert.QuantiseDy.τ).loc Cert.QuantiseDy.main_arg1))
      ∧ r.2.sem = fun _ => 0)

def quiescent_QuantiseDyIdeal [hQuantiseDyIdeal : Cert.QuantiseDyIdeal.Facts] : Prop :=
  ∀ (m : (ℓ : Loc Cert.QuantiseDyIdeal.nD Cert.QuantiseDyIdeal.τ Cert.QuantiseDyIdeal.sig) → Buf (Elt Ideal) ℓ) (g : Dev Cert.QuantiseDyIdeal.nD → PrngReg), Pre_QuantiseDyIdeal m →
    θ_run (Cert.QuantiseDyIdeal.defs (F := Ideal)) (onTc (τ := Cert.QuantiseDyIdeal.τ) (Cert.QuantiseDyIdeal.main (F := Ideal))) ⟨m, fun _ => 0, g⟩ (fun r => (∀ c : Dev Cert.QuantiseDyIdeal.nD,
      r.2.mem ((c.tc : Thread Cert.QuantiseDyIdeal.nD Cert.QuantiseDyIdeal.τ).loc Cert.QuantiseDyIdeal.main_arg0) = m ((c.tc : Thread Cert.QuantiseDyIdeal.nD Cert.QuantiseDyIdeal.τ).loc Cert.QuantiseDyIdeal.main_arg0)
      ∧ r.2.mem ((c.tc : Thread Cert.QuantiseDyIdeal.nD Cert.QuantiseDyIdeal.τ).loc Cert.QuantiseDyIdeal.main_arg1) = m ((c.tc : Thread Cert.QuantiseDyIdeal.nD Cert.QuantiseDyIdeal.τ).loc Cert.QuantiseDyIdeal.main_arg1))
      ∧ r.2.sem = fun _ => 0)

def quiescent_QuantiseDyIdeal_pre_dy_finite [hQuantiseDyIdeal : Cert.QuantiseDyIdeal.Facts] [hPre_dy_finite : Cert.Pre_dy_finite.Facts] : Prop :=
  ∀ (m : (ℓ : Loc Cert.QuantiseDyIdeal.nD Cert.QuantiseDyIdeal.τ Cert.QuantiseDyIdeal.sig) → Buf (Elt Ideal) ℓ) (g : Dev Cert.QuantiseDyIdeal.nD → PrngReg), Pre_QuantiseDyIdeal_dy_finite m →
    θ_run (Cert.QuantiseDyIdeal.defs (F := Ideal)) (onTc (τ := Cert.QuantiseDyIdeal.τ) (Cert.QuantiseDyIdeal.main (F := Ideal))) ⟨m, fun _ => 0, g⟩ (fun r => (∀ c : Dev Cert.QuantiseDyIdeal.nD,
      r.2.mem ((c.tc : Thread Cert.QuantiseDyIdeal.nD Cert.QuantiseDyIdeal.τ).loc Cert.QuantiseDyIdeal.main_arg0) = m ((c.tc : Thread Cert.QuantiseDyIdeal.nD Cert.QuantiseDyIdeal.τ).loc Cert.QuantiseDyIdeal.main_arg0)
      ∧ r.2.mem ((c.tc : Thread Cert.QuantiseDyIdeal.nD Cert.QuantiseDyIdeal.τ).loc Cert.QuantiseDyIdeal.main_arg1) = m ((c.tc : Thread Cert.QuantiseDyIdeal.nD Cert.QuantiseDyIdeal.τ).loc Cert.QuantiseDyIdeal.main_arg1))
      ∧ r.2.sem = fun _ => 0)

def quiescent_QuantiseDyRefIdeal [hQuantiseDyRefIdeal : Cert.QuantiseDyRefIdeal.Facts] : Prop :=
  ∀ (m : (ℓ : Loc Cert.QuantiseDyRefIdeal.nD Cert.QuantiseDyRefIdeal.τ Cert.QuantiseDyRefIdeal.sig) → Buf (Elt Ideal) ℓ) (g : Dev Cert.QuantiseDyRefIdeal.nD → PrngReg), Pre_QuantiseDyRefIdeal m →
    θ_run (Cert.QuantiseDyRefIdeal.defs (F := Ideal)) (onTc (τ := Cert.QuantiseDyRefIdeal.τ) (Cert.QuantiseDyRefIdeal.main (F := Ideal))) ⟨m, fun _ => 0, g⟩ (fun r => (∀ c : Dev Cert.QuantiseDyRefIdeal.nD,
      r.2.mem ((c.tc : Thread Cert.QuantiseDyRefIdeal.nD Cert.QuantiseDyRefIdeal.τ).loc Cert.QuantiseDyRefIdeal.main_arg0) = m ((c.tc : Thread Cert.QuantiseDyRefIdeal.nD Cert.QuantiseDyRefIdeal.τ).loc Cert.QuantiseDyRefIdeal.main_arg0)
      ∧ r.2.mem ((c.tc : Thread Cert.QuantiseDyRefIdeal.nD Cert.QuantiseDyRefIdeal.τ).loc Cert.QuantiseDyRefIdeal.main_arg1) = m ((c.tc : Thread Cert.QuantiseDyRefIdeal.nD Cert.QuantiseDyRefIdeal.τ).loc Cert.QuantiseDyRefIdeal.main_arg1))
      ∧ r.2.sem = fun _ => 0)

def quiescent_QuantiseDyRefIdeal_pre_dy_finite [hQuantiseDyRefIdeal : Cert.QuantiseDyRefIdeal.Facts] [hPre_dy_finite : Cert.Pre_dy_finite.Facts] : Prop :=
  ∀ (m : (ℓ : Loc Cert.QuantiseDyRefIdeal.nD Cert.QuantiseDyRefIdeal.τ Cert.QuantiseDyRefIdeal.sig) → Buf (Elt Ideal) ℓ) (g : Dev Cert.QuantiseDyRefIdeal.nD → PrngReg), Pre_QuantiseDyRefIdeal_dy_finite m →
    θ_run (Cert.QuantiseDyRefIdeal.defs (F := Ideal)) (onTc (τ := Cert.QuantiseDyRefIdeal.τ) (Cert.QuantiseDyRefIdeal.main (F := Ideal))) ⟨m, fun _ => 0, g⟩ (fun r => (∀ c : Dev Cert.QuantiseDyRefIdeal.nD,
      r.2.mem ((c.tc : Thread Cert.QuantiseDyRefIdeal.nD Cert.QuantiseDyRefIdeal.τ).loc Cert.QuantiseDyRefIdeal.main_arg0) = m ((c.tc : Thread Cert.QuantiseDyRefIdeal.nD Cert.QuantiseDyRefIdeal.τ).loc Cert.QuantiseDyRefIdeal.main_arg0)
      ∧ r.2.mem ((c.tc : Thread Cert.QuantiseDyRefIdeal.nD Cert.QuantiseDyRefIdeal.τ).loc Cert.QuantiseDyRefIdeal.main_arg1) = m ((c.tc : Thread Cert.QuantiseDyRefIdeal.nD Cert.QuantiseDyRefIdeal.τ).loc Cert.QuantiseDyRefIdeal.main_arg1))
      ∧ r.2.sem = fun _ => 0)

def quiescent_Forward [hForward : Cert.Forward.Facts] : Prop :=
  ∀ (m : (ℓ : Loc Cert.Forward.nD Cert.Forward.τ Cert.Forward.sig) → Buf (Elt Bits) ℓ) (g : Dev Cert.Forward.nD → PrngReg), Pre_Forward m →
    θ_run (Cert.Forward.defs (F := Bits)) (onTc (τ := Cert.Forward.τ) (Cert.Forward.main (F := Bits))) ⟨m, fun _ => 0, g⟩ (fun r => (∀ c : Dev Cert.Forward.nD,
      r.2.mem ((c.tc : Thread Cert.Forward.nD Cert.Forward.τ).loc Cert.Forward.main_arg0) = m ((c.tc : Thread Cert.Forward.nD Cert.Forward.τ).loc Cert.Forward.main_arg0)
      ∧ r.2.mem ((c.tc : Thread Cert.Forward.nD Cert.Forward.τ).loc Cert.Forward.main_arg1) = m ((c.tc : Thread Cert.Forward.nD Cert.Forward.τ).loc Cert.Forward.main_arg1)
      ∧ r.2.mem ((c.tc : Thread Cert.Forward.nD Cert.Forward.τ).loc Cert.Forward.main_arg2) = m ((c.tc : Thread Cert.Forward.nD Cert.Forward.τ).loc Cert.Forward.main_arg2)
      ∧ r.2.mem ((c.tc : Thread Cert.Forward.nD Cert.Forward.τ).loc Cert.Forward.main_arg3) = m ((c.tc : Thread Cert.Forward.nD Cert.Forward.τ).loc Cert.Forward.main_arg3)
      ∧ r.2.mem ((c.tc : Thread Cert.Forward.nD Cert.Forward.τ).loc Cert.Forward.main_arg4) = m ((c.tc : Thread Cert.Forward.nD Cert.Forward.τ).loc Cert.Forward.main_arg4)
      ∧ r.2.mem ((c.tc : Thread Cert.Forward.nD Cert.Forward.τ).loc Cert.Forward.main_arg5) = m ((c.tc : Thread Cert.Forward.nD Cert.Forward.τ).loc Cert.Forward.main_arg5)
      ∧ r.2.mem ((c.tc : Thread Cert.Forward.nD Cert.Forward.τ).loc Cert.Forward.main_arg6) = m ((c.tc : Thread Cert.Forward.nD Cert.Forward.τ).loc Cert.Forward.main_arg6)
      ∧ r.2.mem ((c.tc : Thread Cert.Forward.nD Cert.Forward.τ).loc Cert.Forward.main_arg7) = m ((c.tc : Thread Cert.Forward.nD Cert.Forward.τ).loc Cert.Forward.main_arg7))
      ∧ r.2.sem = fun _ => 0)

def quiescent_ForwardIdeal [hForwardIdeal : Cert.ForwardIdeal.Facts] : Prop :=
  ∀ (m : (ℓ : Loc Cert.ForwardIdeal.nD Cert.ForwardIdeal.τ Cert.ForwardIdeal.sig) → Buf (Elt Ideal) ℓ) (g : Dev Cert.ForwardIdeal.nD → PrngReg), Pre_ForwardIdeal m →
    θ_run (Cert.ForwardIdeal.defs (F := Ideal)) (onTc (τ := Cert.ForwardIdeal.τ) (Cert.ForwardIdeal.main (F := Ideal))) ⟨m, fun _ => 0, g⟩ (fun r => (∀ c : Dev Cert.ForwardIdeal.nD,
      r.2.mem ((c.tc : Thread Cert.ForwardIdeal.nD Cert.ForwardIdeal.τ).loc Cert.ForwardIdeal.main_arg0) = m ((c.tc : Thread Cert.ForwardIdeal.nD Cert.ForwardIdeal.τ).loc Cert.ForwardIdeal.main_arg0)
      ∧ r.2.mem ((c.tc : Thread Cert.ForwardIdeal.nD Cert.ForwardIdeal.τ).loc Cert.ForwardIdeal.main_arg1) = m ((c.tc : Thread Cert.ForwardIdeal.nD Cert.ForwardIdeal.τ).loc Cert.ForwardIdeal.main_arg1)
      ∧ r.2.mem ((c.tc : Thread Cert.ForwardIdeal.nD Cert.ForwardIdeal.τ).loc Cert.ForwardIdeal.main_arg2) = m ((c.tc : Thread Cert.ForwardIdeal.nD Cert.ForwardIdeal.τ).loc Cert.ForwardIdeal.main_arg2)
      ∧ r.2.mem ((c.tc : Thread Cert.ForwardIdeal.nD Cert.ForwardIdeal.τ).loc Cert.ForwardIdeal.main_arg3) = m ((c.tc : Thread Cert.ForwardIdeal.nD Cert.ForwardIdeal.τ).loc Cert.ForwardIdeal.main_arg3)
      ∧ r.2.mem ((c.tc : Thread Cert.ForwardIdeal.nD Cert.ForwardIdeal.τ).loc Cert.ForwardIdeal.main_arg4) = m ((c.tc : Thread Cert.ForwardIdeal.nD Cert.ForwardIdeal.τ).loc Cert.ForwardIdeal.main_arg4)
      ∧ r.2.mem ((c.tc : Thread Cert.ForwardIdeal.nD Cert.ForwardIdeal.τ).loc Cert.ForwardIdeal.main_arg5) = m ((c.tc : Thread Cert.ForwardIdeal.nD Cert.ForwardIdeal.τ).loc Cert.ForwardIdeal.main_arg5)
      ∧ r.2.mem ((c.tc : Thread Cert.ForwardIdeal.nD Cert.ForwardIdeal.τ).loc Cert.ForwardIdeal.main_arg6) = m ((c.tc : Thread Cert.ForwardIdeal.nD Cert.ForwardIdeal.τ).loc Cert.ForwardIdeal.main_arg6)
      ∧ r.2.mem ((c.tc : Thread Cert.ForwardIdeal.nD Cert.ForwardIdeal.τ).loc Cert.ForwardIdeal.main_arg7) = m ((c.tc : Thread Cert.ForwardIdeal.nD Cert.ForwardIdeal.τ).loc Cert.ForwardIdeal.main_arg7))
      ∧ r.2.sem = fun _ => 0)

def quiescent_ForwardRefIdeal [hForwardRefIdeal : Cert.ForwardRefIdeal.Facts] : Prop :=
  ∀ (m : (ℓ : Loc Cert.ForwardRefIdeal.nD Cert.ForwardRefIdeal.τ Cert.ForwardRefIdeal.sig) → Buf (Elt Ideal) ℓ) (g : Dev Cert.ForwardRefIdeal.nD → PrngReg), Pre_ForwardRefIdeal m →
    θ_run (Cert.ForwardRefIdeal.defs (F := Ideal)) (onTc (τ := Cert.ForwardRefIdeal.τ) (Cert.ForwardRefIdeal.main (F := Ideal))) ⟨m, fun _ => 0, g⟩ (fun r => (∀ c : Dev Cert.ForwardRefIdeal.nD,
      r.2.mem ((c.tc : Thread Cert.ForwardRefIdeal.nD Cert.ForwardRefIdeal.τ).loc Cert.ForwardRefIdeal.main_arg0) = m ((c.tc : Thread Cert.ForwardRefIdeal.nD Cert.ForwardRefIdeal.τ).loc Cert.ForwardRefIdeal.main_arg0)
      ∧ r.2.mem ((c.tc : Thread Cert.ForwardRefIdeal.nD Cert.ForwardRefIdeal.τ).loc Cert.ForwardRefIdeal.main_arg1) = m ((c.tc : Thread Cert.ForwardRefIdeal.nD Cert.ForwardRefIdeal.τ).loc Cert.ForwardRefIdeal.main_arg1)
      ∧ r.2.mem ((c.tc : Thread Cert.ForwardRefIdeal.nD Cert.ForwardRefIdeal.τ).loc Cert.ForwardRefIdeal.main_arg2) = m ((c.tc : Thread Cert.ForwardRefIdeal.nD Cert.ForwardRefIdeal.τ).loc Cert.ForwardRefIdeal.main_arg2)
      ∧ r.2.mem ((c.tc : Thread Cert.ForwardRefIdeal.nD Cert.ForwardRefIdeal.τ).loc Cert.ForwardRefIdeal.main_arg3) = m ((c.tc : Thread Cert.ForwardRefIdeal.nD Cert.ForwardRefIdeal.τ).loc Cert.ForwardRefIdeal.main_arg3)
      ∧ r.2.mem ((c.tc : Thread Cert.ForwardRefIdeal.nD Cert.ForwardRefIdeal.τ).loc Cert.ForwardRefIdeal.main_arg4) = m ((c.tc : Thread Cert.ForwardRefIdeal.nD Cert.ForwardRefIdeal.τ).loc Cert.ForwardRefIdeal.main_arg4)
      ∧ r.2.mem ((c.tc : Thread Cert.ForwardRefIdeal.nD Cert.ForwardRefIdeal.τ).loc Cert.ForwardRefIdeal.main_arg5) = m ((c.tc : Thread Cert.ForwardRefIdeal.nD Cert.ForwardRefIdeal.τ).loc Cert.ForwardRefIdeal.main_arg5)
      ∧ r.2.mem ((c.tc : Thread Cert.ForwardRefIdeal.nD Cert.ForwardRefIdeal.τ).loc Cert.ForwardRefIdeal.main_arg6) = m ((c.tc : Thread Cert.ForwardRefIdeal.nD Cert.ForwardRefIdeal.τ).loc Cert.ForwardRefIdeal.main_arg6)
      ∧ r.2.mem ((c.tc : Thread Cert.ForwardRefIdeal.nD Cert.ForwardRefIdeal.τ).loc Cert.ForwardRefIdeal.main_arg7) = m ((c.tc : Thread Cert.ForwardRefIdeal.nD Cert.ForwardRefIdeal.τ).loc Cert.ForwardRefIdeal.main_arg7))
      ∧ r.2.sem = fun _ => 0)

def preserves_Gradients_GradientsIdeal : Prop :=
  True

def algebraic_GradientsIdeal_GradientsRefIdeal_pre_amax_finite [hGradientsIdeal : Cert.GradientsIdeal.Facts] [hGradientsRefIdeal : Cert.GradientsRefIdeal.Facts] [hPre_amax_finite : Cert.Pre_amax_finite.Facts] : Prop :=
  ∀ (m : (ℓ : Loc Cert.GradientsIdeal.nD Cert.GradientsIdeal.τ Cert.GradientsIdeal.sig) → Buf (Elt Ideal) ℓ) (g : Dev Cert.GradientsIdeal.nD → PrngReg)
    (m' : (ℓ : Loc Cert.GradientsRefIdeal.nD Cert.GradientsRefIdeal.τ Cert.GradientsRefIdeal.sig) → Buf (Elt Ideal) ℓ) (g' : Dev Cert.GradientsRefIdeal.nD → PrngReg), Pre_GradientsIdeal_amax_finite m →
    (∀ c : Dev Cert.GradientsIdeal.nD,
      m' ((c.tc : Thread Cert.GradientsRefIdeal.nD Cert.GradientsRefIdeal.τ).loc Cert.GradientsRefIdeal.main_arg0) = m ((c.tc : Thread Cert.GradientsIdeal.nD Cert.GradientsIdeal.τ).loc Cert.GradientsIdeal.main_arg0)
      ∧ m' ((c.tc : Thread Cert.GradientsRefIdeal.nD Cert.GradientsRefIdeal.τ).loc Cert.GradientsRefIdeal.main_arg1) = m ((c.tc : Thread Cert.GradientsIdeal.nD Cert.GradientsIdeal.τ).loc Cert.GradientsIdeal.main_arg1)
      ∧ m' ((c.tc : Thread Cert.GradientsRefIdeal.nD Cert.GradientsRefIdeal.τ).loc Cert.GradientsRefIdeal.main_arg2) = m ((c.tc : Thread Cert.GradientsIdeal.nD Cert.GradientsIdeal.τ).loc Cert.GradientsIdeal.main_arg2)
      ∧ m' ((c.tc : Thread Cert.GradientsRefIdeal.nD Cert.GradientsRefIdeal.τ).loc Cert.GradientsRefIdeal.main_arg3) = m ((c.tc : Thread Cert.GradientsIdeal.nD Cert.GradientsIdeal.τ).loc Cert.GradientsIdeal.main_arg3)
      ∧ m' ((c.tc : Thread Cert.GradientsRefIdeal.nD Cert.GradientsRefIdeal.τ).loc Cert.GradientsRefIdeal.main_arg4) = m ((c.tc : Thread Cert.GradientsIdeal.nD Cert.GradientsIdeal.τ).loc Cert.GradientsIdeal.main_arg4)
      ∧ m' ((c.tc : Thread Cert.GradientsRefIdeal.nD Cert.GradientsRefIdeal.τ).loc Cert.GradientsRefIdeal.main_arg5) = m ((c.tc : Thread Cert.GradientsIdeal.nD Cert.GradientsIdeal.τ).loc Cert.GradientsIdeal.main_arg5)
      ∧ m' ((c.tc : Thread Cert.GradientsRefIdeal.nD Cert.GradientsRefIdeal.τ).loc Cert.GradientsRefIdeal.main_arg6) = m ((c.tc : Thread Cert.GradientsIdeal.nD Cert.GradientsIdeal.τ).loc Cert.GradientsIdeal.main_arg6)
      ∧ m' ((c.tc : Thread Cert.GradientsRefIdeal.nD Cert.GradientsRefIdeal.τ).loc Cert.GradientsRefIdeal.main_arg7) = m ((c.tc : Thread Cert.GradientsIdeal.nD Cert.GradientsIdeal.τ).loc Cert.GradientsIdeal.main_arg7)
      ∧ m' ((c.tc : Thread Cert.GradientsRefIdeal.nD Cert.GradientsRefIdeal.τ).loc Cert.GradientsRefIdeal.main_arg8) = m ((c.tc : Thread Cert.GradientsIdeal.nD Cert.GradientsIdeal.τ).loc Cert.GradientsIdeal.main_arg8)
      ∧ m' ((c.tc : Thread Cert.GradientsRefIdeal.nD Cert.GradientsRefIdeal.τ).loc Cert.GradientsRefIdeal.main_arg9) = m ((c.tc : Thread Cert.GradientsIdeal.nD Cert.GradientsIdeal.τ).loc Cert.GradientsIdeal.main_arg9)) →
    ∃ (v0 : (c : Dev Cert.GradientsIdeal.nD) → Buf (Elt Ideal) ((c.tc : Thread Cert.GradientsIdeal.nD Cert.GradientsIdeal.τ).loc Cert.GradientsIdeal.main_v3_0)) (v1 : (c : Dev Cert.GradientsIdeal.nD) → Buf (Elt Ideal) ((c.tc : Thread Cert.GradientsIdeal.nD Cert.GradientsIdeal.τ).loc Cert.GradientsIdeal.main_v3_1)) (v2 : (c : Dev Cert.GradientsIdeal.nD) → Buf (Elt Ideal) ((c.tc : Thread Cert.GradientsIdeal.nD Cert.GradientsIdeal.τ).loc Cert.GradientsIdeal.main_v3_2)) (v3 : (c : Dev Cert.GradientsIdeal.nD) → Buf (Elt Ideal) ((c.tc : Thread Cert.GradientsIdeal.nD Cert.GradientsIdeal.τ).loc Cert.GradientsIdeal.main_v3_3)) (v4 : (c : Dev Cert.GradientsIdeal.nD) → Buf (Elt Ideal) ((c.tc : Thread Cert.GradientsIdeal.nD Cert.GradientsIdeal.τ).loc Cert.GradientsIdeal.main_v3_4)) (v5 : (c : Dev Cert.GradientsIdeal.nD) → Buf (Elt Ideal) ((c.tc : Thread Cert.GradientsIdeal.nD Cert.GradientsIdeal.τ).loc Cert.GradientsIdeal.main_v3_5)) (v6 : (c : Dev Cert.GradientsIdeal.nD) → Buf (Elt Ideal) ((c.tc : Thread Cert.GradientsIdeal.nD Cert.GradientsIdeal.τ).loc Cert.GradientsIdeal.main_v3_6)),
      θ_run (Cert.GradientsIdeal.defs (F := Ideal)) (onTc (τ := Cert.GradientsIdeal.τ) (Cert.GradientsIdeal.main (F := Ideal))) ⟨m, fun _ => 0, g⟩ (fun r => ∀ c : Dev Cert.GradientsIdeal.nD,
          r.2.mem ((c.tc : Thread Cert.GradientsIdeal.nD Cert.GradientsIdeal.τ).loc Cert.GradientsIdeal.main_v3_0) = v0 c
          ∧ r.2.mem ((c.tc : Thread Cert.GradientsIdeal.nD Cert.GradientsIdeal.τ).loc Cert.GradientsIdeal.main_v3_1) = v1 c
          ∧ r.2.mem ((c.tc : Thread Cert.GradientsIdeal.nD Cert.GradientsIdeal.τ).loc Cert.GradientsIdeal.main_v3_2) = v2 c
          ∧ r.2.mem ((c.tc : Thread Cert.GradientsIdeal.nD Cert.GradientsIdeal.τ).loc Cert.GradientsIdeal.main_v3_3) = v3 c
          ∧ r.2.mem ((c.tc : Thread Cert.GradientsIdeal.nD Cert.GradientsIdeal.τ).loc Cert.GradientsIdeal.main_v3_4) = v4 c
          ∧ r.2.mem ((c.tc : Thread Cert.GradientsIdeal.nD Cert.GradientsIdeal.τ).loc Cert.GradientsIdeal.main_v3_5) = v5 c
          ∧ r.2.mem ((c.tc : Thread Cert.GradientsIdeal.nD Cert.GradientsIdeal.τ).loc Cert.GradientsIdeal.main_v3_6) = v6 c
          ∧ r.2.mem ((c.tc : Thread Cert.GradientsIdeal.nD Cert.GradientsIdeal.τ).loc Cert.GradientsIdeal.main_arg0) = m ((c.tc : Thread Cert.GradientsIdeal.nD Cert.GradientsIdeal.τ).loc Cert.GradientsIdeal.main_arg0)
          ∧ r.2.mem ((c.tc : Thread Cert.GradientsIdeal.nD Cert.GradientsIdeal.τ).loc Cert.GradientsIdeal.main_arg1) = m ((c.tc : Thread Cert.GradientsIdeal.nD Cert.GradientsIdeal.τ).loc Cert.GradientsIdeal.main_arg1)
          ∧ r.2.mem ((c.tc : Thread Cert.GradientsIdeal.nD Cert.GradientsIdeal.τ).loc Cert.GradientsIdeal.main_arg2) = m ((c.tc : Thread Cert.GradientsIdeal.nD Cert.GradientsIdeal.τ).loc Cert.GradientsIdeal.main_arg2)
          ∧ r.2.mem ((c.tc : Thread Cert.GradientsIdeal.nD Cert.GradientsIdeal.τ).loc Cert.GradientsIdeal.main_arg3) = m ((c.tc : Thread Cert.GradientsIdeal.nD Cert.GradientsIdeal.τ).loc Cert.GradientsIdeal.main_arg3)
          ∧ r.2.mem ((c.tc : Thread Cert.GradientsIdeal.nD Cert.GradientsIdeal.τ).loc Cert.GradientsIdeal.main_arg4) = m ((c.tc : Thread Cert.GradientsIdeal.nD Cert.GradientsIdeal.τ).loc Cert.GradientsIdeal.main_arg4)
          ∧ r.2.mem ((c.tc : Thread Cert.GradientsIdeal.nD Cert.GradientsIdeal.τ).loc Cert.GradientsIdeal.main_arg5) = m ((c.tc : Thread Cert.GradientsIdeal.nD Cert.GradientsIdeal.τ).loc Cert.GradientsIdeal.main_arg5)
          ∧ r.2.mem ((c.tc : Thread Cert.GradientsIdeal.nD Cert.GradientsIdeal.τ).loc Cert.GradientsIdeal.main_arg6) = m ((c.tc : Thread Cert.GradientsIdeal.nD Cert.GradientsIdeal.τ).loc Cert.GradientsIdeal.main_arg6)
          ∧ r.2.mem ((c.tc : Thread Cert.GradientsIdeal.nD Cert.GradientsIdeal.τ).loc Cert.GradientsIdeal.main_arg7) = m ((c.tc : Thread Cert.GradientsIdeal.nD Cert.GradientsIdeal.τ).loc Cert.GradientsIdeal.main_arg7)
          ∧ r.2.mem ((c.tc : Thread Cert.GradientsIdeal.nD Cert.GradientsIdeal.τ).loc Cert.GradientsIdeal.main_arg8) = m ((c.tc : Thread Cert.GradientsIdeal.nD Cert.GradientsIdeal.τ).loc Cert.GradientsIdeal.main_arg8)
          ∧ r.2.mem ((c.tc : Thread Cert.GradientsIdeal.nD Cert.GradientsIdeal.τ).loc Cert.GradientsIdeal.main_arg9) = m ((c.tc : Thread Cert.GradientsIdeal.nD Cert.GradientsIdeal.τ).loc Cert.GradientsIdeal.main_arg9))
      ∧ θ_run (Cert.GradientsRefIdeal.defs (F := Ideal)) (onTc (τ := Cert.GradientsRefIdeal.τ) (Cert.GradientsRefIdeal.main (F := Ideal))) ⟨m', fun _ => 0, g'⟩ (fun r => ∀ c : Dev Cert.GradientsRefIdeal.nD,
          r.2.mem ((c.tc : Thread Cert.GradientsRefIdeal.nD Cert.GradientsRefIdeal.τ).loc Cert.GradientsRefIdeal.main_v6_0) = v0 c
          ∧ r.2.mem ((c.tc : Thread Cert.GradientsRefIdeal.nD Cert.GradientsRefIdeal.τ).loc Cert.GradientsRefIdeal.main_v6_1) = v1 c
          ∧ r.2.mem ((c.tc : Thread Cert.GradientsRefIdeal.nD Cert.GradientsRefIdeal.τ).loc Cert.GradientsRefIdeal.main_v6_2) = v2 c
          ∧ r.2.mem ((c.tc : Thread Cert.GradientsRefIdeal.nD Cert.GradientsRefIdeal.τ).loc Cert.GradientsRefIdeal.main_v6_3) = v3 c
          ∧ r.2.mem ((c.tc : Thread Cert.GradientsRefIdeal.nD Cert.GradientsRefIdeal.τ).loc Cert.GradientsRefIdeal.main_v6_4) = v4 c
          ∧ r.2.mem ((c.tc : Thread Cert.GradientsRefIdeal.nD Cert.GradientsRefIdeal.τ).loc Cert.GradientsRefIdeal.main_v6_5) = v5 c
          ∧ r.2.mem ((c.tc : Thread Cert.GradientsRefIdeal.nD Cert.GradientsRefIdeal.τ).loc Cert.GradientsRefIdeal.main_v6_6) = v6 c
          ∧ r.2.mem ((c.tc : Thread Cert.GradientsRefIdeal.nD Cert.GradientsRefIdeal.τ).loc Cert.GradientsRefIdeal.main_arg0) = m' ((c.tc : Thread Cert.GradientsRefIdeal.nD Cert.GradientsRefIdeal.τ).loc Cert.GradientsRefIdeal.main_arg0)
          ∧ r.2.mem ((c.tc : Thread Cert.GradientsRefIdeal.nD Cert.GradientsRefIdeal.τ).loc Cert.GradientsRefIdeal.main_arg1) = m' ((c.tc : Thread Cert.GradientsRefIdeal.nD Cert.GradientsRefIdeal.τ).loc Cert.GradientsRefIdeal.main_arg1)
          ∧ r.2.mem ((c.tc : Thread Cert.GradientsRefIdeal.nD Cert.GradientsRefIdeal.τ).loc Cert.GradientsRefIdeal.main_arg2) = m' ((c.tc : Thread Cert.GradientsRefIdeal.nD Cert.GradientsRefIdeal.τ).loc Cert.GradientsRefIdeal.main_arg2)
          ∧ r.2.mem ((c.tc : Thread Cert.GradientsRefIdeal.nD Cert.GradientsRefIdeal.τ).loc Cert.GradientsRefIdeal.main_arg3) = m' ((c.tc : Thread Cert.GradientsRefIdeal.nD Cert.GradientsRefIdeal.τ).loc Cert.GradientsRefIdeal.main_arg3)
          ∧ r.2.mem ((c.tc : Thread Cert.GradientsRefIdeal.nD Cert.GradientsRefIdeal.τ).loc Cert.GradientsRefIdeal.main_arg4) = m' ((c.tc : Thread Cert.GradientsRefIdeal.nD Cert.GradientsRefIdeal.τ).loc Cert.GradientsRefIdeal.main_arg4)
          ∧ r.2.mem ((c.tc : Thread Cert.GradientsRefIdeal.nD Cert.GradientsRefIdeal.τ).loc Cert.GradientsRefIdeal.main_arg5) = m' ((c.tc : Thread Cert.GradientsRefIdeal.nD Cert.GradientsRefIdeal.τ).loc Cert.GradientsRefIdeal.main_arg5)
          ∧ r.2.mem ((c.tc : Thread Cert.GradientsRefIdeal.nD Cert.GradientsRefIdeal.τ).loc Cert.GradientsRefIdeal.main_arg6) = m' ((c.tc : Thread Cert.GradientsRefIdeal.nD Cert.GradientsRefIdeal.τ).loc Cert.GradientsRefIdeal.main_arg6)
          ∧ r.2.mem ((c.tc : Thread Cert.GradientsRefIdeal.nD Cert.GradientsRefIdeal.τ).loc Cert.GradientsRefIdeal.main_arg7) = m' ((c.tc : Thread Cert.GradientsRefIdeal.nD Cert.GradientsRefIdeal.τ).loc Cert.GradientsRefIdeal.main_arg7)
          ∧ r.2.mem ((c.tc : Thread Cert.GradientsRefIdeal.nD Cert.GradientsRefIdeal.τ).loc Cert.GradientsRefIdeal.main_arg8) = m' ((c.tc : Thread Cert.GradientsRefIdeal.nD Cert.GradientsRefIdeal.τ).loc Cert.GradientsRefIdeal.main_arg8)
          ∧ r.2.mem ((c.tc : Thread Cert.GradientsRefIdeal.nD Cert.GradientsRefIdeal.τ).loc Cert.GradientsRefIdeal.main_arg9) = m' ((c.tc : Thread Cert.GradientsRefIdeal.nD Cert.GradientsRefIdeal.τ).loc Cert.GradientsRefIdeal.main_arg9))

def preserves_QuantiseDy_QuantiseDyIdeal : Prop :=
  True

def algebraic_QuantiseDyIdeal_QuantiseDyRefIdeal_pre_dy_finite [hQuantiseDyIdeal : Cert.QuantiseDyIdeal.Facts] [hQuantiseDyRefIdeal : Cert.QuantiseDyRefIdeal.Facts] [hPre_dy_finite : Cert.Pre_dy_finite.Facts] : Prop :=
  ∀ (m : (ℓ : Loc Cert.QuantiseDyIdeal.nD Cert.QuantiseDyIdeal.τ Cert.QuantiseDyIdeal.sig) → Buf (Elt Ideal) ℓ) (g : Dev Cert.QuantiseDyIdeal.nD → PrngReg)
    (m' : (ℓ : Loc Cert.QuantiseDyRefIdeal.nD Cert.QuantiseDyRefIdeal.τ Cert.QuantiseDyRefIdeal.sig) → Buf (Elt Ideal) ℓ) (g' : Dev Cert.QuantiseDyRefIdeal.nD → PrngReg), Pre_QuantiseDyIdeal_dy_finite m →
    (∀ c : Dev Cert.QuantiseDyIdeal.nD,
      m' ((c.tc : Thread Cert.QuantiseDyRefIdeal.nD Cert.QuantiseDyRefIdeal.τ).loc Cert.QuantiseDyRefIdeal.main_arg0) = m ((c.tc : Thread Cert.QuantiseDyIdeal.nD Cert.QuantiseDyIdeal.τ).loc Cert.QuantiseDyIdeal.main_arg0)
      ∧ m' ((c.tc : Thread Cert.QuantiseDyRefIdeal.nD Cert.QuantiseDyRefIdeal.τ).loc Cert.QuantiseDyRefIdeal.main_arg1) = m ((c.tc : Thread Cert.QuantiseDyIdeal.nD Cert.QuantiseDyIdeal.τ).loc Cert.QuantiseDyIdeal.main_arg1)) →
    ∃ (v0 : (c : Dev Cert.QuantiseDyIdeal.nD) → Buf (Elt Ideal) ((c.tc : Thread Cert.QuantiseDyIdeal.nD Cert.QuantiseDyIdeal.τ).loc Cert.QuantiseDyIdeal.main_v0_0)) (v1 : (c : Dev Cert.QuantiseDyIdeal.nD) → Buf (Elt Ideal) ((c.tc : Thread Cert.QuantiseDyIdeal.nD Cert.QuantiseDyIdeal.τ).loc Cert.QuantiseDyIdeal.main_v0_1)) (v2 : (c : Dev Cert.QuantiseDyIdeal.nD) → Buf (Elt Ideal) ((c.tc : Thread Cert.QuantiseDyIdeal.nD Cert.QuantiseDyIdeal.τ).loc Cert.QuantiseDyIdeal.main_v0_2)),
      θ_run (Cert.QuantiseDyIdeal.defs (F := Ideal)) (onTc (τ := Cert.QuantiseDyIdeal.τ) (Cert.QuantiseDyIdeal.main (F := Ideal))) ⟨m, fun _ => 0, g⟩ (fun r => ∀ c : Dev Cert.QuantiseDyIdeal.nD,
          r.2.mem ((c.tc : Thread Cert.QuantiseDyIdeal.nD Cert.QuantiseDyIdeal.τ).loc Cert.QuantiseDyIdeal.main_v0_0) = v0 c
          ∧ r.2.mem ((c.tc : Thread Cert.QuantiseDyIdeal.nD Cert.QuantiseDyIdeal.τ).loc Cert.QuantiseDyIdeal.main_v0_1) = v1 c
          ∧ r.2.mem ((c.tc : Thread Cert.QuantiseDyIdeal.nD Cert.QuantiseDyIdeal.τ).loc Cert.QuantiseDyIdeal.main_v0_2) = v2 c
          ∧ r.2.mem ((c.tc : Thread Cert.QuantiseDyIdeal.nD Cert.QuantiseDyIdeal.τ).loc Cert.QuantiseDyIdeal.main_arg0) = m ((c.tc : Thread Cert.QuantiseDyIdeal.nD Cert.QuantiseDyIdeal.τ).loc Cert.QuantiseDyIdeal.main_arg0)
          ∧ r.2.mem ((c.tc : Thread Cert.QuantiseDyIdeal.nD Cert.QuantiseDyIdeal.τ).loc Cert.QuantiseDyIdeal.main_arg1) = m ((c.tc : Thread Cert.QuantiseDyIdeal.nD Cert.QuantiseDyIdeal.τ).loc Cert.QuantiseDyIdeal.main_arg1))
      ∧ θ_run (Cert.QuantiseDyRefIdeal.defs (F := Ideal)) (onTc (τ := Cert.QuantiseDyRefIdeal.τ) (Cert.QuantiseDyRefIdeal.main (F := Ideal))) ⟨m', fun _ => 0, g'⟩ (fun r => ∀ c : Dev Cert.QuantiseDyRefIdeal.nD,
          r.2.mem ((c.tc : Thread Cert.QuantiseDyRefIdeal.nD Cert.QuantiseDyRefIdeal.τ).loc Cert.QuantiseDyRefIdeal.main_v0_0) = v0 c
          ∧ r.2.mem ((c.tc : Thread Cert.QuantiseDyRefIdeal.nD Cert.QuantiseDyRefIdeal.τ).loc Cert.QuantiseDyRefIdeal.main_v0_1) = v1 c
          ∧ r.2.mem ((c.tc : Thread Cert.QuantiseDyRefIdeal.nD Cert.QuantiseDyRefIdeal.τ).loc Cert.QuantiseDyRefIdeal.main_v0_2) = v2 c
          ∧ r.2.mem ((c.tc : Thread Cert.QuantiseDyRefIdeal.nD Cert.QuantiseDyRefIdeal.τ).loc Cert.QuantiseDyRefIdeal.main_arg0) = m' ((c.tc : Thread Cert.QuantiseDyRefIdeal.nD Cert.QuantiseDyRefIdeal.τ).loc Cert.QuantiseDyRefIdeal.main_arg0)
          ∧ r.2.mem ((c.tc : Thread Cert.QuantiseDyRefIdeal.nD Cert.QuantiseDyRefIdeal.τ).loc Cert.QuantiseDyRefIdeal.main_arg1) = m' ((c.tc : Thread Cert.QuantiseDyRefIdeal.nD Cert.QuantiseDyRefIdeal.τ).loc Cert.QuantiseDyRefIdeal.main_arg1))

def preserves_Forward_ForwardIdeal : Prop :=
  True

def algebraic_ForwardIdeal_ForwardRefIdeal [hForwardIdeal : Cert.ForwardIdeal.Facts] [hForwardRefIdeal : Cert.ForwardRefIdeal.Facts] : Prop :=
  ∀ (m : (ℓ : Loc Cert.ForwardIdeal.nD Cert.ForwardIdeal.τ Cert.ForwardIdeal.sig) → Buf (Elt Ideal) ℓ) (g : Dev Cert.ForwardIdeal.nD → PrngReg)
    (m' : (ℓ : Loc Cert.ForwardRefIdeal.nD Cert.ForwardRefIdeal.τ Cert.ForwardRefIdeal.sig) → Buf (Elt Ideal) ℓ) (g' : Dev Cert.ForwardRefIdeal.nD → PrngReg), Pre_ForwardIdeal m →
    (∀ c : Dev Cert.ForwardIdeal.nD,
      m' ((c.tc : Thread Cert.ForwardRefIdeal.nD Cert.ForwardRefIdeal.τ).loc Cert.ForwardRefIdeal.main_arg0) = m ((c.tc : Thread Cert.ForwardIdeal.nD Cert.ForwardIdeal.τ).loc Cert.ForwardIdeal.main_arg0)
      ∧ m' ((c.tc : Thread Cert.ForwardRefIdeal.nD Cert.ForwardRefIdeal.τ).loc Cert.ForwardRefIdeal.main_arg1) = m ((c.tc : Thread Cert.ForwardIdeal.nD Cert.ForwardIdeal.τ).loc Cert.ForwardIdeal.main_arg1)
      ∧ m' ((c.tc : Thread Cert.ForwardRefIdeal.nD Cert.ForwardRefIdeal.τ).loc Cert.ForwardRefIdeal.main_arg2) = m ((c.tc : Thread Cert.ForwardIdeal.nD Cert.ForwardIdeal.τ).loc Cert.ForwardIdeal.main_arg2)
      ∧ m' ((c.tc : Thread Cert.ForwardRefIdeal.nD Cert.ForwardRefIdeal.τ).loc Cert.ForwardRefIdeal.main_arg3) = m ((c.tc : Thread Cert.ForwardIdeal.nD Cert.ForwardIdeal.τ).loc Cert.ForwardIdeal.main_arg3)
      ∧ m' ((c.tc : Thread Cert.ForwardRefIdeal.nD Cert.ForwardRefIdeal.τ).loc Cert.ForwardRefIdeal.main_arg4) = m ((c.tc : Thread Cert.ForwardIdeal.nD Cert.ForwardIdeal.τ).loc Cert.ForwardIdeal.main_arg4)
      ∧ m' ((c.tc : Thread Cert.ForwardRefIdeal.nD Cert.ForwardRefIdeal.τ).loc Cert.ForwardRefIdeal.main_arg5) = m ((c.tc : Thread Cert.ForwardIdeal.nD Cert.ForwardIdeal.τ).loc Cert.ForwardIdeal.main_arg5)
      ∧ m' ((c.tc : Thread Cert.ForwardRefIdeal.nD Cert.ForwardRefIdeal.τ).loc Cert.ForwardRefIdeal.main_arg6) = m ((c.tc : Thread Cert.ForwardIdeal.nD Cert.ForwardIdeal.τ).loc Cert.ForwardIdeal.main_arg6)
      ∧ m' ((c.tc : Thread Cert.ForwardRefIdeal.nD Cert.ForwardRefIdeal.τ).loc Cert.ForwardRefIdeal.main_arg7) = m ((c.tc : Thread Cert.ForwardIdeal.nD Cert.ForwardIdeal.τ).loc Cert.ForwardIdeal.main_arg7)) →
    ∃ (v0 : (c : Dev Cert.ForwardIdeal.nD) → Buf (Elt Ideal) ((c.tc : Thread Cert.ForwardIdeal.nD Cert.ForwardIdeal.τ).loc Cert.ForwardIdeal.main_v4_0)) (v1 : (c : Dev Cert.ForwardIdeal.nD) → Buf (Elt Ideal) ((c.tc : Thread Cert.ForwardIdeal.nD Cert.ForwardIdeal.τ).loc Cert.ForwardIdeal.main_v4_1)),
      θ_run (Cert.ForwardIdeal.defs (F := Ideal)) (onTc (τ := Cert.ForwardIdeal.τ) (Cert.ForwardIdeal.main (F := Ideal))) ⟨m, fun _ => 0, g⟩ (fun r => ∀ c : Dev Cert.ForwardIdeal.nD,
          r.2.mem ((c.tc : Thread Cert.ForwardIdeal.nD Cert.ForwardIdeal.τ).loc Cert.ForwardIdeal.main_v4_0) = v0 c
          ∧ r.2.mem ((c.tc : Thread Cert.ForwardIdeal.nD Cert.ForwardIdeal.τ).loc Cert.ForwardIdeal.main_v4_1) = v1 c
          ∧ r.2.mem ((c.tc : Thread Cert.ForwardIdeal.nD Cert.ForwardIdeal.τ).loc Cert.ForwardIdeal.main_arg0) = m ((c.tc : Thread Cert.ForwardIdeal.nD Cert.ForwardIdeal.τ).loc Cert.ForwardIdeal.main_arg0)
          ∧ r.2.mem ((c.tc : Thread Cert.ForwardIdeal.nD Cert.ForwardIdeal.τ).loc Cert.ForwardIdeal.main_arg1) = m ((c.tc : Thread Cert.ForwardIdeal.nD Cert.ForwardIdeal.τ).loc Cert.ForwardIdeal.main_arg1)
          ∧ r.2.mem ((c.tc : Thread Cert.ForwardIdeal.nD Cert.ForwardIdeal.τ).loc Cert.ForwardIdeal.main_arg2) = m ((c.tc : Thread Cert.ForwardIdeal.nD Cert.ForwardIdeal.τ).loc Cert.ForwardIdeal.main_arg2)
          ∧ r.2.mem ((c.tc : Thread Cert.ForwardIdeal.nD Cert.ForwardIdeal.τ).loc Cert.ForwardIdeal.main_arg3) = m ((c.tc : Thread Cert.ForwardIdeal.nD Cert.ForwardIdeal.τ).loc Cert.ForwardIdeal.main_arg3)
          ∧ r.2.mem ((c.tc : Thread Cert.ForwardIdeal.nD Cert.ForwardIdeal.τ).loc Cert.ForwardIdeal.main_arg4) = m ((c.tc : Thread Cert.ForwardIdeal.nD Cert.ForwardIdeal.τ).loc Cert.ForwardIdeal.main_arg4)
          ∧ r.2.mem ((c.tc : Thread Cert.ForwardIdeal.nD Cert.ForwardIdeal.τ).loc Cert.ForwardIdeal.main_arg5) = m ((c.tc : Thread Cert.ForwardIdeal.nD Cert.ForwardIdeal.τ).loc Cert.ForwardIdeal.main_arg5)
          ∧ r.2.mem ((c.tc : Thread Cert.ForwardIdeal.nD Cert.ForwardIdeal.τ).loc Cert.ForwardIdeal.main_arg6) = m ((c.tc : Thread Cert.ForwardIdeal.nD Cert.ForwardIdeal.τ).loc Cert.ForwardIdeal.main_arg6)
          ∧ r.2.mem ((c.tc : Thread Cert.ForwardIdeal.nD Cert.ForwardIdeal.τ).loc Cert.ForwardIdeal.main_arg7) = m ((c.tc : Thread Cert.ForwardIdeal.nD Cert.ForwardIdeal.τ).loc Cert.ForwardIdeal.main_arg7))
      ∧ θ_run (Cert.ForwardRefIdeal.defs (F := Ideal)) (onTc (τ := Cert.ForwardRefIdeal.τ) (Cert.ForwardRefIdeal.main (F := Ideal))) ⟨m', fun _ => 0, g'⟩ (fun r => ∀ c : Dev Cert.ForwardRefIdeal.nD,
          r.2.mem ((c.tc : Thread Cert.ForwardRefIdeal.nD Cert.ForwardRefIdeal.τ).loc Cert.ForwardRefIdeal.main_v3_0) = v0 c
          ∧ r.2.mem ((c.tc : Thread Cert.ForwardRefIdeal.nD Cert.ForwardRefIdeal.τ).loc Cert.ForwardRefIdeal.main_v3_1) = v1 c
          ∧ r.2.mem ((c.tc : Thread Cert.ForwardRefIdeal.nD Cert.ForwardRefIdeal.τ).loc Cert.ForwardRefIdeal.main_arg0) = m' ((c.tc : Thread Cert.ForwardRefIdeal.nD Cert.ForwardRefIdeal.τ).loc Cert.ForwardRefIdeal.main_arg0)
          ∧ r.2.mem ((c.tc : Thread Cert.ForwardRefIdeal.nD Cert.ForwardRefIdeal.τ).loc Cert.ForwardRefIdeal.main_arg1) = m' ((c.tc : Thread Cert.ForwardRefIdeal.nD Cert.ForwardRefIdeal.τ).loc Cert.ForwardRefIdeal.main_arg1)
          ∧ r.2.mem ((c.tc : Thread Cert.ForwardRefIdeal.nD Cert.ForwardRefIdeal.τ).loc Cert.ForwardRefIdeal.main_arg2) = m' ((c.tc : Thread Cert.ForwardRefIdeal.nD Cert.ForwardRefIdeal.τ).loc Cert.ForwardRefIdeal.main_arg2)
          ∧ r.2.mem ((c.tc : Thread Cert.ForwardRefIdeal.nD Cert.ForwardRefIdeal.τ).loc Cert.ForwardRefIdeal.main_arg3) = m' ((c.tc : Thread Cert.ForwardRefIdeal.nD Cert.ForwardRefIdeal.τ).loc Cert.ForwardRefIdeal.main_arg3)
          ∧ r.2.mem ((c.tc : Thread Cert.ForwardRefIdeal.nD Cert.ForwardRefIdeal.τ).loc Cert.ForwardRefIdeal.main_arg4) = m' ((c.tc : Thread Cert.ForwardRefIdeal.nD Cert.ForwardRefIdeal.τ).loc Cert.ForwardRefIdeal.main_arg4)
          ∧ r.2.mem ((c.tc : Thread Cert.ForwardRefIdeal.nD Cert.ForwardRefIdeal.τ).loc Cert.ForwardRefIdeal.main_arg5) = m' ((c.tc : Thread Cert.ForwardRefIdeal.nD Cert.ForwardRefIdeal.τ).loc Cert.ForwardRefIdeal.main_arg5)
          ∧ r.2.mem ((c.tc : Thread Cert.ForwardRefIdeal.nD Cert.ForwardRefIdeal.τ).loc Cert.ForwardRefIdeal.main_arg6) = m' ((c.tc : Thread Cert.ForwardRefIdeal.nD Cert.ForwardRefIdeal.τ).loc Cert.ForwardRefIdeal.main_arg6)
          ∧ r.2.mem ((c.tc : Thread Cert.ForwardRefIdeal.nD Cert.ForwardRefIdeal.τ).loc Cert.ForwardRefIdeal.main_arg7) = m' ((c.tc : Thread Cert.ForwardRefIdeal.nD Cert.ForwardRefIdeal.τ).loc Cert.ForwardRefIdeal.main_arg7))

def Claim : Prop :=
  ∃ (hGradients : Cert.Gradients.Facts) (hGradientsIdeal : Cert.GradientsIdeal.Facts) (hGradientsRefIdeal : Cert.GradientsRefIdeal.Facts) (hQuantiseDy : Cert.QuantiseDy.Facts) (hQuantiseDyIdeal : Cert.QuantiseDyIdeal.Facts) (hQuantiseDyRefIdeal : Cert.QuantiseDyRefIdeal.Facts) (hForward : Cert.Forward.Facts) (hForwardIdeal : Cert.ForwardIdeal.Facts) (hForwardRefIdeal : Cert.ForwardRefIdeal.Facts) (hPre_amax_finite : Cert.Pre_amax_finite.Facts) (hPre_dy_finite : Cert.Pre_dy_finite.Facts),
    quiescent_Gradients (hGradients := hGradients)
    ∧ quiescent_GradientsIdeal (hGradientsIdeal := hGradientsIdeal)
    ∧ quiescent_GradientsIdeal_pre_amax_finite (hGradientsIdeal := hGradientsIdeal) (hPre_amax_finite := hPre_amax_finite)
    ∧ quiescent_GradientsRefIdeal (hGradientsRefIdeal := hGradientsRefIdeal)
    ∧ quiescent_GradientsRefIdeal_pre_amax_finite (hGradientsRefIdeal := hGradientsRefIdeal) (hPre_amax_finite := hPre_amax_finite)
    ∧ quiescent_QuantiseDy (hQuantiseDy := hQuantiseDy)
    ∧ quiescent_QuantiseDyIdeal (hQuantiseDyIdeal := hQuantiseDyIdeal)
    ∧ quiescent_QuantiseDyIdeal_pre_dy_finite (hQuantiseDyIdeal := hQuantiseDyIdeal) (hPre_dy_finite := hPre_dy_finite)
    ∧ quiescent_QuantiseDyRefIdeal (hQuantiseDyRefIdeal := hQuantiseDyRefIdeal)
    ∧ quiescent_QuantiseDyRefIdeal_pre_dy_finite (hQuantiseDyRefIdeal := hQuantiseDyRefIdeal) (hPre_dy_finite := hPre_dy_finite)
    ∧ quiescent_Forward (hForward := hForward)
    ∧ quiescent_ForwardIdeal (hForwardIdeal := hForwardIdeal)
    ∧ quiescent_ForwardRefIdeal (hForwardRefIdeal := hForwardRefIdeal)
    ∧ preserves_Gradients_GradientsIdeal
    ∧ algebraic_GradientsIdeal_GradientsRefIdeal_pre_amax_finite (hGradientsIdeal := hGradientsIdeal) (hGradientsRefIdeal := hGradientsRefIdeal) (hPre_amax_finite := hPre_amax_finite)
    ∧ preserves_QuantiseDy_QuantiseDyIdeal
    ∧ algebraic_QuantiseDyIdeal_QuantiseDyRefIdeal_pre_dy_finite (hQuantiseDyIdeal := hQuantiseDyIdeal) (hQuantiseDyRefIdeal := hQuantiseDyRefIdeal) (hPre_dy_finite := hPre_dy_finite)
    ∧ preserves_Forward_ForwardIdeal
    ∧ algebraic_ForwardIdeal_ForwardRefIdeal (hForwardIdeal := hForwardIdeal) (hForwardRefIdeal := hForwardRefIdeal)
-- ==== Pre_amax_finite.lean ====
abbrev S_ : Shape := ⟨0, ![]⟩
abbrev S8x128 : Shape := ⟨2, ![8, 128]⟩
abbrev S8x256 : Shape := ⟨2, ![8, 256]⟩
abbrev S2304x1536 : Shape := ⟨2, ![2304, 1536]⟩
abbrev S1536x2304 : Shape := ⟨2, ![1536, 2304]⟩
abbrev S36x1536x256 : Shape := ⟨3, ![36, 1536, 256]⟩
abbrev S2x36x1536x256 : Shape := ⟨4, ![2, 36, 1536, 256]⟩
abbrev S2304x18432 : Shape := ⟨2, ![2304, 18432]⟩

class Facts : Prop where
  bcast_S_S8x256 : S_.BroadcastsInDim S8x256 (![] : Fin 0 → Fin S8x256.rank)

variable [Facts]

def fn {F : FTy → Type} [FloatOps F] (main_arg0 : FVec F S_ .f32) (main_arg1 : FVec F S_ .f32) (main_arg2 : FVec F S8x128 .f32) (main_arg3 : FVec F S8x256 .f32) (main_arg4 : FVec F S8x256 .f32) (main_arg5 : FVec F S2304x1536 .fp8e4m3) (main_arg6 : FVec F S1536x2304 .fp8e5m2) (main_arg7 : FVec F S36x1536x256 .bf16) (main_arg8 : FVec F S2x36x1536x256 .bf16) (main_arg9 : FVec F S2304x18432 .fp8e4m3) : IVec S8x256 1 :=
  let main_cst : FVec F S_ .f32 := constant S_ .f32 0x7F7FFFFF#32
  let main_v0 : FVec F S8x256 .f32 := broadcastInDim S8x256 ![] bcast_S_S8x256 main_cst
  let main_v1 : IVec S8x256 1 := cmpf .ole main_arg3 main_v0
  let main_cst_0 : FVec F S_ .f32 := constant S_ .f32 0x7F7FFFFF#32
  let main_v2 : FVec F S8x256 .f32 := broadcastInDim S8x256 ![] bcast_S_S8x256 main_cst_0
  let main_v3 : IVec S8x256 1 := cmpf .ole main_arg4 main_v2
  let main_v4 : IVec S8x256 1 := andi main_v1 main_v3
  main_v4
-- ==== Pre_dy_finite.lean ====
abbrev S1536x2304 : Shape := ⟨2, ![1536, 2304]⟩
abbrev S_ : Shape := ⟨0, ![]⟩

class Facts : Prop where
  bitsLt_bf16_f32 : FTy.bits .bf16 < FTy.bits .f32
  bcast_S_S1536x2304 : S_.BroadcastsInDim S1536x2304 (![] : Fin 0 → Fin S1536x2304.rank)

variable [Facts]

def fn {F : FTy → Type} [FloatOps F] (main_arg0 : FVec F S1536x2304 .bf16) (main_arg1 : FVec F S1536x2304 .fp8e4m3) : IVec S1536x2304 1 :=
  let main_v0 : FVec F S1536x2304 .f32 := (extf .f32 · bitsLt_bf16_f32) main_arg0
  let main_v1 : FVec F S1536x2304 .f32 := Host.absf main_v0
  let main_cst : FVec F S_ .f32 := constant S_ .f32 0x7F7FFFFF#32
  let main_v2 : FVec F S1536x2304 .f32 := broadcastInDim S1536x2304 ![] bcast_S_S1536x2304 main_cst
  let main_v3 : IVec S1536x2304 1 := cmpf .ole main_v1 main_v2
  main_v3
-- ==== Gradients.lean ====
abbrev S_ : Shape := ⟨0, ![]⟩
abbrev S8x128 : Shape := ⟨2, ![8, 128]⟩
abbrev S8x256 : Shape := ⟨2, ![8, 256]⟩
abbrev S2304x1536 : Shape := ⟨2, ![2304, 1536]⟩
abbrev S1536x2304 : Shape := ⟨2, ![1536, 2304]⟩
abbrev S36x1536x256 : Shape := ⟨3, ![36, 1536, 256]⟩
abbrev S2x36x1536x256 : Shape := ⟨4, ![2, 36, 1536, 256]⟩
abbrev S2304x18432 : Shape := ⟨2, ![2304, 18432]⟩
abbrev S1 : Shape := ⟨1, ![1]⟩
abbrev S2 : Shape := ⟨1, ![2]⟩
abbrev S9216x2304 : Shape := ⟨2, ![9216, 2304]⟩
abbrev S1536x9216 : Shape := ⟨2, ![1536, 9216]⟩
abbrev S1536x18432 : Shape := ⟨2, ![1536, 18432]⟩
abbrev S1x1536x256 : Shape := ⟨3, ![1, 1536, 256]⟩
abbrev S1x2x1536x256 : Shape := ⟨4, ![1, 2, 1536, 256]⟩
abbrev S2304x512 : Shape := ⟨2, ![2304, 512]⟩
abbrev S256x2304 : Shape := ⟨2, ![256, 2304]⟩
abbrev S1536x256 : Shape := ⟨2, ![1536, 256]⟩
abbrev S1536x512 : Shape := ⟨2, ![1536, 512]⟩
abbrev S1x8x256 : Shape := ⟨3, ![1, 8, 256]⟩
abbrev S1x1x1 : Shape := ⟨3, ![1, 1, 1]⟩
abbrev S1x1 : Shape := ⟨2, ![1, 1]⟩
abbrev S1x256 : Shape := ⟨2, ![1, 256]⟩
abbrev S1x128 : Shape := ⟨2, ![1, 128]⟩
abbrev S1x32x256 : Shape := ⟨3, ![1, 32, 256]⟩
abbrev S32x256 : Shape := ⟨2, ![32, 256]⟩
abbrev S1x1x32x256 : Shape := ⟨4, ![1, 1, 32, 256]⟩
abbrev S768x1536 : Shape := ⟨2, ![768, 1536]⟩
abbrev S768x512 : Shape := ⟨2, ![768, 512]⟩
abbrev S256x1536 : Shape := ⟨2, ![256, 1536]⟩
abbrev S512x2304 : Shape := ⟨2, ![512, 2304]⟩
abbrev S512x512 : Shape := ⟨2, ![512, 512]⟩

abbrev nBuf : Space → Nat
  | .hbm => 20
  | .vmem => 24
  | .smem => 1
  | _ => 0

abbrev bufTy : (tb : Table) → Fin (tcTables nBuf tb) → BufTy
  | .hbm, ⟨0, _⟩ => ⟨S_, .f32⟩
  | .hbm, ⟨1, _⟩ => ⟨S_, .f32⟩
  | .hbm, ⟨2, _⟩ => ⟨S8x128, .f32⟩
  | .hbm, ⟨3, _⟩ => ⟨S8x256, .f32⟩
  | .hbm, ⟨4, _⟩ => ⟨S8x256, .f32⟩
  | .hbm, ⟨5, _⟩ => ⟨S2304x1536, .fp8e4m3⟩
  | .hbm, ⟨6, _⟩ => ⟨S1536x2304, .fp8e5m2⟩
  | .hbm, ⟨7, _⟩ => ⟨S36x1536x256, .bf16⟩
  | .hbm, ⟨8, _⟩ => ⟨S2x36x1536x256, .bf16⟩
  | .hbm, ⟨9, _⟩ => ⟨S2304x18432, .fp8e4m3⟩
  | .hbm, ⟨10, _⟩ => ⟨S1, .f32⟩
  | .hbm, ⟨11, _⟩ => ⟨S1, .f32⟩
  | .hbm, ⟨12, _⟩ => ⟨S2, .f32⟩
  | .hbm, ⟨13, _⟩ => ⟨S1536x2304, .bf16⟩
  | .hbm, ⟨14, _⟩ => ⟨S2304x18432, .bf16⟩
  | .hbm, ⟨15, _⟩ => ⟨S9216x2304, .bf16⟩
  | .hbm, ⟨16, _⟩ => ⟨S1536x9216, .fp8e4m3⟩
  | .hbm, ⟨17, _⟩ => ⟨S1536x18432, .fp8e5m2⟩
  | .hbm, ⟨18, _⟩ => ⟨S8x128, .f32⟩
  | .hbm, ⟨19, _⟩ => ⟨S8x128, .f32⟩
  | .local _ .vmem, ⟨0, _⟩ => ⟨S8x128, .f32⟩
  | .local _ .vmem, ⟨1, _⟩ => ⟨S8x256, .f32⟩
  | .local _ .vmem, ⟨2, _⟩ => ⟨S8x256, .f32⟩
  | .local _ .vmem, ⟨3, _⟩ => ⟨S2304x1536, .fp8e4m3⟩
  | .local _ .vmem, ⟨4, _⟩ => ⟨S1536x2304, .fp8e5m2⟩
  | .local _ .vmem, ⟨5, _⟩ => ⟨S1x1536x256, .bf16⟩
  | .local _ .vmem, ⟨6, _⟩ => ⟨S1x1536x256, .bf16⟩
  | .local _ .vmem, ⟨7, _⟩ => ⟨S1x2x1536x256, .bf16⟩
  | .local _ .vmem, ⟨8, _⟩ => ⟨S1x2x1536x256, .bf16⟩
  | .local _ .vmem, ⟨9, _⟩ => ⟨S2304x512, .fp8e4m3⟩
  | .local _ .vmem, ⟨10, _⟩ => ⟨S2304x512, .fp8e4m3⟩
  | .local _ .vmem, ⟨11, _⟩ => ⟨S1536x2304, .bf16⟩
  | .local _ .vmem, ⟨12, _⟩ => ⟨S2304x512, .bf16⟩
  | .local _ .vmem, ⟨13, _⟩ => ⟨S2304x512, .bf16⟩
  | .local _ .vmem, ⟨14, _⟩ => ⟨S256x2304, .bf16⟩
  | .local _ .vmem, ⟨15, _⟩ => ⟨S256x2304, .bf16⟩
  | .local _ .vmem, ⟨16, _⟩ => ⟨S1536x256, .fp8e4m3⟩
  | .local _ .vmem, ⟨17, _⟩ => ⟨S1536x256, .fp8e4m3⟩
  | .local _ .vmem, ⟨18, _⟩ => ⟨S1536x512, .fp8e5m2⟩
  | .local _ .vmem, ⟨19, _⟩ => ⟨S1536x512, .fp8e5m2⟩
  | .local _ .vmem, ⟨20, _⟩ => ⟨S8x128, .f32⟩
  | .local _ .vmem, ⟨21, _⟩ => ⟨S8x128, .f32⟩
  | .local _ .vmem, ⟨22, _⟩ => ⟨S1536x2304, .f32⟩
  | .local _ .vmem, ⟨23, _⟩ => ⟨S8x128, .f32⟩
  | .local _ .smem, ⟨0, _⟩ => ⟨S2, .f32⟩
  | _, _ => ⟨S_, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .smem, ⟨0, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3_0 : Ref sig .tc := ⟨.hbm, 13, rfl⟩
abbrev main_v3_1 : Ref sig .tc := ⟨.hbm, 14, rfl⟩
abbrev main_v3_2 : Ref sig .tc := ⟨.hbm, 15, rfl⟩
abbrev main_v3_3 : Ref sig .tc := ⟨.hbm, 16, rfl⟩
abbrev main_v3_4 : Ref sig .tc := ⟨.hbm, 17, rfl⟩
abbrev main_v3_5 : Ref sig .tc := ⟨.hbm, 18, rfl⟩
abbrev main_v3_6 : Ref sig .tc := ⟨.hbm, 19, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg6_1 : Ref sig .tc := ⟨.vmem, 6, rfl⟩
abbrev cc0_stg7_0 : Ref sig .tc := ⟨.vmem, 7, rfl⟩
abbrev cc0_stg7_1 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg15_0 : Ref sig .tc := ⟨.vmem, 21, rfl⟩
abbrev cc0_scratch0 : Ref sig .tc := ⟨.vmem, 22, rfl⟩
abbrev cc0_scratch1 : Ref sig .tc := ⟨.vmem, 23, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem6_1 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem15_0 : DmaSem sig := 22

abbrev nD : Nat := 1
abbrev τ : Topo := Topo.v7x

variable {F : FTy → Type} [FloatOps F]

abbrev grid0 : Pipeline.Grid := ⟨1, ![36], ![false]⟩

def k0_cond2 (i : grid0.Coords) : BitVec 1 :=
  let arg0 : BitVec 32 := BitVec.ofNat 32 (i 0).val
  let c35_i32 : BitVec 32 := 35#32
  let v1658 : BitVec 1 := Scalar.cmpi .eq arg0 c35_i32
  let v1659 : BitVec 32 := Scalar.extui v1658
  let c0_i32_1120 : BitVec 32 := 0#32
  let v1660 : BitVec 1 := Scalar.cmpi .ne v1659 c0_i32_1120
  v1660

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 4 → Nat :=
  let arg0 : BitVec 32 := BitVec.ofNat 32 (i 0).val
  let c18_i32 : BitVec 32 := 18#32
  let v0 : BitVec 32 := Scalar.divsi arg0 c18_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c18_i32 c0_i32_1
  let v7 : BitVec 32 := Scalar.extui v6
  let c0_i32_2 : BitVec 32 := 0#32
  let v8 : BitVec 1 := Scalar.cmpi .slt c18_i32 c0_i32_2
  let v9 : BitVec 32 := Scalar.extui v8
  let v10 : BitVec 32 := Scalar.subi v7 v9
  let v11 : BitVec 1 := Scalar.cmpi .ne v5 v10
  let v12 : BitVec 32 := Scalar.remsi arg0 c18_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c18_i32_4 : BitVec 32 := 18#32
  let c0_i32_5 : BitVec 32 := 0#32
  let v17 : BitVec 1 := Scalar.cmpi .eq c18_i32_4 c0_i32_5
  let c1_i32_6 : BitVec 32 := 1#32
  let v18 : BitVec 32 := Scalar.select v17 c1_i32_6 c18_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2304x1536 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1536x2304 .fp8e5m2 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1536x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x2x1536x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2304x512 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1536x2304 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2304x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2304 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1536x256 .fp8e4m3 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1536x512 .fp8e5m2 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S8x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S8x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== GradientsRefIdeal.lean ====
abbrev S_ : Shape := ⟨0, ![]⟩
abbrev S8x128 : Shape := ⟨2, ![8, 128]⟩
abbrev S8x256 : Shape := ⟨2, ![8, 256]⟩
abbrev S2304x1536 : Shape := ⟨2, ![2304, 1536]⟩
abbrev S1536x2304 : Shape := ⟨2, ![1536, 2304]⟩
abbrev S36x1536x256 : Shape := ⟨3, ![36, 1536, 256]⟩
abbrev S2x36x1536x256 : Shape := ⟨4, ![2, 36, 1536, 256]⟩
abbrev S2304x18432 : Shape := ⟨2, ![2304, 18432]⟩
abbrev S1536x36x256 : Shape := ⟨3, ![1536, 36, 256]⟩
abbrev S1536x9216 : Shape := ⟨2, ![1536, 9216]⟩
abbrev S1536x2x36x256 : Shape := ⟨4, ![1536, 2, 36, 256]⟩
abbrev S1536x18432 : Shape := ⟨2, ![1536, 18432]⟩
abbrev S1x1 : Shape := ⟨2, ![1, 1]⟩
abbrev S9216x2304 : Shape := ⟨2, ![9216, 2304]⟩
abbrev S1x8x256 : Shape := ⟨3, ![1, 8, 256]⟩
abbrev S1 : Shape := ⟨1, ![1]⟩
abbrev S1x1x1 : Shape := ⟨3, ![1, 1, 1]⟩
abbrev S1x253 : Shape := ⟨2, ![1, 253]⟩

abbrev nBuf : Space → Nat
  | .hbm => 23
  | .vmem => 17
  | .smem => 0
  | _ => 0

abbrev bufTy : (tb : Table) → Fin (tcTables nBuf tb) → BufTy
  | .hbm, ⟨0, _⟩ => ⟨S_, .f32⟩
  | .hbm, ⟨1, _⟩ => ⟨S_, .f32⟩
  | .hbm, ⟨2, _⟩ => ⟨S8x128, .f32⟩
  | .hbm, ⟨3, _⟩ => ⟨S8x256, .f32⟩
  | .hbm, ⟨4, _⟩ => ⟨S8x256, .f32⟩
  | .hbm, ⟨5, _⟩ => ⟨S2304x1536, .fp8e4m3⟩
  | .hbm, ⟨6, _⟩ => ⟨S1536x2304, .fp8e5m2⟩
  | .hbm, ⟨7, _⟩ => ⟨S36x1536x256, .bf16⟩
  | .hbm, ⟨8, _⟩ => ⟨S2x36x1536x256, .bf16⟩
  | .hbm, ⟨9, _⟩ => ⟨S2304x18432, .fp8e4m3⟩
  | .hbm, ⟨10, _⟩ => ⟨S1536x36x256, .bf16⟩
  | .hbm, ⟨11, _⟩ => ⟨S1536x9216, .bf16⟩
  | .hbm, ⟨12, _⟩ => ⟨S1536x2x36x256, .bf16⟩
  | .hbm, ⟨13, _⟩ => ⟨S1536x18432, .bf16⟩
  | .hbm, ⟨14, _⟩ => ⟨S1x1, .f32⟩
  | .hbm, ⟨15, _⟩ => ⟨S1x1, .f32⟩
  | .hbm, ⟨16, _⟩ => ⟨S1536x2304, .bf16⟩
  | .hbm, ⟨17, _⟩ => ⟨S2304x18432, .bf16⟩
  | .hbm, ⟨18, _⟩ => ⟨S9216x2304, .bf16⟩
  | .hbm, ⟨19, _⟩ => ⟨S1536x9216, .fp8e4m3⟩
  | .hbm, ⟨20, _⟩ => ⟨S1536x18432, .fp8e5m2⟩
  | .hbm, ⟨21, _⟩ => ⟨S8x128, .f32⟩
  | .hbm, ⟨22, _⟩ => ⟨S8x128, .f32⟩
  | .local _ .vmem, ⟨0, _⟩ => ⟨S1x1, .f32⟩
  | .local _ .vmem, ⟨1, _⟩ => ⟨S1x1, .f32⟩
  | .local _ .vmem, ⟨2, _⟩ => ⟨S8x128, .f32⟩
  | .local _ .vmem, ⟨3, _⟩ => ⟨S8x256, .f32⟩
  | .local _ .vmem, ⟨4, _⟩ => ⟨S8x256, .f32⟩
  | .local _ .vmem, ⟨5, _⟩ => ⟨S2304x1536, .fp8e4m3⟩
  | .local _ .vmem, ⟨6, _⟩ => ⟨S1536x2304, .fp8e5m2⟩
  | .local _ .vmem, ⟨7, _⟩ => ⟨S1536x9216, .bf16⟩
  | .local _ .vmem, ⟨8, _⟩ => ⟨S1536x18432, .bf16⟩
  | .local _ .vmem, ⟨9, _⟩ => ⟨S2304x18432, .fp8e4m3⟩
  | .local _ .vmem, ⟨10, _⟩ => ⟨S1536x2304, .bf16⟩
  | .local _ .vmem, ⟨11, _⟩ => ⟨S2304x18432, .bf16⟩
  | .local _ .vmem, ⟨12, _⟩ => ⟨S9216x2304, .bf16⟩
  | .local _ .vmem, ⟨13, _⟩ => ⟨S1536x9216, .fp8e4m3⟩
  | .local _ .vmem, ⟨14, _⟩ => ⟨S1536x18432, .fp8e5m2⟩
  | .local _ .vmem, ⟨15, _⟩ => ⟨S8x128, .f32⟩
  | .local _ .vmem, ⟨16, _⟩ => ⟨S8x128, .f32⟩
  | _, _ => ⟨S_, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev main_v6_2 : Ref sig .tc := ⟨.hbm, 18, rfl⟩
abbrev main_v6_3 : Ref sig .tc := ⟨.hbm, 19, rfl⟩
abbrev main_v6_4 : Ref sig .tc := ⟨.hbm, 20, rfl⟩
abbrev main_v6_5 : Ref sig .tc := ⟨.hbm, 21, rfl⟩
abbrev main_v6_6 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16

abbrev nD : Nat := 1
abbrev τ : Topo := Topo.v7x

variable {F : FTy → Type} [FloatOps F]

abbrev grid0 : Pipeline.Grid := .none

abbrev stage0_0 : Fin 1 → Memref sig .tc .vmem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2304x1536 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1536x2304 .fp8e5m2 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1536x9216 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1536x18432 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2304x18432 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1536x2304 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2304x18432 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S9216x2304 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1536x9216 .fp8e4m3 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1536x18432 .fp8e5m2 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S8x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S8x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
-- ==== QuantiseDy.lean ====
abbrev S1536x2304 : Shape := ⟨2, ![1536, 2304]⟩
abbrev S8x128 : Shape := ⟨2, ![8, 128]⟩
abbrev S2304x1536 : Shape := ⟨2, ![2304, 1536]⟩
abbrev S8x2304 : Shape := ⟨2, ![8, 2304]⟩
abbrev S16x2304 : Shape := ⟨2, ![16, 2304]⟩
abbrev S1x8x2304 : Shape := ⟨3, ![1, 8, 2304]⟩
abbrev S1 : Shape := ⟨1, ![1]⟩
abbrev S1x1x1 : Shape := ⟨3, ![1, 1, 1]⟩
abbrev S1x1 : Shape := ⟨2, ![1, 1]⟩
abbrev S1x256 : Shape := ⟨2, ![1, 256]⟩
abbrev S32x2304 : Shape := ⟨2, ![32, 2304]⟩

abbrev nBuf : Space → Nat
  | .hbm => 5
  | .vmem => 5
  | .smem => 0
  | _ => 0

abbrev bufTy : (tb : Table) → Fin (tcTables nBuf tb) → BufTy
  | .hbm, ⟨0, _⟩ => ⟨S1536x2304, .bf16⟩
  | .hbm, ⟨1, _⟩ => ⟨S1536x2304, .fp8e4m3⟩
  | .hbm, ⟨2, _⟩ => ⟨S1536x2304, .fp8e5m2⟩
  | .hbm, ⟨3, _⟩ => ⟨S8x128, .f32⟩
  | .hbm, ⟨4, _⟩ => ⟨S2304x1536, .fp8e4m3⟩
  | .local _ .vmem, ⟨0, _⟩ => ⟨S1536x2304, .bf16⟩
  | .local _ .vmem, ⟨1, _⟩ => ⟨S1536x2304, .fp8e4m3⟩
  | .local _ .vmem, ⟨2, _⟩ => ⟨S1536x2304, .fp8e5m2⟩
  | .local _ .vmem, ⟨3, _⟩ => ⟨S8x128, .f32⟩
  | .local _ .vmem, ⟨4, _⟩ => ⟨S2304x1536, .fp8e4m3⟩
  | _, _ => ⟨S1536x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c96_i32 : BitVec 32 := 96#32
  let v1 : BitVec 32 := Scalar.addi c0_i32 c96_i32
  let c1_i32 : BitVec 32 := 1#32
  ⟨c0_i32, v1, c1_i32⟩
def k0_mult1 (k0_t1 : Fin k0_t1_loop.trips) : BitVec 32 :=
  let c0_i32 : BitVec 32 := 0#32
  let c1_i32 : BitVec 32 := 1#32
  let arg5 : BitVec 32 := Scf.iv c0_i32 c1_i32 k0_t1
  let c16_i32 : BitVec 32 := 16#32
  let v47 : BitVec 32 := Scalar.muli arg5 c16_i32
  v47
def k0_off1 (k0_t1 : Fin k0_t1_loop.trips) : Fin 2 → Nat :=
  let c0_i32 : BitVec 32 := 0#32
  let c1_i32 : BitVec 32 := 1#32
  let arg5 : BitVec 32 := Scf.iv c0_i32 c1_i32 k0_t1
  let c16_i32 : BitVec 32 := 16#32
  let v47 : BitVec 32 := Scalar.muli arg5 c16_i32
  let v48 : BitVec 32 := v47
  let v49 : Index := Scalar.indexCast v48
  let c0_18 : Index := 0#32
  ![v49.toNat, 0]
@[reducible] def k0_t2_loop : Scf.Loop 32 :=
  let c0_i32_11 : BitVec 32 := 0#32
  let c48_i32 : BitVec 32 := 48#32
  let v43 : BitVec 32 := Scalar.addi c0_i32_11 c48_i32
  let c1_i32_12 : BitVec 32 := 1#32
  ⟨c0_i32_11, v43, c1_i32_12⟩
def k0_mult2 (k0_t2 : Fin k0_t2_loop.trips) : BitVec 32 :=
  let c0_i32_11 : BitVec 32 := 0#32
  let c1_i32_12 : BitVec 32 := 1#32
  let arg5 : BitVec 32 := Scf.iv c0_i32_11 c1_i32_12 k0_t2
  let c32_i32 : BitVec 32 := 32#32
  let v47 : BitVec 32 := Scalar.muli arg5 c32_i32
  v47
def k0_off2 (k0_t2 : Fin k0_t2_loop.trips) : Fin 2 → Nat :=
  let c0_i32_11 : BitVec 32 := 0#32
  let c1_i32_12 : BitVec 32 := 1#32
  let arg5 : BitVec 32 := Scf.iv c0_i32_11 c1_i32_12 k0_t2
  let c32_i32 : BitVec 32 := 32#32
  let v47 : BitVec 32 := Scalar.muli arg5 c32_i32
  let v48 : BitVec 32 := v47
  let v49 : Index := Scalar.indexCast v48
  let c0_18 : Index := 0#32
  ![v49.toNat, 0]
abbrev stage0_0 : Fin 1 → Memref sig .tc .vmem S1536x2304 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x2304 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x2304 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2304x1536 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== QuantiseDyRefIdeal.lean ====
abbrev S1536x2304 : Shape := ⟨2, ![1536, 2304]⟩
abbrev S8x128 : Shape := ⟨2, ![8, 128]⟩
abbrev S2304x1536 : Shape := ⟨2, ![2304, 1536]⟩
abbrev S1x1536x2304 : Shape := ⟨3, ![1, 1536, 2304]⟩
abbrev S1 : Shape := ⟨1, ![1]⟩
abbrev S1x1x1 : Shape := ⟨3, ![1, 1, 1]⟩
abbrev S1x1 : Shape := ⟨2, ![1, 1]⟩
abbrev S1x253 : Shape := ⟨2, ![1, 253]⟩

abbrev nBuf : Space → Nat
  | .hbm => 5
  | .vmem => 5
  | .smem => 0
  | _ => 0

abbrev bufTy : (tb : Table) → Fin (tcTables nBuf tb) → BufTy
  | .hbm, ⟨0, _⟩ => ⟨S1536x2304, .bf16⟩
  | .hbm, ⟨1, _⟩ => ⟨S1536x2304, .fp8e4m3⟩
  | .hbm, ⟨2, _⟩ => ⟨S1536x2304, .fp8e5m2⟩
  | .hbm, ⟨3, _⟩ => ⟨S8x128, .f32⟩
  | .hbm, ⟨4, _⟩ => ⟨S2304x1536, .fp8e4m3⟩
  | .local _ .vmem, ⟨0, _⟩ => ⟨S1536x2304, .bf16⟩
  | .local _ .vmem, ⟨1, _⟩ => ⟨S1536x2304, .fp8e4m3⟩
  | .local _ .vmem, ⟨2, _⟩ => ⟨S1536x2304, .fp8e5m2⟩
  | .local _ .vmem, ⟨3, _⟩ => ⟨S8x128, .f32⟩
  | .local _ .vmem, ⟨4, _⟩ => ⟨S2304x1536, .fp8e4m3⟩
  | _, _ => ⟨S1536x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S1536x2304 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x2304 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x2304 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2304x1536 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Forward.lean ====
abbrev S_ : Shape := ⟨0, ![]⟩
abbrev S8x128 : Shape := ⟨2, ![8, 128]⟩
abbrev S1536x2304 : Shape := ⟨2, ![1536, 2304]⟩
abbrev S2304x18432 : Shape := ⟨2, ![2304, 18432]⟩
abbrev S9216x2304 : Shape := ⟨2, ![9216, 2304]⟩
abbrev S1 : Shape := ⟨1, ![1]⟩
abbrev S2 : Shape := ⟨1, ![2]⟩
abbrev S36x1536x256 : Shape := ⟨3, ![36, 1536, 256]⟩
abbrev S2x36x1536x256 : Shape := ⟨4, ![2, 36, 1536, 256]⟩
abbrev S8x256 : Shape := ⟨2, ![8, 256]⟩
abbrev S2304x256 : Shape := ⟨2, ![2304, 256]⟩
abbrev S256x2304 : Shape := ⟨2, ![256, 2304]⟩
abbrev S1x1536x256 : Shape := ⟨3, ![1, 1536, 256]⟩
abbrev S2x1x1536x256 : Shape := ⟨4, ![2, 1, 1536, 256]⟩
abbrev S1536x256 : Shape := ⟨2, ![1536, 256]⟩
abbrev S512x2304 : Shape := ⟨2, ![512, 2304]⟩
abbrev S512x256 : Shape := ⟨2, ![512, 256]⟩
abbrev S1x1 : Shape := ⟨2, ![1, 1]⟩
abbrev S32x256 : Shape := ⟨2, ![32, 256]⟩
abbrev S1x32x256 : Shape := ⟨3, ![1, 32, 256]⟩
abbrev S1x1x32x256 : Shape := ⟨4, ![1, 1, 32, 256]⟩

abbrev nBuf : Space → Nat
  | .hbm => 16
  | .vmem => 18
  | .smem => 2
  | _ => 0

abbrev bufTy : (tb : Table) → Fin (tcTables nBuf tb) → BufTy
  | .hbm, ⟨0, _⟩ => ⟨S_, .f32⟩
  | .hbm, ⟨1, _⟩ => ⟨S_, .f32⟩
  | .hbm, ⟨2, _⟩ => ⟨S_, .f32⟩
  | .hbm, ⟨3, _⟩ => ⟨S8x128, .f32⟩
  | .hbm, ⟨4, _⟩ => ⟨S1536x2304, .fp8e4m3⟩
  | .hbm, ⟨5, _⟩ => ⟨S1536x2304, .fp8e5m2⟩
  | .hbm, ⟨6, _⟩ => ⟨S2304x18432, .fp8e4m3⟩
  | .hbm, ⟨7, _⟩ => ⟨S9216x2304, .fp8e4m3⟩
  | .hbm, ⟨8, _⟩ => ⟨S1, .f32⟩
  | .hbm, ⟨9, _⟩ => ⟨S1, .f32⟩
  | .hbm, ⟨10, _⟩ => ⟨S2, .f32⟩
  | .hbm, ⟨11, _⟩ => ⟨S1, .f32⟩
  | .hbm, ⟨12, _⟩ => ⟨S36x1536x256, .bf16⟩
  | .hbm, ⟨13, _⟩ => ⟨S2x36x1536x256, .bf16⟩
  | .hbm, ⟨14, _⟩ => ⟨S8x256, .f32⟩
  | .hbm, ⟨15, _⟩ => ⟨S8x256, .f32⟩
  | .local _ .vmem, ⟨0, _⟩ => ⟨S8x128, .f32⟩
  | .local _ .vmem, ⟨1, _⟩ => ⟨S1536x2304, .fp8e4m3⟩
  | .local _ .vmem, ⟨2, _⟩ => ⟨S1536x2304, .fp8e5m2⟩
  | .local _ .vmem, ⟨3, _⟩ => ⟨S2304x256, .fp8e4m3⟩
  | .local _ .vmem, ⟨4, _⟩ => ⟨S2304x256, .fp8e4m3⟩
  | .local _ .vmem, ⟨5, _⟩ => ⟨S2304x256, .fp8e4m3⟩
  | .local _ .vmem, ⟨6, _⟩ => ⟨S2304x256, .fp8e4m3⟩
  | .local _ .vmem, ⟨7, _⟩ => ⟨S256x2304, .fp8e4m3⟩
  | .local _ .vmem, ⟨8, _⟩ => ⟨S256x2304, .fp8e4m3⟩
  | .local _ .vmem, ⟨9, _⟩ => ⟨S1x1536x256, .bf16⟩
  | .local _ .vmem, ⟨10, _⟩ => ⟨S1x1536x256, .bf16⟩
  | .local _ .vmem, ⟨11, _⟩ => ⟨S2x1x1536x256, .bf16⟩
  | .local _ .vmem, ⟨12, _⟩ => ⟨S2x1x1536x256, .bf16⟩
  | .local _ .vmem, ⟨13, _⟩ => ⟨S8x256, .f32⟩
  | .local _ .vmem, ⟨14, _⟩ => ⟨S8x256, .f32⟩
  | .local _ .vmem, ⟨15, _⟩ => ⟨S1536x256, .f32⟩
  | .local _ .vmem, ⟨16, _⟩ => ⟨S1536x256, .f32⟩
  | .local _ .vmem, ⟨17, _⟩ => ⟨S1536x256, .f32⟩
  | .local _ .smem, ⟨0, _⟩ => ⟨S2, .f32⟩
  | .local _ .smem, ⟨1, _⟩ => ⟨S1, .f32⟩
  | _, _ => ⟨S_, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v4_3 : Ref sig .tc := ⟨.hbm, 15, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg5_0 : Ref sig .tc := ⟨.vmem, 3, rfl⟩
abbrev cc0_stg5_1 : Ref sig .tc := ⟨.vmem, 4, rfl⟩
abbrev cc0_stg6_0 : Ref sig .tc := ⟨.vmem, 5, rfl⟩
abbrev cc0_stg6_1 : Ref sig .tc := ⟨.vmem, 6, rfl⟩
abbrev cc0_stg7_0 : Ref sig .tc := ⟨.vmem, 7, rfl⟩
abbrev cc0_stg7_1 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg11_0 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem11_0 : DmaSem sig := 16

abbrev nD : Nat := 1
abbrev τ : Topo := Topo.v7x

variable {F : FTy → Type} [FloatOps F]

abbrev grid0 : Pipeline.Grid := ⟨1, ![37], ![false]⟩

def k0_cond2 (i : grid0.Coords) : BitVec 1 :=
  let arg0 : BitVec 32 := BitVec.ofNat 32 (i 0).val
  let c0_i32_1 : BitVec 32 := 0#32
  let v6 : BitVec 1 := Scalar.cmpi .sgt arg0 c0_i32_1
  let c36_i32 : BitVec 32 := 36#32
  let v7 : BitVec 1 := Scalar.cmpi .slt arg0 c36_i32
  let v8 : BitVec 1 := Scalar.andi v6 v7
  let v9 : BitVec 32 := Scalar.extui v8
  let c0_i32_2 : BitVec 32 := 0#32
  let v10 : BitVec 1 := Scalar.cmpi .ne v9 c0_i32_2
  v10

def k0_cond3 (i : grid0.Coords) : BitVec 1 :=
  let arg0 : BitVec 32 := BitVec.ofNat 32 (i 0).val
  let c36_i32_3 : BitVec 32 := 36#32
  let v11 : BitVec 1 := Scalar.cmpi .eq arg0 c36_i32_3
  let v12 : BitVec 32 := Scalar.extui v11
  let c0_i32_4 : BitVec 32 := 0#32
  let v13 : BitVec 1 := Scalar.cmpi .ne v12 c0_i32_4
  v13

def k0_cond1 (i : grid0.Coords) : BitVec 1 :=
  let arg0 : BitVec 32 := BitVec.ofNat 32 (i 0).val
  let c0_i32 : BitVec 32 := 0#32
  let v3 : BitVec 1 := Scalar.cmpi .eq arg0 c0_i32
  let v4 : BitVec 32 := Scalar.extui v3
  let c0_i32_0 : BitVec 32 := 0#32
  let v5 : BitVec 1 := Scalar.cmpi .ne v4 c0_i32_0
  v5

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c35_i32 : BitVec 32 := 35#32
  let v0 : BitVec 32 := Scalar.minsi arg0 c35_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let c35_i32 : BitVec 32 := 35#32
  let v0 : BitVec 32 := Scalar.minsi arg0 c35_i32
  let c36_i32 : BitVec 32 := 36#32
  let v1 : BitVec 32 := Scalar.addi c36_i32 v0
  let c0_i32 : BitVec 32 := 0#32
  let c0_i32_0 : BitVec 32 := 0#32
  ![c0_i32.toNat, v1.toNat]

def cc0_transform_7 (i : grid0.Coords) : Fin 2 → Nat :=
  let arg0 : BitVec 32 := BitVec.ofNat 32 (i 0).val
  let c35_i32 : BitVec 32 := 35#32
  let v0 : BitVec 32 := Scalar.minsi arg0 c35_i32
  let c0_i32 : BitVec 32 := 0#32
  let c0_i32_0 : BitVec 32 := 0#32
  ![v0.toNat, c0_i32.toNat]

def cc0_transform_8 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_9 (i : grid0.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  let c0_i32_3 : BitVec 32 := 0#32
  ![c0_i32_0.toNat, v1.toNat, c0_i32_1.toNat, c0_i32_2.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1536x2304 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1536x2304 .fp8e5m2 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2304x256 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2304x256 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2304 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1536x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x1x1536x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ForwardRefIdeal.lean ====
abbrev S_ : Shape := ⟨0, ![]⟩
abbrev S8x128 : Shape := ⟨2, ![8, 128]⟩
abbrev S1536x2304 : Shape := ⟨2, ![1536, 2304]⟩
abbrev S2304x18432 : Shape := ⟨2, ![2304, 18432]⟩
abbrev S9216x2304 : Shape := ⟨2, ![9216, 2304]⟩
abbrev S1x1 : Shape := ⟨2, ![1, 1]⟩
abbrev S36x1536x256 : Shape := ⟨3, ![36, 1536, 256]⟩
abbrev S2x36x1536x256 : Shape := ⟨4, ![2, 36, 1536, 256]⟩
abbrev S1536x18432 : Shape := ⟨2, ![1536, 18432]⟩
abbrev S1536x9216 : Shape := ⟨2, ![1536, 9216]⟩
abbrev S1536x36x256 : Shape := ⟨3, ![1536, 36, 256]⟩
abbrev S1x36x1536x256 : Shape := ⟨4, ![1, 36, 1536, 256]⟩

abbrev nBuf : Space → Nat
  | .hbm => 13
  | .vmem => 10
  | .smem => 0
  | _ => 0

abbrev bufTy : (tb : Table) → Fin (tcTables nBuf tb) → BufTy
  | .hbm, ⟨0, _⟩ => ⟨S_, .f32⟩
  | .hbm, ⟨1, _⟩ => ⟨S_, .f32⟩
  | .hbm, ⟨2, _⟩ => ⟨S_, .f32⟩
  | .hbm, ⟨3, _⟩ => ⟨S8x128, .f32⟩
  | .hbm, ⟨4, _⟩ => ⟨S1536x2304, .fp8e4m3⟩
  | .hbm, ⟨5, _⟩ => ⟨S1536x2304, .fp8e5m2⟩
  | .hbm, ⟨6, _⟩ => ⟨S2304x18432, .fp8e4m3⟩
  | .hbm, ⟨7, _⟩ => ⟨S9216x2304, .fp8e4m3⟩
  | .hbm, ⟨8, _⟩ => ⟨S1x1, .f32⟩
  | .hbm, ⟨9, _⟩ => ⟨S1x1, .f32⟩
  | .hbm, ⟨10, _⟩ => ⟨S1x1, .f32⟩
  | .hbm, ⟨11, _⟩ => ⟨S36x1536x256, .bf16⟩
  | .hbm, ⟨12, _⟩ => ⟨S2x36x1536x256, .bf16⟩
  | .local _ .vmem, ⟨0, _⟩ => ⟨S1x1, .f32⟩
  | .local _ .vmem, ⟨1, _⟩ => ⟨S1x1, .f32⟩
  | .local _ .vmem, ⟨2, _⟩ => ⟨S1x1, .f32⟩
  | .local _ .vmem, ⟨3, _⟩ => ⟨S8x128, .f32⟩
  | .local _ .vmem, ⟨4, _⟩ => ⟨S1536x2304, .fp8e4m3⟩
  | .local _ .vmem, ⟨5, _⟩ => ⟨S1536x2304, .fp8e5m2⟩
  | .local _ .vmem, ⟨6, _⟩ => ⟨S2304x18432, .fp8e4m3⟩
  | .local _ .vmem, ⟨7, _⟩ => ⟨S9216x2304, .fp8e4m3⟩
  | .local _ .vmem, ⟨8, _⟩ => ⟨S36x1536x256, .bf16⟩
  | .local _ .vmem, ⟨9, _⟩ => ⟨S2x36x1536x256, .bf16⟩
  | _, _ => ⟨S_, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1536x2304 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1536x2304 .fp8e5m2 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2304x18432 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S9216x2304 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S36x1536x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x36x1536x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.GKit.lean ====
/- What the runs of the gradients body are stated over: its two branch conditions in closed form over the grid
   points, and the staging and scratch memrefs the pipeline calls it with. -/
module

public import proofs.«01_k».proof.Proof.Gen.GradientsIdeal.Frame
public import proofs.«01_k».proof.Proof.Gen.GradientsIdeal.Skeleton
public import Idealize.ShloMosaic.Lib.Ring
public import Idealize.ShloMosaic.Lib.Tactic
public import Idealize.ShloMosaic.Lib.WordCmp

@[expose] public section

set_option maxRecDepth 16384

noncomputable section

namespace Cert.GradientsIdeal.Hand

open Cert.GradientsIdeal Cert.GradientsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 36 = 0 :=
  (fun t => by
    have ht : t.val < 36 := Nat.lt_of_lt_of_eq t.isLt N_0
    have e0 : (grid0.coords t 0).val = t.val / 1 % 36 := Pipeline.Grid.coords_val t 0 (by decide) rfl
    simp only [cond0_0, k0_cond1, e0]
    word_cmp
   : ∀ t : Fin grid0.N, cond0_0 (grid0.coords t) ↔ t.val % 36 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 36 = 35 :=
  (fun t => by
    have ht : t.val < 36 := Nat.lt_of_lt_of_eq t.isLt N_0
    have e0 : (grid0.coords t 0).val = t.val / 1 % 36 := Pipeline.Grid.coords_val t 0 (by decide) rfl
    simp only [cond0_1, k0_cond2, e0]
    word_cmp
   : ∀ t : Fin grid0.N, cond0_1 (grid0.coords t) ↔ t.val % 36 = 35)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .smem S2 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2304x1536 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1536x2304 .fp8e5m2 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1536x256 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x2x1536x256 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S2304x512 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1536x2304 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S2304x512 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S256x2304 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1536x256 .fp8e4m3 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1536x512 .fp8e5m2 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S8x128 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S8x128 .f32 := win0_15.stage (cfg0.slots t 15)
abbrev hs0_15 (t : Fin cfg0.N) : (ms0_15 t).IsWhole := hstage0_15 ((cfg0.slots t 15).cast nbuf0_15)
/-- The scratch operands: whole scoped buffers of the kernel's own, passed beside the windows. -/
abbrev scM0_0 : Memref sig .tc .vmem S1536x2304 .f32 := Memref.whole cc0_scratch0
abbrev scM0_1 : Memref sig .tc .vmem S8x128 .f32 := Memref.whole cc0_scratch1
/-- The scratch `arg17` the kernel carries between points, as a view: what it holds is stated through it. -/
abbrev VS0_0 : View sig .tc .vmem S1536x2304 .f32 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp (MT nD τ sig Unit (Elt F) ℕ (UR sig nD τ) ℕ))
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.GradientsIdeal.Hand

end
-- ==== Proof.GRunA.lean ====
module

public import proofs.«01_k».proof.Proof.GKit

@[expose] public section

set_option maxRecDepth 16384

noncomputable section

namespace Cert.GradientsIdeal.Hand

open Cert.GradientsIdeal Cert.GradientsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 4000000 in
/-- The body at the first grid point: run over the skeleton, with what each buffer it stores into ends at as a list of
    pieces (last store first). The result `dx` is not stored here and keeps its contents. -/
noncomputable def runA (c : Dev nD) (i : grid0.Coords) (arg1 : Memref sig .tc .smem S2 .f32) (harg1 : arg1.IsWhole) (arg2 : Memref sig .tc .vmem S8x128 .f32) (harg2 : arg2.IsWhole) (arg3 : Memref sig .tc .vmem S8x256 .f32) (harg3 : arg3.IsWhole) (arg4 : Memref sig .tc .vmem S8x256 .f32) (harg4 : arg4.IsWhole) (arg5 : Memref sig .tc .vmem S2304x1536 .fp8e4m3) (harg5 : arg5.IsWhole) (arg6 : Memref sig .tc .vmem S1536x2304 .fp8e5m2) (harg6 : arg6.IsWhole) (arg7 : Memref sig .tc .vmem S1x1536x256 .bf16) (harg7 : arg7.IsWhole) (arg8 : Memref sig .tc .vmem S1x2x1536x256 .bf16) (harg8 : arg8.IsWhole) (arg9 : Memref sig .tc .vmem S2304x512 .fp8e4m3) (harg9 : arg9.IsWhole) (arg10 : Memref sig .tc .vmem S1536x2304 .bf16) (harg10 : arg10.IsWhole) (arg11 : Memref sig .tc .vmem S2304x512 .bf16) (harg11 : arg11.IsWhole) (arg12 : Memref sig .tc .vmem S256x2304 .bf16) (harg12 : arg12.IsWhole) (arg13 : Memref sig .tc .vmem S1536x256 .fp8e4m3) (harg13 : arg13.IsWhole) (arg14 : Memref sig .tc .vmem S1536x512 .fp8e5m2) (harg14 : arg14.IsWhole) (arg15 : Memref sig .tc .vmem S8x128 .f32) (harg15 : arg15.IsWhole) (arg16 : Memref sig .tc .vmem S8x128 .f32) (harg16 : arg16.IsWhole) (arg17 : Memref sig .tc .vmem S1536x2304 .f32) (harg17 : arg17.IsWhole) (arg18 : Memref sig .tc .vmem S8x128 .f32) (harg18 : arg18.IsWhole) (hc0 : cond0_0 i) (hc1 : ¬cond0_1 i)
    (x0 : Vec F S2 .f32) (x1 : Vec F S8x128 .f32) (x2 : Vec F S8x256 .f32) (x3 : Vec F S8x256 .f32) (x4 : Vec F S2304x1536 .fp8e4m3) (x5 : Vec F S1536x2304 .fp8e5m2) (x6 : Vec F S1x1536x256 .bf16) (x7 : Vec F S1x2x1536x256 .bf16) (x8 : Vec F S2304x512 .fp8e4m3) (y9 : Vec F S1536x2304 .bf16) :
    { L : List (View.Piece (Elt F) S2304x512 .bf16) × List (View.Piece (Elt F) S256x2304 .bf16) × List (View.Piece (Elt F) S1536x256 .fp8e4m3) × List (View.Piece (Elt F) S1536x512 .fp8e5m2) × List (View.Piece (Elt F) S8x128 .f32) × List (View.Piece (Elt F) S8x128 .f32) × List (View.Piece (Elt F) S1536x2304 .f32) × List (View.Piece (Elt F) S8x128 .f32) //
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare y9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare y9 ∗ (∃ f, arg11.view.loc (c : Thread nD τ) ↦[arg11.view.set]{fullShare} arg11.view.writes (Elt F) f L.1) ∗ (∃ f, arg12.view.loc (c : Thread nD τ) ↦[arg12.view.set]{fullShare} arg12.view.writes (Elt F) f L.2.1) ∗ (∃ f, arg13.view.loc (c : Thread nD τ) ↦[arg13.view.set]{fullShare} arg13.view.writes (Elt F) f L.2.2.1) ∗ (∃ f, arg14.view.loc (c : Thread nD τ) ↦[arg14.view.set]{fullShare} arg14.view.writes (Elt F) f L.2.2.2.1) ∗ (∃ f, arg15.view.loc (c : Thread nD τ) ↦[arg15.view.set]{fullShare} arg15.view.writes (Elt F) f L.2.2.2.2.1) ∗ (∃ f, arg16.view.loc (c : Thread nD τ) ↦[arg16.view.set]{fullShare} arg16.view.writes (Elt F) f L.2.2.2.2.2.1) ∗ (∃ f, arg17.view.loc (c : Thread nD τ) ↦[arg17.view.set]{fullShare} arg17.view.writes (Elt F) f L.2.2.2.2.2.2.1) ∗ (∃ f, arg18.view.loc (c : Thread nD τ) ↦[arg18.view.set]{fullShare} arg18.view.writes (Elt F) f L.2.2.2.2.2.2.2)) -∗ K ⟨⟩))
          ⊢ wp frame (wpE (defs₀ (F := F)) Variants.none c none) E (cc0_gradients i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨⟨?_, ?_, ?_, ?_, ?_, ?_, ?_, ?_⟩, fun E K => ?run⟩
  case run =>
    simp only [cc0_gradients_eq_skeleton]; unfold cc0_gradients_skel
    simp only [k0_part52_eq_skeleton, k0_part3_eq_skeleton, k0_part1_eq_skeleton, k0_part2_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; iexact H10
    isplitl [H11]
    · iexists _; iexact H11
    isplitl [H12]
    · iexists _; iexact H12
    isplitl [H13]
    · iexists _; iexact H13
    isplitl [H14]
    · iexists _; iexact H14
    isplitl [H15]
    · iexists _; iexact H15
    isplitl [H16]
    · iexists _; iexact H16
    iexists _; iexact H17

end Cert.GradientsIdeal.Hand

end
-- ==== Proof.GRunB.lean ====
module

public import proofs.«01_k».proof.Proof.GRunA

@[expose] public section

set_option maxRecDepth 16384

noncomputable section

namespace Cert.GradientsIdeal.Hand

open Cert.GradientsIdeal Cert.GradientsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 4000000 in
/-- The body at a middle grid point: run over the skeleton, with what each buffer it stores into ends at as a list of
    pieces (last store first). The two broadcast scales, the two stored inverses and the result `dx` keep their contents. -/
noncomputable def runB (c : Dev nD) (i : grid0.Coords) (arg1 : Memref sig .tc .smem S2 .f32) (harg1 : arg1.IsWhole) (arg2 : Memref sig .tc .vmem S8x128 .f32) (harg2 : arg2.IsWhole) (arg3 : Memref sig .tc .vmem S8x256 .f32) (harg3 : arg3.IsWhole) (arg4 : Memref sig .tc .vmem S8x256 .f32) (harg4 : arg4.IsWhole) (arg5 : Memref sig .tc .vmem S2304x1536 .fp8e4m3) (harg5 : arg5.IsWhole) (arg6 : Memref sig .tc .vmem S1536x2304 .fp8e5m2) (harg6 : arg6.IsWhole) (arg7 : Memref sig .tc .vmem S1x1536x256 .bf16) (harg7 : arg7.IsWhole) (arg8 : Memref sig .tc .vmem S1x2x1536x256 .bf16) (harg8 : arg8.IsWhole) (arg9 : Memref sig .tc .vmem S2304x512 .fp8e4m3) (harg9 : arg9.IsWhole) (arg10 : Memref sig .tc .vmem S1536x2304 .bf16) (harg10 : arg10.IsWhole) (arg11 : Memref sig .tc .vmem S2304x512 .bf16) (harg11 : arg11.IsWhole) (arg12 : Memref sig .tc .vmem S256x2304 .bf16) (harg12 : arg12.IsWhole) (arg13 : Memref sig .tc .vmem S1536x256 .fp8e4m3) (harg13 : arg13.IsWhole) (arg14 : Memref sig .tc .vmem S1536x512 .fp8e5m2) (harg14 : arg14.IsWhole) (arg15 : Memref sig .tc .vmem S8x128 .f32) (harg15 : arg15.IsWhole) (arg16 : Memref sig .tc .vmem S8x128 .f32) (harg16 : arg16.IsWhole) (arg17 : Memref sig .tc .vmem S1536x2304 .f32) (harg17 : arg17.IsWhole) (arg18 : Memref sig .tc .vmem S8x128 .f32) (harg18 : arg18.IsWhole) (hc0 : ¬cond0_0 i) (hc1 : ¬cond0_1 i)
    (x0 : Vec F S2 .f32) (x1 : Vec F S8x128 .f32) (x2 : Vec F S8x256 .f32) (x3 : Vec F S8x256 .f32) (x4 : Vec F S2304x1536 .fp8e4m3) (x5 : Vec F S1536x2304 .fp8e5m2) (x6 : Vec F S1x1536x256 .bf16) (x7 : Vec F S1x2x1536x256 .bf16) (x8 : Vec F S2304x512 .fp8e4m3) (y9 : Vec F S1536x2304 .bf16) (y14 : Vec F S8x128 .f32) (y15 : Vec F S8x128 .f32) (y16 : Vec F S1536x2304 .f32) (y17 : Vec F S8x128 .f32) :
    { L : List (View.Piece (Elt F) S2304x512 .bf16) × List (View.Piece (Elt F) S256x2304 .bf16) × List (View.Piece (Elt F) S1536x256 .fp8e4m3) × List (View.Piece (Elt F) S1536x512 .fp8e5m2) × List (View.Piece (Elt F) S1536x2304 .f32) //
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare y9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ owns (c : Thread nD τ) arg15 fullShare y14 ∗ owns (c : Thread nD τ) arg16 fullShare y15 ∗ owns (c : Thread nD τ) arg17 fullShare y16 ∗ owns (c : Thread nD τ) arg18 fullShare y17
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare y9 ∗ (∃ f, arg11.view.loc (c : Thread nD τ) ↦[arg11.view.set]{fullShare} arg11.view.writes (Elt F) f L.1) ∗ (∃ f, arg12.view.loc (c : Thread nD τ) ↦[arg12.view.set]{fullShare} arg12.view.writes (Elt F) f L.2.1) ∗ (∃ f, arg13.view.loc (c : Thread nD τ) ↦[arg13.view.set]{fullShare} arg13.view.writes (Elt F) f L.2.2.1) ∗ (∃ f, arg14.view.loc (c : Thread nD τ) ↦[arg14.view.set]{fullShare} arg14.view.writes (Elt F) f L.2.2.2.1) ∗ owns (c : Thread nD τ) arg15 fullShare y14 ∗ owns (c : Thread nD τ) arg16 fullShare y15 ∗ (∃ f, arg17.view.loc (c : Thread nD τ) ↦[arg17.view.set]{fullShare} arg17.view.writes (Elt F) f L.2.2.2.2) ∗ owns (c : Thread nD τ) arg18 fullShare y17) -∗ K ⟨⟩))
          ⊢ wp frame (wpE (defs₀ (F := F)) Variants.none c none) E (cc0_gradients i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨⟨?_, ?_, ?_, ?_, ?_⟩, fun E K => ?run⟩
  case run =>
    simp only [cc0_gradients_eq_skeleton]; unfold cc0_gradients_skel
    simp only [k0_part52_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%f14, %hf14, H14⟩, ⟨%f15, %hf15, H15⟩, ⟨%f16, %hf16, H16⟩, ⟨%f17, %hf17, H17⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg15.eq_unread hf14; obtain rfl := harg16.eq_unread hf15; obtain rfl := harg17.eq_unread hf16; obtain rfl := harg18.eq_unread hf17
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; iexact H10
    isplitl [H11]
    · iexists _; iexact H11
    isplitl [H12]
    · iexists _; iexact H12
    isplitl [H13]
    · iexists _; iexact H13
    isplitl [H14]
    · iexists _; isplitr; · ipureintro; exact harg15.read_unread _
      iexact H14
    isplitl [H15]
    · iexists _; isplitr; · ipureintro; exact harg16.read_unread _
      iexact H15
    isplitl [H16]
    · iexists _; iexact H16
    iexists _; isplitr; · ipureintro; exact harg18.read_unread _
    iexact H17

end Cert.GradientsIdeal.Hand

end
-- ==== Proof.GRunC.lean ====
module

public import proofs.«01_k».proof.Proof.GRunB

@[expose] public section

set_option maxRecDepth 16384

noncomputable section

namespace Cert.GradientsIdeal.Hand

open Cert.GradientsIdeal Cert.GradientsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 4000000 in
/-- The body at the last grid point: run over the skeleton, with what each buffer it stores into ends at as a list of
    pieces (last store first). The two broadcast scales and the two stored inverses keep their contents. -/
noncomputable def runC (c : Dev nD) (i : grid0.Coords) (arg1 : Memref sig .tc .smem S2 .f32) (harg1 : arg1.IsWhole) (arg2 : Memref sig .tc .vmem S8x128 .f32) (harg2 : arg2.IsWhole) (arg3 : Memref sig .tc .vmem S8x256 .f32) (harg3 : arg3.IsWhole) (arg4 : Memref sig .tc .vmem S8x256 .f32) (harg4 : arg4.IsWhole) (arg5 : Memref sig .tc .vmem S2304x1536 .fp8e4m3) (harg5 : arg5.IsWhole) (arg6 : Memref sig .tc .vmem S1536x2304 .fp8e5m2) (harg6 : arg6.IsWhole) (arg7 : Memref sig .tc .vmem S1x1536x256 .bf16) (harg7 : arg7.IsWhole) (arg8 : Memref sig .tc .vmem S1x2x1536x256 .bf16) (harg8 : arg8.IsWhole) (arg9 : Memref sig .tc .vmem S2304x512 .fp8e4m3) (harg9 : arg9.IsWhole) (arg10 : Memref sig .tc .vmem S1536x2304 .bf16) (harg10 : arg10.IsWhole) (arg11 : Memref sig .tc .vmem S2304x512 .bf16) (harg11 : arg11.IsWhole) (arg12 : Memref sig .tc .vmem S256x2304 .bf16) (harg12 : arg12.IsWhole) (arg13 : Memref sig .tc .vmem S1536x256 .fp8e4m3) (harg13 : arg13.IsWhole) (arg14 : Memref sig .tc .vmem S1536x512 .fp8e5m2) (harg14 : arg14.IsWhole) (arg15 : Memref sig .tc .vmem S8x128 .f32) (harg15 : arg15.IsWhole) (arg16 : Memref sig .tc .vmem S8x128 .f32) (harg16 : arg16.IsWhole) (arg17 : Memref sig .tc .vmem S1536x2304 .f32) (harg17 : arg17.IsWhole) (arg18 : Memref sig .tc .vmem S8x128 .f32) (harg18 : arg18.IsWhole) (hc0 : ¬cond0_0 i) (hc1 : cond0_1 i)
    (x0 : Vec F S2 .f32) (x1 : Vec F S8x128 .f32) (x2 : Vec F S8x256 .f32) (x3 : Vec F S8x256 .f32) (x4 : Vec F S2304x1536 .fp8e4m3) (x5 : Vec F S1536x2304 .fp8e5m2) (x6 : Vec F S1x1536x256 .bf16) (x7 : Vec F S1x2x1536x256 .bf16) (x8 : Vec F S2304x512 .fp8e4m3) (y14 : Vec F S8x128 .f32) (y15 : Vec F S8x128 .f32) (y16 : Vec F S1536x2304 .f32) (y17 : Vec F S8x128 .f32) :
    { L : List (View.Piece (Elt F) S1536x2304 .bf16) × List (View.Piece (Elt F) S2304x512 .bf16) × List (View.Piece (Elt F) S256x2304 .bf16) × List (View.Piece (Elt F) S1536x256 .fp8e4m3) × List (View.Piece (Elt F) S1536x512 .fp8e5m2) × List (View.Piece (Elt F) S1536x2304 .f32) //
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ owns (c : Thread nD τ) arg15 fullShare y14 ∗ owns (c : Thread nD τ) arg16 fullShare y15 ∗ owns (c : Thread nD τ) arg17 fullShare y16 ∗ owns (c : Thread nD τ) arg18 fullShare y17
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L.1) ∗ (∃ f, arg11.view.loc (c : Thread nD τ) ↦[arg11.view.set]{fullShare} arg11.view.writes (Elt F) f L.2.1) ∗ (∃ f, arg12.view.loc (c : Thread nD τ) ↦[arg12.view.set]{fullShare} arg12.view.writes (Elt F) f L.2.2.1) ∗ (∃ f, arg13.view.loc (c : Thread nD τ) ↦[arg13.view.set]{fullShare} arg13.view.writes (Elt F) f L.2.2.2.1) ∗ (∃ f, arg14.view.loc (c : Thread nD τ) ↦[arg14.view.set]{fullShare} arg14.view.writes (Elt F) f L.2.2.2.2.1) ∗ owns (c : Thread nD τ) arg15 fullShare y14 ∗ owns (c : Thread nD τ) arg16 fullShare y15 ∗ (∃ f, arg17.view.loc (c : Thread nD τ) ↦[arg17.view.set]{fullShare} arg17.view.writes (Elt F) f L.2.2.2.2.2) ∗ owns (c : Thread nD τ) arg18 fullShare y17) -∗ K ⟨⟩))
          ⊢ wp frame (wpE (defs₀ (F := F)) Variants.none c none) E (cc0_gradients i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨⟨?_, ?_, ?_, ?_, ?_, ?_⟩, fun E K => ?run⟩
  case run =>
    simp only [cc0_gradients_eq_skeleton]; unfold cc0_gradients_skel
    simp only [k0_part52_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%f14, %hf14, H14⟩, ⟨%f15, %hf15, H15⟩, ⟨%f16, %hf16, H16⟩, ⟨%f17, %hf17, H17⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg15.eq_unread hf14; obtain rfl := harg16.eq_unread hf15; obtain rfl := harg17.eq_unread hf16; obtain rfl := harg18.eq_unread hf17
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; iexact H9
    isplitl [H10]
    · iexists _; iexact H10
    isplitl [H11]
    · iexists _; iexact H11
    isplitl [H12]
    · iexists _; iexact H12
    isplitl [H13]
    · iexists _; iexact H13
    isplitl [H14]
    · iexists _; isplitr; · ipureintro; exact harg15.read_unread _
      iexact H14
    isplitl [H15]
    · iexists _; isplitr; · ipureintro; exact harg16.read_unread _
      iexact H15
    isplitl [H16]
    · iexists _; iexact H16
    iexists _; isplitr; · ipureintro; exact harg18.read_unread _
    iexact H17

end Cert.GradientsIdeal.Hand

end
-- ==== Proof.GSpec.lean ====
module

public import proofs.«01_k».proof.Proof.GRunC
public import Idealize.ShloMosaic.Lib.Pointwise
public import Idealize.ShloMosaic.Lib.WholeRead

@[expose] public section

set_option maxRecDepth 16384

noncomputable section

namespace Cert.GradientsIdeal.Hand

open Cert.GradientsIdeal Cert.GradientsIdeal.Gen
open Idealize.ShloMosaic hiding ix0 ix1 ix2 ix3 ix4 ix5
open Idealize.ShloMosaic.ValueIdx

variable {F : FTy → Type} [FloatOps F]

/-! # What the body computes, block by block

The contents each buffer is left with at a grid point, as functions of the point's blocks. -/

/-- One value quantised to e4m3: times the inverse scale, clipped to ±448, cast. -/
def codeA (x : Elt F .bf16) (s : Elt F .f32) : Elt F .fp8e4m3 :=
  FloatOps.truncf .fp8e4m3 bitsLt_fp8e4m3_f32 (FloatOps.minimumf (FloatOps.ofBits .f32 0x43E00000#32 : F .f32)
    (FloatOps.maximumf (FloatOps.ofBits .f32 0xC3E00000#32 : F .f32) (FloatOps.mulf (FloatOps.extf .f32 bitsLt_bf16_f32 x : F .f32) s)))

/-- One value quantised to e5m2: times the inverse scale, clipped to ±57344, cast. -/
def codeH (x : Elt F .bf16) (s : Elt F .f32) : Elt F .fp8e5m2 :=
  FloatOps.truncf .fp8e5m2 bitsLt_fp8e5m2_f32 (FloatOps.minimumf (FloatOps.ofBits .f32 0x47600000#32 : F .f32)
    (FloatOps.maximumf (FloatOps.ofBits .f32 0xC7600000#32 : F .f32) (FloatOps.mulf (FloatOps.extf .f32 bitsLt_bf16_f32 x : F .f32) s)))

/-- The activation's codes of one block. -/
def quantA (s : Vec F S1x1 .f32) (x : Vec F S1x1536x256 .bf16) : Vec F S1536x256 .fp8e4m3 := fun y =>
  codeA (x (ix3 (0 : Fin 1) (y 0 : Fin 1536) (y 1 : Fin 256))) (s (ix2 (0 : Fin 1) (0 : Fin 1)))

/-- The hidden gradient's codes of one block: its two halves of 256 columns side by side. -/
def quantH (s : Vec F S1x1 .f32) (x : Vec F S1x2x1536x256 .bf16) : Vec F S1536x512 .fp8e5m2 := fun y =>
  codeH (x (ix4 (0 : Fin 1) (⟨(y 1).val / 256, by have : (y 1).val < 512 := (y 1).isLt; omega⟩ : Fin 2) (y 0 : Fin 1536)
    (⟨(y 1).val % 256, Nat.mod_lt _ (by norm_num)⟩ : Fin 256))) (s (ix2 (0 : Fin 1) (0 : Fin 1)))

/-- Row `k` of the two stored inverses (or of a broadcast scale), as the 1x1 vector the body loads. -/
def cell (k : Fin 8) (y : Vec F S8x128 .f32) : Vec F S1x1 .f32 := fun _ => y (ix2 k (0 : Fin 128))

/-- Rows `768 q ..` of the weight-gradient's left operand. -/
def xtRows (q : Fin 3) (xt : Vec F S2304x1536 .fp8e4m3) : Vec F S768x1536 .fp8e4m3 := fun j =>
  xt (ix2 (⟨768 * q.val + (j 0).val, by have : (j 0).val < 768 := (j 0).isLt; omega⟩ : Fin 2304) (j 1 : Fin 1536))

/-- The block of dW1: three row blocks, each a product, scaled and cast. -/
def dw1F (w : Vec F S1x1 .f32) (xt : Vec F S2304x1536 .fp8e4m3) (hc : Vec F S1536x512 .fp8e5m2) : Vec F S2304x512 .bf16 := fun y =>
  k0_pay201 w (xtRows (⟨(y 0).val / 768, by have : (y 0).val < 2304 := (y 0).isLt; omega⟩ : Fin 3) xt) hc
    (ix2 (⟨(y 0).val % 768, Nat.mod_lt _ (by norm_num)⟩ : Fin 768) (y 1 : Fin 512))

/-- The block of dW2. -/
def dw2F (w : Vec F S1x1 .f32) (ac : Vec F S1536x256 .fp8e4m3) (dy : Vec F S1536x2304 .fp8e5m2) : Vec F S256x2304 .bf16 :=
  k0_pay203 w ac dy

/-- Rows `512 q ..` of the accumulator of dX. -/
def accRows (q : Fin 3) (a : Vec F S1536x2304 .f32) : Vec F S512x2304 .f32 := fun j =>
  a (ix2 (⟨512 * q.val + (j 0).val, by have : (j 0).val < 512 := (j 0).isLt; omega⟩ : Fin 1536) (j 1 : Fin 2304))

/-- Rows `512 q ..` of the hidden gradient's codes. -/
def hcRows (q : Fin 3) (h : Vec F S1536x512 .fp8e5m2) : Vec F S512x512 .fp8e5m2 := fun j =>
  h (ix2 (⟨512 * q.val + (j 0).val, by have : (j 0).val < 512 := (j 0).isLt; omega⟩ : Fin 1536) (j 1 : Fin 512))

/-- The accumulator of dX after a point: what it held plus the point's product, three row blocks. -/
def dxF (acc : Vec F S1536x2304 .f32) (hc : Vec F S1536x512 .fp8e5m2) (w1 : Vec F S2304x512 .fp8e4m3) : Vec F S1536x2304 .f32 := fun y =>
  k0_pay2 (accRows (⟨(y 0).val / 512, by have : (y 0).val < 1536 := (y 0).isLt; omega⟩ : Fin 3) acc)
    (hcRows (⟨(y 0).val / 512, by have : (y 0).val < 1536 := (y 0).isLt; omega⟩ : Fin 3) hc) w1
    (ix2 (⟨(y 0).val % 512, Nat.mod_lt _ (by norm_num)⟩ : Fin 512) (y 1 : Fin 2304))

/-! ## One piece of each -/

/-- A 1x1 vector has one entry. -/
theorem one_cell {α : Type} (s : S1x1.Idx → α) (j : S1x1.Idx) : s j = s (ix2 (0 : Fin 1) (0 : Fin 1)) := by
  congr 1; funext a; apply Fin.ext
  match a with
  | ⟨0, _⟩ => have : (j 0).val < 1 := (j 0).isLt; show (j 0).val = 0; omega
  | ⟨1, _⟩ => have : (j 1).val < 1 := (j 1).isLt; show (j 1).val = 0; omega

/-- A 32-row piece of the activation's codes. -/
theorem pieceA (r : ℕ) (h1 : ∀ a, (![0, r, 0] : Fin 3 → ℕ) a + S1x32x256.size a ≤ S1x1536x256.size a)
    (h2 : ∀ a, (![r, 0] : Fin 2 → ℕ) a + S32x256.size a ≤ S1536x256.size a)
    (arg : Memref sig .tc .vmem S1x1536x256 .bf16) (harg : arg.IsWhole) (s : Vec F S1x1 .f32) (x : Vec F S1x1536x256 .bf16) (j : S32x256.Idx) :
    k0_pay193 s (View.readAt (Elt F) arg.view (Rect.unit (s := S1x1536x256) ![0, r, 0] S1x32x256.size h1).toLoadRect (harg.unread x)) j
      = quantA s x ((Rect.unit (s := S1536x256) ![r, 0] S32x256.size h2).emb j) := by
  unfold k0_pay193 quantA
  have e1 : shapeCast S32x256 (View.readAt (Elt F) arg.view (Rect.unit (s := S1x1536x256) ![0, r, 0] S1x32x256.size h1).toLoadRect (harg.unread x))
      shapeCasts_S1x32x256_S32x256 j = x (ix3 (0 : Fin 1) ((Rect.unit (s := S1536x256) ![r, 0] S32x256.size h2).emb j 0 : Fin 1536)
        ((Rect.unit (s := S1536x256) ![r, 0] S32x256.size h2).emb j 1 : Fin 256)) := by
    refine (shapeCast_dropUnit_apply ![32, 256] _ shapeCasts_S1x32x256_S32x256 j).trans ?_
    refine (harg.readAt_unread x _ _).trans (congrArg x ?_)
    funext a; apply Fin.ext
    match a with
    | ⟨0, _⟩ => rfl
    | ⟨1, _⟩ => rfl
    | ⟨2, _⟩ => rfl
  have e2 : broadcastTo S32x256 s broadcasts_S1x1_S32x256 j = s (ix2 (0 : Fin 1) (0 : Fin 1)) := by
    exact one_cell s _
  show codeA (shapeCast S32x256 _ _ j) (broadcastTo S32x256 s _ j) = _
  rw [e1, e2]

/-- A 32-row piece of one half of the hidden gradient's codes. -/
theorem pieceH (h r c : ℕ) (hc : c = 256 * h)
    (h1 : ∀ a, (![0, h, r, 0] : Fin 4 → ℕ) a + S1x1x32x256.size a ≤ S1x2x1536x256.size a)
    (h2 : ∀ a, (![r, c] : Fin 2 → ℕ) a + S32x256.size a ≤ S1536x512.size a)
    (arg : Memref sig .tc .vmem S1x2x1536x256 .bf16) (harg : arg.IsWhole) (s : Vec F S1x1 .f32) (x : Vec F S1x2x1536x256 .bf16) (j : S32x256.Idx) :
    k0_pay122 s (View.readAt (Elt F) arg.view (Rect.unit (s := S1x2x1536x256) ![0, h, r, 0] S1x1x32x256.size h1).toLoadRect (harg.unread x)) j
      = quantH s x ((Rect.unit (s := S1536x512) ![r, c] S32x256.size h2).emb j) := by
  unfold k0_pay122 quantH
  have hj1 : (j 1).val < 256 := (j 1).isLt
  have hh : h + 1 ≤ 2 := h1 1
  have e1 : shapeCast S32x256 (View.readAt (Elt F) arg.view (Rect.unit (s := S1x2x1536x256) ![0, h, r, 0] S1x1x32x256.size h1).toLoadRect (harg.unread x))
      shapeCasts_S1x1x32x256_S32x256 j = x (ix4 (0 : Fin 1) (⟨((Rect.unit (s := S1536x512) ![r, c] S32x256.size h2).emb j 1).val / 256,
          by show (c + 1 * (j 1).val) / 256 < 2; omega⟩ : Fin 2) ((Rect.unit (s := S1536x512) ![r, c] S32x256.size h2).emb j 0 : Fin 1536)
        (⟨((Rect.unit (s := S1536x512) ![r, c] S32x256.size h2).emb j 1).val % 256, Nat.mod_lt _ (by norm_num)⟩ : Fin 256)) := by
    refine (shapeCast_apply _ shapeCasts_S1x1x32x256_S32x256 j (ix4 (0 : Fin 1) (0 : Fin 1) (j 0 : Fin 32) (j 1 : Fin 256)) ?_).trans ?_
    · rw [Shape.rowMajor_val_four, Shape.rowMajor_val_two]
      show ((0 * 1 + 0) * 32 + (j 0).val) * 256 + (j 1).val = (j 0).val * 256 + (j 1).val
      omega
    refine (harg.readAt_unread x _ _).trans (congrArg x ?_)
    funext a; apply Fin.ext
    match a with
    | ⟨0, _⟩ => rfl
    | ⟨1, _⟩ => show h + 1 * 0 = (c + 1 * (j 1).val) / 256; omega
    | ⟨2, _⟩ => rfl
    | ⟨3, _⟩ => show 0 + 1 * (j 1).val = (c + 1 * (j 1).val) % 256; omega
  have e2 : broadcastTo S32x256 s broadcasts_S1x1_S32x256 j = s (ix2 (0 : Fin 1) (0 : Fin 1)) := one_cell s _
  show codeH (shapeCast S32x256 _ _ j) (broadcastTo S32x256 s _ j) = _
  rw [e1, e2]

/-- A row block of dW1's block. -/
theorem piece1 (r : ℕ) (q : Fin 3) (hr : r = 768 * q.val)
    (h1 : ∀ a, (![r, 0] : Fin 2 → ℕ) a + S768x1536.size a ≤ S2304x1536.size a)
    (h2 : ∀ a, (![r, 0] : Fin 2 → ℕ) a + S768x512.size a ≤ S2304x512.size a)
    (arg : Memref sig .tc .vmem S2304x1536 .fp8e4m3) (harg : arg.IsWhole) (w : Vec F S1x1 .f32) (x : Vec F S2304x1536 .fp8e4m3)
    (hc : Vec F S1536x512 .fp8e5m2) (j : S768x512.Idx) :
    k0_pay201 w (View.readAt (Elt F) arg.view (Rect.unit (s := S2304x1536) ![r, 0] S768x1536.size h1).toLoadRect (harg.unread x)) hc j
      = dw1F w x hc ((Rect.unit (s := S2304x512) ![r, 0] S768x512.size h2).emb j) := by
  have hj : (j 0).val < 768 := (j 0).isLt
  have e : View.readAt (Elt F) arg.view (Rect.unit (s := S2304x1536) ![r, 0] S768x1536.size h1).toLoadRect (harg.unread x) = xtRows q x := by
    funext i
    refine (harg.readAt_unread x _ _).trans (congrArg x ?_)
    funext a; apply Fin.ext
    match a with
    | ⟨0, _⟩ => show r + 1 * (i 0).val = 768 * q.val + (i 0).val; omega
    | ⟨1, _⟩ => show 0 + 1 * (i 1).val = (i 1).val; omega
  rw [e]
  unfold dw1F
  have eq : (⟨((Rect.unit (s := S2304x512) ![r, 0] S768x512.size h2).emb j 0).val / 768, by show (r + 1 * (j 0).val) / 768 < 3; omega⟩ : Fin 3) = q :=
    Fin.ext (by show (r + 1 * (j 0).val) / 768 = q.val; omega)
  rw [eq]
  congr 1
  funext a; apply Fin.ext
  match a with
  | ⟨0, _⟩ => show (j 0).val = (r + 1 * (j 0).val) % 768; omega
  | ⟨1, _⟩ => show (j 1).val = 0 + 1 * (j 1).val; omega

/-- A row block of dX's accumulator. -/
theorem pieceX (r : ℕ) (q : Fin 3) (hr : r = 512 * q.val)
    (h2 : ∀ a, (![r, 0] : Fin 2 → ℕ) a + S512x2304.size a ≤ S1536x2304.size a)
    (acc : Vec F S1536x2304 .f32) (hc : Vec F S1536x512 .fp8e5m2) (w1 : Vec F S2304x512 .fp8e4m3) (j : S512x2304.Idx) :
    k0_pay2 (accRows q acc) (hcRows q hc) w1 j = dxF acc hc w1 ((Rect.unit (s := S1536x2304) ![r, 0] S512x2304.size h2).emb j) := by
  have hj : (j 0).val < 512 := (j 0).isLt
  unfold dxF
  have eq : (⟨((Rect.unit (s := S1536x2304) ![r, 0] S512x2304.size h2).emb j 0).val / 512, by show (r + 1 * (j 0).val) / 512 < 3; omega⟩ : Fin 3) = q :=
    Fin.ext (by show (r + 1 * (j 0).val) / 512 = q.val; omega)
  rw [eq]
  congr 1
  funext a; apply Fin.ext
  match a with
  | ⟨0, _⟩ => show (j 0).val = (r + 1 * (j 0).val) % 512; omega
  | ⟨1, _⟩ => show (j 1).val = 0 + 1 * (j 1).val; omega

end Cert.GradientsIdeal.Hand

end
-- ==== Proof.GReadA.lean ====
module

public import proofs.«01_k».proof.Proof.GSpec

@[expose] public section

set_option maxRecDepth 16384

noncomputable section

namespace Cert.GradientsIdeal.Hand

open Cert.GradientsIdeal Cert.GradientsIdeal.Gen
open Idealize.ShloMosaic hiding ix0 ix1 ix2 ix3 ix4 ix5
open Idealize.ShloMosaic.ValueIdx

variable {F : FTy → Type} [FloatOps F]

set_option maxHeartbeats 4000000 in
/-- Every stored piece of the activation's codes is that piece of `quantA` of the block. -/
theorem piecesA12 (c : Dev nD) (arg3 : Memref sig .tc .vmem S8x256 .f32) (harg3 : arg3.IsWhole) (arg4 : Memref sig .tc .vmem S8x256 .f32) (harg4 : arg4.IsWhole) (arg7 : Memref sig .tc .vmem S1x1536x256 .bf16) (harg7 : arg7.IsWhole) (arg18 : Memref sig .tc .vmem S8x128 .f32) (x2 : Vec F S8x256 .f32) (x3 : Vec F S8x256 .f32) (x6 : Vec F S1x1536x256 .bf16) :
    ∀ p ∈ runA.sl.H12_48 c arg3 harg3 arg4 harg4 arg7 harg7 arg18 x2 x3 x6, ∀ j, p.2 j = quantA (runA.sl.v3 c arg3 harg3 arg4 harg4 arg18 x2 x3) x6 (p.1.emb j) := by
  unfold runA.sl.H12_48
  refine List.forall_mem_cons.2 ⟨fun j => pieceA 1504 inb_S1x1536x256_S1x32x256_0_1504_0 inb_S1536x256_S32x256_1504_0 arg7 harg7 (runA.sl.v3 c arg3 harg3 arg4 harg4 arg18 x2 x3) x6 j, ?_⟩
  refine List.forall_mem_cons.2 ⟨fun j => pieceA 1472 inb_S1x1536x256_S1x32x256_0_1472_0 inb_S1536x256_S32x256_1472_0 arg7 harg7 (runA.sl.v3 c arg3 harg3 arg4 harg4 arg18 x2 x3) x6 j, ?_⟩
  refine List.forall_mem_cons.2 ⟨fun j => pieceA 1440 inb_S1x1536x256_S1x32x256_0_1440_0 inb_S1536x256_S32x256_1440_0 arg7 harg7 (runA.sl.v3 c arg3 harg3 arg4 harg4 arg18 x2 x3) x6 j, ?_⟩
  refine List.forall_mem_cons.2 ⟨fun j => pieceA 1408 inb_S1x1536x256_S1x32x256_0_1408_0 inb_S1536x256_S32x256_1408_0 arg7 harg7 (runA.sl.v3 c arg3 harg3 arg4 harg4 arg18 x2 x3) x6 j, ?_⟩
  refine List.forall_mem_cons.2 ⟨fun j => pieceA 1376 inb_S1x1536x256_S1x32x256_0_1376_0 inb_S1536x256_S32x256_1376_0 arg7 harg7 (runA.sl.v3 c arg3 harg3 arg4 harg4 arg18 x2 x3) x6 j, ?_⟩
  refine List.forall_mem_cons.2 ⟨fun j => pieceA 1344 inb_S1x1536x256_S1x32x256_0_1344_0 inb_S1536x256_S32x256_1344_0 arg7 harg7 (runA.sl.v3 c arg3 harg3 arg4 harg4 arg18 x2 x3) x6 j, ?_⟩
  refine List.forall_mem_cons.2 ⟨fun j => pieceA 1312 inb_S1x1536x256_S1x32x256_0_1312_0 inb_S1536x256_S32x256_1312_0 arg7 harg7 (runA.sl.v3 c arg3 harg3 arg4 harg4 arg18 x2 x3) x6 j, ?_⟩
  refine List.forall_mem_cons.2 ⟨fun j => pieceA 1280 inb_S1x1536x256_S1x32x256_0_1280_0 inb_S1536x256_S32x256_1280_0 arg7 harg7 (runA.sl.v3 c arg3 harg3 arg4 harg4 arg18 x2 x3) x6 j, ?_⟩
  refine List.forall_mem_cons.2 ⟨fun j => pieceA 1248 inb_S1x1536x256_S1x32x256_0_1248_0 inb_S1536x256_S32x256_1248_0 arg7 harg7 (runA.sl.v3 c arg3 harg3 arg4 harg4 arg18 x2 x3) x6 j, ?_⟩
  refine List.forall_mem_cons.2 ⟨fun j => pieceA 1216 inb_S1x1536x256_S1x32x256_0_1216_0 inb_S1536x256_S32x256_1216_0 arg7 harg7 (runA.sl.v3 c arg3 harg3 arg4 harg4 arg18 x2 x3) x6 j, ?_⟩
  refine List.forall_mem_cons.2 ⟨fun j => pieceA 1184 inb_S1x1536x256_S1x32x256_0_1184_0 inb_S1536x256_S32x256_1184_0 arg7 harg7 (runA.sl.v3 c arg3 harg3 arg4 harg4 arg18 x2 x3) x6 j, ?_⟩
  refine List.forall_mem_cons.2 ⟨fun j => pieceA 1152 inb_S1x1536x256_S1x32x256_0_1152_0 inb_S1536x256_S32x256_1152_0 arg7 harg7 (runA.sl.v3 c arg3 harg3 arg4 harg4 arg18 x2 x3) x6 j, ?_⟩
  refine List.forall_mem_cons.2 ⟨fun j => pieceA 1120 inb_S1x1536x256_S1x32x256_0_1120_0 inb_S1536x256_S32x256_1120_0 arg7 harg7 (runA.sl.v3 c arg3 harg3 arg4 harg4 arg18 x2 x3) x6 j, ?_⟩
  refine List.forall_mem_cons.2 ⟨fun j => pieceA 1088 inb_S1x1536x256_S1x32x256_0_1088_0 inb_S1536x256_S32x256_1088_0 arg7 harg7 (runA.sl.v3 c arg3 harg3 arg4 harg4 arg18 x2 x3) x6 j, ?_⟩
  refine List.forall_mem_cons.2 ⟨fun j => pieceA 1056 inb_S1x1536x256_S1x32x256_0_1056_0 inb_S1536x256_S32x256_1056_0 arg7 harg7 (runA.sl.v3 c arg3 harg3 arg4 harg4 arg18 x2 x3) x6 j, ?_⟩
  refine List.forall_mem_cons.2 ⟨fun j => pieceA 1024 inb_S1x1536x256_S1x32x256_0_1024_0 inb_S1536x256_S32x256_1024_0 arg7 harg7 (runA.sl.v3 c arg3 harg3 arg4 harg4 arg18 x2 x3) x6 j, ?_⟩
  refine List.forall_mem_cons.2 ⟨fun j => pieceA 992 inb_S1x1536x256_S1x32x256_0_992_0 inb_S1536x256_S32x256_992_0 arg7 harg7 (runA.sl.v3 c arg3 harg3 arg4 harg4 arg18 x2 x3) x6 j, ?_⟩
  refine List.forall_mem_cons.2 ⟨fun j => pieceA 960 inb_S1x1536x256_S1x32x256_0_960_0 inb_S1536x256_S32x256_960_0 arg7 harg7 (runA.sl.v3 c arg3 harg3 arg4 harg4 arg18 x2 x3) x6 j, ?_⟩
  refine List.forall_mem_cons.2 ⟨fun j => pieceA 928 inb_S1x1536x256_S1x32x256_0_928_0 inb_S1536x256_S32x256_928_0 arg7 harg7 (runA.sl.v3 c arg3 harg3 arg4 harg4 arg18 x2 x3) x6 j, ?_⟩
  refine List.forall_mem_cons.2 ⟨fun j => pieceA 896 inb_S1x1536x256_S1x32x256_0_896_0 inb_S1536x256_S32x256_896_0 arg7 harg7 (runA.sl.v3 c arg3 harg3 arg4 harg4 arg18 x2 x3) x6 j, ?_⟩
  refine List.forall_mem_cons.2 ⟨fun j => pieceA 864 inb_S1x1536x256_S1x32x256_0_864_0 inb_S1536x256_S32x256_864_0 arg7 harg7 (runA.sl.v3 c arg3 harg3 arg4 harg4 arg18 x2 x3) x6 j, ?_⟩
  refine List.forall_mem_cons.2 ⟨fun j => pieceA 832 inb_S1x1536x256_S1x32x256_0_832_0 inb_S1536x256_S32x256_832_0 arg7 harg7 (runA.sl.v3 c arg3 harg3 arg4 harg4 arg18 x2 x3) x6 j, ?_⟩
  refine List.forall_mem_cons.2 ⟨fun j => pieceA 800 inb_S1x1536x256_S1x32x256_0_800_0 inb_S1536x256_S32x256_800_0 arg7 harg7 (runA.sl.v3 c arg3 harg3 arg4 harg4 arg18 x2 x3) x6 j, ?_⟩
  refine List.forall_mem_cons.2 ⟨fun j => pieceA 768 inb_S1x1536x256_S1x32x256_0_768_0 inb_S1536x256_S32x256_768_0 arg7 harg7 (runA.sl.v3 c arg3 harg3 arg4 harg4 arg18 x2 x3) x6 j, ?_⟩
  refine List.forall_mem_cons.2 ⟨fun j => pieceA 736 inb_S1x1536x256_S1x32x256_0_736_0 inb_S1536x256_S32x256_736_0 arg7 harg7 (runA.sl.v3 c arg3 harg3 arg4 harg4 arg18 x2 x3) x6 j, ?_⟩
  refine List.forall_mem_cons.2 ⟨fun j => pieceA 704 inb_S1x1536x256_S1x32x256_0_704_0 inb_S1536x256_S32x256_704_0 arg7 harg7 (runA.sl.v3 c arg3 harg3 arg4 harg4 arg18 x2 x3) x6 j, ?_⟩
  refine List.forall_mem_cons.2 ⟨fun j => pieceA 672 inb_S1x1536x256_S1x32x256_0_672_0 inb_S1536x256_S32x256_672_0 arg7 harg7 (runA.sl.v3 c arg3 harg3 arg4 harg4 arg18 x2 x3) x6 j, ?_⟩
  refine List.forall_mem_cons.2 ⟨fun j => pieceA 640 inb_S1x1536x256_S1x32x256_0_640_0 inb_S1536x256_S32x256_640_0 arg7 harg7 (runA.sl.v3 c arg3 harg3 arg4 harg4 arg18 x2 x3) x6 j, ?_⟩
  refine List.forall_mem_cons.2 ⟨fun j => pieceA 608 inb_S1x1536x256_S1x32x256_0_608_0 inb_S1536x256_S32x256_608_0 arg7 harg7 (runA.sl.v3 c arg3 harg3 arg4 harg4 arg18 x2 x3) x6 j, ?_⟩
  refine List.forall_mem_cons.2 ⟨fun j => pieceA 576 inb_S1x1536x256_S1x32x256_0_576_0 inb_S1536x256_S32x256_576_0 arg7 harg7 (runA.sl.v3 c arg3 harg3 arg4 harg4 arg18 x2 x3) x6 j, ?_⟩
  refine List.forall_mem_cons.2 ⟨fun j => pieceA 544 inb_S1x1536x256_S1x32x256_0_544_0 inb_S1536x256_S32x256_544_0 arg7 harg7 (runA.sl.v3 c arg3 harg3 arg4 harg4 arg18 x2 x3) x6 j, ?_⟩
  refine List.forall_mem_cons.2 ⟨fun j => pieceA 512 inb_S1x1536x256_S1x32x256_0_512_0 inb_S1536x256_S32x256_512_0 arg7 harg7 (runA.sl.v3 c arg3 harg3 arg4 harg4 arg18 x2 x3) x6 j, ?_⟩
  refine List.forall_mem_cons.2 ⟨fun j => pieceA 480 inb_S1x1536x256_S1x32x256_0_480_0 inb_S1536x256_S32x256_480_0 arg7 harg7 (runA.sl.v3 c arg3 harg3 arg4 harg4 arg18 x2 x3) x6 j, ?_⟩
  refine List.forall_mem_cons.2 ⟨fun j => pieceA 448 inb_S1x1536x256_S1x32x256_0_448_0 inb_S1536x256_S32x256_448_0 arg7 harg7 (runA.sl.v3 c arg3 harg3 arg4 harg4 arg18 x2 x3) x6 j, ?_⟩
  refine List.forall_mem_cons.2 ⟨fun j => pieceA 416 inb_S1x1536x256_S1x32x256_0_416_0 inb_S1536x256_S32x256_416_0 arg7 harg7 (runA.sl.v3 c arg3 harg3 arg4 harg4 arg18 x2 x3) x6 j, ?_⟩
  refine List.forall_mem_cons.2 ⟨fun j => pieceA 384 inb_S1x1536x256_S1x32x256_0_384_0 inb_S1536x256_S32x256_384_0 arg7 harg7 (runA.sl.v3 c arg3 harg3 arg4 harg4 arg18 x2 x3) x6 j, ?_⟩
  refine List.forall_mem_cons.2 ⟨fun j => pieceA 352 inb_S1x1536x256_S1x32x256_0_352_0 inb_S1536x256_S32x256_352_0 arg7 harg7 (runA.sl.v3 c arg3 harg3 arg4 harg4 arg18 x2 x3) x6 j, ?_⟩
  refine List.forall_mem_cons.2 ⟨fun j => pieceA 320 inb_S1x1536x256_S1x32x256_0_320_0 inb_S1536x256_S32x256_320_0 arg7 harg7 (runA.sl.v3 c arg3 harg3 arg4 harg4 arg18 x2 x3) x6 j, ?_⟩
  refine List.forall_mem_cons.2 ⟨fun j => pieceA 288 inb_S1x1536x256_S1x32x256_0_288_0 inb_S1536x256_S32x256_288_0 arg7 harg7 (runA.sl.v3 c arg3 harg3 arg4 harg4 arg18 x2 x3) x6 j, ?_⟩
  refine List.forall_mem_cons.2 ⟨fun j => pieceA 256 inb_S1x1536x256_S1x32x256_0_256_0 inb_S1536x256_S32x256_256_0 arg7 harg7 (runA.sl.v3 c arg3 harg3 arg4 harg4 arg18 x2 x3) x6 j, ?_⟩
  refine List.forall_mem_cons.2 ⟨fun j => pieceA 224 inb_S1x1536x256_S1x32x256_0_224_0 inb_S1536x256_S32x256_224_0 arg7 harg7 (runA.sl.v3 c arg3 harg3 arg4 harg4 arg18 x2 x3) x6 j, ?_⟩
  refine List.forall_mem_cons.2 ⟨fun j => pieceA 192 inb_S1x1536x256_S1x32x256_0_192_0 inb_S1536x256_S32x256_192_0 arg7 harg7 (runA.sl.v3 c arg3 harg3 arg4 harg4 arg18 x2 x3) x6 j, ?_⟩
  refine List.forall_mem_cons.2 ⟨fun j => pieceA 160 inb_S1x1536x256_S1x32x256_0_160_0 inb_S1536x256_S32x256_160_0 arg7 harg7 (runA.sl.v3 c arg3 harg3 arg4 harg4 arg18 x2 x3) x6 j, ?_⟩
  refine List.forall_mem_cons.2 ⟨fun j => pieceA 128 inb_S1x1536x256_S1x32x256_0_128_0 inb_S1536x256_S32x256_128_0 arg7 harg7 (runA.sl.v3 c arg3 harg3 arg4 harg4 arg18 x2 x3) x6 j, ?_⟩
  refine List.forall_mem_cons.2 ⟨fun j => pieceA 96 inb_S1x1536x256_S1x32x256_0_96_0 inb_S1536x256_S32x256_96_0 arg7 harg7 (runA.sl.v3 c arg3 harg3 arg4 harg4 arg18 x2 x3) x6 j, ?_⟩
  refine List.forall_mem_cons.2 ⟨fun j => pieceA 64 inb_S1x1536x256_S1x32x256_0_64_0 inb_S1536x256_S32x256_64_0 arg7 harg7 (runA.sl.v3 c arg3 harg3 arg4 harg4 arg18 x2 x3) x6 j, ?_⟩
  refine List.forall_mem_cons.2 ⟨fun j => pieceA 32 inb_S1x1536x256_S1x32x256_0_32_0 inb_S1536x256_S32x256_32_0 arg7 harg7 (runA.sl.v3 c arg3 harg3 arg4 harg4 arg18 x2 x3) x6 j, ?_⟩
  refine List.forall_mem_cons.2 ⟨fun j => pieceA 0 inb_S1x1536x256_S1x32x256_0_0_0 inb_S1536x256_S32x256_0_0 arg7 harg7 (runA.sl.v3 c arg3 harg3 arg4 harg4 arg18 x2 x3) x6 j, ?_⟩
  exact fun p hp => absurd hp List.not_mem_nil

set_option maxHeartbeats 4000000 in
/-- Every stored piece of the hidden gradient's codes is that piece of `quantH` of the block. -/
theorem piecesA13 (c : Dev nD) (arg3 : Memref sig .tc .vmem S8x256 .f32) (harg3 : arg3.IsWhole) (arg4 : Memref sig .tc .vmem S8x256 .f32) (harg4 : arg4.IsWhole) (arg8 : Memref sig .tc .vmem S1x2x1536x256 .bf16) (harg8 : arg8.IsWhole) (arg18 : Memref sig .tc .vmem S8x128 .f32) (x2 : Vec F S8x256 .f32) (x3 : Vec F S8x256 .f32) (x7 : Vec F S1x2x1536x256 .bf16) :
    ∀ p ∈ runA.sl.H13_96 c arg3 harg3 arg4 harg4 arg8 harg8 arg18 x2 x3 x7, ∀ j, p.2 j = quantH (runA.sl.v4 c arg3 harg3 arg4 harg4 arg18 x2 x3) x7 (p.1.emb j) := by
  unfold runA.sl.H13_96
  refine List.forall_mem_cons.2 ⟨fun j => pieceH 1 1504 256 rfl inb_S1x2x1536x256_S1x1x32x256_0_1_1504_0 inb_S1536x512_S32x256_1504_256 arg8 harg8 (runA.sl.v4 c arg3 harg3 arg4 harg4 arg18 x2 x3) x7 j, ?_⟩
  refine List.forall_mem_cons.2 ⟨fun j => pieceH 0 1504 0 rfl inb_S1x2x1536x256_S1x1x32x256_0_0_1504_0 inb_S1536x512_S32x256_1504_0 arg8 harg8 (runA.sl.v4 c arg3 harg3 arg4 harg4 arg18 x2 x3) x7 j, ?_⟩
  refine List.forall_mem_cons.2 ⟨fun j => pieceH 1 1472 256 rfl inb_S1x2x1536x256_S1x1x32x256_0_1_1472_0 inb_S1536x512_S32x256_1472_256 arg8 harg8 (runA.sl.v4 c arg3 harg3 arg4 harg4 arg18 x2 x3) x7 j, ?_⟩
  refine List.forall_mem_cons.2 ⟨fun j => pieceH 0 1472 0 rfl inb_S1x2x1536x256_S1x1x32x256_0_0_1472_0 inb_S1536x512_S32x256_1472_0 arg8 harg8 (runA.sl.v4 c arg3 harg3 arg4 harg4 arg18 x2 x3) x7 j, ?_⟩
  refine List.forall_mem_cons.2 ⟨fun j => pieceH 1 1440 256 rfl inb_S1x2x1536x256_S1x1x32x256_0_1_1440_0 inb_S1536x512_S32x256_1440_256 arg8 harg8 (runA.sl.v4 c arg3 harg3 arg4 harg4 arg18 x2 x3) x7 j, ?_⟩
  refine List.forall_mem_cons.2 ⟨fun j => pieceH 0 1440 0 rfl inb_S1x2x1536x256_S1x1x32x256_0_0_1440_0 inb_S1536x512_S32x256_1440_0 arg8 harg8 (runA.sl.v4 c arg3 harg3 arg4 harg4 arg18 x2 x3) x7 j, ?_⟩
  refine List.forall_mem_cons.2 ⟨fun j => pieceH 1 1408 256 rfl inb_S1x2x1536x256_S1x1x32x256_0_1_1408_0 inb_S1536x512_S32x256_1408_256 arg8 harg8 (runA.sl.v4 c arg3 harg3 arg4 harg4 arg18 x2 x3) x7 j, ?_⟩
  refine List.forall_mem_cons.2 ⟨fun j => pieceH 0 1408 0 rfl inb_S1x2x1536x256_S1x1x32x256_0_0_1408_0 inb_S1536x512_S32x256_1408_0 arg8 harg8 (runA.sl.v4 c arg3 harg3 arg4 harg4 arg18 x2 x3) x7 j, ?_⟩
  refine List.forall_mem_cons.2 ⟨fun j => pieceH 1 1376 256 rfl inb_S1x2x1536x256_S1x1x32x256_0_1_1376_0 inb_S1536x512_S32x256_1376_256 arg8 harg8 (runA.sl.v4 c arg3 harg3 arg4 harg4 arg18 x2 x3) x7 j, ?_⟩
  refine List.forall_mem_cons.2 ⟨fun j => pieceH 0 1376 0 rfl inb_S1x2x1536x256_S1x1x32x256_0_0_1376_0 inb_S1536x512_S32x256_1376_0 arg8 harg8 (runA.sl.v4 c arg3 harg3 arg4 harg4 arg18 x2 x3) x7 j, ?_⟩
  refine List.forall_mem_cons.2 ⟨fun j => pieceH 1 1344 256 rfl inb_S1x2x1536x256_S1x1x32x256_0_1_1344_0 inb_S1536x512_S32x256_1344_256 arg8 harg8 (runA.sl.v4 c arg3 harg3 arg4 harg4 arg18 x2 x3) x7 j, ?_⟩
  refine List.forall_mem_cons.2 ⟨fun j => pieceH 0 1344 0 rfl inb_S1x2x1536x256_S1x1x32x256_0_0_1344_0 inb_S1536x512_S32x256_1344_0 arg8 harg8 (runA.sl.v4 c arg3 harg3 arg4 harg4 arg18 x2 x3) x7 j, ?_⟩
  refine List.forall_mem_cons.2 ⟨fun j => pieceH 1 1312 256 rfl inb_S1x2x1536x256_S1x1x32x256_0_1_1312_0 inb_S1536x512_S32x256_1312_256 arg8 harg8 (runA.sl.v4 c arg3 harg3 arg4 harg4 arg18 x2 x3) x7 j, ?_⟩
  refine List.forall_mem_cons.2 ⟨fun j => pieceH 0 1312 0 rfl inb_S1x2x1536x256_S1x1x32x256_0_0_1312_0 inb_S1536x512_S32x256_1312_0 arg8 harg8 (runA.sl.v4 c arg3 harg3 arg4 harg4 arg18 x2 x3) x7 j, ?_⟩
  refine List.forall_mem_cons.2 ⟨fun j => pieceH 1 1280 256 rfl inb_S1x2x1536x256_S1x1x32x256_0_1_1280_0 inb_S1536x512_S32x256_1280_256 arg8 harg8 (runA.sl.v4 c arg3 harg3 arg4 harg4 arg18 x2 x3) x7 j, ?_⟩
  refine List.forall_mem_cons.2 ⟨fun j => pieceH 0 1280 0 rfl inb_S1x2x1536x256_S1x1x32x256_0_0_1280_0 inb_S1536x512_S32x256_1280_0 arg8 harg8 (runA.sl.v4 c arg3 harg3 arg4 harg4 arg18 x2 x3) x7 j, ?_⟩
  refine List.forall_mem_cons.2 ⟨fun j => pieceH 1 1248 256 rfl inb_S1x2x1536x256_S1x1x32x256_0_1_1248_0 inb_S1536x512_S32x256_1248_256 arg8 harg8 (runA.sl.v4 c arg3 harg3 arg4 harg4 arg18 x2 x3) x7 j, ?_⟩
  refine List.forall_mem_cons.2 ⟨fun j => pieceH 0 1248 0 rfl inb_S1x2x1536x256_S1x1x32x256_0_0_1248_0 inb_S1536x512_S32x256_1248_0 arg8 harg8 (runA.sl.v4 c arg3 harg3 arg4 harg4 arg18 x2 x3) x7 j, ?_⟩
  refine List.forall_mem_cons.2 ⟨fun j => pieceH 1 1216 256 rfl inb_S1x2x1536x256_S1x1x32x256_0_1_1216_0 inb_S1536x512_S32x256_1216_256 arg8 harg8 (runA.sl.v4 c arg3 harg3 arg4 harg4 arg18 x2 x3) x7 j, ?_⟩
  refine List.forall_mem_cons.2 ⟨fun j => pieceH 0 1216 0 rfl inb_S1x2x1536x256_S1x1x32x256_0_0_1216_0 inb_S1536x512_S32x256_1216_0 arg8 harg8 (runA.sl.v4 c arg3 harg3 arg4 harg4 arg18 x2 x3) x7 j, ?_⟩
  refine List.forall_mem_cons.2 ⟨fun j => pieceH 1 1184 256 rfl inb_S1x2x1536x256_S1x1x32x256_0_1_1184_0 inb_S1536x512_S32x256_1184_256 arg8 harg8 (runA.sl.v4 c arg3 harg3 arg4 harg4 arg18 x2 x3) x7 j, ?_⟩
  refine List.forall_mem_cons.2 ⟨fun j => pieceH 0 1184 0 rfl inb_S1x2x1536x256_S1x1x32x256_0_0_1184_0 inb_S1536x512_S32x256_1184_0 arg8 harg8 (runA.sl.v4 c arg3 harg3 arg4 harg4 arg18 x2 x3) x7 j, ?_⟩
  refine List.forall_mem_cons.2 ⟨fun j => pieceH 1 1152 256 rfl inb_S1x2x1536x256_S1x1x32x256_0_1_1152_0 inb_S1536x512_S32x256_1152_256 arg8 harg8 (runA.sl.v4 c arg3 harg3 arg4 harg4 arg18 x2 x3) x7 j, ?_⟩
  refine List.forall_mem_cons.2 ⟨fun j => pieceH 0 1152 0 rfl inb_S1x2x1536x256_S1x1x32x256_0_0_1152_0 inb_S1536x512_S32x256_1152_0 arg8 harg8 (runA.sl.v4 c arg3 harg3 arg4 harg4 arg18 x2 x3) x7 j, ?_⟩
  refine List.forall_mem_cons.2 ⟨fun j => pieceH 1 1120 256 rfl inb_S1x2x1536x256_S1x1x32x256_0_1_1120_0 inb_S1536x512_S32x256_1120_256 arg8 harg8 (runA.sl.v4 c arg3 harg3 arg4 harg4 arg18 x2 x3) x7 j, ?_⟩
  refine List.forall_mem_cons.2 ⟨fun j => pieceH 0 1120 0 rfl inb_S1x2x1536x256_S1x1x32x256_0_0_1120_0 inb_S1536x512_S32x256_1120_0 arg8 harg8 (runA.sl.v4 c arg3 harg3 arg4 harg4 arg18 x2 x3) x7 j, ?_⟩
  refine List.forall_mem_cons.2 ⟨fun j => pieceH 1 1088 256 rfl inb_S1x2x1536x256_S1x1x32x256_0_1_1088_0 inb_S1536x512_S32x256_1088_256 arg8 harg8 (runA.sl.v4 c arg3 harg3 arg4 harg4 arg18 x2 x3) x7 j, ?_⟩
  refine List.forall_mem_cons.2 ⟨fun j => pieceH 0 1088 0 rfl inb_S1x2x1536x256_S1x1x32x256_0_0_1088_0 inb_S1536x512_S32x256_1088_0 arg8 harg8 (runA.sl.v4 c arg3 harg3 arg4 harg4 arg18 x2 x3) x7 j, ?_⟩
  refine List.forall_mem_cons.2 ⟨fun j => pieceH 1 1056 256 rfl inb_S1x2x1536x256_S1x1x32x256_0_1_1056_0 inb_S1536x512_S32x256_1056_256 arg8 harg8 (runA.sl.v4 c arg3 harg3 arg4 harg4 arg18 x2 x3) x7 j, ?_⟩
  refine List.forall_mem_cons.2 ⟨fun j => pieceH 0 1056 0 rfl inb_S1x2x1536x256_S1x1x32x256_0_0_1056_0 inb_S1536x512_S32x256_1056_0 arg8 harg8 (runA.sl.v4 c arg3 harg3 arg4 harg4 arg18 x2 x3) x7 j, ?_⟩
  refine List.forall_mem_cons.2 ⟨fun j => pieceH 1 1024 256 rfl inb_S1x2x1536x256_S1x1x32x256_0_1_1024_0 inb_S1536x512_S32x256_1024_256 arg8 harg8 (runA.sl.v4 c arg3 harg3 arg4 harg4 arg18 x2 x3) x7 j, ?_⟩
  refine List.forall_mem_cons.2 ⟨fun j => pieceH 0 1024 0 rfl inb_S1x2x1536x256_S1x1x32x256_0_0_1024_0 inb_S1536x512_S32x256_1024_0 arg8 harg8 (runA.sl.v4 c arg3 harg3 arg4 harg4 arg18 x2 x3) x7 j, ?_⟩
  refine List.forall_mem_cons.2 ⟨fun j => pieceH 1 992 256 rfl inb_S1x2x1536x256_S1x1x32x256_0_1_992_0 inb_S1536x512_S32x256_992_256 arg8 harg8 (runA.sl.v4 c arg3 harg3 arg4 harg4 arg18 x2 x3) x7 j, ?_⟩
  refine List.forall_mem_cons.2 ⟨fun j => pieceH 0 992 0 rfl inb_S1x2x1536x256_S1x1x32x256_0_0_992_0 inb_S1536x512_S32x256_992_0 arg8 harg8 (runA.sl.v4 c arg3 harg3 arg4 harg4 arg18 x2 x3) x7 j, ?_⟩
  refine List.forall_mem_cons.2 ⟨fun j => pieceH 1 960 256 rfl inb_S1x2x1536x256_S1x1x32x256_0_1_960_0 inb_S1536x512_S32x256_960_256 arg8 harg8 (runA.sl.v4 c arg3 harg3 arg4 harg4 arg18 x2 x3) x7 j, ?_⟩
  refine List.forall_mem_cons.2 ⟨fun j => pieceH 0 960 0 rfl inb_S1x2x1536x256_S1x1x32x256_0_0_960_0 inb_S1536x512_S32x256_960_0 arg8 harg8 (runA.sl.v4 c arg3 harg3 arg4 harg4 arg18 x2 x3) x7 j, ?_⟩
  refine List.forall_mem_cons.2 ⟨fun j => pieceH 1 928 256 rfl inb_S1x2x1536x256_S1x1x32x256_0_1_928_0 inb_S1536x512_S32x256_928_256 arg8 harg8 (runA.sl.v4 c arg3 harg3 arg4 harg4 arg18 x2 x3) x7 j, ?_⟩
  refine List.forall_mem_cons.2 ⟨fun j => pieceH 0 928 0 rfl inb_S1x2x1536x256_S1x1x32x256_0_0_928_0 inb_S1536x512_S32x256_928_0 arg8 harg8 (runA.sl.v4 c arg3 harg3 arg4 harg4 arg18 x2 x3) x7 j, ?_⟩
  refine List.forall_mem_cons.2 ⟨fun j => pieceH 1 896 256 rfl inb_S1x2x1536x256_S1x1x32x256_0_1_896_0 inb_S1536x512_S32x256_896_256 arg8 harg8 (runA.sl.v4 c arg3 harg3 arg4 harg4 arg18 x2 x3) x7 j, ?_⟩
  refine List.forall_mem_cons.2 ⟨fun j => pieceH 0 896 0 rfl inb_S1x2x1536x256_S1x1x32x256_0_0_896_0 inb_S1536x512_S32x256_896_0 arg8 harg8 (runA.sl.v4 c arg3 harg3 arg4 harg4 arg18 x2 x3) x7 j, ?_⟩
  refine List.forall_mem_cons.2 ⟨fun j => pieceH 1 864 256 rfl inb_S1x2x1536x256_S1x1x32x256_0_1_864_0 inb_S1536x512_S32x256_864_256 arg8 harg8 (runA.sl.v4 c arg3 harg3 arg4 harg4 arg18 x2 x3) x7 j, ?_⟩
  refine List.forall_mem_cons.2 ⟨fun j => pieceH 0 864 0 rfl inb_S1x2x1536x256_S1x1x32x256_0_0_864_0 inb_S1536x512_S32x256_864_0 arg8 harg8 (runA.sl.v4 c arg3 harg3 arg4 harg4 arg18 x2 x3) x7 j, ?_⟩
  refine List.forall_mem_cons.2 ⟨fun j => pieceH 1 832 256 rfl inb_S1x2x1536x256_S1x1x32x256_0_1_832_0 inb_S1536x512_S32x256_832_256 arg8 harg8 (runA.sl.v4 c arg3 harg3 arg4 harg4 arg18 x2 x3) x7 j, ?_⟩
  refine List.forall_mem_cons.2 ⟨fun j => pieceH 0 832 0 rfl inb_S1x2x1536x256_S1x1x32x256_0_0_832_0 inb_S1536x512_S32x256_832_0 arg8 harg8 (runA.sl.v4 c arg3 harg3 arg4 harg4 arg18 x2 x3) x7 j, ?_⟩
  refine List.forall_mem_cons.2 ⟨fun j => pieceH 1 800 256 rfl inb_S1x2x1536x256_S1x1x32x256_0_1_800_0 inb_S1536x512_S32x256_800_256 arg8 harg8 (runA.sl.v4 c arg3 harg3 arg4 harg4 arg18 x2 x3) x7 j, ?_⟩
  refine List.forall_mem_cons.2 ⟨fun j => pieceH 0 800 0 rfl inb_S1x2x1536x256_S1x1x32x256_0_0_800_0 inb_S1536x512_S32x256_800_0 arg8 harg8 (runA.sl.v4 c arg3 harg3 arg4 harg4 arg18 x2 x3) x7 j, ?_⟩
  refine List.forall_mem_cons.2 ⟨fun j => pieceH 1 768 256 rfl inb_S1x2x1536x256_S1x1x32x256_0_1_768_0 inb_S1536x512_S32x256_768_256 arg8 harg8 (runA.sl.v4 c arg3 harg3 arg4 harg4 arg18 x2 x3) x7 j, ?_⟩
  refine List.forall_mem_cons.2 ⟨fun j => pieceH 0 768 0 rfl inb_S1x2x1536x256_S1x1x32x256_0_0_768_0 inb_S1536x512_S32x256_768_0 arg8 harg8 (runA.sl.v4 c arg3 harg3 arg4 harg4 arg18 x2 x3) x7 j, ?_⟩
  refine List.forall_mem_cons.2 ⟨fun j => pieceH 1 736 256 rfl inb_S1x2x1536x256_S1x1x32x256_0_1_736_0 inb_S1536x512_S32x256_736_256 arg8 harg8 (runA.sl.v4 c arg3 harg3 arg4 harg4 arg18 x2 x3) x7 j, ?_⟩
  refine List.forall_mem_cons.2 ⟨fun j => pieceH 0 736 0 rfl inb_S1x2x1536x256_S1x1x32x256_0_0_736_0 inb_S1536x512_S32x256_736_0 arg8 harg8 (runA.sl.v4 c arg3 harg3 arg4 harg4 arg18 x2 x3) x7 j, ?_⟩
  refine List.forall_mem_cons.2 ⟨fun j => pieceH 1 704 256 rfl inb_S1x2x1536x256_S1x1x32x256_0_1_704_0 inb_S1536x512_S32x256_704_256 arg8 harg8 (runA.sl.v4 c arg3 harg3 arg4 harg4 arg18 x2 x3) x7 j, ?_⟩
  refine List.forall_mem_cons.2 ⟨fun j => pieceH 0 704 0 rfl inb_S1x2x1536x256_S1x1x32x256_0_0_704_0 inb_S1536x512_S32x256_704_0 arg8 harg8 (runA.sl.v4 c arg3 harg3 arg4 harg4 arg18 x2 x3) x7 j, ?_⟩
  refine List.forall_mem_cons.2 ⟨fun j => pieceH 1 672 256 rfl inb_S1x2x1536x256_S1x1x32x256_0_1_672_0 inb_S1536x512_S32x256_672_256 arg8 harg8 (runA.sl.v4 c arg3 harg3 arg4 harg4 arg18 x2 x3) x7 j, ?_⟩
  refine List.forall_mem_cons.2 ⟨fun j => pieceH 0 672 0 rfl inb_S1x2x1536x256_S1x1x32x256_0_0_672_0 inb_S1536x512_S32x256_672_0 arg8 harg8 (runA.sl.v4 c arg3 harg3 arg4 harg4 arg18 x2 x3) x7 j, ?_⟩
  refine List.forall_mem_cons.2 ⟨fun j => pieceH 1 640 256 rfl inb_S1x2x1536x256_S1x1x32x256_0_1_640_0 inb_S1536x512_S32x256_640_256 arg8 harg8 (runA.sl.v4 c arg3 harg3 arg4 harg4 arg18 x2 x3) x7 j, ?_⟩
  refine List.forall_mem_cons.2 ⟨fun j => pieceH 0 640 0 rfl inb_S1x2x1536x256_S1x1x32x256_0_0_640_0 inb_S1536x512_S32x256_640_0 arg8 harg8 (runA.sl.v4 c arg3 harg3 arg4 harg4 arg18 x2 x3) x7 j, ?_⟩
  refine List.forall_mem_cons.2 ⟨fun j => pieceH 1 608 256 rfl inb_S1x2x1536x256_S1x1x32x256_0_1_608_0 inb_S1536x512_S32x256_608_256 arg8 harg8 (runA.sl.v4 c arg3 harg3 arg4 harg4 arg18 x2 x3) x7 j, ?_⟩
  refine List.forall_mem_cons.2 ⟨fun j => pieceH 0 608 0 rfl inb_S1x2x1536x256_S1x1x32x256_0_0_608_0 inb_S1536x512_S32x256_608_0 arg8 harg8 (runA.sl.v4 c arg3 harg3 arg4 harg4 arg18 x2 x3) x7 j, ?_⟩
  refine List.forall_mem_cons.2 ⟨fun j => pieceH 1 576 256 rfl inb_S1x2x1536x256_S1x1x32x256_0_1_576_0 inb_S1536x512_S32x256_576_256 arg8 harg8 (runA.sl.v4 c arg3 harg3 arg4 harg4 arg18 x2 x3) x7 j, ?_⟩
  refine List.forall_mem_cons.2 ⟨fun j => pieceH 0 576 0 rfl inb_S1x2x1536x256_S1x1x32x256_0_0_576_0 inb_S1536x512_S32x256_576_0 arg8 harg8 (runA.sl.v4 c arg3 harg3 arg4 harg4 arg18 x2 x3) x7 j, ?_⟩
  refine List.forall_mem_cons.2 ⟨fun j => pieceH 1 544 256 rfl inb_S1x2x1536x256_S1x1x32x256_0_1_544_0 inb_S1536x512_S32x256_544_256 arg8 harg8 (runA.sl.v4 c arg3 harg3 arg4 harg4 arg18 x2 x3) x7 j, ?_⟩
  refine List.forall_mem_cons.2 ⟨fun j => pieceH 0 544 0 rfl inb_S1x2x1536x256_S1x1x32x256_0_0_544_0 inb_S1536x512_S32x256_544_0 arg8 harg8 (runA.sl.v4 c arg3 harg3 arg4 harg4 arg18 x2 x3) x7 j, ?_⟩
  refine List.forall_mem_cons.2 ⟨fun j => pieceH 1 512 256 rfl inb_S1x2x1536x256_S1x1x32x256_0_1_512_0 inb_S1536x512_S32x256_512_256 arg8 harg8 (runA.sl.v4 c arg3 harg3 arg4 harg4 arg18 x2 x3) x7 j, ?_⟩
  refine List.forall_mem_cons.2 ⟨fun j => pieceH 0 512 0 rfl inb_S1x2x1536x256_S1x1x32x256_0_0_512_0 inb_S1536x512_S32x256_512_0 arg8 harg8 (runA.sl.v4 c arg3 harg3 arg4 harg4 arg18 x2 x3) x7 j, ?_⟩
  refine List.forall_mem_cons.2 ⟨fun j => pieceH 1 480 256 rfl inb_S1x2x1536x256_S1x1x32x256_0_1_480_0 inb_S1536x512_S32x256_480_256 arg8 harg8 (runA.sl.v4 c arg3 harg3 arg4 harg4 arg18 x2 x3) x7 j, ?_⟩
  refine List.forall_mem_cons.2 ⟨fun j => pieceH 0 480 0 rfl inb_S1x2x1536x256_S1x1x32x256_0_0_480_0 inb_S1536x512_S32x256_480_0 arg8 harg8 (runA.sl.v4 c arg3 harg3 arg4 harg4 arg18 x2 x3) x7 j, ?_⟩
  refine List.forall_mem_cons.2 ⟨fun j => pieceH 1 448 256 rfl inb_S1x2x1536x256_S1x1x32x256_0_1_448_0 inb_S1536x512_S32x256_448_256 arg8 harg8 (runA.sl.v4 c arg3 harg3 arg4 harg4 arg18 x2 x3) x7 j, ?_⟩
  refine List.forall_mem_cons.2 ⟨fun j => pieceH 0 448 0 rfl inb_S1x2x1536x256_S1x1x32x256_0_0_448_0 inb_S1536x512_S32x256_448_0 arg8 harg8 (runA.sl.v4 c arg3 harg3 arg4 harg4 arg18 x2 x3) x7 j, ?_⟩
  refine List.forall_mem_cons.2 ⟨fun j => pieceH 1 416 256 rfl inb_S1x2x1536x256_S1x1x32x256_0_1_416_0 inb_S1536x512_S32x256_416_256 arg8 harg8 (runA.sl.v4 c arg3 harg3 arg4 harg4 arg18 x2 x3) x7 j, ?_⟩
  refine List.forall_mem_cons.2 ⟨fun j => pieceH 0 416 0 rfl inb_S1x2x1536x256_S1x1x32x256_0_0_416_0 inb_S1536x512_S32x256_416_0 arg8 harg8 (runA.sl.v4 c arg3 harg3 arg4 harg4 arg18 x2 x3) x7 j, ?_⟩
  refine List.forall_mem_cons.2 ⟨fun j => pieceH 1 384 256 rfl inb_S1x2x1536x256_S1x1x32x256_0_1_384_0 inb_S1536x512_S32x256_384_256 arg8 harg8 (runA.sl.v4 c arg3 harg3 arg4 harg4 arg18 x2 x3) x7 j, ?_⟩
  refine List.forall_mem_cons.2 ⟨fun j => pieceH 0 384 0 rfl inb_S1x2x1536x256_S1x1x32x256_0_0_384_0 inb_S1536x512_S32x256_384_0 arg8 harg8 (runA.sl.v4 c arg3 harg3 arg4 harg4 arg18 x2 x3) x7 j, ?_⟩
  refine List.forall_mem_cons.2 ⟨fun j => pieceH 1 352 256 rfl inb_S1x2x1536x256_S1x1x32x256_0_1_352_0 inb_S1536x512_S32x256_352_256 arg8 harg8 (runA.sl.v4 c arg3 harg3 arg4 harg4 arg18 x2 x3) x7 j, ?_⟩
  refine List.forall_mem_cons.2 ⟨fun j => pieceH 0 352 0 rfl inb_S1x2x1536x256_S1x1x32x256_0_0_352_0 inb_S1536x512_S32x256_352_0 arg8 harg8 (runA.sl.v4 c arg3 harg3 arg4 harg4 arg18 x2 x3) x7 j, ?_⟩
  refine List.forall_mem_cons.2 ⟨fun j => pieceH 1 320 256 rfl inb_S1x2x1536x256_S1x1x32x256_0_1_320_0 inb_S1536x512_S32x256_320_256 arg8 harg8 (runA.sl.v4 c arg3 harg3 arg4 harg4 arg18 x2 x3) x7 j, ?_⟩
  refine List.forall_mem_cons.2 ⟨fun j => pieceH 0 320 0 rfl inb_S1x2x1536x256_S1x1x32x256_0_0_320_0 inb_S1536x512_S32x256_320_0 arg8 harg8 (runA.sl.v4 c arg3 harg3 arg4 harg4 arg18 x2 x3) x7 j, ?_⟩
  refine List.forall_mem_cons.2 ⟨fun j => pieceH 1 288 256 rfl inb_S1x2x1536x256_S1x1x32x256_0_1_288_0 inb_S1536x512_S32x256_288_256 arg8 harg8 (runA.sl.v4 c arg3 harg3 arg4 harg4 arg18 x2 x3) x7 j, ?_⟩
  refine List.forall_mem_cons.2 ⟨fun j => pieceH 0 288 0 rfl inb_S1x2x1536x256_S1x1x32x256_0_0_288_0 inb_S1536x512_S32x256_288_0 arg8 harg8 (runA.sl.v4 c arg3 harg3 arg4 harg4 arg18 x2 x3) x7 j, ?_⟩
  refine List.forall_mem_cons.2 ⟨fun j => pieceH 1 256 256 rfl inb_S1x2x1536x256_S1x1x32x256_0_1_256_0 inb_S1536x512_S32x256_256_256 arg8 harg8 (runA.sl.v4 c arg3 harg3 arg4 harg4 arg18 x2 x3) x7 j, ?_⟩
  refine List.forall_mem_cons.2 ⟨fun j => pieceH 0 256 0 rfl inb_S1x2x1536x256_S1x1x32x256_0_0_256_0 inb_S1536x512_S32x256_256_0 arg8 harg8 (runA.sl.v4 c arg3 harg3 arg4 harg4 arg18 x2 x3) x7 j, ?_⟩
  refine List.forall_mem_cons.2 ⟨fun j => pieceH 1 224 256 rfl inb_S1x2x1536x256_S1x1x32x256_0_1_224_0 inb_S1536x512_S32x256_224_256 arg8 harg8 (runA.sl.v4 c arg3 harg3 arg4 harg4 arg18 x2 x3) x7 j, ?_⟩
  refine List.forall_mem_cons.2 ⟨fun j => pieceH 0 224 0 rfl inb_S1x2x1536x256_S1x1x32x256_0_0_224_0 inb_S1536x512_S32x256_224_0 arg8 harg8 (runA.sl.v4 c arg3 harg3 arg4 harg4 arg18 x2 x3) x7 j, ?_⟩
  refine List.forall_mem_cons.2 ⟨fun j => pieceH 1 192 256 rfl inb_S1x2x1536x256_S1x1x32x256_0_1_192_0 inb_S1536x512_S32x256_192_256 arg8 harg8 (runA.sl.v4 c arg3 harg3 arg4 harg4 arg18 x2 x3) x7 j, ?_⟩
  refine List.forall_mem_cons.2 ⟨fun j => pieceH 0 192 0 rfl inb_S1x2x1536x256_S1x1x32x256_0_0_192_0 inb_S1536x512_S32x256_192_0 arg8 harg8 (runA.sl.v4 c arg3 harg3 arg4 harg4 arg18 x2 x3) x7 j, ?_⟩
  refine List.forall_mem_cons.2 ⟨fun j => pieceH 1 160 256 rfl inb_S1x2x1536x256_S1x1x32x256_0_1_160_0 inb_S1536x512_S32x256_160_256 arg8 harg8 (runA.sl.v4 c arg3 harg3 arg4 harg4 arg18 x2 x3) x7 j, ?_⟩
  refine List.forall_mem_cons.2 ⟨fun j => pieceH 0 160 0 rfl inb_S1x2x1536x256_S1x1x32x256_0_0_160_0 inb_S1536x512_S32x256_160_0 arg8 harg8 (runA.sl.v4 c arg3 harg3 arg4 harg4 arg18 x2 x3) x7 j, ?_⟩
  refine List.forall_mem_cons.2 ⟨fun j => pieceH 1 128 256 rfl inb_S1x2x1536x256_S1x1x32x256_0_1_128_0 inb_S1536x512_S32x256_128_256 arg8 harg8 (runA.sl.v4 c arg3 harg3 arg4 harg4 arg18 x2 x3) x7 j, ?_⟩
  refine List.forall_mem_cons.2 ⟨fun j => pieceH 0 128 0 rfl inb_S1x2x1536x256_S1x1x32x256_0_0_128_0 inb_S1536x512_S32x256_128_0 arg8 harg8 (runA.sl.v4 c arg3 harg3 arg4 harg4 arg18 x2 x3) x7 j, ?_⟩
  refine List.forall_mem_cons.2 ⟨fun j => pieceH 1 96 256 rfl inb_S1x2x1536x256_S1x1x32x256_0_1_96_0 inb_S1536x512_S32x256_96_256 arg8 harg8 (runA.sl.v4 c arg3 harg3 arg4 harg4 arg18 x2 x3) x7 j, ?_⟩
  refine List.forall_mem_cons.2 ⟨fun j => pieceH 0 96 0 rfl inb_S1x2x1536x256_S1x1x32x256_0_0_96_0 inb_S1536x512_S32x256_96_0 arg8 harg8 (runA.sl.v4 c arg3 harg3 arg4 harg4 arg18 x2 x3) x7 j, ?_⟩
  refine List.forall_mem_cons.2 ⟨fun j => pieceH 1 64 256 rfl inb_S1x2x1536x256_S1x1x32x256_0_1_64_0 inb_S1536x512_S32x256_64_256 arg8 harg8 (runA.sl.v4 c arg3 harg3 arg4 harg4 arg18 x2 x3) x7 j, ?_⟩
  refine List.forall_mem_cons.2 ⟨fun j => pieceH 0 64 0 rfl inb_S1x2x1536x256_S1x1x32x256_0_0_64_0 inb_S1536x512_S32x256_64_0 arg8 harg8 (runA.sl.v4 c arg3 harg3 arg4 harg4 arg18 x2 x3) x7 j, ?_⟩
  refine List.forall_mem_cons.2 ⟨fun j => pieceH 1 32 256 rfl inb_S1x2x1536x256_S1x1x32x256_0_1_32_0 inb_S1536x512_S32x256_32_256 arg8 harg8 (runA.sl.v4 c arg3 harg3 arg4 harg4 arg18 x2 x3) x7 j, ?_⟩
  refine List.forall_mem_cons.2 ⟨fun j => pieceH 0 32 0 rfl inb_S1x2x1536x256_S1x1x32x256_0_0_32_0 inb_S1536x512_S32x256_32_0 arg8 harg8 (runA.sl.v4 c arg3 harg3 arg4 harg4 arg18 x2 x3) x7 j, ?_⟩
  refine List.forall_mem_cons.2 ⟨fun j => pieceH 1 0 256 rfl inb_S1x2x1536x256_S1x1x32x256_0_1_0_0 inb_S1536x512_S32x256_0_256 arg8 harg8 (runA.sl.v4 c arg3 harg3 arg4 harg4 arg18 x2 x3) x7 j, ?_⟩
  refine List.forall_mem_cons.2 ⟨fun j => pieceH 0 0 0 rfl inb_S1x2x1536x256_S1x1x32x256_0_0_0_0 inb_S1536x512_S32x256_0_0 arg8 harg8 (runA.sl.v4 c arg3 harg3 arg4 harg4 arg18 x2 x3) x7 j, ?_⟩
  exact fun p hp => absurd hp List.not_mem_nil

end Cert.GradientsIdeal.Hand

end
-- ==== Proof.GReadB.lean ====
module

public import proofs.«01_k».proof.Proof.GSpec

@[expose] public section

set_option maxRecDepth 16384

noncomputable section

namespace Cert.GradientsIdeal.Hand

open Cert.GradientsIdeal Cert.GradientsIdeal.Gen
open Idealize.ShloMosaic hiding ix0 ix1 ix2 ix3 ix4 ix5
open Idealize.ShloMosaic.ValueIdx

variable {F : FTy → Type} [FloatOps F]

set_option maxHeartbeats 4000000 in
/-- Every stored piece of the activation's codes is that piece of `quantA` of the block. -/
theorem piecesB12 (c : Dev nD) (arg7 : Memref sig .tc .vmem S1x1536x256 .bf16) (harg7 : arg7.IsWhole) (arg18 : Memref sig .tc .vmem S8x128 .f32) (harg18 : arg18.IsWhole) (y17 : Vec F S8x128 .f32) (x6 : Vec F S1x1536x256 .bf16) :
    ∀ p ∈ runB.sl.H12_48 c arg7 harg7 arg18 harg18 x6 y17, ∀ j, p.2 j = quantA (View.readAt (Elt F) arg18.view (Rect.unit (s := S8x128) ![0, 0] S1x1.size inb_S8x128_S1x1_0_0).toLoadRect (harg18.unread y17)) x6 (p.1.emb j) := by
  unfold runB.sl.H12_48
  refine List.forall_mem_cons.2 ⟨fun j => pieceA 1504 inb_S1x1536x256_S1x32x256_0_1504_0 inb_S1536x256_S32x256_1504_0 arg7 harg7 (View.readAt (Elt F) arg18.view (Rect.unit (s := S8x128) ![0, 0] S1x1.size inb_S8x128_S1x1_0_0).toLoadRect (harg18.unread y17)) x6 j, ?_⟩
  refine List.forall_mem_cons.2 ⟨fun j => pieceA 1472 inb_S1x1536x256_S1x32x256_0_1472_0 inb_S1536x256_S32x256_1472_0 arg7 harg7 (View.readAt (Elt F) arg18.view (Rect.unit (s := S8x128) ![0, 0] S1x1.size inb_S8x128_S1x1_0_0).toLoadRect (harg18.unread y17)) x6 j, ?_⟩
  refine List.forall_mem_cons.2 ⟨fun j => pieceA 1440 inb_S1x1536x256_S1x32x256_0_1440_0 inb_S1536x256_S32x256_1440_0 arg7 harg7 (View.readAt (Elt F) arg18.view (Rect.unit (s := S8x128) ![0, 0] S1x1.size inb_S8x128_S1x1_0_0).toLoadRect (harg18.unread y17)) x6 j, ?_⟩
  refine List.forall_mem_cons.2 ⟨fun j => pieceA 1408 inb_S1x1536x256_S1x32x256_0_1408_0 inb_S1536x256_S32x256_1408_0 arg7 harg7 (View.readAt (Elt F) arg18.view (Rect.unit (s := S8x128) ![0, 0] S1x1.size inb_S8x128_S1x1_0_0).toLoadRect (harg18.unread y17)) x6 j, ?_⟩
  refine List.forall_mem_cons.2 ⟨fun j => pieceA 1376 inb_S1x1536x256_S1x32x256_0_1376_0 inb_S1536x256_S32x256_1376_0 arg7 harg7 (View.readAt (Elt F) arg18.view (Rect.unit (s := S8x128) ![0, 0] S1x1.size inb_S8x128_S1x1_0_0).toLoadRect (harg18.unread y17)) x6 j, ?_⟩
  refine List.forall_mem_cons.2 ⟨fun j => pieceA 1344 inb_S1x1536x256_S1x32x256_0_1344_0 inb_S1536x256_S32x256_1344_0 arg7 harg7 (View.readAt (Elt F) arg18.view (Rect.unit (s := S8x128) ![0, 0] S1x1.size inb_S8x128_S1x1_0_0).toLoadRect (harg18.unread y17)) x6 j, ?_⟩
  refine List.forall_mem_cons.2 ⟨fun j => pieceA 1312 inb_S1x1536x256_S1x32x256_0_1312_0 inb_S1536x256_S32x256_1312_0 arg7 harg7 (View.readAt (Elt F) arg18.view (Rect.unit (s := S8x128) ![0, 0] S1x1.size inb_S8x128_S1x1_0_0).toLoadRect (harg18.unread y17)) x6 j, ?_⟩
  refine List.forall_mem_cons.2 ⟨fun j => pieceA 1280 inb_S1x1536x256_S1x32x256_0_1280_0 inb_S1536x256_S32x256_1280_0 arg7 harg7 (View.readAt (Elt F) arg18.view (Rect.unit (s := S8x128) ![0, 0] S1x1.size inb_S8x128_S1x1_0_0).toLoadRect (harg18.unread y17)) x6 j, ?_⟩
  refine List.forall_mem_cons.2 ⟨fun j => pieceA 1248 inb_S1x1536x256_S1x32x256_0_1248_0 inb_S1536x256_S32x256_1248_0 arg7 harg7 (View.readAt (Elt F) arg18.view (Rect.unit (s := S8x128) ![0, 0] S1x1.size inb_S8x128_S1x1_0_0).toLoadRect (harg18.unread y17)) x6 j, ?_⟩
  refine List.forall_mem_cons.2 ⟨fun j => pieceA 1216 inb_S1x1536x256_S1x32x256_0_1216_0 inb_S1536x256_S32x256_1216_0 arg7 harg7 (View.readAt (Elt F) arg18.view (Rect.unit (s := S8x128) ![0, 0] S1x1.size inb_S8x128_S1x1_0_0).toLoadRect (harg18.unread y17)) x6 j, ?_⟩
  refine List.forall_mem_cons.2 ⟨fun j => pieceA 1184 inb_S1x1536x256_S1x32x256_0_1184_0 inb_S1536x256_S32x256_1184_0 arg7 harg7 (View.readAt (Elt F) arg18.view (Rect.unit (s := S8x128) ![0, 0] S1x1.size inb_S8x128_S1x1_0_0).toLoadRect (harg18.unread y17)) x6 j, ?_⟩
  refine List.forall_mem_cons.2 ⟨fun j => pieceA 1152 inb_S1x1536x256_S1x32x256_0_1152_0 inb_S1536x256_S32x256_1152_0 arg7 harg7 (View.readAt (Elt F) arg18.view (Rect.unit (s := S8x128) ![0, 0] S1x1.size inb_S8x128_S1x1_0_0).toLoadRect (harg18.unread y17)) x6 j, ?_⟩
  refine List.forall_mem_cons.2 ⟨fun j => pieceA 1120 inb_S1x1536x256_S1x32x256_0_1120_0 inb_S1536x256_S32x256_1120_0 arg7 harg7 (View.readAt (Elt F) arg18.view (Rect.unit (s := S8x128) ![0, 0] S1x1.size inb_S8x128_S1x1_0_0).toLoadRect (harg18.unread y17)) x6 j, ?_⟩
  refine List.forall_mem_cons.2 ⟨fun j => pieceA 1088 inb_S1x1536x256_S1x32x256_0_1088_0 inb_S1536x256_S32x256_1088_0 arg7 harg7 (View.readAt (Elt F) arg18.view (Rect.unit (s := S8x128) ![0, 0] S1x1.size inb_S8x128_S1x1_0_0).toLoadRect (harg18.unread y17)) x6 j, ?_⟩
  refine List.forall_mem_cons.2 ⟨fun j => pieceA 1056 inb_S1x1536x256_S1x32x256_0_1056_0 inb_S1536x256_S32x256_1056_0 arg7 harg7 (View.readAt (Elt F) arg18.view (Rect.unit (s := S8x128) ![0, 0] S1x1.size inb_S8x128_S1x1_0_0).toLoadRect (harg18.unread y17)) x6 j, ?_⟩
  refine List.forall_mem_cons.2 ⟨fun j => pieceA 1024 inb_S1x1536x256_S1x32x256_0_1024_0 inb_S1536x256_S32x256_1024_0 arg7 harg7 (View.readAt (Elt F) arg18.view (Rect.unit (s := S8x128) ![0, 0] S1x1.size inb_S8x128_S1x1_0_0).toLoadRect (harg18.unread y17)) x6 j, ?_⟩
  refine List.forall_mem_cons.2 ⟨fun j => pieceA 992 inb_S1x1536x256_S1x32x256_0_992_0 inb_S1536x256_S32x256_992_0 arg7 harg7 (View.readAt (Elt F) arg18.view (Rect.unit (s := S8x128) ![0, 0] S1x1.size inb_S8x128_S1x1_0_0).toLoadRect (harg18.unread y17)) x6 j, ?_⟩
  refine List.forall_mem_cons.2 ⟨fun j => pieceA 960 inb_S1x1536x256_S1x32x256_0_960_0 inb_S1536x256_S32x256_960_0 arg7 harg7 (View.readAt (Elt F) arg18.view (Rect.unit (s := S8x128) ![0, 0] S1x1.size inb_S8x128_S1x1_0_0).toLoadRect (harg18.unread y17)) x6 j, ?_⟩
  refine List.forall_mem_cons.2 ⟨fun j => pieceA 928 inb_S1x1536x256_S1x32x256_0_928_0 inb_S1536x256_S32x256_928_0 arg7 harg7 (View.readAt (Elt F) arg18.view (Rect.unit (s := S8x128) ![0, 0] S1x1.size inb_S8x128_S1x1_0_0).toLoadRect (harg18.unread y17)) x6 j, ?_⟩
  refine List.forall_mem_cons.2 ⟨fun j => pieceA 896 inb_S1x1536x256_S1x32x256_0_896_0 inb_S1536x256_S32x256_896_0 arg7 harg7 (View.readAt (Elt F) arg18.view (Rect.unit (s := S8x128) ![0, 0] S1x1.size inb_S8x128_S1x1_0_0).toLoadRect (harg18.unread y17)) x6 j, ?_⟩
  refine List.forall_mem_cons.2 ⟨fun j => pieceA 864 inb_S1x1536x256_S1x32x256_0_864_0 inb_S1536x256_S32x256_864_0 arg7 harg7 (View.readAt (Elt F) arg18.view (Rect.unit (s := S8x128) ![0, 0] S1x1.size inb_S8x128_S1x1_0_0).toLoadRect (harg18.unread y17)) x6 j, ?_⟩
  refine List.forall_mem_cons.2 ⟨fun j => pieceA 832 inb_S1x1536x256_S1x32x256_0_832_0 inb_S1536x256_S32x256_832_0 arg7 harg7 (View.readAt (Elt F) arg18.view (Rect.unit (s := S8x128) ![0, 0] S1x1.size inb_S8x128_S1x1_0_0).toLoadRect (harg18.unread y17)) x6 j, ?_⟩
  refine List.forall_mem_cons.2 ⟨fun j => pieceA 800 inb_S1x1536x256_S1x32x256_0_800_0 inb_S1536x256_S32x256_800_0 arg7 harg7 (View.readAt (Elt F) arg18.view (Rect.unit (s := S8x128) ![0, 0] S1x1.size inb_S8x128_S1x1_0_0).toLoadRect (harg18.unread y17)) x6 j, ?_⟩
  refine List.forall_mem_cons.2 ⟨fun j => pieceA 768 inb_S1x1536x256_S1x32x256_0_768_0 inb_S1536x256_S32x256_768_0 arg7 harg7 (View.readAt (Elt F) arg18.view (Rect.unit (s := S8x128) ![0, 0] S1x1.size inb_S8x128_S1x1_0_0).toLoadRect (harg18.unread y17)) x6 j, ?_⟩
  refine List.forall_mem_cons.2 ⟨fun j => pieceA 736 inb_S1x1536x256_S1x32x256_0_736_0 inb_S1536x256_S32x256_736_0 arg7 harg7 (View.readAt (Elt F) arg18.view (Rect.unit (s := S8x128) ![0, 0] S1x1.size inb_S8x128_S1x1_0_0).toLoadRect (harg18.unread y17)) x6 j, ?_⟩
  refine List.forall_mem_cons.2 ⟨fun j => pieceA 704 inb_S1x1536x256_S1x32x256_0_704_0 inb_S1536x256_S32x256_704_0 arg7 harg7 (View.readAt (Elt F) arg18.view (Rect.unit (s := S8x128) ![0, 0] S1x1.size inb_S8x128_S1x1_0_0).toLoadRect (harg18.unread y17)) x6 j, ?_⟩
  refine List.forall_mem_cons.2 ⟨fun j => pieceA 672 inb_S1x1536x256_S1x32x256_0_672_0 inb_S1536x256_S32x256_672_0 arg7 harg7 (View.readAt (Elt F) arg18.view (Rect.unit (s := S8x128) ![0, 0] S1x1.size inb_S8x128_S1x1_0_0).toLoadRect (harg18.unread y17)) x6 j, ?_⟩
  refine List.forall_mem_cons.2 ⟨fun j => pieceA 640 inb_S1x1536x256_S1x32x256_0_640_0 inb_S1536x256_S32x256_640_0 arg7 harg7 (View.readAt (Elt F) arg18.view (Rect.unit (s := S8x128) ![0, 0] S1x1.size inb_S8x128_S1x1_0_0).toLoadRect (harg18.unread y17)) x6 j, ?_⟩
  refine List.forall_mem_cons.2 ⟨fun j => pieceA 608 inb_S1x1536x256_S1x32x256_0_608_0 inb_S1536x256_S32x256_608_0 arg7 harg7 (View.readAt (Elt F) arg18.view (Rect.unit (s := S8x128) ![0, 0] S1x1.size inb_S8x128_S1x1_0_0).toLoadRect (harg18.unread y17)) x6 j, ?_⟩
  refine List.forall_mem_cons.2 ⟨fun j => pieceA 576 inb_S1x1536x256_S1x32x256_0_576_0 inb_S1536x256_S32x256_576_0 arg7 harg7 (View.readAt (Elt F) arg18.view (Rect.unit (s := S8x128) ![0, 0] S1x1.size inb_S8x128_S1x1_0_0).toLoadRect (harg18.unread y17)) x6 j, ?_⟩
  refine List.forall_mem_cons.2 ⟨fun j => pieceA 544 inb_S1x1536x256_S1x32x256_0_544_0 inb_S1536x256_S32x256_544_0 arg7 harg7 (View.readAt (Elt F) arg18.view (Rect.unit (s := S8x128) ![0, 0] S1x1.size inb_S8x128_S1x1_0_0).toLoadRect (harg18.unread y17)) x6 j, ?_⟩
  refine List.forall_mem_cons.2 ⟨fun j => pieceA 512 inb_S1x1536x256_S1x32x256_0_512_0 inb_S1536x256_S32x256_512_0 arg7 harg7 (View.readAt (Elt F) arg18.view (Rect.unit (s := S8x128) ![0, 0] S1x1.size inb_S8x128_S1x1_0_0).toLoadRect (harg18.unread y17)) x6 j, ?_⟩
  refine List.forall_mem_cons.2 ⟨fun j => pieceA 480 inb_S1x1536x256_S1x32x256_0_480_0 inb_S1536x256_S32x256_480_0 arg7 harg7 (View.readAt (Elt F) arg18.view (Rect.unit (s := S8x128) ![0, 0] S1x1.size inb_S8x128_S1x1_0_0).toLoadRect (harg18.unread y17)) x6 j, ?_⟩
  refine List.forall_mem_cons.2 ⟨fun j => pieceA 448 inb_S1x1536x256_S1x32x256_0_448_0 inb_S1536x256_S32x256_448_0 arg7 harg7 (View.readAt (Elt F) arg18.view (Rect.unit (s := S8x128) ![0, 0] S1x1.size inb_S8x128_S1x1_0_0).toLoadRect (harg18.unread y17)) x6 j, ?_⟩
  refine List.forall_mem_cons.2 ⟨fun j => pieceA 416 inb_S1x1536x256_S1x32x256_0_416_0 inb_S1536x256_S32x256_416_0 arg7 harg7 (View.readAt (Elt F) arg18.view (Rect.unit (s := S8x128) ![0, 0] S1x1.size inb_S8x128_S1x1_0_0).toLoadRect (harg18.unread y17)) x6 j, ?_⟩
  refine List.forall_mem_cons.2 ⟨fun j => pieceA 384 inb_S1x1536x256_S1x32x256_0_384_0 inb_S1536x256_S32x256_384_0 arg7 harg7 (View.readAt (Elt F) arg18.view (Rect.unit (s := S8x128) ![0, 0] S1x1.size inb_S8x128_S1x1_0_0).toLoadRect (harg18.unread y17)) x6 j, ?_⟩
  refine List.forall_mem_cons.2 ⟨fun j => pieceA 352 inb_S1x1536x256_S1x32x256_0_352_0 inb_S1536x256_S32x256_352_0 arg7 harg7 (View.readAt (Elt F) arg18.view (Rect.unit (s := S8x128) ![0, 0] S1x1.size inb_S8x128_S1x1_0_0).toLoadRect (harg18.unread y17)) x6 j, ?_⟩
  refine List.forall_mem_cons.2 ⟨fun j => pieceA 320 inb_S1x1536x256_S1x32x256_0_320_0 inb_S1536x256_S32x256_320_0 arg7 harg7 (View.readAt (Elt F) arg18.view (Rect.unit (s := S8x128) ![0, 0] S1x1.size inb_S8x128_S1x1_0_0).toLoadRect (harg18.unread y17)) x6 j, ?_⟩
  refine List.forall_mem_cons.2 ⟨fun j => pieceA 288 inb_S1x1536x256_S1x32x256_0_288_0 inb_S1536x256_S32x256_288_0 arg7 harg7 (View.readAt (Elt F) arg18.view (Rect.unit (s := S8x128) ![0, 0] S1x1.size inb_S8x128_S1x1_0_0).toLoadRect (harg18.unread y17)) x6 j, ?_⟩
  refine List.forall_mem_cons.2 ⟨fun j => pieceA 256 inb_S1x1536x256_S1x32x256_0_256_0 inb_S1536x256_S32x256_256_0 arg7 harg7 (View.readAt (Elt F) arg18.view (Rect.unit (s := S8x128) ![0, 0] S1x1.size inb_S8x128_S1x1_0_0).toLoadRect (harg18.unread y17)) x6 j, ?_⟩
  refine List.forall_mem_cons.2 ⟨fun j => pieceA 224 inb_S1x1536x256_S1x32x256_0_224_0 inb_S1536x256_S32x256_224_0 arg7 harg7 (View.readAt (Elt F) arg18.view (Rect.unit (s := S8x128) ![0, 0] S1x1.size inb_S8x128_S1x1_0_0).toLoadRect (harg18.unread y17)) x6 j, ?_⟩
  refine List.forall_mem_cons.2 ⟨fun j => pieceA 192 inb_S1x1536x256_S1x32x256_0_192_0 inb_S1536x256_S32x256_192_0 arg7 harg7 (View.readAt (Elt F) arg18.view (Rect.unit (s := S8x128) ![0, 0] S1x1.size inb_S8x128_S1x1_0_0).toLoadRect (harg18.unread y17)) x6 j, ?_⟩
  refine List.forall_mem_cons.2 ⟨fun j => pieceA 160 inb_S1x1536x256_S1x32x256_0_160_0 inb_S1536x256_S32x256_160_0 arg7 harg7 (View.readAt (Elt F) arg18.view (Rect.unit (s := S8x128) ![0, 0] S1x1.size inb_S8x128_S1x1_0_0).toLoadRect (harg18.unread y17)) x6 j, ?_⟩
  refine List.forall_mem_cons.2 ⟨fun j => pieceA 128 inb_S1x1536x256_S1x32x256_0_128_0 inb_S1536x256_S32x256_128_0 arg7 harg7 (View.readAt (Elt F) arg18.view (Rect.unit (s := S8x128) ![0, 0] S1x1.size inb_S8x128_S1x1_0_0).toLoadRect (harg18.unread y17)) x6 j, ?_⟩
  refine List.forall_mem_cons.2 ⟨fun j => pieceA 96 inb_S1x1536x256_S1x32x256_0_96_0 inb_S1536x256_S32x256_96_0 arg7 harg7 (View.readAt (Elt F) arg18.view (Rect.unit (s := S8x128) ![0, 0] S1x1.size inb_S8x128_S1x1_0_0).toLoadRect (harg18.unread y17)) x6 j, ?_⟩
  refine List.forall_mem_cons.2 ⟨fun j => pieceA 64 inb_S1x1536x256_S1x32x256_0_64_0 inb_S1536x256_S32x256_64_0 arg7 harg7 (View.readAt (Elt F) arg18.view (Rect.unit (s := S8x128) ![0, 0] S1x1.size inb_S8x128_S1x1_0_0).toLoadRect (harg18.unread y17)) x6 j, ?_⟩
  refine List.forall_mem_cons.2 ⟨fun j => pieceA 32 inb_S1x1536x256_S1x32x256_0_32_0 inb_S1536x256_S32x256_32_0 arg7 harg7 (View.readAt (Elt F) arg18.view (Rect.unit (s := S8x128) ![0, 0] S1x1.size inb_S8x128_S1x1_0_0).toLoadRect (harg18.unread y17)) x6 j, ?_⟩
  refine List.forall_mem_cons.2 ⟨fun j => pieceA 0 inb_S1x1536x256_S1x32x256_0_0_0 inb_S1536x256_S32x256_0_0 arg7 harg7 (View.readAt (Elt F) arg18.view (Rect.unit (s := S8x128) ![0, 0] S1x1.size inb_S8x128_S1x1_0_0).toLoadRect (harg18.unread y17)) x6 j, ?_⟩
  exact fun p hp => absurd hp List.not_mem_nil

set_option maxHeartbeats 4000000 in
/-- Every stored piece of the hidden gradient's codes is that piece of `quantH` of the block. -/
theorem piecesB13 (c : Dev nD) (arg8 : Memref sig .tc .vmem S1x2x1536x256 .bf16) (harg8 : arg8.IsWhole) (arg18 : Memref sig .tc .vmem S8x128 .f32) (harg18 : arg18.IsWhole) (y17 : Vec F S8x128 .f32) (x7 : Vec F S1x2x1536x256 .bf16) :
    ∀ p ∈ runB.sl.H13_96 c arg8 harg8 arg18 harg18 x7 y17, ∀ j, p.2 j = quantH (View.readAt (Elt F) arg18.view (Rect.unit (s := S8x128) ![1, 0] S1x1.size inb_S8x128_S1x1_1_0).toLoadRect (harg18.unread y17)) x7 (p.1.emb j) := by
  unfold runB.sl.H13_96
  refine List.forall_mem_cons.2 ⟨fun j => pieceH 1 1504 256 rfl inb_S1x2x1536x256_S1x1x32x256_0_1_1504_0 inb_S1536x512_S32x256_1504_256 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 0 1504 0 rfl inb_S1x2x1536x256_S1x1x32x256_0_0_1504_0 inb_S1536x512_S32x256_1504_0 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 1 1472 256 rfl inb_S1x2x1536x256_S1x1x32x256_0_1_1472_0 inb_S1536x512_S32x256_1472_256 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 0 1472 0 rfl inb_S1x2x1536x256_S1x1x32x256_0_0_1472_0 inb_S1536x512_S32x256_1472_0 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 1 1440 256 rfl inb_S1x2x1536x256_S1x1x32x256_0_1_1440_0 inb_S1536x512_S32x256_1440_256 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 0 1440 0 rfl inb_S1x2x1536x256_S1x1x32x256_0_0_1440_0 inb_S1536x512_S32x256_1440_0 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 1 1408 256 rfl inb_S1x2x1536x256_S1x1x32x256_0_1_1408_0 inb_S1536x512_S32x256_1408_256 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 0 1408 0 rfl inb_S1x2x1536x256_S1x1x32x256_0_0_1408_0 inb_S1536x512_S32x256_1408_0 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 1 1376 256 rfl inb_S1x2x1536x256_S1x1x32x256_0_1_1376_0 inb_S1536x512_S32x256_1376_256 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 0 1376 0 rfl inb_S1x2x1536x256_S1x1x32x256_0_0_1376_0 inb_S1536x512_S32x256_1376_0 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 1 1344 256 rfl inb_S1x2x1536x256_S1x1x32x256_0_1_1344_0 inb_S1536x512_S32x256_1344_256 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 0 1344 0 rfl inb_S1x2x1536x256_S1x1x32x256_0_0_1344_0 inb_S1536x512_S32x256_1344_0 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 1 1312 256 rfl inb_S1x2x1536x256_S1x1x32x256_0_1_1312_0 inb_S1536x512_S32x256_1312_256 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 0 1312 0 rfl inb_S1x2x1536x256_S1x1x32x256_0_0_1312_0 inb_S1536x512_S32x256_1312_0 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 1 1280 256 rfl inb_S1x2x1536x256_S1x1x32x256_0_1_1280_0 inb_S1536x512_S32x256_1280_256 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 0 1280 0 rfl inb_S1x2x1536x256_S1x1x32x256_0_0_1280_0 inb_S1536x512_S32x256_1280_0 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 1 1248 256 rfl inb_S1x2x1536x256_S1x1x32x256_0_1_1248_0 inb_S1536x512_S32x256_1248_256 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 0 1248 0 rfl inb_S1x2x1536x256_S1x1x32x256_0_0_1248_0 inb_S1536x512_S32x256_1248_0 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 1 1216 256 rfl inb_S1x2x1536x256_S1x1x32x256_0_1_1216_0 inb_S1536x512_S32x256_1216_256 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 0 1216 0 rfl inb_S1x2x1536x256_S1x1x32x256_0_0_1216_0 inb_S1536x512_S32x256_1216_0 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 1 1184 256 rfl inb_S1x2x1536x256_S1x1x32x256_0_1_1184_0 inb_S1536x512_S32x256_1184_256 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 0 1184 0 rfl inb_S1x2x1536x256_S1x1x32x256_0_0_1184_0 inb_S1536x512_S32x256_1184_0 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 1 1152 256 rfl inb_S1x2x1536x256_S1x1x32x256_0_1_1152_0 inb_S1536x512_S32x256_1152_256 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 0 1152 0 rfl inb_S1x2x1536x256_S1x1x32x256_0_0_1152_0 inb_S1536x512_S32x256_1152_0 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 1 1120 256 rfl inb_S1x2x1536x256_S1x1x32x256_0_1_1120_0 inb_S1536x512_S32x256_1120_256 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 0 1120 0 rfl inb_S1x2x1536x256_S1x1x32x256_0_0_1120_0 inb_S1536x512_S32x256_1120_0 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 1 1088 256 rfl inb_S1x2x1536x256_S1x1x32x256_0_1_1088_0 inb_S1536x512_S32x256_1088_256 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 0 1088 0 rfl inb_S1x2x1536x256_S1x1x32x256_0_0_1088_0 inb_S1536x512_S32x256_1088_0 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 1 1056 256 rfl inb_S1x2x1536x256_S1x1x32x256_0_1_1056_0 inb_S1536x512_S32x256_1056_256 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 0 1056 0 rfl inb_S1x2x1536x256_S1x1x32x256_0_0_1056_0 inb_S1536x512_S32x256_1056_0 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 1 1024 256 rfl inb_S1x2x1536x256_S1x1x32x256_0_1_1024_0 inb_S1536x512_S32x256_1024_256 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 0 1024 0 rfl inb_S1x2x1536x256_S1x1x32x256_0_0_1024_0 inb_S1536x512_S32x256_1024_0 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 1 992 256 rfl inb_S1x2x1536x256_S1x1x32x256_0_1_992_0 inb_S1536x512_S32x256_992_256 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 0 992 0 rfl inb_S1x2x1536x256_S1x1x32x256_0_0_992_0 inb_S1536x512_S32x256_992_0 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 1 960 256 rfl inb_S1x2x1536x256_S1x1x32x256_0_1_960_0 inb_S1536x512_S32x256_960_256 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 0 960 0 rfl inb_S1x2x1536x256_S1x1x32x256_0_0_960_0 inb_S1536x512_S32x256_960_0 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 1 928 256 rfl inb_S1x2x1536x256_S1x1x32x256_0_1_928_0 inb_S1536x512_S32x256_928_256 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 0 928 0 rfl inb_S1x2x1536x256_S1x1x32x256_0_0_928_0 inb_S1536x512_S32x256_928_0 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 1 896 256 rfl inb_S1x2x1536x256_S1x1x32x256_0_1_896_0 inb_S1536x512_S32x256_896_256 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 0 896 0 rfl inb_S1x2x1536x256_S1x1x32x256_0_0_896_0 inb_S1536x512_S32x256_896_0 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 1 864 256 rfl inb_S1x2x1536x256_S1x1x32x256_0_1_864_0 inb_S1536x512_S32x256_864_256 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 0 864 0 rfl inb_S1x2x1536x256_S1x1x32x256_0_0_864_0 inb_S1536x512_S32x256_864_0 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 1 832 256 rfl inb_S1x2x1536x256_S1x1x32x256_0_1_832_0 inb_S1536x512_S32x256_832_256 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 0 832 0 rfl inb_S1x2x1536x256_S1x1x32x256_0_0_832_0 inb_S1536x512_S32x256_832_0 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 1 800 256 rfl inb_S1x2x1536x256_S1x1x32x256_0_1_800_0 inb_S1536x512_S32x256_800_256 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 0 800 0 rfl inb_S1x2x1536x256_S1x1x32x256_0_0_800_0 inb_S1536x512_S32x256_800_0 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 1 768 256 rfl inb_S1x2x1536x256_S1x1x32x256_0_1_768_0 inb_S1536x512_S32x256_768_256 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 0 768 0 rfl inb_S1x2x1536x256_S1x1x32x256_0_0_768_0 inb_S1536x512_S32x256_768_0 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 1 736 256 rfl inb_S1x2x1536x256_S1x1x32x256_0_1_736_0 inb_S1536x512_S32x256_736_256 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 0 736 0 rfl inb_S1x2x1536x256_S1x1x32x256_0_0_736_0 inb_S1536x512_S32x256_736_0 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 1 704 256 rfl inb_S1x2x1536x256_S1x1x32x256_0_1_704_0 inb_S1536x512_S32x256_704_256 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 0 704 0 rfl inb_S1x2x1536x256_S1x1x32x256_0_0_704_0 inb_S1536x512_S32x256_704_0 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 1 672 256 rfl inb_S1x2x1536x256_S1x1x32x256_0_1_672_0 inb_S1536x512_S32x256_672_256 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 0 672 0 rfl inb_S1x2x1536x256_S1x1x32x256_0_0_672_0 inb_S1536x512_S32x256_672_0 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 1 640 256 rfl inb_S1x2x1536x256_S1x1x32x256_0_1_640_0 inb_S1536x512_S32x256_640_256 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 0 640 0 rfl inb_S1x2x1536x256_S1x1x32x256_0_0_640_0 inb_S1536x512_S32x256_640_0 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 1 608 256 rfl inb_S1x2x1536x256_S1x1x32x256_0_1_608_0 inb_S1536x512_S32x256_608_256 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 0 608 0 rfl inb_S1x2x1536x256_S1x1x32x256_0_0_608_0 inb_S1536x512_S32x256_608_0 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 1 576 256 rfl inb_S1x2x1536x256_S1x1x32x256_0_1_576_0 inb_S1536x512_S32x256_576_256 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 0 576 0 rfl inb_S1x2x1536x256_S1x1x32x256_0_0_576_0 inb_S1536x512_S32x256_576_0 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 1 544 256 rfl inb_S1x2x1536x256_S1x1x32x256_0_1_544_0 inb_S1536x512_S32x256_544_256 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 0 544 0 rfl inb_S1x2x1536x256_S1x1x32x256_0_0_544_0 inb_S1536x512_S32x256_544_0 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 1 512 256 rfl inb_S1x2x1536x256_S1x1x32x256_0_1_512_0 inb_S1536x512_S32x256_512_256 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 0 512 0 rfl inb_S1x2x1536x256_S1x1x32x256_0_0_512_0 inb_S1536x512_S32x256_512_0 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 1 480 256 rfl inb_S1x2x1536x256_S1x1x32x256_0_1_480_0 inb_S1536x512_S32x256_480_256 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 0 480 0 rfl inb_S1x2x1536x256_S1x1x32x256_0_0_480_0 inb_S1536x512_S32x256_480_0 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 1 448 256 rfl inb_S1x2x1536x256_S1x1x32x256_0_1_448_0 inb_S1536x512_S32x256_448_256 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 0 448 0 rfl inb_S1x2x1536x256_S1x1x32x256_0_0_448_0 inb_S1536x512_S32x256_448_0 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 1 416 256 rfl inb_S1x2x1536x256_S1x1x32x256_0_1_416_0 inb_S1536x512_S32x256_416_256 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 0 416 0 rfl inb_S1x2x1536x256_S1x1x32x256_0_0_416_0 inb_S1536x512_S32x256_416_0 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 1 384 256 rfl inb_S1x2x1536x256_S1x1x32x256_0_1_384_0 inb_S1536x512_S32x256_384_256 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 0 384 0 rfl inb_S1x2x1536x256_S1x1x32x256_0_0_384_0 inb_S1536x512_S32x256_384_0 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 1 352 256 rfl inb_S1x2x1536x256_S1x1x32x256_0_1_352_0 inb_S1536x512_S32x256_352_256 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 0 352 0 rfl inb_S1x2x1536x256_S1x1x32x256_0_0_352_0 inb_S1536x512_S32x256_352_0 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 1 320 256 rfl inb_S1x2x1536x256_S1x1x32x256_0_1_320_0 inb_S1536x512_S32x256_320_256 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 0 320 0 rfl inb_S1x2x1536x256_S1x1x32x256_0_0_320_0 inb_S1536x512_S32x256_320_0 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 1 288 256 rfl inb_S1x2x1536x256_S1x1x32x256_0_1_288_0 inb_S1536x512_S32x256_288_256 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 0 288 0 rfl inb_S1x2x1536x256_S1x1x32x256_0_0_288_0 inb_S1536x512_S32x256_288_0 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 1 256 256 rfl inb_S1x2x1536x256_S1x1x32x256_0_1_256_0 inb_S1536x512_S32x256_256_256 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 0 256 0 rfl inb_S1x2x1536x256_S1x1x32x256_0_0_256_0 inb_S1536x512_S32x256_256_0 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 1 224 256 rfl inb_S1x2x1536x256_S1x1x32x256_0_1_224_0 inb_S1536x512_S32x256_224_256 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 0 224 0 rfl inb_S1x2x1536x256_S1x1x32x256_0_0_224_0 inb_S1536x512_S32x256_224_0 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 1 192 256 rfl inb_S1x2x1536x256_S1x1x32x256_0_1_192_0 inb_S1536x512_S32x256_192_256 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 0 192 0 rfl inb_S1x2x1536x256_S1x1x32x256_0_0_192_0 inb_S1536x512_S32x256_192_0 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 1 160 256 rfl inb_S1x2x1536x256_S1x1x32x256_0_1_160_0 inb_S1536x512_S32x256_160_256 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 0 160 0 rfl inb_S1x2x1536x256_S1x1x32x256_0_0_160_0 inb_S1536x512_S32x256_160_0 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 1 128 256 rfl inb_S1x2x1536x256_S1x1x32x256_0_1_128_0 inb_S1536x512_S32x256_128_256 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 0 128 0 rfl inb_S1x2x1536x256_S1x1x32x256_0_0_128_0 inb_S1536x512_S32x256_128_0 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 1 96 256 rfl inb_S1x2x1536x256_S1x1x32x256_0_1_96_0 inb_S1536x512_S32x256_96_256 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 0 96 0 rfl inb_S1x2x1536x256_S1x1x32x256_0_0_96_0 inb_S1536x512_S32x256_96_0 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 1 64 256 rfl inb_S1x2x1536x256_S1x1x32x256_0_1_64_0 inb_S1536x512_S32x256_64_256 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 0 64 0 rfl inb_S1x2x1536x256_S1x1x32x256_0_0_64_0 inb_S1536x512_S32x256_64_0 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 1 32 256 rfl inb_S1x2x1536x256_S1x1x32x256_0_1_32_0 inb_S1536x512_S32x256_32_256 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 0 32 0 rfl inb_S1x2x1536x256_S1x1x32x256_0_0_32_0 inb_S1536x512_S32x256_32_0 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 1 0 256 rfl inb_S1x2x1536x256_S1x1x32x256_0_1_0_0 inb_S1536x512_S32x256_0_256 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 0 0 0 rfl inb_S1x2x1536x256_S1x1x32x256_0_0_0_0 inb_S1536x512_S32x256_0_0 arg8 harg8 (View.readAt (Elt F) arg18.view (Rect.unit (s := S8x128) ![1, 0] S1x1.size inb_S8x128_S1x1_1_0).toLoadRect (harg18.unread y17)) x7 j, ?_⟩
  exact fun p hp => absurd hp List.not_mem_nil

end Cert.GradientsIdeal.Hand

end
-- ==== Proof.GReadC.lean ====
module

public import proofs.«01_k».proof.Proof.GSpec

@[expose] public section

set_option maxRecDepth 16384

noncomputable section

namespace Cert.GradientsIdeal.Hand

open Cert.GradientsIdeal Cert.GradientsIdeal.Gen
open Idealize.ShloMosaic hiding ix0 ix1 ix2 ix3 ix4 ix5
open Idealize.ShloMosaic.ValueIdx

variable {F : FTy → Type} [FloatOps F]

set_option maxHeartbeats 4000000 in
/-- Every stored piece of the activation's codes is that piece of `quantA` of the block. -/
theorem piecesC12 (c : Dev nD) (arg7 : Memref sig .tc .vmem S1x1536x256 .bf16) (harg7 : arg7.IsWhole) (arg18 : Memref sig .tc .vmem S8x128 .f32) (harg18 : arg18.IsWhole) (y17 : Vec F S8x128 .f32) (x6 : Vec F S1x1536x256 .bf16) :
    ∀ p ∈ runC.sl.H12_48 c arg7 harg7 arg18 harg18 x6 y17, ∀ j, p.2 j = quantA (View.readAt (Elt F) arg18.view (Rect.unit (s := S8x128) ![0, 0] S1x1.size inb_S8x128_S1x1_0_0).toLoadRect (harg18.unread y17)) x6 (p.1.emb j) := by
  unfold runC.sl.H12_48
  refine List.forall_mem_cons.2 ⟨fun j => pieceA 1504 inb_S1x1536x256_S1x32x256_0_1504_0 inb_S1536x256_S32x256_1504_0 arg7 harg7 (View.readAt (Elt F) arg18.view (Rect.unit (s := S8x128) ![0, 0] S1x1.size inb_S8x128_S1x1_0_0).toLoadRect (harg18.unread y17)) x6 j, ?_⟩
  refine List.forall_mem_cons.2 ⟨fun j => pieceA 1472 inb_S1x1536x256_S1x32x256_0_1472_0 inb_S1536x256_S32x256_1472_0 arg7 harg7 (View.readAt (Elt F) arg18.view (Rect.unit (s := S8x128) ![0, 0] S1x1.size inb_S8x128_S1x1_0_0).toLoadRect (harg18.unread y17)) x6 j, ?_⟩
  refine List.forall_mem_cons.2 ⟨fun j => pieceA 1440 inb_S1x1536x256_S1x32x256_0_1440_0 inb_S1536x256_S32x256_1440_0 arg7 harg7 (View.readAt (Elt F) arg18.view (Rect.unit (s := S8x128) ![0, 0] S1x1.size inb_S8x128_S1x1_0_0).toLoadRect (harg18.unread y17)) x6 j, ?_⟩
  refine List.forall_mem_cons.2 ⟨fun j => pieceA 1408 inb_S1x1536x256_S1x32x256_0_1408_0 inb_S1536x256_S32x256_1408_0 arg7 harg7 (View.readAt (Elt F) arg18.view (Rect.unit (s := S8x128) ![0, 0] S1x1.size inb_S8x128_S1x1_0_0).toLoadRect (harg18.unread y17)) x6 j, ?_⟩
  refine List.forall_mem_cons.2 ⟨fun j => pieceA 1376 inb_S1x1536x256_S1x32x256_0_1376_0 inb_S1536x256_S32x256_1376_0 arg7 harg7 (View.readAt (Elt F) arg18.view (Rect.unit (s := S8x128) ![0, 0] S1x1.size inb_S8x128_S1x1_0_0).toLoadRect (harg18.unread y17)) x6 j, ?_⟩
  refine List.forall_mem_cons.2 ⟨fun j => pieceA 1344 inb_S1x1536x256_S1x32x256_0_1344_0 inb_S1536x256_S32x256_1344_0 arg7 harg7 (View.readAt (Elt F) arg18.view (Rect.unit (s := S8x128) ![0, 0] S1x1.size inb_S8x128_S1x1_0_0).toLoadRect (harg18.unread y17)) x6 j, ?_⟩
  refine List.forall_mem_cons.2 ⟨fun j => pieceA 1312 inb_S1x1536x256_S1x32x256_0_1312_0 inb_S1536x256_S32x256_1312_0 arg7 harg7 (View.readAt (Elt F) arg18.view (Rect.unit (s := S8x128) ![0, 0] S1x1.size inb_S8x128_S1x1_0_0).toLoadRect (harg18.unread y17)) x6 j, ?_⟩
  refine List.forall_mem_cons.2 ⟨fun j => pieceA 1280 inb_S1x1536x256_S1x32x256_0_1280_0 inb_S1536x256_S32x256_1280_0 arg7 harg7 (View.readAt (Elt F) arg18.view (Rect.unit (s := S8x128) ![0, 0] S1x1.size inb_S8x128_S1x1_0_0).toLoadRect (harg18.unread y17)) x6 j, ?_⟩
  refine List.forall_mem_cons.2 ⟨fun j => pieceA 1248 inb_S1x1536x256_S1x32x256_0_1248_0 inb_S1536x256_S32x256_1248_0 arg7 harg7 (View.readAt (Elt F) arg18.view (Rect.unit (s := S8x128) ![0, 0] S1x1.size inb_S8x128_S1x1_0_0).toLoadRect (harg18.unread y17)) x6 j, ?_⟩
  refine List.forall_mem_cons.2 ⟨fun j => pieceA 1216 inb_S1x1536x256_S1x32x256_0_1216_0 inb_S1536x256_S32x256_1216_0 arg7 harg7 (View.readAt (Elt F) arg18.view (Rect.unit (s := S8x128) ![0, 0] S1x1.size inb_S8x128_S1x1_0_0).toLoadRect (harg18.unread y17)) x6 j, ?_⟩
  refine List.forall_mem_cons.2 ⟨fun j => pieceA 1184 inb_S1x1536x256_S1x32x256_0_1184_0 inb_S1536x256_S32x256_1184_0 arg7 harg7 (View.readAt (Elt F) arg18.view (Rect.unit (s := S8x128) ![0, 0] S1x1.size inb_S8x128_S1x1_0_0).toLoadRect (harg18.unread y17)) x6 j, ?_⟩
  refine List.forall_mem_cons.2 ⟨fun j => pieceA 1152 inb_S1x1536x256_S1x32x256_0_1152_0 inb_S1536x256_S32x256_1152_0 arg7 harg7 (View.readAt (Elt F) arg18.view (Rect.unit (s := S8x128) ![0, 0] S1x1.size inb_S8x128_S1x1_0_0).toLoadRect (harg18.unread y17)) x6 j, ?_⟩
  refine List.forall_mem_cons.2 ⟨fun j => pieceA 1120 inb_S1x1536x256_S1x32x256_0_1120_0 inb_S1536x256_S32x256_1120_0 arg7 harg7 (View.readAt (Elt F) arg18.view (Rect.unit (s := S8x128) ![0, 0] S1x1.size inb_S8x128_S1x1_0_0).toLoadRect (harg18.unread y17)) x6 j, ?_⟩
  refine List.forall_mem_cons.2 ⟨fun j => pieceA 1088 inb_S1x1536x256_S1x32x256_0_1088_0 inb_S1536x256_S32x256_1088_0 arg7 harg7 (View.readAt (Elt F) arg18.view (Rect.unit (s := S8x128) ![0, 0] S1x1.size inb_S8x128_S1x1_0_0).toLoadRect (harg18.unread y17)) x6 j, ?_⟩
  refine List.forall_mem_cons.2 ⟨fun j => pieceA 1056 inb_S1x1536x256_S1x32x256_0_1056_0 inb_S1536x256_S32x256_1056_0 arg7 harg7 (View.readAt (Elt F) arg18.view (Rect.unit (s := S8x128) ![0, 0] S1x1.size inb_S8x128_S1x1_0_0).toLoadRect (harg18.unread y17)) x6 j, ?_⟩
  refine List.forall_mem_cons.2 ⟨fun j => pieceA 1024 inb_S1x1536x256_S1x32x256_0_1024_0 inb_S1536x256_S32x256_1024_0 arg7 harg7 (View.readAt (Elt F) arg18.view (Rect.unit (s := S8x128) ![0, 0] S1x1.size inb_S8x128_S1x1_0_0).toLoadRect (harg18.unread y17)) x6 j, ?_⟩
  refine List.forall_mem_cons.2 ⟨fun j => pieceA 992 inb_S1x1536x256_S1x32x256_0_992_0 inb_S1536x256_S32x256_992_0 arg7 harg7 (View.readAt (Elt F) arg18.view (Rect.unit (s := S8x128) ![0, 0] S1x1.size inb_S8x128_S1x1_0_0).toLoadRect (harg18.unread y17)) x6 j, ?_⟩
  refine List.forall_mem_cons.2 ⟨fun j => pieceA 960 inb_S1x1536x256_S1x32x256_0_960_0 inb_S1536x256_S32x256_960_0 arg7 harg7 (View.readAt (Elt F) arg18.view (Rect.unit (s := S8x128) ![0, 0] S1x1.size inb_S8x128_S1x1_0_0).toLoadRect (harg18.unread y17)) x6 j, ?_⟩
  refine List.forall_mem_cons.2 ⟨fun j => pieceA 928 inb_S1x1536x256_S1x32x256_0_928_0 inb_S1536x256_S32x256_928_0 arg7 harg7 (View.readAt (Elt F) arg18.view (Rect.unit (s := S8x128) ![0, 0] S1x1.size inb_S8x128_S1x1_0_0).toLoadRect (harg18.unread y17)) x6 j, ?_⟩
  refine List.forall_mem_cons.2 ⟨fun j => pieceA 896 inb_S1x1536x256_S1x32x256_0_896_0 inb_S1536x256_S32x256_896_0 arg7 harg7 (View.readAt (Elt F) arg18.view (Rect.unit (s := S8x128) ![0, 0] S1x1.size inb_S8x128_S1x1_0_0).toLoadRect (harg18.unread y17)) x6 j, ?_⟩
  refine List.forall_mem_cons.2 ⟨fun j => pieceA 864 inb_S1x1536x256_S1x32x256_0_864_0 inb_S1536x256_S32x256_864_0 arg7 harg7 (View.readAt (Elt F) arg18.view (Rect.unit (s := S8x128) ![0, 0] S1x1.size inb_S8x128_S1x1_0_0).toLoadRect (harg18.unread y17)) x6 j, ?_⟩
  refine List.forall_mem_cons.2 ⟨fun j => pieceA 832 inb_S1x1536x256_S1x32x256_0_832_0 inb_S1536x256_S32x256_832_0 arg7 harg7 (View.readAt (Elt F) arg18.view (Rect.unit (s := S8x128) ![0, 0] S1x1.size inb_S8x128_S1x1_0_0).toLoadRect (harg18.unread y17)) x6 j, ?_⟩
  refine List.forall_mem_cons.2 ⟨fun j => pieceA 800 inb_S1x1536x256_S1x32x256_0_800_0 inb_S1536x256_S32x256_800_0 arg7 harg7 (View.readAt (Elt F) arg18.view (Rect.unit (s := S8x128) ![0, 0] S1x1.size inb_S8x128_S1x1_0_0).toLoadRect (harg18.unread y17)) x6 j, ?_⟩
  refine List.forall_mem_cons.2 ⟨fun j => pieceA 768 inb_S1x1536x256_S1x32x256_0_768_0 inb_S1536x256_S32x256_768_0 arg7 harg7 (View.readAt (Elt F) arg18.view (Rect.unit (s := S8x128) ![0, 0] S1x1.size inb_S8x128_S1x1_0_0).toLoadRect (harg18.unread y17)) x6 j, ?_⟩
  refine List.forall_mem_cons.2 ⟨fun j => pieceA 736 inb_S1x1536x256_S1x32x256_0_736_0 inb_S1536x256_S32x256_736_0 arg7 harg7 (View.readAt (Elt F) arg18.view (Rect.unit (s := S8x128) ![0, 0] S1x1.size inb_S8x128_S1x1_0_0).toLoadRect (harg18.unread y17)) x6 j, ?_⟩
  refine List.forall_mem_cons.2 ⟨fun j => pieceA 704 inb_S1x1536x256_S1x32x256_0_704_0 inb_S1536x256_S32x256_704_0 arg7 harg7 (View.readAt (Elt F) arg18.view (Rect.unit (s := S8x128) ![0, 0] S1x1.size inb_S8x128_S1x1_0_0).toLoadRect (harg18.unread y17)) x6 j, ?_⟩
  refine List.forall_mem_cons.2 ⟨fun j => pieceA 672 inb_S1x1536x256_S1x32x256_0_672_0 inb_S1536x256_S32x256_672_0 arg7 harg7 (View.readAt (Elt F) arg18.view (Rect.unit (s := S8x128) ![0, 0] S1x1.size inb_S8x128_S1x1_0_0).toLoadRect (harg18.unread y17)) x6 j, ?_⟩
  refine List.forall_mem_cons.2 ⟨fun j => pieceA 640 inb_S1x1536x256_S1x32x256_0_640_0 inb_S1536x256_S32x256_640_0 arg7 harg7 (View.readAt (Elt F) arg18.view (Rect.unit (s := S8x128) ![0, 0] S1x1.size inb_S8x128_S1x1_0_0).toLoadRect (harg18.unread y17)) x6 j, ?_⟩
  refine List.forall_mem_cons.2 ⟨fun j => pieceA 608 inb_S1x1536x256_S1x32x256_0_608_0 inb_S1536x256_S32x256_608_0 arg7 harg7 (View.readAt (Elt F) arg18.view (Rect.unit (s := S8x128) ![0, 0] S1x1.size inb_S8x128_S1x1_0_0).toLoadRect (harg18.unread y17)) x6 j, ?_⟩
  refine List.forall_mem_cons.2 ⟨fun j => pieceA 576 inb_S1x1536x256_S1x32x256_0_576_0 inb_S1536x256_S32x256_576_0 arg7 harg7 (View.readAt (Elt F) arg18.view (Rect.unit (s := S8x128) ![0, 0] S1x1.size inb_S8x128_S1x1_0_0).toLoadRect (harg18.unread y17)) x6 j, ?_⟩
  refine List.forall_mem_cons.2 ⟨fun j => pieceA 544 inb_S1x1536x256_S1x32x256_0_544_0 inb_S1536x256_S32x256_544_0 arg7 harg7 (View.readAt (Elt F) arg18.view (Rect.unit (s := S8x128) ![0, 0] S1x1.size inb_S8x128_S1x1_0_0).toLoadRect (harg18.unread y17)) x6 j, ?_⟩
  refine List.forall_mem_cons.2 ⟨fun j => pieceA 512 inb_S1x1536x256_S1x32x256_0_512_0 inb_S1536x256_S32x256_512_0 arg7 harg7 (View.readAt (Elt F) arg18.view (Rect.unit (s := S8x128) ![0, 0] S1x1.size inb_S8x128_S1x1_0_0).toLoadRect (harg18.unread y17)) x6 j, ?_⟩
  refine List.forall_mem_cons.2 ⟨fun j => pieceA 480 inb_S1x1536x256_S1x32x256_0_480_0 inb_S1536x256_S32x256_480_0 arg7 harg7 (View.readAt (Elt F) arg18.view (Rect.unit (s := S8x128) ![0, 0] S1x1.size inb_S8x128_S1x1_0_0).toLoadRect (harg18.unread y17)) x6 j, ?_⟩
  refine List.forall_mem_cons.2 ⟨fun j => pieceA 448 inb_S1x1536x256_S1x32x256_0_448_0 inb_S1536x256_S32x256_448_0 arg7 harg7 (View.readAt (Elt F) arg18.view (Rect.unit (s := S8x128) ![0, 0] S1x1.size inb_S8x128_S1x1_0_0).toLoadRect (harg18.unread y17)) x6 j, ?_⟩
  refine List.forall_mem_cons.2 ⟨fun j => pieceA 416 inb_S1x1536x256_S1x32x256_0_416_0 inb_S1536x256_S32x256_416_0 arg7 harg7 (View.readAt (Elt F) arg18.view (Rect.unit (s := S8x128) ![0, 0] S1x1.size inb_S8x128_S1x1_0_0).toLoadRect (harg18.unread y17)) x6 j, ?_⟩
  refine List.forall_mem_cons.2 ⟨fun j => pieceA 384 inb_S1x1536x256_S1x32x256_0_384_0 inb_S1536x256_S32x256_384_0 arg7 harg7 (View.readAt (Elt F) arg18.view (Rect.unit (s := S8x128) ![0, 0] S1x1.size inb_S8x128_S1x1_0_0).toLoadRect (harg18.unread y17)) x6 j, ?_⟩
  refine List.forall_mem_cons.2 ⟨fun j => pieceA 352 inb_S1x1536x256_S1x32x256_0_352_0 inb_S1536x256_S32x256_352_0 arg7 harg7 (View.readAt (Elt F) arg18.view (Rect.unit (s := S8x128) ![0, 0] S1x1.size inb_S8x128_S1x1_0_0).toLoadRect (harg18.unread y17)) x6 j, ?_⟩
  refine List.forall_mem_cons.2 ⟨fun j => pieceA 320 inb_S1x1536x256_S1x32x256_0_320_0 inb_S1536x256_S32x256_320_0 arg7 harg7 (View.readAt (Elt F) arg18.view (Rect.unit (s := S8x128) ![0, 0] S1x1.size inb_S8x128_S1x1_0_0).toLoadRect (harg18.unread y17)) x6 j, ?_⟩
  refine List.forall_mem_cons.2 ⟨fun j => pieceA 288 inb_S1x1536x256_S1x32x256_0_288_0 inb_S1536x256_S32x256_288_0 arg7 harg7 (View.readAt (Elt F) arg18.view (Rect.unit (s := S8x128) ![0, 0] S1x1.size inb_S8x128_S1x1_0_0).toLoadRect (harg18.unread y17)) x6 j, ?_⟩
  refine List.forall_mem_cons.2 ⟨fun j => pieceA 256 inb_S1x1536x256_S1x32x256_0_256_0 inb_S1536x256_S32x256_256_0 arg7 harg7 (View.readAt (Elt F) arg18.view (Rect.unit (s := S8x128) ![0, 0] S1x1.size inb_S8x128_S1x1_0_0).toLoadRect (harg18.unread y17)) x6 j, ?_⟩
  refine List.forall_mem_cons.2 ⟨fun j => pieceA 224 inb_S1x1536x256_S1x32x256_0_224_0 inb_S1536x256_S32x256_224_0 arg7 harg7 (View.readAt (Elt F) arg18.view (Rect.unit (s := S8x128) ![0, 0] S1x1.size inb_S8x128_S1x1_0_0).toLoadRect (harg18.unread y17)) x6 j, ?_⟩
  refine List.forall_mem_cons.2 ⟨fun j => pieceA 192 inb_S1x1536x256_S1x32x256_0_192_0 inb_S1536x256_S32x256_192_0 arg7 harg7 (View.readAt (Elt F) arg18.view (Rect.unit (s := S8x128) ![0, 0] S1x1.size inb_S8x128_S1x1_0_0).toLoadRect (harg18.unread y17)) x6 j, ?_⟩
  refine List.forall_mem_cons.2 ⟨fun j => pieceA 160 inb_S1x1536x256_S1x32x256_0_160_0 inb_S1536x256_S32x256_160_0 arg7 harg7 (View.readAt (Elt F) arg18.view (Rect.unit (s := S8x128) ![0, 0] S1x1.size inb_S8x128_S1x1_0_0).toLoadRect (harg18.unread y17)) x6 j, ?_⟩
  refine List.forall_mem_cons.2 ⟨fun j => pieceA 128 inb_S1x1536x256_S1x32x256_0_128_0 inb_S1536x256_S32x256_128_0 arg7 harg7 (View.readAt (Elt F) arg18.view (Rect.unit (s := S8x128) ![0, 0] S1x1.size inb_S8x128_S1x1_0_0).toLoadRect (harg18.unread y17)) x6 j, ?_⟩
  refine List.forall_mem_cons.2 ⟨fun j => pieceA 96 inb_S1x1536x256_S1x32x256_0_96_0 inb_S1536x256_S32x256_96_0 arg7 harg7 (View.readAt (Elt F) arg18.view (Rect.unit (s := S8x128) ![0, 0] S1x1.size inb_S8x128_S1x1_0_0).toLoadRect (harg18.unread y17)) x6 j, ?_⟩
  refine List.forall_mem_cons.2 ⟨fun j => pieceA 64 inb_S1x1536x256_S1x32x256_0_64_0 inb_S1536x256_S32x256_64_0 arg7 harg7 (View.readAt (Elt F) arg18.view (Rect.unit (s := S8x128) ![0, 0] S1x1.size inb_S8x128_S1x1_0_0).toLoadRect (harg18.unread y17)) x6 j, ?_⟩
  refine List.forall_mem_cons.2 ⟨fun j => pieceA 32 inb_S1x1536x256_S1x32x256_0_32_0 inb_S1536x256_S32x256_32_0 arg7 harg7 (View.readAt (Elt F) arg18.view (Rect.unit (s := S8x128) ![0, 0] S1x1.size inb_S8x128_S1x1_0_0).toLoadRect (harg18.unread y17)) x6 j, ?_⟩
  refine List.forall_mem_cons.2 ⟨fun j => pieceA 0 inb_S1x1536x256_S1x32x256_0_0_0 inb_S1536x256_S32x256_0_0 arg7 harg7 (View.readAt (Elt F) arg18.view (Rect.unit (s := S8x128) ![0, 0] S1x1.size inb_S8x128_S1x1_0_0).toLoadRect (harg18.unread y17)) x6 j, ?_⟩
  exact fun p hp => absurd hp List.not_mem_nil

set_option maxHeartbeats 4000000 in
/-- Every stored piece of the hidden gradient's codes is that piece of `quantH` of the block. -/
theorem piecesC13 (c : Dev nD) (arg8 : Memref sig .tc .vmem S1x2x1536x256 .bf16) (harg8 : arg8.IsWhole) (arg18 : Memref sig .tc .vmem S8x128 .f32) (harg18 : arg18.IsWhole) (y17 : Vec F S8x128 .f32) (x7 : Vec F S1x2x1536x256 .bf16) :
    ∀ p ∈ runC.sl.H13_96 c arg8 harg8 arg18 harg18 x7 y17, ∀ j, p.2 j = quantH (View.readAt (Elt F) arg18.view (Rect.unit (s := S8x128) ![1, 0] S1x1.size inb_S8x128_S1x1_1_0).toLoadRect (harg18.unread y17)) x7 (p.1.emb j) := by
  unfold runC.sl.H13_96
  refine List.forall_mem_cons.2 ⟨fun j => pieceH 1 1504 256 rfl inb_S1x2x1536x256_S1x1x32x256_0_1_1504_0 inb_S1536x512_S32x256_1504_256 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 0 1504 0 rfl inb_S1x2x1536x256_S1x1x32x256_0_0_1504_0 inb_S1536x512_S32x256_1504_0 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 1 1472 256 rfl inb_S1x2x1536x256_S1x1x32x256_0_1_1472_0 inb_S1536x512_S32x256_1472_256 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 0 1472 0 rfl inb_S1x2x1536x256_S1x1x32x256_0_0_1472_0 inb_S1536x512_S32x256_1472_0 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 1 1440 256 rfl inb_S1x2x1536x256_S1x1x32x256_0_1_1440_0 inb_S1536x512_S32x256_1440_256 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 0 1440 0 rfl inb_S1x2x1536x256_S1x1x32x256_0_0_1440_0 inb_S1536x512_S32x256_1440_0 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 1 1408 256 rfl inb_S1x2x1536x256_S1x1x32x256_0_1_1408_0 inb_S1536x512_S32x256_1408_256 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 0 1408 0 rfl inb_S1x2x1536x256_S1x1x32x256_0_0_1408_0 inb_S1536x512_S32x256_1408_0 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 1 1376 256 rfl inb_S1x2x1536x256_S1x1x32x256_0_1_1376_0 inb_S1536x512_S32x256_1376_256 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 0 1376 0 rfl inb_S1x2x1536x256_S1x1x32x256_0_0_1376_0 inb_S1536x512_S32x256_1376_0 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 1 1344 256 rfl inb_S1x2x1536x256_S1x1x32x256_0_1_1344_0 inb_S1536x512_S32x256_1344_256 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 0 1344 0 rfl inb_S1x2x1536x256_S1x1x32x256_0_0_1344_0 inb_S1536x512_S32x256_1344_0 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 1 1312 256 rfl inb_S1x2x1536x256_S1x1x32x256_0_1_1312_0 inb_S1536x512_S32x256_1312_256 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 0 1312 0 rfl inb_S1x2x1536x256_S1x1x32x256_0_0_1312_0 inb_S1536x512_S32x256_1312_0 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 1 1280 256 rfl inb_S1x2x1536x256_S1x1x32x256_0_1_1280_0 inb_S1536x512_S32x256_1280_256 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 0 1280 0 rfl inb_S1x2x1536x256_S1x1x32x256_0_0_1280_0 inb_S1536x512_S32x256_1280_0 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 1 1248 256 rfl inb_S1x2x1536x256_S1x1x32x256_0_1_1248_0 inb_S1536x512_S32x256_1248_256 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 0 1248 0 rfl inb_S1x2x1536x256_S1x1x32x256_0_0_1248_0 inb_S1536x512_S32x256_1248_0 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 1 1216 256 rfl inb_S1x2x1536x256_S1x1x32x256_0_1_1216_0 inb_S1536x512_S32x256_1216_256 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 0 1216 0 rfl inb_S1x2x1536x256_S1x1x32x256_0_0_1216_0 inb_S1536x512_S32x256_1216_0 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 1 1184 256 rfl inb_S1x2x1536x256_S1x1x32x256_0_1_1184_0 inb_S1536x512_S32x256_1184_256 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 0 1184 0 rfl inb_S1x2x1536x256_S1x1x32x256_0_0_1184_0 inb_S1536x512_S32x256_1184_0 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 1 1152 256 rfl inb_S1x2x1536x256_S1x1x32x256_0_1_1152_0 inb_S1536x512_S32x256_1152_256 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 0 1152 0 rfl inb_S1x2x1536x256_S1x1x32x256_0_0_1152_0 inb_S1536x512_S32x256_1152_0 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 1 1120 256 rfl inb_S1x2x1536x256_S1x1x32x256_0_1_1120_0 inb_S1536x512_S32x256_1120_256 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 0 1120 0 rfl inb_S1x2x1536x256_S1x1x32x256_0_0_1120_0 inb_S1536x512_S32x256_1120_0 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 1 1088 256 rfl inb_S1x2x1536x256_S1x1x32x256_0_1_1088_0 inb_S1536x512_S32x256_1088_256 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 0 1088 0 rfl inb_S1x2x1536x256_S1x1x32x256_0_0_1088_0 inb_S1536x512_S32x256_1088_0 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 1 1056 256 rfl inb_S1x2x1536x256_S1x1x32x256_0_1_1056_0 inb_S1536x512_S32x256_1056_256 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 0 1056 0 rfl inb_S1x2x1536x256_S1x1x32x256_0_0_1056_0 inb_S1536x512_S32x256_1056_0 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 1 1024 256 rfl inb_S1x2x1536x256_S1x1x32x256_0_1_1024_0 inb_S1536x512_S32x256_1024_256 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 0 1024 0 rfl inb_S1x2x1536x256_S1x1x32x256_0_0_1024_0 inb_S1536x512_S32x256_1024_0 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 1 992 256 rfl inb_S1x2x1536x256_S1x1x32x256_0_1_992_0 inb_S1536x512_S32x256_992_256 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 0 992 0 rfl inb_S1x2x1536x256_S1x1x32x256_0_0_992_0 inb_S1536x512_S32x256_992_0 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 1 960 256 rfl inb_S1x2x1536x256_S1x1x32x256_0_1_960_0 inb_S1536x512_S32x256_960_256 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 0 960 0 rfl inb_S1x2x1536x256_S1x1x32x256_0_0_960_0 inb_S1536x512_S32x256_960_0 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 1 928 256 rfl inb_S1x2x1536x256_S1x1x32x256_0_1_928_0 inb_S1536x512_S32x256_928_256 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 0 928 0 rfl inb_S1x2x1536x256_S1x1x32x256_0_0_928_0 inb_S1536x512_S32x256_928_0 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 1 896 256 rfl inb_S1x2x1536x256_S1x1x32x256_0_1_896_0 inb_S1536x512_S32x256_896_256 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 0 896 0 rfl inb_S1x2x1536x256_S1x1x32x256_0_0_896_0 inb_S1536x512_S32x256_896_0 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 1 864 256 rfl inb_S1x2x1536x256_S1x1x32x256_0_1_864_0 inb_S1536x512_S32x256_864_256 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 0 864 0 rfl inb_S1x2x1536x256_S1x1x32x256_0_0_864_0 inb_S1536x512_S32x256_864_0 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 1 832 256 rfl inb_S1x2x1536x256_S1x1x32x256_0_1_832_0 inb_S1536x512_S32x256_832_256 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 0 832 0 rfl inb_S1x2x1536x256_S1x1x32x256_0_0_832_0 inb_S1536x512_S32x256_832_0 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 1 800 256 rfl inb_S1x2x1536x256_S1x1x32x256_0_1_800_0 inb_S1536x512_S32x256_800_256 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 0 800 0 rfl inb_S1x2x1536x256_S1x1x32x256_0_0_800_0 inb_S1536x512_S32x256_800_0 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 1 768 256 rfl inb_S1x2x1536x256_S1x1x32x256_0_1_768_0 inb_S1536x512_S32x256_768_256 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 0 768 0 rfl inb_S1x2x1536x256_S1x1x32x256_0_0_768_0 inb_S1536x512_S32x256_768_0 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 1 736 256 rfl inb_S1x2x1536x256_S1x1x32x256_0_1_736_0 inb_S1536x512_S32x256_736_256 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 0 736 0 rfl inb_S1x2x1536x256_S1x1x32x256_0_0_736_0 inb_S1536x512_S32x256_736_0 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 1 704 256 rfl inb_S1x2x1536x256_S1x1x32x256_0_1_704_0 inb_S1536x512_S32x256_704_256 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 0 704 0 rfl inb_S1x2x1536x256_S1x1x32x256_0_0_704_0 inb_S1536x512_S32x256_704_0 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 1 672 256 rfl inb_S1x2x1536x256_S1x1x32x256_0_1_672_0 inb_S1536x512_S32x256_672_256 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 0 672 0 rfl inb_S1x2x1536x256_S1x1x32x256_0_0_672_0 inb_S1536x512_S32x256_672_0 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 1 640 256 rfl inb_S1x2x1536x256_S1x1x32x256_0_1_640_0 inb_S1536x512_S32x256_640_256 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 0 640 0 rfl inb_S1x2x1536x256_S1x1x32x256_0_0_640_0 inb_S1536x512_S32x256_640_0 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 1 608 256 rfl inb_S1x2x1536x256_S1x1x32x256_0_1_608_0 inb_S1536x512_S32x256_608_256 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 0 608 0 rfl inb_S1x2x1536x256_S1x1x32x256_0_0_608_0 inb_S1536x512_S32x256_608_0 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 1 576 256 rfl inb_S1x2x1536x256_S1x1x32x256_0_1_576_0 inb_S1536x512_S32x256_576_256 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 0 576 0 rfl inb_S1x2x1536x256_S1x1x32x256_0_0_576_0 inb_S1536x512_S32x256_576_0 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 1 544 256 rfl inb_S1x2x1536x256_S1x1x32x256_0_1_544_0 inb_S1536x512_S32x256_544_256 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 0 544 0 rfl inb_S1x2x1536x256_S1x1x32x256_0_0_544_0 inb_S1536x512_S32x256_544_0 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 1 512 256 rfl inb_S1x2x1536x256_S1x1x32x256_0_1_512_0 inb_S1536x512_S32x256_512_256 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 0 512 0 rfl inb_S1x2x1536x256_S1x1x32x256_0_0_512_0 inb_S1536x512_S32x256_512_0 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 1 480 256 rfl inb_S1x2x1536x256_S1x1x32x256_0_1_480_0 inb_S1536x512_S32x256_480_256 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 0 480 0 rfl inb_S1x2x1536x256_S1x1x32x256_0_0_480_0 inb_S1536x512_S32x256_480_0 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 1 448 256 rfl inb_S1x2x1536x256_S1x1x32x256_0_1_448_0 inb_S1536x512_S32x256_448_256 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 0 448 0 rfl inb_S1x2x1536x256_S1x1x32x256_0_0_448_0 inb_S1536x512_S32x256_448_0 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 1 416 256 rfl inb_S1x2x1536x256_S1x1x32x256_0_1_416_0 inb_S1536x512_S32x256_416_256 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 0 416 0 rfl inb_S1x2x1536x256_S1x1x32x256_0_0_416_0 inb_S1536x512_S32x256_416_0 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 1 384 256 rfl inb_S1x2x1536x256_S1x1x32x256_0_1_384_0 inb_S1536x512_S32x256_384_256 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 0 384 0 rfl inb_S1x2x1536x256_S1x1x32x256_0_0_384_0 inb_S1536x512_S32x256_384_0 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 1 352 256 rfl inb_S1x2x1536x256_S1x1x32x256_0_1_352_0 inb_S1536x512_S32x256_352_256 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 0 352 0 rfl inb_S1x2x1536x256_S1x1x32x256_0_0_352_0 inb_S1536x512_S32x256_352_0 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 1 320 256 rfl inb_S1x2x1536x256_S1x1x32x256_0_1_320_0 inb_S1536x512_S32x256_320_256 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 0 320 0 rfl inb_S1x2x1536x256_S1x1x32x256_0_0_320_0 inb_S1536x512_S32x256_320_0 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 1 288 256 rfl inb_S1x2x1536x256_S1x1x32x256_0_1_288_0 inb_S1536x512_S32x256_288_256 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 0 288 0 rfl inb_S1x2x1536x256_S1x1x32x256_0_0_288_0 inb_S1536x512_S32x256_288_0 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 1 256 256 rfl inb_S1x2x1536x256_S1x1x32x256_0_1_256_0 inb_S1536x512_S32x256_256_256 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 0 256 0 rfl inb_S1x2x1536x256_S1x1x32x256_0_0_256_0 inb_S1536x512_S32x256_256_0 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 1 224 256 rfl inb_S1x2x1536x256_S1x1x32x256_0_1_224_0 inb_S1536x512_S32x256_224_256 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 0 224 0 rfl inb_S1x2x1536x256_S1x1x32x256_0_0_224_0 inb_S1536x512_S32x256_224_0 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 1 192 256 rfl inb_S1x2x1536x256_S1x1x32x256_0_1_192_0 inb_S1536x512_S32x256_192_256 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 0 192 0 rfl inb_S1x2x1536x256_S1x1x32x256_0_0_192_0 inb_S1536x512_S32x256_192_0 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 1 160 256 rfl inb_S1x2x1536x256_S1x1x32x256_0_1_160_0 inb_S1536x512_S32x256_160_256 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 0 160 0 rfl inb_S1x2x1536x256_S1x1x32x256_0_0_160_0 inb_S1536x512_S32x256_160_0 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 1 128 256 rfl inb_S1x2x1536x256_S1x1x32x256_0_1_128_0 inb_S1536x512_S32x256_128_256 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 0 128 0 rfl inb_S1x2x1536x256_S1x1x32x256_0_0_128_0 inb_S1536x512_S32x256_128_0 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 1 96 256 rfl inb_S1x2x1536x256_S1x1x32x256_0_1_96_0 inb_S1536x512_S32x256_96_256 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 0 96 0 rfl inb_S1x2x1536x256_S1x1x32x256_0_0_96_0 inb_S1536x512_S32x256_96_0 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 1 64 256 rfl inb_S1x2x1536x256_S1x1x32x256_0_1_64_0 inb_S1536x512_S32x256_64_256 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 0 64 0 rfl inb_S1x2x1536x256_S1x1x32x256_0_0_64_0 inb_S1536x512_S32x256_64_0 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 1 32 256 rfl inb_S1x2x1536x256_S1x1x32x256_0_1_32_0 inb_S1536x512_S32x256_32_256 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 0 32 0 rfl inb_S1x2x1536x256_S1x1x32x256_0_0_32_0 inb_S1536x512_S32x256_32_0 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 1 0 256 rfl inb_S1x2x1536x256_S1x1x32x256_0_1_0_0 inb_S1536x512_S32x256_0_256 arg8 harg8 (View.readAt (Elt F) arg18.view (Rect.unit (s := S8x128) ![1, 0] S1x1.size inb_S8x128_S1x1_1_0).toLoadRect (harg18.unread y17)) x7 j, ?_⟩
  refine List.forall_mem_cons.2 ⟨fun j => pieceH 0 0 0 rfl inb_S1x2x1536x256_S1x1x32x256_0_0_0_0 inb_S1536x512_S32x256_0_0 arg8 harg8 (View.readAt (Elt F) arg18.view (Rect.unit (s := S8x128) ![1, 0] S1x1.size inb_S8x128_S1x1_1_0).toLoadRect (harg18.unread y17)) x7 j, ?_⟩
  exact fun p hp => absurd hp List.not_mem_nil

end Cert.GradientsIdeal.Hand

end
-- ==== Proof.GWords.lean ====
module

public import proofs.«01_k».proof.Proof.GReadA
public import proofs.«01_k».proof.Proof.GReadB
public import proofs.«01_k».proof.Proof.GReadC

@[expose] public section

set_option maxRecDepth 16384

noncomputable section

namespace Cert.GradientsIdeal.Hand

open Idealize.ShloMosaic.Tactic
open Cert.GradientsIdeal Cert.GradientsIdeal.Gen
open Idealize.ShloMosaic hiding ix0 ix1 ix2 ix3 ix4 ix5
open Idealize.ShloMosaic.ValueIdx

variable {F : FTy → Type} [FloatOps F]

/-! # What each buffer holds after the body, as one function per buffer -/

/-- A load of a whole buffer reads its contents. -/
theorem readWhole {s : Shape} {e : EltTy} {sp : Space} (arg : Memref sig .tc sp s e) (harg : arg.IsWhole) (x : s.Idx → Elt F e)
    (off : Fin s.rank → ℕ) (h : ∀ a, off a + s.size a ≤ s.size a) (hz : ∀ a, off a = 0) :
    View.readAt (Elt F) arg.view (Rect.unit (s := s) off s.size h).toLoadRect (harg.unread x) = x := by
  funext j
  refine (harg.readAt_unread x _ _).trans (congrArg x ?_)
  funext a; apply Fin.ext
  show off a + 1 * (j a).val = (j a).val
  rw [hz a]; omega

/-- A load of the first entry of row `k`. -/
theorem readCell (k : Fin 8) (arg : Memref sig .tc .vmem S8x128 .f32) (harg : arg.IsWhole) (y : Vec F S8x128 .f32)
    (h : ∀ a, (![k.val, 0] : Fin 2 → ℕ) a + S1x1.size a ≤ S8x128.size a) :
    View.readAt (Elt F) arg.view (Rect.unit (s := S8x128) ![k.val, 0] S1x1.size h).toLoadRect (harg.unread y) = cell k y := by
  funext j
  refine (harg.readAt_unread y _ _).trans (congrArg y ?_)
  have h0 : (j 0).val < 1 := (j 0).isLt
  have h1 : (j 1).val < 1 := (j 1).isLt
  funext a; apply Fin.ext
  match a with
  | ⟨0, _⟩ => show k.val + 1 * (j 0).val = k.val; omega
  | ⟨1, _⟩ => show 0 + 1 * (j 1).val = 0; omega

/-- A load of one of the two scalars. -/
theorem readScalar (k : Fin 2) (arg : Memref sig .tc .smem S2 .f32) (harg : arg.IsWhole) (x : Vec F S2 .f32)
    (h : ∀ a, (![k.val] : Fin 1 → ℕ) a + S1.size a ≤ S2.size a) (j : S1.Idx) :
    View.readAt (Elt F) arg.view (Rect.unit (s := S2) ![k.val] S1.size h).toLoadRect (harg.unread x) j = x (ix1 k) := by
  refine (harg.readAt_unread x _ _).trans (congrArg x ?_)
  have h0 : (j 0).val < 1 := (j 0).isLt
  funext a; apply Fin.ext
  match a with
  | ⟨0, _⟩ => show k.val + 1 * (j 0).val = k.val; omega

/-- A covered load of pieces of one function reads that function. -/
theorem readCov_pieces {s : Shape} {e : EltTy} {sp : Space} (v : View sig .tc sp s e) (G : s.Idx → Elt F e) (L : List (View.Piece (Elt F) s e))
    (hp : ∀ p ∈ L, ∀ j, p.2 j = G (p.1.emb j)) (hc : ∀ y, ∃ p ∈ L, y ∈ p.1.set) (B : LoadRect s) :
    v.readCov L B = fun j => G (B.idx j) := by
  rw [View.readCov_eq_canon']
  funext j
  exact View.canon_apply_of_pieces G L hp _ (hc _)

/-- Row block `q` of a load of the codes. -/
theorem hcRows_load (q : Fin 3) (r : ℕ) (hr : r = 512 * q.val) (h : ∀ a, (![r, 0] : Fin 2 → ℕ) a + S512x512.size a ≤ S1536x512.size a) (G : Vec F S1536x512 .fp8e5m2) :
    (fun j => G ((Rect.unit (s := S1536x512) ![r, 0] S512x512.size h).toLoadRect.idx j)) = hcRows q G := by
  funext j
  refine congrArg G ?_
  funext a; apply Fin.ext
  match a with
  | ⟨0, _⟩ => show r + 1 * (j 0).val = 512 * q.val + (j 0).val; omega
  | ⟨1, _⟩ => show 0 + 1 * (j 1).val = (j 1).val; omega

/-- Row block `q` of a load of the accumulator. -/
theorem accRows_load (q : Fin 3) (r : ℕ) (hr : r = 512 * q.val) (h : ∀ a, (![r, 0] : Fin 2 → ℕ) a + S512x2304.size a ≤ S1536x2304.size a) (G : Vec F S1536x2304 .f32) :
    (fun j => G ((Rect.unit (s := S1536x2304) ![r, 0] S512x2304.size h).toLoadRect.idx j)) = accRows q G := by
  funext j
  refine congrArg G ?_
  funext a; apply Fin.ext
  match a with
  | ⟨0, _⟩ => show r + 1 * (j 0).val = 512 * q.val + (j 0).val; omega
  | ⟨1, _⟩ => show 0 + 1 * (j 1).val = (j 1).val; omega

/-- The same load from a buffer held at known contents. -/
theorem accRows_read (q : Fin 3) (r : ℕ) (hr : r = 512 * q.val) (arg : Memref sig .tc .vmem S1536x2304 .f32) (harg : arg.IsWhole) (y : Vec F S1536x2304 .f32)
    (h : ∀ a, (![r, 0] : Fin 2 → ℕ) a + S512x2304.size a ≤ S1536x2304.size a) :
    View.readAt (Elt F) arg.view (Rect.unit (s := S1536x2304) ![r, 0] S512x2304.size h).toLoadRect (harg.unread y) = accRows q y :=
  (funext fun j => harg.readAt_unread y _ j).trans (accRows_load q r hr h y)

/-- A load of the whole shape of one function reads it. -/
theorem whole_load {s : Shape} {e : EltTy} (G : s.Idx → Elt F e) (off : Fin s.rank → ℕ) (h : ∀ a, off a + s.size a ≤ s.size a) (hz : ∀ a, off a = 0) :
    (fun j => G ((Rect.unit (s := s) off s.size h).toLoadRect.idx j)) = G := by
  funext j
  refine congrArg G ?_
  funext a; apply Fin.ext
  show off a + 1 * (j a).val = (j a).val
  rw [hz a]; omega

/-- A single piece over the whole shape. -/
theorem wholePiece {s : Shape} {e : EltTy} (G : s.Idx → Elt F e) (off : Fin s.rank → ℕ) (h : ∀ a, off a + s.size a ≤ s.size a) (hz : ∀ a, off a = 0) :
    ∀ j, G j = G ((Rect.unit (s := s) off s.size h).emb j) := fun j => (congrFun (whole_load G off h hz) j).symm

/-- The inverse scale of the activation, from its block maxima. -/
def invA (x2 : Vec F S8x256 .f32) : Vec F S1x1 .f32 := k0_pay8 (k0_pay7 x2)
/-- The inverse scale of the hidden gradient. -/
def invH (x3 : Vec F S8x256 .f32) : Vec F S1x1 .f32 := k0_pay11 x3
/-- The activation's scale, broadcast. -/
def saV (x2 : Vec F S8x256 .f32) : Vec F S8x128 .f32 := k0_pay12 (k0_pay6 x2)
/-- The hidden gradient's scale, broadcast. -/
def shV (x3 : Vec F S8x256 .f32) : Vec F S8x128 .f32 := k0_pay13 (k0_pay10 x3)
/-- The zeroed accumulator. -/
def zeroX : Vec F S1536x2304 .f32 := k0_pay4

/-- Row 0 of the stored inverses. -/
theorem row0_A (c : Dev nD) (arg3 : Memref sig .tc .vmem S8x256 .f32) (harg3 : arg3.IsWhole) (arg4 : Memref sig .tc .vmem S8x256 .f32) (harg4 : arg4.IsWhole) (x2 : Vec F S8x256 .f32) (x3 : Vec F S8x256 .f32) : View.canon (runA.sl.H17_2 c arg3 harg3 arg4 harg4 x2 x3) (ix2 (0 : Fin 8) (0 : Fin 128)) = invA x2 (ix2 (0 : Fin 1) (0 : Fin 1)) := by
  unfold runA.sl.H17_2
  rw [View.canon_cons_of_not_mem]
  · have e : (ix2 (0 : Fin 8) (0 : Fin 128) : S8x128.Idx) = (Rect.unit (s := S8x128) ![0, 0] S1x128.size inb_S8x128_S1x128_0_0).emb (ix2 (0 : Fin 1) (0 : Fin 128) : S1x128.Idx) := by
      funext a; apply Fin.ext
      match a with
      | ⟨0, _⟩ => rfl
      | ⟨1, _⟩ => rfl
    rw [e, View.canon_cons_emb]
    unfold runA.sl.r_2 runA.sl.r_1 invA k0_pay14
    rw [readWhole arg3 harg3 x2 _ _ (by intro a; match a with | ⟨0, _⟩ => rfl | ⟨1, _⟩ => rfl)]
    exact one_cell (k0_pay8 (k0_pay7 x2)) _
  · intro h
    obtain ⟨x, hx⟩ := (Rect.unit (s := S8x128) ![1, 0] S1x128.size inb_S8x128_S1x128_1_0).mem_set.mp h 0
    have : (0 : ℕ) = 1 + 1 * x := hx.2
    omega
/-- Row 1 of the stored inverses. -/
theorem row1_A (c : Dev nD) (arg3 : Memref sig .tc .vmem S8x256 .f32) (harg3 : arg3.IsWhole) (arg4 : Memref sig .tc .vmem S8x256 .f32) (harg4 : arg4.IsWhole) (x2 : Vec F S8x256 .f32) (x3 : Vec F S8x256 .f32) : View.canon (runA.sl.H17_2 c arg3 harg3 arg4 harg4 x2 x3) (ix2 (1 : Fin 8) (0 : Fin 128)) = invH x3 (ix2 (0 : Fin 1) (0 : Fin 1)) := by
  unfold runA.sl.H17_2
  have e : (ix2 (1 : Fin 8) (0 : Fin 128) : S8x128.Idx) = (Rect.unit (s := S8x128) ![1, 0] S1x128.size inb_S8x128_S1x128_1_0).emb (ix2 (0 : Fin 1) (0 : Fin 128) : S1x128.Idx) := by
    funext a; apply Fin.ext
    match a with
    | ⟨0, _⟩ => rfl
    | ⟨1, _⟩ => rfl
  rw [e, View.canon_cons_emb]
  unfold runA.sl.r_4 invH k0_pay15
  rw [readWhole arg4 harg4 x3 _ _ (by intro a; match a with | ⟨0, _⟩ => rfl | ⟨1, _⟩ => rfl)]
  exact one_cell (k0_pay11 x3) _
theorem v3_A (c : Dev nD) (arg3 : Memref sig .tc .vmem S8x256 .f32) (harg3 : arg3.IsWhole) (arg4 : Memref sig .tc .vmem S8x256 .f32) (harg4 : arg4.IsWhole) (arg18 : Memref sig .tc .vmem S8x128 .f32) (x2 : Vec F S8x256 .f32) (x3 : Vec F S8x256 .f32) : runA.sl.v3 c arg3 harg3 arg4 harg4 arg18 x2 x3 = invA x2 := by
  unfold runA.sl.v3
  rw [View.readCov_eq_canon']
  funext j
  refine Eq.trans (congrArg _ ?_) ((row0_A c arg3 harg3 arg4 harg4 x2 x3).trans (one_cell (invA x2) j).symm)
  have h0 : (j 0).val < 1 := (j 0).isLt
  have h1 : (j 1).val < 1 := (j 1).isLt
  funext a; apply Fin.ext
  match a with
  | ⟨0, _⟩ => show 0 + 1 * (j 0).val = 0; omega
  | ⟨1, _⟩ => show 0 + 1 * (j 1).val = 0; omega
theorem v4_A (c : Dev nD) (arg3 : Memref sig .tc .vmem S8x256 .f32) (harg3 : arg3.IsWhole) (arg4 : Memref sig .tc .vmem S8x256 .f32) (harg4 : arg4.IsWhole) (arg18 : Memref sig .tc .vmem S8x128 .f32) (x2 : Vec F S8x256 .f32) (x3 : Vec F S8x256 .f32) : runA.sl.v4 c arg3 harg3 arg4 harg4 arg18 x2 x3 = invH x3 := by
  unfold runA.sl.v4
  rw [View.readCov_eq_canon']
  funext j
  refine Eq.trans (congrArg _ ?_) ((row1_A c arg3 harg3 arg4 harg4 x2 x3).trans (one_cell (invH x3) j).symm)
  have h0 : (j 0).val < 1 := (j 0).isLt
  have h1 : (j 1).val < 1 := (j 1).isLt
  funext a; apply Fin.ext
  match a with
  | ⟨0, _⟩ => show 1 + 1 * (j 0).val = 1; omega
  | ⟨1, _⟩ => show 0 + 1 * (j 1).val = 0; omega
theorem pieces_A14 (c : Dev nD) (arg3 : Memref sig .tc .vmem S8x256 .f32) (harg3 : arg3.IsWhole) (x2 : Vec F S8x256 .f32) : ∀ p ∈ runA.sl.H14_1 c arg3 harg3 x2, ∀ j, p.2 j = saV (F := F) x2 (p.1.emb j) := by
  unfold runA.sl.H14_1 runA.sl.r saV
  rw [readWhole arg3 harg3 x2 _ _ (by intro a; match a with | ⟨0, _⟩ => rfl | ⟨1, _⟩ => rfl)]
  refine List.forall_mem_cons.2 ⟨wholePiece (s := S8x128) (saV x2) ![0, 0] inb_S8x128_S8x128_0_0 (by intro a; match a with | ⟨0, _⟩ => rfl | ⟨1, _⟩ => rfl), ?_⟩
  exact fun p hp => absurd hp List.not_mem_nil
theorem cover_A14 (c : Dev nD) (arg3 : Memref sig .tc .vmem S8x256 .f32) (harg3 : arg3.IsWhole) (x2 : Vec F S8x256 .f32) : ∀ y, ∃ p ∈ runA.sl.H14_1 (F := F) c arg3 harg3 x2, y ∈ p.1.set := View.cover_of_tiledL _ S8x128.size rfl
theorem pieces_A15 (c : Dev nD) (arg4 : Memref sig .tc .vmem S8x256 .f32) (harg4 : arg4.IsWhole) (x3 : Vec F S8x256 .f32) : ∀ p ∈ runA.sl.H15_1 c arg4 harg4 x3, ∀ j, p.2 j = shV (F := F) x3 (p.1.emb j) := by
  unfold runA.sl.H15_1 runA.sl.r_3 shV
  rw [readWhole arg4 harg4 x3 _ _ (by intro a; match a with | ⟨0, _⟩ => rfl | ⟨1, _⟩ => rfl)]
  refine List.forall_mem_cons.2 ⟨wholePiece (s := S8x128) (shV x3) ![0, 0] inb_S8x128_S8x128_0_0 (by intro a; match a with | ⟨0, _⟩ => rfl | ⟨1, _⟩ => rfl), ?_⟩
  exact fun p hp => absurd hp List.not_mem_nil
theorem cover_A15 (c : Dev nD) (arg4 : Memref sig .tc .vmem S8x256 .f32) (harg4 : arg4.IsWhole) (x3 : Vec F S8x256 .f32) : ∀ y, ∃ p ∈ runA.sl.H15_1 (F := F) c arg4 harg4 x3, y ∈ p.1.set := View.cover_of_tiledL _ S8x128.size rfl
theorem v1589_A (c : Dev nD) (arg3 : Memref sig .tc .vmem S8x256 .f32) (harg3 : arg3.IsWhole) (arg15 : Memref sig .tc .vmem S8x128 .f32) (x2 : Vec F S8x256 .f32) : runA.sl.v1589 c arg3 harg3 arg15 x2 = cell 0 (saV x2) := by
  unfold runA.sl.v1589
  rw [readCov_pieces _ (saV x2) _ (pieces_A14 c arg3 harg3 x2) (cover_A14 c arg3 harg3 x2)]
  funext j
  refine congrArg (saV x2) ?_
  have h0 : (j 0).val < 1 := (j 0).isLt
  have h1 : (j 1).val < 1 := (j 1).isLt
  funext a; apply Fin.ext
  match a with
  | ⟨0, _⟩ => show 0 + 1 * (j 0).val = 0; omega
  | ⟨1, _⟩ => show 0 + 1 * (j 1).val = 0; omega
theorem v1591_A (c : Dev nD) (arg4 : Memref sig .tc .vmem S8x256 .f32) (harg4 : arg4.IsWhole) (arg16 : Memref sig .tc .vmem S8x128 .f32) (x3 : Vec F S8x256 .f32) : runA.sl.v1591 c arg4 harg4 arg16 x3 = cell 0 (shV x3) := by
  unfold runA.sl.v1591
  rw [readCov_pieces _ (shV x3) _ (pieces_A15 c arg4 harg4 x3) (cover_A15 c arg4 harg4 x3)]
  funext j
  refine congrArg (shV x3) ?_
  have h0 : (j 0).val < 1 := (j 0).isLt
  have h1 : (j 1).val < 1 := (j 1).isLt
  funext a; apply Fin.ext
  match a with
  | ⟨0, _⟩ => show 0 + 1 * (j 0).val = 0; omega
  | ⟨1, _⟩ => show 0 + 1 * (j 1).val = 0; omega
/-- The stored codes are one function of the block. -/
theorem codes_A12 (c : Dev nD) (arg3 : Memref sig .tc .vmem S8x256 .f32) (harg3 : arg3.IsWhole) (arg4 : Memref sig .tc .vmem S8x256 .f32) (harg4 : arg4.IsWhole) (arg7 : Memref sig .tc .vmem S1x1536x256 .bf16) (harg7 : arg7.IsWhole) (arg18 : Memref sig .tc .vmem S8x128 .f32) (x2 : Vec F S8x256 .f32) (x3 : Vec F S8x256 .f32) (x6 : Vec F S1x1536x256 .bf16) : ∀ p ∈ runA.sl.H12_48 c arg3 harg3 arg4 harg4 arg7 harg7 arg18 x2 x3 x6, ∀ j, p.2 j = quantA (invA x2) x6 (p.1.emb j) := by
  have h := piecesA12 c arg3 harg3 arg4 harg4 arg7 harg7 arg18 x2 x3 x6
  rw [show runA.sl.v3 c arg3 harg3 arg4 harg4 arg18 x2 x3 = (invA x2) from (v3_A c arg3 harg3 arg4 harg4 arg18 x2 x3)] at h
  exact h
theorem cover_A12 (c : Dev nD) (arg3 : Memref sig .tc .vmem S8x256 .f32) (harg3 : arg3.IsWhole) (arg4 : Memref sig .tc .vmem S8x256 .f32) (harg4 : arg4.IsWhole) (arg7 : Memref sig .tc .vmem S1x1536x256 .bf16) (harg7 : arg7.IsWhole) (arg18 : Memref sig .tc .vmem S8x128 .f32) (x2 : Vec F S8x256 .f32) (x3 : Vec F S8x256 .f32) (x6 : Vec F S1x1536x256 .bf16) : ∀ y, ∃ p ∈ runA.sl.H12_48 (F := F) c arg3 harg3 arg4 harg4 arg7 harg7 arg18 x2 x3 x6, y ∈ p.1.set := View.cover_of_tiledL _ S32x256.size (by sl_kernel_rfl)
/-- The stored codes are one function of the block. -/
theorem codes_A13 (c : Dev nD) (arg3 : Memref sig .tc .vmem S8x256 .f32) (harg3 : arg3.IsWhole) (arg4 : Memref sig .tc .vmem S8x256 .f32) (harg4 : arg4.IsWhole) (arg8 : Memref sig .tc .vmem S1x2x1536x256 .bf16) (harg8 : arg8.IsWhole) (arg18 : Memref sig .tc .vmem S8x128 .f32) (x2 : Vec F S8x256 .f32) (x3 : Vec F S8x256 .f32) (x7 : Vec F S1x2x1536x256 .bf16) : ∀ p ∈ runA.sl.H13_96 c arg3 harg3 arg4 harg4 arg8 harg8 arg18 x2 x3 x7, ∀ j, p.2 j = quantH (invH x3) x7 (p.1.emb j) := by
  have h := piecesA13 c arg3 harg3 arg4 harg4 arg8 harg8 arg18 x2 x3 x7
  rw [show runA.sl.v4 c arg3 harg3 arg4 harg4 arg18 x2 x3 = (invH x3) from (v4_A c arg3 harg3 arg4 harg4 arg18 x2 x3)] at h
  exact h
theorem cover_A13 (c : Dev nD) (arg3 : Memref sig .tc .vmem S8x256 .f32) (harg3 : arg3.IsWhole) (arg4 : Memref sig .tc .vmem S8x256 .f32) (harg4 : arg4.IsWhole) (arg8 : Memref sig .tc .vmem S1x2x1536x256 .bf16) (harg8 : arg8.IsWhole) (arg18 : Memref sig .tc .vmem S8x128 .f32) (x2 : Vec F S8x256 .f32) (x3 : Vec F S8x256 .f32) (x7 : Vec F S1x2x1536x256 .bf16) : ∀ y, ∃ p ∈ runA.sl.H13_96 (F := F) c arg3 harg3 arg4 harg4 arg8 harg8 arg18 x2 x3 x7, y ∈ p.1.set := View.cover_of_tiledL _ S32x256.size (by sl_kernel_rfl)
theorem v1599_A (c : Dev nD) (arg3 : Memref sig .tc .vmem S8x256 .f32) (harg3 : arg3.IsWhole) (arg4 : Memref sig .tc .vmem S8x256 .f32) (harg4 : arg4.IsWhole) (arg8 : Memref sig .tc .vmem S1x2x1536x256 .bf16) (harg8 : arg8.IsWhole) (arg14 : Memref sig .tc .vmem S1536x512 .fp8e5m2) (arg18 : Memref sig .tc .vmem S8x128 .f32) (x2 : Vec F S8x256 .f32) (x3 : Vec F S8x256 .f32) (x7 : Vec F S1x2x1536x256 .bf16) : runA.sl.v1599 c arg3 harg3 arg4 harg4 arg8 harg8 arg14 arg18 x2 x3 x7 = quantH (invH x3) x7 := by
  unfold runA.sl.v1599
  rw [readCov_pieces _ (quantH (invH x3) x7) _ (codes_A13 c arg3 harg3 arg4 harg4 arg8 harg8 arg18 x2 x3 x7) (cover_A13 c arg3 harg3 arg4 harg4 arg8 harg8 arg18 x2 x3 x7)]
  exact whole_load _ _ _ (by intro a; match a with | ⟨0, _⟩ => rfl | ⟨1, _⟩ => rfl)
theorem v1622_A (c : Dev nD) (arg3 : Memref sig .tc .vmem S8x256 .f32) (harg3 : arg3.IsWhole) (arg4 : Memref sig .tc .vmem S8x256 .f32) (harg4 : arg4.IsWhole) (arg7 : Memref sig .tc .vmem S1x1536x256 .bf16) (harg7 : arg7.IsWhole) (arg13 : Memref sig .tc .vmem S1536x256 .fp8e4m3) (arg18 : Memref sig .tc .vmem S8x128 .f32) (x2 : Vec F S8x256 .f32) (x3 : Vec F S8x256 .f32) (x6 : Vec F S1x1536x256 .bf16) : runA.sl.v1622 c arg3 harg3 arg4 harg4 arg7 harg7 arg13 arg18 x2 x3 x6 = quantA (invA x2) x6 := by
  unfold runA.sl.v1622
  rw [readCov_pieces _ (quantA (invA x2) x6) _ (codes_A12 c arg3 harg3 arg4 harg4 arg7 harg7 arg18 x2 x3 x6) (cover_A12 c arg3 harg3 arg4 harg4 arg7 harg7 arg18 x2 x3 x6)]
  exact whole_load _ _ _ (by intro a; match a with | ⟨0, _⟩ => rfl | ⟨1, _⟩ => rfl)
theorem v1632_A (c : Dev nD) (arg3 : Memref sig .tc .vmem S8x256 .f32) (harg3 : arg3.IsWhole) (arg4 : Memref sig .tc .vmem S8x256 .f32) (harg4 : arg4.IsWhole) (arg8 : Memref sig .tc .vmem S1x2x1536x256 .bf16) (harg8 : arg8.IsWhole) (arg14 : Memref sig .tc .vmem S1536x512 .fp8e5m2) (arg18 : Memref sig .tc .vmem S8x128 .f32) (x2 : Vec F S8x256 .f32) (x3 : Vec F S8x256 .f32) (x7 : Vec F S1x2x1536x256 .bf16) : runA.sl.v1632 c arg3 harg3 arg4 harg4 arg8 harg8 arg14 arg18 x2 x3 x7 = hcRows 0 (quantH (invH x3) x7) := by
  unfold runA.sl.v1632
  rw [readCov_pieces _ (quantH (invH x3) x7) _ (codes_A13 c arg3 harg3 arg4 harg4 arg8 harg8 arg18 x2 x3 x7) (cover_A13 c arg3 harg3 arg4 harg4 arg8 harg8 arg18 x2 x3 x7)]
  exact hcRows_load 0 0 rfl _ _
theorem v1641_A (c : Dev nD) (arg3 : Memref sig .tc .vmem S8x256 .f32) (harg3 : arg3.IsWhole) (arg4 : Memref sig .tc .vmem S8x256 .f32) (harg4 : arg4.IsWhole) (arg8 : Memref sig .tc .vmem S1x2x1536x256 .bf16) (harg8 : arg8.IsWhole) (arg14 : Memref sig .tc .vmem S1536x512 .fp8e5m2) (arg18 : Memref sig .tc .vmem S8x128 .f32) (x2 : Vec F S8x256 .f32) (x3 : Vec F S8x256 .f32) (x7 : Vec F S1x2x1536x256 .bf16) : runA.sl.v1641 c arg3 harg3 arg4 harg4 arg8 harg8 arg14 arg18 x2 x3 x7 = hcRows 1 (quantH (invH x3) x7) := by
  unfold runA.sl.v1641
  rw [readCov_pieces _ (quantH (invH x3) x7) _ (codes_A13 c arg3 harg3 arg4 harg4 arg8 harg8 arg18 x2 x3 x7) (cover_A13 c arg3 harg3 arg4 harg4 arg8 harg8 arg18 x2 x3 x7)]
  exact hcRows_load 1 512 rfl _ _
theorem v1650_A (c : Dev nD) (arg3 : Memref sig .tc .vmem S8x256 .f32) (harg3 : arg3.IsWhole) (arg4 : Memref sig .tc .vmem S8x256 .f32) (harg4 : arg4.IsWhole) (arg8 : Memref sig .tc .vmem S1x2x1536x256 .bf16) (harg8 : arg8.IsWhole) (arg14 : Memref sig .tc .vmem S1536x512 .fp8e5m2) (arg18 : Memref sig .tc .vmem S8x128 .f32) (x2 : Vec F S8x256 .f32) (x3 : Vec F S8x256 .f32) (x7 : Vec F S1x2x1536x256 .bf16) : runA.sl.v1650 c arg3 harg3 arg4 harg4 arg8 harg8 arg14 arg18 x2 x3 x7 = hcRows 2 (quantH (invH x3) x7) := by
  unfold runA.sl.v1650
  rw [readCov_pieces _ (quantH (invH x3) x7) _ (codes_A13 c arg3 harg3 arg4 harg4 arg8 harg8 arg18 x2 x3 x7) (cover_A13 c arg3 harg3 arg4 harg4 arg8 harg8 arg18 x2 x3 x7)]
  exact hcRows_load 2 1024 rfl _ _
/-- The stored codes are one function of the block. -/
theorem codes_B12 (c : Dev nD) (arg7 : Memref sig .tc .vmem S1x1536x256 .bf16) (harg7 : arg7.IsWhole) (arg18 : Memref sig .tc .vmem S8x128 .f32) (harg18 : arg18.IsWhole) (x6 : Vec F S1x1536x256 .bf16) (y17 : Vec F S8x128 .f32) : ∀ p ∈ runB.sl.H12_48 c arg7 harg7 arg18 harg18 x6 y17, ∀ j, p.2 j = quantA (cell 0 y17) x6 (p.1.emb j) := by
  have h := piecesB12 c arg7 harg7 arg18 harg18 y17 x6
  rw [show View.readAt (Elt F) arg18.view (Rect.unit (s := S8x128) ![0, 0] S1x1.size inb_S8x128_S1x1_0_0).toLoadRect (harg18.unread y17) = (cell 0 y17) from (readCell 0 arg18 harg18 y17 inb_S8x128_S1x1_0_0)] at h
  exact h
theorem cover_B12 (c : Dev nD) (arg7 : Memref sig .tc .vmem S1x1536x256 .bf16) (harg7 : arg7.IsWhole) (arg18 : Memref sig .tc .vmem S8x128 .f32) (harg18 : arg18.IsWhole) (x6 : Vec F S1x1536x256 .bf16) (y17 : Vec F S8x128 .f32) : ∀ y, ∃ p ∈ runB.sl.H12_48 (F := F) c arg7 harg7 arg18 harg18 x6 y17, y ∈ p.1.set := View.cover_of_tiledL _ S32x256.size (by sl_kernel_rfl)
/-- The stored codes are one function of the block. -/
theorem codes_B13 (c : Dev nD) (arg8 : Memref sig .tc .vmem S1x2x1536x256 .bf16) (harg8 : arg8.IsWhole) (arg18 : Memref sig .tc .vmem S8x128 .f32) (harg18 : arg18.IsWhole) (x7 : Vec F S1x2x1536x256 .bf16) (y17 : Vec F S8x128 .f32) : ∀ p ∈ runB.sl.H13_96 c arg8 harg8 arg18 harg18 x7 y17, ∀ j, p.2 j = quantH (cell 1 y17) x7 (p.1.emb j) := by
  have h := piecesB13 c arg8 harg8 arg18 harg18 y17 x7
  rw [show View.readAt (Elt F) arg18.view (Rect.unit (s := S8x128) ![1, 0] S1x1.size inb_S8x128_S1x1_1_0).toLoadRect (harg18.unread y17) = (cell 1 y17) from (readCell 1 arg18 harg18 y17 inb_S8x128_S1x1_1_0)] at h
  exact h
theorem cover_B13 (c : Dev nD) (arg8 : Memref sig .tc .vmem S1x2x1536x256 .bf16) (harg8 : arg8.IsWhole) (arg18 : Memref sig .tc .vmem S8x128 .f32) (harg18 : arg18.IsWhole) (x7 : Vec F S1x2x1536x256 .bf16) (y17 : Vec F S8x128 .f32) : ∀ y, ∃ p ∈ runB.sl.H13_96 (F := F) c arg8 harg8 arg18 harg18 x7 y17, y ∈ p.1.set := View.cover_of_tiledL _ S32x256.size (by sl_kernel_rfl)
theorem v1599_B (c : Dev nD) (arg8 : Memref sig .tc .vmem S1x2x1536x256 .bf16) (harg8 : arg8.IsWhole) (arg14 : Memref sig .tc .vmem S1536x512 .fp8e5m2) (arg18 : Memref sig .tc .vmem S8x128 .f32) (harg18 : arg18.IsWhole) (x7 : Vec F S1x2x1536x256 .bf16) (y17 : Vec F S8x128 .f32) : runB.sl.v1599 c arg8 harg8 arg14 arg18 harg18 x7 y17 = quantH (cell 1 y17) x7 := by
  unfold runB.sl.v1599
  rw [readCov_pieces _ (quantH (cell 1 y17) x7) _ (codes_B13 c arg8 harg8 arg18 harg18 x7 y17) (cover_B13 c arg8 harg8 arg18 harg18 x7 y17)]
  exact whole_load _ _ _ (by intro a; match a with | ⟨0, _⟩ => rfl | ⟨1, _⟩ => rfl)
theorem v1622_B (c : Dev nD) (arg7 : Memref sig .tc .vmem S1x1536x256 .bf16) (harg7 : arg7.IsWhole) (arg13 : Memref sig .tc .vmem S1536x256 .fp8e4m3) (arg18 : Memref sig .tc .vmem S8x128 .f32) (harg18 : arg18.IsWhole) (x6 : Vec F S1x1536x256 .bf16) (y17 : Vec F S8x128 .f32) : runB.sl.v1622 c arg7 harg7 arg13 arg18 harg18 x6 y17 = quantA (cell 0 y17) x6 := by
  unfold runB.sl.v1622
  rw [readCov_pieces _ (quantA (cell 0 y17) x6) _ (codes_B12 c arg7 harg7 arg18 harg18 x6 y17) (cover_B12 c arg7 harg7 arg18 harg18 x6 y17)]
  exact whole_load _ _ _ (by intro a; match a with | ⟨0, _⟩ => rfl | ⟨1, _⟩ => rfl)
theorem v1632_B (c : Dev nD) (arg8 : Memref sig .tc .vmem S1x2x1536x256 .bf16) (harg8 : arg8.IsWhole) (arg14 : Memref sig .tc .vmem S1536x512 .fp8e5m2) (arg18 : Memref sig .tc .vmem S8x128 .f32) (harg18 : arg18.IsWhole) (x7 : Vec F S1x2x1536x256 .bf16) (y17 : Vec F S8x128 .f32) : runB.sl.v1632 c arg8 harg8 arg14 arg18 harg18 x7 y17 = hcRows 0 (quantH (cell 1 y17) x7) := by
  unfold runB.sl.v1632
  rw [readCov_pieces _ (quantH (cell 1 y17) x7) _ (codes_B13 c arg8 harg8 arg18 harg18 x7 y17) (cover_B13 c arg8 harg8 arg18 harg18 x7 y17)]
  exact hcRows_load 0 0 rfl _ _
theorem v1641_B (c : Dev nD) (arg8 : Memref sig .tc .vmem S1x2x1536x256 .bf16) (harg8 : arg8.IsWhole) (arg14 : Memref sig .tc .vmem S1536x512 .fp8e5m2) (arg18 : Memref sig .tc .vmem S8x128 .f32) (harg18 : arg18.IsWhole) (x7 : Vec F S1x2x1536x256 .bf16) (y17 : Vec F S8x128 .f32) : runB.sl.v1641 c arg8 harg8 arg14 arg18 harg18 x7 y17 = hcRows 1 (quantH (cell 1 y17) x7) := by
  unfold runB.sl.v1641
  rw [readCov_pieces _ (quantH (cell 1 y17) x7) _ (codes_B13 c arg8 harg8 arg18 harg18 x7 y17) (cover_B13 c arg8 harg8 arg18 harg18 x7 y17)]
  exact hcRows_load 1 512 rfl _ _
theorem v1650_B (c : Dev nD) (arg8 : Memref sig .tc .vmem S1x2x1536x256 .bf16) (harg8 : arg8.IsWhole) (arg14 : Memref sig .tc .vmem S1536x512 .fp8e5m2) (arg18 : Memref sig .tc .vmem S8x128 .f32) (harg18 : arg18.IsWhole) (x7 : Vec F S1x2x1536x256 .bf16) (y17 : Vec F S8x128 .f32) : runB.sl.v1650 c arg8 harg8 arg14 arg18 harg18 x7 y17 = hcRows 2 (quantH (cell 1 y17) x7) := by
  unfold runB.sl.v1650
  rw [readCov_pieces _ (quantH (cell 1 y17) x7) _ (codes_B13 c arg8 harg8 arg18 harg18 x7 y17) (cover_B13 c arg8 harg8 arg18 harg18 x7 y17)]
  exact hcRows_load 2 1024 rfl _ _
/-- The stored codes are one function of the block. -/
theorem codes_C12 (c : Dev nD) (arg7 : Memref sig .tc .vmem S1x1536x256 .bf16) (harg7 : arg7.IsWhole) (arg18 : Memref sig .tc .vmem S8x128 .f32) (harg18 : arg18.IsWhole) (x6 : Vec F S1x1536x256 .bf16) (y17 : Vec F S8x128 .f32) : ∀ p ∈ runC.sl.H12_48 c arg7 harg7 arg18 harg18 x6 y17, ∀ j, p.2 j = quantA (cell 0 y17) x6 (p.1.emb j) := by
  have h := piecesC12 c arg7 harg7 arg18 harg18 y17 x6
  rw [show View.readAt (Elt F) arg18.view (Rect.unit (s := S8x128) ![0, 0] S1x1.size inb_S8x128_S1x1_0_0).toLoadRect (harg18.unread y17) = (cell 0 y17) from (readCell 0 arg18 harg18 y17 inb_S8x128_S1x1_0_0)] at h
  exact h
theorem cover_C12 (c : Dev nD) (arg7 : Memref sig .tc .vmem S1x1536x256 .bf16) (harg7 : arg7.IsWhole) (arg18 : Memref sig .tc .vmem S8x128 .f32) (harg18 : arg18.IsWhole) (x6 : Vec F S1x1536x256 .bf16) (y17 : Vec F S8x128 .f32) : ∀ y, ∃ p ∈ runC.sl.H12_48 (F := F) c arg7 harg7 arg18 harg18 x6 y17, y ∈ p.1.set := View.cover_of_tiledL _ S32x256.size (by sl_kernel_rfl)
/-- The stored codes are one function of the block. -/
theorem codes_C13 (c : Dev nD) (arg8 : Memref sig .tc .vmem S1x2x1536x256 .bf16) (harg8 : arg8.IsWhole) (arg18 : Memref sig .tc .vmem S8x128 .f32) (harg18 : arg18.IsWhole) (x7 : Vec F S1x2x1536x256 .bf16) (y17 : Vec F S8x128 .f32) : ∀ p ∈ runC.sl.H13_96 c arg8 harg8 arg18 harg18 x7 y17, ∀ j, p.2 j = quantH (cell 1 y17) x7 (p.1.emb j) := by
  have h := piecesC13 c arg8 harg8 arg18 harg18 y17 x7
  rw [show View.readAt (Elt F) arg18.view (Rect.unit (s := S8x128) ![1, 0] S1x1.size inb_S8x128_S1x1_1_0).toLoadRect (harg18.unread y17) = (cell 1 y17) from (readCell 1 arg18 harg18 y17 inb_S8x128_S1x1_1_0)] at h
  exact h
theorem cover_C13 (c : Dev nD) (arg8 : Memref sig .tc .vmem S1x2x1536x256 .bf16) (harg8 : arg8.IsWhole) (arg18 : Memref sig .tc .vmem S8x128 .f32) (harg18 : arg18.IsWhole) (x7 : Vec F S1x2x1536x256 .bf16) (y17 : Vec F S8x128 .f32) : ∀ y, ∃ p ∈ runC.sl.H13_96 (F := F) c arg8 harg8 arg18 harg18 x7 y17, y ∈ p.1.set := View.cover_of_tiledL _ S32x256.size (by sl_kernel_rfl)
theorem v1599_C (c : Dev nD) (arg8 : Memref sig .tc .vmem S1x2x1536x256 .bf16) (harg8 : arg8.IsWhole) (arg14 : Memref sig .tc .vmem S1536x512 .fp8e5m2) (arg18 : Memref sig .tc .vmem S8x128 .f32) (harg18 : arg18.IsWhole) (x7 : Vec F S1x2x1536x256 .bf16) (y17 : Vec F S8x128 .f32) : runC.sl.v1599 c arg8 harg8 arg14 arg18 harg18 x7 y17 = quantH (cell 1 y17) x7 := by
  unfold runC.sl.v1599
  rw [readCov_pieces _ (quantH (cell 1 y17) x7) _ (codes_C13 c arg8 harg8 arg18 harg18 x7 y17) (cover_C13 c arg8 harg8 arg18 harg18 x7 y17)]
  exact whole_load _ _ _ (by intro a; match a with | ⟨0, _⟩ => rfl | ⟨1, _⟩ => rfl)
theorem v1622_C (c : Dev nD) (arg7 : Memref sig .tc .vmem S1x1536x256 .bf16) (harg7 : arg7.IsWhole) (arg13 : Memref sig .tc .vmem S1536x256 .fp8e4m3) (arg18 : Memref sig .tc .vmem S8x128 .f32) (harg18 : arg18.IsWhole) (x6 : Vec F S1x1536x256 .bf16) (y17 : Vec F S8x128 .f32) : runC.sl.v1622 c arg7 harg7 arg13 arg18 harg18 x6 y17 = quantA (cell 0 y17) x6 := by
  unfold runC.sl.v1622
  rw [readCov_pieces _ (quantA (cell 0 y17) x6) _ (codes_C12 c arg7 harg7 arg18 harg18 x6 y17) (cover_C12 c arg7 harg7 arg18 harg18 x6 y17)]
  exact whole_load _ _ _ (by intro a; match a with | ⟨0, _⟩ => rfl | ⟨1, _⟩ => rfl)
theorem v1632_C (c : Dev nD) (arg8 : Memref sig .tc .vmem S1x2x1536x256 .bf16) (harg8 : arg8.IsWhole) (arg14 : Memref sig .tc .vmem S1536x512 .fp8e5m2) (arg18 : Memref sig .tc .vmem S8x128 .f32) (harg18 : arg18.IsWhole) (x7 : Vec F S1x2x1536x256 .bf16) (y17 : Vec F S8x128 .f32) : runC.sl.v1632 c arg8 harg8 arg14 arg18 harg18 x7 y17 = hcRows 0 (quantH (cell 1 y17) x7) := by
  unfold runC.sl.v1632
  rw [readCov_pieces _ (quantH (cell 1 y17) x7) _ (codes_C13 c arg8 harg8 arg18 harg18 x7 y17) (cover_C13 c arg8 harg8 arg18 harg18 x7 y17)]
  exact hcRows_load 0 0 rfl _ _
theorem v1641_C (c : Dev nD) (arg8 : Memref sig .tc .vmem S1x2x1536x256 .bf16) (harg8 : arg8.IsWhole) (arg14 : Memref sig .tc .vmem S1536x512 .fp8e5m2) (arg18 : Memref sig .tc .vmem S8x128 .f32) (harg18 : arg18.IsWhole) (x7 : Vec F S1x2x1536x256 .bf16) (y17 : Vec F S8x128 .f32) : runC.sl.v1641 c arg8 harg8 arg14 arg18 harg18 x7 y17 = hcRows 1 (quantH (cell 1 y17) x7) := by
  unfold runC.sl.v1641
  rw [readCov_pieces _ (quantH (cell 1 y17) x7) _ (codes_C13 c arg8 harg8 arg18 harg18 x7 y17) (cover_C13 c arg8 harg8 arg18 harg18 x7 y17)]
  exact hcRows_load 1 512 rfl _ _
theorem v1650_C (c : Dev nD) (arg8 : Memref sig .tc .vmem S1x2x1536x256 .bf16) (harg8 : arg8.IsWhole) (arg14 : Memref sig .tc .vmem S1536x512 .fp8e5m2) (arg18 : Memref sig .tc .vmem S8x128 .f32) (harg18 : arg18.IsWhole) (x7 : Vec F S1x2x1536x256 .bf16) (y17 : Vec F S8x128 .f32) : runC.sl.v1650 c arg8 harg8 arg14 arg18 harg18 x7 y17 = hcRows 2 (quantH (cell 1 y17) x7) := by
  unfold runC.sl.v1650
  rw [readCov_pieces _ (quantH (cell 1 y17) x7) _ (codes_C13 c arg8 harg8 arg18 harg18 x7 y17) (cover_C13 c arg8 harg8 arg18 harg18 x7 y17)]
  exact hcRows_load 2 1024 rfl _ _
end Cert.GradientsIdeal.Hand

end
-- ==== Proof.GResA.lean ====
module

public import proofs.«01_k».proof.Proof.GWords

@[expose] public section

set_option maxRecDepth 16384

noncomputable section

namespace Cert.GradientsIdeal.Hand

open Idealize.ShloMosaic.Tactic
open Cert.GradientsIdeal Cert.GradientsIdeal.Gen
open Idealize.ShloMosaic hiding ix0 ix1 ix2 ix3 ix4 ix5
open Idealize.ShloMosaic.ValueIdx

variable {F : FTy → Type} [FloatOps F]

/-- The factor of dW1. -/
theorem w1_A (c : Dev nD) (arg1 : Memref sig .tc .smem S2 .f32) (harg1 : arg1.IsWhole) (arg4 : Memref sig .tc .vmem S8x256 .f32) (harg4 : arg4.IsWhole) (arg16 : Memref sig .tc .vmem S8x128 .f32) (x0 : Vec F S2 .f32) (x3 : Vec F S8x256 .f32) : runA.sl.r_48 c arg1 harg1 arg4 harg4 arg16 x0 x3 = k0_pay198 (cell 0 (shV x3)) (x0 (ix1 (0 : Fin 2))) :=
  congrArg₂ k0_pay198 (v1591_A c arg4 harg4 arg16 x3) (readScalar 0 arg1 harg1 x0 inb_S2_S1_0 _)
/-- The factor of dW2. -/
theorem w2_A (c : Dev nD) (arg2 : Memref sig .tc .vmem S8x128 .f32) (harg2 : arg2.IsWhole) (arg3 : Memref sig .tc .vmem S8x256 .f32) (harg3 : arg3.IsWhole) (arg15 : Memref sig .tc .vmem S8x128 .f32) (x1 : Vec F S8x128 .f32) (x2 : Vec F S8x256 .f32) : runA.sl.r_49 c arg2 harg2 arg3 harg3 arg15 x1 x2 = k0_pay199 (cell 0 (saV x2)) (cell 0 x1) :=
  congrArg₂ k0_pay199 (v1589_A c arg3 harg3 arg15 x2) (readCell 0 arg2 harg2 x1 inb_S8x128_S1x1_0_0)
/-- dW1's pieces are one function. -/
theorem pieces10_A (c : Dev nD) (i : grid0.Coords) (arg1 : Memref sig .tc .smem S2 .f32) (harg1 : arg1.IsWhole) (arg2 : Memref sig .tc .vmem S8x128 .f32) (harg2 : arg2.IsWhole) (arg3 : Memref sig .tc .vmem S8x256 .f32) (harg3 : arg3.IsWhole) (arg4 : Memref sig .tc .vmem S8x256 .f32) (harg4 : arg4.IsWhole) (arg5 : Memref sig .tc .vmem S2304x1536 .fp8e4m3) (harg5 : arg5.IsWhole) (arg6 : Memref sig .tc .vmem S1536x2304 .fp8e5m2) (harg6 : arg6.IsWhole) (arg7 : Memref sig .tc .vmem S1x1536x256 .bf16) (harg7 : arg7.IsWhole) (arg8 : Memref sig .tc .vmem S1x2x1536x256 .bf16) (harg8 : arg8.IsWhole) (arg9 : Memref sig .tc .vmem S2304x512 .fp8e4m3) (harg9 : arg9.IsWhole) (arg10 : Memref sig .tc .vmem S1536x2304 .bf16) (harg10 : arg10.IsWhole) (arg11 : Memref sig .tc .vmem S2304x512 .bf16) (harg11 : arg11.IsWhole) (arg12 : Memref sig .tc .vmem S256x2304 .bf16) (harg12 : arg12.IsWhole) (arg13 : Memref sig .tc .vmem S1536x256 .fp8e4m3) (harg13 : arg13.IsWhole) (arg14 : Memref sig .tc .vmem S1536x512 .fp8e5m2) (harg14 : arg14.IsWhole) (arg15 : Memref sig .tc .vmem S8x128 .f32) (harg15 : arg15.IsWhole) (arg16 : Memref sig .tc .vmem S8x128 .f32) (harg16 : arg16.IsWhole) (arg17 : Memref sig .tc .vmem S1536x2304 .f32) (harg17 : arg17.IsWhole) (arg18 : Memref sig .tc .vmem S8x128 .f32) (harg18 : arg18.IsWhole) (hc0 : cond0_0 i) (hc1 : ¬cond0_1 i)
    (x0 : Vec F S2 .f32) (x1 : Vec F S8x128 .f32) (x2 : Vec F S8x256 .f32) (x3 : Vec F S8x256 .f32) (x4 : Vec F S2304x1536 .fp8e4m3) (x5 : Vec F S1536x2304 .fp8e5m2) (x6 : Vec F S1x1536x256 .bf16) (x7 : Vec F S1x2x1536x256 .bf16) (x8 : Vec F S2304x512 .fp8e4m3) (y9 : Vec F S1536x2304 .bf16) : ∀ p ∈ (runA (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 y9).1.1, ∀ j, p.2 j = dw1F (k0_pay198 (cell 0 (shV x3)) (x0 (ix1 (0 : Fin 2)))) x4 (quantH (invH x3) x7) (p.1.emb j) := by
  rw [← v1599_A c arg3 harg3 arg4 harg4 arg8 harg8 arg14 arg18 x2 x3 x7, ← w1_A c arg1 harg1 arg4 harg4 arg16 x0 x3]
  refine List.forall_mem_cons.2 ⟨fun j => piece1 1536 2 rfl inb_S2304x1536_S768x1536_1536_0 inb_S2304x512_S768x512_1536_0 arg5 harg5 _ x4 _ j, ?_⟩
  refine List.forall_mem_cons.2 ⟨fun j => piece1 768 1 rfl inb_S2304x1536_S768x1536_768_0 inb_S2304x512_S768x512_768_0 arg5 harg5 _ x4 _ j, ?_⟩
  refine List.forall_mem_cons.2 ⟨fun j => piece1 0 0 rfl inb_S2304x1536_S768x1536_0_0 inb_S2304x512_S768x512_0_0 arg5 harg5 _ x4 _ j, ?_⟩
  exact fun p hp => absurd hp List.not_mem_nil
theorem cover10_A (c : Dev nD) (i : grid0.Coords) (arg1 : Memref sig .tc .smem S2 .f32) (harg1 : arg1.IsWhole) (arg2 : Memref sig .tc .vmem S8x128 .f32) (harg2 : arg2.IsWhole) (arg3 : Memref sig .tc .vmem S8x256 .f32) (harg3 : arg3.IsWhole) (arg4 : Memref sig .tc .vmem S8x256 .f32) (harg4 : arg4.IsWhole) (arg5 : Memref sig .tc .vmem S2304x1536 .fp8e4m3) (harg5 : arg5.IsWhole) (arg6 : Memref sig .tc .vmem S1536x2304 .fp8e5m2) (harg6 : arg6.IsWhole) (arg7 : Memref sig .tc .vmem S1x1536x256 .bf16) (harg7 : arg7.IsWhole) (arg8 : Memref sig .tc .vmem S1x2x1536x256 .bf16) (harg8 : arg8.IsWhole) (arg9 : Memref sig .tc .vmem S2304x512 .fp8e4m3) (harg9 : arg9.IsWhole) (arg10 : Memref sig .tc .vmem S1536x2304 .bf16) (harg10 : arg10.IsWhole) (arg11 : Memref sig .tc .vmem S2304x512 .bf16) (harg11 : arg11.IsWhole) (arg12 : Memref sig .tc .vmem S256x2304 .bf16) (harg12 : arg12.IsWhole) (arg13 : Memref sig .tc .vmem S1536x256 .fp8e4m3) (harg13 : arg13.IsWhole) (arg14 : Memref sig .tc .vmem S1536x512 .fp8e5m2) (harg14 : arg14.IsWhole) (arg15 : Memref sig .tc .vmem S8x128 .f32) (harg15 : arg15.IsWhole) (arg16 : Memref sig .tc .vmem S8x128 .f32) (harg16 : arg16.IsWhole) (arg17 : Memref sig .tc .vmem S1536x2304 .f32) (harg17 : arg17.IsWhole) (arg18 : Memref sig .tc .vmem S8x128 .f32) (harg18 : arg18.IsWhole) (hc0 : cond0_0 i) (hc1 : ¬cond0_1 i)
    (x0 : Vec F S2 .f32) (x1 : Vec F S8x128 .f32) (x2 : Vec F S8x256 .f32) (x3 : Vec F S8x256 .f32) (x4 : Vec F S2304x1536 .fp8e4m3) (x5 : Vec F S1536x2304 .fp8e5m2) (x6 : Vec F S1x1536x256 .bf16) (x7 : Vec F S1x2x1536x256 .bf16) (x8 : Vec F S2304x512 .fp8e4m3) (y9 : Vec F S1536x2304 .bf16) : ∀ y, ∃ p ∈ (runA (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 y9).1.1, y ∈ p.1.set := View.cover_of_tiledL _ S768x512.size (by sl_kernel_rfl)
/-- dW2's piece. -/
theorem pieces11_A (c : Dev nD) (i : grid0.Coords) (arg1 : Memref sig .tc .smem S2 .f32) (harg1 : arg1.IsWhole) (arg2 : Memref sig .tc .vmem S8x128 .f32) (harg2 : arg2.IsWhole) (arg3 : Memref sig .tc .vmem S8x256 .f32) (harg3 : arg3.IsWhole) (arg4 : Memref sig .tc .vmem S8x256 .f32) (harg4 : arg4.IsWhole) (arg5 : Memref sig .tc .vmem S2304x1536 .fp8e4m3) (harg5 : arg5.IsWhole) (arg6 : Memref sig .tc .vmem S1536x2304 .fp8e5m2) (harg6 : arg6.IsWhole) (arg7 : Memref sig .tc .vmem S1x1536x256 .bf16) (harg7 : arg7.IsWhole) (arg8 : Memref sig .tc .vmem S1x2x1536x256 .bf16) (harg8 : arg8.IsWhole) (arg9 : Memref sig .tc .vmem S2304x512 .fp8e4m3) (harg9 : arg9.IsWhole) (arg10 : Memref sig .tc .vmem S1536x2304 .bf16) (harg10 : arg10.IsWhole) (arg11 : Memref sig .tc .vmem S2304x512 .bf16) (harg11 : arg11.IsWhole) (arg12 : Memref sig .tc .vmem S256x2304 .bf16) (harg12 : arg12.IsWhole) (arg13 : Memref sig .tc .vmem S1536x256 .fp8e4m3) (harg13 : arg13.IsWhole) (arg14 : Memref sig .tc .vmem S1536x512 .fp8e5m2) (harg14 : arg14.IsWhole) (arg15 : Memref sig .tc .vmem S8x128 .f32) (harg15 : arg15.IsWhole) (arg16 : Memref sig .tc .vmem S8x128 .f32) (harg16 : arg16.IsWhole) (arg17 : Memref sig .tc .vmem S1536x2304 .f32) (harg17 : arg17.IsWhole) (arg18 : Memref sig .tc .vmem S8x128 .f32) (harg18 : arg18.IsWhole) (hc0 : cond0_0 i) (hc1 : ¬cond0_1 i)
    (x0 : Vec F S2 .f32) (x1 : Vec F S8x128 .f32) (x2 : Vec F S8x256 .f32) (x3 : Vec F S8x256 .f32) (x4 : Vec F S2304x1536 .fp8e4m3) (x5 : Vec F S1536x2304 .fp8e5m2) (x6 : Vec F S1x1536x256 .bf16) (x7 : Vec F S1x2x1536x256 .bf16) (x8 : Vec F S2304x512 .fp8e4m3) (y9 : Vec F S1536x2304 .bf16) : ∀ p ∈ (runA (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 y9).1.2.1, ∀ j, p.2 j = dw2F (k0_pay199 (cell 0 (saV x2)) (cell 0 x1)) (quantA (invA x2) x6) x5 (p.1.emb j) := by
  rw [← v1622_A c arg3 harg3 arg4 harg4 arg7 harg7 arg13 arg18 x2 x3 x6, ← w2_A c arg2 harg2 arg3 harg3 arg15 x1 x2]
  refine List.forall_mem_cons.2 ⟨fun j => ?_, fun p hp => absurd hp List.not_mem_nil⟩
  show k0_pay203 (F := F) _ _ _ j = _
  rw [readWhole arg6 harg6 x5 _ _ (by intro a; match a with | ⟨0, _⟩ => rfl | ⟨1, _⟩ => rfl)]
  exact wholePiece (F := F) (s := S256x2304) (e := .bf16) (dw2F (F := F) _ _ x5) ![0, 0] inb_S256x2304_S256x2304_0_0 (by intro a; match a with | ⟨0, _⟩ => rfl | ⟨1, _⟩ => rfl) j
theorem cover11_A (c : Dev nD) (i : grid0.Coords) (arg1 : Memref sig .tc .smem S2 .f32) (harg1 : arg1.IsWhole) (arg2 : Memref sig .tc .vmem S8x128 .f32) (harg2 : arg2.IsWhole) (arg3 : Memref sig .tc .vmem S8x256 .f32) (harg3 : arg3.IsWhole) (arg4 : Memref sig .tc .vmem S8x256 .f32) (harg4 : arg4.IsWhole) (arg5 : Memref sig .tc .vmem S2304x1536 .fp8e4m3) (harg5 : arg5.IsWhole) (arg6 : Memref sig .tc .vmem S1536x2304 .fp8e5m2) (harg6 : arg6.IsWhole) (arg7 : Memref sig .tc .vmem S1x1536x256 .bf16) (harg7 : arg7.IsWhole) (arg8 : Memref sig .tc .vmem S1x2x1536x256 .bf16) (harg8 : arg8.IsWhole) (arg9 : Memref sig .tc .vmem S2304x512 .fp8e4m3) (harg9 : arg9.IsWhole) (arg10 : Memref sig .tc .vmem S1536x2304 .bf16) (harg10 : arg10.IsWhole) (arg11 : Memref sig .tc .vmem S2304x512 .bf16) (harg11 : arg11.IsWhole) (arg12 : Memref sig .tc .vmem S256x2304 .bf16) (harg12 : arg12.IsWhole) (arg13 : Memref sig .tc .vmem S1536x256 .fp8e4m3) (harg13 : arg13.IsWhole) (arg14 : Memref sig .tc .vmem S1536x512 .fp8e5m2) (harg14 : arg14.IsWhole) (arg15 : Memref sig .tc .vmem S8x128 .f32) (harg15 : arg15.IsWhole) (arg16 : Memref sig .tc .vmem S8x128 .f32) (harg16 : arg16.IsWhole) (arg17 : Memref sig .tc .vmem S1536x2304 .f32) (harg17 : arg17.IsWhole) (arg18 : Memref sig .tc .vmem S8x128 .f32) (harg18 : arg18.IsWhole) (hc0 : cond0_0 i) (hc1 : ¬cond0_1 i)
    (x0 : Vec F S2 .f32) (x1 : Vec F S8x128 .f32) (x2 : Vec F S8x256 .f32) (x3 : Vec F S8x256 .f32) (x4 : Vec F S2304x1536 .fp8e4m3) (x5 : Vec F S1536x2304 .fp8e5m2) (x6 : Vec F S1x1536x256 .bf16) (x7 : Vec F S1x2x1536x256 .bf16) (x8 : Vec F S2304x512 .fp8e4m3) (y9 : Vec F S1536x2304 .bf16) : ∀ y, ∃ p ∈ (runA (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 y9).1.2.1, y ∈ p.1.set := View.cover_of_tiledL _ S256x2304.size (by sl_kernel_rfl)
/-- The zeroing store alone. -/
theorem canonZ : View.canon (runA.sl.H16_1 (F := F)) = zeroX := by
  funext y
  refine View.canon_apply_of_pieces zeroX _ ?_ y (View.cover_of_tiledL _ S1536x2304.size (by sl_kernel_rfl) y)
  refine List.forall_mem_cons.2 ⟨wholePiece (F := F) (s := S1536x2304) zeroX ![0, 0] inb_S1536x2304_S1536x2304_0_0 (by intro a; match a with | ⟨0, _⟩ => rfl | ⟨1, _⟩ => rfl), ?_⟩
  exact fun p hp => absurd hp List.not_mem_nil
/-- An index below the rows a piece writes is not in the piece. -/
theorem not_mem_rows (r : ℕ) (h : ∀ a, (![r, 0] : Fin 2 → ℕ) a + S512x2304.size a ≤ S1536x2304.size a) (y : S1536x2304.Idx) (hy : r + 512 ≤ (y 0).val) :
    y ∉ (Rect.unit (s := S1536x2304) ![r, 0] S512x2304.size h).set := by
  intro hm
  obtain ⟨x, hx⟩ := (Rect.unit (s := S1536x2304) ![r, 0] S512x2304.size h).mem_set.mp hm 0
  have h1 : x < 512 := hx.1
  have h2 : (y 0).val = r + 1 * x := hx.2
  omega
theorem v1631_A (c : Dev nD) (arg17 : Memref sig .tc .vmem S1536x2304 .f32) : runA.sl.v1631 (F := F) c arg17 = accRows 0 zeroX := by
  unfold runA.sl.v1631
  rw [View.readCov_eq_canon', canonZ]
  exact accRows_load 0 0 rfl _ _
theorem v1640_A (c : Dev nD) (arg3 : Memref sig .tc .vmem S8x256 .f32) (harg3 : arg3.IsWhole) (arg4 : Memref sig .tc .vmem S8x256 .f32) (harg4 : arg4.IsWhole) (arg8 : Memref sig .tc .vmem S1x2x1536x256 .bf16) (harg8 : arg8.IsWhole) (arg9 : Memref sig .tc .vmem S2304x512 .fp8e4m3) (harg9 : arg9.IsWhole) (arg14 : Memref sig .tc .vmem S1536x512 .fp8e5m2) (arg17 : Memref sig .tc .vmem S1536x2304 .f32) (arg18 : Memref sig .tc .vmem S8x128 .f32) (x2 : Vec F S8x256 .f32) (x3 : Vec F S8x256 .f32) (x7 : Vec F S1x2x1536x256 .bf16) (x8 : Vec F S2304x512 .fp8e4m3) : runA.sl.v1640 c arg3 harg3 arg4 harg4 arg8 harg8 arg9 harg9 arg14 arg17 arg18 x2 x3 x7 x8 = accRows 1 zeroX := by
  unfold runA.sl.v1640
  rw [View.readCov_eq_canon']
  refine Eq.trans (funext fun j => ?_) (accRows_load 1 512 rfl inb_S1536x2304_S512x2304_512_0 zeroX)
  unfold runA.sl.H16_2
  rw [View.canon_cons_of_not_mem, canonZ]
  exact not_mem_rows 0 inb_S1536x2304_S512x2304_0_0 _ (by show 0 + 512 ≤ 512 + 1 * (j 0).val; omega)
theorem v1649_A (c : Dev nD) (arg3 : Memref sig .tc .vmem S8x256 .f32) (harg3 : arg3.IsWhole) (arg4 : Memref sig .tc .vmem S8x256 .f32) (harg4 : arg4.IsWhole) (arg8 : Memref sig .tc .vmem S1x2x1536x256 .bf16) (harg8 : arg8.IsWhole) (arg9 : Memref sig .tc .vmem S2304x512 .fp8e4m3) (harg9 : arg9.IsWhole) (arg14 : Memref sig .tc .vmem S1536x512 .fp8e5m2) (arg17 : Memref sig .tc .vmem S1536x2304 .f32) (arg18 : Memref sig .tc .vmem S8x128 .f32) (x2 : Vec F S8x256 .f32) (x3 : Vec F S8x256 .f32) (x7 : Vec F S1x2x1536x256 .bf16) (x8 : Vec F S2304x512 .fp8e4m3) : runA.sl.v1649 c arg3 harg3 arg4 harg4 arg8 harg8 arg9 harg9 arg14 arg17 arg18 x2 x3 x7 x8 = accRows 2 zeroX := by
  unfold runA.sl.v1649
  rw [View.readCov_eq_canon']
  refine Eq.trans (funext fun j => ?_) (accRows_load 2 1024 rfl inb_S1536x2304_S512x2304_1024_0 zeroX)
  unfold runA.sl.H16_3 runA.sl.H16_2
  rw [View.canon_cons_of_not_mem, View.canon_cons_of_not_mem, canonZ]
  · exact not_mem_rows 0 inb_S1536x2304_S512x2304_0_0 _ (by show 0 + 512 ≤ 1024 + 1 * (j 0).val; omega)
  · exact not_mem_rows 512 inb_S1536x2304_S512x2304_512_0 _ (by show 512 + 512 ≤ 1024 + 1 * (j 0).val; omega)
/-- The accumulator's three pieces over the zeroing store are one function. -/
theorem pieces16_A (c : Dev nD) (i : grid0.Coords) (arg1 : Memref sig .tc .smem S2 .f32) (harg1 : arg1.IsWhole) (arg2 : Memref sig .tc .vmem S8x128 .f32) (harg2 : arg2.IsWhole) (arg3 : Memref sig .tc .vmem S8x256 .f32) (harg3 : arg3.IsWhole) (arg4 : Memref sig .tc .vmem S8x256 .f32) (harg4 : arg4.IsWhole) (arg5 : Memref sig .tc .vmem S2304x1536 .fp8e4m3) (harg5 : arg5.IsWhole) (arg6 : Memref sig .tc .vmem S1536x2304 .fp8e5m2) (harg6 : arg6.IsWhole) (arg7 : Memref sig .tc .vmem S1x1536x256 .bf16) (harg7 : arg7.IsWhole) (arg8 : Memref sig .tc .vmem S1x2x1536x256 .bf16) (harg8 : arg8.IsWhole) (arg9 : Memref sig .tc .vmem S2304x512 .fp8e4m3) (harg9 : arg9.IsWhole) (arg10 : Memref sig .tc .vmem S1536x2304 .bf16) (harg10 : arg10.IsWhole) (arg11 : Memref sig .tc .vmem S2304x512 .bf16) (harg11 : arg11.IsWhole) (arg12 : Memref sig .tc .vmem S256x2304 .bf16) (harg12 : arg12.IsWhole) (arg13 : Memref sig .tc .vmem S1536x256 .fp8e4m3) (harg13 : arg13.IsWhole) (arg14 : Memref sig .tc .vmem S1536x512 .fp8e5m2) (harg14 : arg14.IsWhole) (arg15 : Memref sig .tc .vmem S8x128 .f32) (harg15 : arg15.IsWhole) (arg16 : Memref sig .tc .vmem S8x128 .f32) (harg16 : arg16.IsWhole) (arg17 : Memref sig .tc .vmem S1536x2304 .f32) (harg17 : arg17.IsWhole) (arg18 : Memref sig .tc .vmem S8x128 .f32) (harg18 : arg18.IsWhole) (hc0 : cond0_0 i) (hc1 : ¬cond0_1 i)
    (x0 : Vec F S2 .f32) (x1 : Vec F S8x128 .f32) (x2 : Vec F S8x256 .f32) (x3 : Vec F S8x256 .f32) (x4 : Vec F S2304x1536 .fp8e4m3) (x5 : Vec F S1536x2304 .fp8e5m2) (x6 : Vec F S1x1536x256 .bf16) (x7 : Vec F S1x2x1536x256 .bf16) (x8 : Vec F S2304x512 .fp8e4m3) (y9 : Vec F S1536x2304 .bf16) : ∃ L3 : List (View.Piece (Elt F) S1536x2304 .f32), (runA (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 y9).1.2.2.2.2.2.2.1 = L3 ++ runA.sl.H16_1 ∧
    (∀ p ∈ L3, ∀ j, p.2 j = dxF zeroX (quantH (invH x3) x7) x8 (p.1.emb j)) ∧ ∀ y, ∃ p ∈ L3, y ∈ p.1.set := by
  have e9 : View.readAt (Elt F) arg9.view (Rect.unit (s := S2304x512) ![0, 0] S2304x512.size inb_S2304x512_S2304x512_0_0).toLoadRect (harg9.unread x8) = x8 :=
    readWhole arg9 harg9 x8 _ _ (by intro a; match a with | ⟨0, _⟩ => rfl | ⟨1, _⟩ => rfl)
  refine ⟨[⟨Rect.unit (s := S1536x2304) ![1024, 0] S512x2304.size inb_S1536x2304_S512x2304_1024_0, k0_pay2 (runA.sl.v1649 c arg3 harg3 arg4 harg4 arg8 harg8 arg9 harg9 arg14 arg17 arg18 x2 x3 x7 x8) (runA.sl.v1650 c arg3 harg3 arg4 harg4 arg8 harg8 arg14 arg18 x2 x3 x7) (View.readAt (Elt F) arg9.view (Rect.unit (s := S2304x512) ![0, 0] S2304x512.size inb_S2304x512_S2304x512_0_0).toLoadRect (harg9.unread x8))⟩,
    ⟨Rect.unit (s := S1536x2304) ![512, 0] S512x2304.size inb_S1536x2304_S512x2304_512_0, k0_pay1 (runA.sl.v1640 c arg3 harg3 arg4 harg4 arg8 harg8 arg9 harg9 arg14 arg17 arg18 x2 x3 x7 x8) (runA.sl.v1641 c arg3 harg3 arg4 harg4 arg8 harg8 arg14 arg18 x2 x3 x7) (View.readAt (Elt F) arg9.view (Rect.unit (s := S2304x512) ![0, 0] S2304x512.size inb_S2304x512_S2304x512_0_0).toLoadRect (harg9.unread x8))⟩,
    ⟨Rect.unit (s := S1536x2304) ![0, 0] S512x2304.size inb_S1536x2304_S512x2304_0_0, k0_pay205 (runA.sl.r_51 c arg3 harg3 arg4 harg4 arg8 harg8 arg9 harg9 arg14 arg17 arg18 x2 x3 x7 x8)⟩], rfl, ?_, View.cover_of_tiledL _ S512x2304.size (by sl_kernel_rfl)⟩
  unfold runA.sl.r_51
  rw [e9, v1649_A, v1640_A, v1631_A, v1650_A, v1641_A, v1632_A]
  refine List.forall_mem_cons.2 ⟨fun j => pieceX 1024 2 rfl inb_S1536x2304_S512x2304_1024_0 zeroX (quantH (invH x3) x7) x8 j, ?_⟩
  refine List.forall_mem_cons.2 ⟨fun j => pieceX 512 1 rfl inb_S1536x2304_S512x2304_512_0 zeroX (quantH (invH x3) x7) x8 j, ?_⟩
  refine List.forall_mem_cons.2 ⟨fun j => pieceX 0 0 rfl inb_S1536x2304_S512x2304_0_0 zeroX (quantH (invH x3) x7) x8 j, ?_⟩
  exact fun p hp => absurd hp List.not_mem_nil
/-- Contents read back after the first point's stores into the accumulator. -/
theorem read16_A (c : Dev nD) (i : grid0.Coords) (arg1 : Memref sig .tc .smem S2 .f32) (harg1 : arg1.IsWhole) (arg2 : Memref sig .tc .vmem S8x128 .f32) (harg2 : arg2.IsWhole) (arg3 : Memref sig .tc .vmem S8x256 .f32) (harg3 : arg3.IsWhole) (arg4 : Memref sig .tc .vmem S8x256 .f32) (harg4 : arg4.IsWhole) (arg5 : Memref sig .tc .vmem S2304x1536 .fp8e4m3) (harg5 : arg5.IsWhole) (arg6 : Memref sig .tc .vmem S1536x2304 .fp8e5m2) (harg6 : arg6.IsWhole) (arg7 : Memref sig .tc .vmem S1x1536x256 .bf16) (harg7 : arg7.IsWhole) (arg8 : Memref sig .tc .vmem S1x2x1536x256 .bf16) (harg8 : arg8.IsWhole) (arg9 : Memref sig .tc .vmem S2304x512 .fp8e4m3) (harg9 : arg9.IsWhole) (arg10 : Memref sig .tc .vmem S1536x2304 .bf16) (harg10 : arg10.IsWhole) (arg11 : Memref sig .tc .vmem S2304x512 .bf16) (harg11 : arg11.IsWhole) (arg12 : Memref sig .tc .vmem S256x2304 .bf16) (harg12 : arg12.IsWhole) (arg13 : Memref sig .tc .vmem S1536x256 .fp8e4m3) (harg13 : arg13.IsWhole) (arg14 : Memref sig .tc .vmem S1536x512 .fp8e5m2) (harg14 : arg14.IsWhole) (arg15 : Memref sig .tc .vmem S8x128 .f32) (harg15 : arg15.IsWhole) (arg16 : Memref sig .tc .vmem S8x128 .f32) (harg16 : arg16.IsWhole) (arg17 : Memref sig .tc .vmem S1536x2304 .f32) (harg17 : arg17.IsWhole) (arg18 : Memref sig .tc .vmem S8x128 .f32) (harg18 : arg18.IsWhole) (hc0 : cond0_0 i) (hc1 : ¬cond0_1 i)
    (x0 : Vec F S2 .f32) (x1 : Vec F S8x128 .f32) (x2 : Vec F S8x256 .f32) (x3 : Vec F S8x256 .f32) (x4 : Vec F S2304x1536 .fp8e4m3) (x5 : Vec F S1536x2304 .fp8e5m2) (x6 : Vec F S1x1536x256 .bf16) (x7 : Vec F S1x2x1536x256 .bf16) (x8 : Vec F S2304x512 .fp8e4m3) (y9 : Vec F S1536x2304 .bf16) (f) : arg17.view.read (Elt F) (arg17.view.writes (Elt F) f ((runA (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 y9).1.2.2.2.2.2.2.1)) = dxF zeroX (quantH (invH x3) x7) x8 := by
  obtain ⟨L3, hL, hp, hc⟩ := pieces16_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 y9
  rw [hL, View.writes_append]
  exact funext fun y => View.read_writes_apply_of_pieces arg17.view _ _ L3 hp y (hc y)
theorem read17_0_A (c : Dev nD) (i : grid0.Coords) (arg1 : Memref sig .tc .smem S2 .f32) (harg1 : arg1.IsWhole) (arg2 : Memref sig .tc .vmem S8x128 .f32) (harg2 : arg2.IsWhole) (arg3 : Memref sig .tc .vmem S8x256 .f32) (harg3 : arg3.IsWhole) (arg4 : Memref sig .tc .vmem S8x256 .f32) (harg4 : arg4.IsWhole) (arg5 : Memref sig .tc .vmem S2304x1536 .fp8e4m3) (harg5 : arg5.IsWhole) (arg6 : Memref sig .tc .vmem S1536x2304 .fp8e5m2) (harg6 : arg6.IsWhole) (arg7 : Memref sig .tc .vmem S1x1536x256 .bf16) (harg7 : arg7.IsWhole) (arg8 : Memref sig .tc .vmem S1x2x1536x256 .bf16) (harg8 : arg8.IsWhole) (arg9 : Memref sig .tc .vmem S2304x512 .fp8e4m3) (harg9 : arg9.IsWhole) (arg10 : Memref sig .tc .vmem S1536x2304 .bf16) (harg10 : arg10.IsWhole) (arg11 : Memref sig .tc .vmem S2304x512 .bf16) (harg11 : arg11.IsWhole) (arg12 : Memref sig .tc .vmem S256x2304 .bf16) (harg12 : arg12.IsWhole) (arg13 : Memref sig .tc .vmem S1536x256 .fp8e4m3) (harg13 : arg13.IsWhole) (arg14 : Memref sig .tc .vmem S1536x512 .fp8e5m2) (harg14 : arg14.IsWhole) (arg15 : Memref sig .tc .vmem S8x128 .f32) (harg15 : arg15.IsWhole) (arg16 : Memref sig .tc .vmem S8x128 .f32) (harg16 : arg16.IsWhole) (arg17 : Memref sig .tc .vmem S1536x2304 .f32) (harg17 : arg17.IsWhole) (arg18 : Memref sig .tc .vmem S8x128 .f32) (harg18 : arg18.IsWhole) (hc0 : cond0_0 i) (hc1 : ¬cond0_1 i)
    (x0 : Vec F S2 .f32) (x1 : Vec F S8x128 .f32) (x2 : Vec F S8x256 .f32) (x3 : Vec F S8x256 .f32) (x4 : Vec F S2304x1536 .fp8e4m3) (x5 : Vec F S1536x2304 .fp8e5m2) (x6 : Vec F S1x1536x256 .bf16) (x7 : Vec F S1x2x1536x256 .bf16) (x8 : Vec F S2304x512 .fp8e4m3) (y9 : Vec F S1536x2304 .bf16) (f) : arg18.view.read (Elt F) (arg18.view.writes (Elt F) f ((runA (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 y9).1.2.2.2.2.2.2.2)) (ix2 (0 : Fin 8) (0 : Fin 128)) = invA x2 (ix2 (0 : Fin 1) (0 : Fin 1)) := by
  refine (View.read_writes_apply_eq_canon arg18.view f _ _ ?_).trans (row0_A c arg3 harg3 arg4 harg4 x2 x3)
  refine ⟨_, List.mem_cons_of_mem _ List.mem_cons_self, ?_⟩
  refine (Rect.unit (s := S8x128) ![0, 0] S1x128.size inb_S8x128_S1x128_0_0).mem_set.mpr fun a => ⟨0, ?_⟩
  match a with
  | ⟨0, _⟩ => exact ⟨Nat.one_pos, rfl⟩
  | ⟨1, _⟩ => exact ⟨by show 0 < 128; omega, rfl⟩
theorem read17_1_A (c : Dev nD) (i : grid0.Coords) (arg1 : Memref sig .tc .smem S2 .f32) (harg1 : arg1.IsWhole) (arg2 : Memref sig .tc .vmem S8x128 .f32) (harg2 : arg2.IsWhole) (arg3 : Memref sig .tc .vmem S8x256 .f32) (harg3 : arg3.IsWhole) (arg4 : Memref sig .tc .vmem S8x256 .f32) (harg4 : arg4.IsWhole) (arg5 : Memref sig .tc .vmem S2304x1536 .fp8e4m3) (harg5 : arg5.IsWhole) (arg6 : Memref sig .tc .vmem S1536x2304 .fp8e5m2) (harg6 : arg6.IsWhole) (arg7 : Memref sig .tc .vmem S1x1536x256 .bf16) (harg7 : arg7.IsWhole) (arg8 : Memref sig .tc .vmem S1x2x1536x256 .bf16) (harg8 : arg8.IsWhole) (arg9 : Memref sig .tc .vmem S2304x512 .fp8e4m3) (harg9 : arg9.IsWhole) (arg10 : Memref sig .tc .vmem S1536x2304 .bf16) (harg10 : arg10.IsWhole) (arg11 : Memref sig .tc .vmem S2304x512 .bf16) (harg11 : arg11.IsWhole) (arg12 : Memref sig .tc .vmem S256x2304 .bf16) (harg12 : arg12.IsWhole) (arg13 : Memref sig .tc .vmem S1536x256 .fp8e4m3) (harg13 : arg13.IsWhole) (arg14 : Memref sig .tc .vmem S1536x512 .fp8e5m2) (harg14 : arg14.IsWhole) (arg15 : Memref sig .tc .vmem S8x128 .f32) (harg15 : arg15.IsWhole) (arg16 : Memref sig .tc .vmem S8x128 .f32) (harg16 : arg16.IsWhole) (arg17 : Memref sig .tc .vmem S1536x2304 .f32) (harg17 : arg17.IsWhole) (arg18 : Memref sig .tc .vmem S8x128 .f32) (harg18 : arg18.IsWhole) (hc0 : cond0_0 i) (hc1 : ¬cond0_1 i)
    (x0 : Vec F S2 .f32) (x1 : Vec F S8x128 .f32) (x2 : Vec F S8x256 .f32) (x3 : Vec F S8x256 .f32) (x4 : Vec F S2304x1536 .fp8e4m3) (x5 : Vec F S1536x2304 .fp8e5m2) (x6 : Vec F S1x1536x256 .bf16) (x7 : Vec F S1x2x1536x256 .bf16) (x8 : Vec F S2304x512 .fp8e4m3) (y9 : Vec F S1536x2304 .bf16) (f) : arg18.view.read (Elt F) (arg18.view.writes (Elt F) f ((runA (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 y9).1.2.2.2.2.2.2.2)) (ix2 (1 : Fin 8) (0 : Fin 128)) = invH x3 (ix2 (0 : Fin 1) (0 : Fin 1)) := by
  refine (View.read_writes_apply_eq_canon arg18.view f _ _ ?_).trans (row1_A c arg3 harg3 arg4 harg4 x2 x3)
  refine ⟨_, List.mem_cons_self, ?_⟩
  refine (Rect.unit (s := S8x128) ![1, 0] S1x128.size inb_S8x128_S1x128_1_0).mem_set.mpr fun a => ⟨0, ?_⟩
  match a with
  | ⟨0, _⟩ => exact ⟨Nat.one_pos, rfl⟩
  | ⟨1, _⟩ => exact ⟨by show 0 < 128; omega, rfl⟩
theorem read10_A (c : Dev nD) (i : grid0.Coords) (arg1 : Memref sig .tc .smem S2 .f32) (harg1 : arg1.IsWhole) (arg2 : Memref sig .tc .vmem S8x128 .f32) (harg2 : arg2.IsWhole) (arg3 : Memref sig .tc .vmem S8x256 .f32) (harg3 : arg3.IsWhole) (arg4 : Memref sig .tc .vmem S8x256 .f32) (harg4 : arg4.IsWhole) (arg5 : Memref sig .tc .vmem S2304x1536 .fp8e4m3) (harg5 : arg5.IsWhole) (arg6 : Memref sig .tc .vmem S1536x2304 .fp8e5m2) (harg6 : arg6.IsWhole) (arg7 : Memref sig .tc .vmem S1x1536x256 .bf16) (harg7 : arg7.IsWhole) (arg8 : Memref sig .tc .vmem S1x2x1536x256 .bf16) (harg8 : arg8.IsWhole) (arg9 : Memref sig .tc .vmem S2304x512 .fp8e4m3) (harg9 : arg9.IsWhole) (arg10 : Memref sig .tc .vmem S1536x2304 .bf16) (harg10 : arg10.IsWhole) (arg11 : Memref sig .tc .vmem S2304x512 .bf16) (harg11 : arg11.IsWhole) (arg12 : Memref sig .tc .vmem S256x2304 .bf16) (harg12 : arg12.IsWhole) (arg13 : Memref sig .tc .vmem S1536x256 .fp8e4m3) (harg13 : arg13.IsWhole) (arg14 : Memref sig .tc .vmem S1536x512 .fp8e5m2) (harg14 : arg14.IsWhole) (arg15 : Memref sig .tc .vmem S8x128 .f32) (harg15 : arg15.IsWhole) (arg16 : Memref sig .tc .vmem S8x128 .f32) (harg16 : arg16.IsWhole) (arg17 : Memref sig .tc .vmem S1536x2304 .f32) (harg17 : arg17.IsWhole) (arg18 : Memref sig .tc .vmem S8x128 .f32) (harg18 : arg18.IsWhole) (hc0 : cond0_0 i) (hc1 : ¬cond0_1 i)
    (x0 : Vec F S2 .f32) (x1 : Vec F S8x128 .f32) (x2 : Vec F S8x256 .f32) (x3 : Vec F S8x256 .f32) (x4 : Vec F S2304x1536 .fp8e4m3) (x5 : Vec F S1536x2304 .fp8e5m2) (x6 : Vec F S1x1536x256 .bf16) (x7 : Vec F S1x2x1536x256 .bf16) (x8 : Vec F S2304x512 .fp8e4m3) (y9 : Vec F S1536x2304 .bf16) (f) : arg11.view.read (Elt F) (arg11.view.writes (Elt F) f ((runA (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 y9).1.1)) = dw1F (k0_pay198 (cell 0 (shV x3)) (x0 (ix1 (0 : Fin 2)))) x4 (quantH (invH x3) x7) :=
  funext fun y => View.read_writes_apply_of_pieces arg11.view f _ _ (pieces10_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 y9) y (cover10_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 y9 y)
theorem read11_A (c : Dev nD) (i : grid0.Coords) (arg1 : Memref sig .tc .smem S2 .f32) (harg1 : arg1.IsWhole) (arg2 : Memref sig .tc .vmem S8x128 .f32) (harg2 : arg2.IsWhole) (arg3 : Memref sig .tc .vmem S8x256 .f32) (harg3 : arg3.IsWhole) (arg4 : Memref sig .tc .vmem S8x256 .f32) (harg4 : arg4.IsWhole) (arg5 : Memref sig .tc .vmem S2304x1536 .fp8e4m3) (harg5 : arg5.IsWhole) (arg6 : Memref sig .tc .vmem S1536x2304 .fp8e5m2) (harg6 : arg6.IsWhole) (arg7 : Memref sig .tc .vmem S1x1536x256 .bf16) (harg7 : arg7.IsWhole) (arg8 : Memref sig .tc .vmem S1x2x1536x256 .bf16) (harg8 : arg8.IsWhole) (arg9 : Memref sig .tc .vmem S2304x512 .fp8e4m3) (harg9 : arg9.IsWhole) (arg10 : Memref sig .tc .vmem S1536x2304 .bf16) (harg10 : arg10.IsWhole) (arg11 : Memref sig .tc .vmem S2304x512 .bf16) (harg11 : arg11.IsWhole) (arg12 : Memref sig .tc .vmem S256x2304 .bf16) (harg12 : arg12.IsWhole) (arg13 : Memref sig .tc .vmem S1536x256 .fp8e4m3) (harg13 : arg13.IsWhole) (arg14 : Memref sig .tc .vmem S1536x512 .fp8e5m2) (harg14 : arg14.IsWhole) (arg15 : Memref sig .tc .vmem S8x128 .f32) (harg15 : arg15.IsWhole) (arg16 : Memref sig .tc .vmem S8x128 .f32) (harg16 : arg16.IsWhole) (arg17 : Memref sig .tc .vmem S1536x2304 .f32) (harg17 : arg17.IsWhole) (arg18 : Memref sig .tc .vmem S8x128 .f32) (harg18 : arg18.IsWhole) (hc0 : cond0_0 i) (hc1 : ¬cond0_1 i)
    (x0 : Vec F S2 .f32) (x1 : Vec F S8x128 .f32) (x2 : Vec F S8x256 .f32) (x3 : Vec F S8x256 .f32) (x4 : Vec F S2304x1536 .fp8e4m3) (x5 : Vec F S1536x2304 .fp8e5m2) (x6 : Vec F S1x1536x256 .bf16) (x7 : Vec F S1x2x1536x256 .bf16) (x8 : Vec F S2304x512 .fp8e4m3) (y9 : Vec F S1536x2304 .bf16) (f) : arg12.view.read (Elt F) (arg12.view.writes (Elt F) f ((runA (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 y9).1.2.1)) = dw2F (k0_pay199 (cell 0 (saV x2)) (cell 0 x1)) (quantA (invA x2) x6) x5 :=
  funext fun y => View.read_writes_apply_of_pieces arg12.view f _ _ (pieces11_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 y9) y (cover11_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 y9 y)
theorem read12_A (c : Dev nD) (i : grid0.Coords) (arg1 : Memref sig .tc .smem S2 .f32) (harg1 : arg1.IsWhole) (arg2 : Memref sig .tc .vmem S8x128 .f32) (harg2 : arg2.IsWhole) (arg3 : Memref sig .tc .vmem S8x256 .f32) (harg3 : arg3.IsWhole) (arg4 : Memref sig .tc .vmem S8x256 .f32) (harg4 : arg4.IsWhole) (arg5 : Memref sig .tc .vmem S2304x1536 .fp8e4m3) (harg5 : arg5.IsWhole) (arg6 : Memref sig .tc .vmem S1536x2304 .fp8e5m2) (harg6 : arg6.IsWhole) (arg7 : Memref sig .tc .vmem S1x1536x256 .bf16) (harg7 : arg7.IsWhole) (arg8 : Memref sig .tc .vmem S1x2x1536x256 .bf16) (harg8 : arg8.IsWhole) (arg9 : Memref sig .tc .vmem S2304x512 .fp8e4m3) (harg9 : arg9.IsWhole) (arg10 : Memref sig .tc .vmem S1536x2304 .bf16) (harg10 : arg10.IsWhole) (arg11 : Memref sig .tc .vmem S2304x512 .bf16) (harg11 : arg11.IsWhole) (arg12 : Memref sig .tc .vmem S256x2304 .bf16) (harg12 : arg12.IsWhole) (arg13 : Memref sig .tc .vmem S1536x256 .fp8e4m3) (harg13 : arg13.IsWhole) (arg14 : Memref sig .tc .vmem S1536x512 .fp8e5m2) (harg14 : arg14.IsWhole) (arg15 : Memref sig .tc .vmem S8x128 .f32) (harg15 : arg15.IsWhole) (arg16 : Memref sig .tc .vmem S8x128 .f32) (harg16 : arg16.IsWhole) (arg17 : Memref sig .tc .vmem S1536x2304 .f32) (harg17 : arg17.IsWhole) (arg18 : Memref sig .tc .vmem S8x128 .f32) (harg18 : arg18.IsWhole) (hc0 : cond0_0 i) (hc1 : ¬cond0_1 i)
    (x0 : Vec F S2 .f32) (x1 : Vec F S8x128 .f32) (x2 : Vec F S8x256 .f32) (x3 : Vec F S8x256 .f32) (x4 : Vec F S2304x1536 .fp8e4m3) (x5 : Vec F S1536x2304 .fp8e5m2) (x6 : Vec F S1x1536x256 .bf16) (x7 : Vec F S1x2x1536x256 .bf16) (x8 : Vec F S2304x512 .fp8e4m3) (y9 : Vec F S1536x2304 .bf16) (f) : arg13.view.read (Elt F) (arg13.view.writes (Elt F) f ((runA (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 y9).1.2.2.1)) = quantA (invA x2) x6 :=
  funext fun y => View.read_writes_apply_of_pieces arg13.view f _ _ (codes_A12 c arg3 harg3 arg4 harg4 arg7 harg7 arg18 x2 x3 x6) y (cover_A12 c arg3 harg3 arg4 harg4 arg7 harg7 arg18 x2 x3 x6 y)
theorem read13_A (c : Dev nD) (i : grid0.Coords) (arg1 : Memref sig .tc .smem S2 .f32) (harg1 : arg1.IsWhole) (arg2 : Memref sig .tc .vmem S8x128 .f32) (harg2 : arg2.IsWhole) (arg3 : Memref sig .tc .vmem S8x256 .f32) (harg3 : arg3.IsWhole) (arg4 : Memref sig .tc .vmem S8x256 .f32) (harg4 : arg4.IsWhole) (arg5 : Memref sig .tc .vmem S2304x1536 .fp8e4m3) (harg5 : arg5.IsWhole) (arg6 : Memref sig .tc .vmem S1536x2304 .fp8e5m2) (harg6 : arg6.IsWhole) (arg7 : Memref sig .tc .vmem S1x1536x256 .bf16) (harg7 : arg7.IsWhole) (arg8 : Memref sig .tc .vmem S1x2x1536x256 .bf16) (harg8 : arg8.IsWhole) (arg9 : Memref sig .tc .vmem S2304x512 .fp8e4m3) (harg9 : arg9.IsWhole) (arg10 : Memref sig .tc .vmem S1536x2304 .bf16) (harg10 : arg10.IsWhole) (arg11 : Memref sig .tc .vmem S2304x512 .bf16) (harg11 : arg11.IsWhole) (arg12 : Memref sig .tc .vmem S256x2304 .bf16) (harg12 : arg12.IsWhole) (arg13 : Memref sig .tc .vmem S1536x256 .fp8e4m3) (harg13 : arg13.IsWhole) (arg14 : Memref sig .tc .vmem S1536x512 .fp8e5m2) (harg14 : arg14.IsWhole) (arg15 : Memref sig .tc .vmem S8x128 .f32) (harg15 : arg15.IsWhole) (arg16 : Memref sig .tc .vmem S8x128 .f32) (harg16 : arg16.IsWhole) (arg17 : Memref sig .tc .vmem S1536x2304 .f32) (harg17 : arg17.IsWhole) (arg18 : Memref sig .tc .vmem S8x128 .f32) (harg18 : arg18.IsWhole) (hc0 : cond0_0 i) (hc1 : ¬cond0_1 i)
    (x0 : Vec F S2 .f32) (x1 : Vec F S8x128 .f32) (x2 : Vec F S8x256 .f32) (x3 : Vec F S8x256 .f32) (x4 : Vec F S2304x1536 .fp8e4m3) (x5 : Vec F S1536x2304 .fp8e5m2) (x6 : Vec F S1x1536x256 .bf16) (x7 : Vec F S1x2x1536x256 .bf16) (x8 : Vec F S2304x512 .fp8e4m3) (y9 : Vec F S1536x2304 .bf16) (f) : arg14.view.read (Elt F) (arg14.view.writes (Elt F) f ((runA (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 y9).1.2.2.2.1)) = quantH (invH x3) x7 :=
  funext fun y => View.read_writes_apply_of_pieces arg14.view f _ _ (codes_A13 c arg3 harg3 arg4 harg4 arg8 harg8 arg18 x2 x3 x7) y (cover_A13 c arg3 harg3 arg4 harg4 arg8 harg8 arg18 x2 x3 x7 y)
theorem read14_A (c : Dev nD) (i : grid0.Coords) (arg1 : Memref sig .tc .smem S2 .f32) (harg1 : arg1.IsWhole) (arg2 : Memref sig .tc .vmem S8x128 .f32) (harg2 : arg2.IsWhole) (arg3 : Memref sig .tc .vmem S8x256 .f32) (harg3 : arg3.IsWhole) (arg4 : Memref sig .tc .vmem S8x256 .f32) (harg4 : arg4.IsWhole) (arg5 : Memref sig .tc .vmem S2304x1536 .fp8e4m3) (harg5 : arg5.IsWhole) (arg6 : Memref sig .tc .vmem S1536x2304 .fp8e5m2) (harg6 : arg6.IsWhole) (arg7 : Memref sig .tc .vmem S1x1536x256 .bf16) (harg7 : arg7.IsWhole) (arg8 : Memref sig .tc .vmem S1x2x1536x256 .bf16) (harg8 : arg8.IsWhole) (arg9 : Memref sig .tc .vmem S2304x512 .fp8e4m3) (harg9 : arg9.IsWhole) (arg10 : Memref sig .tc .vmem S1536x2304 .bf16) (harg10 : arg10.IsWhole) (arg11 : Memref sig .tc .vmem S2304x512 .bf16) (harg11 : arg11.IsWhole) (arg12 : Memref sig .tc .vmem S256x2304 .bf16) (harg12 : arg12.IsWhole) (arg13 : Memref sig .tc .vmem S1536x256 .fp8e4m3) (harg13 : arg13.IsWhole) (arg14 : Memref sig .tc .vmem S1536x512 .fp8e5m2) (harg14 : arg14.IsWhole) (arg15 : Memref sig .tc .vmem S8x128 .f32) (harg15 : arg15.IsWhole) (arg16 : Memref sig .tc .vmem S8x128 .f32) (harg16 : arg16.IsWhole) (arg17 : Memref sig .tc .vmem S1536x2304 .f32) (harg17 : arg17.IsWhole) (arg18 : Memref sig .tc .vmem S8x128 .f32) (harg18 : arg18.IsWhole) (hc0 : cond0_0 i) (hc1 : ¬cond0_1 i)
    (x0 : Vec F S2 .f32) (x1 : Vec F S8x128 .f32) (x2 : Vec F S8x256 .f32) (x3 : Vec F S8x256 .f32) (x4 : Vec F S2304x1536 .fp8e4m3) (x5 : Vec F S1536x2304 .fp8e5m2) (x6 : Vec F S1x1536x256 .bf16) (x7 : Vec F S1x2x1536x256 .bf16) (x8 : Vec F S2304x512 .fp8e4m3) (y9 : Vec F S1536x2304 .bf16) (f) : arg15.view.read (Elt F) (arg15.view.writes (Elt F) f ((runA (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 y9).1.2.2.2.2.1)) = saV x2 :=
  funext fun y => View.read_writes_apply_of_pieces arg15.view f _ _ (pieces_A14 c arg3 harg3 x2) y (cover_A14 c arg3 harg3 x2 y)
theorem read15_A (c : Dev nD) (i : grid0.Coords) (arg1 : Memref sig .tc .smem S2 .f32) (harg1 : arg1.IsWhole) (arg2 : Memref sig .tc .vmem S8x128 .f32) (harg2 : arg2.IsWhole) (arg3 : Memref sig .tc .vmem S8x256 .f32) (harg3 : arg3.IsWhole) (arg4 : Memref sig .tc .vmem S8x256 .f32) (harg4 : arg4.IsWhole) (arg5 : Memref sig .tc .vmem S2304x1536 .fp8e4m3) (harg5 : arg5.IsWhole) (arg6 : Memref sig .tc .vmem S1536x2304 .fp8e5m2) (harg6 : arg6.IsWhole) (arg7 : Memref sig .tc .vmem S1x1536x256 .bf16) (harg7 : arg7.IsWhole) (arg8 : Memref sig .tc .vmem S1x2x1536x256 .bf16) (harg8 : arg8.IsWhole) (arg9 : Memref sig .tc .vmem S2304x512 .fp8e4m3) (harg9 : arg9.IsWhole) (arg10 : Memref sig .tc .vmem S1536x2304 .bf16) (harg10 : arg10.IsWhole) (arg11 : Memref sig .tc .vmem S2304x512 .bf16) (harg11 : arg11.IsWhole) (arg12 : Memref sig .tc .vmem S256x2304 .bf16) (harg12 : arg12.IsWhole) (arg13 : Memref sig .tc .vmem S1536x256 .fp8e4m3) (harg13 : arg13.IsWhole) (arg14 : Memref sig .tc .vmem S1536x512 .fp8e5m2) (harg14 : arg14.IsWhole) (arg15 : Memref sig .tc .vmem S8x128 .f32) (harg15 : arg15.IsWhole) (arg16 : Memref sig .tc .vmem S8x128 .f32) (harg16 : arg16.IsWhole) (arg17 : Memref sig .tc .vmem S1536x2304 .f32) (harg17 : arg17.IsWhole) (arg18 : Memref sig .tc .vmem S8x128 .f32) (harg18 : arg18.IsWhole) (hc0 : cond0_0 i) (hc1 : ¬cond0_1 i)
    (x0 : Vec F S2 .f32) (x1 : Vec F S8x128 .f32) (x2 : Vec F S8x256 .f32) (x3 : Vec F S8x256 .f32) (x4 : Vec F S2304x1536 .fp8e4m3) (x5 : Vec F S1536x2304 .fp8e5m2) (x6 : Vec F S1x1536x256 .bf16) (x7 : Vec F S1x2x1536x256 .bf16) (x8 : Vec F S2304x512 .fp8e4m3) (y9 : Vec F S1536x2304 .bf16) (f) : arg16.view.read (Elt F) (arg16.view.writes (Elt F) f ((runA (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 y9).1.2.2.2.2.2.1)) = shV x3 :=
  funext fun y => View.read_writes_apply_of_pieces arg16.view f _ _ (pieces_A15 c arg4 harg4 x3) y (cover_A15 c arg4 harg4 x3 y)
end Cert.GradientsIdeal.Hand

end
-- ==== Proof.GResB.lean ====
module

public import proofs.«01_k».proof.Proof.GWords

@[expose] public section

set_option maxRecDepth 16384

noncomputable section

namespace Cert.GradientsIdeal.Hand

open Idealize.ShloMosaic.Tactic
open Cert.GradientsIdeal Cert.GradientsIdeal.Gen
open Idealize.ShloMosaic hiding ix0 ix1 ix2 ix3 ix4 ix5
open Idealize.ShloMosaic.ValueIdx

variable {F : FTy → Type} [FloatOps F]

/-- The factor of dW1. -/
theorem w1_B (c : Dev nD) (arg1 : Memref sig .tc .smem S2 .f32) (harg1 : arg1.IsWhole) (arg16 : Memref sig .tc .vmem S8x128 .f32) (harg16 : arg16.IsWhole) (x0 : Vec F S2 .f32) (y15 : Vec F S8x128 .f32) : runB.sl.r_45 c arg1 harg1 arg16 harg16 x0 y15 = k0_pay198 (cell 0 y15) (x0 (ix1 (0 : Fin 2))) :=
  congrArg₂ k0_pay198 (readCell 0 arg16 harg16 y15 inb_S8x128_S1x1_0_0) (readScalar 0 arg1 harg1 x0 inb_S2_S1_0 _)
/-- The factor of dW2. -/
theorem w2_B (c : Dev nD) (arg2 : Memref sig .tc .vmem S8x128 .f32) (harg2 : arg2.IsWhole) (arg15 : Memref sig .tc .vmem S8x128 .f32) (harg15 : arg15.IsWhole) (x1 : Vec F S8x128 .f32) (y14 : Vec F S8x128 .f32) : runB.sl.r_46 c arg2 harg2 arg15 harg15 x1 y14 = k0_pay199 (cell 0 y14) (cell 0 x1) :=
  congrArg₂ k0_pay199 (readCell 0 arg15 harg15 y14 inb_S8x128_S1x1_0_0) (readCell 0 arg2 harg2 x1 inb_S8x128_S1x1_0_0)
/-- dW1's pieces are one function. -/
theorem pieces10_B (c : Dev nD) (i : grid0.Coords) (arg1 : Memref sig .tc .smem S2 .f32) (harg1 : arg1.IsWhole) (arg2 : Memref sig .tc .vmem S8x128 .f32) (harg2 : arg2.IsWhole) (arg3 : Memref sig .tc .vmem S8x256 .f32) (harg3 : arg3.IsWhole) (arg4 : Memref sig .tc .vmem S8x256 .f32) (harg4 : arg4.IsWhole) (arg5 : Memref sig .tc .vmem S2304x1536 .fp8e4m3) (harg5 : arg5.IsWhole) (arg6 : Memref sig .tc .vmem S1536x2304 .fp8e5m2) (harg6 : arg6.IsWhole) (arg7 : Memref sig .tc .vmem S1x1536x256 .bf16) (harg7 : arg7.IsWhole) (arg8 : Memref sig .tc .vmem S1x2x1536x256 .bf16) (harg8 : arg8.IsWhole) (arg9 : Memref sig .tc .vmem S2304x512 .fp8e4m3) (harg9 : arg9.IsWhole) (arg10 : Memref sig .tc .vmem S1536x2304 .bf16) (harg10 : arg10.IsWhole) (arg11 : Memref sig .tc .vmem S2304x512 .bf16) (harg11 : arg11.IsWhole) (arg12 : Memref sig .tc .vmem S256x2304 .bf16) (harg12 : arg12.IsWhole) (arg13 : Memref sig .tc .vmem S1536x256 .fp8e4m3) (harg13 : arg13.IsWhole) (arg14 : Memref sig .tc .vmem S1536x512 .fp8e5m2) (harg14 : arg14.IsWhole) (arg15 : Memref sig .tc .vmem S8x128 .f32) (harg15 : arg15.IsWhole) (arg16 : Memref sig .tc .vmem S8x128 .f32) (harg16 : arg16.IsWhole) (arg17 : Memref sig .tc .vmem S1536x2304 .f32) (harg17 : arg17.IsWhole) (arg18 : Memref sig .tc .vmem S8x128 .f32) (harg18 : arg18.IsWhole) (hc0 : ¬cond0_0 i) (hc1 : ¬cond0_1 i)
    (x0 : Vec F S2 .f32) (x1 : Vec F S8x128 .f32) (x2 : Vec F S8x256 .f32) (x3 : Vec F S8x256 .f32) (x4 : Vec F S2304x1536 .fp8e4m3) (x5 : Vec F S1536x2304 .fp8e5m2) (x6 : Vec F S1x1536x256 .bf16) (x7 : Vec F S1x2x1536x256 .bf16) (x8 : Vec F S2304x512 .fp8e4m3) (y9 : Vec F S1536x2304 .bf16) (y14 : Vec F S8x128 .f32) (y15 : Vec F S8x128 .f32) (y16 : Vec F S1536x2304 .f32) (y17 : Vec F S8x128 .f32) : ∀ p ∈ (runB (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 y9 y14 y15 y16 y17).1.1, ∀ j, p.2 j = dw1F (k0_pay198 (cell 0 y15) (x0 (ix1 (0 : Fin 2)))) x4 (quantH (cell 1 y17) x7) (p.1.emb j) := by
  rw [← v1599_B c arg8 harg8 arg14 arg18 harg18 x7 y17, ← w1_B c arg1 harg1 arg16 harg16 x0 y15]
  refine List.forall_mem_cons.2 ⟨fun j => piece1 1536 2 rfl inb_S2304x1536_S768x1536_1536_0 inb_S2304x512_S768x512_1536_0 arg5 harg5 _ x4 _ j, ?_⟩
  refine List.forall_mem_cons.2 ⟨fun j => piece1 768 1 rfl inb_S2304x1536_S768x1536_768_0 inb_S2304x512_S768x512_768_0 arg5 harg5 _ x4 _ j, ?_⟩
  refine List.forall_mem_cons.2 ⟨fun j => piece1 0 0 rfl inb_S2304x1536_S768x1536_0_0 inb_S2304x512_S768x512_0_0 arg5 harg5 _ x4 _ j, ?_⟩
  exact fun p hp => absurd hp List.not_mem_nil
theorem cover10_B (c : Dev nD) (i : grid0.Coords) (arg1 : Memref sig .tc .smem S2 .f32) (harg1 : arg1.IsWhole) (arg2 : Memref sig .tc .vmem S8x128 .f32) (harg2 : arg2.IsWhole) (arg3 : Memref sig .tc .vmem S8x256 .f32) (harg3 : arg3.IsWhole) (arg4 : Memref sig .tc .vmem S8x256 .f32) (harg4 : arg4.IsWhole) (arg5 : Memref sig .tc .vmem S2304x1536 .fp8e4m3) (harg5 : arg5.IsWhole) (arg6 : Memref sig .tc .vmem S1536x2304 .fp8e5m2) (harg6 : arg6.IsWhole) (arg7 : Memref sig .tc .vmem S1x1536x256 .bf16) (harg7 : arg7.IsWhole) (arg8 : Memref sig .tc .vmem S1x2x1536x256 .bf16) (harg8 : arg8.IsWhole) (arg9 : Memref sig .tc .vmem S2304x512 .fp8e4m3) (harg9 : arg9.IsWhole) (arg10 : Memref sig .tc .vmem S1536x2304 .bf16) (harg10 : arg10.IsWhole) (arg11 : Memref sig .tc .vmem S2304x512 .bf16) (harg11 : arg11.IsWhole) (arg12 : Memref sig .tc .vmem S256x2304 .bf16) (harg12 : arg12.IsWhole) (arg13 : Memref sig .tc .vmem S1536x256 .fp8e4m3) (harg13 : arg13.IsWhole) (arg14 : Memref sig .tc .vmem S1536x512 .fp8e5m2) (harg14 : arg14.IsWhole) (arg15 : Memref sig .tc .vmem S8x128 .f32) (harg15 : arg15.IsWhole) (arg16 : Memref sig .tc .vmem S8x128 .f32) (harg16 : arg16.IsWhole) (arg17 : Memref sig .tc .vmem S1536x2304 .f32) (harg17 : arg17.IsWhole) (arg18 : Memref sig .tc .vmem S8x128 .f32) (harg18 : arg18.IsWhole) (hc0 : ¬cond0_0 i) (hc1 : ¬cond0_1 i)
    (x0 : Vec F S2 .f32) (x1 : Vec F S8x128 .f32) (x2 : Vec F S8x256 .f32) (x3 : Vec F S8x256 .f32) (x4 : Vec F S2304x1536 .fp8e4m3) (x5 : Vec F S1536x2304 .fp8e5m2) (x6 : Vec F S1x1536x256 .bf16) (x7 : Vec F S1x2x1536x256 .bf16) (x8 : Vec F S2304x512 .fp8e4m3) (y9 : Vec F S1536x2304 .bf16) (y14 : Vec F S8x128 .f32) (y15 : Vec F S8x128 .f32) (y16 : Vec F S1536x2304 .f32) (y17 : Vec F S8x128 .f32) : ∀ y, ∃ p ∈ (runB (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 y9 y14 y15 y16 y17).1.1, y ∈ p.1.set := View.cover_of_tiledL _ S768x512.size (by sl_kernel_rfl)
/-- dW2's piece. -/
theorem pieces11_B (c : Dev nD) (i : grid0.Coords) (arg1 : Memref sig .tc .smem S2 .f32) (harg1 : arg1.IsWhole) (arg2 : Memref sig .tc .vmem S8x128 .f32) (harg2 : arg2.IsWhole) (arg3 : Memref sig .tc .vmem S8x256 .f32) (harg3 : arg3.IsWhole) (arg4 : Memref sig .tc .vmem S8x256 .f32) (harg4 : arg4.IsWhole) (arg5 : Memref sig .tc .vmem S2304x1536 .fp8e4m3) (harg5 : arg5.IsWhole) (arg6 : Memref sig .tc .vmem S1536x2304 .fp8e5m2) (harg6 : arg6.IsWhole) (arg7 : Memref sig .tc .vmem S1x1536x256 .bf16) (harg7 : arg7.IsWhole) (arg8 : Memref sig .tc .vmem S1x2x1536x256 .bf16) (harg8 : arg8.IsWhole) (arg9 : Memref sig .tc .vmem S2304x512 .fp8e4m3) (harg9 : arg9.IsWhole) (arg10 : Memref sig .tc .vmem S1536x2304 .bf16) (harg10 : arg10.IsWhole) (arg11 : Memref sig .tc .vmem S2304x512 .bf16) (harg11 : arg11.IsWhole) (arg12 : Memref sig .tc .vmem S256x2304 .bf16) (harg12 : arg12.IsWhole) (arg13 : Memref sig .tc .vmem S1536x256 .fp8e4m3) (harg13 : arg13.IsWhole) (arg14 : Memref sig .tc .vmem S1536x512 .fp8e5m2) (harg14 : arg14.IsWhole) (arg15 : Memref sig .tc .vmem S8x128 .f32) (harg15 : arg15.IsWhole) (arg16 : Memref sig .tc .vmem S8x128 .f32) (harg16 : arg16.IsWhole) (arg17 : Memref sig .tc .vmem S1536x2304 .f32) (harg17 : arg17.IsWhole) (arg18 : Memref sig .tc .vmem S8x128 .f32) (harg18 : arg18.IsWhole) (hc0 : ¬cond0_0 i) (hc1 : ¬cond0_1 i)
    (x0 : Vec F S2 .f32) (x1 : Vec F S8x128 .f32) (x2 : Vec F S8x256 .f32) (x3 : Vec F S8x256 .f32) (x4 : Vec F S2304x1536 .fp8e4m3) (x5 : Vec F S1536x2304 .fp8e5m2) (x6 : Vec F S1x1536x256 .bf16) (x7 : Vec F S1x2x1536x256 .bf16) (x8 : Vec F S2304x512 .fp8e4m3) (y9 : Vec F S1536x2304 .bf16) (y14 : Vec F S8x128 .f32) (y15 : Vec F S8x128 .f32) (y16 : Vec F S1536x2304 .f32) (y17 : Vec F S8x128 .f32) : ∀ p ∈ (runB (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 y9 y14 y15 y16 y17).1.2.1, ∀ j, p.2 j = dw2F (k0_pay199 (cell 0 y14) (cell 0 x1)) (quantA (cell 0 y17) x6) x5 (p.1.emb j) := by
  rw [← v1622_B c arg7 harg7 arg13 arg18 harg18 x6 y17, ← w2_B c arg2 harg2 arg15 harg15 x1 y14]
  refine List.forall_mem_cons.2 ⟨fun j => ?_, fun p hp => absurd hp List.not_mem_nil⟩
  show k0_pay203 (F := F) _ _ _ j = _
  rw [readWhole arg6 harg6 x5 _ _ (by intro a; match a with | ⟨0, _⟩ => rfl | ⟨1, _⟩ => rfl)]
  exact wholePiece (F := F) (s := S256x2304) (e := .bf16) (dw2F (F := F) _ _ x5) ![0, 0] inb_S256x2304_S256x2304_0_0 (by intro a; match a with | ⟨0, _⟩ => rfl | ⟨1, _⟩ => rfl) j
theorem cover11_B (c : Dev nD) (i : grid0.Coords) (arg1 : Memref sig .tc .smem S2 .f32) (harg1 : arg1.IsWhole) (arg2 : Memref sig .tc .vmem S8x128 .f32) (harg2 : arg2.IsWhole) (arg3 : Memref sig .tc .vmem S8x256 .f32) (harg3 : arg3.IsWhole) (arg4 : Memref sig .tc .vmem S8x256 .f32) (harg4 : arg4.IsWhole) (arg5 : Memref sig .tc .vmem S2304x1536 .fp8e4m3) (harg5 : arg5.IsWhole) (arg6 : Memref sig .tc .vmem S1536x2304 .fp8e5m2) (harg6 : arg6.IsWhole) (arg7 : Memref sig .tc .vmem S1x1536x256 .bf16) (harg7 : arg7.IsWhole) (arg8 : Memref sig .tc .vmem S1x2x1536x256 .bf16) (harg8 : arg8.IsWhole) (arg9 : Memref sig .tc .vmem S2304x512 .fp8e4m3) (harg9 : arg9.IsWhole) (arg10 : Memref sig .tc .vmem S1536x2304 .bf16) (harg10 : arg10.IsWhole) (arg11 : Memref sig .tc .vmem S2304x512 .bf16) (harg11 : arg11.IsWhole) (arg12 : Memref sig .tc .vmem S256x2304 .bf16) (harg12 : arg12.IsWhole) (arg13 : Memref sig .tc .vmem S1536x256 .fp8e4m3) (harg13 : arg13.IsWhole) (arg14 : Memref sig .tc .vmem S1536x512 .fp8e5m2) (harg14 : arg14.IsWhole) (arg15 : Memref sig .tc .vmem S8x128 .f32) (harg15 : arg15.IsWhole) (arg16 : Memref sig .tc .vmem S8x128 .f32) (harg16 : arg16.IsWhole) (arg17 : Memref sig .tc .vmem S1536x2304 .f32) (harg17 : arg17.IsWhole) (arg18 : Memref sig .tc .vmem S8x128 .f32) (harg18 : arg18.IsWhole) (hc0 : ¬cond0_0 i) (hc1 : ¬cond0_1 i)
    (x0 : Vec F S2 .f32) (x1 : Vec F S8x128 .f32) (x2 : Vec F S8x256 .f32) (x3 : Vec F S8x256 .f32) (x4 : Vec F S2304x1536 .fp8e4m3) (x5 : Vec F S1536x2304 .fp8e5m2) (x6 : Vec F S1x1536x256 .bf16) (x7 : Vec F S1x2x1536x256 .bf16) (x8 : Vec F S2304x512 .fp8e4m3) (y9 : Vec F S1536x2304 .bf16) (y14 : Vec F S8x128 .f32) (y15 : Vec F S8x128 .f32) (y16 : Vec F S1536x2304 .f32) (y17 : Vec F S8x128 .f32) : ∀ y, ∃ p ∈ (runB (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 y9 y14 y15 y16 y17).1.2.1, y ∈ p.1.set := View.cover_of_tiledL _ S256x2304.size (by sl_kernel_rfl)
/-- The accumulator's pieces are one function. -/
theorem pieces16_B (c : Dev nD) (i : grid0.Coords) (arg1 : Memref sig .tc .smem S2 .f32) (harg1 : arg1.IsWhole) (arg2 : Memref sig .tc .vmem S8x128 .f32) (harg2 : arg2.IsWhole) (arg3 : Memref sig .tc .vmem S8x256 .f32) (harg3 : arg3.IsWhole) (arg4 : Memref sig .tc .vmem S8x256 .f32) (harg4 : arg4.IsWhole) (arg5 : Memref sig .tc .vmem S2304x1536 .fp8e4m3) (harg5 : arg5.IsWhole) (arg6 : Memref sig .tc .vmem S1536x2304 .fp8e5m2) (harg6 : arg6.IsWhole) (arg7 : Memref sig .tc .vmem S1x1536x256 .bf16) (harg7 : arg7.IsWhole) (arg8 : Memref sig .tc .vmem S1x2x1536x256 .bf16) (harg8 : arg8.IsWhole) (arg9 : Memref sig .tc .vmem S2304x512 .fp8e4m3) (harg9 : arg9.IsWhole) (arg10 : Memref sig .tc .vmem S1536x2304 .bf16) (harg10 : arg10.IsWhole) (arg11 : Memref sig .tc .vmem S2304x512 .bf16) (harg11 : arg11.IsWhole) (arg12 : Memref sig .tc .vmem S256x2304 .bf16) (harg12 : arg12.IsWhole) (arg13 : Memref sig .tc .vmem S1536x256 .fp8e4m3) (harg13 : arg13.IsWhole) (arg14 : Memref sig .tc .vmem S1536x512 .fp8e5m2) (harg14 : arg14.IsWhole) (arg15 : Memref sig .tc .vmem S8x128 .f32) (harg15 : arg15.IsWhole) (arg16 : Memref sig .tc .vmem S8x128 .f32) (harg16 : arg16.IsWhole) (arg17 : Memref sig .tc .vmem S1536x2304 .f32) (harg17 : arg17.IsWhole) (arg18 : Memref sig .tc .vmem S8x128 .f32) (harg18 : arg18.IsWhole) (hc0 : ¬cond0_0 i) (hc1 : ¬cond0_1 i)
    (x0 : Vec F S2 .f32) (x1 : Vec F S8x128 .f32) (x2 : Vec F S8x256 .f32) (x3 : Vec F S8x256 .f32) (x4 : Vec F S2304x1536 .fp8e4m3) (x5 : Vec F S1536x2304 .fp8e5m2) (x6 : Vec F S1x1536x256 .bf16) (x7 : Vec F S1x2x1536x256 .bf16) (x8 : Vec F S2304x512 .fp8e4m3) (y9 : Vec F S1536x2304 .bf16) (y14 : Vec F S8x128 .f32) (y15 : Vec F S8x128 .f32) (y16 : Vec F S1536x2304 .f32) (y17 : Vec F S8x128 .f32) : ∀ p ∈ (runB (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 y9 y14 y15 y16 y17).1.2.2.2.2, ∀ j, p.2 j = dxF y16 (quantH (cell 1 y17) x7) x8 (p.1.emb j) := by
  have e9 : View.readAt (Elt F) arg9.view (Rect.unit (s := S2304x512) ![0, 0] S2304x512.size inb_S2304x512_S2304x512_0_0).toLoadRect (harg9.unread x8) = x8 :=
    readWhole arg9 harg9 x8 _ _ (by intro a; match a with | ⟨0, _⟩ => rfl | ⟨1, _⟩ => rfl)
  unfold runB
  dsimp only
  unfold runB.sl.r_48
  rw [e9]
  refine List.forall_mem_cons.2 ⟨fun j => (Eq.trans (congrFun (congrArg₂ (fun a h => k0_pay2 a h x8) (accRows_read 2 1024 rfl arg17 harg17 y16 inb_S1536x2304_S512x2304_1024_0) (v1650_B c arg8 harg8 arg14 arg18 harg18 x7 y17)) j) (pieceX 1024 2 rfl inb_S1536x2304_S512x2304_1024_0 y16 (quantH (cell 1 y17) x7) x8 j)), ?_⟩
  refine List.forall_mem_cons.2 ⟨fun j => (Eq.trans (congrFun (congrArg₂ (fun a h => k0_pay2 a h x8) (accRows_read 1 512 rfl arg17 harg17 y16 inb_S1536x2304_S512x2304_512_0) (v1641_B c arg8 harg8 arg14 arg18 harg18 x7 y17)) j) (pieceX 512 1 rfl inb_S1536x2304_S512x2304_512_0 y16 (quantH (cell 1 y17) x7) x8 j)), ?_⟩
  refine List.forall_mem_cons.2 ⟨fun j => (Eq.trans (congrFun (congrArg₂ (fun a h => k0_pay2 a h x8) (accRows_read 0 0 rfl arg17 harg17 y16 inb_S1536x2304_S512x2304_0_0) (v1632_B c arg8 harg8 arg14 arg18 harg18 x7 y17)) j) (pieceX 0 0 rfl inb_S1536x2304_S512x2304_0_0 y16 (quantH (cell 1 y17) x7) x8 j)), ?_⟩
  exact fun p hp => absurd hp List.not_mem_nil
theorem cover16_B (c : Dev nD) (i : grid0.Coords) (arg1 : Memref sig .tc .smem S2 .f32) (harg1 : arg1.IsWhole) (arg2 : Memref sig .tc .vmem S8x128 .f32) (harg2 : arg2.IsWhole) (arg3 : Memref sig .tc .vmem S8x256 .f32) (harg3 : arg3.IsWhole) (arg4 : Memref sig .tc .vmem S8x256 .f32) (harg4 : arg4.IsWhole) (arg5 : Memref sig .tc .vmem S2304x1536 .fp8e4m3) (harg5 : arg5.IsWhole) (arg6 : Memref sig .tc .vmem S1536x2304 .fp8e5m2) (harg6 : arg6.IsWhole) (arg7 : Memref sig .tc .vmem S1x1536x256 .bf16) (harg7 : arg7.IsWhole) (arg8 : Memref sig .tc .vmem S1x2x1536x256 .bf16) (harg8 : arg8.IsWhole) (arg9 : Memref sig .tc .vmem S2304x512 .fp8e4m3) (harg9 : arg9.IsWhole) (arg10 : Memref sig .tc .vmem S1536x2304 .bf16) (harg10 : arg10.IsWhole) (arg11 : Memref sig .tc .vmem S2304x512 .bf16) (harg11 : arg11.IsWhole) (arg12 : Memref sig .tc .vmem S256x2304 .bf16) (harg12 : arg12.IsWhole) (arg13 : Memref sig .tc .vmem S1536x256 .fp8e4m3) (harg13 : arg13.IsWhole) (arg14 : Memref sig .tc .vmem S1536x512 .fp8e5m2) (harg14 : arg14.IsWhole) (arg15 : Memref sig .tc .vmem S8x128 .f32) (harg15 : arg15.IsWhole) (arg16 : Memref sig .tc .vmem S8x128 .f32) (harg16 : arg16.IsWhole) (arg17 : Memref sig .tc .vmem S1536x2304 .f32) (harg17 : arg17.IsWhole) (arg18 : Memref sig .tc .vmem S8x128 .f32) (harg18 : arg18.IsWhole) (hc0 : ¬cond0_0 i) (hc1 : ¬cond0_1 i)
    (x0 : Vec F S2 .f32) (x1 : Vec F S8x128 .f32) (x2 : Vec F S8x256 .f32) (x3 : Vec F S8x256 .f32) (x4 : Vec F S2304x1536 .fp8e4m3) (x5 : Vec F S1536x2304 .fp8e5m2) (x6 : Vec F S1x1536x256 .bf16) (x7 : Vec F S1x2x1536x256 .bf16) (x8 : Vec F S2304x512 .fp8e4m3) (y9 : Vec F S1536x2304 .bf16) (y14 : Vec F S8x128 .f32) (y15 : Vec F S8x128 .f32) (y16 : Vec F S1536x2304 .f32) (y17 : Vec F S8x128 .f32) : ∀ y, ∃ p ∈ (runB (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 y9 y14 y15 y16 y17).1.2.2.2.2, y ∈ p.1.set := View.cover_of_tiledL _ S512x2304.size (by sl_kernel_rfl)
theorem read10_B (c : Dev nD) (i : grid0.Coords) (arg1 : Memref sig .tc .smem S2 .f32) (harg1 : arg1.IsWhole) (arg2 : Memref sig .tc .vmem S8x128 .f32) (harg2 : arg2.IsWhole) (arg3 : Memref sig .tc .vmem S8x256 .f32) (harg3 : arg3.IsWhole) (arg4 : Memref sig .tc .vmem S8x256 .f32) (harg4 : arg4.IsWhole) (arg5 : Memref sig .tc .vmem S2304x1536 .fp8e4m3) (harg5 : arg5.IsWhole) (arg6 : Memref sig .tc .vmem S1536x2304 .fp8e5m2) (harg6 : arg6.IsWhole) (arg7 : Memref sig .tc .vmem S1x1536x256 .bf16) (harg7 : arg7.IsWhole) (arg8 : Memref sig .tc .vmem S1x2x1536x256 .bf16) (harg8 : arg8.IsWhole) (arg9 : Memref sig .tc .vmem S2304x512 .fp8e4m3) (harg9 : arg9.IsWhole) (arg10 : Memref sig .tc .vmem S1536x2304 .bf16) (harg10 : arg10.IsWhole) (arg11 : Memref sig .tc .vmem S2304x512 .bf16) (harg11 : arg11.IsWhole) (arg12 : Memref sig .tc .vmem S256x2304 .bf16) (harg12 : arg12.IsWhole) (arg13 : Memref sig .tc .vmem S1536x256 .fp8e4m3) (harg13 : arg13.IsWhole) (arg14 : Memref sig .tc .vmem S1536x512 .fp8e5m2) (harg14 : arg14.IsWhole) (arg15 : Memref sig .tc .vmem S8x128 .f32) (harg15 : arg15.IsWhole) (arg16 : Memref sig .tc .vmem S8x128 .f32) (harg16 : arg16.IsWhole) (arg17 : Memref sig .tc .vmem S1536x2304 .f32) (harg17 : arg17.IsWhole) (arg18 : Memref sig .tc .vmem S8x128 .f32) (harg18 : arg18.IsWhole) (hc0 : ¬cond0_0 i) (hc1 : ¬cond0_1 i)
    (x0 : Vec F S2 .f32) (x1 : Vec F S8x128 .f32) (x2 : Vec F S8x256 .f32) (x3 : Vec F S8x256 .f32) (x4 : Vec F S2304x1536 .fp8e4m3) (x5 : Vec F S1536x2304 .fp8e5m2) (x6 : Vec F S1x1536x256 .bf16) (x7 : Vec F S1x2x1536x256 .bf16) (x8 : Vec F S2304x512 .fp8e4m3) (y9 : Vec F S1536x2304 .bf16) (y14 : Vec F S8x128 .f32) (y15 : Vec F S8x128 .f32) (y16 : Vec F S1536x2304 .f32) (y17 : Vec F S8x128 .f32) (f) : arg11.view.read (Elt F) (arg11.view.writes (Elt F) f ((runB (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 y9 y14 y15 y16 y17).1.1)) = dw1F (k0_pay198 (cell 0 y15) (x0 (ix1 (0 : Fin 2)))) x4 (quantH (cell 1 y17) x7) :=
  funext fun y => View.read_writes_apply_of_pieces arg11.view f _ _ (pieces10_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 y9 y14 y15 y16 y17) y (cover10_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 y9 y14 y15 y16 y17 y)
theorem read11_B (c : Dev nD) (i : grid0.Coords) (arg1 : Memref sig .tc .smem S2 .f32) (harg1 : arg1.IsWhole) (arg2 : Memref sig .tc .vmem S8x128 .f32) (harg2 : arg2.IsWhole) (arg3 : Memref sig .tc .vmem S8x256 .f32) (harg3 : arg3.IsWhole) (arg4 : Memref sig .tc .vmem S8x256 .f32) (harg4 : arg4.IsWhole) (arg5 : Memref sig .tc .vmem S2304x1536 .fp8e4m3) (harg5 : arg5.IsWhole) (arg6 : Memref sig .tc .vmem S1536x2304 .fp8e5m2) (harg6 : arg6.IsWhole) (arg7 : Memref sig .tc .vmem S1x1536x256 .bf16) (harg7 : arg7.IsWhole) (arg8 : Memref sig .tc .vmem S1x2x1536x256 .bf16) (harg8 : arg8.IsWhole) (arg9 : Memref sig .tc .vmem S2304x512 .fp8e4m3) (harg9 : arg9.IsWhole) (arg10 : Memref sig .tc .vmem S1536x2304 .bf16) (harg10 : arg10.IsWhole) (arg11 : Memref sig .tc .vmem S2304x512 .bf16) (harg11 : arg11.IsWhole) (arg12 : Memref sig .tc .vmem S256x2304 .bf16) (harg12 : arg12.IsWhole) (arg13 : Memref sig .tc .vmem S1536x256 .fp8e4m3) (harg13 : arg13.IsWhole) (arg14 : Memref sig .tc .vmem S1536x512 .fp8e5m2) (harg14 : arg14.IsWhole) (arg15 : Memref sig .tc .vmem S8x128 .f32) (harg15 : arg15.IsWhole) (arg16 : Memref sig .tc .vmem S8x128 .f32) (harg16 : arg16.IsWhole) (arg17 : Memref sig .tc .vmem S1536x2304 .f32) (harg17 : arg17.IsWhole) (arg18 : Memref sig .tc .vmem S8x128 .f32) (harg18 : arg18.IsWhole) (hc0 : ¬cond0_0 i) (hc1 : ¬cond0_1 i)
    (x0 : Vec F S2 .f32) (x1 : Vec F S8x128 .f32) (x2 : Vec F S8x256 .f32) (x3 : Vec F S8x256 .f32) (x4 : Vec F S2304x1536 .fp8e4m3) (x5 : Vec F S1536x2304 .fp8e5m2) (x6 : Vec F S1x1536x256 .bf16) (x7 : Vec F S1x2x1536x256 .bf16) (x8 : Vec F S2304x512 .fp8e4m3) (y9 : Vec F S1536x2304 .bf16) (y14 : Vec F S8x128 .f32) (y15 : Vec F S8x128 .f32) (y16 : Vec F S1536x2304 .f32) (y17 : Vec F S8x128 .f32) (f) : arg12.view.read (Elt F) (arg12.view.writes (Elt F) f ((runB (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 y9 y14 y15 y16 y17).1.2.1)) = dw2F (k0_pay199 (cell 0 y14) (cell 0 x1)) (quantA (cell 0 y17) x6) x5 :=
  funext fun y => View.read_writes_apply_of_pieces arg12.view f _ _ (pieces11_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 y9 y14 y15 y16 y17) y (cover11_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 y9 y14 y15 y16 y17 y)
theorem read12_B (c : Dev nD) (i : grid0.Coords) (arg1 : Memref sig .tc .smem S2 .f32) (harg1 : arg1.IsWhole) (arg2 : Memref sig .tc .vmem S8x128 .f32) (harg2 : arg2.IsWhole) (arg3 : Memref sig .tc .vmem S8x256 .f32) (harg3 : arg3.IsWhole) (arg4 : Memref sig .tc .vmem S8x256 .f32) (harg4 : arg4.IsWhole) (arg5 : Memref sig .tc .vmem S2304x1536 .fp8e4m3) (harg5 : arg5.IsWhole) (arg6 : Memref sig .tc .vmem S1536x2304 .fp8e5m2) (harg6 : arg6.IsWhole) (arg7 : Memref sig .tc .vmem S1x1536x256 .bf16) (harg7 : arg7.IsWhole) (arg8 : Memref sig .tc .vmem S1x2x1536x256 .bf16) (harg8 : arg8.IsWhole) (arg9 : Memref sig .tc .vmem S2304x512 .fp8e4m3) (harg9 : arg9.IsWhole) (arg10 : Memref sig .tc .vmem S1536x2304 .bf16) (harg10 : arg10.IsWhole) (arg11 : Memref sig .tc .vmem S2304x512 .bf16) (harg11 : arg11.IsWhole) (arg12 : Memref sig .tc .vmem S256x2304 .bf16) (harg12 : arg12.IsWhole) (arg13 : Memref sig .tc .vmem S1536x256 .fp8e4m3) (harg13 : arg13.IsWhole) (arg14 : Memref sig .tc .vmem S1536x512 .fp8e5m2) (harg14 : arg14.IsWhole) (arg15 : Memref sig .tc .vmem S8x128 .f32) (harg15 : arg15.IsWhole) (arg16 : Memref sig .tc .vmem S8x128 .f32) (harg16 : arg16.IsWhole) (arg17 : Memref sig .tc .vmem S1536x2304 .f32) (harg17 : arg17.IsWhole) (arg18 : Memref sig .tc .vmem S8x128 .f32) (harg18 : arg18.IsWhole) (hc0 : ¬cond0_0 i) (hc1 : ¬cond0_1 i)
    (x0 : Vec F S2 .f32) (x1 : Vec F S8x128 .f32) (x2 : Vec F S8x256 .f32) (x3 : Vec F S8x256 .f32) (x4 : Vec F S2304x1536 .fp8e4m3) (x5 : Vec F S1536x2304 .fp8e5m2) (x6 : Vec F S1x1536x256 .bf16) (x7 : Vec F S1x2x1536x256 .bf16) (x8 : Vec F S2304x512 .fp8e4m3) (y9 : Vec F S1536x2304 .bf16) (y14 : Vec F S8x128 .f32) (y15 : Vec F S8x128 .f32) (y16 : Vec F S1536x2304 .f32) (y17 : Vec F S8x128 .f32) (f) : arg13.view.read (Elt F) (arg13.view.writes (Elt F) f ((runB (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 y9 y14 y15 y16 y17).1.2.2.1)) = quantA (cell 0 y17) x6 :=
  funext fun y => View.read_writes_apply_of_pieces arg13.view f _ _ (codes_B12 c arg7 harg7 arg18 harg18 x6 y17) y (cover_B12 c arg7 harg7 arg18 harg18 x6 y17 y)
theorem read13_B (c : Dev nD) (i : grid0.Coords) (arg1 : Memref sig .tc .smem S2 .f32) (harg1 : arg1.IsWhole) (arg2 : Memref sig .tc .vmem S8x128 .f32) (harg2 : arg2.IsWhole) (arg3 : Memref sig .tc .vmem S8x256 .f32) (harg3 : arg3.IsWhole) (arg4 : Memref sig .tc .vmem S8x256 .f32) (harg4 : arg4.IsWhole) (arg5 : Memref sig .tc .vmem S2304x1536 .fp8e4m3) (harg5 : arg5.IsWhole) (arg6 : Memref sig .tc .vmem S1536x2304 .fp8e5m2) (harg6 : arg6.IsWhole) (arg7 : Memref sig .tc .vmem S1x1536x256 .bf16) (harg7 : arg7.IsWhole) (arg8 : Memref sig .tc .vmem S1x2x1536x256 .bf16) (harg8 : arg8.IsWhole) (arg9 : Memref sig .tc .vmem S2304x512 .fp8e4m3) (harg9 : arg9.IsWhole) (arg10 : Memref sig .tc .vmem S1536x2304 .bf16) (harg10 : arg10.IsWhole) (arg11 : Memref sig .tc .vmem S2304x512 .bf16) (harg11 : arg11.IsWhole) (arg12 : Memref sig .tc .vmem S256x2304 .bf16) (harg12 : arg12.IsWhole) (arg13 : Memref sig .tc .vmem S1536x256 .fp8e4m3) (harg13 : arg13.IsWhole) (arg14 : Memref sig .tc .vmem S1536x512 .fp8e5m2) (harg14 : arg14.IsWhole) (arg15 : Memref sig .tc .vmem S8x128 .f32) (harg15 : arg15.IsWhole) (arg16 : Memref sig .tc .vmem S8x128 .f32) (harg16 : arg16.IsWhole) (arg17 : Memref sig .tc .vmem S1536x2304 .f32) (harg17 : arg17.IsWhole) (arg18 : Memref sig .tc .vmem S8x128 .f32) (harg18 : arg18.IsWhole) (hc0 : ¬cond0_0 i) (hc1 : ¬cond0_1 i)
    (x0 : Vec F S2 .f32) (x1 : Vec F S8x128 .f32) (x2 : Vec F S8x256 .f32) (x3 : Vec F S8x256 .f32) (x4 : Vec F S2304x1536 .fp8e4m3) (x5 : Vec F S1536x2304 .fp8e5m2) (x6 : Vec F S1x1536x256 .bf16) (x7 : Vec F S1x2x1536x256 .bf16) (x8 : Vec F S2304x512 .fp8e4m3) (y9 : Vec F S1536x2304 .bf16) (y14 : Vec F S8x128 .f32) (y15 : Vec F S8x128 .f32) (y16 : Vec F S1536x2304 .f32) (y17 : Vec F S8x128 .f32) (f) : arg14.view.read (Elt F) (arg14.view.writes (Elt F) f ((runB (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 y9 y14 y15 y16 y17).1.2.2.2.1)) = quantH (cell 1 y17) x7 :=
  funext fun y => View.read_writes_apply_of_pieces arg14.view f _ _ (codes_B13 c arg8 harg8 arg18 harg18 x7 y17) y (cover_B13 c arg8 harg8 arg18 harg18 x7 y17 y)
theorem read16_B (c : Dev nD) (i : grid0.Coords) (arg1 : Memref sig .tc .smem S2 .f32) (harg1 : arg1.IsWhole) (arg2 : Memref sig .tc .vmem S8x128 .f32) (harg2 : arg2.IsWhole) (arg3 : Memref sig .tc .vmem S8x256 .f32) (harg3 : arg3.IsWhole) (arg4 : Memref sig .tc .vmem S8x256 .f32) (harg4 : arg4.IsWhole) (arg5 : Memref sig .tc .vmem S2304x1536 .fp8e4m3) (harg5 : arg5.IsWhole) (arg6 : Memref sig .tc .vmem S1536x2304 .fp8e5m2) (harg6 : arg6.IsWhole) (arg7 : Memref sig .tc .vmem S1x1536x256 .bf16) (harg7 : arg7.IsWhole) (arg8 : Memref sig .tc .vmem S1x2x1536x256 .bf16) (harg8 : arg8.IsWhole) (arg9 : Memref sig .tc .vmem S2304x512 .fp8e4m3) (harg9 : arg9.IsWhole) (arg10 : Memref sig .tc .vmem S1536x2304 .bf16) (harg10 : arg10.IsWhole) (arg11 : Memref sig .tc .vmem S2304x512 .bf16) (harg11 : arg11.IsWhole) (arg12 : Memref sig .tc .vmem S256x2304 .bf16) (harg12 : arg12.IsWhole) (arg13 : Memref sig .tc .vmem S1536x256 .fp8e4m3) (harg13 : arg13.IsWhole) (arg14 : Memref sig .tc .vmem S1536x512 .fp8e5m2) (harg14 : arg14.IsWhole) (arg15 : Memref sig .tc .vmem S8x128 .f32) (harg15 : arg15.IsWhole) (arg16 : Memref sig .tc .vmem S8x128 .f32) (harg16 : arg16.IsWhole) (arg17 : Memref sig .tc .vmem S1536x2304 .f32) (harg17 : arg17.IsWhole) (arg18 : Memref sig .tc .vmem S8x128 .f32) (harg18 : arg18.IsWhole) (hc0 : ¬cond0_0 i) (hc1 : ¬cond0_1 i)
    (x0 : Vec F S2 .f32) (x1 : Vec F S8x128 .f32) (x2 : Vec F S8x256 .f32) (x3 : Vec F S8x256 .f32) (x4 : Vec F S2304x1536 .fp8e4m3) (x5 : Vec F S1536x2304 .fp8e5m2) (x6 : Vec F S1x1536x256 .bf16) (x7 : Vec F S1x2x1536x256 .bf16) (x8 : Vec F S2304x512 .fp8e4m3) (y9 : Vec F S1536x2304 .bf16) (y14 : Vec F S8x128 .f32) (y15 : Vec F S8x128 .f32) (y16 : Vec F S1536x2304 .f32) (y17 : Vec F S8x128 .f32) (f) : arg17.view.read (Elt F) (arg17.view.writes (Elt F) f ((runB (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 y9 y14 y15 y16 y17).1.2.2.2.2)) = dxF y16 (quantH (cell 1 y17) x7) x8 :=
  funext fun y => View.read_writes_apply_of_pieces arg17.view f _ _ (pieces16_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 y9 y14 y15 y16 y17) y (cover16_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 y9 y14 y15 y16 y17 y)
end Cert.GradientsIdeal.Hand

end
-- ==== Proof.GResC.lean ====
module

public import proofs.«01_k».proof.Proof.GWords

@[expose] public section

set_option maxRecDepth 16384

noncomputable section

namespace Cert.GradientsIdeal.Hand

open Idealize.ShloMosaic.Tactic
open Cert.GradientsIdeal Cert.GradientsIdeal.Gen
open Idealize.ShloMosaic hiding ix0 ix1 ix2 ix3 ix4 ix5
open Idealize.ShloMosaic.ValueIdx

variable {F : FTy → Type} [FloatOps F]

/-- The factor of dW1. -/
theorem w1_C (c : Dev nD) (arg1 : Memref sig .tc .smem S2 .f32) (harg1 : arg1.IsWhole) (arg16 : Memref sig .tc .vmem S8x128 .f32) (harg16 : arg16.IsWhole) (x0 : Vec F S2 .f32) (y15 : Vec F S8x128 .f32) : runC.sl.r_45 c arg1 harg1 arg16 harg16 x0 y15 = k0_pay198 (cell 0 y15) (x0 (ix1 (0 : Fin 2))) :=
  congrArg₂ k0_pay198 (readCell 0 arg16 harg16 y15 inb_S8x128_S1x1_0_0) (readScalar 0 arg1 harg1 x0 inb_S2_S1_0 _)
/-- The factor of dW2. -/
theorem w2_C (c : Dev nD) (arg2 : Memref sig .tc .vmem S8x128 .f32) (harg2 : arg2.IsWhole) (arg15 : Memref sig .tc .vmem S8x128 .f32) (harg15 : arg15.IsWhole) (x1 : Vec F S8x128 .f32) (y14 : Vec F S8x128 .f32) : runC.sl.r_46 c arg2 harg2 arg15 harg15 x1 y14 = k0_pay199 (cell 0 y14) (cell 0 x1) :=
  congrArg₂ k0_pay199 (readCell 0 arg15 harg15 y14 inb_S8x128_S1x1_0_0) (readCell 0 arg2 harg2 x1 inb_S8x128_S1x1_0_0)
/-- dW1's pieces are one function. -/
theorem pieces10_C (c : Dev nD) (i : grid0.Coords) (arg1 : Memref sig .tc .smem S2 .f32) (harg1 : arg1.IsWhole) (arg2 : Memref sig .tc .vmem S8x128 .f32) (harg2 : arg2.IsWhole) (arg3 : Memref sig .tc .vmem S8x256 .f32) (harg3 : arg3.IsWhole) (arg4 : Memref sig .tc .vmem S8x256 .f32) (harg4 : arg4.IsWhole) (arg5 : Memref sig .tc .vmem S2304x1536 .fp8e4m3) (harg5 : arg5.IsWhole) (arg6 : Memref sig .tc .vmem S1536x2304 .fp8e5m2) (harg6 : arg6.IsWhole) (arg7 : Memref sig .tc .vmem S1x1536x256 .bf16) (harg7 : arg7.IsWhole) (arg8 : Memref sig .tc .vmem S1x2x1536x256 .bf16) (harg8 : arg8.IsWhole) (arg9 : Memref sig .tc .vmem S2304x512 .fp8e4m3) (harg9 : arg9.IsWhole) (arg10 : Memref sig .tc .vmem S1536x2304 .bf16) (harg10 : arg10.IsWhole) (arg11 : Memref sig .tc .vmem S2304x512 .bf16) (harg11 : arg11.IsWhole) (arg12 : Memref sig .tc .vmem S256x2304 .bf16) (harg12 : arg12.IsWhole) (arg13 : Memref sig .tc .vmem S1536x256 .fp8e4m3) (harg13 : arg13.IsWhole) (arg14 : Memref sig .tc .vmem S1536x512 .fp8e5m2) (harg14 : arg14.IsWhole) (arg15 : Memref sig .tc .vmem S8x128 .f32) (harg15 : arg15.IsWhole) (arg16 : Memref sig .tc .vmem S8x128 .f32) (harg16 : arg16.IsWhole) (arg17 : Memref sig .tc .vmem S1536x2304 .f32) (harg17 : arg17.IsWhole) (arg18 : Memref sig .tc .vmem S8x128 .f32) (harg18 : arg18.IsWhole) (hc0 : ¬cond0_0 i) (hc1 : cond0_1 i)
    (x0 : Vec F S2 .f32) (x1 : Vec F S8x128 .f32) (x2 : Vec F S8x256 .f32) (x3 : Vec F S8x256 .f32) (x4 : Vec F S2304x1536 .fp8e4m3) (x5 : Vec F S1536x2304 .fp8e5m2) (x6 : Vec F S1x1536x256 .bf16) (x7 : Vec F S1x2x1536x256 .bf16) (x8 : Vec F S2304x512 .fp8e4m3) (y14 : Vec F S8x128 .f32) (y15 : Vec F S8x128 .f32) (y16 : Vec F S1536x2304 .f32) (y17 : Vec F S8x128 .f32) : ∀ p ∈ (runC (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 y14 y15 y16 y17).1.2.1, ∀ j, p.2 j = dw1F (k0_pay198 (cell 0 y15) (x0 (ix1 (0 : Fin 2)))) x4 (quantH (cell 1 y17) x7) (p.1.emb j) := by
  rw [← v1599_C c arg8 harg8 arg14 arg18 harg18 x7 y17, ← w1_C c arg1 harg1 arg16 harg16 x0 y15]
  refine List.forall_mem_cons.2 ⟨fun j => piece1 1536 2 rfl inb_S2304x1536_S768x1536_1536_0 inb_S2304x512_S768x512_1536_0 arg5 harg5 _ x4 _ j, ?_⟩
  refine List.forall_mem_cons.2 ⟨fun j => piece1 768 1 rfl inb_S2304x1536_S768x1536_768_0 inb_S2304x512_S768x512_768_0 arg5 harg5 _ x4 _ j, ?_⟩
  refine List.forall_mem_cons.2 ⟨fun j => piece1 0 0 rfl inb_S2304x1536_S768x1536_0_0 inb_S2304x512_S768x512_0_0 arg5 harg5 _ x4 _ j, ?_⟩
  exact fun p hp => absurd hp List.not_mem_nil
theorem cover10_C (c : Dev nD) (i : grid0.Coords) (arg1 : Memref sig .tc .smem S2 .f32) (harg1 : arg1.IsWhole) (arg2 : Memref sig .tc .vmem S8x128 .f32) (harg2 : arg2.IsWhole) (arg3 : Memref sig .tc .vmem S8x256 .f32) (harg3 : arg3.IsWhole) (arg4 : Memref sig .tc .vmem S8x256 .f32) (harg4 : arg4.IsWhole) (arg5 : Memref sig .tc .vmem S2304x1536 .fp8e4m3) (harg5 : arg5.IsWhole) (arg6 : Memref sig .tc .vmem S1536x2304 .fp8e5m2) (harg6 : arg6.IsWhole) (arg7 : Memref sig .tc .vmem S1x1536x256 .bf16) (harg7 : arg7.IsWhole) (arg8 : Memref sig .tc .vmem S1x2x1536x256 .bf16) (harg8 : arg8.IsWhole) (arg9 : Memref sig .tc .vmem S2304x512 .fp8e4m3) (harg9 : arg9.IsWhole) (arg10 : Memref sig .tc .vmem S1536x2304 .bf16) (harg10 : arg10.IsWhole) (arg11 : Memref sig .tc .vmem S2304x512 .bf16) (harg11 : arg11.IsWhole) (arg12 : Memref sig .tc .vmem S256x2304 .bf16) (harg12 : arg12.IsWhole) (arg13 : Memref sig .tc .vmem S1536x256 .fp8e4m3) (harg13 : arg13.IsWhole) (arg14 : Memref sig .tc .vmem S1536x512 .fp8e5m2) (harg14 : arg14.IsWhole) (arg15 : Memref sig .tc .vmem S8x128 .f32) (harg15 : arg15.IsWhole) (arg16 : Memref sig .tc .vmem S8x128 .f32) (harg16 : arg16.IsWhole) (arg17 : Memref sig .tc .vmem S1536x2304 .f32) (harg17 : arg17.IsWhole) (arg18 : Memref sig .tc .vmem S8x128 .f32) (harg18 : arg18.IsWhole) (hc0 : ¬cond0_0 i) (hc1 : cond0_1 i)
    (x0 : Vec F S2 .f32) (x1 : Vec F S8x128 .f32) (x2 : Vec F S8x256 .f32) (x3 : Vec F S8x256 .f32) (x4 : Vec F S2304x1536 .fp8e4m3) (x5 : Vec F S1536x2304 .fp8e5m2) (x6 : Vec F S1x1536x256 .bf16) (x7 : Vec F S1x2x1536x256 .bf16) (x8 : Vec F S2304x512 .fp8e4m3) (y14 : Vec F S8x128 .f32) (y15 : Vec F S8x128 .f32) (y16 : Vec F S1536x2304 .f32) (y17 : Vec F S8x128 .f32) : ∀ y, ∃ p ∈ (runC (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 y14 y15 y16 y17).1.2.1, y ∈ p.1.set := View.cover_of_tiledL _ S768x512.size (by sl_kernel_rfl)
/-- dW2's piece. -/
theorem pieces11_C (c : Dev nD) (i : grid0.Coords) (arg1 : Memref sig .tc .smem S2 .f32) (harg1 : arg1.IsWhole) (arg2 : Memref sig .tc .vmem S8x128 .f32) (harg2 : arg2.IsWhole) (arg3 : Memref sig .tc .vmem S8x256 .f32) (harg3 : arg3.IsWhole) (arg4 : Memref sig .tc .vmem S8x256 .f32) (harg4 : arg4.IsWhole) (arg5 : Memref sig .tc .vmem S2304x1536 .fp8e4m3) (harg5 : arg5.IsWhole) (arg6 : Memref sig .tc .vmem S1536x2304 .fp8e5m2) (harg6 : arg6.IsWhole) (arg7 : Memref sig .tc .vmem S1x1536x256 .bf16) (harg7 : arg7.IsWhole) (arg8 : Memref sig .tc .vmem S1x2x1536x256 .bf16) (harg8 : arg8.IsWhole) (arg9 : Memref sig .tc .vmem S2304x512 .fp8e4m3) (harg9 : arg9.IsWhole) (arg10 : Memref sig .tc .vmem S1536x2304 .bf16) (harg10 : arg10.IsWhole) (arg11 : Memref sig .tc .vmem S2304x512 .bf16) (harg11 : arg11.IsWhole) (arg12 : Memref sig .tc .vmem S256x2304 .bf16) (harg12 : arg12.IsWhole) (arg13 : Memref sig .tc .vmem S1536x256 .fp8e4m3) (harg13 : arg13.IsWhole) (arg14 : Memref sig .tc .vmem S1536x512 .fp8e5m2) (harg14 : arg14.IsWhole) (arg15 : Memref sig .tc .vmem S8x128 .f32) (harg15 : arg15.IsWhole) (arg16 : Memref sig .tc .vmem S8x128 .f32) (harg16 : arg16.IsWhole) (arg17 : Memref sig .tc .vmem S1536x2304 .f32) (harg17 : arg17.IsWhole) (arg18 : Memref sig .tc .vmem S8x128 .f32) (harg18 : arg18.IsWhole) (hc0 : ¬cond0_0 i) (hc1 : cond0_1 i)
    (x0 : Vec F S2 .f32) (x1 : Vec F S8x128 .f32) (x2 : Vec F S8x256 .f32) (x3 : Vec F S8x256 .f32) (x4 : Vec F S2304x1536 .fp8e4m3) (x5 : Vec F S1536x2304 .fp8e5m2) (x6 : Vec F S1x1536x256 .bf16) (x7 : Vec F S1x2x1536x256 .bf16) (x8 : Vec F S2304x512 .fp8e4m3) (y14 : Vec F S8x128 .f32) (y15 : Vec F S8x128 .f32) (y16 : Vec F S1536x2304 .f32) (y17 : Vec F S8x128 .f32) : ∀ p ∈ (runC (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 y14 y15 y16 y17).1.2.2.1, ∀ j, p.2 j = dw2F (k0_pay199 (cell 0 y14) (cell 0 x1)) (quantA (cell 0 y17) x6) x5 (p.1.emb j) := by
  rw [← v1622_C c arg7 harg7 arg13 arg18 harg18 x6 y17, ← w2_C c arg2 harg2 arg15 harg15 x1 y14]
  refine List.forall_mem_cons.2 ⟨fun j => ?_, fun p hp => absurd hp List.not_mem_nil⟩
  show k0_pay203 (F := F) _ _ _ j = _
  rw [readWhole arg6 harg6 x5 _ _ (by intro a; match a with | ⟨0, _⟩ => rfl | ⟨1, _⟩ => rfl)]
  exact wholePiece (F := F) (s := S256x2304) (e := .bf16) (dw2F (F := F) _ _ x5) ![0, 0] inb_S256x2304_S256x2304_0_0 (by intro a; match a with | ⟨0, _⟩ => rfl | ⟨1, _⟩ => rfl) j
theorem cover11_C (c : Dev nD) (i : grid0.Coords) (arg1 : Memref sig .tc .smem S2 .f32) (harg1 : arg1.IsWhole) (arg2 : Memref sig .tc .vmem S8x128 .f32) (harg2 : arg2.IsWhole) (arg3 : Memref sig .tc .vmem S8x256 .f32) (harg3 : arg3.IsWhole) (arg4 : Memref sig .tc .vmem S8x256 .f32) (harg4 : arg4.IsWhole) (arg5 : Memref sig .tc .vmem S2304x1536 .fp8e4m3) (harg5 : arg5.IsWhole) (arg6 : Memref sig .tc .vmem S1536x2304 .fp8e5m2) (harg6 : arg6.IsWhole) (arg7 : Memref sig .tc .vmem S1x1536x256 .bf16) (harg7 : arg7.IsWhole) (arg8 : Memref sig .tc .vmem S1x2x1536x256 .bf16) (harg8 : arg8.IsWhole) (arg9 : Memref sig .tc .vmem S2304x512 .fp8e4m3) (harg9 : arg9.IsWhole) (arg10 : Memref sig .tc .vmem S1536x2304 .bf16) (harg10 : arg10.IsWhole) (arg11 : Memref sig .tc .vmem S2304x512 .bf16) (harg11 : arg11.IsWhole) (arg12 : Memref sig .tc .vmem S256x2304 .bf16) (harg12 : arg12.IsWhole) (arg13 : Memref sig .tc .vmem S1536x256 .fp8e4m3) (harg13 : arg13.IsWhole) (arg14 : Memref sig .tc .vmem S1536x512 .fp8e5m2) (harg14 : arg14.IsWhole) (arg15 : Memref sig .tc .vmem S8x128 .f32) (harg15 : arg15.IsWhole) (arg16 : Memref sig .tc .vmem S8x128 .f32) (harg16 : arg16.IsWhole) (arg17 : Memref sig .tc .vmem S1536x2304 .f32) (harg17 : arg17.IsWhole) (arg18 : Memref sig .tc .vmem S8x128 .f32) (harg18 : arg18.IsWhole) (hc0 : ¬cond0_0 i) (hc1 : cond0_1 i)
    (x0 : Vec F S2 .f32) (x1 : Vec F S8x128 .f32) (x2 : Vec F S8x256 .f32) (x3 : Vec F S8x256 .f32) (x4 : Vec F S2304x1536 .fp8e4m3) (x5 : Vec F S1536x2304 .fp8e5m2) (x6 : Vec F S1x1536x256 .bf16) (x7 : Vec F S1x2x1536x256 .bf16) (x8 : Vec F S2304x512 .fp8e4m3) (y14 : Vec F S8x128 .f32) (y15 : Vec F S8x128 .f32) (y16 : Vec F S1536x2304 .f32) (y17 : Vec F S8x128 .f32) : ∀ y, ∃ p ∈ (runC (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 y14 y15 y16 y17).1.2.2.1, y ∈ p.1.set := View.cover_of_tiledL _ S256x2304.size (by sl_kernel_rfl)
/-- The accumulator's pieces are one function. -/
theorem pieces16_C (c : Dev nD) (i : grid0.Coords) (arg1 : Memref sig .tc .smem S2 .f32) (harg1 : arg1.IsWhole) (arg2 : Memref sig .tc .vmem S8x128 .f32) (harg2 : arg2.IsWhole) (arg3 : Memref sig .tc .vmem S8x256 .f32) (harg3 : arg3.IsWhole) (arg4 : Memref sig .tc .vmem S8x256 .f32) (harg4 : arg4.IsWhole) (arg5 : Memref sig .tc .vmem S2304x1536 .fp8e4m3) (harg5 : arg5.IsWhole) (arg6 : Memref sig .tc .vmem S1536x2304 .fp8e5m2) (harg6 : arg6.IsWhole) (arg7 : Memref sig .tc .vmem S1x1536x256 .bf16) (harg7 : arg7.IsWhole) (arg8 : Memref sig .tc .vmem S1x2x1536x256 .bf16) (harg8 : arg8.IsWhole) (arg9 : Memref sig .tc .vmem S2304x512 .fp8e4m3) (harg9 : arg9.IsWhole) (arg10 : Memref sig .tc .vmem S1536x2304 .bf16) (harg10 : arg10.IsWhole) (arg11 : Memref sig .tc .vmem S2304x512 .bf16) (harg11 : arg11.IsWhole) (arg12 : Memref sig .tc .vmem S256x2304 .bf16) (harg12 : arg12.IsWhole) (arg13 : Memref sig .tc .vmem S1536x256 .fp8e4m3) (harg13 : arg13.IsWhole) (arg14 : Memref sig .tc .vmem S1536x512 .fp8e5m2) (harg14 : arg14.IsWhole) (arg15 : Memref sig .tc .vmem S8x128 .f32) (harg15 : arg15.IsWhole) (arg16 : Memref sig .tc .vmem S8x128 .f32) (harg16 : arg16.IsWhole) (arg17 : Memref sig .tc .vmem S1536x2304 .f32) (harg17 : arg17.IsWhole) (arg18 : Memref sig .tc .vmem S8x128 .f32) (harg18 : arg18.IsWhole) (hc0 : ¬cond0_0 i) (hc1 : cond0_1 i)
    (x0 : Vec F S2 .f32) (x1 : Vec F S8x128 .f32) (x2 : Vec F S8x256 .f32) (x3 : Vec F S8x256 .f32) (x4 : Vec F S2304x1536 .fp8e4m3) (x5 : Vec F S1536x2304 .fp8e5m2) (x6 : Vec F S1x1536x256 .bf16) (x7 : Vec F S1x2x1536x256 .bf16) (x8 : Vec F S2304x512 .fp8e4m3) (y14 : Vec F S8x128 .f32) (y15 : Vec F S8x128 .f32) (y16 : Vec F S1536x2304 .f32) (y17 : Vec F S8x128 .f32) : ∀ p ∈ (runC (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 y14 y15 y16 y17).1.2.2.2.2.2, ∀ j, p.2 j = dxF y16 (quantH (cell 1 y17) x7) x8 (p.1.emb j) := by
  have e9 : View.readAt (Elt F) arg9.view (Rect.unit (s := S2304x512) ![0, 0] S2304x512.size inb_S2304x512_S2304x512_0_0).toLoadRect (harg9.unread x8) = x8 :=
    readWhole arg9 harg9 x8 _ _ (by intro a; match a with | ⟨0, _⟩ => rfl | ⟨1, _⟩ => rfl)
  unfold runC
  dsimp only
  unfold runC.sl.H16_3
  unfold runC.sl.r_48
  rw [e9]
  refine List.forall_mem_cons.2 ⟨fun j => (Eq.trans (congrFun (congrArg₂ (fun a h => k0_pay2 a h x8) (accRows_read 2 1024 rfl arg17 harg17 y16 inb_S1536x2304_S512x2304_1024_0) (v1650_C c arg8 harg8 arg14 arg18 harg18 x7 y17)) j) (pieceX 1024 2 rfl inb_S1536x2304_S512x2304_1024_0 y16 (quantH (cell 1 y17) x7) x8 j)), ?_⟩
  refine List.forall_mem_cons.2 ⟨fun j => (Eq.trans (congrFun (congrArg₂ (fun a h => k0_pay2 a h x8) (accRows_read 1 512 rfl arg17 harg17 y16 inb_S1536x2304_S512x2304_512_0) (v1641_C c arg8 harg8 arg14 arg18 harg18 x7 y17)) j) (pieceX 512 1 rfl inb_S1536x2304_S512x2304_512_0 y16 (quantH (cell 1 y17) x7) x8 j)), ?_⟩
  refine List.forall_mem_cons.2 ⟨fun j => (Eq.trans (congrFun (congrArg₂ (fun a h => k0_pay2 a h x8) (accRows_read 0 0 rfl arg17 harg17 y16 inb_S1536x2304_S512x2304_0_0) (v1632_C c arg8 harg8 arg14 arg18 harg18 x7 y17)) j) (pieceX 0 0 rfl inb_S1536x2304_S512x2304_0_0 y16 (quantH (cell 1 y17) x7) x8 j)), ?_⟩
  exact fun p hp => absurd hp List.not_mem_nil
theorem cover16_C (c : Dev nD) (i : grid0.Coords) (arg1 : Memref sig .tc .smem S2 .f32) (harg1 : arg1.IsWhole) (arg2 : Memref sig .tc .vmem S8x128 .f32) (harg2 : arg2.IsWhole) (arg3 : Memref sig .tc .vmem S8x256 .f32) (harg3 : arg3.IsWhole) (arg4 : Memref sig .tc .vmem S8x256 .f32) (harg4 : arg4.IsWhole) (arg5 : Memref sig .tc .vmem S2304x1536 .fp8e4m3) (harg5 : arg5.IsWhole) (arg6 : Memref sig .tc .vmem S1536x2304 .fp8e5m2) (harg6 : arg6.IsWhole) (arg7 : Memref sig .tc .vmem S1x1536x256 .bf16) (harg7 : arg7.IsWhole) (arg8 : Memref sig .tc .vmem S1x2x1536x256 .bf16) (harg8 : arg8.IsWhole) (arg9 : Memref sig .tc .vmem S2304x512 .fp8e4m3) (harg9 : arg9.IsWhole) (arg10 : Memref sig .tc .vmem S1536x2304 .bf16) (harg10 : arg10.IsWhole) (arg11 : Memref sig .tc .vmem S2304x512 .bf16) (harg11 : arg11.IsWhole) (arg12 : Memref sig .tc .vmem S256x2304 .bf16) (harg12 : arg12.IsWhole) (arg13 : Memref sig .tc .vmem S1536x256 .fp8e4m3) (harg13 : arg13.IsWhole) (arg14 : Memref sig .tc .vmem S1536x512 .fp8e5m2) (harg14 : arg14.IsWhole) (arg15 : Memref sig .tc .vmem S8x128 .f32) (harg15 : arg15.IsWhole) (arg16 : Memref sig .tc .vmem S8x128 .f32) (harg16 : arg16.IsWhole) (arg17 : Memref sig .tc .vmem S1536x2304 .f32) (harg17 : arg17.IsWhole) (arg18 : Memref sig .tc .vmem S8x128 .f32) (harg18 : arg18.IsWhole) (hc0 : ¬cond0_0 i) (hc1 : cond0_1 i)
    (x0 : Vec F S2 .f32) (x1 : Vec F S8x128 .f32) (x2 : Vec F S8x256 .f32) (x3 : Vec F S8x256 .f32) (x4 : Vec F S2304x1536 .fp8e4m3) (x5 : Vec F S1536x2304 .fp8e5m2) (x6 : Vec F S1x1536x256 .bf16) (x7 : Vec F S1x2x1536x256 .bf16) (x8 : Vec F S2304x512 .fp8e4m3) (y14 : Vec F S8x128 .f32) (y15 : Vec F S8x128 .f32) (y16 : Vec F S1536x2304 .f32) (y17 : Vec F S8x128 .f32) : ∀ y, ∃ p ∈ (runC (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 y14 y15 y16 y17).1.2.2.2.2.2, y ∈ p.1.set := View.cover_of_tiledL _ S512x2304.size (by sl_kernel_rfl)
/-- dX's piece: the finished accumulator, scaled and cast. -/
theorem pieces9_C (c : Dev nD) (i : grid0.Coords) (arg1 : Memref sig .tc .smem S2 .f32) (harg1 : arg1.IsWhole) (arg2 : Memref sig .tc .vmem S8x128 .f32) (harg2 : arg2.IsWhole) (arg3 : Memref sig .tc .vmem S8x256 .f32) (harg3 : arg3.IsWhole) (arg4 : Memref sig .tc .vmem S8x256 .f32) (harg4 : arg4.IsWhole) (arg5 : Memref sig .tc .vmem S2304x1536 .fp8e4m3) (harg5 : arg5.IsWhole) (arg6 : Memref sig .tc .vmem S1536x2304 .fp8e5m2) (harg6 : arg6.IsWhole) (arg7 : Memref sig .tc .vmem S1x1536x256 .bf16) (harg7 : arg7.IsWhole) (arg8 : Memref sig .tc .vmem S1x2x1536x256 .bf16) (harg8 : arg8.IsWhole) (arg9 : Memref sig .tc .vmem S2304x512 .fp8e4m3) (harg9 : arg9.IsWhole) (arg10 : Memref sig .tc .vmem S1536x2304 .bf16) (harg10 : arg10.IsWhole) (arg11 : Memref sig .tc .vmem S2304x512 .bf16) (harg11 : arg11.IsWhole) (arg12 : Memref sig .tc .vmem S256x2304 .bf16) (harg12 : arg12.IsWhole) (arg13 : Memref sig .tc .vmem S1536x256 .fp8e4m3) (harg13 : arg13.IsWhole) (arg14 : Memref sig .tc .vmem S1536x512 .fp8e5m2) (harg14 : arg14.IsWhole) (arg15 : Memref sig .tc .vmem S8x128 .f32) (harg15 : arg15.IsWhole) (arg16 : Memref sig .tc .vmem S8x128 .f32) (harg16 : arg16.IsWhole) (arg17 : Memref sig .tc .vmem S1536x2304 .f32) (harg17 : arg17.IsWhole) (arg18 : Memref sig .tc .vmem S8x128 .f32) (harg18 : arg18.IsWhole) (hc0 : ¬cond0_0 i) (hc1 : cond0_1 i)
    (x0 : Vec F S2 .f32) (x1 : Vec F S8x128 .f32) (x2 : Vec F S8x256 .f32) (x3 : Vec F S8x256 .f32) (x4 : Vec F S2304x1536 .fp8e4m3) (x5 : Vec F S1536x2304 .fp8e5m2) (x6 : Vec F S1x1536x256 .bf16) (x7 : Vec F S1x2x1536x256 .bf16) (x8 : Vec F S2304x512 .fp8e4m3) (y14 : Vec F S8x128 .f32) (y15 : Vec F S8x128 .f32) (y16 : Vec F S1536x2304 .f32) (y17 : Vec F S8x128 .f32) : ∀ p ∈ (runC (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 y14 y15 y16 y17).1.1, ∀ j, p.2 j = k0_pay3 (k0_pay197 (cell 0 y15)) (dxF y16 (quantH (cell 1 y17) x7) x8) (x0 (ix1 (1 : Fin 2))) (p.1.emb j) := by
  refine List.forall_mem_cons.2 ⟨fun j => ?_, fun p hp => absurd hp List.not_mem_nil⟩
  have e1 : runC.sl.v1661 c arg8 harg8 arg9 harg9 arg14 arg17 harg17 arg18 harg18 x7 x8 y16 y17 = dxF y16 (quantH (cell 1 y17) x7) x8 := by
    unfold runC.sl.v1661
    refine (readCov_pieces _ (dxF y16 (quantH (cell 1 y17) x7) x8) _ (pieces16_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 y14 y15 y16 y17) (cover16_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 y14 y15 y16 y17) _).trans ?_
    exact whole_load _ _ _ (by intro a; match a with | ⟨0, _⟩ => rfl | ⟨1, _⟩ => rfl)
  have e2 : runC.sl.r_44 c arg16 harg16 y15 = k0_pay197 (cell 0 y15) := congrArg k0_pay197 (readCell 0 arg16 harg16 y15 inb_S8x128_S1x1_0_0)
  have e3 : runC.sl.r_49 c arg1 harg1 x0 = x0 (ix1 (1 : Fin 2)) := readScalar 1 arg1 harg1 x0 inb_S2_S1_1 _
  show k0_pay3 (runC.sl.r_44 c arg16 harg16 y15) (runC.sl.v1661 c arg8 harg8 arg9 harg9 arg14 arg17 harg17 arg18 harg18 x7 x8 y16 y17) (runC.sl.r_49 c arg1 harg1 x0) j = _
  rw [e1, e2, e3]
  exact wholePiece (F := F) (s := S1536x2304) (e := .bf16) (k0_pay3 (k0_pay197 (cell 0 y15)) (dxF y16 (quantH (cell 1 y17) x7) x8) (x0 (ix1 (1 : Fin 2)))) ![0, 0] inb_S1536x2304_S1536x2304_0_0 (by intro a; match a with | ⟨0, _⟩ => rfl | ⟨1, _⟩ => rfl) j
theorem cover9_C (c : Dev nD) (i : grid0.Coords) (arg1 : Memref sig .tc .smem S2 .f32) (harg1 : arg1.IsWhole) (arg2 : Memref sig .tc .vmem S8x128 .f32) (harg2 : arg2.IsWhole) (arg3 : Memref sig .tc .vmem S8x256 .f32) (harg3 : arg3.IsWhole) (arg4 : Memref sig .tc .vmem S8x256 .f32) (harg4 : arg4.IsWhole) (arg5 : Memref sig .tc .vmem S2304x1536 .fp8e4m3) (harg5 : arg5.IsWhole) (arg6 : Memref sig .tc .vmem S1536x2304 .fp8e5m2) (harg6 : arg6.IsWhole) (arg7 : Memref sig .tc .vmem S1x1536x256 .bf16) (harg7 : arg7.IsWhole) (arg8 : Memref sig .tc .vmem S1x2x1536x256 .bf16) (harg8 : arg8.IsWhole) (arg9 : Memref sig .tc .vmem S2304x512 .fp8e4m3) (harg9 : arg9.IsWhole) (arg10 : Memref sig .tc .vmem S1536x2304 .bf16) (harg10 : arg10.IsWhole) (arg11 : Memref sig .tc .vmem S2304x512 .bf16) (harg11 : arg11.IsWhole) (arg12 : Memref sig .tc .vmem S256x2304 .bf16) (harg12 : arg12.IsWhole) (arg13 : Memref sig .tc .vmem S1536x256 .fp8e4m3) (harg13 : arg13.IsWhole) (arg14 : Memref sig .tc .vmem S1536x512 .fp8e5m2) (harg14 : arg14.IsWhole) (arg15 : Memref sig .tc .vmem S8x128 .f32) (harg15 : arg15.IsWhole) (arg16 : Memref sig .tc .vmem S8x128 .f32) (harg16 : arg16.IsWhole) (arg17 : Memref sig .tc .vmem S1536x2304 .f32) (harg17 : arg17.IsWhole) (arg18 : Memref sig .tc .vmem S8x128 .f32) (harg18 : arg18.IsWhole) (hc0 : ¬cond0_0 i) (hc1 : cond0_1 i)
    (x0 : Vec F S2 .f32) (x1 : Vec F S8x128 .f32) (x2 : Vec F S8x256 .f32) (x3 : Vec F S8x256 .f32) (x4 : Vec F S2304x1536 .fp8e4m3) (x5 : Vec F S1536x2304 .fp8e5m2) (x6 : Vec F S1x1536x256 .bf16) (x7 : Vec F S1x2x1536x256 .bf16) (x8 : Vec F S2304x512 .fp8e4m3) (y14 : Vec F S8x128 .f32) (y15 : Vec F S8x128 .f32) (y16 : Vec F S1536x2304 .f32) (y17 : Vec F S8x128 .f32) : ∀ y, ∃ p ∈ (runC (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 y14 y15 y16 y17).1.1, y ∈ p.1.set := View.cover_of_tiledL _ S1536x2304.size (by sl_kernel_rfl)
theorem read9_C (c : Dev nD) (i : grid0.Coords) (arg1 : Memref sig .tc .smem S2 .f32) (harg1 : arg1.IsWhole) (arg2 : Memref sig .tc .vmem S8x128 .f32) (harg2 : arg2.IsWhole) (arg3 : Memref sig .tc .vmem S8x256 .f32) (harg3 : arg3.IsWhole) (arg4 : Memref sig .tc .vmem S8x256 .f32) (harg4 : arg4.IsWhole) (arg5 : Memref sig .tc .vmem S2304x1536 .fp8e4m3) (harg5 : arg5.IsWhole) (arg6 : Memref sig .tc .vmem S1536x2304 .fp8e5m2) (harg6 : arg6.IsWhole) (arg7 : Memref sig .tc .vmem S1x1536x256 .bf16) (harg7 : arg7.IsWhole) (arg8 : Memref sig .tc .vmem S1x2x1536x256 .bf16) (harg8 : arg8.IsWhole) (arg9 : Memref sig .tc .vmem S2304x512 .fp8e4m3) (harg9 : arg9.IsWhole) (arg10 : Memref sig .tc .vmem S1536x2304 .bf16) (harg10 : arg10.IsWhole) (arg11 : Memref sig .tc .vmem S2304x512 .bf16) (harg11 : arg11.IsWhole) (arg12 : Memref sig .tc .vmem S256x2304 .bf16) (harg12 : arg12.IsWhole) (arg13 : Memref sig .tc .vmem S1536x256 .fp8e4m3) (harg13 : arg13.IsWhole) (arg14 : Memref sig .tc .vmem S1536x512 .fp8e5m2) (harg14 : arg14.IsWhole) (arg15 : Memref sig .tc .vmem S8x128 .f32) (harg15 : arg15.IsWhole) (arg16 : Memref sig .tc .vmem S8x128 .f32) (harg16 : arg16.IsWhole) (arg17 : Memref sig .tc .vmem S1536x2304 .f32) (harg17 : arg17.IsWhole) (arg18 : Memref sig .tc .vmem S8x128 .f32) (harg18 : arg18.IsWhole) (hc0 : ¬cond0_0 i) (hc1 : cond0_1 i)
    (x0 : Vec F S2 .f32) (x1 : Vec F S8x128 .f32) (x2 : Vec F S8x256 .f32) (x3 : Vec F S8x256 .f32) (x4 : Vec F S2304x1536 .fp8e4m3) (x5 : Vec F S1536x2304 .fp8e5m2) (x6 : Vec F S1x1536x256 .bf16) (x7 : Vec F S1x2x1536x256 .bf16) (x8 : Vec F S2304x512 .fp8e4m3) (y14 : Vec F S8x128 .f32) (y15 : Vec F S8x128 .f32) (y16 : Vec F S1536x2304 .f32) (y17 : Vec F S8x128 .f32) (f) : arg10.view.read (Elt F) (arg10.view.writes (Elt F) f ((runC (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 y14 y15 y16 y17).1.1)) = k0_pay3 (k0_pay197 (cell 0 y15)) (dxF y16 (quantH (cell 1 y17) x7) x8) (x0 (ix1 (1 : Fin 2))) :=
  funext fun y => View.read_writes_apply_of_pieces arg10.view f _ _ (pieces9_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 y14 y15 y16 y17) y (cover9_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 y14 y15 y16 y17 y)
theorem read10_C (c : Dev nD) (i : grid0.Coords) (arg1 : Memref sig .tc .smem S2 .f32) (harg1 : arg1.IsWhole) (arg2 : Memref sig .tc .vmem S8x128 .f32) (harg2 : arg2.IsWhole) (arg3 : Memref sig .tc .vmem S8x256 .f32) (harg3 : arg3.IsWhole) (arg4 : Memref sig .tc .vmem S8x256 .f32) (harg4 : arg4.IsWhole) (arg5 : Memref sig .tc .vmem S2304x1536 .fp8e4m3) (harg5 : arg5.IsWhole) (arg6 : Memref sig .tc .vmem S1536x2304 .fp8e5m2) (harg6 : arg6.IsWhole) (arg7 : Memref sig .tc .vmem S1x1536x256 .bf16) (harg7 : arg7.IsWhole) (arg8 : Memref sig .tc .vmem S1x2x1536x256 .bf16) (harg8 : arg8.IsWhole) (arg9 : Memref sig .tc .vmem S2304x512 .fp8e4m3) (harg9 : arg9.IsWhole) (arg10 : Memref sig .tc .vmem S1536x2304 .bf16) (harg10 : arg10.IsWhole) (arg11 : Memref sig .tc .vmem S2304x512 .bf16) (harg11 : arg11.IsWhole) (arg12 : Memref sig .tc .vmem S256x2304 .bf16) (harg12 : arg12.IsWhole) (arg13 : Memref sig .tc .vmem S1536x256 .fp8e4m3) (harg13 : arg13.IsWhole) (arg14 : Memref sig .tc .vmem S1536x512 .fp8e5m2) (harg14 : arg14.IsWhole) (arg15 : Memref sig .tc .vmem S8x128 .f32) (harg15 : arg15.IsWhole) (arg16 : Memref sig .tc .vmem S8x128 .f32) (harg16 : arg16.IsWhole) (arg17 : Memref sig .tc .vmem S1536x2304 .f32) (harg17 : arg17.IsWhole) (arg18 : Memref sig .tc .vmem S8x128 .f32) (harg18 : arg18.IsWhole) (hc0 : ¬cond0_0 i) (hc1 : cond0_1 i)
    (x0 : Vec F S2 .f32) (x1 : Vec F S8x128 .f32) (x2 : Vec F S8x256 .f32) (x3 : Vec F S8x256 .f32) (x4 : Vec F S2304x1536 .fp8e4m3) (x5 : Vec F S1536x2304 .fp8e5m2) (x6 : Vec F S1x1536x256 .bf16) (x7 : Vec F S1x2x1536x256 .bf16) (x8 : Vec F S2304x512 .fp8e4m3) (y14 : Vec F S8x128 .f32) (y15 : Vec F S8x128 .f32) (y16 : Vec F S1536x2304 .f32) (y17 : Vec F S8x128 .f32) (f) : arg11.view.read (Elt F) (arg11.view.writes (Elt F) f ((runC (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 y14 y15 y16 y17).1.2.1)) = dw1F (k0_pay198 (cell 0 y15) (x0 (ix1 (0 : Fin 2)))) x4 (quantH (cell 1 y17) x7) :=
  funext fun y => View.read_writes_apply_of_pieces arg11.view f _ _ (pieces10_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 y14 y15 y16 y17) y (cover10_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 y14 y15 y16 y17 y)
theorem read11_C (c : Dev nD) (i : grid0.Coords) (arg1 : Memref sig .tc .smem S2 .f32) (harg1 : arg1.IsWhole) (arg2 : Memref sig .tc .vmem S8x128 .f32) (harg2 : arg2.IsWhole) (arg3 : Memref sig .tc .vmem S8x256 .f32) (harg3 : arg3.IsWhole) (arg4 : Memref sig .tc .vmem S8x256 .f32) (harg4 : arg4.IsWhole) (arg5 : Memref sig .tc .vmem S2304x1536 .fp8e4m3) (harg5 : arg5.IsWhole) (arg6 : Memref sig .tc .vmem S1536x2304 .fp8e5m2) (harg6 : arg6.IsWhole) (arg7 : Memref sig .tc .vmem S1x1536x256 .bf16) (harg7 : arg7.IsWhole) (arg8 : Memref sig .tc .vmem S1x2x1536x256 .bf16) (harg8 : arg8.IsWhole) (arg9 : Memref sig .tc .vmem S2304x512 .fp8e4m3) (harg9 : arg9.IsWhole) (arg10 : Memref sig .tc .vmem S1536x2304 .bf16) (harg10 : arg10.IsWhole) (arg11 : Memref sig .tc .vmem S2304x512 .bf16) (harg11 : arg11.IsWhole) (arg12 : Memref sig .tc .vmem S256x2304 .bf16) (harg12 : arg12.IsWhole) (arg13 : Memref sig .tc .vmem S1536x256 .fp8e4m3) (harg13 : arg13.IsWhole) (arg14 : Memref sig .tc .vmem S1536x512 .fp8e5m2) (harg14 : arg14.IsWhole) (arg15 : Memref sig .tc .vmem S8x128 .f32) (harg15 : arg15.IsWhole) (arg16 : Memref sig .tc .vmem S8x128 .f32) (harg16 : arg16.IsWhole) (arg17 : Memref sig .tc .vmem S1536x2304 .f32) (harg17 : arg17.IsWhole) (arg18 : Memref sig .tc .vmem S8x128 .f32) (harg18 : arg18.IsWhole) (hc0 : ¬cond0_0 i) (hc1 : cond0_1 i)
    (x0 : Vec F S2 .f32) (x1 : Vec F S8x128 .f32) (x2 : Vec F S8x256 .f32) (x3 : Vec F S8x256 .f32) (x4 : Vec F S2304x1536 .fp8e4m3) (x5 : Vec F S1536x2304 .fp8e5m2) (x6 : Vec F S1x1536x256 .bf16) (x7 : Vec F S1x2x1536x256 .bf16) (x8 : Vec F S2304x512 .fp8e4m3) (y14 : Vec F S8x128 .f32) (y15 : Vec F S8x128 .f32) (y16 : Vec F S1536x2304 .f32) (y17 : Vec F S8x128 .f32) (f) : arg12.view.read (Elt F) (arg12.view.writes (Elt F) f ((runC (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 y14 y15 y16 y17).1.2.2.1)) = dw2F (k0_pay199 (cell 0 y14) (cell 0 x1)) (quantA (cell 0 y17) x6) x5 :=
  funext fun y => View.read_writes_apply_of_pieces arg12.view f _ _ (pieces11_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 y14 y15 y16 y17) y (cover11_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 y14 y15 y16 y17 y)
theorem read12_C (c : Dev nD) (i : grid0.Coords) (arg1 : Memref sig .tc .smem S2 .f32) (harg1 : arg1.IsWhole) (arg2 : Memref sig .tc .vmem S8x128 .f32) (harg2 : arg2.IsWhole) (arg3 : Memref sig .tc .vmem S8x256 .f32) (harg3 : arg3.IsWhole) (arg4 : Memref sig .tc .vmem S8x256 .f32) (harg4 : arg4.IsWhole) (arg5 : Memref sig .tc .vmem S2304x1536 .fp8e4m3) (harg5 : arg5.IsWhole) (arg6 : Memref sig .tc .vmem S1536x2304 .fp8e5m2) (harg6 : arg6.IsWhole) (arg7 : Memref sig .tc .vmem S1x1536x256 .bf16) (harg7 : arg7.IsWhole) (arg8 : Memref sig .tc .vmem S1x2x1536x256 .bf16) (harg8 : arg8.IsWhole) (arg9 : Memref sig .tc .vmem S2304x512 .fp8e4m3) (harg9 : arg9.IsWhole) (arg10 : Memref sig .tc .vmem S1536x2304 .bf16) (harg10 : arg10.IsWhole) (arg11 : Memref sig .tc .vmem S2304x512 .bf16) (harg11 : arg11.IsWhole) (arg12 : Memref sig .tc .vmem S256x2304 .bf16) (harg12 : arg12.IsWhole) (arg13 : Memref sig .tc .vmem S1536x256 .fp8e4m3) (harg13 : arg13.IsWhole) (arg14 : Memref sig .tc .vmem S1536x512 .fp8e5m2) (harg14 : arg14.IsWhole) (arg15 : Memref sig .tc .vmem S8x128 .f32) (harg15 : arg15.IsWhole) (arg16 : Memref sig .tc .vmem S8x128 .f32) (harg16 : arg16.IsWhole) (arg17 : Memref sig .tc .vmem S1536x2304 .f32) (harg17 : arg17.IsWhole) (arg18 : Memref sig .tc .vmem S8x128 .f32) (harg18 : arg18.IsWhole) (hc0 : ¬cond0_0 i) (hc1 : cond0_1 i)
    (x0 : Vec F S2 .f32) (x1 : Vec F S8x128 .f32) (x2 : Vec F S8x256 .f32) (x3 : Vec F S8x256 .f32) (x4 : Vec F S2304x1536 .fp8e4m3) (x5 : Vec F S1536x2304 .fp8e5m2) (x6 : Vec F S1x1536x256 .bf16) (x7 : Vec F S1x2x1536x256 .bf16) (x8 : Vec F S2304x512 .fp8e4m3) (y14 : Vec F S8x128 .f32) (y15 : Vec F S8x128 .f32) (y16 : Vec F S1536x2304 .f32) (y17 : Vec F S8x128 .f32) (f) : arg13.view.read (Elt F) (arg13.view.writes (Elt F) f ((runC (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 y14 y15 y16 y17).1.2.2.2.1)) = quantA (cell 0 y17) x6 :=
  funext fun y => View.read_writes_apply_of_pieces arg13.view f _ _ (codes_C12 c arg7 harg7 arg18 harg18 x6 y17) y (cover_C12 c arg7 harg7 arg18 harg18 x6 y17 y)
theorem read13_C (c : Dev nD) (i : grid0.Coords) (arg1 : Memref sig .tc .smem S2 .f32) (harg1 : arg1.IsWhole) (arg2 : Memref sig .tc .vmem S8x128 .f32) (harg2 : arg2.IsWhole) (arg3 : Memref sig .tc .vmem S8x256 .f32) (harg3 : arg3.IsWhole) (arg4 : Memref sig .tc .vmem S8x256 .f32) (harg4 : arg4.IsWhole) (arg5 : Memref sig .tc .vmem S2304x1536 .fp8e4m3) (harg5 : arg5.IsWhole) (arg6 : Memref sig .tc .vmem S1536x2304 .fp8e5m2) (harg6 : arg6.IsWhole) (arg7 : Memref sig .tc .vmem S1x1536x256 .bf16) (harg7 : arg7.IsWhole) (arg8 : Memref sig .tc .vmem S1x2x1536x256 .bf16) (harg8 : arg8.IsWhole) (arg9 : Memref sig .tc .vmem S2304x512 .fp8e4m3) (harg9 : arg9.IsWhole) (arg10 : Memref sig .tc .vmem S1536x2304 .bf16) (harg10 : arg10.IsWhole) (arg11 : Memref sig .tc .vmem S2304x512 .bf16) (harg11 : arg11.IsWhole) (arg12 : Memref sig .tc .vmem S256x2304 .bf16) (harg12 : arg12.IsWhole) (arg13 : Memref sig .tc .vmem S1536x256 .fp8e4m3) (harg13 : arg13.IsWhole) (arg14 : Memref sig .tc .vmem S1536x512 .fp8e5m2) (harg14 : arg14.IsWhole) (arg15 : Memref sig .tc .vmem S8x128 .f32) (harg15 : arg15.IsWhole) (arg16 : Memref sig .tc .vmem S8x128 .f32) (harg16 : arg16.IsWhole) (arg17 : Memref sig .tc .vmem S1536x2304 .f32) (harg17 : arg17.IsWhole) (arg18 : Memref sig .tc .vmem S8x128 .f32) (harg18 : arg18.IsWhole) (hc0 : ¬cond0_0 i) (hc1 : cond0_1 i)
    (x0 : Vec F S2 .f32) (x1 : Vec F S8x128 .f32) (x2 : Vec F S8x256 .f32) (x3 : Vec F S8x256 .f32) (x4 : Vec F S2304x1536 .fp8e4m3) (x5 : Vec F S1536x2304 .fp8e5m2) (x6 : Vec F S1x1536x256 .bf16) (x7 : Vec F S1x2x1536x256 .bf16) (x8 : Vec F S2304x512 .fp8e4m3) (y14 : Vec F S8x128 .f32) (y15 : Vec F S8x128 .f32) (y16 : Vec F S1536x2304 .f32) (y17 : Vec F S8x128 .f32) (f) : arg14.view.read (Elt F) (arg14.view.writes (Elt F) f ((runC (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 y14 y15 y16 y17).1.2.2.2.2.1)) = quantH (cell 1 y17) x7 :=
  funext fun y => View.read_writes_apply_of_pieces arg14.view f _ _ (codes_C13 c arg8 harg8 arg18 harg18 x7 y17) y (cover_C13 c arg8 harg8 arg18 harg18 x7 y17 y)
theorem read16_C (c : Dev nD) (i : grid0.Coords) (arg1 : Memref sig .tc .smem S2 .f32) (harg1 : arg1.IsWhole) (arg2 : Memref sig .tc .vmem S8x128 .f32) (harg2 : arg2.IsWhole) (arg3 : Memref sig .tc .vmem S8x256 .f32) (harg3 : arg3.IsWhole) (arg4 : Memref sig .tc .vmem S8x256 .f32) (harg4 : arg4.IsWhole) (arg5 : Memref sig .tc .vmem S2304x1536 .fp8e4m3) (harg5 : arg5.IsWhole) (arg6 : Memref sig .tc .vmem S1536x2304 .fp8e5m2) (harg6 : arg6.IsWhole) (arg7 : Memref sig .tc .vmem S1x1536x256 .bf16) (harg7 : arg7.IsWhole) (arg8 : Memref sig .tc .vmem S1x2x1536x256 .bf16) (harg8 : arg8.IsWhole) (arg9 : Memref sig .tc .vmem S2304x512 .fp8e4m3) (harg9 : arg9.IsWhole) (arg10 : Memref sig .tc .vmem S1536x2304 .bf16) (harg10 : arg10.IsWhole) (arg11 : Memref sig .tc .vmem S2304x512 .bf16) (harg11 : arg11.IsWhole) (arg12 : Memref sig .tc .vmem S256x2304 .bf16) (harg12 : arg12.IsWhole) (arg13 : Memref sig .tc .vmem S1536x256 .fp8e4m3) (harg13 : arg13.IsWhole) (arg14 : Memref sig .tc .vmem S1536x512 .fp8e5m2) (harg14 : arg14.IsWhole) (arg15 : Memref sig .tc .vmem S8x128 .f32) (harg15 : arg15.IsWhole) (arg16 : Memref sig .tc .vmem S8x128 .f32) (harg16 : arg16.IsWhole) (arg17 : Memref sig .tc .vmem S1536x2304 .f32) (harg17 : arg17.IsWhole) (arg18 : Memref sig .tc .vmem S8x128 .f32) (harg18 : arg18.IsWhole) (hc0 : ¬cond0_0 i) (hc1 : cond0_1 i)
    (x0 : Vec F S2 .f32) (x1 : Vec F S8x128 .f32) (x2 : Vec F S8x256 .f32) (x3 : Vec F S8x256 .f32) (x4 : Vec F S2304x1536 .fp8e4m3) (x5 : Vec F S1536x2304 .fp8e5m2) (x6 : Vec F S1x1536x256 .bf16) (x7 : Vec F S1x2x1536x256 .bf16) (x8 : Vec F S2304x512 .fp8e4m3) (y14 : Vec F S8x128 .f32) (y15 : Vec F S8x128 .f32) (y16 : Vec F S1536x2304 .f32) (y17 : Vec F S8x128 .f32) (f) : arg17.view.read (Elt F) (arg17.view.writes (Elt F) f ((runC (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 y14 y15 y16 y17).1.2.2.2.2.2)) = dxF y16 (quantH (cell 1 y17) x7) x8 :=
  funext fun y => View.read_writes_apply_of_pieces arg17.view f _ _ (pieces16_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 y14 y15 y16 y17) y (cover16_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 y14 y15 y16 y17 y)
end Cert.GradientsIdeal.Hand

end
-- ==== Proof.GFrame.lean ====
/- The proof data of the gradients pipeline: what each buffer holds after each grid point, the body obligation at every
   point, the run and the frame, for any values. -/
module

public import proofs.«01_k».proof.Proof.GResA
public import proofs.«01_k».proof.Proof.GResB
public import proofs.«01_k».proof.Proof.GResC
public import proofs.«01_k».proof.Proof.Gen.GradientsIdeal.Points
public import Idealize.ShloMosaic.Lib.Claim
public import Idealize.ShloMosaic.Lib.Pipeline.TableIdle

@[expose] public section

set_option maxRecDepth 16384

noncomputable section

namespace Cert.GradientsIdeal.Hand

open Cert.GradientsIdeal Cert.GradientsIdeal.Gen
open Idealize.ShloMosaic hiding ix0 ix1 ix2 ix3 ix4 ix5
open Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## Stores read back -/

/-- A buffer whose stores read back as `G`, whatever it held, is owned at `G`. -/
theorem owns_of_read {s : Shape} {e : EltTy} {sp : Space} (c : Dev nD) (arg : Memref sig .tc sp s e) (L : List (View.Piece (Elt F) s e)) (G : Vec F s e)
    (h : ∀ f, arg.view.read (Elt F) (arg.view.writes (Elt F) f L) = G) :
    (iprop(∃ f, arg.view.loc (c : Thread nD τ) ↦[arg.view.set]{fullShare} arg.view.writes (Elt F) f L) : sProp (MT nD τ sig Unit (Elt F) ℕ (UR sig nD τ) ℕ)) ⊢ owns (c : Thread nD τ) arg fullShare G := by
  iintro ⟨%f, H⟩
  unfold owns
  iexists _
  isplitr
  swap
  · iexact H
  ipureintro; exact h f

/-- A buffer of whose stores, read back, `P` holds, whatever it held, is owned at contents of which `P` holds. -/
theorem owns_of_prop {s : Shape} {e : EltTy} {sp : Space} (c : Dev nD) (arg : Memref sig .tc sp s e) (L : List (View.Piece (Elt F) s e)) (P : Vec F s e → Prop)
    (h : ∀ f, P (arg.view.read (Elt F) (arg.view.writes (Elt F) f L))) :
    (iprop(∃ f, arg.view.loc (c : Thread nD τ) ↦[arg.view.set]{fullShare} arg.view.writes (Elt F) f L) : sProp (MT nD τ sig Unit (Elt F) ℕ (UR sig nD τ) ℕ)) ⊢ iprop(∃ d, ⌜P d⌝ ∗ owns (c : Thread nD τ) arg fullShare d) := by
  iintro ⟨%f, H⟩
  iexists (arg.view.read (Elt F) (arg.view.writes (Elt F) f L))
  isplitr
  · ipureintro; exact h f
  unfold owns
  iexists _
  isplitr
  swap
  · iexact H
  ipureintro; rfl

/-! ## What the buffers hold -/

/-- The first grid point. -/
abbrev t0 : Fin cfg0.N := ⟨0, by rw [show cfg0.N = 36 from N_0]; norm_num⟩
/-- The block maxima of the activation, and of the hidden gradient. -/
def amA (c : Dev nD) : Vec F S8x256 .f32 := iblk m c 2 t0
def amH (c : Dev nD) : Vec F S8x256 .f32 := iblk m c 3 t0
/-- The codes of the point's blocks. -/
def acAt (c : Dev nD) (t : Fin cfg0.N) : Vec F S1536x256 .fp8e4m3 := quantA (invA (amA m c)) (iblk m c 6 t)
def hcAt (c : Dev nD) (t : Fin cfg0.N) : Vec F S1536x512 .fp8e5m2 := quantH (invH (amH m c)) (iblk m c 7 t)
/-- The point's blocks of the weight gradients. -/
def dw1At (c : Dev nD) (t : Fin cfg0.N) : Vec F S2304x512 .bf16 :=
  dw1F (k0_pay198 (cell 0 (shV (amH m c))) ((iblk m c 0 t : Vec F S2 .f32) (ix1 (0 : Fin 2)))) (iblk m c 4 t) (hcAt m c t)
def dw2At (c : Dev nD) (t : Fin cfg0.N) : Vec F S256x2304 .bf16 :=
  dw2F (k0_pay199 (cell 0 (saV (amA m c))) (cell 0 (iblk m c 1 t))) (acAt m c t) (iblk m c 5 t)
/-- The accumulator of dX after point `n`. -/
def accAt (c : Dev nD) : (n : ℕ) → n < cfg0.N → Vec F S1536x2304 .f32
  | 0, h => dxF zeroX (hcAt m c ⟨0, h⟩) (iblk m c 8 ⟨0, h⟩)
  | n + 1, h => dxF (accAt c n (Nat.lt_of_succ_lt h)) (hcAt m c ⟨n + 1, h⟩) (iblk m c 8 ⟨n + 1, h⟩)
theorem accAt_pos (c : Dev nD) (t : Fin cfg0.N) (hz : t.val ≠ 0) :
    accAt m c t.val t.isLt = dxF (accAt m c (t.val - 1) (by omega)) (hcAt m c t) (iblk m c 8 t) := by
  obtain ⟨n, hn⟩ := t
  cases n with
  | zero => exact absurd rfl hz
  | succ n => rfl
/-- dX, the accumulator scaled and cast. -/
def dxAt (c : Dev nD) (t : Fin cfg0.N) : Vec F S1536x2304 .bf16 :=
  k0_pay3 (k0_pay197 (cell 0 (shV (amH m c)))) (accAt m c t.val t.isLt) ((iblk m c 0 t : Vec F S2 .f32) (ix1 (1 : Fin 2)))

/-- The stored inverses in the small scratch. -/
def Invs (c : Dev nD) (d : Vec F S8x128 .f32) : Prop := cell 0 d = invA (amA m c) ∧ cell 1 d = invH (amH m c)

/-- The invariant: before the first point the scratch at anything, after point `n` the accumulator at `accAt n` and the
    two inverses stored. -/
def PhiS (c : Dev nD) : (n : ℕ) → n ≤ cfg0.N → sProp (MT nD τ sig Unit (Elt F) ℕ (UR sig nD τ) ℕ)
  | 0, _ => Pipeline.ΦA spec0 c
  | n + 1, h => iprop(iprop(owns (c : Thread nD τ) scM0_0 fullShare (accAt m c n h) ∗ (∃ d, ⌜Invs m c d⌝ ∗ owns (c : Thread nD τ) scM0_1 fullShare d)) ∗ (∃ r, prngReg c r))
theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0_0 fullShare (accAt m c n hn) ∗ (∃ d, ⌜Invs m c d⌝ ∗ owns (c : Thread nD τ) scM0_1 fullShare d)) ∗ (∃ r, prngReg c r)) := rfl
theorem PhiS_pos (c : Dev nD) (n : ℕ) (h : n ≤ cfg0.N) (hz : n ≠ 0) :
    PhiS m c n h = iprop(iprop(owns (c : Thread nD τ) scM0_0 fullShare (accAt m c (n - 1) (by omega)) ∗ (∃ d, ⌜Invs m c d⌝ ∗ owns (c : Thread nD τ) scM0_1 fullShare d)) ∗ (∃ r, prngReg c r)) := by
  cases n with
  | zero => exact absurd rfl hz
  | succ n => rfl

/-- The proof data of the pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => dxAt m c t
    | ⟨10, _⟩ => dw1At m c t
    | ⟨11, _⟩ => dw2At m c t
    | ⟨12, _⟩ => acAt m c t
    | ⟨13, _⟩ => hcAt m c t
    | ⟨14, _⟩ => saV (amA m c)
    | ⟨15, _⟩ => shV (amH m c)
    | ⟨_ + 16, h⟩ => absurd h (Nat.not_lt.2 (Nat.le_add_left _ _))
  Φ t := PhiS m c t.val (Nat.le_of_lt_succ t.isLt)
  q _ := fullShare
  owed _ := 0
theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = dxAt m c t := by dsimp only [dats]
theorem after0_10 (c : Dev nD) (t : Fin cfg0.N) : (dats m 0 c).after 10 t = dw1At m c t := by dsimp only [dats]
theorem after0_11 (c : Dev nD) (t : Fin cfg0.N) : (dats m 0 c).after 11 t = dw2At m c t := by dsimp only [dats]
theorem after0_12 (c : Dev nD) (t : Fin cfg0.N) : (dats m 0 c).after 12 t = acAt m c t := by dsimp only [dats]
theorem after0_13 (c : Dev nD) (t : Fin cfg0.N) : (dats m 0 c).after 13 t = hcAt m c t := by dsimp only [dats]
theorem after0_14 (c : Dev nD) (t : Fin cfg0.N) : (dats m 0 c).after 14 t = saV (amA m c) := by dsimp only [dats]
theorem after0_15 (c : Dev nD) (t : Fin cfg0.N) : (dats m 0 c).after 15 t = shV (amH m c) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## Where the outputs are idle -/

theorem idle_9 (t : Fin cfg0.N) (h : ¬ t.val % 36 = 35) : cfg0.idle 9 (grid0.coords t) = true := by
  show (!(k0_cond2 (grid0.coords t) == 1#1)) = true
  rw [Bool.not_eq_true', beq_eq_false_iff_ne]
  exact fun hc => h ((hcond0_1 t).mp hc)
theorem live_9 (t : Fin cfg0.N) (h : t.val % 36 = 35) : cfg0.idle 9 (grid0.coords t) = false := by
  show (!(k0_cond2 (grid0.coords t) == 1#1)) = false
  rw [Bool.not_eq_false', beq_iff_eq]
  exact (hcond0_1 t).mpr h
theorem noflush_9 (t : Fin cfg0.N) (h : ¬ t.val % 36 = 35) : (cfg0.win 9).flush t = false :=
  Bool.eq_false_iff.mpr fun hc => h ((flush0_9 t).mp hc)
theorem idle_14 (t : Fin cfg0.N) (h : ¬ t.val % 36 = 0) : cfg0.idle 14 (grid0.coords t) = true := by
  show (!(k0_cond1 (grid0.coords t) == 1#1)) = true
  rw [Bool.not_eq_true', beq_eq_false_iff_ne]
  exact fun hc => h ((hcond0_0 t).mp hc)
theorem live_14 (t : Fin cfg0.N) (h : t.val % 36 = 0) : cfg0.idle 14 (grid0.coords t) = false := by
  show (!(k0_cond1 (grid0.coords t) == 1#1)) = false
  rw [Bool.not_eq_false', beq_iff_eq]
  exact (hcond0_0 t).mpr h
theorem noflush_14 (t : Fin cfg0.N) (h : ¬ t.val % 36 = 35) : (cfg0.win 14).flush t = false :=
  Bool.eq_false_iff.mpr fun hc => h ((flush0_14 t).mp hc)
theorem idle_15 (t : Fin cfg0.N) (h : ¬ t.val % 36 = 0) : cfg0.idle 15 (grid0.coords t) = true := by
  show (!(k0_cond1 (grid0.coords t) == 1#1)) = true
  rw [Bool.not_eq_true', beq_eq_false_iff_ne]
  exact fun hc => h ((hcond0_0 t).mp hc)
theorem live_15 (t : Fin cfg0.N) (h : t.val % 36 = 0) : cfg0.idle 15 (grid0.coords t) = false := by
  show (!(k0_cond1 (grid0.coords t) == 1#1)) = false
  rw [Bool.not_eq_false', beq_iff_eq]
  exact (hcond0_0 t).mpr h
theorem noflush_15 (t : Fin cfg0.N) (h : ¬ t.val % 36 = 35) : (cfg0.win 15).flush t = false :=
  Bool.eq_false_iff.mpr fun hc => h ((flush0_15 t).mp hc)
/-- Output 14 is stored at the first point and not written back before the last. -/
theorem fresh_14 : ∀ n, n + 1 < cfg0.N → cfg0.fresh 14 (n + 1) = false
  | 0, h => by
    have hN : cfg0.N = 36 := N_0
    rw [Pipeline.Cfg.fresh_succ cfg0 14 0 (by omega), noflush_14 ⟨0, by omega⟩ (by show ¬ 0 % 36 = 35; omega), live_14 ⟨0, by omega⟩ (by show 0 % 36 = 0; omega)]
    rfl
  | n + 1, h => by
    have hN : cfg0.N = 36 := N_0
    rw [Pipeline.Cfg.fresh_succ cfg0 14 (n + 1) (by omega), noflush_14 ⟨n + 1, by omega⟩ (by show ¬ (n + 1) % 36 = 35; omega), fresh_14 n (by omega), Bool.and_false]
    rfl
theorem before0_14 (c : Dev nD) (t : Fin cfg0.N) (hz : t.val ≠ 0) (d) : (dats m 0 c).before 14 t d = saV (amA m c) := by
  rw [Pipeline.Dat.before_out_traj (dats m 0 c) 14 rfl (fun _ _ => rfl) (fun t _ _ _ => by rw [after0_14, after0_14]) t.val t rfl d]
  have hf : cfg0.fresh 14 t.val = false := by
    obtain ⟨n, hn⟩ := t
    cases n with
    | zero => exact absurd rfl hz
    | succ n => exact fresh_14 n hn
  rw [hf, if_neg Bool.false_ne_true, after0_14]
/-- Output 15 is stored at the first point and not written back before the last. -/
theorem fresh_15 : ∀ n, n + 1 < cfg0.N → cfg0.fresh 15 (n + 1) = false
  | 0, h => by
    have hN : cfg0.N = 36 := N_0
    rw [Pipeline.Cfg.fresh_succ cfg0 15 0 (by omega), noflush_15 ⟨0, by omega⟩ (by show ¬ 0 % 36 = 35; omega), live_15 ⟨0, by omega⟩ (by show 0 % 36 = 0; omega)]
    rfl
  | n + 1, h => by
    have hN : cfg0.N = 36 := N_0
    rw [Pipeline.Cfg.fresh_succ cfg0 15 (n + 1) (by omega), noflush_15 ⟨n + 1, by omega⟩ (by show ¬ (n + 1) % 36 = 35; omega), fresh_15 n (by omega), Bool.and_false]
    rfl
theorem before0_15 (c : Dev nD) (t : Fin cfg0.N) (hz : t.val ≠ 0) (d) : (dats m 0 c).before 15 t d = shV (amH m c) := by
  rw [Pipeline.Dat.before_out_traj (dats m 0 c) 15 rfl (fun _ _ => rfl) (fun t _ _ _ => by rw [after0_15, after0_15]) t.val t rfl d]
  have hf : cfg0.fresh 15 t.val = false := by
    obtain ⟨n, hn⟩ := t
    cases n with
    | zero => exact absurd rfl hz
    | succ n => exact fresh_15 n hn
  rw [hf, if_neg Bool.false_ne_true, after0_15]

/-! ## The body obligation -/

/-- What the body is called with at point `t`, -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t)

theorem leaves_0 (c : Dev nD) (t : Fin cfg0.N) : (dats m 0 c).leavesExact 0 t = owns (c : Thread nD τ) (ms0_0 t) fullShare (iblk m c 0 t) := by
  unfold Dat.leavesExact; rw [liveAt0_0 t, after0_0]
theorem leaves_1 (c : Dev nD) (t : Fin cfg0.N) : (dats m 0 c).leavesExact 1 t = owns (c : Thread nD τ) (ms0_1 t) fullShare (iblk m c 1 t) := by
  unfold Dat.leavesExact; rw [liveAt0_1 t, after0_1]
theorem leaves_2 (c : Dev nD) (t : Fin cfg0.N) : (dats m 0 c).leavesExact 2 t = owns (c : Thread nD τ) (ms0_2 t) fullShare (iblk m c 2 t) := by
  unfold Dat.leavesExact; rw [liveAt0_2 t, after0_2]
theorem leaves_3 (c : Dev nD) (t : Fin cfg0.N) : (dats m 0 c).leavesExact 3 t = owns (c : Thread nD τ) (ms0_3 t) fullShare (iblk m c 3 t) := by
  unfold Dat.leavesExact; rw [liveAt0_3 t, after0_3]
theorem leaves_4 (c : Dev nD) (t : Fin cfg0.N) : (dats m 0 c).leavesExact 4 t = owns (c : Thread nD τ) (ms0_4 t) fullShare (iblk m c 4 t) := by
  unfold Dat.leavesExact; rw [liveAt0_4 t, after0_4]
theorem leaves_5 (c : Dev nD) (t : Fin cfg0.N) : (dats m 0 c).leavesExact 5 t = owns (c : Thread nD τ) (ms0_5 t) fullShare (iblk m c 5 t) := by
  unfold Dat.leavesExact; rw [liveAt0_5 t, after0_5]
theorem leaves_6 (c : Dev nD) (t : Fin cfg0.N) : (dats m 0 c).leavesExact 6 t = owns (c : Thread nD τ) (ms0_6 t) fullShare (iblk m c 6 t) := by
  unfold Dat.leavesExact; rw [liveAt0_6 t, after0_6]
theorem leaves_7 (c : Dev nD) (t : Fin cfg0.N) : (dats m 0 c).leavesExact 7 t = owns (c : Thread nD τ) (ms0_7 t) fullShare (iblk m c 7 t) := by
  unfold Dat.leavesExact; rw [liveAt0_7 t, after0_7]
theorem leaves_8 (c : Dev nD) (t : Fin cfg0.N) : (dats m 0 c).leavesExact 8 t = owns (c : Thread nD τ) (ms0_8 t) fullShare (iblk m c 8 t) := by
  unfold Dat.leavesExact; rw [liveAt0_8 t, after0_8]
theorem leaves_10 (c : Dev nD) (t : Fin cfg0.N) : (dats m 0 c).leavesExact 10 t = owns (c : Thread nD τ) (ms0_10 t) fullShare (dw1At m c t) := by
  unfold Dat.leavesExact; rw [show cfg0.idle 10 (grid0.coords t) = false from rfl, after0_10]
theorem leaves_11 (c : Dev nD) (t : Fin cfg0.N) : (dats m 0 c).leavesExact 11 t = owns (c : Thread nD τ) (ms0_11 t) fullShare (dw2At m c t) := by
  unfold Dat.leavesExact; rw [show cfg0.idle 11 (grid0.coords t) = false from rfl, after0_11]
theorem leaves_12 (c : Dev nD) (t : Fin cfg0.N) : (dats m 0 c).leavesExact 12 t = owns (c : Thread nD τ) (ms0_12 t) fullShare (acAt m c t) := by
  unfold Dat.leavesExact; rw [show cfg0.idle 12 (grid0.coords t) = false from rfl, after0_12]
theorem leaves_13 (c : Dev nD) (t : Fin cfg0.N) : (dats m 0 c).leavesExact 13 t = owns (c : Thread nD τ) (ms0_13 t) fullShare (hcAt m c t) := by
  unfold Dat.leavesExact; rw [show cfg0.idle 13 (grid0.coords t) = false from rfl, after0_13]
theorem leaves_9 (c : Dev nD) (t : Fin cfg0.N) (h : t.val % 36 = 35) : (dats m 0 c).leavesExact 9 t = owns (c : Thread nD τ) (ms0_9 t) fullShare (dxAt m c t) := by
  unfold Dat.leavesExact; rw [live_9 t h, after0_9]
theorem keeps_9 (c : Dev nD) (t : Fin cfg0.N) (h : ¬ t.val % 36 = 35) (h' : ¬ t.val % 36 = 35) : (dats m 0 c).leavesExact 9 t = iprop(∃ d, owns (c : Thread nD τ) (ms0_9 t) fullShare ((dats m 0 c).before 9 t d)) :=
  Pipeline.Dat.leavesExact_idle (dats m 0 c) 9 t (idle_9 t h) (noflush_9 t h')
theorem leaves_14 (c : Dev nD) (t : Fin cfg0.N) (h : t.val % 36 = 0) : (dats m 0 c).leavesExact 14 t = owns (c : Thread nD τ) (ms0_14 t) fullShare (saV (amA m c)) := by
  unfold Dat.leavesExact; rw [live_14 t h, after0_14]
theorem keeps_14 (c : Dev nD) (t : Fin cfg0.N) (h : ¬ t.val % 36 = 0) (h' : ¬ t.val % 36 = 35) : (dats m 0 c).leavesExact 14 t = iprop(∃ d, owns (c : Thread nD τ) (ms0_14 t) fullShare ((dats m 0 c).before 14 t d)) :=
  Pipeline.Dat.leavesExact_idle (dats m 0 c) 14 t (idle_14 t h) (noflush_14 t h')
theorem leaves_15 (c : Dev nD) (t : Fin cfg0.N) (h : t.val % 36 = 0) : (dats m 0 c).leavesExact 15 t = owns (c : Thread nD τ) (ms0_15 t) fullShare (shV (amH m c)) := by
  unfold Dat.leavesExact; rw [live_15 t h, after0_15]
theorem keeps_15 (c : Dev nD) (t : Fin cfg0.N) (h : ¬ t.val % 36 = 0) (h' : ¬ t.val % 36 = 35) : (dats m 0 c).leavesExact 15 t = iprop(∃ d, owns (c : Thread nD τ) (ms0_15 t) fullShare ((dats m 0 c).before 15 t d)) :=
  Pipeline.Dat.leavesExact_idle (dats m 0 c) 15 t (idle_15 t h) (noflush_15 t h')
theorem last_14 (c : Dev nD) (t : Fin cfg0.N) (h : ¬ t.val % 36 = 0) (h' : t.val % 36 = 35) : (dats m 0 c).leavesExact 14 t = owns (c : Thread nD τ) (ms0_14 t) fullShare (saV (amA m c)) := by
  unfold Dat.leavesExact; rw [idle_14 t h, (flush0_14 t).mpr h', after0_14]
theorem last_15 (c : Dev nD) (t : Fin cfg0.N) (h : ¬ t.val % 36 = 0) (h' : t.val % 36 = 35) : (dats m 0 c).leavesExact 15 t = owns (c : Thread nD τ) (ms0_15 t) fullShare (shV (amH m c)) := by
  unfold Dat.leavesExact; rw [idle_15 t h, (flush0_15 t).mpr h', after0_15]
set_option maxHeartbeats 1000000 in
theorem sound_A (c : Dev nD) (t : Fin cfg0.N) (hz : t.val = 0)  :
    bodyPre m c t ⊢ wp frame (wpE (defs₀ (F := F)) Variants.none c none) Set.univ (bodyAt0 t) (fun _ => bodyPost m c t) := by
  obtain rfl : t = t0 := Fin.ext hz
  have h0 : t0.val % 36 = 0 := rfl
  have h1 : ¬ t0.val % 36 = 35 := by show ¬ 0 % 36 = 35; omega
  unfold bodyPre bodyPost bodyAt0
  rw [show (dats m 0 c).owesAt () (t0).succ = (dats m 0 c).owesAt () (t0).castSucc from rfl]
  rw [show (dats m 0 c).Φ (t0).succ = PhiS m c ((t0).val + 1) (t0).isLt from rfl, PhiS_succ]
  rw [leaves_0 m c t0, leaves_1 m c t0, leaves_2 m c t0, leaves_3 m c t0, leaves_4 m c t0, leaves_5 m c t0, leaves_6 m c t0, leaves_7 m c t0, leaves_8 m c t0, leaves_10 m c t0, leaves_11 m c t0, leaves_12 m c t0, leaves_13 m c t0]
  rw [keeps_9 m c t0 h1 h1, leaves_14 m c t0 h0, leaves_15 m c t0 h0]
  rw [PhiS_castSucc m c t0, PhiS_zero m c _ _ hz, PhiA0_eq]
  simp only [before0_0, before0_1, before0_2, before0_3, before0_4, before0_5, before0_6, before0_7, before0_8]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply ((runA c (grid0.coords t0) (ms0_0 t0) (hs0_0 t0) (ms0_1 t0) (hs0_1 t0) (ms0_2 t0) (hs0_2 t0) (ms0_3 t0) (hs0_3 t0) (ms0_4 t0) (hs0_4 t0) (ms0_5 t0) (hs0_5 t0) (ms0_6 t0) (hs0_6 t0) (ms0_7 t0) (hs0_7 t0) (ms0_8 t0) (hs0_8 t0) (ms0_9 t0) (hs0_9 t0) (ms0_10 t0) (hs0_10 t0) (ms0_11 t0) (hs0_11 t0) (ms0_12 t0) (hs0_12 t0) (ms0_13 t0) (hs0_13 t0) (ms0_14 t0) (hs0_14 t0) (ms0_15 t0) (hs0_15 t0) scM0_0 (Memref.isWhole_whole _) scM0_1 (Memref.isWhole_whole _) ((hcond0_0 _).mpr h0) (fun h => h1 ((hcond0_1 _).mp h)) (iblk m c 0 t0) (iblk m c 1 t0) (iblk m c 2 t0) (iblk m c 3 t0) (iblk m c 4 t0) (iblk m c 5 t0) (iblk m c 6 t0) (iblk m c 7 t0) (iblk m c 8 t0) ((dats m 0 c).before 9 t0 d9)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [HS0]; · iexact HS0
  isplitl [HS1]; · iexact HS1
  iintro ⟨H0, H1, H2, H3, H4, H5, H6, H7, H8, H9, H10, H11, H12, H13, H14, H15, HS0, HS1⟩
  isplitl [HS0 HS1 Hg]
  · isplitl [HS0 HS1]
    · isplitl [HS0]
      · iapply (owns_of_read c scM0_0 _ (accAt m c (t0).val (t0).isLt) (fun f => (read16_A c (grid0.coords t0) (ms0_0 t0) (hs0_0 t0) (ms0_1 t0) (hs0_1 t0) (ms0_2 t0) (hs0_2 t0) (ms0_3 t0) (hs0_3 t0) (ms0_4 t0) (hs0_4 t0) (ms0_5 t0) (hs0_5 t0) (ms0_6 t0) (hs0_6 t0) (ms0_7 t0) (hs0_7 t0) (ms0_8 t0) (hs0_8 t0) (ms0_9 t0) (hs0_9 t0) (ms0_10 t0) (hs0_10 t0) (ms0_11 t0) (hs0_11 t0) (ms0_12 t0) (hs0_12 t0) (ms0_13 t0) (hs0_13 t0) (ms0_14 t0) (hs0_14 t0) (ms0_15 t0) (hs0_15 t0) scM0_0 (Memref.isWhole_whole _) scM0_1 (Memref.isWhole_whole _) ((hcond0_0 _).mpr h0) (fun h => h1 ((hcond0_1 _).mp h)) (iblk m c 0 t0) (iblk m c 1 t0) (iblk m c 2 t0) (iblk m c 3 t0) (iblk m c 4 t0) (iblk m c 5 t0) (iblk m c 6 t0) (iblk m c 7 t0) (iblk m c 8 t0) ((dats m 0 c).before 9 t0 d9) f).trans (show _ = accAt m c (t0).val (t0).isLt from by rfl)))
        iexact HS0
      iapply (owns_of_prop c scM0_1 _ (Invs m c) (fun f => ⟨funext fun _ => (read17_0_A c (grid0.coords t0) (ms0_0 t0) (hs0_0 t0) (ms0_1 t0) (hs0_1 t0) (ms0_2 t0) (hs0_2 t0) (ms0_3 t0) (hs0_3 t0) (ms0_4 t0) (hs0_4 t0) (ms0_5 t0) (hs0_5 t0) (ms0_6 t0) (hs0_6 t0) (ms0_7 t0) (hs0_7 t0) (ms0_8 t0) (hs0_8 t0) (ms0_9 t0) (hs0_9 t0) (ms0_10 t0) (hs0_10 t0) (ms0_11 t0) (hs0_11 t0) (ms0_12 t0) (hs0_12 t0) (ms0_13 t0) (hs0_13 t0) (ms0_14 t0) (hs0_14 t0) (ms0_15 t0) (hs0_15 t0) scM0_0 (Memref.isWhole_whole _) scM0_1 (Memref.isWhole_whole _) ((hcond0_0 _).mpr h0) (fun h => h1 ((hcond0_1 _).mp h)) (iblk m c 0 t0) (iblk m c 1 t0) (iblk m c 2 t0) (iblk m c 3 t0) (iblk m c 4 t0) (iblk m c 5 t0) (iblk m c 6 t0) (iblk m c 7 t0) (iblk m c 8 t0) ((dats m 0 c).before 9 t0 d9) f).trans (one_cell _ _).symm, funext fun _ => (read17_1_A c (grid0.coords t0) (ms0_0 t0) (hs0_0 t0) (ms0_1 t0) (hs0_1 t0) (ms0_2 t0) (hs0_2 t0) (ms0_3 t0) (hs0_3 t0) (ms0_4 t0) (hs0_4 t0) (ms0_5 t0) (hs0_5 t0) (ms0_6 t0) (hs0_6 t0) (ms0_7 t0) (hs0_7 t0) (ms0_8 t0) (hs0_8 t0) (ms0_9 t0) (hs0_9 t0) (ms0_10 t0) (hs0_10 t0) (ms0_11 t0) (hs0_11 t0) (ms0_12 t0) (hs0_12 t0) (ms0_13 t0) (hs0_13 t0) (ms0_14 t0) (hs0_14 t0) (ms0_15 t0) (hs0_15 t0) scM0_0 (Memref.isWhole_whole _) scM0_1 (Memref.isWhole_whole _) ((hcond0_0 _).mpr h0) (fun h => h1 ((hcond0_1 _).mp h)) (iblk m c 0 t0) (iblk m c 1 t0) (iblk m c 2 t0) (iblk m c 3 t0) (iblk m c 4 t0) (iblk m c 5 t0) (iblk m c 6 t0) (iblk m c 7 t0) (iblk m c 8 t0) ((dats m 0 c).before 9 t0 d9) f).trans (one_cell _ _).symm⟩))
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · iexists d9; iexact H9
  isplitl [H10]
  · iapply (owns_of_read c _ _ (dw1At m c t0) (fun f => (read10_A c (grid0.coords t0) (ms0_0 t0) (hs0_0 t0) (ms0_1 t0) (hs0_1 t0) (ms0_2 t0) (hs0_2 t0) (ms0_3 t0) (hs0_3 t0) (ms0_4 t0) (hs0_4 t0) (ms0_5 t0) (hs0_5 t0) (ms0_6 t0) (hs0_6 t0) (ms0_7 t0) (hs0_7 t0) (ms0_8 t0) (hs0_8 t0) (ms0_9 t0) (hs0_9 t0) (ms0_10 t0) (hs0_10 t0) (ms0_11 t0) (hs0_11 t0) (ms0_12 t0) (hs0_12 t0) (ms0_13 t0) (hs0_13 t0) (ms0_14 t0) (hs0_14 t0) (ms0_15 t0) (hs0_15 t0) scM0_0 (Memref.isWhole_whole _) scM0_1 (Memref.isWhole_whole _) ((hcond0_0 _).mpr h0) (fun h => h1 ((hcond0_1 _).mp h)) (iblk m c 0 t0) (iblk m c 1 t0) (iblk m c 2 t0) (iblk m c 3 t0) (iblk m c 4 t0) (iblk m c 5 t0) (iblk m c 6 t0) (iblk m c 7 t0) (iblk m c 8 t0) ((dats m 0 c).before 9 t0 d9) f).trans (show _ = dw1At m c t0 from by rfl)))
    iexact H10
  isplitl [H11]
  · iapply (owns_of_read c _ _ (dw2At m c t0) (fun f => (read11_A c (grid0.coords t0) (ms0_0 t0) (hs0_0 t0) (ms0_1 t0) (hs0_1 t0) (ms0_2 t0) (hs0_2 t0) (ms0_3 t0) (hs0_3 t0) (ms0_4 t0) (hs0_4 t0) (ms0_5 t0) (hs0_5 t0) (ms0_6 t0) (hs0_6 t0) (ms0_7 t0) (hs0_7 t0) (ms0_8 t0) (hs0_8 t0) (ms0_9 t0) (hs0_9 t0) (ms0_10 t0) (hs0_10 t0) (ms0_11 t0) (hs0_11 t0) (ms0_12 t0) (hs0_12 t0) (ms0_13 t0) (hs0_13 t0) (ms0_14 t0) (hs0_14 t0) (ms0_15 t0) (hs0_15 t0) scM0_0 (Memref.isWhole_whole _) scM0_1 (Memref.isWhole_whole _) ((hcond0_0 _).mpr h0) (fun h => h1 ((hcond0_1 _).mp h)) (iblk m c 0 t0) (iblk m c 1 t0) (iblk m c 2 t0) (iblk m c 3 t0) (iblk m c 4 t0) (iblk m c 5 t0) (iblk m c 6 t0) (iblk m c 7 t0) (iblk m c 8 t0) ((dats m 0 c).before 9 t0 d9) f).trans (show _ = dw2At m c t0 from by rfl)))
    iexact H11
  isplitl [H12]
  · iapply (owns_of_read c _ _ (acAt m c t0) (fun f => (read12_A c (grid0.coords t0) (ms0_0 t0) (hs0_0 t0) (ms0_1 t0) (hs0_1 t0) (ms0_2 t0) (hs0_2 t0) (ms0_3 t0) (hs0_3 t0) (ms0_4 t0) (hs0_4 t0) (ms0_5 t0) (hs0_5 t0) (ms0_6 t0) (hs0_6 t0) (ms0_7 t0) (hs0_7 t0) (ms0_8 t0) (hs0_8 t0) (ms0_9 t0) (hs0_9 t0) (ms0_10 t0) (hs0_10 t0) (ms0_11 t0) (hs0_11 t0) (ms0_12 t0) (hs0_12 t0) (ms0_13 t0) (hs0_13 t0) (ms0_14 t0) (hs0_14 t0) (ms0_15 t0) (hs0_15 t0) scM0_0 (Memref.isWhole_whole _) scM0_1 (Memref.isWhole_whole _) ((hcond0_0 _).mpr h0) (fun h => h1 ((hcond0_1 _).mp h)) (iblk m c 0 t0) (iblk m c 1 t0) (iblk m c 2 t0) (iblk m c 3 t0) (iblk m c 4 t0) (iblk m c 5 t0) (iblk m c 6 t0) (iblk m c 7 t0) (iblk m c 8 t0) ((dats m 0 c).before 9 t0 d9) f).trans (show _ = acAt m c t0 from by rfl)))
    iexact H12
  isplitl [H13]
  · iapply (owns_of_read c _ _ (hcAt m c t0) (fun f => (read13_A c (grid0.coords t0) (ms0_0 t0) (hs0_0 t0) (ms0_1 t0) (hs0_1 t0) (ms0_2 t0) (hs0_2 t0) (ms0_3 t0) (hs0_3 t0) (ms0_4 t0) (hs0_4 t0) (ms0_5 t0) (hs0_5 t0) (ms0_6 t0) (hs0_6 t0) (ms0_7 t0) (hs0_7 t0) (ms0_8 t0) (hs0_8 t0) (ms0_9 t0) (hs0_9 t0) (ms0_10 t0) (hs0_10 t0) (ms0_11 t0) (hs0_11 t0) (ms0_12 t0) (hs0_12 t0) (ms0_13 t0) (hs0_13 t0) (ms0_14 t0) (hs0_14 t0) (ms0_15 t0) (hs0_15 t0) scM0_0 (Memref.isWhole_whole _) scM0_1 (Memref.isWhole_whole _) ((hcond0_0 _).mpr h0) (fun h => h1 ((hcond0_1 _).mp h)) (iblk m c 0 t0) (iblk m c 1 t0) (iblk m c 2 t0) (iblk m c 3 t0) (iblk m c 4 t0) (iblk m c 5 t0) (iblk m c 6 t0) (iblk m c 7 t0) (iblk m c 8 t0) ((dats m 0 c).before 9 t0 d9) f).trans (show _ = hcAt m c t0 from by rfl)))
    iexact H13
  isplitl [H14]
  · iapply (owns_of_read c _ _ (saV (amA m c)) (fun f => (read14_A c (grid0.coords t0) (ms0_0 t0) (hs0_0 t0) (ms0_1 t0) (hs0_1 t0) (ms0_2 t0) (hs0_2 t0) (ms0_3 t0) (hs0_3 t0) (ms0_4 t0) (hs0_4 t0) (ms0_5 t0) (hs0_5 t0) (ms0_6 t0) (hs0_6 t0) (ms0_7 t0) (hs0_7 t0) (ms0_8 t0) (hs0_8 t0) (ms0_9 t0) (hs0_9 t0) (ms0_10 t0) (hs0_10 t0) (ms0_11 t0) (hs0_11 t0) (ms0_12 t0) (hs0_12 t0) (ms0_13 t0) (hs0_13 t0) (ms0_14 t0) (hs0_14 t0) (ms0_15 t0) (hs0_15 t0) scM0_0 (Memref.isWhole_whole _) scM0_1 (Memref.isWhole_whole _) ((hcond0_0 _).mpr h0) (fun h => h1 ((hcond0_1 _).mp h)) (iblk m c 0 t0) (iblk m c 1 t0) (iblk m c 2 t0) (iblk m c 3 t0) (iblk m c 4 t0) (iblk m c 5 t0) (iblk m c 6 t0) (iblk m c 7 t0) (iblk m c 8 t0) ((dats m 0 c).before 9 t0 d9) f).trans (show _ = saV (amA m c) from by rfl)))
    iexact H14
  iapply (owns_of_read c _ _ (shV (amH m c)) (fun f => (read15_A c (grid0.coords t0) (ms0_0 t0) (hs0_0 t0) (ms0_1 t0) (hs0_1 t0) (ms0_2 t0) (hs0_2 t0) (ms0_3 t0) (hs0_3 t0) (ms0_4 t0) (hs0_4 t0) (ms0_5 t0) (hs0_5 t0) (ms0_6 t0) (hs0_6 t0) (ms0_7 t0) (hs0_7 t0) (ms0_8 t0) (hs0_8 t0) (ms0_9 t0) (hs0_9 t0) (ms0_10 t0) (hs0_10 t0) (ms0_11 t0) (hs0_11 t0) (ms0_12 t0) (hs0_12 t0) (ms0_13 t0) (hs0_13 t0) (ms0_14 t0) (hs0_14 t0) (ms0_15 t0) (hs0_15 t0) scM0_0 (Memref.isWhole_whole _) scM0_1 (Memref.isWhole_whole _) ((hcond0_0 _).mpr h0) (fun h => h1 ((hcond0_1 _).mp h)) (iblk m c 0 t0) (iblk m c 1 t0) (iblk m c 2 t0) (iblk m c 3 t0) (iblk m c 4 t0) (iblk m c 5 t0) (iblk m c 6 t0) (iblk m c 7 t0) (iblk m c 8 t0) ((dats m 0 c).before 9 t0 d9) f).trans (show _ = shV (amH m c) from by rfl)))
  iexact H15

set_option maxHeartbeats 1000000 in
theorem sound_B (c : Dev nD) (t : Fin cfg0.N) (h0 : ¬ t.val % 36 = 0) (h1 : ¬ t.val % 36 = 35) :
    bodyPre m c t ⊢ wp frame (wpE (defs₀ (F := F)) Variants.none c none) Set.univ (bodyAt0 t) (fun _ => bodyPost m c t) := by
  have hz : t.val ≠ 0 := fun e => h0 (by rw [e])
  unfold bodyPre bodyPost bodyAt0
  rw [show (dats m 0 c).owesAt () (t).succ = (dats m 0 c).owesAt () (t).castSucc from rfl]
  rw [show (dats m 0 c).Φ (t).succ = PhiS m c ((t).val + 1) (t).isLt from rfl, PhiS_succ]
  rw [leaves_0 m c t, leaves_1 m c t, leaves_2 m c t, leaves_3 m c t, leaves_4 m c t, leaves_5 m c t, leaves_6 m c t, leaves_7 m c t, leaves_8 m c t, leaves_10 m c t, leaves_11 m c t, leaves_12 m c t, leaves_13 m c t]
  rw [keeps_9 m c t h1 h1, keeps_14 m c t h0 h1, keeps_15 m c t h0 h1]
  rw [PhiS_castSucc m c t, PhiS_pos m c _ _ hz]
  simp only [before0_14 m c t hz, before0_15 m c t hz]
  simp only [before0_0, before0_1, before0_2, before0_3, before0_4, before0_5, before0_6, before0_7, before0_8]
  iintro ⟨⟨⟨HS0, ⟨%d17, %hd, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply ((runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) (fun h => h0 ((hcond0_0 _).mp h)) (fun h => h1 ((hcond0_1 _).mp h)) (iblk m c 0 t) (iblk m c 1 t) (iblk m c 2 t) (iblk m c 3 t) (iblk m c 4 t) (iblk m c 5 t) (iblk m c 6 t) (iblk m c 7 t) (iblk m c 8 t) ((dats m 0 c).before 9 t d9) (saV (amA m c)) (shV (amH m c)) (accAt m c (t.val - 1) (by omega)) d17).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  isplitl [H14]; · iexact H14
  isplitl [H15]; · iexact H15
  isplitl [HS0]; · iexact HS0
  isplitl [HS1]; · iexact HS1
  iintro ⟨H0, H1, H2, H3, H4, H5, H6, H7, H8, H9, H10, H11, H12, H13, H14, H15, HS0, HS1⟩
  isplitl [HS0 HS1 Hg]
  · isplitl [HS0 HS1]
    · isplitl [HS0]
      · iapply (owns_of_read c scM0_0 _ (accAt m c (t).val (t).isLt) (fun f => (read16_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) (fun h => h0 ((hcond0_0 _).mp h)) (fun h => h1 ((hcond0_1 _).mp h)) (iblk m c 0 t) (iblk m c 1 t) (iblk m c 2 t) (iblk m c 3 t) (iblk m c 4 t) (iblk m c 5 t) (iblk m c 6 t) (iblk m c 7 t) (iblk m c 8 t) ((dats m 0 c).before 9 t d9) (saV (amA m c)) (shV (amH m c)) (accAt m c (t.val - 1) (by omega)) d17 f).trans (show _ = accAt m c (t).val (t).isLt from by rw [hd.2, accAt_pos m c t hz]; unfold hcAt; rfl)))
        iexact HS0
      iexists d17
      isplitr; · ipureintro; exact hd
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · iexists d9; iexact H9
  isplitl [H10]
  · iapply (owns_of_read c _ _ (dw1At m c t) (fun f => (read10_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) (fun h => h0 ((hcond0_0 _).mp h)) (fun h => h1 ((hcond0_1 _).mp h)) (iblk m c 0 t) (iblk m c 1 t) (iblk m c 2 t) (iblk m c 3 t) (iblk m c 4 t) (iblk m c 5 t) (iblk m c 6 t) (iblk m c 7 t) (iblk m c 8 t) ((dats m 0 c).before 9 t d9) (saV (amA m c)) (shV (amH m c)) (accAt m c (t.val - 1) (by omega)) d17 f).trans (show _ = dw1At m c t from by unfold dw1At hcAt; rw [hd.2])))
    iexact H10
  isplitl [H11]
  · iapply (owns_of_read c _ _ (dw2At m c t) (fun f => (read11_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) (fun h => h0 ((hcond0_0 _).mp h)) (fun h => h1 ((hcond0_1 _).mp h)) (iblk m c 0 t) (iblk m c 1 t) (iblk m c 2 t) (iblk m c 3 t) (iblk m c 4 t) (iblk m c 5 t) (iblk m c 6 t) (iblk m c 7 t) (iblk m c 8 t) ((dats m 0 c).before 9 t d9) (saV (amA m c)) (shV (amH m c)) (accAt m c (t.val - 1) (by omega)) d17 f).trans (show _ = dw2At m c t from by unfold dw2At acAt; rw [hd.1])))
    iexact H11
  isplitl [H12]
  · iapply (owns_of_read c _ _ (acAt m c t) (fun f => (read12_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) (fun h => h0 ((hcond0_0 _).mp h)) (fun h => h1 ((hcond0_1 _).mp h)) (iblk m c 0 t) (iblk m c 1 t) (iblk m c 2 t) (iblk m c 3 t) (iblk m c 4 t) (iblk m c 5 t) (iblk m c 6 t) (iblk m c 7 t) (iblk m c 8 t) ((dats m 0 c).before 9 t d9) (saV (amA m c)) (shV (amH m c)) (accAt m c (t.val - 1) (by omega)) d17 f).trans (show _ = acAt m c t from by unfold acAt; rw [hd.1])))
    iexact H12
  isplitl [H13]
  · iapply (owns_of_read c _ _ (hcAt m c t) (fun f => (read13_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) (fun h => h0 ((hcond0_0 _).mp h)) (fun h => h1 ((hcond0_1 _).mp h)) (iblk m c 0 t) (iblk m c 1 t) (iblk m c 2 t) (iblk m c 3 t) (iblk m c 4 t) (iblk m c 5 t) (iblk m c 6 t) (iblk m c 7 t) (iblk m c 8 t) ((dats m 0 c).before 9 t d9) (saV (amA m c)) (shV (amH m c)) (accAt m c (t.val - 1) (by omega)) d17 f).trans (show _ = hcAt m c t from by unfold hcAt; rw [hd.2])))
    iexact H13
  isplitl [H14]
  · iexists d14; iexact H14
  iexists d15; iexact H15

set_option maxHeartbeats 1000000 in
theorem sound_C (c : Dev nD) (t : Fin cfg0.N) (h0 : ¬ t.val % 36 = 0) (h1 : t.val % 36 = 35) :
    bodyPre m c t ⊢ wp frame (wpE (defs₀ (F := F)) Variants.none c none) Set.univ (bodyAt0 t) (fun _ => bodyPost m c t) := by
  have hz : t.val ≠ 0 := fun e => h0 (by rw [e])
  unfold bodyPre bodyPost bodyAt0
  rw [show (dats m 0 c).owesAt () (t).succ = (dats m 0 c).owesAt () (t).castSucc from rfl]
  rw [show (dats m 0 c).Φ (t).succ = PhiS m c ((t).val + 1) (t).isLt from rfl, PhiS_succ]
  rw [leaves_0 m c t, leaves_1 m c t, leaves_2 m c t, leaves_3 m c t, leaves_4 m c t, leaves_5 m c t, leaves_6 m c t, leaves_7 m c t, leaves_8 m c t, leaves_10 m c t, leaves_11 m c t, leaves_12 m c t, leaves_13 m c t]
  rw [leaves_9 m c t h1, last_14 m c t h0 h1, last_15 m c t h0 h1]
  rw [PhiS_castSucc m c t, PhiS_pos m c _ _ hz]
  simp only [before0_14 m c t hz, before0_15 m c t hz]
  simp only [before0_0, before0_1, before0_2, before0_3, before0_4, before0_5, before0_6, before0_7, before0_8]
  iintro ⟨⟨⟨HS0, ⟨%d17, %hd, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply ((runC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) (fun h => h0 ((hcond0_0 _).mp h)) ((hcond0_1 _).mpr h1) (iblk m c 0 t) (iblk m c 1 t) (iblk m c 2 t) (iblk m c 3 t) (iblk m c 4 t) (iblk m c 5 t) (iblk m c 6 t) (iblk m c 7 t) (iblk m c 8 t) (saV (amA m c)) (shV (amH m c)) (accAt m c (t.val - 1) (by omega)) d17).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexact H14
  isplitl [H15]; · iexact H15
  isplitl [HS0]; · iexact HS0
  isplitl [HS1]; · iexact HS1
  iintro ⟨H0, H1, H2, H3, H4, H5, H6, H7, H8, H9, H10, H11, H12, H13, H14, H15, HS0, HS1⟩
  isplitl [HS0 HS1 Hg]
  · isplitl [HS0 HS1]
    · isplitl [HS0]
      · iapply (owns_of_read c scM0_0 _ (accAt m c (t).val (t).isLt) (fun f => (read16_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) (fun h => h0 ((hcond0_0 _).mp h)) ((hcond0_1 _).mpr h1) (iblk m c 0 t) (iblk m c 1 t) (iblk m c 2 t) (iblk m c 3 t) (iblk m c 4 t) (iblk m c 5 t) (iblk m c 6 t) (iblk m c 7 t) (iblk m c 8 t) (saV (amA m c)) (shV (amH m c)) (accAt m c (t.val - 1) (by omega)) d17 f).trans (show _ = accAt m c (t).val (t).isLt from by rw [hd.2, accAt_pos m c t hz]; unfold hcAt; rfl)))
        iexact HS0
      iexists d17
      isplitr; · ipureintro; exact hd
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · iapply (owns_of_read c _ _ (dxAt m c t) (fun f => (read9_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) (fun h => h0 ((hcond0_0 _).mp h)) ((hcond0_1 _).mpr h1) (iblk m c 0 t) (iblk m c 1 t) (iblk m c 2 t) (iblk m c 3 t) (iblk m c 4 t) (iblk m c 5 t) (iblk m c 6 t) (iblk m c 7 t) (iblk m c 8 t) (saV (amA m c)) (shV (amH m c)) (accAt m c (t.val - 1) (by omega)) d17 f).trans (show _ = dxAt m c t from by unfold dxAt; rw [hd.2, accAt_pos m c t hz]; unfold hcAt; rfl)))
    iexact H9
  isplitl [H10]
  · iapply (owns_of_read c _ _ (dw1At m c t) (fun f => (read10_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) (fun h => h0 ((hcond0_0 _).mp h)) ((hcond0_1 _).mpr h1) (iblk m c 0 t) (iblk m c 1 t) (iblk m c 2 t) (iblk m c 3 t) (iblk m c 4 t) (iblk m c 5 t) (iblk m c 6 t) (iblk m c 7 t) (iblk m c 8 t) (saV (amA m c)) (shV (amH m c)) (accAt m c (t.val - 1) (by omega)) d17 f).trans (show _ = dw1At m c t from by unfold dw1At hcAt; rw [hd.2])))
    iexact H10
  isplitl [H11]
  · iapply (owns_of_read c _ _ (dw2At m c t) (fun f => (read11_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) (fun h => h0 ((hcond0_0 _).mp h)) ((hcond0_1 _).mpr h1) (iblk m c 0 t) (iblk m c 1 t) (iblk m c 2 t) (iblk m c 3 t) (iblk m c 4 t) (iblk m c 5 t) (iblk m c 6 t) (iblk m c 7 t) (iblk m c 8 t) (saV (amA m c)) (shV (amH m c)) (accAt m c (t.val - 1) (by omega)) d17 f).trans (show _ = dw2At m c t from by unfold dw2At acAt; rw [hd.1])))
    iexact H11
  isplitl [H12]
  · iapply (owns_of_read c _ _ (acAt m c t) (fun f => (read12_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) (fun h => h0 ((hcond0_0 _).mp h)) ((hcond0_1 _).mpr h1) (iblk m c 0 t) (iblk m c 1 t) (iblk m c 2 t) (iblk m c 3 t) (iblk m c 4 t) (iblk m c 5 t) (iblk m c 6 t) (iblk m c 7 t) (iblk m c 8 t) (saV (amA m c)) (shV (amH m c)) (accAt m c (t.val - 1) (by omega)) d17 f).trans (show _ = acAt m c t from by unfold acAt; rw [hd.1])))
    iexact H12
  isplitl [H13]
  · iapply (owns_of_read c _ _ (hcAt m c t) (fun f => (read13_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) (fun h => h0 ((hcond0_0 _).mp h)) ((hcond0_1 _).mpr h1) (iblk m c 0 t) (iblk m c 1 t) (iblk m c 2 t) (iblk m c 3 t) (iblk m c 4 t) (iblk m c 5 t) (iblk m c 6 t) (iblk m c 7 t) (iblk m c 8 t) (saV (amA m c)) (shV (amH m c)) (accAt m c (t.val - 1) (by omega)) d17 f).trans (show _ = hcAt m c t from by unfold hcAt; rw [hd.2])))
    iexact H13
  isplitl [H14]
  · iexact H14
  iexact H15

theorem sound_body (c : Dev nD) (t : Fin cfg0.N) :
    bodyPre m c t ⊢ wp frame (wpE (defs₀ (F := F)) Variants.none c none) Set.univ (bodyAt0 t) (fun _ => bodyPost m c t) := by
  have hN : t.val < 36 := lt_of_lt_of_eq t.isLt (show cfg0.N = 36 from N_0)
  by_cases h0 : t.val % 36 = 0
  · exact sound_A m c t (by omega)
  · by_cases h1 : t.val % 36 = 35
    · exact sound_C m c t h0 h1
    · exact sound_B m c t h0 h1

theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the scratch back at some contents. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, ⟨%d, %hd, HS1⟩⟩, Hg⟩
  isplitl [HS0 HS1]
  · isplitl [HS0]
    · iexists _; iexact HS0
    iexists _; iexact HS1
  iexact Hg

theorem hout (c : Dev nD) : (dats m 0 c).Φ (Fin.last cfg0.N) ⊢ Pipeline.ΦA spec0 c :=
  Phi_out m c _ (by rw [Fin.val_last]; have : cfg0.N = 36 := N_0; omega)

set_option backward.isDefEq.respectTransparency.types false in
/-- The run: every array as the proof data say, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

/-- The frame: it terminates, its arguments unchanged and its counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

end Cert.GradientsIdeal.Hand

end
-- ==== Proof.GBits.lean ====
/- The frame at words. The printed program and its ideal copy are the same text, so the run proved for any values
   serves both. -/
module

public import proofs.«01_k».proof.Defs
public import proofs.«01_k».proof.Proof.Gen.Gradients
public import proofs.«01_k».proof.Proof.GFrame

@[expose] public section

set_option maxRecDepth 16384

noncomputable section

namespace Cert.GradientsIdeal.Hand

open Idealize.ShloMosaic

open Cert.GradientsIdeal Cert.GradientsIdeal.Gen Idealize.ShloMosaic.Tactic Idealize.ShloMosaic.TcCoe

/-- The frame at words, spelled with the ideal copy's names. -/
def AtBits : Prop :=
  ∀ (m : (ℓ : Loc nD τ sig) → Buf (Elt Bits) ℓ) (g : Dev nD → PrngReg), True →
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0)

theorem atBits : AtBits := fun m ρ _ => frame (F := Bits) m ρ

/-- The two spellings are one statement. -/
theorem same : AtBits = @Cert.quiescent_Gradients Cert.Gradients.Gen.facts := by sl_kernel_rfl

/-- The printed program terminates without fault, its arguments unchanged and its counters at zero. -/
theorem frame_bits : @Cert.quiescent_Gradients Cert.Gradients.Gen.facts := same ▸ atBits

end Cert.GradientsIdeal.Hand

end
-- ==== Proof.GBlk.lean ====
/- The blocks the gradients kernel reads, as entries of its argument arrays. -/
module

public import proofs.«01_k».proof.Proof.GFrame
public import Idealize.ShloMosaic.Lib.Pipeline.Value

@[expose] public section

set_option maxRecDepth 16384

noncomputable section

namespace Cert.GradientsIdeal.Hand

open Cert.GradientsIdeal Cert.GradientsIdeal.Gen
open Idealize.ShloMosaic hiding ix0 ix1 ix2 ix3 ix4 ix5
open Idealize.ShloMosaic.ValueIdx
open Idealize.ShloMosaic.TcCoe Idealize.SL.Sem

variable {F : FTy → Type} [FloatOps F]
variable (m : (ℓ : Loc nD τ sig) → Buf (Elt F) ℓ)

theorem widx1 : ∀ t : Fin cfg0.N, win0_1.index t = ![0, 0] := by decide +kernel
theorem widx2 : ∀ t : Fin cfg0.N, win0_2.index t = ![0, 0] := by decide +kernel
theorem widx3 : ∀ t : Fin cfg0.N, win0_3.index t = ![0, 0] := by decide +kernel
theorem widx4 : ∀ t : Fin cfg0.N, win0_4.index t = ![0, 0] := by decide +kernel
theorem widx5 : ∀ t : Fin cfg0.N, win0_5.index t = ![0, 0] := by decide +kernel
theorem widx6 : ∀ t : Fin cfg0.N, win0_6.index t = ![t.val, 0, 0] := by decide +kernel
theorem widx7 : ∀ t : Fin cfg0.N, win0_7.index t = ![t.val / 18, t.val % 18, 0, 0] := by decide +kernel
theorem widx8 : ∀ t : Fin cfg0.N, win0_8.index t = ![0, t.val] := by decide +kernel
theorem widx9 : ∀ t : Fin cfg0.N, win0_9.index t = ![0, 0] := by decide +kernel
theorem widx10 : ∀ t : Fin cfg0.N, win0_10.index t = ![0, t.val] := by decide +kernel
theorem widx11 : ∀ t : Fin cfg0.N, win0_11.index t = ![t.val, 0] := by decide +kernel
theorem widx12 : ∀ t : Fin cfg0.N, win0_12.index t = ![0, t.val] := by decide +kernel
theorem widx13 : ∀ t : Fin cfg0.N, win0_13.index t = ![0, t.val] := by decide +kernel
theorem widx14 : ∀ t : Fin cfg0.N, win0_14.index t = ![0, 0] := by decide +kernel
theorem widx15 : ∀ t : Fin cfg0.N, win0_15.index t = ![0, 0] := by decide +kernel

theorem tlt (t : Fin cfg0.N) : t.val < 36 := by have := t.isLt; have : cfg0.N = 36 := N_0; omega

theorem widx0 : ∀ t : Fin cfg0.N, win0_0.index t = ![0] := by decide +kernel

/-- The two scales, whole. -/
theorem blk0 (c : Dev nD) (t : Fin cfg0.N) : (iblk m c 0 t : Vec F S2 .f32) = V m c main_v2 := by
  funext y
  unfold iblk
  rw [View.read_apply]
  show V m c main_v2 _ = V m c main_v2 _
  congr 1
  funext a; apply Fin.ext
  have h := congrFun (widx0 t) a
  match a with
  | ⟨0, _⟩ => show win0_0.index t 0 * 2 + 1 * (y 0).val = (y 0).val; rw [show win0_0.index t 0 = 0 from h]; omega

/-- The upstream gradient's scale, whole. -/
theorem blk1 (c : Dev nD) (t : Fin cfg0.N) : (iblk m c 1 t : Vec F S8x128 .f32) = V m c main_arg2 := by
  funext y
  unfold iblk
  rw [View.read_apply]
  show V m c main_arg2 _ = V m c main_arg2 _
  congr 1
  funext a; apply Fin.ext
  have h := congrFun (widx1 t) a
  match a with
  | ⟨0, _⟩ => show win0_1.index t 0 * 8 + 1 * (y 0).val = (y 0).val; rw [show win0_1.index t 0 = 0 from h]; omega
  | ⟨1, _⟩ => show win0_1.index t 1 * 128 + 1 * (y 1).val = (y 1).val; rw [show win0_1.index t 1 = 0 from h]; omega

/-- The activations' magnitudes, whole. -/
theorem blk2 (c : Dev nD) (t : Fin cfg0.N) : (iblk m c 2 t : Vec F S8x256 .f32) = V m c main_arg3 := by
  funext y
  unfold iblk
  rw [View.read_apply]
  show V m c main_arg3 _ = V m c main_arg3 _
  congr 1
  funext a; apply Fin.ext
  have h := congrFun (widx2 t) a
  match a with
  | ⟨0, _⟩ => show win0_2.index t 0 * 8 + 1 * (y 0).val = (y 0).val; rw [show win0_2.index t 0 = 0 from h]; omega
  | ⟨1, _⟩ => show win0_2.index t 1 * 256 + 1 * (y 1).val = (y 1).val; rw [show win0_2.index t 1 = 0 from h]; omega

/-- The hidden gradients' magnitudes, whole. -/
theorem blk3 (c : Dev nD) (t : Fin cfg0.N) : (iblk m c 3 t : Vec F S8x256 .f32) = V m c main_arg4 := by
  funext y
  unfold iblk
  rw [View.read_apply]
  show V m c main_arg4 _ = V m c main_arg4 _
  congr 1
  funext a; apply Fin.ext
  have h := congrFun (widx3 t) a
  match a with
  | ⟨0, _⟩ => show win0_3.index t 0 * 8 + 1 * (y 0).val = (y 0).val; rw [show win0_3.index t 0 = 0 from h]; omega
  | ⟨1, _⟩ => show win0_3.index t 1 * 256 + 1 * (y 1).val = (y 1).val; rw [show win0_3.index t 1 = 0 from h]; omega

/-- The transposed inputs' codes, whole. -/
theorem blk4 (c : Dev nD) (t : Fin cfg0.N) : (iblk m c 4 t : Vec F S2304x1536 .fp8e4m3) = V m c main_arg5 := by
  funext y
  unfold iblk
  rw [View.read_apply]
  show V m c main_arg5 _ = V m c main_arg5 _
  congr 1
  funext a; apply Fin.ext
  have h := congrFun (widx4 t) a
  match a with
  | ⟨0, _⟩ => show win0_4.index t 0 * 2304 + 1 * (y 0).val = (y 0).val; rw [show win0_4.index t 0 = 0 from h]; omega
  | ⟨1, _⟩ => show win0_4.index t 1 * 1536 + 1 * (y 1).val = (y 1).val; rw [show win0_4.index t 1 = 0 from h]; omega

/-- The upstream gradient's codes, whole. -/
theorem blk5 (c : Dev nD) (t : Fin cfg0.N) : (iblk m c 5 t : Vec F S1536x2304 .fp8e5m2) = V m c main_arg6 := by
  funext y
  unfold iblk
  rw [View.read_apply]
  show V m c main_arg6 _ = V m c main_arg6 _
  congr 1
  funext a; apply Fin.ext
  have h := congrFun (widx5 t) a
  match a with
  | ⟨0, _⟩ => show win0_5.index t 0 * 1536 + 1 * (y 0).val = (y 0).val; rw [show win0_5.index t 0 = 0 from h]; omega
  | ⟨1, _⟩ => show win0_5.index t 1 * 2304 + 1 * (y 1).val = (y 1).val; rw [show win0_5.index t 1 = 0 from h]; omega

/-- Activation block `t`. -/
theorem blk6 (c : Dev nD) (t : Fin cfg0.N) (y : S1x1536x256.Idx) :
    (iblk m c 6 t : Vec F S1x1536x256 .bf16) y = V m c main_arg7 (ix3 (⟨t.val, tlt t⟩ : Fin 36) (y 1 : Fin 1536) (y 2 : Fin 256)) := by
  unfold iblk
  rw [View.read_apply]
  show V m c main_arg7 _ = V m c main_arg7 _
  congr 1
  funext a; apply Fin.ext
  have h := congrFun (widx6 t) a
  have h0 : (y 0).val < 1 := (y 0).isLt
  match a with
  | ⟨0, _⟩ => show win0_6.index t 0 * 1 + 1 * (y 0).val = t.val; rw [show win0_6.index t 0 = t.val from h]; omega
  | ⟨1, _⟩ => show win0_6.index t 1 * 1536 + 1 * (y 1).val = (y 1).val; rw [show win0_6.index t 1 = 0 from h]; omega
  | ⟨2, _⟩ => show win0_6.index t 2 * 256 + 1 * (y 2).val = (y 2).val; rw [show win0_6.index t 2 = 0 from h]; omega

/-- Hidden gradient block `t`: two blocks of 256 columns of one half. -/
theorem blk7 (c : Dev nD) (t : Fin cfg0.N) (y : S1x2x1536x256.Idx) :
    (iblk m c 7 t : Vec F S1x2x1536x256 .bf16) y = V m c main_arg8 (ix4 (⟨t.val / 18, by have := tlt t; omega⟩ : Fin 2)
      (⟨(t.val % 18) * 2 + (y 1).val, by have h1 : (y 1).val < 2 := (y 1).isLt; omega⟩ : Fin 36) (y 2 : Fin 1536) (y 3 : Fin 256)) := by
  unfold iblk
  rw [View.read_apply]
  show V m c main_arg8 _ = V m c main_arg8 _
  congr 1
  funext a; apply Fin.ext
  have h := congrFun (widx7 t) a
  have h0 : (y 0).val < 1 := (y 0).isLt
  match a with
  | ⟨0, _⟩ => show win0_7.index t 0 * 1 + 1 * (y 0).val = t.val / 18; rw [show win0_7.index t 0 = t.val / 18 from h]; omega
  | ⟨1, _⟩ => show win0_7.index t 1 * 2 + 1 * (y 1).val = (t.val % 18) * 2 + (y 1).val; rw [show win0_7.index t 1 = t.val % 18 from h]; omega
  | ⟨2, _⟩ => show win0_7.index t 2 * 1536 + 1 * (y 2).val = (y 2).val; rw [show win0_7.index t 2 = 0 from h]; omega
  | ⟨3, _⟩ => show win0_7.index t 3 * 256 + 1 * (y 3).val = (y 3).val; rw [show win0_7.index t 3 = 0 from h]; omega

/-- Columns `512 t ..` of the first weight. -/
theorem blk8 (c : Dev nD) (t : Fin cfg0.N) (y : S2304x512.Idx) :
    (iblk m c 8 t : Vec F S2304x512 .fp8e4m3) y = V m c main_arg9 (ix2 (y 0 : Fin 2304)
      (⟨t.val * 512 + (y 1).val, by have h1 : (y 1).val < 512 := (y 1).isLt; have := tlt t; omega⟩ : Fin 18432)) := by
  unfold iblk
  rw [View.read_apply]
  show V m c main_arg9 _ = V m c main_arg9 _
  congr 1
  funext a; apply Fin.ext
  have h := congrFun (widx8 t) a
  match a with
  | ⟨0, _⟩ => show win0_8.index t 0 * 2304 + 1 * (y 0).val = (y 0).val; rw [show win0_8.index t 0 = 0 from h]; omega
  | ⟨1, _⟩ => show win0_8.index t 1 * 512 + 1 * (y 1).val = t.val * 512 + (y 1).val; rw [show win0_8.index t 1 = t.val from h]; omega

/-- Block `t` of output 9, read off an array. -/
theorem rd9 (t : Fin cfg0.N) (G : Vec F S1536x2304 .bf16) (y : S1536x2304.Idx) :
    ((cfg0.win 9).blk t).view.read (Elt F) (G : (main_v3_0.ty).Contents (Elt F)) y = G (ix2 (y 0 : Fin 1536) (y 1 : Fin 2304)) := by
  rw [View.read_apply]
  show G _ = G _
  congr 1
  funext a; apply Fin.ext
  have h := congrFun (widx9 t) a
  match a with
  | ⟨0, _⟩ => show win0_9.index t 0 * 1536 + 1 * (y 0).val = (y 0).val; rw [show win0_9.index t 0 = 0 from h]; omega
  | ⟨1, _⟩ => show win0_9.index t 1 * 2304 + 1 * (y 1).val = (y 1).val; rw [show win0_9.index t 1 = 0 from h]; omega

/-- Output 9 at the end: each entry as the block that holds it left it. -/
theorem fin9 (c : Dev nD) (G : Vec F S1536x2304 .bf16)
    (hG : ∀ (t : Fin cfg0.N) (y : S1536x2304.Idx), (cfg0.win 9).flush t = true → ((dats m 0 c).after 9 t : Vec F S1536x2304 .bf16) y = G (ix2 (y 0 : Fin 1536) (y 1 : Fin 2304))) :
    (dats m 0 c).arrAt 9 cfg0.N = (G : (main_v3_0.ty).Contents (Elt F)) :=
  (dats m 0 c).arrAt_eq_of_cover 9 (G : (main_v3_0.ty).Contents (Elt F))
    (fun t hf => by
      show (cfg0.win 9).cut (grid0.coords t) ((dats m 0 c).after 9 t) = _
      funext y
      exact (hG t y hf).trans (rd9 t G y).symm) fun i =>
    have mem : ∀ t : Fin cfg0.N, t.val = 35 → i ∈ ((cfg0.win 9).blk t).view.set := by
      intro t ht
      show i ∈ ((View.whole main_v3_0).slice (win0_9.rect t)).set
      rw [View.set_slice_whole, Rect.mem_set_unit]
      intro a
      have h0 : (i 0 : Nat) < 1536 := (i 0).isLt
      have h1 : (i 1 : Nat) < 2304 := (i 1).isLt
      have h := congrFun (widx9 t) a
      match a with
      | ⟨0, _⟩ => show win0_9.index t 0 * 1536 ≤ (i 0 : Nat) ∧ (i 0 : Nat) < win0_9.index t 0 * 1536 + 1536; rw [show win0_9.index t 0 = 0 from h]; omega
      | ⟨1, _⟩ => show win0_9.index t 1 * 2304 ≤ (i 1 : Nat) ∧ (i 1 : Nat) < win0_9.index t 1 * 2304 + 2304; rw [show win0_9.index t 1 = 0 from h]; omega
    ⟨⟨35, by rw [show cfg0.N = 36 from N_0]; omega⟩, (flush0_9 _).mpr rfl, mem _ rfl⟩

/-- Block `t` of output 10, read off an array. -/
theorem rd10 (t : Fin cfg0.N) (G : Vec F S2304x18432 .bf16) (y : S2304x512.Idx) :
    ((cfg0.win 10).blk t).view.read (Elt F) (G : (main_v3_1.ty).Contents (Elt F)) y = G (ix2 (y 0 : Fin 2304) (⟨t.val * 512 + (y 1).val, by have h1 : (y 1).val < 512 := (y 1).isLt; have := tlt t; omega⟩ : Fin 18432)) := by
  rw [View.read_apply]
  show G _ = G _
  congr 1
  funext a; apply Fin.ext
  have h := congrFun (widx10 t) a
  match a with
  | ⟨0, _⟩ => show win0_10.index t 0 * 2304 + 1 * (y 0).val = (y 0).val; rw [show win0_10.index t 0 = 0 from h]; omega
  | ⟨1, _⟩ => show win0_10.index t 1 * 512 + 1 * (y 1).val = t.val * 512 + (y 1).val; rw [show win0_10.index t 1 = t.val from h]; omega

/-- Output 10 at the end: each entry as the block that holds it left it. -/
theorem fin10 (c : Dev nD) (G : Vec F S2304x18432 .bf16)
    (hG : ∀ (t : Fin cfg0.N) (y : S2304x512.Idx), (cfg0.win 10).flush t = true → ((dats m 0 c).after 10 t : Vec F S2304x512 .bf16) y = G (ix2 (y 0 : Fin 2304) (⟨t.val * 512 + (y 1).val, by have h1 : (y 1).val < 512 := (y 1).isLt; have := tlt t; omega⟩ : Fin 18432))) :
    (dats m 0 c).arrAt 10 cfg0.N = (G : (main_v3_1.ty).Contents (Elt F)) :=
  (dats m 0 c).arrAt_eq_of_cover 10 (G : (main_v3_1.ty).Contents (Elt F))
    (fun t hf => by
      show (cfg0.win 10).cut (grid0.coords t) ((dats m 0 c).after 10 t) = _
      funext y
      exact (hG t y hf).trans (rd10 t G y).symm) fun i =>
    have mem : ∀ t : Fin cfg0.N, t.val = (i 1 : Nat) / 512 → i ∈ ((cfg0.win 10).blk t).view.set := by
      intro t ht
      show i ∈ ((View.whole main_v3_1).slice (win0_10.rect t)).set
      rw [View.set_slice_whole, Rect.mem_set_unit]
      intro a
      have h0 : (i 0 : Nat) < 2304 := (i 0).isLt
      have h1 : (i 1 : Nat) < 18432 := (i 1).isLt
      have h := congrFun (widx10 t) a
      match a with
      | ⟨0, _⟩ => show win0_10.index t 0 * 2304 ≤ (i 0 : Nat) ∧ (i 0 : Nat) < win0_10.index t 0 * 2304 + 2304; rw [show win0_10.index t 0 = 0 from h]; omega
      | ⟨1, _⟩ => show win0_10.index t 1 * 512 ≤ (i 1 : Nat) ∧ (i 1 : Nat) < win0_10.index t 1 * 512 + 512; rw [show win0_10.index t 1 = t.val from h]; omega
    ⟨⟨(i 1 : Nat) / 512, by have h : (i 1 : Nat) < 18432 := (i 1).isLt; rw [show cfg0.N = 36 from N_0]; omega⟩, flush0_10 _, mem _ rfl⟩

/-- Block `t` of output 11, read off an array. -/
theorem rd11 (t : Fin cfg0.N) (G : Vec F S9216x2304 .bf16) (y : S256x2304.Idx) :
    ((cfg0.win 11).blk t).view.read (Elt F) (G : (main_v3_2.ty).Contents (Elt F)) y = G (ix2 (⟨t.val * 256 + (y 0).val, by have h1 : (y 0).val < 256 := (y 0).isLt; have := tlt t; omega⟩ : Fin 9216) (y 1 : Fin 2304)) := by
  rw [View.read_apply]
  show G _ = G _
  congr 1
  funext a; apply Fin.ext
  have h := congrFun (widx11 t) a
  match a with
  | ⟨0, _⟩ => show win0_11.index t 0 * 256 + 1 * (y 0).val = t.val * 256 + (y 0).val; rw [show win0_11.index t 0 = t.val from h]; omega
  | ⟨1, _⟩ => show win0_11.index t 1 * 2304 + 1 * (y 1).val = (y 1).val; rw [show win0_11.index t 1 = 0 from h]; omega

/-- Output 11 at the end: each entry as the block that holds it left it. -/
theorem fin11 (c : Dev nD) (G : Vec F S9216x2304 .bf16)
    (hG : ∀ (t : Fin cfg0.N) (y : S256x2304.Idx), (cfg0.win 11).flush t = true → ((dats m 0 c).after 11 t : Vec F S256x2304 .bf16) y = G (ix2 (⟨t.val * 256 + (y 0).val, by have h1 : (y 0).val < 256 := (y 0).isLt; have := tlt t; omega⟩ : Fin 9216) (y 1 : Fin 2304))) :
    (dats m 0 c).arrAt 11 cfg0.N = (G : (main_v3_2.ty).Contents (Elt F)) :=
  (dats m 0 c).arrAt_eq_of_cover 11 (G : (main_v3_2.ty).Contents (Elt F))
    (fun t hf => by
      show (cfg0.win 11).cut (grid0.coords t) ((dats m 0 c).after 11 t) = _
      funext y
      exact (hG t y hf).trans (rd11 t G y).symm) fun i =>
    have mem : ∀ t : Fin cfg0.N, t.val = (i 0 : Nat) / 256 → i ∈ ((cfg0.win 11).blk t).view.set := by
      intro t ht
      show i ∈ ((View.whole main_v3_2).slice (win0_11.rect t)).set
      rw [View.set_slice_whole, Rect.mem_set_unit]
      intro a
      have h0 : (i 0 : Nat) < 9216 := (i 0).isLt
      have h1 : (i 1 : Nat) < 2304 := (i 1).isLt
      have h := congrFun (widx11 t) a
      match a with
      | ⟨0, _⟩ => show win0_11.index t 0 * 256 ≤ (i 0 : Nat) ∧ (i 0 : Nat) < win0_11.index t 0 * 256 + 256; rw [show win0_11.index t 0 = t.val from h]; omega
      | ⟨1, _⟩ => show win0_11.index t 1 * 2304 ≤ (i 1 : Nat) ∧ (i 1 : Nat) < win0_11.index t 1 * 2304 + 2304; rw [show win0_11.index t 1 = 0 from h]; omega
    ⟨⟨(i 0 : Nat) / 256, by have h : (i 0 : Nat) < 9216 := (i 0).isLt; rw [show cfg0.N = 36 from N_0]; omega⟩, flush0_11 _, mem _ rfl⟩

/-- Block `t` of output 12, read off an array. -/
theorem rd12 (t : Fin cfg0.N) (G : Vec F S1536x9216 .fp8e4m3) (y : S1536x256.Idx) :
    ((cfg0.win 12).blk t).view.read (Elt F) (G : (main_v3_3.ty).Contents (Elt F)) y = G (ix2 (y 0 : Fin 1536) (⟨t.val * 256 + (y 1).val, by have h1 : (y 1).val < 256 := (y 1).isLt; have := tlt t; omega⟩ : Fin 9216)) := by
  rw [View.read_apply]
  show G _ = G _
  congr 1
  funext a; apply Fin.ext
  have h := congrFun (widx12 t) a
  match a with
  | ⟨0, _⟩ => show win0_12.index t 0 * 1536 + 1 * (y 0).val = (y 0).val; rw [show win0_12.index t 0 = 0 from h]; omega
  | ⟨1, _⟩ => show win0_12.index t 1 * 256 + 1 * (y 1).val = t.val * 256 + (y 1).val; rw [show win0_12.index t 1 = t.val from h]; omega

/-- Output 12 at the end: each entry as the block that holds it left it. -/
theorem fin12 (c : Dev nD) (G : Vec F S1536x9216 .fp8e4m3)
    (hG : ∀ (t : Fin cfg0.N) (y : S1536x256.Idx), (cfg0.win 12).flush t = true → ((dats m 0 c).after 12 t : Vec F S1536x256 .fp8e4m3) y = G (ix2 (y 0 : Fin 1536) (⟨t.val * 256 + (y 1).val, by have h1 : (y 1).val < 256 := (y 1).isLt; have := tlt t; omega⟩ : Fin 9216))) :
    (dats m 0 c).arrAt 12 cfg0.N = (G : (main_v3_3.ty).Contents (Elt F)) :=
  (dats m 0 c).arrAt_eq_of_cover 12 (G : (main_v3_3.ty).Contents (Elt F))
    (fun t hf => by
      show (cfg0.win 12).cut (grid0.coords t) ((dats m 0 c).after 12 t) = _
      funext y
      exact (hG t y hf).trans (rd12 t G y).symm) fun i =>
    have mem : ∀ t : Fin cfg0.N, t.val = (i 1 : Nat) / 256 → i ∈ ((cfg0.win 12).blk t).view.set := by
      intro t ht
      show i ∈ ((View.whole main_v3_3).slice (win0_12.rect t)).set
      rw [View.set_slice_whole, Rect.mem_set_unit]
      intro a
      have h0 : (i 0 : Nat) < 1536 := (i 0).isLt
      have h1 : (i 1 : Nat) < 9216 := (i 1).isLt
      have h := congrFun (widx12 t) a
      match a with
      | ⟨0, _⟩ => show win0_12.index t 0 * 1536 ≤ (i 0 : Nat) ∧ (i 0 : Nat) < win0_12.index t 0 * 1536 + 1536; rw [show win0_12.index t 0 = 0 from h]; omega
      | ⟨1, _⟩ => show win0_12.index t 1 * 256 ≤ (i 1 : Nat) ∧ (i 1 : Nat) < win0_12.index t 1 * 256 + 256; rw [show win0_12.index t 1 = t.val from h]; omega
    ⟨⟨(i 1 : Nat) / 256, by have h : (i 1 : Nat) < 9216 := (i 1).isLt; rw [show cfg0.N = 36 from N_0]; omega⟩, flush0_12 _, mem _ rfl⟩

/-- Block `t` of output 13, read off an array. -/
theorem rd13 (t : Fin cfg0.N) (G : Vec F S1536x18432 .fp8e5m2) (y : S1536x512.Idx) :
    ((cfg0.win 13).blk t).view.read (Elt F) (G : (main_v3_4.ty).Contents (Elt F)) y = G (ix2 (y 0 : Fin 1536) (⟨t.val * 512 + (y 1).val, by have h1 : (y 1).val < 512 := (y 1).isLt; have := tlt t; omega⟩ : Fin 18432)) := by
  rw [View.read_apply]
  show G _ = G _
  congr 1
  funext a; apply Fin.ext
  have h := congrFun (widx13 t) a
  match a with
  | ⟨0, _⟩ => show win0_13.index t 0 * 1536 + 1 * (y 0).val = (y 0).val; rw [show win0_13.index t 0 = 0 from h]; omega
  | ⟨1, _⟩ => show win0_13.index t 1 * 512 + 1 * (y 1).val = t.val * 512 + (y 1).val; rw [show win0_13.index t 1 = t.val from h]; omega

/-- Output 13 at the end: each entry as the block that holds it left it. -/
theorem fin13 (c : Dev nD) (G : Vec F S1536x18432 .fp8e5m2)
    (hG : ∀ (t : Fin cfg0.N) (y : S1536x512.Idx), (cfg0.win 13).flush t = true → ((dats m 0 c).after 13 t : Vec F S1536x512 .fp8e5m2) y = G (ix2 (y 0 : Fin 1536) (⟨t.val * 512 + (y 1).val, by have h1 : (y 1).val < 512 := (y 1).isLt; have := tlt t; omega⟩ : Fin 18432))) :
    (dats m 0 c).arrAt 13 cfg0.N = (G : (main_v3_4.ty).Contents (Elt F)) :=
  (dats m 0 c).arrAt_eq_of_cover 13 (G : (main_v3_4.ty).Contents (Elt F))
    (fun t hf => by
      show (cfg0.win 13).cut (grid0.coords t) ((dats m 0 c).after 13 t) = _
      funext y
      exact (hG t y hf).trans (rd13 t G y).symm) fun i =>
    have mem : ∀ t : Fin cfg0.N, t.val = (i 1 : Nat) / 512 → i ∈ ((cfg0.win 13).blk t).view.set := by
      intro t ht
      show i ∈ ((View.whole main_v3_4).slice (win0_13.rect t)).set
      rw [View.set_slice_whole, Rect.mem_set_unit]
      intro a
      have h0 : (i 0 : Nat) < 1536 := (i 0).isLt
      have h1 : (i 1 : Nat) < 18432 := (i 1).isLt
      have h := congrFun (widx13 t) a
      match a with
      | ⟨0, _⟩ => show win0_13.index t 0 * 1536 ≤ (i 0 : Nat) ∧ (i 0 : Nat) < win0_13.index t 0 * 1536 + 1536; rw [show win0_13.index t 0 = 0 from h]; omega
      | ⟨1, _⟩ => show win0_13.index t 1 * 512 ≤ (i 1 : Nat) ∧ (i 1 : Nat) < win0_13.index t 1 * 512 + 512; rw [show win0_13.index t 1 = t.val from h]; omega
    ⟨⟨(i 1 : Nat) / 512, by have h : (i 1 : Nat) < 18432 := (i 1).isLt; rw [show cfg0.N = 36 from N_0]; omega⟩, flush0_13 _, mem _ rfl⟩

/-- Block `t` of output 14, read off an array. -/
theorem rd14 (t : Fin cfg0.N) (G : Vec F S8x128 .f32) (y : S8x128.Idx) :
    ((cfg0.win 14).blk t).view.read (Elt F) (G : (main_v3_5.ty).Contents (Elt F)) y = G (ix2 (y 0 : Fin 8) (y 1 : Fin 128)) := by
  rw [View.read_apply]
  show G _ = G _
  congr 1
  funext a; apply Fin.ext
  have h := congrFun (widx14 t) a
  match a with
  | ⟨0, _⟩ => show win0_14.index t 0 * 8 + 1 * (y 0).val = (y 0).val; rw [show win0_14.index t 0 = 0 from h]; omega
  | ⟨1, _⟩ => show win0_14.index t 1 * 128 + 1 * (y 1).val = (y 1).val; rw [show win0_14.index t 1 = 0 from h]; omega

/-- Output 14 at the end: each entry as the block that holds it left it. -/
theorem fin14 (c : Dev nD) (G : Vec F S8x128 .f32)
    (hG : ∀ (t : Fin cfg0.N) (y : S8x128.Idx), (cfg0.win 14).flush t = true → ((dats m 0 c).after 14 t : Vec F S8x128 .f32) y = G (ix2 (y 0 : Fin 8) (y 1 : Fin 128))) :
    (dats m 0 c).arrAt 14 cfg0.N = (G : (main_v3_5.ty).Contents (Elt F)) :=
  (dats m 0 c).arrAt_eq_of_cover 14 (G : (main_v3_5.ty).Contents (Elt F))
    (fun t hf => by
      show (cfg0.win 14).cut (grid0.coords t) ((dats m 0 c).after 14 t) = _
      funext y
      exact (hG t y hf).trans (rd14 t G y).symm) fun i =>
    have mem : ∀ t : Fin cfg0.N, t.val = 35 → i ∈ ((cfg0.win 14).blk t).view.set := by
      intro t ht
      show i ∈ ((View.whole main_v3_5).slice (win0_14.rect t)).set
      rw [View.set_slice_whole, Rect.mem_set_unit]
      intro a
      have h0 : (i 0 : Nat) < 8 := (i 0).isLt
      have h1 : (i 1 : Nat) < 128 := (i 1).isLt
      have h := congrFun (widx14 t) a
      match a with
      | ⟨0, _⟩ => show win0_14.index t 0 * 8 ≤ (i 0 : Nat) ∧ (i 0 : Nat) < win0_14.index t 0 * 8 + 8; rw [show win0_14.index t 0 = 0 from h]; omega
      | ⟨1, _⟩ => show win0_14.index t 1 * 128 ≤ (i 1 : Nat) ∧ (i 1 : Nat) < win0_14.index t 1 * 128 + 128; rw [show win0_14.index t 1 = 0 from h]; omega
    ⟨⟨35, by rw [show cfg0.N = 36 from N_0]; omega⟩, (flush0_14 _).mpr rfl, mem _ rfl⟩

/-- Block `t` of output 15, read off an array. -/
theorem rd15 (t : Fin cfg0.N) (G : Vec F S8x128 .f32) (y : S8x128.Idx) :
    ((cfg0.win 15).blk t).view.read (Elt F) (G : (main_v3_6.ty).Contents (Elt F)) y = G (ix2 (y 0 : Fin 8) (y 1 : Fin 128)) := by
  rw [View.read_apply]
  show G _ = G _
  congr 1
  funext a; apply Fin.ext
  have h := congrFun (widx15 t) a
  match a with
  | ⟨0, _⟩ => show win0_15.index t 0 * 8 + 1 * (y 0).val = (y 0).val; rw [show win0_15.index t 0 = 0 from h]; omega
  | ⟨1, _⟩ => show win0_15.index t 1 * 128 + 1 * (y 1).val = (y 1).val; rw [show win0_15.index t 1 = 0 from h]; omega

/-- Output 15 at the end: each entry as the block that holds it left it. -/
theorem fin15 (c : Dev nD) (G : Vec F S8x128 .f32)
    (hG : ∀ (t : Fin cfg0.N) (y : S8x128.Idx), (cfg0.win 15).flush t = true → ((dats m 0 c).after 15 t : Vec F S8x128 .f32) y = G (ix2 (y 0 : Fin 8) (y 1 : Fin 128))) :
    (dats m 0 c).arrAt 15 cfg0.N = (G : (main_v3_6.ty).Contents (Elt F)) :=
  (dats m 0 c).arrAt_eq_of_cover 15 (G : (main_v3_6.ty).Contents (Elt F))
    (fun t hf => by
      show (cfg0.win 15).cut (grid0.coords t) ((dats m 0 c).after 15 t) = _
      funext y
      exact (hG t y hf).trans (rd15 t G y).symm) fun i =>
    have mem : ∀ t : Fin cfg0.N, t.val = 35 → i ∈ ((cfg0.win 15).blk t).view.set := by
      intro t ht
      show i ∈ ((View.whole main_v3_6).slice (win0_15.rect t)).set
      rw [View.set_slice_whole, Rect.mem_set_unit]
      intro a
      have h0 : (i 0 : Nat) < 8 := (i 0).isLt
      have h1 : (i 1 : Nat) < 128 := (i 1).isLt
      have h := congrFun (widx15 t) a
      match a with
      | ⟨0, _⟩ => show win0_15.index t 0 * 8 ≤ (i 0 : Nat) ∧ (i 0 : Nat) < win0_15.index t 0 * 8 + 8; rw [show win0_15.index t 0 = 0 from h]; omega
      | ⟨1, _⟩ => show win0_15.index t 1 * 128 ≤ (i 1 : Nat) ∧ (i 1 : Nat) < win0_15.index t 1 * 128 + 128; rw [show win0_15.index t 1 = 0 from h]; omega
    ⟨⟨35, by rw [show cfg0.N = 36 from N_0]; omega⟩, (flush0_15 _).mpr rfl, mem _ rfl⟩

end Cert.GradientsIdeal.Hand
-- ==== Proof.GScale.lean ====
/- The quantiser's scale at the ideal instance: the kernel's exponent ladder and the reference's smallest power of two are
   one power of two. -/
module

public import proofs.«01_k».proof.Proof.GWords
public import proofs.«01_k».proof.Proof.Gen.GradientsRefIdeal.Value
public import Idealize.ShloMosaic.Lib.Pointwise
public import Idealize.ShloMosaic.PureOps.Ideal.Laws

@[expose] public section

noncomputable section

namespace Cert.GradientsIdeal.Hand

open Idealize.ShloMosaic.Tactic
open Cert.GradientsIdeal Cert.GradientsIdeal.Gen
open Idealize.ShloMosaic hiding ix0 ix1 ix2 ix3 ix4 ix5
open Idealize.ShloMosaic.ValueIdx

/-! ## Powers of two and their bits -/

/-- The power of two of exponent `e`. -/
def pw (e : ℤ) : EReal := (((2 : ℝ) ^ e : ℝ) : EReal)

theorem pw_le {a b : ℤ} : pw a ≤ pw b ↔ a ≤ b := by
  unfold pw
  rw [EReal.coe_le_coe_iff]
  exact zpow_le_zpow_iff_right₀ (by norm_num)

theorem pw_lt {a b : ℤ} : pw a < pw b ↔ a < b := by
  unfold pw
  rw [EReal.coe_lt_coe_iff]
  exact zpow_lt_zpow_iff_right₀ (by norm_num)

theorem pw_pos (e : ℤ) : 0 < pw e := by
  unfold pw
  exact_mod_cast (zpow_pos (by norm_num : (0 : ℝ) < 2) e)

theorem pw_lt_top (e : ℤ) : pw e < ⊤ := EReal.coe_lt_top _

/-- The exponent's word shifted into place. -/
abbrev shl23 (k : ℕ) : BitVec 32 := IntOp.shli .vector (BitVec.ofNat 32 k) 23#32

theorem shl23_fields : ∀ k : Fin 256, ((shl23 k.val).extractLsb' 31 1 == 1#1) = false
    ∧ ((shl23 k.val).extractLsb' 23 8).toNat = k.val ∧ ((shl23 k.val).extractLsb' 0 23).toNat = 0 := by decide +kernel

theorem ofBits_shl (k : ℕ) (h1 : 1 ≤ k) (h2 : k ≤ 254) : Ideal.ofBits .f32 (shl23 k) = pw ((k : ℤ) - 127) := by
  obtain ⟨hn, he, hf⟩ := shl23_fields ⟨k, by omega⟩
  dsimp only at hn he hf
  unfold Ideal.ofBits Ideal.ieee
  simp only [Nat.reduceAdd, hn, he, hf]
  rw [if_neg (by omega), if_neg (by omega)]
  refine EReal.coe_eq_coe_iff.mpr ?_
  have h3 : (k : ℤ) - 127 = 23 + ((k : ℤ) - (2 ^ (8 - 1) - 1) - (23 : ℕ)) := by omega
  rw [h3, zpow_add₀ (by norm_num : (2 : ℝ) ≠ 0)]
  generalize (2 : ℝ) ^ ((k : ℤ) - (2 ^ (8 - 1) - 1) - (23 : ℕ)) = z
  norm_num

theorem ofBits_shl_zero : Ideal.ofBits .f32 (shl23 0) = 0 := by
  obtain ⟨hn, he, hf⟩ := shl23_fields ⟨0, by omega⟩
  dsimp only at hn he hf
  unfold Ideal.ofBits Ideal.ieee
  simp only [Nat.reduceAdd, hn, he, hf]
  norm_num

theorem ofBits_shl_255 : Ideal.ofBits .f32 (shl23 255) = ⊤ := by
  obtain ⟨hn, he, hf⟩ := shl23_fields ⟨255, by omega⟩
  dsimp only at hn he hf
  unfold Ideal.ofBits Ideal.ieee
  simp only [Nat.reduceAdd, hn, he, hf]
  norm_num

theorem one_eq_pw : (1 : EReal) = pw 0 := by simp [pw]

theorem minNormal_eq : Ideal.ofBits .f32 0x00800000#32 = pw (-126) :=
  ofBits_shl 1 (by omega) (by omega)

theorem inf_eq : Ideal.ofBits .f32 0x7F800000#32 = ⊤ := ofBits_shl_255

theorem ninf_eq : Ideal.ofBits .f32 0xFF800000#32 = ⊥ := by
  simp [Ideal.ofBits, Ideal.ieee]

/-! ## The kernel's exponent ladder -/

theorem toInt_maxsi (x y : BitVec 32) : (IntOp.maxsi x y).toInt = max x.toInt y.toInt := by
  simp only [IntOp.maxsi, BitVec.slt, decide_eq_true_eq]
  split <;> omega

/-- The largest word of a family, from below. -/
theorem fold_maxsi {ι : Type} (s : Finset ι) (b : BitVec 32) (f : ι → BitVec 32) (n : BitVec 32) (hb : b.toInt ≤ n.toInt)
    (hub : ∀ i ∈ s, (f i).toInt ≤ n.toInt) (hm : ∃ i ∈ s, f i = n) : s.fold IntOp.maxsi b f = n := by
  apply BitVec.eq_of_toInt_eq
  rw [← Finset.fold_hom (op := IntOp.maxsi) (op' := max) (m := BitVec.toInt) toInt_maxsi]
  apply le_antisymm
  · exact Finset.fold_max_le _ |>.mpr ⟨hb, hub⟩
  · obtain ⟨i, hi, h⟩ := hm
    exact (Finset.le_fold_max _).mpr (.inr ⟨i, hi, by rw [h]⟩)

/-- The biased exponent the ladder finds. -/
def bexp (x : EReal) : BitVec 32 :=
  Finset.univ.fold IntOp.maxsi 2147483648#32 fun k : Fin 256 =>
    if Ideal.ofBits .f32 (shl23 k.val) ≤ x then BitVec.ofNat 32 k.val else 0#32

theorem toInt_ofNat256 : ∀ k : Fin 256, (BitVec.ofNat 32 k.val).toInt = k.val := by decide +kernel

theorem bexp_small (x : EReal) (h : x < pw (-126)) : bexp x = 0#32 := by
  refine fold_maxsi _ _ _ _ (by decide) (fun k _ => ?_) ⟨⟨0, by omega⟩, Finset.mem_univ _, ?_⟩
  · rcases Nat.lt_or_ge k.val 1 with h0 | h0
    · have : k.val = 0 := by omega
      rw [this]; split <;> decide
    · rw [if_neg]
      rw [not_le]
      rcases Nat.lt_or_ge k.val 255 with h5 | h5
      · rw [ofBits_shl k.val h0 (by omega)]
        exact lt_of_lt_of_le h (pw_le.mpr (by omega))
      · have : k.val = 255 := by omega
        rw [this, ofBits_shl_255]
        exact h.trans (pw_lt_top _)
  · dsimp only; split <;> rfl

theorem bexp_normal (x : EReal) (n : ℕ) (h1 : 1 ≤ n) (h2 : n ≤ 253) (hl : pw ((n : ℤ) - 127) ≤ x) (hu : x < pw ((n : ℤ) - 126)) :
    bexp x = BitVec.ofNat 32 n := by
  refine fold_maxsi _ _ _ _ ?_ (fun k _ => ?_) ⟨⟨n, by omega⟩, Finset.mem_univ _, ?_⟩
  · have := toInt_ofNat256 ⟨n, by omega⟩
    dsimp only at this
    rw [this, show (2147483648#32).toInt = -2147483648 from by decide]
    omega
  · have hn := toInt_ofNat256 ⟨n, by omega⟩
    dsimp only at hn
    rcases Nat.lt_or_ge n k.val with h0 | h0
    · rw [if_neg]
      · rw [hn]; show (0 : ℤ) ≤ n; omega
      rw [not_le]
      rcases Nat.lt_or_ge k.val 255 with h5 | h5
      · rw [ofBits_shl k.val (by omega) (by omega)]
        exact lt_of_lt_of_le hu (pw_le.mpr (by omega))
      · have : k.val = 255 := by omega
        rw [this, ofBits_shl_255]
        exact hu.trans (pw_lt_top _)
    · split
      · rw [hn, toInt_ofNat256]; omega
      · rw [hn]; show (0 : ℤ) ≤ n; omega
  · dsimp only
    rw [if_pos]
    rw [ofBits_shl n h1 (by omega)]
    exact hl

/-- The exponent of the scale, from the biased exponent: zero for a subnormal or an infinity. -/
def sexp (b : BitVec 32) : BitVec 32 :=
  Scalar.select (IntOp.ori (IntOp.cmpi .eq b 0#32) (IntOp.cmpi .eq b 255#32)) (0#32) (IntOp.subi b 126#32)

theorem up_word : ∀ n : Fin 253, 1 ≤ n.val → IntOp.shli .vector (IntOp.addi 127#32 (sexp (BitVec.ofNat 32 n.val))) 23#32 = shl23 (n.val + 1) := by
  decide +kernel

theorem down_word : ∀ n : Fin 253, 1 ≤ n.val → IntOp.shli .vector (IntOp.subi 127#32 (sexp (BitVec.ofNat 32 n.val))) 23#32 = shl23 (253 - n.val) := by
  decide +kernel

theorem up_zero : IntOp.shli .vector (IntOp.addi 127#32 (sexp 0#32)) 23#32 = shl23 127 := by decide +kernel
theorem down_zero : IntOp.shli .vector (IntOp.subi 127#32 (sexp 0#32)) 23#32 = shl23 127 := by decide +kernel

/-! ## The reference's smallest power of two -/

theorem toInt_step : ∀ k : Fin 253, (IntOp.subi (BitVec.ofNat 32 k.val) 125#32).toInt = (k.val : ℤ) - 125 := by decide +kernel

/-- The reference's power of two number `k`. -/
abbrev stepf (k : Fin 253) : Ideal .f32 := FloatOps.exp2 (FloatOps.sitofp (F := Ideal) .f32 (IntOp.subi (BitVec.ofNat 32 k.val) 125#32))

theorem stepf_eq (k : Fin 253) : stepf k = pw ((k.val : ℤ) - 125) := by
  show Ideal.exp2 (((IntOp.subi (BitVec.ofNat 32 k.val) 125#32).toInt : ℝ) : EReal) = _
  rw [toInt_step, Ideal.exp2_coe]
  unfold pw
  congr 1
  exact Real.rpow_intCast 2 _

/-- The reference's scale as a function of the ratio. -/
def rscale (x : EReal) : EReal :=
  if x < Ideal.ofBits .f32 0x00800000#32 then 1 else
    Finset.univ.fold min (Ideal.ofBits .f32 0x7F800000#32) fun k : Fin 253 => if x < stepf k then stepf k else Ideal.ofBits .f32 0x7F800000#32

/-- Both scales are one power of two, the kernel's second factor its inverse. -/
theorem scale_spec (x : EReal) (hx : x < pw 120) : ∃ e : ℤ, rscale x = pw e
    ∧ Ideal.ofBits .f32 (IntOp.shli .vector (IntOp.addi 127#32 (sexp (bexp x))) 23#32) = pw e
    ∧ Ideal.ofBits .f32 (IntOp.shli .vector (IntOp.subi 127#32 (sexp (bexp x))) 23#32) = pw (-e) := by
  unfold rscale
  rw [minNormal_eq, inf_eq]
  by_cases h : x < pw (-126)
  · refine ⟨0, ?_, ?_, ?_⟩
    · rw [if_pos h, one_eq_pw]
    · rw [bexp_small x h, up_zero, ofBits_shl 127 (by omega) (by omega)]; rfl
    · rw [bexp_small x h, down_zero, ofBits_shl 127 (by omega) (by omega)]; rfl
  · have hl := not_lt.mp h
    have : ∃ n : ℕ, 1 ≤ n ∧ n ≤ 246 ∧ pw ((n : ℤ) - 127) ≤ x ∧ x < pw ((n : ℤ) - 126) := by
      induction x with
      | bot => exact absurd hl (not_le.mpr (lt_of_le_of_lt bot_le (lt_of_lt_of_le (EReal.bot_lt_coe _) le_rfl)))
      | top => exact absurd hx (not_lt.mpr le_top)
      | coe r =>
        unfold pw at hl hx
        rw [EReal.coe_le_coe_iff] at hl
        rw [EReal.coe_lt_coe_iff] at hx
        have hr : 0 < r := lt_of_lt_of_le (zpow_pos (by norm_num) _) hl
        obtain ⟨z, hz1, hz2⟩ := exists_mem_Ico_zpow (y := (2 : ℝ)) hr (by norm_num)
        have h1 : (-126 : ℤ) < z + 1 := (zpow_lt_zpow_iff_right₀ (by norm_num : (1 : ℝ) < 2)).mp (lt_of_le_of_lt hl hz2)
        have h2 : z < 120 := (zpow_lt_zpow_iff_right₀ (by norm_num : (1 : ℝ) < 2)).mp (lt_of_le_of_lt hz1 hx)
        refine ⟨(z + 127).toNat, by omega, by omega, ?_, ?_⟩
        · rw [show (((z + 127).toNat : ℕ) : ℤ) - 127 = z by omega]
          exact EReal.coe_le_coe_iff.mpr hz1
        · rw [show (((z + 127).toNat : ℕ) : ℤ) - 126 = z + 1 by omega]
          exact EReal.coe_lt_coe_iff.mpr hz2
    obtain ⟨n, h1, h2, hnl, hnu⟩ := this
    have hb := bexp_normal x n h1 (by omega) hnl hnu
    refine ⟨(n : ℤ) - 126, ?_, ?_, ?_⟩
    · rw [if_neg h]
      apply le_antisymm
      · refine (Finset.fold_min_le _).mpr (.inr ⟨⟨n - 1, by omega⟩, Finset.mem_univ _, ?_⟩)
        have he : stepf ⟨n - 1, by omega⟩ = pw ((n : ℤ) - 126) := by
          rw [stepf_eq]; congr 1; dsimp only; omega
        rw [he, if_pos hnu]
      · refine (Finset.le_fold_min _).mpr ⟨le_top, fun k _ => ?_⟩
        split
        · rename_i hk
          rw [stepf_eq] at hk ⊢
          have := pw_lt.mp (lt_of_le_of_lt hnl hk)
          exact pw_le.mpr (by omega)
        · exact le_top
    · have := up_word ⟨n, by omega⟩ h1
      dsimp only at this
      rw [hb, this, ofBits_shl (n + 1) (by omega) (by omega)]
      congr 1; push_cast; ring
    · have := down_word ⟨n, by omega⟩ h1
      dsimp only at this
      rw [hb, this, ofBits_shl (253 - n) (by omega) (by omega)]
      congr 1; omega

/-! ## The largest magnitude, and the ratio -/

/-- The largest entry. -/
def amx (v : Vec Ideal S8x256 .f32) : EReal :=
  Finset.univ.fold max (Ideal.ofBits .f32 0xFF800000#32) fun x : Fin 8 × Fin 256 => v (Idealize.ShloMosaic.ix2 x.1 x.2)

theorem maxFinite : ∃ M : ℝ, Ideal.ofBits .f32 0x7F7FFFFF#32 = (M : EReal) ∧ M ≤ 16777215 * 2 ^ (104 : ℤ) := by
  refine ⟨16777215 * 2 ^ (104 : ℤ), ?_, le_rfl⟩
  simp [Ideal.ofBits, Ideal.ieee]

/-- Over finite magnitudes the ratio stays below `2^120`. -/
theorem ratio_lt (v : Vec Ideal S8x256 .f32) (hv : ∀ i, v i ≤ Ideal.ofBits .f32 0x7F7FFFFF#32) (c : ℝ) (h0 : 0 < c) (h1 : c ≤ 2 ^ (-8 : ℤ)) :
    amx v * (c : EReal) < pw 120 := by
  obtain ⟨M, hM, hM1⟩ := maxFinite
  have ha : amx v ≤ (M : EReal) := by
    refine (Finset.fold_max_le _).mpr ⟨?_, fun i _ => ?_⟩
    · rw [ninf_eq]; exact bot_le
    · rw [← hM]; exact hv _
  generalize amx v = a at ha
  induction a with
  | bot => rw [EReal.bot_mul_coe_of_pos h0]; exact EReal.bot_lt_coe _
  | top => exact absurd ha (not_le.mpr (EReal.coe_lt_top _))
  | coe r =>
    rw [EReal.coe_le_coe_iff] at ha
    unfold pw
    rw [← EReal.coe_mul, EReal.coe_lt_coe_iff]
    calc r * c ≤ (16777215 * 2 ^ (104 : ℤ)) * c := mul_le_mul_of_nonneg_right (ha.trans hM1) h0.le
      _ ≤ (16777215 * 2 ^ (104 : ℤ)) * 2 ^ (-8 : ℤ) := mul_le_mul_of_nonneg_left h1 (by positivity)
      _ < 2 ^ (120 : ℤ) := by norm_num

theorem constA : ∃ c : ℝ, Ideal.ofBits .f32 0x3B124925#32 = (c : EReal) ∧ 0 < c ∧ c ≤ 2 ^ (-8 : ℤ) := by
  refine ⟨9586981 * 2 ^ (-32 : ℤ), ?_, by norm_num, by norm_num⟩
  simp [Ideal.ofBits, Ideal.ieee]

theorem constH : ∃ c : ℝ, Ideal.ofBits .f32 0x37924925#32 = (c : EReal) ∧ 0 < c ∧ c ≤ 2 ^ (-8 : ℤ) := by
  refine ⟨9586981 * 2 ^ (-39 : ℤ), ?_, by norm_num, by norm_num⟩
  simp [Ideal.ofBits, Ideal.ieee]

/-! ## The payloads -/

theorem saV_apply (v : Vec Ideal S8x256 .f32) (y : S8x128.Idx) :
    saV v y = Ideal.ofBits .f32 (IntOp.shli .vector (IntOp.addi 127#32 (sexp (bexp (amx v * Ideal.ofBits .f32 0x3B124925#32)))) 23#32) := by
  unfold saV k0_pay12 k0_pay6 k0_pay5
  pointwise
  rfl

theorem shV_apply (v : Vec Ideal S8x256 .f32) (y : S8x128.Idx) :
    shV v y = Ideal.ofBits .f32 (IntOp.shli .vector (IntOp.addi 127#32 (sexp (bexp (amx v * Ideal.ofBits .f32 0x37924925#32)))) 23#32) := by
  unfold shV k0_pay13 k0_pay10 k0_pay9
  pointwise
  rfl

theorem invA_apply (v : Vec Ideal S8x256 .f32) (y : S1x1.Idx) :
    invA v y = Ideal.ofBits .f32 (IntOp.shli .vector (IntOp.subi 127#32 (sexp (bexp (amx v * Ideal.ofBits .f32 0x3B124925#32)))) 23#32) := by
  unfold invA k0_pay8 k0_pay7 k0_pay5
  pointwise
  rfl

theorem invH_apply (v : Vec Ideal S8x256 .f32) (y : S1x1.Idx) :
    invH v y = Ideal.ofBits .f32 (IntOp.shli .vector (IntOp.subi 127#32 (sexp (bexp (amx v * Ideal.ofBits .f32 0x37924925#32)))) 23#32) := by
  unfold invH k0_pay11 k0_pay9
  pointwise
  rfl

/-- The reference's scale of the activations. -/
theorem refA_apply (v : Vec Ideal S8x256 .f32) (y : S1x1.Idx) :
    Cert.GradientsRefIdeal.Gen.k0_pay6 v y = rscale (amx v * Ideal.ofBits .f32 0x3B124925#32) := by
  unfold Cert.GradientsRefIdeal.Gen.k0_pay6
  pointwise
  rfl

/-- The reference's scale of the hidden gradients. -/
theorem refH_apply (v : Vec Ideal S8x256 .f32) (y : S1x1.Idx) :
    Cert.GradientsRefIdeal.Gen.k0_pay10 (Cert.GradientsRefIdeal.Gen.k0_pay7 v) (Cert.GradientsRefIdeal.Gen.k0_pay8 v)
      (Cert.GradientsRefIdeal.Gen.k0_pay9 (F := Ideal)) y = rscale (amx v * Ideal.ofBits .f32 0x37924925#32) := by
  unfold Cert.GradientsRefIdeal.Gen.k0_pay10 Cert.GradientsRefIdeal.Gen.k0_pay8 Cert.GradientsRefIdeal.Gen.k0_pay7 Cert.GradientsRefIdeal.Gen.k0_pay9
  pointwise
  rfl

/-- The activations' scale: one power of two on both sides, the kernel's factor its inverse. -/
theorem scaleA (v : Vec Ideal S8x256 .f32) (hv : ∀ i, v i ≤ Ideal.ofBits .f32 0x7F7FFFFF#32) : ∃ e : ℤ,
    (∀ y, Cert.GradientsRefIdeal.Gen.k0_pay6 v y = pw e) ∧ (∀ y, saV v y = pw e) ∧ ∀ y, invA v y = pw (-e) := by
  obtain ⟨c, hc, h0, h1⟩ := constA
  have h := scale_spec (amx v * Ideal.ofBits .f32 0x3B124925#32) (by rw [hc]; exact ratio_lt v hv c h0 h1)
  obtain ⟨e, hr, hu, hd⟩ := h
  exact ⟨e, fun y => (refA_apply v y).trans hr, fun y => (saV_apply v y).trans hu, fun y => (invA_apply v y).trans hd⟩

/-- The hidden gradients' scale, the same. -/
theorem scaleH (v : Vec Ideal S8x256 .f32) (hv : ∀ i, v i ≤ Ideal.ofBits .f32 0x7F7FFFFF#32) : ∃ e : ℤ,
    (∀ y, Cert.GradientsRefIdeal.Gen.k0_pay10 (Cert.GradientsRefIdeal.Gen.k0_pay7 v) (Cert.GradientsRefIdeal.Gen.k0_pay8 v)
      (Cert.GradientsRefIdeal.Gen.k0_pay9 (F := Ideal)) y = pw e) ∧ (∀ y, shV v y = pw e) ∧ ∀ y, invH v y = pw (-e) := by
  obtain ⟨c, hc, h0, h1⟩ := constH
  have h := scale_spec (amx v * Ideal.ofBits .f32 0x37924925#32) (by rw [hc]; exact ratio_lt v hv c h0 h1)
  obtain ⟨e, hr, hu, hd⟩ := h
  exact ⟨e, fun y => (refH_apply v y).trans hr, fun y => (shV_apply v y).trans hu, fun y => (invH_apply v y).trans hd⟩

/-- Dividing by a power of two is multiplying by its inverse. -/
theorem div_pw (x : EReal) (e : ℤ) : Ideal.div x (pw e) = x * pw (-e) := by
  unfold pw
  rw [Ideal.div_coe (ne_of_gt (zpow_pos (by norm_num) e)), one_div, zpow_neg]

end Cert.GradientsIdeal.Hand
-- ==== Proof.GPay.lean ====
/- The gradients call's products at the ideal instance: each entry a sum. -/
module

public import proofs.«01_k».proof.Proof.GScale
public import proofs.«01_k».proof.Proof.GSpec
public import Idealize.ShloMosaic.Lib.Pointwise
public import Idealize.ShloMosaic.PureOps.Ideal.Laws

@[expose] public section

set_option maxRecDepth 16384

noncomputable section

namespace Cert.GradientsIdeal.Hand

open Idealize.ShloMosaic.Tactic
open Cert.GradientsIdeal Cert.GradientsIdeal.Gen
open Idealize.ShloMosaic hiding ix0 ix1 ix2 ix3 ix4 ix5
open Idealize.ShloMosaic.ValueIdx

theorem pay2_apply (a : Vec Ideal S512x2304 .f32) (b : Vec Ideal S512x512 .fp8e5m2) (w : Vec Ideal S2304x512 .fp8e4m3) (y : S512x2304.Idx) :
    (k0_pay2 a b w y : EReal) = (a y : EReal) + ∑ k : Fin 512, (b (ix2 (y 0 : Fin 512) k) : EReal) * (w (ix2 (y 1 : Fin 2304) k) : EReal) := by
  unfold k0_pay2; pointwise
  rfl

theorem pay201_apply (s : Vec Ideal S1x1 .f32) (a : Vec Ideal S768x1536 .fp8e4m3) (b : Vec Ideal S1536x512 .fp8e5m2) (y : S768x512.Idx) :
    (k0_pay201 s a b y : EReal) = (∑ k : Fin 1536, (a (ix2 (y 0 : Fin 768) k) : EReal) * (b (ix2 k (y 1 : Fin 512)) : EReal)) * (s (ix2 (0 : Fin 1) (0 : Fin 1)) : EReal) := by
  unfold k0_pay201; pointwise
  rfl

theorem pay203_apply (s : Vec Ideal S1x1 .f32) (a : Vec Ideal S1536x256 .fp8e4m3) (b : Vec Ideal S1536x2304 .fp8e5m2) (y : S256x2304.Idx) :
    (k0_pay203 s a b y : EReal) = (∑ k : Fin 1536, (a (ix2 k (y 0 : Fin 256)) : EReal) * (b (ix2 k (y 1 : Fin 2304)) : EReal)) * (s (ix2 (0 : Fin 1) (0 : Fin 1)) : EReal) := by
  unfold k0_pay203; pointwise
  rfl

theorem pay3_apply (s : Vec Ideal S1x1 .f32) (a : Vec Ideal S1536x2304 .f32) (x : Elt Ideal .f32) (y : S1536x2304.Idx) :
    (k0_pay3 s a x y : EReal) = (a y : EReal) * ((s (ix2 (0 : Fin 1) (0 : Fin 1)) : EReal) * (x : EReal)) := by
  unfold k0_pay3; pointwise
  rfl

end Cert.GradientsIdeal.Hand
-- ==== Proof.GVal.lean ====
/- What the gradients call computes at the ideal instance: its seven results as formulas of its arguments. -/
module

public import proofs.«01_k».proof.Proof.GBlk
public import proofs.«01_k».proof.Proof.GPay

@[expose] public section

set_option maxRecDepth 16384

noncomputable section

namespace Cert.GradientsIdeal.Hand

open Idealize.ShloMosaic.Tactic
open Cert.GradientsIdeal Cert.GradientsIdeal.Gen
open Idealize.ShloMosaic hiding ix0 ix1 ix2 ix3 ix4 ix5
open Idealize.ShloMosaic.ValueIdx
open Idealize.ShloMosaic.TcCoe Idealize.SL.Sem

/-! ## The formulas -/

/-- The activations as one matrix: column `256 b + l` is lane `l` of block `b`. -/
def aflat (a : Vec Ideal S36x1536x256 .bf16) : Vec Ideal S1536x9216 .bf16 := fun i =>
  a (ix3 (⟨(i 1).val / 256, by have : (i 1).val < 9216 := (i 1).isLt; omega⟩ : Fin 36) (i 0 : Fin 1536)
    (⟨(i 1).val % 256, Nat.mod_lt _ (by norm_num)⟩ : Fin 256))

/-- The hidden gradients as one matrix: column `9216 h + 256 b + l` is lane `l` of block `b` of half `h`. -/
def hflat (h : Vec Ideal S2x36x1536x256 .bf16) : Vec Ideal S1536x18432 .bf16 := fun i =>
  h (ix4 (⟨(i 1).val / 9216, by have : (i 1).val < 18432 := (i 1).isLt; omega⟩ : Fin 2)
    (⟨((i 1).val / 256) % 36, Nat.mod_lt _ (by norm_num)⟩ : Fin 36) (i 0 : Fin 1536)
    (⟨(i 1).val % 256, Nat.mod_lt _ (by norm_num)⟩ : Fin 256))

/-- The activations' codes at scale `2 ^ e`. -/
def AC (e : ℤ) (a : Vec Ideal S36x1536x256 .bf16) : Vec Ideal S1536x9216 .fp8e4m3 := fun i => codeA (F := Ideal) (aflat a i) (pw (-e))

/-- The hidden gradients' codes at scale `2 ^ e`. -/
def HC (e : ℤ) (h : Vec Ideal S2x36x1536x256 .bf16) : Vec Ideal S1536x18432 .fp8e5m2 := fun i => codeH (F := Ideal) (hflat h i) (pw (-e))

/-- The input gradient. -/
def DX (e : ℤ) (s : EReal) (h : Vec Ideal S2x36x1536x256 .bf16) (w : Vec Ideal S2304x18432 .fp8e4m3) : Vec Ideal S1536x2304 .bf16 := fun i =>
  ((∑ k : Fin 18432, (HC e h (ix2 (i 0 : Fin 1536) k) : EReal) * (w (ix2 (i 1 : Fin 2304) k) : EReal)) * (pw e * s) : EReal)

/-- The first weight's gradient. -/
def DW1 (e : ℤ) (s : EReal) (h : Vec Ideal S2x36x1536x256 .bf16) (x : Vec Ideal S2304x1536 .fp8e4m3) : Vec Ideal S2304x18432 .bf16 := fun i =>
  ((∑ k : Fin 1536, (x (ix2 (i 0 : Fin 2304) k) : EReal) * (HC e h (ix2 k (i 1 : Fin 18432)) : EReal)) * (pw e * s) : EReal)

/-- The second weight's gradient. -/
def DW2 (e : ℤ) (s : EReal) (a : Vec Ideal S36x1536x256 .bf16) (d : Vec Ideal S1536x2304 .fp8e5m2) : Vec Ideal S9216x2304 .bf16 := fun i =>
  ((∑ k : Fin 1536, (AC e a (ix2 k (i 0 : Fin 9216)) : EReal) * (d (ix2 k (i 1 : Fin 2304)) : EReal)) * (pw e * s) : EReal)

/-! ## The blocks -/

variable (m : (ℓ : Loc nD τ sig) → Buf (Elt Ideal) ℓ)

/-- The activation codes of block `t`. -/
theorem acAt_apply (c : Dev nD) (e : ℤ) (he : ∀ y, invA (amA m c) y = pw (-e)) (t : Fin cfg0.N) (y : S1536x256.Idx) :
    acAt m c t y = AC e (V m c main_arg7) (ix2 (y 0 : Fin 1536)
      (⟨t.val * 256 + (y 1).val, by have h1 : (y 1).val < 256 := (y 1).isLt; have := tlt t; omega⟩ : Fin 9216)) := by
  have h1 : (y 1).val < 256 := (y 1).isLt
  have ht := tlt t
  unfold acAt quantA AC aflat
  rw [blk6, he]
  refine congrArg (fun z => codeA (F := Ideal) z (pw (-e))) (congrArg (V m c main_arg7) ?_)
  funext a; apply Fin.ext
  match a with
  | ⟨0, _⟩ => show t.val = (t.val * 256 + (y 1).val) / 256; omega
  | ⟨1, _⟩ => rfl
  | ⟨2, _⟩ => show (y 1).val = (t.val * 256 + (y 1).val) % 256; omega

/-- The hidden gradient codes of block `t`. -/
theorem hcAt_apply (c : Dev nD) (e : ℤ) (he : ∀ y, invH (amH m c) y = pw (-e)) (t : Fin cfg0.N) (y : S1536x512.Idx) :
    hcAt m c t y = HC e (V m c main_arg8) (ix2 (y 0 : Fin 1536)
      (⟨t.val * 512 + (y 1).val, by have h1 : (y 1).val < 512 := (y 1).isLt; have := tlt t; omega⟩ : Fin 18432)) := by
  have h1 : (y 1).val < 512 := (y 1).isLt
  have ht := tlt t
  unfold hcAt quantH HC hflat
  rw [blk7, he]
  refine congrArg (fun z => codeH (F := Ideal) z (pw (-e))) (congrArg (V m c main_arg8) ?_)
  funext a; apply Fin.ext
  match a with
  | ⟨0, _⟩ => show t.val / 18 = (t.val * 512 + (y 1).val) / 9216; omega
  | ⟨1, _⟩ => show (t.val % 18) * 2 + (y 1).val / 256 = ((t.val * 512 + (y 1).val) / 256) % 36; omega
  | ⟨2, _⟩ => rfl
  | ⟨3, _⟩ => show (y 1).val % 256 = (t.val * 512 + (y 1).val) % 256; omega

/-! ## The accumulator -/

/-- One product of the input gradient's sum, at column `f`. -/
def term (e : ℤ) (h : Vec Ideal S2x36x1536x256 .bf16) (w : Vec Ideal S2304x18432 .fp8e4m3) (y : S1536x2304.Idx) (f : ℕ) : EReal :=
  if hf : f < 18432 then (HC e h (ix2 (y 0 : Fin 1536) (⟨f, hf⟩ : Fin 18432)) : EReal) * (w (ix2 (y 1 : Fin 2304) (⟨f, hf⟩ : Fin 18432)) : EReal) else 0

theorem zeroX_apply (y : S1536x2304.Idx) : (zeroX (F := Ideal) y : EReal) = 0 := by
  unfold zeroX k0_pay4; pointwise

/-- A point's step adds the point's 512 products. -/
theorem dxF_apply (c : Dev nD) (e : ℤ) (he : ∀ y, invH (amH m c) y = pw (-e)) (t : Fin cfg0.N) (acc : Vec Ideal S1536x2304 .f32) (y : S1536x2304.Idx) :
    (dxF acc (hcAt m c t) (iblk m c 8 t) y : EReal) = (acc y : EReal) + ∑ k ∈ Finset.range 512, term e (V m c main_arg8) (V m c main_arg9) y (t.val * 512 + k) := by
  have h0 : (y 0).val < 1536 := (y 0).isLt
  have ht := tlt t
  unfold dxF
  rw [pay2_apply, Finset.sum_range]
  have ey : (ix2 (⟨512 * ((y 0).val / 512) + (y 0).val % 512, by omega⟩ : Fin 1536) (y 1 : Fin 2304) : S1536x2304.Idx) = y := by
    funext a; apply Fin.ext
    match a with
    | ⟨0, _⟩ => show 512 * ((y 0).val / 512) + (y 0).val % 512 = (y 0).val; omega
    | ⟨1, _⟩ => rfl
  refine congrArg₂ (· + ·) (congrArg acc ey) (Finset.sum_congr rfl fun k _ => ?_)
  have hk : k.val < 512 := k.isLt
  unfold term
  rw [dif_pos (show t.val * 512 + k.val < 18432 by omega)]
  refine congrArg₂ (· * ·) ?_ ?_
  · show (hcAt m c t _ : EReal) = _
    rw [hcAt_apply m c e he]
    refine congrArg (HC e (V m c main_arg8)) ?_
    funext a; apply Fin.ext
    match a with
    | ⟨0, _⟩ => show 512 * ((y 0).val / 512) + (y 0).val % 512 = (y 0).val; omega
    | ⟨1, _⟩ => rfl
  · rw [blk8]

/-- The accumulator after point `n`: the first `512 (n + 1)` products. -/
theorem accAt_apply (c : Dev nD) (e : ℤ) (he : ∀ y, invH (amH m c) y = pw (-e)) (y : S1536x2304.Idx) : ∀ (n : ℕ) (h : n < cfg0.N),
    (accAt m c n h y : EReal) = ∑ k ∈ Finset.range ((n + 1) * 512), term e (V m c main_arg8) (V m c main_arg9) y k
  | 0, h => by
    show (dxF zeroX (hcAt m c ⟨0, h⟩) (iblk m c 8 ⟨0, h⟩) y : EReal) = _
    rw [dxF_apply m c e he, zeroX_apply, zero_add]
    simp only [Nat.zero_mul, Nat.zero_add, Nat.one_mul]
  | n + 1, h => by
    show (dxF (accAt m c n _) (hcAt m c ⟨n + 1, h⟩) (iblk m c 8 ⟨n + 1, h⟩) y : EReal) = _
    rw [dxF_apply m c e he, accAt_apply c e he y n, show (n + 1 + 1) * 512 = (n + 1) * 512 + 512 by ring, Finset.sum_range_add]

/-- After the last point it is the whole sum. -/
theorem accAt_last (c : Dev nD) (e : ℤ) (he : ∀ y, invH (amH m c) y = pw (-e)) (y : S1536x2304.Idx) (t : Fin cfg0.N) (ht : t.val = 35) :
    (accAt m c t.val t.isLt y : EReal) = ∑ k : Fin 18432, (HC e (V m c main_arg8) (ix2 (y 0 : Fin 1536) k) : EReal) * (V m c main_arg9 (ix2 (y 1 : Fin 2304) k) : EReal) := by
  rw [accAt_apply m c e he, ht, Finset.sum_range]
  refine Finset.sum_congr rfl fun k _ => ?_
  unfold term
  rw [dif_pos (show k.val < 18432 from k.isLt)]

/-! ## The host's two scales -/

theorem V_v2_0 (c : Dev nD) : (V m c main_v2 (ix1 (0 : Fin 2)) : EReal) = m ((c : Thread nD τ).loc main_arg0) ValueIdx.ix0 := by
  show StableHlo.after hostOps0 _ _ _ = _
  after_results
  pointwise
  rfl

theorem V_v2_1 (c : Dev nD) : (V m c main_v2 (ix1 (1 : Fin 2)) : EReal) = m ((c : Thread nD τ).loc main_arg1) ValueIdx.ix0 := by
  show StableHlo.after hostOps0 _ _ _ = _
  after_results
  pointwise
  rfl

/-! ## The results -/

variable {m} (c : Dev nD) {eA eH : ℤ}

theorem res_ac (hi : ∀ y, invA (amA m c) y = pw (-eA)) :
    (dats m 0 c).arrAt 12 cfg0.N = (AC eA (V m c main_arg7) : (main_v3_3.ty).Contents (Elt Ideal)) :=
  fin12 m c _ fun t y _ => by rw [after0_12]; exact acAt_apply m c eA hi t y

theorem res_hc (hi : ∀ y, invH (amH m c) y = pw (-eH)) :
    (dats m 0 c).arrAt 13 cfg0.N = (HC eH (V m c main_arg8) : (main_v3_4.ty).Contents (Elt Ideal)) :=
  fin13 m c _ fun t y _ => by rw [after0_13]; exact hcAt_apply m c eH hi t y

theorem res_sa (hs : ∀ y, saV (amA m c) y = pw eA) :
    (dats m 0 c).arrAt 14 cfg0.N = ((fun _ => pw eA : Vec Ideal S8x128 .f32) : (main_v3_5.ty).Contents (Elt Ideal)) :=
  fin14 m c _ fun t y _ => by rw [after0_14]; exact hs y

theorem res_sh (hs : ∀ y, shV (amH m c) y = pw eH) :
    (dats m 0 c).arrAt 15 cfg0.N = ((fun _ => pw eH : Vec Ideal S8x128 .f32) : (main_v3_6.ty).Contents (Elt Ideal)) :=
  fin15 m c _ fun t y _ => by rw [after0_15]; exact hs y

theorem res_dx (hi : ∀ y, invH (amH m c) y = pw (-eH)) (hs : ∀ y, shV (amH m c) y = pw eH) :
    (dats m 0 c).arrAt 9 cfg0.N = (DX eH (m ((c : Thread nD τ).loc main_arg1) ValueIdx.ix0) (V m c main_arg8) (V m c main_arg9) : (main_v3_0.ty).Contents (Elt Ideal)) :=
  fin9 m c _ fun t y hf => by
    have ht : t.val = 35 := by have := (flush0_9 t).mp hf; have := tlt t; omega
    rw [after0_9]
    unfold dxAt DX
    rw [pay3_apply, accAt_last m c eH hi y t ht, blk0, V_v2_1]
    have e : (k0_pay197 (cell 0 (shV (amH m c))) (ix2 (0 : Fin 1) (0 : Fin 1)) : EReal) = pw eH := by
      unfold k0_pay197; pointwise; exact hs _
    rw [e]

theorem res_dw1 (hi : ∀ y, invH (amH m c) y = pw (-eH)) (hs : ∀ y, shV (amH m c) y = pw eH) :
    (dats m 0 c).arrAt 10 cfg0.N = (DW1 eH (m ((c : Thread nD τ).loc main_arg0) ValueIdx.ix0) (V m c main_arg8) (V m c main_arg5) : (main_v3_1.ty).Contents (Elt Ideal)) :=
  fin10 m c _ fun t y _ => by
    have h0 : (y 0).val < 2304 := (y 0).isLt
    rw [after0_10]
    unfold dw1At dw1F DW1
    rw [pay201_apply, blk0, V_v2_0, blk4]
    have e : ∀ z : EReal, (k0_pay198 (cell 0 (shV (amH m c))) z (ix2 (0 : Fin 1) (0 : Fin 1)) : EReal) = pw eH * z := by
      intro z; unfold k0_pay198 k0_pay197; pointwise; exact congrArg (· * z) (hs _)
    refine congrArg₂ (· * ·) (Finset.sum_congr rfl fun k _ => congrArg₂ (· * ·) ?_ ?_) (e _)
    · refine congrArg (V m c main_arg5) ?_
      funext a; apply Fin.ext
      match a with
      | ⟨0, _⟩ => show 768 * ((y 0).val / 768) + (y 0).val % 768 = (y 0).val; omega
      | ⟨1, _⟩ => rfl
    · exact hcAt_apply m c eH hi t _

theorem res_dw2 (hi : ∀ y, invA (amA m c) y = pw (-eA)) (hs : ∀ y, saV (amA m c) y = pw eA) :
    (dats m 0 c).arrAt 11 cfg0.N = (DW2 eA (V m c main_arg2 (ix2 (0 : Fin 8) (0 : Fin 128))) (V m c main_arg7) (V m c main_arg6) : (main_v3_2.ty).Contents (Elt Ideal)) :=
  fin11 m c _ fun t y _ => by
    rw [after0_11]
    unfold dw2At dw2F DW2
    rw [pay203_apply, blk1, blk5]
    have e : (k0_pay199 (cell 0 (saV (amA m c))) (cell 0 (V m c main_arg2)) (ix2 (0 : Fin 1) (0 : Fin 1)) : EReal)
        = pw eA * V m c main_arg2 (ix2 (0 : Fin 8) (0 : Fin 128)) := by
      unfold k0_pay199; pointwise; exact congrArg (· * _) (hs _)
    refine congrArg₂ (· * ·) (Finset.sum_congr rfl fun k _ => congrArg₂ (· * ·) ?_ rfl) e
    exact acAt_apply m c eA hi t _

end Cert.GradientsIdeal.Hand
-- ==== Proof.GRef.lean ====
/- What the reference computes at the ideal instance: the same formulas. -/
module

public import proofs.«01_k».proof.Proof.GVal
public import proofs.«01_k».proof.Proof.Gen.GradientsRefIdeal.Value

@[expose] public section

set_option maxRecDepth 16384

noncomputable section

namespace Cert.GradientsRefIdeal.Hand

open Idealize.ShloMosaic.Tactic
open Cert.GradientsRefIdeal Cert.GradientsRefIdeal.Gen
open Cert.GradientsIdeal.Hand (pw AC HC DX DW1 DW2 aflat hflat codeA codeH div_pw)
open Idealize.ShloMosaic hiding ix0 ix1 ix2 ix3 ix4 ix5
open Idealize.ShloMosaic.ValueIdx
open Idealize.ShloMosaic.TcCoe Idealize.SL.Sem

/-! ## The payloads -/

theorem codesA (e : ℤ) (s : Vec Ideal S1x1 .f32) (hs : ∀ y, s y = pw e) (a : Vec Ideal S36x1536x256 .bf16) (y : S1536x9216.Idx) :
    (k0_pay11 s (aflat a) y : EReal) = AC e a y := by
  unfold k0_pay11 AC codeA; pointwise
  rw [hs, div_pw]

theorem codesH (e : ℤ) (v : Vec Ideal S8x256 .f32) (hs : ∀ y, k0_pay10 (k0_pay7 v) (k0_pay8 v) (k0_pay9 (F := Ideal)) y = pw e) (h : Vec Ideal S2x36x1536x256 .bf16) (y : S1536x18432.Idx) :
    (k0_pay12 (k0_pay7 v) (k0_pay8 v) (k0_pay9 (F := Ideal)) (hflat h) y : EReal) = HC e h y := by
  unfold k0_pay12 HC codeH
  generalize k0_pay10 (k0_pay7 v) (k0_pay8 v) (k0_pay9 (F := Ideal)) = s at hs ⊢
  pointwise
  rw [hs, div_pw]

theorem refDX (e : ℤ) (v : Vec Ideal S8x256 .f32) (hs : ∀ y, k0_pay10 (k0_pay7 v) (k0_pay8 v) (k0_pay9 (F := Ideal)) y = pw e) (h : Vec Ideal S2x36x1536x256 .bf16)
    (w : Vec Ideal S2304x18432 .fp8e4m3) (x : Vec Ideal S1x1 .f32) (y : S1536x2304.Idx) :
    (k0_pay1 (k0_pay14 (k0_pay7 v) (k0_pay8 v) (k0_pay9 (F := Ideal)) (hflat h) w) (k0_pay17 (k0_pay7 v) (k0_pay8 v) (k0_pay9 (F := Ideal)) x) y : EReal)
      = DX e (x (ix2 (0 : Fin 1) (0 : Fin 1))) h w y := by
  have hc := codesH e v hs h
  unfold k0_pay1 k0_pay14 k0_pay17 DX
  generalize k0_pay10 (k0_pay7 v) (k0_pay8 v) (k0_pay9 (F := Ideal)) = s at hs ⊢
  generalize k0_pay12 (k0_pay7 v) (k0_pay8 v) (k0_pay9 (F := Ideal)) (hflat h) = q at hc ⊢
  pointwise
  simp only [hs, hc]
  rfl

theorem refDW1 (e : ℤ) (v : Vec Ideal S8x256 .f32) (hs : ∀ y, k0_pay10 (k0_pay7 v) (k0_pay8 v) (k0_pay9 (F := Ideal)) y = pw e) (h : Vec Ideal S2x36x1536x256 .bf16)
    (w : Vec Ideal S2304x1536 .fp8e4m3) (x : Vec Ideal S1x1 .f32) (y : S2304x18432.Idx) :
    (k0_pay2 (k0_pay10 (k0_pay7 v) (k0_pay8 v) (k0_pay9 (F := Ideal))) (k0_pay13 x) (k0_pay15 (k0_pay7 v) (k0_pay8 v) (k0_pay9 (F := Ideal)) (hflat h) w) y : EReal)
      = DW1 e (x (ix2 (0 : Fin 1) (0 : Fin 1))) h w y := by
  have hc := codesH e v hs h
  unfold k0_pay2 k0_pay13 k0_pay15 DW1
  generalize k0_pay10 (k0_pay7 v) (k0_pay8 v) (k0_pay9 (F := Ideal)) = s at hs ⊢
  generalize k0_pay12 (k0_pay7 v) (k0_pay8 v) (k0_pay9 (F := Ideal)) (hflat h) = q at hc ⊢
  pointwise
  simp only [hs, hc]
  rw [mul_comm (pw e)]
  rfl

theorem refDW2 (e : ℤ) (s : Vec Ideal S1x1 .f32) (hs : ∀ y, s y = pw e) (a : Vec Ideal S36x1536x256 .bf16)
    (d : Vec Ideal S1536x2304 .fp8e5m2) (x : Vec Ideal S1x1 .f32) (y : S9216x2304.Idx) :
    (k0_pay3 s x (k0_pay16 s (aflat a) d) y : EReal) = DW2 e (x (ix2 (0 : Fin 1) (0 : Fin 1))) a d y := by
  have hc := codesA e s hs a
  unfold k0_pay3 k0_pay16 DW2
  generalize k0_pay11 s (aflat a) = q at hc ⊢
  pointwise
  simp only [hs, hc]
  rfl

variable (m : (ℓ : Loc nD τ sig) → Buf (Elt Ideal) ℓ)

/-! ## The windows: each the whole array -/

theorem widx0 : ∀ t : Fin cfg0.N, win0_0.index t = ![0, 0] := by decide +kernel
theorem widx1 : ∀ t : Fin cfg0.N, win0_1.index t = ![0, 0] := by decide +kernel
theorem widx2 : ∀ t : Fin cfg0.N, win0_2.index t = ![0, 0] := by decide +kernel
theorem widx3 : ∀ t : Fin cfg0.N, win0_3.index t = ![0, 0] := by decide +kernel
theorem widx4 : ∀ t : Fin cfg0.N, win0_4.index t = ![0, 0] := by decide +kernel
theorem widx5 : ∀ t : Fin cfg0.N, win0_5.index t = ![0, 0] := by decide +kernel
theorem widx6 : ∀ t : Fin cfg0.N, win0_6.index t = ![0, 0] := by decide +kernel
theorem widx7 : ∀ t : Fin cfg0.N, win0_7.index t = ![0, 0] := by decide +kernel
theorem widx8 : ∀ t : Fin cfg0.N, win0_8.index t = ![0, 0] := by decide +kernel
theorem widx9 : ∀ t : Fin cfg0.N, win0_9.index t = ![0, 0] := by decide +kernel
theorem widx10 : ∀ t : Fin cfg0.N, win0_10.index t = ![0, 0] := by decide +kernel
theorem widx11 : ∀ t : Fin cfg0.N, win0_11.index t = ![0, 0] := by decide +kernel
theorem widx12 : ∀ t : Fin cfg0.N, win0_12.index t = ![0, 0] := by decide +kernel
theorem widx13 : ∀ t : Fin cfg0.N, win0_13.index t = ![0, 0] := by decide +kernel
theorem widx14 : ∀ t : Fin cfg0.N, win0_14.index t = ![0, 0] := by decide +kernel
theorem widx15 : ∀ t : Fin cfg0.N, win0_15.index t = ![0, 0] := by decide +kernel
theorem widx16 : ∀ t : Fin cfg0.N, win0_16.index t = ![0, 0] := by decide +kernel

theorem blk0 (c : Dev nD) (t : Fin cfg0.N) : (iblk m c 0 t : Vec Ideal S1x1 .f32) = V m c main_v4 := by
  funext y
  unfold iblk
  rw [View.read_apply]
  show V m c main_v4 _ = V m c main_v4 _
  congr 1
  funext a; apply Fin.ext
  have h := congrFun (widx0 t) a
  match a with
  | ⟨0, _⟩ => show win0_0.index t 0 * 1 + 1 * (y 0).val = (y 0).val; rw [show win0_0.index t 0 = 0 from h]; omega
  | ⟨1, _⟩ => show win0_0.index t 1 * 1 + 1 * (y 1).val = (y 1).val; rw [show win0_0.index t 1 = 0 from h]; omega

theorem blk1 (c : Dev nD) (t : Fin cfg0.N) : (iblk m c 1 t : Vec Ideal S1x1 .f32) = V m c main_v5 := by
  funext y
  unfold iblk
  rw [View.read_apply]
  show V m c main_v5 _ = V m c main_v5 _
  congr 1
  funext a; apply Fin.ext
  have h := congrFun (widx1 t) a
  match a with
  | ⟨0, _⟩ => show win0_1.index t 0 * 1 + 1 * (y 0).val = (y 0).val; rw [show win0_1.index t 0 = 0 from h]; omega
  | ⟨1, _⟩ => show win0_1.index t 1 * 1 + 1 * (y 1).val = (y 1).val; rw [show win0_1.index t 1 = 0 from h]; omega

theorem blk2 (c : Dev nD) (t : Fin cfg0.N) : (iblk m c 2 t : Vec Ideal S8x128 .f32) = V m c main_arg2 := by
  funext y
  unfold iblk
  rw [View.read_apply]
  show V m c main_arg2 _ = V m c main_arg2 _
  congr 1
  funext a; apply Fin.ext
  have h := congrFun (widx2 t) a
  match a with
  | ⟨0, _⟩ => show win0_2.index t 0 * 8 + 1 * (y 0).val = (y 0).val; rw [show win0_2.index t 0 = 0 from h]; omega
  | ⟨1, _⟩ => show win0_2.index t 1 * 128 + 1 * (y 1).val = (y 1).val; rw [show win0_2.index t 1 = 0 from h]; omega

theorem blk3 (c : Dev nD) (t : Fin cfg0.N) : (iblk m c 3 t : Vec Ideal S8x256 .f32) = V m c main_arg3 := by
  funext y
  unfold iblk
  rw [View.read_apply]
  show V m c main_arg3 _ = V m c main_arg3 _
  congr 1
  funext a; apply Fin.ext
  have h := congrFun (widx3 t) a
  match a with
  | ⟨0, _⟩ => show win0_3.index t 0 * 8 + 1 * (y 0).val = (y 0).val; rw [show win0_3.index t 0 = 0 from h]; omega
  | ⟨1, _⟩ => show win0_3.index t 1 * 256 + 1 * (y 1).val = (y 1).val; rw [show win0_3.index t 1 = 0 from h]; omega

theorem blk4 (c : Dev nD) (t : Fin cfg0.N) : (iblk m c 4 t : Vec Ideal S8x256 .f32) = V m c main_arg4 := by
  funext y
  unfold iblk
  rw [View.read_apply]
  show V m c main_arg4 _ = V m c main_arg4 _
  congr 1
  funext a; apply Fin.ext
  have h := congrFun (widx4 t) a
  match a with
  | ⟨0, _⟩ => show win0_4.index t 0 * 8 + 1 * (y 0).val = (y 0).val; rw [show win0_4.index t 0 = 0 from h]; omega
  | ⟨1, _⟩ => show win0_4.index t 1 * 256 + 1 * (y 1).val = (y 1).val; rw [show win0_4.index t 1 = 0 from h]; omega

theorem blk5 (c : Dev nD) (t : Fin cfg0.N) : (iblk m c 5 t : Vec Ideal S2304x1536 .fp8e4m3) = V m c main_arg5 := by
  funext y
  unfold iblk
  rw [View.read_apply]
  show V m c main_arg5 _ = V m c main_arg5 _
  congr 1
  funext a; apply Fin.ext
  have h := congrFun (widx5 t) a
  match a with
  | ⟨0, _⟩ => show win0_5.index t 0 * 2304 + 1 * (y 0).val = (y 0).val; rw [show win0_5.index t 0 = 0 from h]; omega
  | ⟨1, _⟩ => show win0_5.index t 1 * 1536 + 1 * (y 1).val = (y 1).val; rw [show win0_5.index t 1 = 0 from h]; omega

theorem blk6 (c : Dev nD) (t : Fin cfg0.N) : (iblk m c 6 t : Vec Ideal S1536x2304 .fp8e5m2) = V m c main_arg6 := by
  funext y
  unfold iblk
  rw [View.read_apply]
  show V m c main_arg6 _ = V m c main_arg6 _
  congr 1
  funext a; apply Fin.ext
  have h := congrFun (widx6 t) a
  match a with
  | ⟨0, _⟩ => show win0_6.index t 0 * 1536 + 1 * (y 0).val = (y 0).val; rw [show win0_6.index t 0 = 0 from h]; omega
  | ⟨1, _⟩ => show win0_6.index t 1 * 2304 + 1 * (y 1).val = (y 1).val; rw [show win0_6.index t 1 = 0 from h]; omega

theorem blk7 (c : Dev nD) (t : Fin cfg0.N) : (iblk m c 7 t : Vec Ideal S1536x9216 .bf16) = V m c main_v1 := by
  funext y
  unfold iblk
  rw [View.read_apply]
  show V m c main_v1 _ = V m c main_v1 _
  congr 1
  funext a; apply Fin.ext
  have h := congrFun (widx7 t) a
  match a with
  | ⟨0, _⟩ => show win0_7.index t 0 * 1536 + 1 * (y 0).val = (y 0).val; rw [show win0_7.index t 0 = 0 from h]; omega
  | ⟨1, _⟩ => show win0_7.index t 1 * 9216 + 1 * (y 1).val = (y 1).val; rw [show win0_7.index t 1 = 0 from h]; omega

theorem blk8 (c : Dev nD) (t : Fin cfg0.N) : (iblk m c 8 t : Vec Ideal S1536x18432 .bf16) = V m c main_v3 := by
  funext y
  unfold iblk
  rw [View.read_apply]
  show V m c main_v3 _ = V m c main_v3 _
  congr 1
  funext a; apply Fin.ext
  have h := congrFun (widx8 t) a
  match a with
  | ⟨0, _⟩ => show win0_8.index t 0 * 1536 + 1 * (y 0).val = (y 0).val; rw [show win0_8.index t 0 = 0 from h]; omega
  | ⟨1, _⟩ => show win0_8.index t 1 * 18432 + 1 * (y 1).val = (y 1).val; rw [show win0_8.index t 1 = 0 from h]; omega

theorem blk9 (c : Dev nD) (t : Fin cfg0.N) : (iblk m c 9 t : Vec Ideal S2304x18432 .fp8e4m3) = V m c main_arg9 := by
  funext y
  unfold iblk
  rw [View.read_apply]
  show V m c main_arg9 _ = V m c main_arg9 _
  congr 1
  funext a; apply Fin.ext
  have h := congrFun (widx9 t) a
  match a with
  | ⟨0, _⟩ => show win0_9.index t 0 * 2304 + 1 * (y 0).val = (y 0).val; rw [show win0_9.index t 0 = 0 from h]; omega
  | ⟨1, _⟩ => show win0_9.index t 1 * 18432 + 1 * (y 1).val = (y 1).val; rw [show win0_9.index t 1 = 0 from h]; omega

/-- Output 10 at the end: what the one point left. -/
theorem fin10 (c : Dev nD) (G : Vec Ideal S1536x2304 .bf16)
    (hG : ∀ y, out0_10 (F := Ideal) (V m c main_v4) (V m c main_v5) (V m c main_arg2) (V m c main_arg3) (V m c main_arg4) (V m c main_arg5) (V m c main_arg6) (V m c main_v1) (V m c main_v3) (V m c main_arg9) y = G y) :
    (dats m 0 c).arrAt 10 cfg0.N = (G : (main_v6_0.ty).Contents (Elt Ideal)) :=
  (dats m 0 c).arrAt_eq_of_cover 10 (G : (main_v6_0.ty).Contents (Elt Ideal))
    (fun t hf => by
      show (cfg0.win 10).cut (grid0.coords t) ((dats m 0 c).after 10 t) = _
      rw [after0_10, blk0, blk1, blk2, blk3, blk4, blk5, blk6, blk7, blk8, blk9]
      funext y
      refine (hG y).trans ?_
      rw [View.read_apply]
      show G _ = G _
      congr 1
      funext a; apply Fin.ext
      have h := congrFun (widx10 t) a
      match a with
      | ⟨0, _⟩ => show (y 0).val = win0_10.index t 0 * 1536 + 1 * (y 0).val; rw [show win0_10.index t 0 = 0 from h]; omega
      | ⟨1, _⟩ => show (y 1).val = win0_10.index t 1 * 2304 + 1 * (y 1).val; rw [show win0_10.index t 1 = 0 from h]; omega) fun i =>
    have mem : ∀ t : Fin cfg0.N, i ∈ ((cfg0.win 10).blk t).view.set := by
      intro t
      show i ∈ ((View.whole main_v6_0).slice (win0_10.rect t)).set
      rw [View.set_slice_whole, Rect.mem_set_unit]
      intro a
      have h0 : (i 0 : Nat) < 1536 := (i 0).isLt
      have h1 : (i 1 : Nat) < 2304 := (i 1).isLt
      have h := congrFun (widx10 t) a
      match a with
      | ⟨0, _⟩ => show win0_10.index t 0 * 1536 ≤ (i 0 : Nat) ∧ (i 0 : Nat) < win0_10.index t 0 * 1536 + 1536; rw [show win0_10.index t 0 = 0 from h]; omega
      | ⟨1, _⟩ => show win0_10.index t 1 * 2304 ≤ (i 1 : Nat) ∧ (i 1 : Nat) < win0_10.index t 1 * 2304 + 2304; rw [show win0_10.index t 1 = 0 from h]; omega
    ⟨⟨0, by decide +kernel⟩, (by decide +kernel), mem _⟩

/-- Output 11 at the end: what the one point left. -/
theorem fin11 (c : Dev nD) (G : Vec Ideal S2304x18432 .bf16)
    (hG : ∀ y, out0_11 (F := Ideal) (V m c main_v4) (V m c main_v5) (V m c main_arg2) (V m c main_arg3) (V m c main_arg4) (V m c main_arg5) (V m c main_arg6) (V m c main_v1) (V m c main_v3) (V m c main_arg9) y = G y) :
    (dats m 0 c).arrAt 11 cfg0.N = (G : (main_v6_1.ty).Contents (Elt Ideal)) :=
  (dats m 0 c).arrAt_eq_of_cover 11 (G : (main_v6_1.ty).Contents (Elt Ideal))
    (fun t hf => by
      show (cfg0.win 11).cut (grid0.coords t) ((dats m 0 c).after 11 t) = _
      rw [after0_11, blk0, blk1, blk2, blk3, blk4, blk5, blk6, blk7, blk8, blk9]
      funext y
      refine (hG y).trans ?_
      rw [View.read_apply]
      show G _ = G _
      congr 1
      funext a; apply Fin.ext
      have h := congrFun (widx11 t) a
      match a with
      | ⟨0, _⟩ => show (y 0).val = win0_11.index t 0 * 2304 + 1 * (y 0).val; rw [show win0_11.index t 0 = 0 from h]; omega
      | ⟨1, _⟩ => show (y 1).val = win0_11.index t 1 * 18432 + 1 * (y 1).val; rw [show win0_11.index t 1 = 0 from h]; omega) fun i =>
    have mem : ∀ t : Fin cfg0.N, i ∈ ((cfg0.win 11).blk t).view.set := by
      intro t
      show i ∈ ((View.whole main_v6_1).slice (win0_11.rect t)).set
      rw [View.set_slice_whole, Rect.mem_set_unit]
      intro a
      have h0 : (i 0 : Nat) < 2304 := (i 0).isLt
      have h1 : (i 1 : Nat) < 18432 := (i 1).isLt
      have h := congrFun (widx11 t) a
      match a with
      | ⟨0, _⟩ => show win0_11.index t 0 * 2304 ≤ (i 0 : Nat) ∧ (i 0 : Nat) < win0_11.index t 0 * 2304 + 2304; rw [show win0_11.index t 0 = 0 from h]; omega
      | ⟨1, _⟩ => show win0_11.index t 1 * 18432 ≤ (i 1 : Nat) ∧ (i 1 : Nat) < win0_11.index t 1 * 18432 + 18432; rw [show win0_11.index t 1 = 0 from h]; omega
    ⟨⟨0, by decide +kernel⟩, (by decide +kernel), mem _⟩

/-- Output 12 at the end: what the one point left. -/
theorem fin12 (c : Dev nD) (G : Vec Ideal S9216x2304 .bf16)
    (hG : ∀ y, out0_12 (F := Ideal) (V m c main_v4) (V m c main_v5) (V m c main_arg2) (V m c main_arg3) (V m c main_arg4) (V m c main_arg5) (V m c main_arg6) (V m c main_v1) (V m c main_v3) (V m c main_arg9) y = G y) :
    (dats m 0 c).arrAt 12 cfg0.N = (G : (main_v6_2.ty).Contents (Elt Ideal)) :=
  (dats m 0 c).arrAt_eq_of_cover 12 (G : (main_v6_2.ty).Contents (Elt Ideal))
    (fun t hf => by
      show (cfg0.win 12).cut (grid0.coords t) ((dats m 0 c).after 12 t) = _
      rw [after0_12, blk0, blk1, blk2, blk3, blk4, blk5, blk6, blk7, blk8, blk9]
      funext y
      refine (hG y).trans ?_
      rw [View.read_apply]
      show G _ = G _
      congr 1
      funext a; apply Fin.ext
      have h := congrFun (widx12 t) a
      match a with
      | ⟨0, _⟩ => show (y 0).val = win0_12.index t 0 * 9216 + 1 * (y 0).val; rw [show win0_12.index t 0 = 0 from h]; omega
      | ⟨1, _⟩ => show (y 1).val = win0_12.index t 1 * 2304 + 1 * (y 1).val; rw [show win0_12.index t 1 = 0 from h]; omega) fun i =>
    have mem : ∀ t : Fin cfg0.N, i ∈ ((cfg0.win 12).blk t).view.set := by
      intro t
      show i ∈ ((View.whole main_v6_2).slice (win0_12.rect t)).set
      rw [View.set_slice_whole, Rect.mem_set_unit]
      intro a
      have h0 : (i 0 : Nat) < 9216 := (i 0).isLt
      have h1 : (i 1 : Nat) < 2304 := (i 1).isLt
      have h := congrFun (widx12 t) a
      match a with
      | ⟨0, _⟩ => show win0_12.index t 0 * 9216 ≤ (i 0 : Nat) ∧ (i 0 : Nat) < win0_12.index t 0 * 9216 + 9216; rw [show win0_12.index t 0 = 0 from h]; omega
      | ⟨1, _⟩ => show win0_12.index t 1 * 2304 ≤ (i 1 : Nat) ∧ (i 1 : Nat) < win0_12.index t 1 * 2304 + 2304; rw [show win0_12.index t 1 = 0 from h]; omega
    ⟨⟨0, by decide +kernel⟩, (by decide +kernel), mem _⟩

/-- Output 13 at the end: what the one point left. -/
theorem fin13 (c : Dev nD) (G : Vec Ideal S1536x9216 .fp8e4m3)
    (hG : ∀ y, out0_13 (F := Ideal) (V m c main_v4) (V m c main_v5) (V m c main_arg2) (V m c main_arg3) (V m c main_arg4) (V m c main_arg5) (V m c main_arg6) (V m c main_v1) (V m c main_v3) (V m c main_arg9) y = G y) :
    (dats m 0 c).arrAt 13 cfg0.N = (G : (main_v6_3.ty).Contents (Elt Ideal)) :=
  (dats m 0 c).arrAt_eq_of_cover 13 (G : (main_v6_3.ty).Contents (Elt Ideal))
    (fun t hf => by
      show (cfg0.win 13).cut (grid0.coords t) ((dats m 0 c).after 13 t) = _
      rw [after0_13, blk0, blk1, blk2, blk3, blk4, blk5, blk6, blk7, blk8, blk9]
      funext y
      refine (hG y).trans ?_
      rw [View.read_apply]
      show G _ = G _
      congr 1
      funext a; apply Fin.ext
      have h := congrFun (widx13 t) a
      match a with
      | ⟨0, _⟩ => show (y 0).val = win0_13.index t 0 * 1536 + 1 * (y 0).val; rw [show win0_13.index t 0 = 0 from h]; omega
      | ⟨1, _⟩ => show (y 1).val = win0_13.index t 1 * 9216 + 1 * (y 1).val; rw [show win0_13.index t 1 = 0 from h]; omega) fun i =>
    have mem : ∀ t : Fin cfg0.N, i ∈ ((cfg0.win 13).blk t).view.set := by
      intro t
      show i ∈ ((View.whole main_v6_3).slice (win0_13.rect t)).set
      rw [View.set_slice_whole, Rect.mem_set_unit]
      intro a
      have h0 : (i 0 : Nat) < 1536 := (i 0).isLt
      have h1 : (i 1 : Nat) < 9216 := (i 1).isLt
      have h := congrFun (widx13 t) a
      match a with
      | ⟨0, _⟩ => show win0_13.index t 0 * 1536 ≤ (i 0 : Nat) ∧ (i 0 : Nat) < win0_13.index t 0 * 1536 + 1536; rw [show win0_13.index t 0 = 0 from h]; omega
      | ⟨1, _⟩ => show win0_13.index t 1 * 9216 ≤ (i 1 : Nat) ∧ (i 1 : Nat) < win0_13.index t 1 * 9216 + 9216; rw [show win0_13.index t 1 = 0 from h]; omega
    ⟨⟨0, by decide +kernel⟩, (by decide +kernel), mem _⟩

/-- Output 14 at the end: what the one point left. -/
theorem fin14 (c : Dev nD) (G : Vec Ideal S1536x18432 .fp8e5m2)
    (hG : ∀ y, out0_14 (F := Ideal) (V m c main_v4) (V m c main_v5) (V m c main_arg2) (V m c main_arg3) (V m c main_arg4) (V m c main_arg5) (V m c main_arg6) (V m c main_v1) (V m c main_v3) (V m c main_arg9) y = G y) :
    (dats m 0 c).arrAt 14 cfg0.N = (G : (main_v6_4.ty).Contents (Elt Ideal)) :=
  (dats m 0 c).arrAt_eq_of_cover 14 (G : (main_v6_4.ty).Contents (Elt Ideal))
    (fun t hf => by
      show (cfg0.win 14).cut (grid0.coords t) ((dats m 0 c).after 14 t) = _
      rw [after0_14, blk0, blk1, blk2, blk3, blk4, blk5, blk6, blk7, blk8, blk9]
      funext y
      refine (hG y).trans ?_
      rw [View.read_apply]
      show G _ = G _
      congr 1
      funext a; apply Fin.ext
      have h := congrFun (widx14 t) a
      match a with
      | ⟨0, _⟩ => show (y 0).val = win0_14.index t 0 * 1536 + 1 * (y 0).val; rw [show win0_14.index t 0 = 0 from h]; omega
      | ⟨1, _⟩ => show (y 1).val = win0_14.index t 1 * 18432 + 1 * (y 1).val; rw [show win0_14.index t 1 = 0 from h]; omega) fun i =>
    have mem : ∀ t : Fin cfg0.N, i ∈ ((cfg0.win 14).blk t).view.set := by
      intro t
      show i ∈ ((View.whole main_v6_4).slice (win0_14.rect t)).set
      rw [View.set_slice_whole, Rect.mem_set_unit]
      intro a
      have h0 : (i 0 : Nat) < 1536 := (i 0).isLt
      have h1 : (i 1 : Nat) < 18432 := (i 1).isLt
      have h := congrFun (widx14 t) a
      match a with
      | ⟨0, _⟩ => show win0_14.index t 0 * 1536 ≤ (i 0 : Nat) ∧ (i 0 : Nat) < win0_14.index t 0 * 1536 + 1536; rw [show win0_14.index t 0 = 0 from h]; omega
      | ⟨1, _⟩ => show win0_14.index t 1 * 18432 ≤ (i 1 : Nat) ∧ (i 1 : Nat) < win0_14.index t 1 * 18432 + 18432; rw [show win0_14.index t 1 = 0 from h]; omega
    ⟨⟨0, by decide +kernel⟩, (by decide +kernel), mem _⟩

/-- Output 15 at the end: what the one point left. -/
theorem fin15 (c : Dev nD) (G : Vec Ideal S8x128 .f32)
    (hG : ∀ y, out0_15 (F := Ideal) (V m c main_v4) (V m c main_v5) (V m c main_arg2) (V m c main_arg3) (V m c main_arg4) (V m c main_arg5) (V m c main_arg6) (V m c main_v1) (V m c main_v3) (V m c main_arg9) y = G y) :
    (dats m 0 c).arrAt 15 cfg0.N = (G : (main_v6_5.ty).Contents (Elt Ideal)) :=
  (dats m 0 c).arrAt_eq_of_cover 15 (G : (main_v6_5.ty).Contents (Elt Ideal))
    (fun t hf => by
      show (cfg0.win 15).cut (grid0.coords t) ((dats m 0 c).after 15 t) = _
      rw [after0_15, blk0, blk1, blk2, blk3, blk4, blk5, blk6, blk7, blk8, blk9]
      funext y
      refine (hG y).trans ?_
      rw [View.read_apply]
      show G _ = G _
      congr 1
      funext a; apply Fin.ext
      have h := congrFun (widx15 t) a
      match a with
      | ⟨0, _⟩ => show (y 0).val = win0_15.index t 0 * 8 + 1 * (y 0).val; rw [show win0_15.index t 0 = 0 from h]; omega
      | ⟨1, _⟩ => show (y 1).val = win0_15.index t 1 * 128 + 1 * (y 1).val; rw [show win0_15.index t 1 = 0 from h]; omega) fun i =>
    have mem : ∀ t : Fin cfg0.N, i ∈ ((cfg0.win 15).blk t).view.set := by
      intro t
      show i ∈ ((View.whole main_v6_5).slice (win0_15.rect t)).set
      rw [View.set_slice_whole, Rect.mem_set_unit]
      intro a
      have h0 : (i 0 : Nat) < 8 := (i 0).isLt
      have h1 : (i 1 : Nat) < 128 := (i 1).isLt
      have h := congrFun (widx15 t) a
      match a with
      | ⟨0, _⟩ => show win0_15.index t 0 * 8 ≤ (i 0 : Nat) ∧ (i 0 : Nat) < win0_15.index t 0 * 8 + 8; rw [show win0_15.index t 0 = 0 from h]; omega
      | ⟨1, _⟩ => show win0_15.index t 1 * 128 ≤ (i 1 : Nat) ∧ (i 1 : Nat) < win0_15.index t 1 * 128 + 128; rw [show win0_15.index t 1 = 0 from h]; omega
    ⟨⟨0, by decide +kernel⟩, (by decide +kernel), mem _⟩

/-- Output 16 at the end: what the one point left. -/
theorem fin16 (c : Dev nD) (G : Vec Ideal S8x128 .f32)
    (hG : ∀ y, out0_16 (F := Ideal) (V m c main_v4) (V m c main_v5) (V m c main_arg2) (V m c main_arg3) (V m c main_arg4) (V m c main_arg5) (V m c main_arg6) (V m c main_v1) (V m c main_v3) (V m c main_arg9) y = G y) :
    (dats m 0 c).arrAt 16 cfg0.N = (G : (main_v6_6.ty).Contents (Elt Ideal)) :=
  (dats m 0 c).arrAt_eq_of_cover 16 (G : (main_v6_6.ty).Contents (Elt Ideal))
    (fun t hf => by
      show (cfg0.win 16).cut (grid0.coords t) ((dats m 0 c).after 16 t) = _
      rw [after0_16, blk0, blk1, blk2, blk3, blk4, blk5, blk6, blk7, blk8, blk9]
      funext y
      refine (hG y).trans ?_
      rw [View.read_apply]
      show G _ = G _
      congr 1
      funext a; apply Fin.ext
      have h := congrFun (widx16 t) a
      match a with
      | ⟨0, _⟩ => show (y 0).val = win0_16.index t 0 * 8 + 1 * (y 0).val; rw [show win0_16.index t 0 = 0 from h]; omega
      | ⟨1, _⟩ => show (y 1).val = win0_16.index t 1 * 128 + 1 * (y 1).val; rw [show win0_16.index t 1 = 0 from h]; omega) fun i =>
    have mem : ∀ t : Fin cfg0.N, i ∈ ((cfg0.win 16).blk t).view.set := by
      intro t
      show i ∈ ((View.whole main_v6_6).slice (win0_16.rect t)).set
      rw [View.set_slice_whole, Rect.mem_set_unit]
      intro a
      have h0 : (i 0 : Nat) < 8 := (i 0).isLt
      have h1 : (i 1 : Nat) < 128 := (i 1).isLt
      have h := congrFun (widx16 t) a
      match a with
      | ⟨0, _⟩ => show win0_16.index t 0 * 8 ≤ (i 0 : Nat) ∧ (i 0 : Nat) < win0_16.index t 0 * 8 + 8; rw [show win0_16.index t 0 = 0 from h]; omega
      | ⟨1, _⟩ => show win0_16.index t 1 * 128 ≤ (i 1 : Nat) ∧ (i 1 : Nat) < win0_16.index t 1 * 128 + 128; rw [show win0_16.index t 1 = 0 from h]; omega
    ⟨⟨0, by decide +kernel⟩, (by decide +kernel), mem _⟩

/-! ## The host's reshapes -/

theorem V_v4 (c : Dev nD) : V m c main_v4 (ix2 (0 : Fin 1) (0 : Fin 1)) = m ((c : Thread nD τ).loc main_arg0) ValueIdx.ix0 := by
  show StableHlo.after hostOps0 _ _ _ = _
  after_results
  rfl

theorem V_v5 (c : Dev nD) : V m c main_v5 (ix2 (0 : Fin 1) (0 : Fin 1)) = m ((c : Thread nD τ).loc main_arg1) ValueIdx.ix0 := by
  show StableHlo.after hostOps0 _ _ _ = _
  after_results
  rfl

theorem V_v1 (c : Dev nD) : (V m c main_v1 : Vec Ideal S1536x9216 .bf16) = aflat (m ((c : Thread nD τ).loc main_arg7)) := by
  show StableHlo.after hostOps0 _ _ = _
  after_results
  funext y
  have h0 : (y 0 : Nat) < 1536 := (y 0).isLt
  have h1 : (y 1 : Nat) < 9216 := (y 1).isLt
  refine (shapeCast_apply (transpose S1536x36x256 [1, 0, 2] (m (c, Proc.tc.devRef main_arg7)) transposes_S36x1536x256_S1536x36x256_1_0_2)
    shapeCasts_S1536x36x256_S1536x9216 y
    (ix3 (⟨(y 0 : Nat), h0⟩ : Fin 1536) (⟨(y 1 : Nat) / 256, by omega⟩ : Fin 36) (⟨(y 1 : Nat) % 256, by omega⟩ : Fin 256)) ?_).trans ?_
  · rw [Shape.rowMajor_val_three, Shape.rowMajor_val_two]
    show ((y 0 : Nat) * 36 + (y 1 : Nat) / 256) * 256 + (y 1 : Nat) % 256 = (y 0 : Nat) * 9216 + (y 1 : Nat)
    omega
  · unfold aflat
    show m (c, Proc.tc.devRef main_arg7) _ = m (c, Proc.tc.devRef main_arg7) _
    congr 1
    funext a; apply Fin.ext
    match a with
    | ⟨0, _⟩ => rfl
    | ⟨1, _⟩ => rfl
    | ⟨2, _⟩ => rfl

theorem V_v3 (c : Dev nD) : (V m c main_v3 : Vec Ideal S1536x18432 .bf16) = hflat (m ((c : Thread nD τ).loc main_arg8)) := by
  show StableHlo.after hostOps0 _ _ = _
  after_results
  funext y
  have h0 : (y 0 : Nat) < 1536 := (y 0).isLt
  have h1 : (y 1 : Nat) < 18432 := (y 1).isLt
  refine (shapeCast_apply (transpose S1536x2x36x256 [2, 0, 1, 3] (m (c, Proc.tc.devRef main_arg8)) transposes_S2x36x1536x256_S1536x2x36x256_2_0_1_3)
    shapeCasts_S1536x2x36x256_S1536x18432 y
    (ix4 (⟨(y 0 : Nat), h0⟩ : Fin 1536) (⟨(y 1 : Nat) / 9216, by omega⟩ : Fin 2) (⟨((y 1 : Nat) / 256) % 36, by omega⟩ : Fin 36) (⟨(y 1 : Nat) % 256, by omega⟩ : Fin 256)) ?_).trans ?_
  · rw [Shape.rowMajor_val_four, Shape.rowMajor_val_two]
    show (((y 0 : Nat) * 2 + (y 1 : Nat) / 9216) * 36 + ((y 1 : Nat) / 256) % 36) * 256 + (y 1 : Nat) % 256 = (y 0 : Nat) * 18432 + (y 1 : Nat)
    omega
  · unfold hflat
    show m (c, Proc.tc.devRef main_arg8) _ = m (c, Proc.tc.devRef main_arg8) _
    congr 1
    funext a; apply Fin.ext
    match a with
    | ⟨0, _⟩ => rfl
    | ⟨1, _⟩ => rfl
    | ⟨2, _⟩ => rfl
    | ⟨3, _⟩ => rfl

/-! ## The results -/

variable {m} (c : Dev nD) {eA eH : ℤ}

theorem hz2 : (![0, 0] : Fin 2 → ℕ) = fun _ => 0 := by funext a; match a with | ⟨0, _⟩ => rfl | ⟨1, _⟩ => rfl

/-- The corner cell of the upstream gradient's scale. -/
theorem ld_corner (v : Vec Ideal S8x128 .f32) : (View.ld v r0_4 : Vec Ideal S1x1 .f32) (ix2 (0 : Fin 1) (0 : Fin 1)) = v (ix2 (0 : Fin 8) (0 : Fin 128)) := by
  show v _ = v _
  congr 1
  funext a; apply Fin.ext
  match a with
  | ⟨0, _⟩ => rfl
  | ⟨1, _⟩ => rfl

theorem res_ac (hs : ∀ y, k0_pay6 (V m c main_arg3) y = pw eA) :
    (dats m 0 c).arrAt 13 cfg0.N = (AC eA (m ((c : Thread nD τ).loc main_arg7)) : (main_v6_3.ty).Contents (Elt Ideal)) :=
  fin13 m c _ fun y => by
    unfold_out out0_13
    rw [View.canon_unit_zero hz2, View.ld_unit_zero hz2, View.ld_unit_zero hz2, V_v1]
    exact codesA eA _ hs _ y

theorem res_hc (hs : ∀ y, k0_pay10 (k0_pay7 (V m c main_arg4)) (k0_pay8 (V m c main_arg4)) (k0_pay9 (F := Ideal)) y = pw eH) :
    (dats m 0 c).arrAt 14 cfg0.N = (HC eH (m ((c : Thread nD τ).loc main_arg8)) : (main_v6_4.ty).Contents (Elt Ideal)) :=
  fin14 m c _ fun y => by
    unfold_out out0_14
    rw [View.canon_unit_zero hz2, View.ld_unit_zero hz2, View.ld_unit_zero hz2, V_v3]
    exact codesH eH _ hs _ y

theorem res_sa (hs : ∀ y, k0_pay6 (V m c main_arg3) y = pw eA) :
    (dats m 0 c).arrAt 15 cfg0.N = ((fun _ => pw eA : Vec Ideal S8x128 .f32) : (main_v6_5.ty).Contents (Elt Ideal)) :=
  fin15 m c _ fun y => by
    unfold_out out0_15
    rw [View.canon_unit_zero hz2, View.ld_unit_zero hz2]
    generalize k0_pay6 (V m c main_arg3) = s at hs ⊢
    unfold k0_pay4; pointwise; exact hs _

theorem res_sh (hs : ∀ y, k0_pay10 (k0_pay7 (V m c main_arg4)) (k0_pay8 (V m c main_arg4)) (k0_pay9 (F := Ideal)) y = pw eH) :
    (dats m 0 c).arrAt 16 cfg0.N = ((fun _ => pw eH : Vec Ideal S8x128 .f32) : (main_v6_6.ty).Contents (Elt Ideal)) :=
  fin16 m c _ fun y => by
    unfold_out out0_16
    rw [View.canon_unit_zero hz2, View.ld_unit_zero hz2]
    generalize k0_pay10 (k0_pay7 (V m c main_arg4)) (k0_pay8 (V m c main_arg4)) (k0_pay9 (F := Ideal)) = s at hs ⊢
    unfold k0_pay5; pointwise; exact hs _

theorem res_dx (hs : ∀ y, k0_pay10 (k0_pay7 (V m c main_arg4)) (k0_pay8 (V m c main_arg4)) (k0_pay9 (F := Ideal)) y = pw eH) :
    (dats m 0 c).arrAt 10 cfg0.N = (DX eH (m ((c : Thread nD τ).loc main_arg1) ValueIdx.ix0) (m ((c : Thread nD τ).loc main_arg8)) (V m c main_arg9) : (main_v6_0.ty).Contents (Elt Ideal)) :=
  fin10 m c _ fun y => by
    unfold_out out0_10
    rw [View.canon_unit_zero hz2, View.ld_unit_zero hz2, View.ld_unit_zero hz2, View.ld_unit_zero hz2, View.ld_unit_zero hz2, V_v3]
    rw [refDX eH _ hs, V_v5]

theorem res_dw1 (hs : ∀ y, k0_pay10 (k0_pay7 (V m c main_arg4)) (k0_pay8 (V m c main_arg4)) (k0_pay9 (F := Ideal)) y = pw eH) :
    (dats m 0 c).arrAt 11 cfg0.N = (DW1 eH (m ((c : Thread nD τ).loc main_arg0) ValueIdx.ix0) (m ((c : Thread nD τ).loc main_arg8)) (V m c main_arg5) : (main_v6_1.ty).Contents (Elt Ideal)) :=
  fin11 m c _ fun y => by
    unfold_out out0_11
    rw [View.canon_unit_zero hz2, View.ld_unit_zero hz2, View.ld_unit_zero hz2, View.ld_unit_zero hz2, View.ld_unit_zero hz2, V_v3]
    rw [refDW1 eH _ hs, V_v4]

theorem res_dw2 (hs : ∀ y, k0_pay6 (V m c main_arg3) y = pw eA) :
    (dats m 0 c).arrAt 12 cfg0.N = (DW2 eA (V m c main_arg2 (ix2 (0 : Fin 8) (0 : Fin 128))) (m ((c : Thread nD τ).loc main_arg7)) (V m c main_arg6) : (main_v6_2.ty).Contents (Elt Ideal)) :=
  fin12 m c _ fun y => by
    unfold_out out0_12
    rw [View.canon_unit_zero hz2, View.ld_unit_zero hz2, View.ld_unit_zero hz2, View.ld_unit_zero hz2, V_v1]
    rw [refDW2 eA _ hs, ld_corner]

end Cert.GradientsRefIdeal.Hand
-- ==== Proof.GEq.lean ====
/- The value claim: under the precondition the gradients call and its reference end with equal results. -/
module

public import proofs.«01_k».proof.Defs
public import proofs.«01_k».proof.Proof.GRef
public import proofs.«01_k».proof.Proof.Gen.GradientsRefIdeal.Frame
public import Idealize.ShloMosaic.Adequacy

@[expose] public section

set_option maxRecDepth 16384

noncomputable section

namespace Cert.Hand

open Idealize.ShloMosaic.Tactic
open Idealize.ShloMosaic hiding ix0 ix1 ix2 ix3 ix4 ix5
open Idealize.ShloMosaic.ValueIdx
open Idealize.ShloMosaic.TcCoe Idealize.SL.Sem

/-- The precondition's one side condition. -/
theorem preFacts : Cert.Pre_amax_finite.Facts := ⟨by decide⟩

open Cert.GradientsIdeal.Hand (DX DW1 DW2)

theorem DX_congr {e : ℤ} {s s' : EReal} {h h'} {w w'} (q1 : s = s') (q2 : h = h') (q3 : w = w') : DX e s h w = DX e s' h' w' := by
  subst q1 q2 q3; rfl
theorem DW1_congr {e : ℤ} {s s' : EReal} {h h'} {w w'} (q1 : s = s') (q2 : h = h') (q3 : w = w') : DW1 e s h w = DW1 e s' h' w' := by
  subst q1 q2 q3; rfl
theorem DW2_congr {e : ℤ} {s s' : EReal} {h h'} {w w'} (q1 : s = s') (q2 : h = h') (q3 : w = w') : DW2 e s h w = DW2 e s' h' w' := by
  subst q1 q2 q3; rfl

/-- Every magnitude is at most the largest finite float. -/
def Fin32 (v : Vec Ideal Cert.GradientsIdeal.S8x256 .f32) : Prop := ∀ i, v i ≤ Ideal.ofBits .f32 0x7F7FFFFF#32

/-- The precondition, read: every magnitude is at most the largest finite float. -/
theorem pre_read (a0 a1 a2 a3 a4 a5 a6 a7 a8 a9) (h : @Cert.Pre_amax_finite.fn preFacts Ideal _ a0 a1 a2 a3 a4 a5 a6 a7 a8 a9 = fun _ => 1#1) :
    Fin32 a3 ∧ Fin32 a4 := by
  have key : ∀ i, BitVec.ofBool (decide ((a3 i : EReal) ≤ Ideal.ofBits .f32 0x7F7FFFFF#32)) &&& BitVec.ofBool (decide ((a4 i : EReal) ≤ Ideal.ofBits .f32 0x7F7FFFFF#32)) = 1#1 :=
    fun i => congrFun h i
  refine ⟨fun i => ?_, fun i => ?_⟩
  · have hi := key i
    by_contra hc
    rw [decide_eq_false hc] at hi
    revert hi
    generalize decide ((a4 i : EReal) ≤ Ideal.ofBits .f32 0x7F7FFFFF#32) = b
    revert b; decide
  · have hi := key i
    by_contra hc
    rw [decide_eq_false hc] at hi
    revert hi
    generalize decide ((a3 i : EReal) ≤ Ideal.ofBits .f32 0x7F7FFFFF#32) = b
    revert b; decide

/-- The gradients call's run: each result named, the arguments unchanged. -/
theorem run_kernel (m : (ℓ : Loc Cert.GradientsIdeal.nD Cert.GradientsIdeal.τ Cert.GradientsIdeal.sig) → Buf (Elt Ideal) ℓ) (ρ : Dev Cert.GradientsIdeal.nD → PrngReg) :
    θ_run (Cert.GradientsIdeal.defs (F := Ideal)) (onTc (τ := Cert.GradientsIdeal.τ) (Cert.GradientsIdeal.main (F := Ideal))) ⟨m, fun _ => 0, ρ⟩ (fun r => ∀ c : Dev Cert.GradientsIdeal.nD,
r.2.mem ((c.tc : Thread Cert.GradientsIdeal.nD Cert.GradientsIdeal.τ).loc Cert.GradientsIdeal.main_v3_0) = (Cert.GradientsIdeal.Hand.dats m 0 c).arrAt 9 Cert.GradientsIdeal.cfg0.N
      ∧ r.2.mem ((c.tc : Thread Cert.GradientsIdeal.nD Cert.GradientsIdeal.τ).loc Cert.GradientsIdeal.main_v3_1) = (Cert.GradientsIdeal.Hand.dats m 0 c).arrAt 10 Cert.GradientsIdeal.cfg0.N
      ∧ r.2.mem ((c.tc : Thread Cert.GradientsIdeal.nD Cert.GradientsIdeal.τ).loc Cert.GradientsIdeal.main_v3_2) = (Cert.GradientsIdeal.Hand.dats m 0 c).arrAt 11 Cert.GradientsIdeal.cfg0.N
      ∧ r.2.mem ((c.tc : Thread Cert.GradientsIdeal.nD Cert.GradientsIdeal.τ).loc Cert.GradientsIdeal.main_v3_3) = (Cert.GradientsIdeal.Hand.dats m 0 c).arrAt 12 Cert.GradientsIdeal.cfg0.N
      ∧ r.2.mem ((c.tc : Thread Cert.GradientsIdeal.nD Cert.GradientsIdeal.τ).loc Cert.GradientsIdeal.main_v3_4) = (Cert.GradientsIdeal.Hand.dats m 0 c).arrAt 13 Cert.GradientsIdeal.cfg0.N
      ∧ r.2.mem ((c.tc : Thread Cert.GradientsIdeal.nD Cert.GradientsIdeal.τ).loc Cert.GradientsIdeal.main_v3_5) = (Cert.GradientsIdeal.Hand.dats m 0 c).arrAt 14 Cert.GradientsIdeal.cfg0.N
      ∧ r.2.mem ((c.tc : Thread Cert.GradientsIdeal.nD Cert.GradientsIdeal.τ).loc Cert.GradientsIdeal.main_v3_6) = (Cert.GradientsIdeal.Hand.dats m 0 c).arrAt 15 Cert.GradientsIdeal.cfg0.N
      ∧ r.2.mem ((c.tc : Thread Cert.GradientsIdeal.nD Cert.GradientsIdeal.τ).loc Cert.GradientsIdeal.main_arg0) = m ((c.tc : Thread Cert.GradientsIdeal.nD Cert.GradientsIdeal.τ).loc Cert.GradientsIdeal.main_arg0)
      ∧ r.2.mem ((c.tc : Thread Cert.GradientsIdeal.nD Cert.GradientsIdeal.τ).loc Cert.GradientsIdeal.main_arg1) = m ((c.tc : Thread Cert.GradientsIdeal.nD Cert.GradientsIdeal.τ).loc Cert.GradientsIdeal.main_arg1)
      ∧ r.2.mem ((c.tc : Thread Cert.GradientsIdeal.nD Cert.GradientsIdeal.τ).loc Cert.GradientsIdeal.main_arg2) = m ((c.tc : Thread Cert.GradientsIdeal.nD Cert.GradientsIdeal.τ).loc Cert.GradientsIdeal.main_arg2)
      ∧ r.2.mem ((c.tc : Thread Cert.GradientsIdeal.nD Cert.GradientsIdeal.τ).loc Cert.GradientsIdeal.main_arg3) = m ((c.tc : Thread Cert.GradientsIdeal.nD Cert.GradientsIdeal.τ).loc Cert.GradientsIdeal.main_arg3)
      ∧ r.2.mem ((c.tc : Thread Cert.GradientsIdeal.nD Cert.GradientsIdeal.τ).loc Cert.GradientsIdeal.main_arg4) = m ((c.tc : Thread Cert.GradientsIdeal.nD Cert.GradientsIdeal.τ).loc Cert.GradientsIdeal.main_arg4)
      ∧ r.2.mem ((c.tc : Thread Cert.GradientsIdeal.nD Cert.GradientsIdeal.τ).loc Cert.GradientsIdeal.main_arg5) = m ((c.tc : Thread Cert.GradientsIdeal.nD Cert.GradientsIdeal.τ).loc Cert.GradientsIdeal.main_arg5)
      ∧ r.2.mem ((c.tc : Thread Cert.GradientsIdeal.nD Cert.GradientsIdeal.τ).loc Cert.GradientsIdeal.main_arg6) = m ((c.tc : Thread Cert.GradientsIdeal.nD Cert.GradientsIdeal.τ).loc Cert.GradientsIdeal.main_arg6)
      ∧ r.2.mem ((c.tc : Thread Cert.GradientsIdeal.nD Cert.GradientsIdeal.τ).loc Cert.GradientsIdeal.main_arg7) = m ((c.tc : Thread Cert.GradientsIdeal.nD Cert.GradientsIdeal.τ).loc Cert.GradientsIdeal.main_arg7)
      ∧ r.2.mem ((c.tc : Thread Cert.GradientsIdeal.nD Cert.GradientsIdeal.τ).loc Cert.GradientsIdeal.main_arg8) = m ((c.tc : Thread Cert.GradientsIdeal.nD Cert.GradientsIdeal.τ).loc Cert.GradientsIdeal.main_arg8)
      ∧ r.2.mem ((c.tc : Thread Cert.GradientsIdeal.nD Cert.GradientsIdeal.τ).loc Cert.GradientsIdeal.main_arg9) = m ((c.tc : Thread Cert.GradientsIdeal.nD Cert.GradientsIdeal.τ).loc Cert.GradientsIdeal.main_arg9)) :=
  (θ_run _ _ _).mono (fun _ h c => ⟨(h.2 c).1 9, (h.2 c).1 10, (h.2 c).1 11, (h.2 c).1 12, (h.2 c).1 13, (h.2 c).1 14, (h.2 c).1 15, h.1 c⟩)
    (θ_run_and (Cert.GradientsIdeal.Hand.unchanged m ρ) (Cert.GradientsIdeal.Hand.run_main m ρ))

/-- The results agree, device by device. -/
theorem results_eq (m : (ℓ : Loc Cert.GradientsIdeal.nD Cert.GradientsIdeal.τ Cert.GradientsIdeal.sig) → Buf (Elt Ideal) ℓ) (m' : (ℓ : Loc Cert.GradientsRefIdeal.nD Cert.GradientsRefIdeal.τ Cert.GradientsRefIdeal.sig) → Buf (Elt Ideal) ℓ) (c : Dev Cert.GradientsIdeal.nD)
    (h3 : Fin32 (m ((c.tc : Thread Cert.GradientsIdeal.nD Cert.GradientsIdeal.τ).loc Cert.GradientsIdeal.main_arg3)))
    (h4 : Fin32 (m ((c.tc : Thread Cert.GradientsIdeal.nD Cert.GradientsIdeal.τ).loc Cert.GradientsIdeal.main_arg4)))
    (hag : m' ((c.tc : Thread Cert.GradientsRefIdeal.nD Cert.GradientsRefIdeal.τ).loc Cert.GradientsRefIdeal.main_arg0) = m ((c.tc : Thread Cert.GradientsIdeal.nD Cert.GradientsIdeal.τ).loc Cert.GradientsIdeal.main_arg0)
      ∧ m' ((c.tc : Thread Cert.GradientsRefIdeal.nD Cert.GradientsRefIdeal.τ).loc Cert.GradientsRefIdeal.main_arg1) = m ((c.tc : Thread Cert.GradientsIdeal.nD Cert.GradientsIdeal.τ).loc Cert.GradientsIdeal.main_arg1)
      ∧ m' ((c.tc : Thread Cert.GradientsRefIdeal.nD Cert.GradientsRefIdeal.τ).loc Cert.GradientsRefIdeal.main_arg2) = m ((c.tc : Thread Cert.GradientsIdeal.nD Cert.GradientsIdeal.τ).loc Cert.GradientsIdeal.main_arg2)
      ∧ m' ((c.tc : Thread Cert.GradientsRefIdeal.nD Cert.GradientsRefIdeal.τ).loc Cert.GradientsRefIdeal.main_arg3) = m ((c.tc : Thread Cert.GradientsIdeal.nD Cert.GradientsIdeal.τ).loc Cert.GradientsIdeal.main_arg3)
      ∧ m' ((c.tc : Thread Cert.GradientsRefIdeal.nD Cert.GradientsRefIdeal.τ).loc Cert.GradientsRefIdeal.main_arg4) = m ((c.tc : Thread Cert.GradientsIdeal.nD Cert.GradientsIdeal.τ).loc Cert.GradientsIdeal.main_arg4)
      ∧ m' ((c.tc : Thread Cert.GradientsRefIdeal.nD Cert.GradientsRefIdeal.τ).loc Cert.GradientsRefIdeal.main_arg5) = m ((c.tc : Thread Cert.GradientsIdeal.nD Cert.GradientsIdeal.τ).loc Cert.GradientsIdeal.main_arg5)
      ∧ m' ((c.tc : Thread Cert.GradientsRefIdeal.nD Cert.GradientsRefIdeal.τ).loc Cert.GradientsRefIdeal.main_arg6) = m ((c.tc : Thread Cert.GradientsIdeal.nD Cert.GradientsIdeal.τ).loc Cert.GradientsIdeal.main_arg6)
      ∧ m' ((c.tc : Thread Cert.GradientsRefIdeal.nD Cert.GradientsRefIdeal.τ).loc Cert.GradientsRefIdeal.main_arg7) = m ((c.tc : Thread Cert.GradientsIdeal.nD Cert.GradientsIdeal.τ).loc Cert.GradientsIdeal.main_arg7)
      ∧ m' ((c.tc : Thread Cert.GradientsRefIdeal.nD Cert.GradientsRefIdeal.τ).loc Cert.GradientsRefIdeal.main_arg8) = m ((c.tc : Thread Cert.GradientsIdeal.nD Cert.GradientsIdeal.τ).loc Cert.GradientsIdeal.main_arg8)
      ∧ m' ((c.tc : Thread Cert.GradientsRefIdeal.nD Cert.GradientsRefIdeal.τ).loc Cert.GradientsRefIdeal.main_arg9) = m ((c.tc : Thread Cert.GradientsIdeal.nD Cert.GradientsIdeal.τ).loc Cert.GradientsIdeal.main_arg9)) :
    (Cert.GradientsRefIdeal.Gen.dats m' 0 c).arrAt 10 Cert.GradientsRefIdeal.cfg0.N = (Cert.GradientsIdeal.Hand.dats m 0 c).arrAt 9 Cert.GradientsIdeal.cfg0.N
      ∧ (Cert.GradientsRefIdeal.Gen.dats m' 0 c).arrAt 11 Cert.GradientsRefIdeal.cfg0.N = (Cert.GradientsIdeal.Hand.dats m 0 c).arrAt 10 Cert.GradientsIdeal.cfg0.N
      ∧ (Cert.GradientsRefIdeal.Gen.dats m' 0 c).arrAt 12 Cert.GradientsRefIdeal.cfg0.N = (Cert.GradientsIdeal.Hand.dats m 0 c).arrAt 11 Cert.GradientsIdeal.cfg0.N
      ∧ (Cert.GradientsRefIdeal.Gen.dats m' 0 c).arrAt 13 Cert.GradientsRefIdeal.cfg0.N = (Cert.GradientsIdeal.Hand.dats m 0 c).arrAt 12 Cert.GradientsIdeal.cfg0.N
      ∧ (Cert.GradientsRefIdeal.Gen.dats m' 0 c).arrAt 14 Cert.GradientsRefIdeal.cfg0.N = (Cert.GradientsIdeal.Hand.dats m 0 c).arrAt 13 Cert.GradientsIdeal.cfg0.N
      ∧ (Cert.GradientsRefIdeal.Gen.dats m' 0 c).arrAt 15 Cert.GradientsRefIdeal.cfg0.N = (Cert.GradientsIdeal.Hand.dats m 0 c).arrAt 14 Cert.GradientsIdeal.cfg0.N
      ∧ (Cert.GradientsRefIdeal.Gen.dats m' 0 c).arrAt 16 Cert.GradientsRefIdeal.cfg0.N = (Cert.GradientsIdeal.Hand.dats m 0 c).arrAt 15 Cert.GradientsIdeal.cfg0.N := by
  obtain ⟨e0, e1, e2, e3, e4, e5, e6, e7, e8, e9⟩ := hag
  have k3 : Cert.GradientsIdeal.Hand.amA m c = m ((c.tc : Thread Cert.GradientsIdeal.nD Cert.GradientsIdeal.τ).loc Cert.GradientsIdeal.main_arg3) := (Cert.GradientsIdeal.Hand.blk2 m c _).trans (Cert.GradientsIdeal.Gen.V_main_arg3 m c)
  have k4 : Cert.GradientsIdeal.Hand.amH m c = m ((c.tc : Thread Cert.GradientsIdeal.nD Cert.GradientsIdeal.τ).loc Cert.GradientsIdeal.main_arg4) := (Cert.GradientsIdeal.Hand.blk3 m c _).trans (Cert.GradientsIdeal.Gen.V_main_arg4 m c)
  obtain ⟨eA, rA, sA, iA⟩ := Cert.GradientsIdeal.Hand.scaleA _ h3
  obtain ⟨eH, rH, sH, iH⟩ := Cert.GradientsIdeal.Hand.scaleH _ h4
  rw [← k3] at sA iA
  rw [← k4] at sH iH
  rw [← e3, ← Cert.GradientsRefIdeal.Gen.V_main_arg3 m' c] at rA
  rw [← e4, ← Cert.GradientsRefIdeal.Gen.V_main_arg4 m' c] at rH
  refine ⟨(Cert.GradientsRefIdeal.Hand.res_dx c rH).trans (Eq.trans ?_ (Cert.GradientsIdeal.Hand.res_dx c iH sH).symm),
    (Cert.GradientsRefIdeal.Hand.res_dw1 c rH).trans (Eq.trans ?_ (Cert.GradientsIdeal.Hand.res_dw1 c iH sH).symm),
    (Cert.GradientsRefIdeal.Hand.res_dw2 c rA).trans (Eq.trans ?_ (Cert.GradientsIdeal.Hand.res_dw2 c iA sA).symm),
    (Cert.GradientsRefIdeal.Hand.res_ac c rA).trans (Eq.trans ?_ (Cert.GradientsIdeal.Hand.res_ac c iA).symm),
    (Cert.GradientsRefIdeal.Hand.res_hc c rH).trans (Eq.trans ?_ (Cert.GradientsIdeal.Hand.res_hc c iH).symm),
    (Cert.GradientsRefIdeal.Hand.res_sa c rA).trans (Cert.GradientsIdeal.Hand.res_sa c sA).symm,
    (Cert.GradientsRefIdeal.Hand.res_sh c rH).trans (Cert.GradientsIdeal.Hand.res_sh c sH).symm⟩
  · exact DX_congr (congrFun e1 _) (e8.trans (Cert.GradientsIdeal.Gen.V_main_arg8 m c).symm) ((Cert.GradientsRefIdeal.Gen.V_main_arg9 m' c).trans (e9.trans (Cert.GradientsIdeal.Gen.V_main_arg9 m c).symm))
  · exact DW1_congr (congrFun e0 _) (e8.trans (Cert.GradientsIdeal.Gen.V_main_arg8 m c).symm) ((Cert.GradientsRefIdeal.Gen.V_main_arg5 m' c).trans (e5.trans (Cert.GradientsIdeal.Gen.V_main_arg5 m c).symm))
  · exact DW2_congr (congrFun ((Cert.GradientsRefIdeal.Gen.V_main_arg2 m' c).trans (e2.trans (Cert.GradientsIdeal.Gen.V_main_arg2 m c).symm)) _) (e7.trans (Cert.GradientsIdeal.Gen.V_main_arg7 m c).symm) ((Cert.GradientsRefIdeal.Gen.V_main_arg6 m' c).trans (e6.trans (Cert.GradientsIdeal.Gen.V_main_arg6 m c).symm))
  · exact congrArg (Cert.GradientsIdeal.Hand.AC eA) (e7.trans (Cert.GradientsIdeal.Gen.V_main_arg7 m c).symm)
  · exact congrArg (Cert.GradientsIdeal.Hand.HC eH) (e8.trans (Cert.GradientsIdeal.Gen.V_main_arg8 m c).symm)

theorem algebraic : @Cert.algebraic_GradientsIdeal_GradientsRefIdeal_pre_amax_finite Cert.GradientsIdeal.Gen.facts Cert.GradientsRefIdeal.Gen.facts preFacts :=
  fun m ρ m' ρ' hpre hag => ⟨fun c => (Cert.GradientsIdeal.Hand.dats m 0 c).arrAt 9 Cert.GradientsIdeal.cfg0.N, fun c => (Cert.GradientsIdeal.Hand.dats m 0 c).arrAt 10 Cert.GradientsIdeal.cfg0.N, fun c => (Cert.GradientsIdeal.Hand.dats m 0 c).arrAt 11 Cert.GradientsIdeal.cfg0.N, fun c => (Cert.GradientsIdeal.Hand.dats m 0 c).arrAt 12 Cert.GradientsIdeal.cfg0.N, fun c => (Cert.GradientsIdeal.Hand.dats m 0 c).arrAt 13 Cert.GradientsIdeal.cfg0.N, fun c => (Cert.GradientsIdeal.Hand.dats m 0 c).arrAt 14 Cert.GradientsIdeal.cfg0.N, fun c => (Cert.GradientsIdeal.Hand.dats m 0 c).arrAt 15 Cert.GradientsIdeal.cfg0.N,
    run_kernel m ρ,
    (θ_run _ _ _).mono (fun _ h c => by
      obtain ⟨p3, p4⟩ := pre_read _ _ _ _ _ _ _ _ _ _ (hpre c)
      obtain ⟨q0, q1, q2, q3, q4, q5, q6⟩ := results_eq m m' c p3 p4 (hag c)
      obtain ⟨r0, r1, r2, r3, r4, r5, r6, rest⟩ := h c
      exact ⟨r0.trans q0, r1.trans q1, r2.trans q2, r3.trans q3, r4.trans q4, r5.trans q5, r6.trans q6, rest⟩)
      (Cert.GradientsRefIdeal.Value.run_blocks m' ρ')⟩

end Cert.Hand
-- ==== Proof.QMax.lean ====
/- The quantise call's two loops: the first carries eight rows of running maxima over the whole input, so that their
   largest entry is the largest magnitude of the input; the second writes the codes, 32 rows a trip. -/
module

public import proofs.«01_k».proof.Proof.GScale
public import proofs.«01_k».proof.Proof.Gen.QuantiseDyIdeal.Value

@[expose] public section

set_option maxRecDepth 16384

noncomputable section

namespace Cert.QuantiseDyIdeal.Hand

open Idealize.ShloMosaic.Tactic
open Cert.QuantiseDyIdeal Cert.QuantiseDyIdeal.Gen
open Idealize.ShloMosaic hiding ix0 ix1 ix2 ix3 ix4 ix5
open Idealize.ShloMosaic.ValueIdx
open Cert.GradientsIdeal.Hand (pw scale_spec constH maxFinite ninf_eq div_pw bexp sexp rscale readWhole)

/-! ## The largest magnitude, two ways -/

/-- The magnitude of one entry. -/
def mag (x : Vec Ideal S1536x2304 .bf16) (r : ℕ) (hr : r < 1536) (q : Fin 2304) : EReal :=
  max (x (ix2 (⟨r, hr⟩ : Fin 1536) q)) (-(x (ix2 (⟨r, hr⟩ : Fin 1536) q)))

/-- The largest magnitude. -/
def amq (x : Vec Ideal S1536x2304 .bf16) : EReal :=
  Finset.univ.fold max (Ideal.ofBits .f32 0xFF800000#32) fun p : Fin 1536 × Fin 2304 => mag x p.1.val p.1.isLt p.2

/-- The largest entry of the eight rows of running maxima. -/
def amx (v : Vec Ideal S8x2304 .f32) : EReal :=
  Finset.univ.fold max (Ideal.ofBits .f32 0xFF800000#32) fun p : Fin 8 × Fin 2304 => v (ix2 p.1 p.2)

theorem mag_nonneg (x : Vec Ideal S1536x2304 .bf16) (r : ℕ) (hr : r < 1536) (q : Fin 2304) : 0 ≤ mag x r hr q := by
  unfold mag
  rcases le_total (0 : EReal) (x (ix2 (⟨r, hr⟩ : Fin 1536) q)) with h | h
  · exact h.trans (le_max_left _ _)
  · exact (EReal.neg_nonneg.mpr h).trans (le_max_right _ _)

/-- Eight rows hold, at row `a`, the maxima over the rows `8 r + a` below `16 k`. -/
def Holds (x : Vec Ideal S1536x2304 .bf16) (k : ℕ) (v : Vec Ideal S8x2304 .f32) : Prop :=
  ∀ (a : Fin 8) (q : Fin 2304) (B : EReal), (v (ix2 a q) : EReal) ≤ B ↔ 0 ≤ B ∧ ∀ r : ℕ, r < 2 * k → ∀ h : 8 * r + a.val < 1536, mag x (8 * r + a.val) h q ≤ B

/-- After the last trip the largest of the running maxima is the largest magnitude. -/
theorem amx_eq (x : Vec Ideal S1536x2304 .bf16) (v : Vec Ideal S8x2304 .f32) (h : Holds x 96 v) : amx v = amq x := by
  refine eq_of_forall_ge_iff fun B => ?_
  unfold amx amq
  rw [Finset.fold_max_le, Finset.fold_max_le, ninf_eq]
  refine and_congr_right fun _ => ⟨fun g p _ => ?_, fun g p _ => ?_⟩
  · have hp := p.1.isLt
    have e := ((h ⟨p.1.val % 8, by omega⟩ p.2 B).mp (g (⟨p.1.val % 8, by omega⟩, p.2) (Finset.mem_univ _))).2 (p.1.val / 8) (by omega) (by dsimp only; omega)
    have : 8 * (p.1.val / 8) + p.1.val % 8 = p.1.val := by omega
    dsimp only at e
    simp only [this] at e
    exact e
  · refine (h p.1 p.2 B).mpr ⟨?_, fun r _ hr => g (⟨8 * r + p.1.val, hr⟩, p.2) (Finset.mem_univ _)⟩
    exact (mag_nonneg x p.1.val (by omega) p.2).trans (g (⟨p.1.val, by omega⟩, p.2) (Finset.mem_univ _))

/-! ## The first loop -/

section
variable {F : FTy → Type} [FloatOps F]
variable (c : Dev nD) (arg0 : Memref sig .tc .vmem S1536x2304 .bf16) (harg0 : arg0.IsWhole) (arg1 : Memref sig .tc .vmem S1536x2304 .fp8e4m3) (harg1 : arg1.IsWhole) (arg2 : Memref sig .tc .vmem S1536x2304 .fp8e5m2) (harg2 : arg2.IsWhole) (arg3 : Memref sig .tc .vmem S8x128 .f32) (harg3 : arg3.IsWhole) (arg4 : Memref sig .tc .vmem S2304x1536 .fp8e4m3) (harg4 : arg4.IsWhole)

/-- One trip's yield. -/
theorem yield_eq (X : BufTy.Contents (Elt F) arg0.view.ty) (k : Fin k0_t1_loop.trips) (acc : FVec F S8x2304 .f32) :
    tripR_k0_t1 Variants.none c none arg0 harg0 arg1 harg1 arg2 harg2 arg3 harg3 arg4 harg4 X k acc
      = k0_pay4 acc (View.readAt (Elt F) arg0.view (Rect.unit (s := S1536x2304) (k0_off1 k) S16x2304.size (k0_off1_inb k)).toLoadRect X) := by
  unfold tripR_k0_t1 trip_k0_t1
  rfl

/-- One trip's store. -/
theorem store_eq (v : FVec F S1x1 .f32) (X : BufTy.Contents (Elt F) arg0.view.ty) (k : Fin k0_t2_loop.trips) :
    tripL_k0_t2 Variants.none c none arg0 harg0 arg1 harg1 arg2 harg2 arg3 harg3 arg4 harg4 v X k
      = [⟨Rect.unit (s := S1536x2304) (k0_off2 k) S32x2304.size (k0_off2_inb k), k0_pay1 v (View.readAt (Elt F) arg0.view (Rect.unit (s := S1536x2304) (k0_off2 k) S32x2304.size (k0_off2_inb k)).toLoadRect X)⟩] := by
  unfold tripL_k0_t2 trip_k0_t2
  rfl

/-- Row `a` of a trip's 16 rows. -/
theorem load1 (x0 : Vec F S1536x2304 .bf16) (k : Fin k0_t1_loop.trips) (a : Fin 16) (q : Fin 2304) (h : 16 * k.val + a.val < 1536) :
    View.readAt (Elt F) arg0.view (Rect.unit (s := S1536x2304) (k0_off1 k) S16x2304.size (k0_off1_inb k)).toLoadRect (harg0.unread x0) (ix2 a q : S16x2304.Idx)
      = x0 (ix2 (⟨16 * k.val + a.val, h⟩ : Fin 1536) q) := by
  refine (harg0.readAt_unread x0 _ _).trans (congrArg x0 ?_)
  have e := k0_off1_eq k
  funext b; apply Fin.ext
  match b with
  | ⟨0, _⟩ => show k0_off1 k 0 + 1 * a.val = 16 * k.val + a.val; rw [e]; show 16 * k.val + 1 * a.val = _; omega
  | ⟨1, _⟩ => show k0_off1 k 1 + 1 * q.val = q.val; rw [e]; show 0 + 1 * q.val = _; omega

/-- Row `a` of a trip's 32 rows. -/
theorem load2 (x0 : Vec F S1536x2304 .bf16) (k : Fin k0_t2_loop.trips) (j : S32x2304.Idx) :
    View.readAt (Elt F) arg0.view (Rect.unit (s := S1536x2304) (k0_off2 k) S32x2304.size (k0_off2_inb k)).toLoadRect (harg0.unread x0) j
      = x0 ((Rect.unit (s := S1536x2304) (k0_off2 k) S32x2304.size (k0_off2_inb k)).emb j) :=
  harg0.readAt_unread x0 _ _

end

/-- One trip's maximum, at an index. -/
theorem pay4_apply (acc : FVec Ideal S8x2304 .f32) (v : Vec Ideal S16x2304 .bf16) (a : Fin 8) (q : Fin 2304) :
    k0_pay4 acc v (ix2 a q) = max (max (acc (ix2 a q)) (max (v (ix2 (⟨a.val, by omega⟩ : Fin 16) q)) (-(v (ix2 (⟨a.val, by omega⟩ : Fin 16) q)))))
      (max (v (ix2 (⟨8 + a.val, by omega⟩ : Fin 16) q)) (-(v (ix2 (⟨8 + a.val, by omega⟩ : Fin 16) q)))) := by
  unfold k0_pay4
  pointwise
  rfl

theorem pay3_apply (y : S8x2304.Idx) : k0_pay3 (F := Ideal) y = (0 : EReal) := by
  unfold k0_pay3
  pointwise

section
variable (c : Dev nD) (arg0 : Memref sig .tc .vmem S1536x2304 .bf16) (harg0 : arg0.IsWhole) (arg1 : Memref sig .tc .vmem S1536x2304 .fp8e4m3) (harg1 : arg1.IsWhole) (arg2 : Memref sig .tc .vmem S1536x2304 .fp8e5m2) (harg2 : arg2.IsWhole) (arg3 : Memref sig .tc .vmem S8x128 .f32) (harg3 : arg3.IsWhole) (arg4 : Memref sig .tc .vmem S2304x1536 .fp8e4m3) (harg4 : arg4.IsWhole)

/-- What the first loop carries after `k` trips. -/
theorem carried (x0 : Vec Ideal S1536x2304 .bf16) : ∀ k : ℕ, k ≤ k0_t1_loop.trips →
    Holds x0 k (st_k0_t1 Variants.none c none arg0 harg0 arg1 harg1 arg2 harg2 arg3 harg3 arg4 harg4 (harg0.unread x0) (k0_pay3 (F := Ideal)) k)
  | 0, _ => fun a q B => by
      rw [st_k0_t1_zero, pay3_apply]
      exact ⟨fun h => ⟨h, fun r hr => absurd hr (by omega)⟩, fun h => h.1⟩
  | k + 1, hk => fun a q B => by
      have ih := carried x0 k (by omega) a q B
      have h96 : k0_t1_loop.trips ≤ 96 := k0_t1_abs.2.1
      rw [st_k0_t1_succ Variants.none c none arg0 harg0 arg1 harg1 arg2 harg2 arg3 harg3 arg4 harg4 (harg0.unread x0) (k0_pay3 (F := Ideal)) (⟨k, by omega⟩ : Fin k0_t1_loop.trips), yield_eq, pay4_apply,
        load1 arg0 harg0 x0 _ _ q (by dsimp only; omega), load1 arg0 harg0 x0 _ _ q (by dsimp only; omega)]
      dsimp only
      rw [max_le_iff, max_le_iff, ih]
      constructor
      · rintro ⟨⟨⟨h0, hr⟩, h1⟩, h2⟩
        refine ⟨h0, fun r hlt h => ?_⟩
        rcases Nat.lt_or_ge r (2 * k) with hl | hl
        · exact hr r hl h
        · have : r = 2 * k ∨ r = 2 * k + 1 := by omega
          rcases this with rfl | rfl
          · have e : 8 * (2 * k) + a.val = 16 * k + a.val := by omega
            simp only [e]; exact h1
          · have e : 8 * (2 * k + 1) + a.val = 16 * k + (8 + a.val) := by omega
            simp only [e]; exact h2
      · rintro ⟨h0, hr⟩
        refine ⟨⟨⟨h0, fun r hl h => hr r (by omega) h⟩, ?_⟩, ?_⟩
        · have g := hr (2 * k) (by omega) (by omega)
          have e : 8 * (2 * k) + a.val = 16 * k + a.val := by omega
          simp only [e] at g; exact g
        · have g := hr (2 * k + 1) (by omega) (by omega)
          have e : 8 * (2 * k + 1) + a.val = 16 * k + (8 + a.val) := by omega
          simp only [e] at g; exact g

/-- The running maxima when the first loop ends. -/
abbrev lastMax (x0 : Vec Ideal S1536x2304 .bf16) : FVec Ideal S8x2304 .f32 :=
  st_k0_t1 Variants.none c none arg0 harg0 arg1 harg1 arg2 harg2 arg3 harg3 arg4 harg4 (harg0.unread x0) (k0_pay3 (F := Ideal)) (Scf.trips k0_t1_loop.lb k0_t1_loop.ub k0_t1_loop.st)

theorem trips1 : Scf.trips k0_t1_loop.lb k0_t1_loop.ub k0_t1_loop.st = 96 := by decide +kernel
theorem trips2 : Scf.trips k0_t2_loop.lb k0_t2_loop.ub k0_t2_loop.st = 48 := by decide +kernel

/-- Their largest is the largest magnitude of the input. -/
theorem lastMax_eq (x0 : Vec Ideal S1536x2304 .bf16) : amx (lastMax c arg0 harg0 arg1 harg1 arg2 harg2 arg3 harg3 arg4 harg4 x0) = amq x0 := by
  refine amx_eq x0 _ ?_
  have h := carried c arg0 harg0 arg1 harg1 arg2 harg2 arg3 harg3 arg4 harg4 x0 (Scf.trips k0_t1_loop.lb k0_t1_loop.ub k0_t1_loop.st) le_rfl
  have e : (Scf.trips k0_t1_loop.lb k0_t1_loop.ub k0_t1_loop.st) = 96 := trips1
  unfold lastMax
  revert h
  rw [e]
  exact id

end

/-! ## The scale -/

theorem pay7_apply (v : FVec Ideal S8x2304 .f32) (y : S8x128.Idx) :
    k0_pay7 v y = Ideal.ofBits .f32 (IntOp.shli .vector (IntOp.addi 127#32 (sexp (bexp (amx v * Ideal.ofBits .f32 0x37924925#32)))) 23#32) := by
  unfold k0_pay7 k0_pay5
  pointwise
  rfl

theorem pay6_apply (v : FVec Ideal S8x2304 .f32) (y : S1x1.Idx) :
    k0_pay6 v y = Ideal.ofBits .f32 (IntOp.shli .vector (IntOp.subi 127#32 (sexp (bexp (amx v * Ideal.ofBits .f32 0x37924925#32)))) 23#32) := by
  unfold k0_pay6 k0_pay5
  pointwise
  rfl

/-- Over finite input the ratio stays below `2^120`. -/
theorem ratio_lt (x : Vec Ideal S1536x2304 .bf16) (hx : ∀ r hr q, mag x r hr q ≤ Ideal.ofBits .f32 0x7F7FFFFF#32) (c : ℝ) (h0 : 0 < c) (h1 : c ≤ 2 ^ (-8 : ℤ)) :
    amq x * (c : EReal) < pw 120 := by
  obtain ⟨M, hM, hM1⟩ := maxFinite
  have ha : amq x ≤ (M : EReal) := by
    refine (Finset.fold_max_le _).mpr ⟨?_, fun i _ => ?_⟩
    · rw [ninf_eq]; exact bot_le
    · rw [← hM]; exact hx _ _ _
  generalize amq x = a at ha
  induction a with
  | bot => rw [EReal.bot_mul_coe_of_pos h0]; exact EReal.bot_lt_coe _
  | top => exact absurd ha (not_le.mpr (EReal.coe_lt_top _))
  | coe r =>
    rw [EReal.coe_le_coe_iff] at ha
    unfold pw
    rw [← EReal.coe_mul, EReal.coe_lt_coe_iff]
    calc r * c ≤ (16777215 * 2 ^ (104 : ℤ)) * c := mul_le_mul_of_nonneg_right (ha.trans hM1) h0.le
      _ ≤ (16777215 * 2 ^ (104 : ℤ)) * 2 ^ (-8 : ℤ) := mul_le_mul_of_nonneg_left h1 (by positivity)
      _ < 2 ^ (120 : ℤ) := by norm_num

end Cert.QuantiseDyIdeal.Hand
-- ==== Proof.QEq.lean ====
/- The value claim of the quantise call: over finite input the call and its reference end with equal results. -/
module

public import proofs.«01_k».proof.Defs
public import proofs.«01_k».proof.Proof.QMax
public import proofs.«01_k».proof.Proof.Gen.QuantiseDyRefIdeal.Value
public import Idealize.ShloMosaic.Adequacy

@[expose] public section

set_option maxRecDepth 16384

noncomputable section

namespace Cert.QuantiseDyIdeal.Hand

open Idealize.ShloMosaic.Tactic
open Cert.QuantiseDyIdeal Cert.QuantiseDyIdeal.Gen
open Idealize.ShloMosaic hiding ix0 ix1 ix2 ix3 ix4 ix5
open Idealize.ShloMosaic.ValueIdx
open Idealize.ShloMosaic.TcCoe Idealize.SL.Sem
open Cert.GradientsIdeal.Hand (pw scale_spec constH div_pw bexp sexp rscale codeH wholePiece)

/-! ## The reference's payloads -/

theorem ref_scale (x : Vec Ideal S1536x2304 .bf16) (y : S1x1.Idx) :
    Cert.QuantiseDyRefIdeal.Gen.k0_pay2 x y = rscale (amq x * Ideal.ofBits .f32 0x37924925#32) := by
  unfold Cert.QuantiseDyRefIdeal.Gen.k0_pay2 Cert.QuantiseDyRefIdeal.Gen.k0_pay1
  pointwise
  rfl

theorem ref_codes_at (s : FVec Ideal Cert.QuantiseDyRefIdeal.S1x1 .f32) (x : Vec Ideal Cert.QuantiseDyRefIdeal.S1536x2304 .bf16) (z : EReal) (h : ∀ y, s y = z) (y : Cert.QuantiseDyRefIdeal.S1536x2304.Idx) :
    (truncf .fp8e5m2 (minimumf (broadcast Cert.QuantiseDyRefIdeal.S1536x2304 (Scalar.ofBits .f32 0x47600000#32 : Ideal .f32))
      (maximumf (broadcast Cert.QuantiseDyRefIdeal.S1536x2304 (Scalar.ofBits .f32 0xC7600000#32 : Ideal .f32))
        (divf (extf .f32 x Cert.QuantiseDyRefIdeal.Gen.bitsLt_bf16_f32) (broadcastTo Cert.QuantiseDyRefIdeal.S1536x2304 s Cert.QuantiseDyRefIdeal.Gen.broadcasts_S1x1_S1536x2304))))
      Cert.QuantiseDyRefIdeal.Gen.bitsLt_fp8e5m2_f32 y : EReal)
      = FloatOps.truncf (F := Ideal) .fp8e5m2 Cert.QuantiseDyRefIdeal.Gen.bitsLt_fp8e5m2_f32 (FloatOps.minimumf (FloatOps.ofBits .f32 0x47600000#32 : Ideal .f32)
    (FloatOps.maximumf (FloatOps.ofBits .f32 0xC7600000#32 : Ideal .f32) (FloatOps.divf (FloatOps.extf .f32 Cert.QuantiseDyRefIdeal.Gen.bitsLt_bf16_f32 (x y) : Ideal .f32) z))) := by
  pointwise
  rw [h]

theorem code_div (x : Ideal .bf16) (e : ℤ) :
    FloatOps.truncf (F := Ideal) .fp8e5m2 Cert.QuantiseDyRefIdeal.Gen.bitsLt_fp8e5m2_f32 (FloatOps.minimumf (FloatOps.ofBits .f32 0x47600000#32 : Ideal .f32)
      (FloatOps.maximumf (FloatOps.ofBits .f32 0xC7600000#32 : Ideal .f32) (FloatOps.divf (FloatOps.extf .f32 Cert.QuantiseDyRefIdeal.Gen.bitsLt_bf16_f32 x : Ideal .f32) (pw e)))) = codeH (F := Ideal) x (pw (-e)) := by
  have h : (FloatOps.divf (FloatOps.extf .f32 Cert.QuantiseDyRefIdeal.Gen.bitsLt_bf16_f32 x : Ideal .f32) (pw e) : Ideal .f32) = FloatOps.mulf (FloatOps.extf .f32 Cert.QuantiseDyRefIdeal.Gen.bitsLt_bf16_f32 x : Ideal .f32) (pw (-e)) := div_pw _ e
  rw [h]
  unfold codeH
  rfl

theorem ref_codes (x : Vec Ideal S1536x2304 .bf16) (e : ℤ) (h : ∀ y, Cert.QuantiseDyRefIdeal.Gen.k0_pay2 x y = pw e) (y : S1536x2304.Idx) :
    (Cert.QuantiseDyRefIdeal.Gen.k0_pay3 x y : EReal) = codeH (F := Ideal) (x y) (pw (-e)) := by
  unfold Cert.QuantiseDyRefIdeal.Gen.k0_pay3 Cert.QuantiseDyRefIdeal.Gen.k0_pay1
  exact (ref_codes_at _ x _ h y).trans (code_div (x y) e)

theorem ref_broadcast (x : Vec Ideal S1536x2304 .bf16) (e : ℤ) (h : ∀ y, Cert.QuantiseDyRefIdeal.Gen.k0_pay2 x y = pw e) (y : S8x128.Idx) :
    Cert.QuantiseDyRefIdeal.Gen.k0_pay4 x y = pw e := by
  unfold Cert.QuantiseDyRefIdeal.Gen.k0_pay4
  generalize Cert.QuantiseDyRefIdeal.Gen.k0_pay2 x = s at h ⊢
  pointwise
  rw [h]

/-! ## The kernel's codes of one trip -/

theorem pay1_apply (s : FVec Ideal S1x1 .f32) (v : Vec Ideal S32x2304 .bf16) (z : EReal) (h : ∀ y, s y = z) (j : S32x2304.Idx) :
    (k0_pay1 s v j : EReal) = codeH (F := Ideal) (v j) z := by
  unfold k0_pay1 codeH
  pointwise
  rw [h]

section
variable (c : Dev nD) (arg0 : Memref sig .tc .vmem S1536x2304 .bf16) (harg0 : arg0.IsWhole) (arg1 : Memref sig .tc .vmem S1536x2304 .fp8e4m3) (harg1 : arg1.IsWhole) (arg2 : Memref sig .tc .vmem S1536x2304 .fp8e5m2) (harg2 : arg2.IsWhole) (arg3 : Memref sig .tc .vmem S8x128 .f32) (harg3 : arg3.IsWhole) (arg4 : Memref sig .tc .vmem S2304x1536 .fp8e4m3) (harg4 : arg4.IsWhole)

/-- Every piece the second loop stores holds the codes of its rows. -/
theorem pieces2 (s : FVec Ideal S1x1 .f32) (x0 : Vec Ideal S1536x2304 .bf16) (z : EReal) (h : ∀ y, s y = z) : ∀ k : ℕ, k ≤ k0_t2_loop.trips →
    ∀ p ∈ pb_k0_t2 Variants.none c none arg0 harg0 arg1 harg1 arg2 harg2 arg3 harg3 arg4 harg4 s (harg0.unread x0) k,
      ∀ j, (p.2 j : EReal) = codeH (F := Ideal) (x0 (p.1.emb j)) z
  | 0, _ => fun p hp => absurd hp List.not_mem_nil
  | k + 1, hk => by
      have ih := pieces2 s x0 z h k (by omega)
      rw [pb_k0_t2_succ Variants.none c none arg0 harg0 arg1 harg1 arg2 harg2 arg3 harg3 arg4 harg4 s (harg0.unread x0) (⟨k, by omega⟩ : Fin k0_t2_loop.trips), store_eq]
      refine List.forall_mem_cons.2 ⟨fun j => ?_, ih⟩
      exact (pay1_apply s _ z h j).trans (congrArg (codeH (F := Ideal) · z) (load2 arg0 harg0 x0 _ j))

/-- The codes the body leaves. -/
theorem out2_eq (x0 : Vec Ideal S1536x2304 .bf16) (x1 : Vec Ideal S1536x2304 .fp8e4m3) (z : EReal)
    (h : ∀ y, k0_pay6 (lastMax c arg0 harg0 arg1 harg1 arg2 harg2 arg3 harg3 arg4 harg4 x0) y = z) (y : S1536x2304.Idx) :
    (out0_A_2 c arg0 harg0 arg1 harg1 arg2 harg2 arg3 harg3 arg4 harg4 x0 x1 y : EReal) = codeH (F := Ideal) (x0 y) z := by
  unfold out0_A_2
  refine View.read_writes_apply_of_pieces VO0_2 _ (fun y => codeH (F := Ideal) (x0 y) z) _ ?_ y (cover0_A_2 c arg0 harg0 arg1 harg1 arg2 harg2 arg3 harg3 arg4 harg4 x0 x1 y)
  exact pieces2 c arg0 harg0 arg1 harg1 arg2 harg2 arg3 harg3 arg4 harg4 _ x0 z h _ le_rfl

/-- The scale the body leaves. -/
theorem out3_eq (x0 : Vec Ideal S1536x2304 .bf16) (x1 : Vec Ideal S1536x2304 .fp8e4m3) (y : S8x128.Idx) :
    out0_A_3 c arg0 harg0 arg1 harg1 arg2 harg2 arg3 harg3 arg4 harg4 x0 x1 y = k0_pay7 (lastMax c arg0 harg0 arg1 harg1 arg2 harg2 arg3 harg3 arg4 harg4 x0) y := by
  unfold out0_A_3
  refine View.read_writes_apply_of_pieces VO0_3 _ (k0_pay7 (lastMax c arg0 harg0 arg1 harg1 arg2 harg2 arg3 harg3 arg4 harg4 x0)) _ ?_ y (cover0_A_3 c arg0 harg0 arg1 harg1 arg2 harg2 arg3 harg3 arg4 harg4 x0 x1 y)
  refine List.forall_mem_cons.2 ⟨wholePiece (F := Ideal) (s := S8x128) (e := .f32) (k0_pay7 (lastMax c arg0 harg0 arg1 harg1 arg2 harg2 arg3 harg3 arg4 harg4 x0)) ![0, 0] inb_S8x128_S8x128_0_0 ?_, fun p hp => absurd hp List.not_mem_nil⟩
  intro a; match a with | ⟨0, _⟩ => rfl | ⟨1, _⟩ => rfl

/-- The transposed block the body leaves. -/
theorem out4_eq (x0 : Vec Ideal S1536x2304 .bf16) (x1 : Vec Ideal S1536x2304 .fp8e4m3) (y : S2304x1536.Idx) :
    out0_A_4 c arg0 harg0 arg1 harg1 arg2 harg2 arg3 harg3 arg4 harg4 x0 x1 y = k0_pay2 x1 y := by
  unfold out0_A_4
  refine View.read_writes_apply_of_pieces VO0_4 _ (k0_pay2 x1) _ ?_ y (cover0_A_4 c arg0 harg0 arg1 harg1 arg2 harg2 arg3 harg3 arg4 harg4 x0 x1 y)
  have e : View.readAt (Elt Ideal) arg1.view (Rect.unit (s := S1536x2304) ![0, 0] S1536x2304.size inb_S1536x2304_S1536x2304_0_0).toLoadRect (harg1.unread x1) = x1 := by
    funext j
    refine (harg1.readAt_unread x1 _ _).trans (congrArg x1 ?_)
    funext a; apply Fin.ext
    match a with
    | ⟨0, _⟩ => show 0 + 1 * (j 0).val = (j 0).val; omega
    | ⟨1, _⟩ => show 0 + 1 * (j 1).val = (j 1).val; omega
  refine List.forall_mem_cons.2 ⟨fun j => (congrFun (congrArg k0_pay2 e) j).trans (wholePiece (F := Ideal) (s := S2304x1536) (e := .fp8e4m3) (k0_pay2 x1) ![0, 0] inb_S2304x1536_S2304x1536_0_0 ?_ j), fun p hp => absurd hp List.not_mem_nil⟩
  intro a; match a with | ⟨0, _⟩ => rfl | ⟨1, _⟩ => rfl

/-- The body's three results are the reference's. -/
theorem outs_eq (x0 : Vec Ideal S1536x2304 .bf16) (x1 : Vec Ideal S1536x2304 .fp8e4m3) (hx : ∀ r hr q, mag x0 r hr q ≤ Ideal.ofBits .f32 0x7F7FFFFF#32) :
    out0_A_2 c arg0 harg0 arg1 harg1 arg2 harg2 arg3 harg3 arg4 harg4 x0 x1 = Cert.QuantiseDyRefIdeal.Gen.k0_pay3 x0
    ∧ out0_A_3 c arg0 harg0 arg1 harg1 arg2 harg2 arg3 harg3 arg4 harg4 x0 x1 = Cert.QuantiseDyRefIdeal.Gen.k0_pay4 x0
    ∧ out0_A_4 c arg0 harg0 arg1 harg1 arg2 harg2 arg3 harg3 arg4 harg4 x0 x1 = Cert.QuantiseDyRefIdeal.Gen.k0_pay5 x1 := by
  obtain ⟨k, hk, h0, h1⟩ := constH
  obtain ⟨e, hr, hu, hd⟩ := scale_spec (amq x0 * Ideal.ofBits .f32 0x37924925#32) (by rw [hk]; exact ratio_lt x0 hx k h0 h1)
  have hl := lastMax_eq c arg0 harg0 arg1 harg1 arg2 harg2 arg3 harg3 arg4 harg4 x0
  have hR : ∀ y, Cert.QuantiseDyRefIdeal.Gen.k0_pay2 x0 y = pw e := fun y => (ref_scale x0 y).trans hr
  have hD : ∀ y, k0_pay6 (lastMax c arg0 harg0 arg1 harg1 arg2 harg2 arg3 harg3 arg4 harg4 x0) y = pw (-e) := fun y => by
    rw [pay6_apply, hl]; exact hd
  have hU : ∀ y, k0_pay7 (lastMax c arg0 harg0 arg1 harg1 arg2 harg2 arg3 harg3 arg4 harg4 x0) y = pw e := fun y => by
    rw [pay7_apply, hl]; exact hu
  refine ⟨funext fun y => ?_, funext fun y => ?_, funext fun y => ?_⟩
  · exact (out2_eq c arg0 harg0 arg1 harg1 arg2 harg2 arg3 harg3 arg4 harg4 x0 x1 _ hD y).trans (ref_codes x0 e hR y).symm
  · exact (out3_eq c arg0 harg0 arg1 harg1 arg2 harg2 arg3 harg3 arg4 harg4 x0 x1 y).trans ((hU y).trans (ref_broadcast x0 e hR y).symm)
  · exact out4_eq c arg0 harg0 arg1 harg1 arg2 harg2 arg3 harg3 arg4 harg4 x0 x1 y

end

/-! ## The one grid point's blocks are the arrays -/

theorem idx_zero : ∀ t : Fin cfg0.N, (win0_0.index t (0 : Fin 2) = 0 ∧ win0_0.index t (1 : Fin 2) = 0) ∧ (win0_1.index t (0 : Fin 2) = 0 ∧ win0_1.index t (1 : Fin 2) = 0)
    ∧ (win0_2.index t (0 : Fin 2) = 0 ∧ win0_2.index t (1 : Fin 2) = 0) ∧ (win0_3.index t (0 : Fin 2) = 0 ∧ win0_3.index t (1 : Fin 2) = 0)
    ∧ (win0_4.index t (0 : Fin 2) = 0 ∧ win0_4.index t (1 : Fin 2) = 0) :=
  (by decide +kernel : ∀ t : Fin grid0.N, _)

theorem emb0 (t : Fin cfg0.N) (j : S1536x2304.Idx) : ((cfg0.win 0).blk t).view.emb j = j := by
  obtain ⟨⟨e0, e1⟩, _⟩ := idx_zero t
  funext a; apply Fin.ext
  match a with
  | ⟨0, _⟩ => show win0_0.index t (0 : Fin 2) * 1536 + 1 * (j 0).val = (j 0).val; omega
  | ⟨1, _⟩ => show win0_0.index t (1 : Fin 2) * 2304 + 1 * (j 1).val = (j 1).val; omega

theorem emb1 (t : Fin cfg0.N) (j : S1536x2304.Idx) : ((cfg0.win 1).blk t).view.emb j = j := by
  obtain ⟨_, ⟨e0, e1⟩, _⟩ := idx_zero t
  funext a; apply Fin.ext
  match a with
  | ⟨0, _⟩ => show win0_1.index t (0 : Fin 2) * 1536 + 1 * (j 0).val = (j 0).val; omega
  | ⟨1, _⟩ => show win0_1.index t (1 : Fin 2) * 2304 + 1 * (j 1).val = (j 1).val; omega

theorem emb2 (t : Fin cfg0.N) (j : S1536x2304.Idx) : ((cfg0.win 2).blk t).view.emb j = j := by
  obtain ⟨_, _, ⟨e0, e1⟩, _⟩ := idx_zero t
  funext a; apply Fin.ext
  match a with
  | ⟨0, _⟩ => show win0_2.index t (0 : Fin 2) * 1536 + 1 * (j 0).val = (j 0).val; omega
  | ⟨1, _⟩ => show win0_2.index t (1 : Fin 2) * 2304 + 1 * (j 1).val = (j 1).val; omega

theorem emb3 (t : Fin cfg0.N) (j : S8x128.Idx) : ((cfg0.win 3).blk t).view.emb j = j := by
  obtain ⟨_, _, _, ⟨e0, e1⟩, _⟩ := idx_zero t
  funext a; apply Fin.ext
  match a with
  | ⟨0, _⟩ => show win0_3.index t (0 : Fin 2) * 8 + 1 * (j 0).val = (j 0).val; omega
  | ⟨1, _⟩ => show win0_3.index t (1 : Fin 2) * 128 + 1 * (j 1).val = (j 1).val; omega

theorem emb4 (t : Fin cfg0.N) (j : S2304x1536.Idx) : ((cfg0.win 4).blk t).view.emb j = j := by
  obtain ⟨_, _, _, _, e0, e1⟩ := idx_zero t
  funext a; apply Fin.ext
  match a with
  | ⟨0, _⟩ => show win0_4.index t (0 : Fin 2) * 2304 + 1 * (j 0).val = (j 0).val; omega
  | ⟨1, _⟩ => show win0_4.index t (1 : Fin 2) * 1536 + 1 * (j 1).val = (j 1).val; omega

theorem cut2_eq (t : Fin cfg0.N) (X : Vec Ideal S1536x2304 .fp8e5m2) : (cfg0.win 2).cut (grid0.coords t) X = ((cfg0.win 2).blk t).view.read (Elt Ideal) X := by
  funext j
  show X j = X (((cfg0.win 2).blk t).view.emb j)
  rw [emb2]

theorem cut3_eq (t : Fin cfg0.N) (X : Vec Ideal S8x128 .f32) : (cfg0.win 3).cut (grid0.coords t) X = ((cfg0.win 3).blk t).view.read (Elt Ideal) X := by
  funext j
  show X j = X (((cfg0.win 3).blk t).view.emb j)
  rw [emb3]

theorem cut4_eq (t : Fin cfg0.N) (X : Vec Ideal S2304x1536 .fp8e4m3) : (cfg0.win 4).cut (grid0.coords t) X = ((cfg0.win 4).blk t).view.read (Elt Ideal) X := by
  funext j
  show X j = X (((cfg0.win 4).blk t).view.emb j)
  rw [emb4]

section
variable (m : (ℓ : Loc nD τ sig) → Buf (Elt Ideal) ℓ)

theorem iblk0_eq (c : Dev nD) (t : Fin cfg0.N) : iblk m c 0 t = V m c main_arg0 := by
  funext j; show V m c main_arg0 (((cfg0.win 0).blk t).view.emb j) = V m c main_arg0 j; rw [emb0]

theorem iblk1_eq (c : Dev nD) (t : Fin cfg0.N) : iblk m c 1 t = V m c main_arg1 := by
  funext j; show V m c main_arg1 (((cfg0.win 1).blk t).view.emb j) = V m c main_arg1 j; rw [emb1]

/-- The three arrays the run leaves. -/
theorem finals (c : Dev nD) (hx : ∀ r hr q, mag (V m c main_arg0) r hr q ≤ Ideal.ofBits .f32 0x7F7FFFFF#32) :
    (dats m 0 c).arrAt 2 cfg0.N = Cert.QuantiseDyRefIdeal.Gen.k0_pay3 (V m c main_arg0)
    ∧ (dats m 0 c).arrAt 3 cfg0.N = Cert.QuantiseDyRefIdeal.Gen.k0_pay4 (V m c main_arg0)
    ∧ (dats m 0 c).arrAt 4 cfg0.N = Cert.QuantiseDyRefIdeal.Gen.k0_pay5 (V m c main_arg1) := by
  refine ⟨(dats m 0 c).arrAt_eq_of_cover 2 (Cert.QuantiseDyRefIdeal.Gen.k0_pay3 (V m c main_arg0)) (fun t _ => ?_) fun i => ?_,
    (dats m 0 c).arrAt_eq_of_cover 3 (Cert.QuantiseDyRefIdeal.Gen.k0_pay4 (V m c main_arg0)) (fun t _ => ?_) fun i => ?_,
    (dats m 0 c).arrAt_eq_of_cover 4 (Cert.QuantiseDyRefIdeal.Gen.k0_pay5 (V m c main_arg1)) (fun t _ => ?_) fun i => ?_⟩
  · rw [Cert.QuantiseDyIdeal.Value.flushed2_A, iblk0_eq, iblk1_eq, (outs_eq c _ _ _ _ _ _ _ _ _ _ _ _ hx).1]
    exact cut2_eq t _
  · exact ⟨(⟨0, by decide⟩ : Fin cfg0.N), flush0_2 _, by have h := ((cfg0.win 2).blk (⟨0, by decide⟩ : Fin cfg0.N)).view.emb_mem_set i; rwa [emb2] at h⟩
  · rw [Cert.QuantiseDyIdeal.Value.flushed3_A, iblk0_eq, iblk1_eq, (outs_eq c _ _ _ _ _ _ _ _ _ _ _ _ hx).2.1]
    exact cut3_eq t _
  · exact ⟨(⟨0, by decide⟩ : Fin cfg0.N), flush0_3 _, by have h := ((cfg0.win 3).blk (⟨0, by decide⟩ : Fin cfg0.N)).view.emb_mem_set i; rwa [emb3] at h⟩
  · rw [Cert.QuantiseDyIdeal.Value.flushed4_A, iblk0_eq, iblk1_eq, (outs_eq c _ _ _ _ _ _ _ _ _ _ _ _ hx).2.2]
    exact cut4_eq t _
  · exact ⟨(⟨0, by decide⟩ : Fin cfg0.N), flush0_4 _, by have h := ((cfg0.win 4).blk (⟨0, by decide⟩ : Fin cfg0.N)).view.emb_mem_set i; rwa [emb4] at h⟩

end

end Cert.QuantiseDyIdeal.Hand

namespace Cert.Hand

open Idealize.ShloMosaic hiding ix0 ix1 ix2 ix3 ix4 ix5
open Idealize.ShloMosaic.ValueIdx
open Idealize.ShloMosaic.TcCoe Idealize.SL.Sem

/-- The precondition's side conditions. -/
theorem dyFacts : Cert.Pre_dy_finite.Facts := ⟨by decide, by decide⟩

/-- The precondition, read: every magnitude is at most the largest finite float. -/
theorem dy_read (a0 a1) (h : @Cert.Pre_dy_finite.fn dyFacts Ideal _ a0 a1 = fun _ => 1#1) :
    ∀ r hr q, Cert.QuantiseDyIdeal.Hand.mag a0 r hr q ≤ Ideal.ofBits .f32 0x7F7FFFFF#32 := by
  intro r hr q
  have key : BitVec.ofBool (decide (Cert.QuantiseDyIdeal.Hand.mag a0 r hr q ≤ Ideal.ofBits .f32 0x7F7FFFFF#32)) = 1#1 :=
    congrFun h (ix2 (⟨r, hr⟩ : Fin 1536) q)
  by_contra hc
  rw [decide_eq_false hc] at key
  exact absurd key (by decide)

theorem algebraicQ : @Cert.algebraic_QuantiseDyIdeal_QuantiseDyRefIdeal_pre_dy_finite Cert.QuantiseDyIdeal.Gen.facts Cert.QuantiseDyRefIdeal.Gen.facts dyFacts :=
  fun m ρ m' ρ' hpre hag => ⟨fun c => (Cert.QuantiseDyIdeal.Gen.dats m 0 c).arrAt 2 Cert.QuantiseDyIdeal.cfg0.N,
    fun c => (Cert.QuantiseDyIdeal.Gen.dats m 0 c).arrAt 3 Cert.QuantiseDyIdeal.cfg0.N,
    fun c => (Cert.QuantiseDyIdeal.Gen.dats m 0 c).arrAt 4 Cert.QuantiseDyIdeal.cfg0.N,
    Cert.QuantiseDyIdeal.Value.run_blocks m ρ,
    (θ_run _ _ _).mono (fun _ h c => by
      obtain ⟨f2, f3, f4⟩ := Cert.QuantiseDyIdeal.Hand.finals m c (dy_read _ _ (hpre c))
      obtain ⟨e0, e1⟩ := hag c
      obtain ⟨r0, r1, r2, rest⟩ := h c
      exact ⟨r0.trans ((congrArg Cert.QuantiseDyRefIdeal.Gen.k0_pay3 e0).trans f2.symm),
        r1.trans ((congrArg Cert.QuantiseDyRefIdeal.Gen.k0_pay4 e0).trans f3.symm),
        r2.trans ((congrArg Cert.QuantiseDyRefIdeal.Gen.k0_pay5 e1).trans f4.symm), rest⟩)
      (Cert.QuantiseDyRefIdeal.Value.run m' ρ')⟩

end Cert.Hand
-- ==== Proof.FBlk.lean ====
/- The blocks the forward kernel reads, and its outputs from their blocks. -/
module

public import proofs.«01_k».proof.Proof.Gen.ForwardIdeal.Frame
public import Idealize.ShloMosaic.Lib.Pointwise
public import Idealize.ShloMosaic.Lib.Pipeline.Value

@[expose] public section

set_option maxRecDepth 16384

noncomputable section

namespace Cert.ForwardIdeal.Hand

open Idealize.ShloMosaic.Tactic
open Cert.ForwardIdeal Cert.ForwardIdeal.Gen
open Idealize.ShloMosaic hiding ix0 ix1 ix2 ix3 ix4 ix5
open Idealize.ShloMosaic.ValueIdx
open Idealize.ShloMosaic.TcCoe Idealize.SL.Sem

variable {F : FTy → Type} [FloatOps F]
variable (m : (ℓ : Loc nD τ sig) → Buf (Elt F) ℓ)

theorem widx0 : ∀ t : Fin cfg0.N, win0_0.index t = ![0] := by decide +kernel
theorem widx1 : ∀ t : Fin cfg0.N, win0_1.index t = ![0] := by decide +kernel
theorem widx2 : ∀ t : Fin cfg0.N, win0_2.index t = ![0, 0] := by decide +kernel
theorem widx3 : ∀ t : Fin cfg0.N, win0_3.index t = ![0, 0] := by decide +kernel
theorem widx4 : ∀ t : Fin cfg0.N, win0_4.index t = ![0, 0] := by decide +kernel
theorem widx5 : ∀ t : Fin cfg0.N, win0_5.index t = ![0, min t.val 35] := by decide +kernel
theorem widx6 : ∀ t : Fin cfg0.N, win0_6.index t = ![0, 36 + min t.val 35] := by decide +kernel
theorem widx7 : ∀ t : Fin cfg0.N, win0_7.index t = ![min t.val 35, 0] := by decide +kernel
theorem widx8 : ∀ t : Fin cfg0.N, win0_8.index t = ![t.val - 1, 0, 0] := by decide +kernel
theorem widx9 : ∀ t : Fin cfg0.N, win0_9.index t = ![0, t.val - 1, 0, 0] := by decide +kernel

theorem tlt (t : Fin cfg0.N) : t.val < 37 := by have := t.isLt; have : cfg0.N = 37 := N_0; omega
theorem flush8 : ∀ t : Fin cfg0.N, (cfg0.win 8).flush t = true ↔ 1 ≤ t.val := by decide +kernel
theorem flush9 : ∀ t : Fin cfg0.N, (cfg0.win 9).flush t = true ↔ 1 ≤ t.val := by decide +kernel

/-- The two scales, whole. -/
theorem blk0 (c : Dev nD) (t : Fin cfg0.N) : (iblk m c 0 t : Vec F S2 .f32) = V m c main_v2 := by
  funext y
  unfold iblk
  rw [View.read_apply]
  show V m c main_v2 _ = V m c main_v2 _
  congr 1
  funext a; apply Fin.ext
  have h := congrFun (widx0 t) a
  match a with
  | ⟨0, _⟩ => show win0_0.index t 0 * 2 + 1 * (y 0).val = (y 0).val; rw [show win0_0.index t 0 = 0 from h]; omega

/-- The second weight's scale, whole. -/
theorem blk1 (c : Dev nD) (t : Fin cfg0.N) : (iblk m c 1 t : Vec F S1 .f32) = V m c main_v3 := by
  funext y
  unfold iblk
  rw [View.read_apply]
  show V m c main_v3 _ = V m c main_v3 _
  congr 1
  funext a; apply Fin.ext
  have h := congrFun (widx1 t) a
  match a with
  | ⟨0, _⟩ => show win0_1.index t 0 * 1 + 1 * (y 0).val = (y 0).val; rw [show win0_1.index t 0 = 0 from h]; omega

/-- The upstream gradient's scale, whole. -/
theorem blk2 (c : Dev nD) (t : Fin cfg0.N) : (iblk m c 2 t : Vec F S8x128 .f32) = V m c main_arg3 := by
  funext y
  unfold iblk
  rw [View.read_apply]
  show V m c main_arg3 _ = V m c main_arg3 _
  congr 1
  funext a; apply Fin.ext
  have h := congrFun (widx2 t) a
  match a with
  | ⟨0, _⟩ => show win0_2.index t 0 * 8 + 1 * (y 0).val = (y 0).val; rw [show win0_2.index t 0 = 0 from h]; omega
  | ⟨1, _⟩ => show win0_2.index t 1 * 128 + 1 * (y 1).val = (y 1).val; rw [show win0_2.index t 1 = 0 from h]; omega

/-- The codes, whole. -/
theorem blk3 (c : Dev nD) (t : Fin cfg0.N) : (iblk m c 3 t : Vec F S1536x2304 .fp8e4m3) = V m c main_arg4 := by
  funext y
  unfold iblk
  rw [View.read_apply]
  show V m c main_arg4 _ = V m c main_arg4 _
  congr 1
  funext a; apply Fin.ext
  have h := congrFun (widx3 t) a
  match a with
  | ⟨0, _⟩ => show win0_3.index t 0 * 1536 + 1 * (y 0).val = (y 0).val; rw [show win0_3.index t 0 = 0 from h]; omega
  | ⟨1, _⟩ => show win0_3.index t 1 * 2304 + 1 * (y 1).val = (y 1).val; rw [show win0_3.index t 1 = 0 from h]; omega

/-- The upstream codes, whole. -/
theorem blk4 (c : Dev nD) (t : Fin cfg0.N) : (iblk m c 4 t : Vec F S1536x2304 .fp8e5m2) = V m c main_arg5 := by
  funext y
  unfold iblk
  rw [View.read_apply]
  show V m c main_arg5 _ = V m c main_arg5 _
  congr 1
  funext a; apply Fin.ext
  have h := congrFun (widx4 t) a
  match a with
  | ⟨0, _⟩ => show win0_4.index t 0 * 1536 + 1 * (y 0).val = (y 0).val; rw [show win0_4.index t 0 = 0 from h]; omega
  | ⟨1, _⟩ => show win0_4.index t 1 * 2304 + 1 * (y 1).val = (y 1).val; rw [show win0_4.index t 1 = 0 from h]; omega

/-- A gate block of the first weight. -/
theorem blk5 (c : Dev nD) (t : Fin cfg0.N) (ht : t.val < 36) (y : S2304x256.Idx) :
    (iblk m c 5 t : Vec F S2304x256 .fp8e4m3) y = V m c main_arg6 (ix2 (y 0 : Fin 2304) (⟨t.val * 256 + (y 1).val, by have h1 : (y 1).val < 256 := (y 1).isLt; omega⟩ : Fin 18432)) := by
  unfold iblk
  rw [View.read_apply]
  show V m c main_arg6 _ = V m c main_arg6 _
  congr 1
  funext a; apply Fin.ext
  have h := congrFun (widx5 t) a
  match a with
  | ⟨0, _⟩ => show win0_5.index t 0 * 2304 + 1 * (y 0).val = (y 0).val; rw [show win0_5.index t 0 = 0 from h]; omega
  | ⟨1, _⟩ => show win0_5.index t 1 * 256 + 1 * (y 1).val = t.val * 256 + (y 1).val; rw [show win0_5.index t 1 = min t.val 35 from h]; omega

/-- An up block of the first weight. -/
theorem blk6 (c : Dev nD) (t : Fin cfg0.N) (ht : t.val < 36) (y : S2304x256.Idx) :
    (iblk m c 6 t : Vec F S2304x256 .fp8e4m3) y = V m c main_arg6 (ix2 (y 0 : Fin 2304) (⟨9216 + (t.val * 256 + (y 1).val), by have h1 : (y 1).val < 256 := (y 1).isLt; omega⟩ : Fin 18432)) := by
  unfold iblk
  rw [View.read_apply]
  show V m c main_arg6 _ = V m c main_arg6 _
  congr 1
  funext a; apply Fin.ext
  have h := congrFun (widx6 t) a
  match a with
  | ⟨0, _⟩ => show win0_6.index t 0 * 2304 + 1 * (y 0).val = (y 0).val; rw [show win0_6.index t 0 = 0 from h]; omega
  | ⟨1, _⟩ => show win0_6.index t 1 * 256 + 1 * (y 1).val = 9216 + (t.val * 256 + (y 1).val); rw [show win0_6.index t 1 = 36 + min t.val 35 from h]; omega

/-- A row block of the second weight. -/
theorem blk7 (c : Dev nD) (t : Fin cfg0.N) (ht : t.val < 36) (y : S256x2304.Idx) :
    (iblk m c 7 t : Vec F S256x2304 .fp8e4m3) y = V m c main_arg7 (ix2 (⟨t.val * 256 + (y 0).val, by have h1 : (y 0).val < 256 := (y 0).isLt; omega⟩ : Fin 9216) (y 1 : Fin 2304)) := by
  unfold iblk
  rw [View.read_apply]
  show V m c main_arg7 _ = V m c main_arg7 _
  congr 1
  funext a; apply Fin.ext
  have h := congrFun (widx7 t) a
  match a with
  | ⟨0, _⟩ => show win0_7.index t 0 * 256 + 1 * (y 0).val = t.val * 256 + (y 0).val; rw [show win0_7.index t 0 = min t.val 35 from h]; omega
  | ⟨1, _⟩ => show win0_7.index t 1 * 2304 + 1 * (y 1).val = (y 1).val; rw [show win0_7.index t 1 = 0 from h]; omega

/-- A block of the activation, read off an array. -/
theorem rd8 (t : Fin cfg0.N) (G : Vec F S36x1536x256 .bf16) (y : S1x1536x256.Idx) :
    ((cfg0.win 8).blk t).view.read (Elt F) (G : (main_v4_0.ty).Contents (Elt F)) y = G (ix3 (⟨t.val - 1, by have := tlt t; omega⟩ : Fin 36) (y 1 : Fin 1536) (y 2 : Fin 256)) := by
  rw [View.read_apply]
  show G _ = G _
  congr 1
  funext a; apply Fin.ext
  have h := congrFun (widx8 t) a
  have hy : (y 0).val < 1 := (y 0).isLt
  match a with
  | ⟨0, _⟩ => show win0_8.index t 0 * 1 + 1 * (y 0).val = t.val - 1; rw [show win0_8.index t 0 = t.val - 1 from h]; omega
  | ⟨1, _⟩ => show win0_8.index t 1 * 1536 + 1 * (y 1).val = (y 1).val; rw [show win0_8.index t 1 = 0 from h]; omega
  | ⟨2, _⟩ => show win0_8.index t 2 * 256 + 1 * (y 2).val = (y 2).val; rw [show win0_8.index t 2 = 0 from h]; omega

/-- The activation at the end: each entry as the block that holds it left it. -/
theorem fin8 (c : Dev nD) (G : Vec F S36x1536x256 .bf16)
    (hG : ∀ (t : Fin cfg0.N) (y : S1x1536x256.Idx), 1 ≤ t.val → ((dats m 0 c).after 8 t : Vec F S1x1536x256 .bf16) y = G (ix3 (⟨t.val - 1, by have := tlt t; omega⟩ : Fin 36) (y 1 : Fin 1536) (y 2 : Fin 256))) :
    (dats m 0 c).arrAt 8 cfg0.N = (G : (main_v4_0.ty).Contents (Elt F)) :=
  (dats m 0 c).arrAt_eq_of_cover 8 (G : (main_v4_0.ty).Contents (Elt F))
    (fun t hf => by
      show (cfg0.win 8).cut (grid0.coords t) ((dats m 0 c).after 8 t) = _
      funext y
      exact (hG t y ((flush8 t).1 hf)).trans (rd8 t G y).symm) fun i =>
    have mem : ∀ t : Fin cfg0.N, t.val = (i 0 : Nat) + 1 → i ∈ ((cfg0.win 8).blk t).view.set := by
      intro t ht
      show i ∈ ((View.whole main_v4_0).slice (win0_8.rect t)).set
      rw [View.set_slice_whole, Rect.mem_set_unit]
      intro a
      have h0 : (i 0 : Nat) < 36 := (i 0).isLt
      have h1 : (i 1 : Nat) < 1536 := (i 1).isLt
      have h2 : (i 2 : Nat) < 256 := (i 2).isLt
      have h := congrFun (widx8 t) a
      match a with
      | ⟨0, _⟩ => show win0_8.index t 0 * 1 ≤ (i 0 : Nat) ∧ (i 0 : Nat) < win0_8.index t 0 * 1 + 1; rw [show win0_8.index t 0 = t.val - 1 from h]; omega
      | ⟨1, _⟩ => show win0_8.index t 1 * 1536 ≤ (i 1 : Nat) ∧ (i 1 : Nat) < win0_8.index t 1 * 1536 + 1536; rw [show win0_8.index t 1 = 0 from h]; omega
      | ⟨2, _⟩ => show win0_8.index t 2 * 256 ≤ (i 2 : Nat) ∧ (i 2 : Nat) < win0_8.index t 2 * 256 + 256; rw [show win0_8.index t 2 = 0 from h]; omega
    ⟨⟨(i 0 : Nat) + 1, by have h : (i 0 : Nat) < 36 := (i 0).isLt; rw [show cfg0.N = 37 from N_0]; omega⟩, (flush8 _).2 (Nat.le_add_left _ _), mem _ rfl⟩

/-- A block of the hidden gradient, read off an array. -/
theorem rd9 (t : Fin cfg0.N) (G : Vec F S2x36x1536x256 .bf16) (y : S2x1x1536x256.Idx) :
    ((cfg0.win 9).blk t).view.read (Elt F) (G : (main_v4_1.ty).Contents (Elt F)) y = G (ix4 (y 0 : Fin 2) (⟨t.val - 1, by have := tlt t; omega⟩ : Fin 36) (y 2 : Fin 1536) (y 3 : Fin 256)) := by
  rw [View.read_apply]
  show G _ = G _
  congr 1
  funext a; apply Fin.ext
  have h := congrFun (widx9 t) a
  have hy : (y 1).val < 1 := (y 1).isLt
  match a with
  | ⟨0, _⟩ => show win0_9.index t 0 * 2 + 1 * (y 0).val = (y 0).val; rw [show win0_9.index t 0 = 0 from h]; omega
  | ⟨1, _⟩ => show win0_9.index t 1 * 1 + 1 * (y 1).val = t.val - 1; rw [show win0_9.index t 1 = t.val - 1 from h]; omega
  | ⟨2, _⟩ => show win0_9.index t 2 * 1536 + 1 * (y 2).val = (y 2).val; rw [show win0_9.index t 2 = 0 from h]; omega
  | ⟨3, _⟩ => show win0_9.index t 3 * 256 + 1 * (y 3).val = (y 3).val; rw [show win0_9.index t 3 = 0 from h]; omega

/-- The hidden gradient at the end: each entry as the block that holds it left it. -/
theorem fin9 (c : Dev nD) (G : Vec F S2x36x1536x256 .bf16)
    (hG : ∀ (t : Fin cfg0.N) (y : S2x1x1536x256.Idx), 1 ≤ t.val → ((dats m 0 c).after 9 t : Vec F S2x1x1536x256 .bf16) y = G (ix4 (y 0 : Fin 2) (⟨t.val - 1, by have := tlt t; omega⟩ : Fin 36) (y 2 : Fin 1536) (y 3 : Fin 256))) :
    (dats m 0 c).arrAt 9 cfg0.N = (G : (main_v4_1.ty).Contents (Elt F)) :=
  (dats m 0 c).arrAt_eq_of_cover 9 (G : (main_v4_1.ty).Contents (Elt F))
    (fun t hf => by
      show (cfg0.win 9).cut (grid0.coords t) ((dats m 0 c).after 9 t) = _
      funext y
      exact (hG t y ((flush9 t).1 hf)).trans (rd9 t G y).symm) fun i =>
    have mem : ∀ t : Fin cfg0.N, t.val = (i 1 : Nat) + 1 → i ∈ ((cfg0.win 9).blk t).view.set := by
      intro t ht
      show i ∈ ((View.whole main_v4_1).slice (win0_9.rect t)).set
      rw [View.set_slice_whole, Rect.mem_set_unit]
      intro a
      have h0 : (i 0 : Nat) < 2 := (i 0).isLt
      have h1 : (i 1 : Nat) < 36 := (i 1).isLt
      have h2 : (i 2 : Nat) < 1536 := (i 2).isLt
      have h3 : (i 3 : Nat) < 256 := (i 3).isLt
      have h := congrFun (widx9 t) a
      match a with
      | ⟨0, _⟩ => show win0_9.index t 0 * 2 ≤ (i 0 : Nat) ∧ (i 0 : Nat) < win0_9.index t 0 * 2 + 2; rw [show win0_9.index t 0 = 0 from h]; omega
      | ⟨1, _⟩ => show win0_9.index t 1 * 1 ≤ (i 1 : Nat) ∧ (i 1 : Nat) < win0_9.index t 1 * 1 + 1; rw [show win0_9.index t 1 = t.val - 1 from h]; omega
      | ⟨2, _⟩ => show win0_9.index t 2 * 1536 ≤ (i 2 : Nat) ∧ (i 2 : Nat) < win0_9.index t 2 * 1536 + 1536; rw [show win0_9.index t 2 = 0 from h]; omega
      | ⟨3, _⟩ => show win0_9.index t 3 * 256 ≤ (i 3 : Nat) ∧ (i 3 : Nat) < win0_9.index t 3 * 256 + 256; rw [show win0_9.index t 3 = 0 from h]; omega
    ⟨⟨(i 1 : Nat) + 1, by have h : (i 1 : Nat) < 36 := (i 1).isLt; rw [show cfg0.N = 37 from N_0]; omega⟩, (flush9 _).2 (Nat.le_add_left _ _), mem _ rfl⟩

end Cert.ForwardIdeal.Hand

end
-- ==== Proof.FSpec.lean ====
module

public import proofs.«01_k».proof.Proof.Gen.ForwardIdeal.Frame
public import Idealize.ShloMosaic.Lib.Pointwise
public import Idealize.ShloMosaic.Lib.WholeRead

@[expose] public section

set_option maxRecDepth 16384

noncomputable section

namespace Cert.ForwardIdeal.Hand

open Idealize.ShloMosaic.Tactic
open Cert.ForwardIdeal Cert.ForwardIdeal.Gen
open Idealize.ShloMosaic hiding ix0 ix1 ix2 ix3 ix4 ix5
open Idealize.ShloMosaic.ValueIdx
open Idealize.ShloMosaic.TcCoe Idealize.SL.Sem

variable {F : FTy → Type} [FloatOps F]

/-! # What the forward body computes, block by block -/

/-- One entry of the activation: the gate times its logistic times the up value. -/
def aP (v g u : Elt F .f32) : F .f32 :=
  FloatOps.mulf (FloatOps.mulf (FloatOps.mulf g v) (FloatOps.logistic (FloatOps.mulf g v))) (FloatOps.mulf u v)

/-- One entry of the gate's gradient. -/
def dgP (v w g u d : Elt F .f32) : F .f32 :=
  FloatOps.mulf
    (FloatOps.mulf (FloatOps.mulf (FloatOps.mulf d w) (FloatOps.mulf u v)) (FloatOps.logistic (FloatOps.mulf g v)))
    (FloatOps.addf (FloatOps.ofBits .f32 0x3F800000#32 : F .f32) (FloatOps.mulf (FloatOps.mulf g v)
      (FloatOps.subf (FloatOps.ofBits .f32 0x3F800000#32 : F .f32) (FloatOps.logistic (FloatOps.mulf g v)))))

/-- One entry of the up value's gradient. -/
def duP (v w g d : Elt F .f32) : F .f32 :=
  FloatOps.mulf (FloatOps.mulf (FloatOps.mulf d w) (FloatOps.mulf g v)) (FloatOps.logistic (FloatOps.mulf g v))

/-- The neighbour of `r`, a rounded `x`, on the side of `x`. -/
def beside (x r : F .f32) : F .bf16 :=
  FloatOps.truncf .bf16 bitsLt_bf16_f32 (FloatOps.addf r (Scalar.select (FloatOps.cmpf .ogt x r)
    (FloatOps.mulf (FloatOps.absf r) (Scalar.ofBits .f32 0x3B810000#32))
    (FloatOps.subf (Scalar.ofBits .f32 0x00000000#32) (FloatOps.mulf (FloatOps.absf r) (Scalar.ofBits .f32 0x3B810000#32)))))

/-- The even one of two neighbours. -/
def evenOf (r : F .f32) (n : F .bf16) : F .bf16 :=
  FloatOps.truncf .bf16 bitsLt_bf16_f32 (FloatOps.addf (FloatOps.mulf r (Scalar.ofBits .f32 0x3F000000#32))
    (FloatOps.mulf (FloatOps.extf .f32 bitsLt_bf16_f32 n) (Scalar.ofBits .f32 0x3F000000#32)))

/-- The nearest value if it is exact or odd, else the neighbour. -/
def pick (x : F .f32) (near : F .bf16) (r : F .f32) : F .bf16 :=
  Scalar.select (IntOp.ori (FloatOps.cmpf .oeq x r) (FloatOps.cmpf .one near (evenOf r (beside x r)))) near (beside x r)

/-- Rounding to odd: a value that the format holds is kept, of two neighbours the odd one is taken. -/
def odd (x : F .f32) : F .bf16 :=
  pick x (FloatOps.truncf .bf16 bitsLt_bf16_f32 x) (FloatOps.extf .f32 bitsLt_bf16_f32 (FloatOps.truncf .bf16 bitsLt_bf16_f32 x : F .bf16))

/-- The three entries as stored. -/
def aE (v g u : Elt F .f32) : Elt F .bf16 := odd (aP v g u)
def dgE (v w g u d : Elt F .f32) : Elt F .bf16 := odd (dgP v w g u d)
def duE (v w g d : Elt F .f32) : Elt F .bf16 := odd (duP v w g d)

/-! ## The same on vectors, as the body states it -/

/-- A vector times one number. -/
def sV (v : F .f32) (g : Vec F S32x256 .f32) : FVec F S32x256 .f32 := mulf g (broadcast S32x256 v)
/-- The factor of the upstream gradient. -/
def wV (w0 : Vec F S1x1 .f32) (w1 : Elt F .f32) : FVec F S1x1 .f32 := mulf w0 (broadcast S1x1 w1)
/-- The scaled upstream gradient. -/
def dV (w0 : Vec F S1x1 .f32) (w1 : Elt F .f32) (d : Vec F S32x256 .f32) : FVec F S32x256 .f32 := mulf d (broadcastTo S32x256 (wV w0 w1) broadcasts_S1x1_S32x256)
/-- The activation. -/
def aV (v : F .f32) (g u : Vec F S32x256 .f32) : FVec F S32x256 .f32 := mulf (mulf (sV v g) (logistic (sV v g))) (sV v u)
/-- The gate's gradient. -/
def dgV (v : F .f32) (w0 : Vec F S1x1 .f32) (w1 : Elt F .f32) (g u d : Vec F S32x256 .f32) : FVec F S32x256 .f32 :=
  mulf (mulf (mulf (dV w0 w1 d) (sV v u)) (logistic (sV v g)))
    (addf (broadcast S32x256 (Scalar.ofBits .f32 0x3F800000#32)) (mulf (sV v g) (subf (broadcast S32x256 (Scalar.ofBits .f32 0x3F800000#32)) (logistic (sV v g)))))
/-- The up value's gradient. -/
def duV (v : F .f32) (w0 : Vec F S1x1 .f32) (w1 : Elt F .f32) (g d : Vec F S32x256 .f32) : FVec F S32x256 .f32 :=
  mulf (mulf (dV w0 w1 d) (sV v g)) (logistic (sV v g))
/-- The neighbour. -/
def besideV (x r : FVec F S32x256 .f32) : FVec F S32x256 .bf16 :=
  truncf .bf16 (addf r (select (cmpf .ogt x r) (mulf (absf r) (broadcast S32x256 (Scalar.ofBits .f32 0x3B810000#32)))
    (subf (broadcast S32x256 (Scalar.ofBits .f32 0x00000000#32)) (mulf (absf r) (broadcast S32x256 (Scalar.ofBits .f32 0x3B810000#32)))))) bitsLt_bf16_f32
/-- The even one. -/
def evenV (r : FVec F S32x256 .f32) (n : FVec F S32x256 .bf16) : FVec F S32x256 .bf16 :=
  truncf .bf16 (addf (mulf r (broadcast S32x256 (Scalar.ofBits .f32 0x3F000000#32)))
    (mulf (extf .f32 n bitsLt_bf16_f32) (broadcast S32x256 (Scalar.ofBits .f32 0x3F000000#32)))) bitsLt_bf16_f32
/-- Rounding to odd, from the value, its nearest and that widened. -/
def pickV (x : FVec F S32x256 .f32) (near : FVec F S32x256 .bf16) (r : FVec F S32x256 .f32) : FVec F S32x256 .bf16 :=
  select (ori (cmpf .oeq x r) (cmpf .one near (evenV r (besideV x r)))) near (besideV x r)
/-- Rounding to odd. -/
def oddV (x : FVec F S32x256 .f32) : FVec F S32x256 .bf16 :=
  pickV x (truncf .bf16 x bitsLt_bf16_f32) (extf .f32 (truncf .bf16 x bitsLt_bf16_f32) bitsLt_bf16_f32)

theorem oddV_at (x : FVec F S32x256 .f32) (p : S32x256.Idx) : oddV x p = odd (x p) := rfl

/-- A block of the activation, from the two products of the block. -/
def GA (v : Elt F .f32) (g u : Vec F S1536x256 .f32) : Vec F S1x1536x256 .bf16 := fun y =>
  aE v (g (ix2 (y 1 : Fin 1536) (y 2 : Fin 256))) (u (ix2 (y 1 : Fin 1536) (y 2 : Fin 256)))

/-- A block of the hidden gradient: the gate's half and the up value's half. -/
def GH (v w : Elt F .f32) (g u d : Vec F S1536x256 .f32) : Vec F S2x1x1536x256 .bf16 := fun y =>
  if (y 0).val = 0 then
    dgE v w (g (ix2 (y 2 : Fin 1536) (y 3 : Fin 256))) (u (ix2 (y 2 : Fin 1536) (y 3 : Fin 256))) (d (ix2 (y 2 : Fin 1536) (y 3 : Fin 256)))
  else duE v w (g (ix2 (y 2 : Fin 1536) (y 3 : Fin 256))) (d (ix2 (y 2 : Fin 1536) (y 3 : Fin 256)))

/-- Rows `512 q ..` of a 1536-row operand. -/
def rows {e : EltTy} (q : Fin 3) (x : Vec F S1536x2304 e) : Vec F S512x2304 e := fun j =>
  x (ix2 (⟨512 * q.val + (j 0).val, by have : (j 0).val < 512 := (j 0).isLt; omega⟩ : Fin 1536) (j 1 : Fin 2304))

/-- A product of the codes with a column block of the first weight, in three row blocks. -/
def gDot (x : Vec F S1536x2304 .fp8e4m3) (w : Vec F S2304x256 .fp8e4m3) : Vec F S1536x256 .f32 := fun y =>
  k0_pay7 (rows (⟨(y 0).val / 512, by have : (y 0).val < 1536 := (y 0).isLt; omega⟩ : Fin 3) x) w
    (ix2 (⟨(y 0).val % 512, Nat.mod_lt _ (by norm_num)⟩ : Fin 512) (y 1 : Fin 256))

/-- The product of the upstream codes with a row block of the second weight, in three row blocks. -/
def dDot (x : Vec F S1536x2304 .fp8e5m2) (w : Vec F S256x2304 .fp8e4m3) : Vec F S1536x256 .f32 := fun y =>
  k0_pay9 (rows (⟨(y 0).val / 512, by have : (y 0).val < 1536 := (y 0).isLt; omega⟩ : Fin 3) x) w
    (ix2 (⟨(y 0).val % 512, Nat.mod_lt _ (by norm_num)⟩ : Fin 512) (y 1 : Fin 256))

/-! ## Loads -/

/-- A load of the whole buffer reads it. -/
theorem readWhole {s : Shape} {e : EltTy} {sp : Space} (arg : Memref sig .tc sp s e) (harg : arg.IsWhole) (x : s.Idx → Elt F e)
    (off : Fin s.rank → ℕ) (h : ∀ a, off a + s.size a ≤ s.size a) (hz : ∀ a, off a = 0) :
    View.readAt (Elt F) arg.view (Rect.unit (s := s) off s.size h).toLoadRect (harg.unread x) = x := by
  funext j
  refine (harg.readAt_unread x _ _).trans (congrArg x ?_)
  funext a; apply Fin.ext
  show off a + 1 * (j a).val = (j a).val
  rw [hz a]; omega

/-- A load of 512 rows. -/
theorem readRows {e : EltTy} (r : ℕ) (q : Fin 3) (hr : r = 512 * q.val)
    (h1 : ∀ a, (![r, 0] : Fin 2 → ℕ) a + S512x2304.size a ≤ S1536x2304.size a)
    (arg : Memref sig .tc .vmem S1536x2304 e) (harg : arg.IsWhole) (x : Vec F S1536x2304 e) :
    View.readAt (Elt F) arg.view (Rect.unit (s := S1536x2304) ![r, 0] S512x2304.size h1).toLoadRect (harg.unread x) = rows q x := by
  funext i
  refine (harg.readAt_unread x _ _).trans (congrArg x ?_)
  funext a; apply Fin.ext
  match a with
  | ⟨0, _⟩ => show r + 1 * (i 0).val = 512 * q.val + (i 0).val; omega
  | ⟨1, _⟩ => show 0 + 1 * (i 1).val = (i 1).val; omega

/-- One entry of a load of 32 rows of a scratch buffer. -/
theorem readTile (r : ℕ) (h1 : ∀ a, (![r, 0] : Fin 2 → ℕ) a + S32x256.size a ≤ S1536x256.size a)
    (arg : Memref sig .tc .vmem S1536x256 .f32) (harg : arg.IsWhole) (x : Vec F S1536x256 .f32) (p : Fin 32) (l : Fin 256)
    (k : Fin 1536) (hk : k.val = r + p.val) :
    View.readAt (Elt F) arg.view (Rect.unit (s := S1536x256) ![r, 0] S32x256.size h1).toLoadRect (harg.unread x) (ix2 p l) = x (ix2 k l) := by
  refine (harg.readAt_unread x _ _).trans (congrArg x ?_)
  funext a; apply Fin.ext
  match a with
  | ⟨0, _⟩ => show r + 1 * p.val = k.val; omega
  | ⟨1, _⟩ => show 0 + 1 * l.val = l.val; omega

/-! ## One piece of each -/

/-- A 1x1 vector has one entry. -/
theorem one_cell {α : Type} (s : S1x1.Idx → α) (j : S1x1.Idx) : s j = s (ix2 (0 : Fin 1) (0 : Fin 1)) := by
  congr 1; funext a; apply Fin.ext
  match a with
  | ⟨0, _⟩ => have : (j 0).val < 1 := (j 0).isLt; show (j 0).val = 0; omega
  | ⟨1, _⟩ => have : (j 1).val < 1 := (j 1).isLt; show (j 1).val = 0; omega

/-- The upstream gradient's factor: its scale's first entry times the second weight's scale. -/
def wE (w0 : Vec F S1x1 .f32) (w1 : Elt F .f32) : Elt F .f32 := FloatOps.mulf (w0 (ix2 (0 : Fin 1) (0 : Fin 1))) w1

/-- The stored activation, entry by entry. -/
theorem payA_at (v : Elt F .f32) (g u : Vec F S32x256 .f32) (p : S32x256.Idx) : oddV (aV v g u) p = aE v (g p) (u p) := rfl

/-- The gate's gradient, entry by entry. -/
theorem payG_at (v : Elt F .f32) (w0 : Vec F S1x1 .f32) (w1 : Elt F .f32) (g u d : Vec F S32x256 .f32) (p : S32x256.Idx) :
    oddV (dgV v w0 w1 g u d) p = dgE v (wE w0 w1) (g p) (u p) (d p) := by
  have ew : broadcastTo S32x256 (wV w0 w1) broadcasts_S1x1_S32x256 p = wE w0 w1 := one_cell (wV w0 w1) _
  refine (oddV_at _ p).trans (congrArg odd ?_)
  rw [← ew]; rfl

/-- The up value's gradient, entry by entry. -/
theorem payU_at (v : Elt F .f32) (w0 : Vec F S1x1 .f32) (w1 : Elt F .f32) (g d : Vec F S32x256 .f32) (p : S32x256.Idx) :
    oddV (duV v w0 w1 g d) p = duE v (wE w0 w1) (g p) (d p) := by
  have ew : broadcastTo S32x256 (wV w0 w1) broadcasts_S1x1_S32x256 p = wE w0 w1 := one_cell (wV w0 w1) _
  refine (oddV_at _ p).trans (congrArg odd ?_)
  rw [← ew]; rfl

/-- A 32-row piece of the activation. -/
theorem pieceA (r : ℕ) (h1 : ∀ a, (![0, r, 0] : Fin 3 → ℕ) a + S1x32x256.size a ≤ S1x1536x256.size a)
    (h2 h3 : ∀ a, (![r, 0] : Fin 2 → ℕ) a + S32x256.size a ≤ S1536x256.size a)
    (arg : Memref sig .tc .vmem S1536x256 .f32) (harg : arg.IsWhole) (arg' : Memref sig .tc .vmem S1536x256 .f32) (harg' : arg'.IsWhole)
    (v : Elt F .f32) (g u : Vec F S1536x256 .f32) (j : S1x32x256.Idx) :
    shapeCast S1x32x256 (oddV (aV v (View.readAt (Elt F) arg.view (Rect.unit (s := S1536x256) ![r, 0] S32x256.size h2).toLoadRect (harg.unread g))
        (View.readAt (Elt F) arg'.view (Rect.unit (s := S1536x256) ![r, 0] S32x256.size h3).toLoadRect (harg'.unread u)))) shapeCasts_S32x256_S1x32x256 j
      = GA v g u ((Rect.unit (s := S1x1536x256) ![0, r, 0] S1x32x256.size h1).emb j) := by
  have hj0 : (j 0).val < 1 := (j 0).isLt
  have hr : r + 32 ≤ 1536 := h1 1
  have hj1 : (j 1).val < 32 := (j 1).isLt
  refine (shapeCast_apply _ shapeCasts_S32x256_S1x32x256 j (ix2 (j 1 : Fin 32) (j 2 : Fin 256)) ?_).trans ?_
  · rw [Shape.rowMajor_val_three, Shape.rowMajor_val_two]
    show (j 1).val * 256 + (j 2).val = ((j 0).val * 32 + (j 1).val) * 256 + (j 2).val
    omega
  have e0 : (Rect.unit (s := S1x1536x256) ![0, r, 0] S1x32x256.size h1).emb j
      = ix3 (0 : Fin 1) (⟨r + (j 1).val, by omega⟩ : Fin 1536) (j 2 : Fin 256) := by
    funext a; apply Fin.ext
    match a with
    | ⟨0, _⟩ => show 0 + 1 * (j 0).val = 0; omega
    | ⟨1, _⟩ => show r + 1 * (j 1).val = r + (j 1).val; omega
    | ⟨2, _⟩ => show 0 + 1 * (j 2).val = (j 2).val; omega
  rw [e0]
  refine (payA_at v _ _ _).trans ?_
  exact congrArg₂ (aE v) (readTile r h2 arg harg g _ _ ⟨r + (j 1).val, by omega⟩ rfl) (readTile r h3 arg' harg' u _ _ ⟨r + (j 1).val, by omega⟩ rfl)

/-- Where an entry of a 32-row piece of one half of the hidden gradient lies. -/
theorem embH (h r : ℕ) (hh : h < 2) (h1 : ∀ a, (![h, 0, r, 0] : Fin 4 → ℕ) a + S1x1x32x256.size a ≤ S2x1x1536x256.size a) (j : S1x1x32x256.Idx)
    (k : Fin 1536) (hk : k.val = r + (j 2).val) :
    (Rect.unit (s := S2x1x1536x256) ![h, 0, r, 0] S1x1x32x256.size h1).emb j = ix4 (⟨h, hh⟩ : Fin 2) (0 : Fin 1) k (j 3 : Fin 256) := by
  have hj0 : (j 0).val < 1 := (j 0).isLt
  have hj1 : (j 1).val < 1 := (j 1).isLt
  funext a; apply Fin.ext
  match a with
  | ⟨0, _⟩ => show h + 1 * (j 0).val = h; omega
  | ⟨1, _⟩ => show 0 + 1 * (j 1).val = 0; omega
  | ⟨2, _⟩ => show r + 1 * (j 2).val = k.val; omega
  | ⟨3, _⟩ => show 0 + 1 * (j 3).val = (j 3).val; omega

/-- A 32-row vector stored as a piece of one half. -/
theorem castH (x : FVec F S32x256 .bf16) (j : S1x1x32x256.Idx) :
    shapeCast S1x1x32x256 x shapeCasts_S32x256_S1x1x32x256 j = x (ix2 (j 2 : Fin 32) (j 3 : Fin 256)) := by
  have hj0 : (j 0).val < 1 := (j 0).isLt
  have hj1 : (j 1).val < 1 := (j 1).isLt
  refine shapeCast_apply _ shapeCasts_S32x256_S1x1x32x256 j (ix2 (j 2 : Fin 32) (j 3 : Fin 256)) ?_
  rw [Shape.rowMajor_val_four, Shape.rowMajor_val_two]
  show (j 2).val * 256 + (j 3).val = (((j 0).val * 1 + (j 1).val) * 32 + (j 2).val) * 256 + (j 3).val
  omega

/-- A 32-row piece of the gate's gradient. -/
theorem pieceG (r : ℕ) (h1 : ∀ a, (![0, 0, r, 0] : Fin 4 → ℕ) a + S1x1x32x256.size a ≤ S2x1x1536x256.size a)
    (h2 h3 h4 : ∀ a, (![r, 0] : Fin 2 → ℕ) a + S32x256.size a ≤ S1536x256.size a)
    (arg : Memref sig .tc .vmem S1536x256 .f32) (harg : arg.IsWhole) (arg' : Memref sig .tc .vmem S1536x256 .f32) (harg' : arg'.IsWhole)
    (arg'' : Memref sig .tc .vmem S1536x256 .f32) (harg'' : arg''.IsWhole)
    (v : Elt F .f32) (w0 : Vec F S1x1 .f32) (w1 : Elt F .f32) (g u d : Vec F S1536x256 .f32) (j : S1x1x32x256.Idx) :
    shapeCast S1x1x32x256 (oddV (dgV v w0 w1 (View.readAt (Elt F) arg.view (Rect.unit (s := S1536x256) ![r, 0] S32x256.size h2).toLoadRect (harg.unread g))
        (View.readAt (Elt F) arg'.view (Rect.unit (s := S1536x256) ![r, 0] S32x256.size h3).toLoadRect (harg'.unread u))
        (View.readAt (Elt F) arg''.view (Rect.unit (s := S1536x256) ![r, 0] S32x256.size h4).toLoadRect (harg''.unread d)))) shapeCasts_S32x256_S1x1x32x256 j
      = GH v (wE w0 w1) g u d ((Rect.unit (s := S2x1x1536x256) ![0, 0, r, 0] S1x1x32x256.size h1).emb j) := by
  have hr : r + 32 ≤ 1536 := h1 2
  have hj2 : (j 2).val < 32 := (j 2).isLt
  rw [embH 0 r (by norm_num) h1 j ⟨r + (j 2).val, by omega⟩ rfl]
  refine (castH _ j).trans ?_
  refine (payG_at v w0 w1 _ _ _ _).trans ?_
  have e1 := readTile r h2 arg harg g (j 2 : Fin 32) (j 3 : Fin 256) ⟨r + (j 2).val, by omega⟩ rfl
  have e2 := readTile r h3 arg' harg' u (j 2 : Fin 32) (j 3 : Fin 256) ⟨r + (j 2).val, by omega⟩ rfl
  have e3 := readTile r h4 arg'' harg'' d (j 2 : Fin 32) (j 3 : Fin 256) ⟨r + (j 2).val, by omega⟩ rfl
  have e : ∀ {a b c a' b' c' : Elt F .f32}, a = a' → b = b' → c = c' → dgE v (wE w0 w1) a b c = dgE v (wE w0 w1) a' b' c' := by
    intro a b c a' b' c' h h' h''; rw [h, h', h'']
  exact (e e1 e2 e3).trans rfl

/-- A 32-row piece of the up value's gradient. -/
theorem pieceU (r : ℕ) (h1 : ∀ a, (![1, 0, r, 0] : Fin 4 → ℕ) a + S1x1x32x256.size a ≤ S2x1x1536x256.size a)
    (h2 h4 : ∀ a, (![r, 0] : Fin 2 → ℕ) a + S32x256.size a ≤ S1536x256.size a)
    (arg : Memref sig .tc .vmem S1536x256 .f32) (harg : arg.IsWhole)
    (arg'' : Memref sig .tc .vmem S1536x256 .f32) (harg'' : arg''.IsWhole)
    (v : Elt F .f32) (w0 : Vec F S1x1 .f32) (w1 : Elt F .f32) (g u d : Vec F S1536x256 .f32) (j : S1x1x32x256.Idx) :
    shapeCast S1x1x32x256 (oddV (duV v w0 w1 (View.readAt (Elt F) arg.view (Rect.unit (s := S1536x256) ![r, 0] S32x256.size h2).toLoadRect (harg.unread g))
        (View.readAt (Elt F) arg''.view (Rect.unit (s := S1536x256) ![r, 0] S32x256.size h4).toLoadRect (harg''.unread d)))) shapeCasts_S32x256_S1x1x32x256 j
      = GH v (wE w0 w1) g u d ((Rect.unit (s := S2x1x1536x256) ![1, 0, r, 0] S1x1x32x256.size h1).emb j) := by
  have hr : r + 32 ≤ 1536 := h1 2
  have hj2 : (j 2).val < 32 := (j 2).isLt
  rw [embH 1 r (by norm_num) h1 j ⟨r + (j 2).val, by omega⟩ rfl]
  refine (castH _ j).trans ?_
  refine (payU_at v w0 w1 _ _ _).trans ?_
  exact congrArg₂ (duE v (wE w0 w1)) (readTile r h2 arg harg g _ _ ⟨r + (j 2).val, by omega⟩ rfl) (readTile r h4 arg'' harg'' d _ _ ⟨r + (j 2).val, by omega⟩ rfl)

/-- A row block of a product with the first weight. -/
theorem pieceX (r : ℕ) (q : Fin 3) (hr : r = 512 * q.val)
    (h1 : ∀ a, (![r, 0] : Fin 2 → ℕ) a + S512x2304.size a ≤ S1536x2304.size a)
    (h2 : ∀ a, (![r, 0] : Fin 2 → ℕ) a + S512x256.size a ≤ S1536x256.size a)
    (h3 : ∀ a, (![0, 0] : Fin 2 → ℕ) a + S2304x256.size a ≤ S2304x256.size a)
    (arg : Memref sig .tc .vmem S1536x2304 .fp8e4m3) (harg : arg.IsWhole) (arg' : Memref sig .tc .vmem S2304x256 .fp8e4m3) (harg' : arg'.IsWhole)
    (x : Vec F S1536x2304 .fp8e4m3) (w : Vec F S2304x256 .fp8e4m3) (j : S512x256.Idx) :
    k0_pay7 (View.readAt (Elt F) arg.view (Rect.unit (s := S1536x2304) ![r, 0] S512x2304.size h1).toLoadRect (harg.unread x))
        (View.readAt (Elt F) arg'.view (Rect.unit (s := S2304x256) ![0, 0] S2304x256.size h3).toLoadRect (harg'.unread w)) j
      = gDot x w ((Rect.unit (s := S1536x256) ![r, 0] S512x256.size h2).emb j) := by
  have hj : (j 0).val < 512 := (j 0).isLt
  rw [readRows r q hr h1 arg harg x, readWhole arg' harg' w _ _ (by intro a; match a with | ⟨0, _⟩ => rfl | ⟨1, _⟩ => rfl)]
  unfold gDot
  have eq : (⟨((Rect.unit (s := S1536x256) ![r, 0] S512x256.size h2).emb j 0).val / 512, by show (r + 1 * (j 0).val) / 512 < 3; omega⟩ : Fin 3) = q :=
    Fin.ext (by show (r + 1 * (j 0).val) / 512 = q.val; omega)
  rw [eq]
  congr 1
  funext a; apply Fin.ext
  match a with
  | ⟨0, _⟩ => show (j 0).val = (r + 1 * (j 0).val) % 512; omega
  | ⟨1, _⟩ => show (j 1).val = 0 + 1 * (j 1).val; omega

/-- A row block of the product with the second weight. -/
theorem pieceY (r : ℕ) (q : Fin 3) (hr : r = 512 * q.val)
    (h1 : ∀ a, (![r, 0] : Fin 2 → ℕ) a + S512x2304.size a ≤ S1536x2304.size a)
    (h2 : ∀ a, (![r, 0] : Fin 2 → ℕ) a + S512x256.size a ≤ S1536x256.size a)
    (h3 : ∀ a, (![0, 0] : Fin 2 → ℕ) a + S256x2304.size a ≤ S256x2304.size a)
    (arg : Memref sig .tc .vmem S1536x2304 .fp8e5m2) (harg : arg.IsWhole) (arg' : Memref sig .tc .vmem S256x2304 .fp8e4m3) (harg' : arg'.IsWhole)
    (x : Vec F S1536x2304 .fp8e5m2) (w : Vec F S256x2304 .fp8e4m3) (j : S512x256.Idx) :
    k0_pay9 (View.readAt (Elt F) arg.view (Rect.unit (s := S1536x2304) ![r, 0] S512x2304.size h1).toLoadRect (harg.unread x))
        (View.readAt (Elt F) arg'.view (Rect.unit (s := S256x2304) ![0, 0] S256x2304.size h3).toLoadRect (harg'.unread w)) j
      = dDot x w ((Rect.unit (s := S1536x256) ![r, 0] S512x256.size h2).emb j) := by
  have hj : (j 0).val < 512 := (j 0).isLt
  rw [readRows r q hr h1 arg harg x, readWhole arg' harg' w _ _ (by intro a; match a with | ⟨0, _⟩ => rfl | ⟨1, _⟩ => rfl)]
  unfold dDot
  have eq : (⟨((Rect.unit (s := S1536x256) ![r, 0] S512x256.size h2).emb j 0).val / 512, by show (r + 1 * (j 0).val) / 512 < 3; omega⟩ : Fin 3) = q :=
    Fin.ext (by show (r + 1 * (j 0).val) / 512 = q.val; omega)
  rw [eq]
  congr 1
  funext a; apply Fin.ext
  match a with
  | ⟨0, _⟩ => show (j 0).val = (r + 1 * (j 0).val) % 512; omega
  | ⟨1, _⟩ => show (j 1).val = 0 + 1 * (j 1).val; omega

end Cert.ForwardIdeal.Hand

end
-- ==== Proof.FLoad.lean ====
module

public import proofs.«01_k».proof.Proof.FSpec

@[expose] public section

set_option maxRecDepth 16384

noncomputable section

namespace Cert.ForwardIdeal.Hand

open Idealize.ShloMosaic.Tactic
open Cert.ForwardIdeal Cert.ForwardIdeal.Gen
open Idealize.ShloMosaic hiding ix0 ix1 ix2 ix3 ix4 ix5
open Idealize.ShloMosaic.ValueIdx
open Idealize.ShloMosaic.TcCoe Idealize.SL.Sem

variable {F : FTy → Type} [FloatOps F]

/-- The factor of the two products with the first weight. -/
def vOf (x0 : Vec F S2 .f32) : Elt F .f32 := k0_pay1 (x0 (ix1 (0 : Fin 2))) (x0 (ix1 (1 : Fin 2)))
/-- The factor of the product with the second weight. -/
def wOf (x1 : Vec F S1 .f32) (x2 : Vec F S8x128 .f32) : Elt F .f32 := FloatOps.mulf (x2 (ix2 (0 : Fin 8) (0 : Fin 128))) (x1 (ix1 (0 : Fin 1)))

/-- A load of one of the two scalars. -/
theorem readScalar (k : Fin 2) (arg : Memref sig .tc .smem S2 .f32) (harg : arg.IsWhole) (x : Vec F S2 .f32)
    (h : ∀ a, (![k.val] : Fin 1 → ℕ) a + S1.size a ≤ S2.size a) (j : S1.Idx) :
    View.readAt (Elt F) arg.view (Rect.unit (s := S2) ![k.val] S1.size h).toLoadRect (harg.unread x) j = x (ix1 k) := by
  refine (harg.readAt_unread x _ _).trans (congrArg x ?_)
  have h0 : (j 0).val < 1 := (j 0).isLt
  funext a; apply Fin.ext
  match a with
  | ⟨0, _⟩ => show k.val + 1 * (j 0).val = k.val; omega

/-- A load of the only scalar. -/
theorem readOne (arg : Memref sig .tc .smem S1 .f32) (harg : arg.IsWhole) (x : Vec F S1 .f32)
    (h : ∀ a, (![0] : Fin 1 → ℕ) a + S1.size a ≤ S1.size a) (j : S1.Idx) :
    View.readAt (Elt F) arg.view (Rect.unit (s := S1) ![0] S1.size h).toLoadRect (harg.unread x) j = x (ix1 (0 : Fin 1)) := by
  refine (harg.readAt_unread x _ _).trans (congrArg x ?_)
  have h0 : (j 0).val < 1 := (j 0).isLt
  funext a; apply Fin.ext
  match a with
  | ⟨0, _⟩ => show 0 + 1 * (j 0).val = 0; omega

/-- A load of the first entry of the broadcast scale. -/
theorem readFirst (arg : Memref sig .tc .vmem S8x128 .f32) (harg : arg.IsWhole) (y : Vec F S8x128 .f32)
    (h : ∀ a, (![0, 0] : Fin 2 → ℕ) a + S1x1.size a ≤ S8x128.size a) :
    View.readAt (Elt F) arg.view (Rect.unit (s := S8x128) ![0, 0] S1x1.size h).toLoadRect (harg.unread y) (ix2 (0 : Fin 1) (0 : Fin 1)) = y (ix2 (0 : Fin 8) (0 : Fin 128)) := by
  refine (harg.readAt_unread y _ _).trans (congrArg y ?_)
  funext a; apply Fin.ext
  match a with
  | ⟨0, _⟩ => rfl
  | ⟨1, _⟩ => rfl

end Cert.ForwardIdeal.Hand

end
-- ==== Proof.FOutB.lean ====
module

public import proofs.«01_k».proof.Proof.FLoad

@[expose] public section

set_option maxRecDepth 16384

noncomputable section

namespace Cert.ForwardIdeal.Hand

open Idealize.ShloMosaic.Tactic
open Cert.ForwardIdeal Cert.ForwardIdeal.Gen
open Idealize.ShloMosaic hiding ix0 ix1 ix2 ix3 ix4 ix5
open Idealize.ShloMosaic.ValueIdx
open Idealize.ShloMosaic.TcCoe Idealize.SL.Sem

variable {F : FTy → Type} [FloatOps F]

/-! # The two output blocks after a middle point, as functions of the scratch it found -/

theorem v_B (c : Dev nD) (arg1 : Memref sig .tc .smem S2 .f32) (harg1 : arg1.IsWhole) (x0 : Vec F S2 .f32) : (k0_pay1 (kernelRun0_B.sl.r c arg1 harg1 x0) (kernelRun0_B.sl.r_1 c arg1 harg1 x0)) = vOf x0 :=
  congrArg₂ k0_pay1 (readScalar 0 arg1 harg1 x0 inb_S2_S1_0 _) (readScalar 1 arg1 harg1 x0 inb_S2_S1_1 _)

theorem w_B (c : Dev nD) (arg2 : Memref sig .tc .smem S1 .f32) (harg2 : arg2.IsWhole) (arg3 : Memref sig .tc .vmem S8x128 .f32) (harg3 : arg3.IsWhole) (x1 : Vec F S1 .f32) (x2 : Vec F S8x128 .f32) :
    wE (View.readAt (Elt F) arg3.view (Rect.unit (s := S8x128) ![0, 0] S1x1.size inb_S8x128_S1x1_0_0).toLoadRect (harg3.unread x2)) (kernelRun0_B.sl.r_2 c arg2 harg2 x1) = wOf x1 x2 :=
  congrArg₂ (fun a b : Elt F .f32 => FloatOps.mulf a b) (readFirst arg3 harg3 x2 inb_S8x128_S1x1_0_0) (readOne arg2 harg2 x1 inb_S1_S1_0 _)

variable (c : Dev nD) (i : grid0.Coords) (arg1 : Memref sig .tc .smem S2 .f32) (harg1 : arg1.IsWhole) (arg2 : Memref sig .tc .smem S1 .f32) (harg2 : arg2.IsWhole) (arg3 : Memref sig .tc .vmem S8x128 .f32) (harg3 : arg3.IsWhole) (arg4 : Memref sig .tc .vmem S1536x2304 .fp8e4m3) (harg4 : arg4.IsWhole) (arg5 : Memref sig .tc .vmem S1536x2304 .fp8e5m2) (harg5 : arg5.IsWhole) (arg6 : Memref sig .tc .vmem S2304x256 .fp8e4m3) (harg6 : arg6.IsWhole) (arg7 : Memref sig .tc .vmem S2304x256 .fp8e4m3) (harg7 : arg7.IsWhole) (arg8 : Memref sig .tc .vmem S256x2304 .fp8e4m3) (harg8 : arg8.IsWhole) (arg9 : Memref sig .tc .vmem S1x1536x256 .bf16) (harg9 : arg9.IsWhole) (arg10 : Memref sig .tc .vmem S2x1x1536x256 .bf16) (harg10 : arg10.IsWhole) (arg11 : Memref sig .tc .vmem S8x256 .f32) (harg11 : arg11.IsWhole) (arg12 : Memref sig .tc .vmem S8x256 .f32) (harg12 : arg12.IsWhole) (arg13 : Memref sig .tc .vmem S1536x256 .f32) (harg13 : arg13.IsWhole) (arg14 : Memref sig .tc .vmem S1536x256 .f32) (harg14 : arg14.IsWhole) (arg15 : Memref sig .tc .vmem S1536x256 .f32) (harg15 : arg15.IsWhole) (hc0 : ¬cond0_0 i) (hc1 : cond0_1 i) (hc2 : ¬cond0_2 i)
    (x0 : Vec F S2 .f32) (x1 : Vec F S1 .f32) (x2 : Vec F S8x128 .f32) (x3 : Vec F S1536x2304 .fp8e4m3) (x4 : Vec F S1536x2304 .fp8e5m2) (x5 : Vec F S2304x256 .fp8e4m3) (x6 : Vec F S2304x256 .fp8e4m3) (x7 : Vec F S256x2304 .fp8e4m3) (xo10 : Vec F S8x256 .f32) (xo11 : Vec F S8x256 .f32) (xs0 : Vec F S1536x256 .f32) (xs1 : Vec F S1536x256 .f32) (xs2 : Vec F S1536x256 .f32)

set_option maxHeartbeats 4000000 in
/-- The activation's pieces are one function. -/
theorem pieces8_B : ∀ p ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 xo10 xo11 xs0 xs1 xs2).1, ∀ j, p.2 j = GA (vOf x0) xs0 xs1 (p.1.emb j) := by
  rw [← v_B c arg1 harg1 x0]
  iterate 48 refine List.forall_mem_cons.2 ⟨fun j => pieceA _ (by decide) (by decide) (by decide) arg13 harg13 arg14 harg14 _ xs0 xs1 j, ?_⟩
  exact fun p hp => absurd hp List.not_mem_nil

set_option maxHeartbeats 4000000 in
/-- The hidden gradient's pieces are one function. -/
theorem pieces9_B : ∀ p ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 xo10 xo11 xs0 xs1 xs2).2.1, ∀ j, p.2 j = GH (vOf x0) (wOf x1 x2) xs0 xs1 xs2 (p.1.emb j) := by
  rw [← v_B c arg1 harg1 x0, ← w_B c arg2 harg2 arg3 harg3 x1 x2]
  iterate 48
    refine List.forall_mem_cons.2 ⟨fun j => pieceU _ (by decide) (by decide) (by decide) arg13 harg13 arg15 harg15 _ _ _ xs0 xs1 xs2 j, ?_⟩
    refine List.forall_mem_cons.2 ⟨fun j => pieceG _ (by decide) (by decide) (by decide) (by decide) arg13 harg13 arg14 harg14 arg15 harg15 _ _ _ xs0 xs1 xs2 j, ?_⟩
  exact fun p hp => absurd hp List.not_mem_nil

/-- The activation's block after the point. -/
theorem val8_B : out0_B_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 xo10 xo11 xs0 xs1 xs2 = GA (vOf x0) xs0 xs1 :=
  funext fun y => View.read_writes_apply_of_pieces VO0_8 _ _ _ (pieces8_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 xo10 xo11 xs0 xs1 xs2) y (cover0_B_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 xo10 xo11 xs0 xs1 xs2 y)

/-- The hidden gradient's block after the point. -/
theorem val9_B : out0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 xo10 xo11 xs0 xs1 xs2 = GH (vOf x0) (wOf x1 x2) xs0 xs1 xs2 :=
  funext fun y => View.read_writes_apply_of_pieces VO0_9 _ _ _ (pieces9_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 xo10 xo11 xs0 xs1 xs2) y (cover0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 xo10 xo11 xs0 xs1 xs2 y)

end Cert.ForwardIdeal.Hand

end
-- ==== Proof.FOutC.lean ====
module

public import proofs.«01_k».proof.Proof.FLoad

@[expose] public section

set_option maxRecDepth 16384

noncomputable section

namespace Cert.ForwardIdeal.Hand

open Idealize.ShloMosaic.Tactic
open Cert.ForwardIdeal Cert.ForwardIdeal.Gen
open Idealize.ShloMosaic hiding ix0 ix1 ix2 ix3 ix4 ix5
open Idealize.ShloMosaic.ValueIdx
open Idealize.ShloMosaic.TcCoe Idealize.SL.Sem

variable {F : FTy → Type} [FloatOps F]

/-! # The two output blocks after the last point, as functions of the scratch it found -/

theorem v_C (c : Dev nD) (arg1 : Memref sig .tc .smem S2 .f32) (harg1 : arg1.IsWhole) (x0 : Vec F S2 .f32) : (k0_pay1 (kernelRun0_C.sl.r c arg1 harg1 x0) (kernelRun0_C.sl.r_1 c arg1 harg1 x0)) = vOf x0 :=
  congrArg₂ k0_pay1 (readScalar 0 arg1 harg1 x0 inb_S2_S1_0 _) (readScalar 1 arg1 harg1 x0 inb_S2_S1_1 _)

theorem w_C (c : Dev nD) (arg2 : Memref sig .tc .smem S1 .f32) (harg2 : arg2.IsWhole) (arg3 : Memref sig .tc .vmem S8x128 .f32) (harg3 : arg3.IsWhole) (x1 : Vec F S1 .f32) (x2 : Vec F S8x128 .f32) :
    wE (View.readAt (Elt F) arg3.view (Rect.unit (s := S8x128) ![0, 0] S1x1.size inb_S8x128_S1x1_0_0).toLoadRect (harg3.unread x2)) (kernelRun0_C.sl.r_2 c arg2 harg2 x1) = wOf x1 x2 :=
  congrArg₂ (fun a b : Elt F .f32 => FloatOps.mulf a b) (readFirst arg3 harg3 x2 inb_S8x128_S1x1_0_0) (readOne arg2 harg2 x1 inb_S1_S1_0 _)

variable (c : Dev nD) (i : grid0.Coords) (arg1 : Memref sig .tc .smem S2 .f32) (harg1 : arg1.IsWhole) (arg2 : Memref sig .tc .smem S1 .f32) (harg2 : arg2.IsWhole) (arg3 : Memref sig .tc .vmem S8x128 .f32) (harg3 : arg3.IsWhole) (arg4 : Memref sig .tc .vmem S1536x2304 .fp8e4m3) (harg4 : arg4.IsWhole) (arg5 : Memref sig .tc .vmem S1536x2304 .fp8e5m2) (harg5 : arg5.IsWhole) (arg6 : Memref sig .tc .vmem S2304x256 .fp8e4m3) (harg6 : arg6.IsWhole) (arg7 : Memref sig .tc .vmem S2304x256 .fp8e4m3) (harg7 : arg7.IsWhole) (arg8 : Memref sig .tc .vmem S256x2304 .fp8e4m3) (harg8 : arg8.IsWhole) (arg9 : Memref sig .tc .vmem S1x1536x256 .bf16) (harg9 : arg9.IsWhole) (arg10 : Memref sig .tc .vmem S2x1x1536x256 .bf16) (harg10 : arg10.IsWhole) (arg11 : Memref sig .tc .vmem S8x256 .f32) (harg11 : arg11.IsWhole) (arg12 : Memref sig .tc .vmem S8x256 .f32) (harg12 : arg12.IsWhole) (arg13 : Memref sig .tc .vmem S1536x256 .f32) (harg13 : arg13.IsWhole) (arg14 : Memref sig .tc .vmem S1536x256 .f32) (harg14 : arg14.IsWhole) (arg15 : Memref sig .tc .vmem S1536x256 .f32) (harg15 : arg15.IsWhole) (hc0 : ¬cond0_0 i) (hc1 : ¬cond0_1 i) (hc2 : cond0_2 i)
    (x0 : Vec F S2 .f32) (x1 : Vec F S1 .f32) (x2 : Vec F S8x128 .f32) (x3 : Vec F S1536x2304 .fp8e4m3) (x4 : Vec F S1536x2304 .fp8e5m2) (x5 : Vec F S2304x256 .fp8e4m3) (x6 : Vec F S2304x256 .fp8e4m3) (x7 : Vec F S256x2304 .fp8e4m3) (xo10 : Vec F S8x256 .f32) (xo11 : Vec F S8x256 .f32) (xs0 : Vec F S1536x256 .f32) (xs1 : Vec F S1536x256 .f32) (xs2 : Vec F S1536x256 .f32)

set_option maxHeartbeats 4000000 in
/-- The activation's pieces are one function. -/
theorem pieces8_C : ∀ p ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 xo10 xo11 xs0 xs1 xs2).1, ∀ j, p.2 j = GA (vOf x0) xs0 xs1 (p.1.emb j) := by
  rw [← v_C c arg1 harg1 x0]
  iterate 48 refine List.forall_mem_cons.2 ⟨fun j => pieceA _ (by decide) (by decide) (by decide) arg13 harg13 arg14 harg14 _ xs0 xs1 j, ?_⟩
  exact fun p hp => absurd hp List.not_mem_nil

set_option maxHeartbeats 4000000 in
/-- The hidden gradient's pieces are one function. -/
theorem pieces9_C : ∀ p ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 xo10 xo11 xs0 xs1 xs2).2.1, ∀ j, p.2 j = GH (vOf x0) (wOf x1 x2) xs0 xs1 xs2 (p.1.emb j) := by
  rw [← v_C c arg1 harg1 x0, ← w_C c arg2 harg2 arg3 harg3 x1 x2]
  iterate 48
    refine List.forall_mem_cons.2 ⟨fun j => pieceU _ (by decide) (by decide) (by decide) arg13 harg13 arg15 harg15 _ _ _ xs0 xs1 xs2 j, ?_⟩
    refine List.forall_mem_cons.2 ⟨fun j => pieceG _ (by decide) (by decide) (by decide) (by decide) arg13 harg13 arg14 harg14 arg15 harg15 _ _ _ xs0 xs1 xs2 j, ?_⟩
  exact fun p hp => absurd hp List.not_mem_nil

/-- The activation's block after the point. -/
theorem val8_C : out0_C_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 xo10 xo11 xs0 xs1 xs2 = GA (vOf x0) xs0 xs1 :=
  funext fun y => View.read_writes_apply_of_pieces VO0_8 _ _ _ (pieces8_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 xo10 xo11 xs0 xs1 xs2) y (cover0_C_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 xo10 xo11 xs0 xs1 xs2 y)

/-- The hidden gradient's block after the point. -/
theorem val9_C : out0_C_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 xo10 xo11 xs0 xs1 xs2 = GH (vOf x0) (wOf x1 x2) xs0 xs1 xs2 :=
  funext fun y => View.read_writes_apply_of_pieces VO0_9 _ _ _ (pieces9_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 xo10 xo11 xs0 xs1 xs2) y (cover0_C_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 xo10 xo11 xs0 xs1 xs2 y)

end Cert.ForwardIdeal.Hand

end
-- ==== Proof.FScr.lean ====
module

public import proofs.«01_k».proof.Proof.FSpec

@[expose] public section

set_option maxRecDepth 16384

noncomputable section

namespace Cert.ForwardIdeal.Hand

open Idealize.ShloMosaic.Tactic
open Cert.ForwardIdeal Cert.ForwardIdeal.Gen
open Idealize.ShloMosaic hiding ix0 ix1 ix2 ix3 ix4 ix5
open Idealize.ShloMosaic.ValueIdx
open Idealize.ShloMosaic.TcCoe Idealize.SL.Sem

variable {F : FTy → Type} [FloatOps F]

/-! # The three products the scratch buffers hold after a point -/

section
variable (c : Dev nD) (i : grid0.Coords) (arg1 : Memref sig .tc .smem S2 .f32) (harg1 : arg1.IsWhole) (arg2 : Memref sig .tc .smem S1 .f32) (harg2 : arg2.IsWhole) (arg3 : Memref sig .tc .vmem S8x128 .f32) (harg3 : arg3.IsWhole) (arg4 : Memref sig .tc .vmem S1536x2304 .fp8e4m3) (harg4 : arg4.IsWhole) (arg5 : Memref sig .tc .vmem S1536x2304 .fp8e5m2) (harg5 : arg5.IsWhole) (arg6 : Memref sig .tc .vmem S2304x256 .fp8e4m3) (harg6 : arg6.IsWhole) (arg7 : Memref sig .tc .vmem S2304x256 .fp8e4m3) (harg7 : arg7.IsWhole) (arg8 : Memref sig .tc .vmem S256x2304 .fp8e4m3) (harg8 : arg8.IsWhole) (arg9 : Memref sig .tc .vmem S1x1536x256 .bf16) (harg9 : arg9.IsWhole) (arg10 : Memref sig .tc .vmem S2x1x1536x256 .bf16) (harg10 : arg10.IsWhole) (arg11 : Memref sig .tc .vmem S8x256 .f32) (harg11 : arg11.IsWhole) (arg12 : Memref sig .tc .vmem S8x256 .f32) (harg12 : arg12.IsWhole) (arg13 : Memref sig .tc .vmem S1536x256 .f32) (harg13 : arg13.IsWhole) (arg14 : Memref sig .tc .vmem S1536x256 .f32) (harg14 : arg14.IsWhole) (arg15 : Memref sig .tc .vmem S1536x256 .f32) (harg15 : arg15.IsWhole) (hc0 : cond0_0 i) (hc1 : ¬cond0_1 i) (hc2 : ¬cond0_2 i)
    (x0 : Vec F S2 .f32) (x1 : Vec F S1 .f32) (x2 : Vec F S8x128 .f32) (x3 : Vec F S1536x2304 .fp8e4m3) (x4 : Vec F S1536x2304 .fp8e5m2) (x5 : Vec F S2304x256 .fp8e4m3) (x6 : Vec F S2304x256 .fp8e4m3) (x7 : Vec F S256x2304 .fp8e4m3)

/-- Scratch buffer 0 after the point: the gate product. -/
theorem sval0_A : sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 = gDot x3 x5 := by
  have hp : ∀ p ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7).2.2.2.2.1, ∀ j, p.2 j = gDot x3 x5 (p.1.emb j) := by
    refine List.forall_mem_cons.2 ⟨fun j => pieceX 1024 2 rfl inb_S1536x2304_S512x2304_1024_0 inb_S1536x256_S512x256_1024_0 inb_S2304x256_S2304x256_0_0 arg4 harg4 arg6 harg6 x3 x5 j, ?_⟩
    refine List.forall_mem_cons.2 ⟨fun j => pieceX 512 1 rfl inb_S1536x2304_S512x2304_512_0 inb_S1536x256_S512x256_512_0 inb_S2304x256_S2304x256_0_0 arg4 harg4 arg6 harg6 x3 x5 j, ?_⟩
    refine List.forall_mem_cons.2 ⟨fun j => pieceX 0 0 rfl inb_S1536x2304_S512x2304_0_0 inb_S1536x256_S512x256_0_0 inb_S2304x256_S2304x256_0_0 arg4 harg4 arg6 harg6 x3 x5 j, ?_⟩
    exact fun p hp => absurd hp List.not_mem_nil
  exact funext fun y => View.read_writes_apply_of_pieces VS0_0 _ _ _ hp y (scover0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 y)

/-- Scratch buffer 1 after the point: the up product. -/
theorem sval1_A : sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 = gDot x3 x6 := by
  have hp : ∀ p ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7).2.2.2.2.2.1, ∀ j, p.2 j = gDot x3 x6 (p.1.emb j) := by
    refine List.forall_mem_cons.2 ⟨fun j => pieceX 1024 2 rfl inb_S1536x2304_S512x2304_1024_0 inb_S1536x256_S512x256_1024_0 inb_S2304x256_S2304x256_0_0 arg4 harg4 arg7 harg7 x3 x6 j, ?_⟩
    refine List.forall_mem_cons.2 ⟨fun j => pieceX 512 1 rfl inb_S1536x2304_S512x2304_512_0 inb_S1536x256_S512x256_512_0 inb_S2304x256_S2304x256_0_0 arg4 harg4 arg7 harg7 x3 x6 j, ?_⟩
    refine List.forall_mem_cons.2 ⟨fun j => pieceX 0 0 rfl inb_S1536x2304_S512x2304_0_0 inb_S1536x256_S512x256_0_0 inb_S2304x256_S2304x256_0_0 arg4 harg4 arg7 harg7 x3 x6 j, ?_⟩
    exact fun p hp => absurd hp List.not_mem_nil
  exact funext fun y => View.read_writes_apply_of_pieces VS0_1 _ _ _ hp y (scover0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 y)

/-- Scratch buffer 2 after the point: the upstream product. -/
theorem sval2_A : sout0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 = dDot x4 x7 := by
  have hp : ∀ p ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7).2.2.2.2.2.2.1, ∀ j, p.2 j = dDot x4 x7 (p.1.emb j) := by
    refine List.forall_mem_cons.2 ⟨fun j => pieceY 1024 2 rfl inb_S1536x2304_S512x2304_1024_0 inb_S1536x256_S512x256_1024_0 inb_S256x2304_S256x2304_0_0 arg5 harg5 arg8 harg8 x4 x7 j, ?_⟩
    refine List.forall_mem_cons.2 ⟨fun j => pieceY 512 1 rfl inb_S1536x2304_S512x2304_512_0 inb_S1536x256_S512x256_512_0 inb_S256x2304_S256x2304_0_0 arg5 harg5 arg8 harg8 x4 x7 j, ?_⟩
    refine List.forall_mem_cons.2 ⟨fun j => pieceY 0 0 rfl inb_S1536x2304_S512x2304_0_0 inb_S1536x256_S512x256_0_0 inb_S256x2304_S256x2304_0_0 arg5 harg5 arg8 harg8 x4 x7 j, ?_⟩
    exact fun p hp => absurd hp List.not_mem_nil
  exact funext fun y => View.read_writes_apply_of_pieces VS0_2 _ _ _ hp y (scover0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 y)

end

section
variable (c : Dev nD) (i : grid0.Coords) (arg1 : Memref sig .tc .smem S2 .f32) (harg1 : arg1.IsWhole) (arg2 : Memref sig .tc .smem S1 .f32) (harg2 : arg2.IsWhole) (arg3 : Memref sig .tc .vmem S8x128 .f32) (harg3 : arg3.IsWhole) (arg4 : Memref sig .tc .vmem S1536x2304 .fp8e4m3) (harg4 : arg4.IsWhole) (arg5 : Memref sig .tc .vmem S1536x2304 .fp8e5m2) (harg5 : arg5.IsWhole) (arg6 : Memref sig .tc .vmem S2304x256 .fp8e4m3) (harg6 : arg6.IsWhole) (arg7 : Memref sig .tc .vmem S2304x256 .fp8e4m3) (harg7 : arg7.IsWhole) (arg8 : Memref sig .tc .vmem S256x2304 .fp8e4m3) (harg8 : arg8.IsWhole) (arg9 : Memref sig .tc .vmem S1x1536x256 .bf16) (harg9 : arg9.IsWhole) (arg10 : Memref sig .tc .vmem S2x1x1536x256 .bf16) (harg10 : arg10.IsWhole) (arg11 : Memref sig .tc .vmem S8x256 .f32) (harg11 : arg11.IsWhole) (arg12 : Memref sig .tc .vmem S8x256 .f32) (harg12 : arg12.IsWhole) (arg13 : Memref sig .tc .vmem S1536x256 .f32) (harg13 : arg13.IsWhole) (arg14 : Memref sig .tc .vmem S1536x256 .f32) (harg14 : arg14.IsWhole) (arg15 : Memref sig .tc .vmem S1536x256 .f32) (harg15 : arg15.IsWhole) (hc0 : ¬cond0_0 i) (hc1 : cond0_1 i) (hc2 : ¬cond0_2 i)
    (x0 : Vec F S2 .f32) (x1 : Vec F S1 .f32) (x2 : Vec F S8x128 .f32) (x3 : Vec F S1536x2304 .fp8e4m3) (x4 : Vec F S1536x2304 .fp8e5m2) (x5 : Vec F S2304x256 .fp8e4m3) (x6 : Vec F S2304x256 .fp8e4m3) (x7 : Vec F S256x2304 .fp8e4m3) (xo10 : Vec F S8x256 .f32) (xo11 : Vec F S8x256 .f32) (xs0 : Vec F S1536x256 .f32) (xs1 : Vec F S1536x256 .f32) (xs2 : Vec F S1536x256 .f32)

/-- Scratch buffer 0 after the point: the gate product. -/
theorem sval0_B : sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 xo10 xo11 xs0 xs1 xs2 = gDot x3 x5 := by
  have hp : ∀ p ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 xo10 xo11 xs0 xs1 xs2).2.2.2.2.1, ∀ j, p.2 j = gDot x3 x5 (p.1.emb j) := by
    refine List.forall_mem_cons.2 ⟨fun j => pieceX 1024 2 rfl inb_S1536x2304_S512x2304_1024_0 inb_S1536x256_S512x256_1024_0 inb_S2304x256_S2304x256_0_0 arg4 harg4 arg6 harg6 x3 x5 j, ?_⟩
    refine List.forall_mem_cons.2 ⟨fun j => pieceX 512 1 rfl inb_S1536x2304_S512x2304_512_0 inb_S1536x256_S512x256_512_0 inb_S2304x256_S2304x256_0_0 arg4 harg4 arg6 harg6 x3 x5 j, ?_⟩
    refine List.forall_mem_cons.2 ⟨fun j => pieceX 0 0 rfl inb_S1536x2304_S512x2304_0_0 inb_S1536x256_S512x256_0_0 inb_S2304x256_S2304x256_0_0 arg4 harg4 arg6 harg6 x3 x5 j, ?_⟩
    exact fun p hp => absurd hp List.not_mem_nil
  exact funext fun y => View.read_writes_apply_of_pieces VS0_0 _ _ _ hp y (scover0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 xo10 xo11 xs0 xs1 xs2 y)

/-- Scratch buffer 1 after the point: the up product. -/
theorem sval1_B : sout0_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 xo10 xo11 xs0 xs1 xs2 = gDot x3 x6 := by
  have hp : ∀ p ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 xo10 xo11 xs0 xs1 xs2).2.2.2.2.2.1, ∀ j, p.2 j = gDot x3 x6 (p.1.emb j) := by
    refine List.forall_mem_cons.2 ⟨fun j => pieceX 1024 2 rfl inb_S1536x2304_S512x2304_1024_0 inb_S1536x256_S512x256_1024_0 inb_S2304x256_S2304x256_0_0 arg4 harg4 arg7 harg7 x3 x6 j, ?_⟩
    refine List.forall_mem_cons.2 ⟨fun j => pieceX 512 1 rfl inb_S1536x2304_S512x2304_512_0 inb_S1536x256_S512x256_512_0 inb_S2304x256_S2304x256_0_0 arg4 harg4 arg7 harg7 x3 x6 j, ?_⟩
    refine List.forall_mem_cons.2 ⟨fun j => pieceX 0 0 rfl inb_S1536x2304_S512x2304_0_0 inb_S1536x256_S512x256_0_0 inb_S2304x256_S2304x256_0_0 arg4 harg4 arg7 harg7 x3 x6 j, ?_⟩
    exact fun p hp => absurd hp List.not_mem_nil
  exact funext fun y => View.read_writes_apply_of_pieces VS0_1 _ _ _ hp y (scover0_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 xo10 xo11 xs0 xs1 xs2 y)

/-- Scratch buffer 2 after the point: the upstream product. -/
theorem sval2_B : sout0_B_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 xo10 xo11 xs0 xs1 xs2 = dDot x4 x7 := by
  have hp : ∀ p ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 xo10 xo11 xs0 xs1 xs2).2.2.2.2.2.2.1, ∀ j, p.2 j = dDot x4 x7 (p.1.emb j) := by
    refine List.forall_mem_cons.2 ⟨fun j => pieceY 1024 2 rfl inb_S1536x2304_S512x2304_1024_0 inb_S1536x256_S512x256_1024_0 inb_S256x2304_S256x2304_0_0 arg5 harg5 arg8 harg8 x4 x7 j, ?_⟩
    refine List.forall_mem_cons.2 ⟨fun j => pieceY 512 1 rfl inb_S1536x2304_S512x2304_512_0 inb_S1536x256_S512x256_512_0 inb_S256x2304_S256x2304_0_0 arg5 harg5 arg8 harg8 x4 x7 j, ?_⟩
    refine List.forall_mem_cons.2 ⟨fun j => pieceY 0 0 rfl inb_S1536x2304_S512x2304_0_0 inb_S1536x256_S512x256_0_0 inb_S256x2304_S256x2304_0_0 arg5 harg5 arg8 harg8 x4 x7 j, ?_⟩
    exact fun p hp => absurd hp List.not_mem_nil
  exact funext fun y => View.read_writes_apply_of_pieces VS0_2 _ _ _ hp y (scover0_B_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 xo10 xo11 xs0 xs1 xs2 y)

end

end Cert.ForwardIdeal.Hand

end
-- ==== Proof.FPts.lean ====
/- What each point of the forward kernel leaves behind. -/
module

public import proofs.«01_k».proof.Proof.FBlk
public import proofs.«01_k».proof.Proof.FOutB
public import proofs.«01_k».proof.Proof.FOutC
public import proofs.«01_k».proof.Proof.FScr

@[expose] public section

set_option maxRecDepth 16384

noncomputable section

namespace Cert.ForwardIdeal.Hand

open Cert.ForwardIdeal Cert.ForwardIdeal.Gen
open Idealize.ShloMosaic hiding ix0 ix1 ix2 ix3 ix4 ix5
open Idealize.ShloMosaic.ValueIdx
open Idealize.ShloMosaic.TcCoe Idealize.SL.Sem

variable {F : FTy → Type} [FloatOps F]
variable (m : (ℓ : Loc nD τ sig) → Buf (Elt F) ℓ)

/-- The point before a point is a point. -/
theorem pr (t : Fin cfg0.N) : t.val - 1 < cfg0.N := Nat.lt_of_le_of_lt (Nat.sub_le _ _) t.isLt

theorem first_of {α β : Type} {p : α × β} {a : α} {b : β} (h : p = (a, b)) : p.1 = a := congrArg Prod.fst h
theorem second_of {α β γ : Type} {p : α × β × γ} {a : α} {b : β} {d : γ} (h : p = (a, b, d)) : p.2.1 = b := congrArg (fun q => q.2.1) h

/-- The three products of a block of columns. -/
def dots (c : Dev nD) (t : Fin cfg0.N) : Vec F S1536x256 .f32 × Vec F S1536x256 .f32 × Vec F S1536x256 .f32 :=
  (gDot (iblk m c 3 t) (iblk m c 5 t), gDot (iblk m c 3 t) (iblk m c 6 t), dDot (iblk m c 4 t) (iblk m c 7 t))

/-- What a point but the last leaves in the scratch buffers. -/
theorem scr (c : Dev nD) (t : Fin cfg0.N) (ht : t.val < 36) : (outsAt0 m c t.val t.isLt).2.2.2.2 = dots m c t := by
  by_cases hz : t.val = 0
  · have q0 : t.val % 37 = 0 := by omega
    have q1 : ¬(1 ≤ t.val % 37 ∧ t.val % 37 ≤ 35) := by omega
    have q2 : ¬t.val % 37 = 36 := by omega
    refine (congrArg (fun p => p.2.2.2.2) (outsAt0_A m c t q0 q1 q2)).trans ?_
    exact congrArg₂ Prod.mk (sval0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) ((hcond0_0 t).mpr q0) (fun h => q1 ((hcond0_1 t).mp h)) (fun h => q2 ((hcond0_2 t).mp h)) (iblk m c 0 t) (iblk m c 1 t) (iblk m c 2 t) (iblk m c 3 t) (iblk m c 4 t) (iblk m c 5 t) (iblk m c 6 t) (iblk m c 7 t))
      (congrArg₂ Prod.mk (sval1_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) ((hcond0_0 t).mpr q0) (fun h => q1 ((hcond0_1 t).mp h)) (fun h => q2 ((hcond0_2 t).mp h)) (iblk m c 0 t) (iblk m c 1 t) (iblk m c 2 t) (iblk m c 3 t) (iblk m c 4 t) (iblk m c 5 t) (iblk m c 6 t) (iblk m c 7 t))
        (sval2_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) ((hcond0_0 t).mpr q0) (fun h => q1 ((hcond0_1 t).mp h)) (fun h => q2 ((hcond0_2 t).mp h)) (iblk m c 0 t) (iblk m c 1 t) (iblk m c 2 t) (iblk m c 3 t) (iblk m c 4 t) (iblk m c 5 t) (iblk m c 6 t) (iblk m c 7 t)))
  · have q0 : ¬t.val % 37 = 0 := by omega
    have q1 : 1 ≤ t.val % 37 ∧ t.val % 37 ≤ 35 := by omega
    have q2 : ¬t.val % 37 = 36 := by omega
    refine (congrArg (fun p => p.2.2.2.2) (outsAt0_B m c t q0 q1 q2)).trans ?_
    exact congrArg₂ Prod.mk (sval0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (fun h => q0 ((hcond0_0 t).mp h)) ((hcond0_1 t).mpr q1) (fun h => q2 ((hcond0_2 t).mp h)) (iblk m c 0 t) (iblk m c 1 t) (iblk m c 2 t) (iblk m c 3 t) (iblk m c 4 t) (iblk m c 5 t) (iblk m c 6 t) (iblk m c 7 t) (outsAt0 m c (t.val - 1) (pr t)).2.2.1 (outsAt0 m c (t.val - 1) (pr t)).2.2.2.1 (outsAt0 m c (t.val - 1) (pr t)).2.2.2.2.1 (outsAt0 m c (t.val - 1) (pr t)).2.2.2.2.2.1 (outsAt0 m c (t.val - 1) (pr t)).2.2.2.2.2.2)
      (congrArg₂ Prod.mk (sval1_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (fun h => q0 ((hcond0_0 t).mp h)) ((hcond0_1 t).mpr q1) (fun h => q2 ((hcond0_2 t).mp h)) (iblk m c 0 t) (iblk m c 1 t) (iblk m c 2 t) (iblk m c 3 t) (iblk m c 4 t) (iblk m c 5 t) (iblk m c 6 t) (iblk m c 7 t) (outsAt0 m c (t.val - 1) (pr t)).2.2.1 (outsAt0 m c (t.val - 1) (pr t)).2.2.2.1 (outsAt0 m c (t.val - 1) (pr t)).2.2.2.2.1 (outsAt0 m c (t.val - 1) (pr t)).2.2.2.2.2.1 (outsAt0 m c (t.val - 1) (pr t)).2.2.2.2.2.2)
        (sval2_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (fun h => q0 ((hcond0_0 t).mp h)) ((hcond0_1 t).mpr q1) (fun h => q2 ((hcond0_2 t).mp h)) (iblk m c 0 t) (iblk m c 1 t) (iblk m c 2 t) (iblk m c 3 t) (iblk m c 4 t) (iblk m c 5 t) (iblk m c 6 t) (iblk m c 7 t) (outsAt0 m c (t.val - 1) (pr t)).2.2.1 (outsAt0 m c (t.val - 1) (pr t)).2.2.2.1 (outsAt0 m c (t.val - 1) (pr t)).2.2.2.2.1 (outsAt0 m c (t.val - 1) (pr t)).2.2.2.2.2.1 (outsAt0 m c (t.val - 1) (pr t)).2.2.2.2.2.2))

/-- The activation's block after a point: from the products of the block before. -/
theorem aft8 (c : Dev nD) (t : Fin cfg0.N) (ht : 1 ≤ t.val) : (dats m 0 c).after 8 t = GA (vOf (iblk m c 0 t)) (dots m c ⟨t.val - 1, pr t⟩).1 (dots m c ⟨t.val - 1, pr t⟩).2.1 := by
  have hl := tlt t
  have hs : (outsAt0 m c (t.val - 1) (pr t)).2.2.2.2 = dots m c ⟨t.val - 1, pr t⟩ := scr m c ⟨t.val - 1, pr t⟩ (show t.val - 1 < 36 by omega)
  rw [after0_8]
  have q0 : ¬t.val % 37 = 0 := by omega
  by_cases q2 : t.val % 37 = 36
  · have q1 : ¬(1 ≤ t.val % 37 ∧ t.val % 37 ≤ 35) := by omega
    refine (first_of (outsAt0_C m c t q0 q1 q2)).trans ?_
    refine (val8_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (fun h => q0 ((hcond0_0 t).mp h)) (fun h => q1 ((hcond0_1 t).mp h)) ((hcond0_2 t).mpr q2) (iblk m c 0 t) (iblk m c 1 t) (iblk m c 2 t) (iblk m c 3 t) (iblk m c 4 t) (iblk m c 5 t) (iblk m c 6 t) (iblk m c 7 t) (outsAt0 m c (t.val - 1) (pr t)).2.2.1 (outsAt0 m c (t.val - 1) (pr t)).2.2.2.1 (outsAt0 m c (t.val - 1) (pr t)).2.2.2.2.1 (outsAt0 m c (t.val - 1) (pr t)).2.2.2.2.2.1 (outsAt0 m c (t.val - 1) (pr t)).2.2.2.2.2.2).trans ?_
    exact congrArg (fun p : Vec F S1536x256 .f32 × Vec F S1536x256 .f32 × Vec F S1536x256 .f32 => GA (vOf (iblk m c 0 t)) p.1 p.2.1) hs
  · have q1 : 1 ≤ t.val % 37 ∧ t.val % 37 ≤ 35 := by omega
    refine (first_of (outsAt0_B m c t q0 q1 q2)).trans ?_
    refine (val8_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (fun h => q0 ((hcond0_0 t).mp h)) ((hcond0_1 t).mpr q1) (fun h => q2 ((hcond0_2 t).mp h)) (iblk m c 0 t) (iblk m c 1 t) (iblk m c 2 t) (iblk m c 3 t) (iblk m c 4 t) (iblk m c 5 t) (iblk m c 6 t) (iblk m c 7 t) (outsAt0 m c (t.val - 1) (pr t)).2.2.1 (outsAt0 m c (t.val - 1) (pr t)).2.2.2.1 (outsAt0 m c (t.val - 1) (pr t)).2.2.2.2.1 (outsAt0 m c (t.val - 1) (pr t)).2.2.2.2.2.1 (outsAt0 m c (t.val - 1) (pr t)).2.2.2.2.2.2).trans ?_
    exact congrArg (fun p : Vec F S1536x256 .f32 × Vec F S1536x256 .f32 × Vec F S1536x256 .f32 => GA (vOf (iblk m c 0 t)) p.1 p.2.1) hs

/-- The hidden gradient's block after a point: from the products of the block before. -/
theorem aft9 (c : Dev nD) (t : Fin cfg0.N) (ht : 1 ≤ t.val) : (dats m 0 c).after 9 t = GH (vOf (iblk m c 0 t)) (wOf (iblk m c 1 t) (iblk m c 2 t)) (dots m c ⟨t.val - 1, pr t⟩).1 (dots m c ⟨t.val - 1, pr t⟩).2.1 (dots m c ⟨t.val - 1, pr t⟩).2.2 := by
  have hl := tlt t
  have hs : (outsAt0 m c (t.val - 1) (pr t)).2.2.2.2 = dots m c ⟨t.val - 1, pr t⟩ := scr m c ⟨t.val - 1, pr t⟩ (show t.val - 1 < 36 by omega)
  rw [after0_9]
  have q0 : ¬t.val % 37 = 0 := by omega
  by_cases q2 : t.val % 37 = 36
  · have q1 : ¬(1 ≤ t.val % 37 ∧ t.val % 37 ≤ 35) := by omega
    refine (second_of (outsAt0_C m c t q0 q1 q2)).trans ?_
    refine (val9_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (fun h => q0 ((hcond0_0 t).mp h)) (fun h => q1 ((hcond0_1 t).mp h)) ((hcond0_2 t).mpr q2) (iblk m c 0 t) (iblk m c 1 t) (iblk m c 2 t) (iblk m c 3 t) (iblk m c 4 t) (iblk m c 5 t) (iblk m c 6 t) (iblk m c 7 t) (outsAt0 m c (t.val - 1) (pr t)).2.2.1 (outsAt0 m c (t.val - 1) (pr t)).2.2.2.1 (outsAt0 m c (t.val - 1) (pr t)).2.2.2.2.1 (outsAt0 m c (t.val - 1) (pr t)).2.2.2.2.2.1 (outsAt0 m c (t.val - 1) (pr t)).2.2.2.2.2.2).trans ?_
    exact congrArg (fun p : Vec F S1536x256 .f32 × Vec F S1536x256 .f32 × Vec F S1536x256 .f32 => GH (vOf (iblk m c 0 t)) (wOf (iblk m c 1 t) (iblk m c 2 t)) p.1 p.2.1 p.2.2) hs
  · have q1 : 1 ≤ t.val % 37 ∧ t.val % 37 ≤ 35 := by omega
    refine (second_of (outsAt0_B m c t q0 q1 q2)).trans ?_
    refine (val9_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (fun h => q0 ((hcond0_0 t).mp h)) ((hcond0_1 t).mpr q1) (fun h => q2 ((hcond0_2 t).mp h)) (iblk m c 0 t) (iblk m c 1 t) (iblk m c 2 t) (iblk m c 3 t) (iblk m c 4 t) (iblk m c 5 t) (iblk m c 6 t) (iblk m c 7 t) (outsAt0 m c (t.val - 1) (pr t)).2.2.1 (outsAt0 m c (t.val - 1) (pr t)).2.2.2.1 (outsAt0 m c (t.val - 1) (pr t)).2.2.2.2.1 (outsAt0 m c (t.val - 1) (pr t)).2.2.2.2.2.1 (outsAt0 m c (t.val - 1) (pr t)).2.2.2.2.2.2).trans ?_
    exact congrArg (fun p : Vec F S1536x256 .f32 × Vec F S1536x256 .f32 × Vec F S1536x256 .f32 => GH (vOf (iblk m c 0 t)) (wOf (iblk m c 1 t) (iblk m c 2 t)) p.1 p.2.1 p.2.2) hs

end Cert.ForwardIdeal.Hand

end
-- ==== Proof.FVal.lean ====
/- The two results of the forward call as formulas over the reals. -/
module

public import proofs.«01_k».proof.Proof.FPts

@[expose] public section

set_option maxRecDepth 16384

noncomputable section

namespace Cert.ForwardIdeal.Hand

open Idealize.ShloMosaic.Tactic
open Cert.ForwardIdeal Cert.ForwardIdeal.Gen
open Idealize.ShloMosaic hiding ix0 ix1 ix2 ix3 ix4 ix5
open Idealize.ShloMosaic.ValueIdx
open Idealize.ShloMosaic.TcCoe Idealize.SL.Sem

/-! ## The products -/

theorem pay7_apply (a : Vec Ideal S512x2304 .fp8e4m3) (b : Vec Ideal S2304x256 .fp8e4m3) (y : S512x256.Idx) :
    (k0_pay7 a b y : EReal) = ∑ k : Fin 2304, (a (ix2 (y 0 : Fin 512) k) : EReal) * (b (ix2 k (y 1 : Fin 256)) : EReal) := by
  unfold k0_pay7; pointwise
  rfl

theorem pay9_apply (a : Vec Ideal S512x2304 .fp8e5m2) (b : Vec Ideal S256x2304 .fp8e4m3) (y : S512x256.Idx) :
    (k0_pay9 a b y : EReal) = ∑ k : Fin 2304, (a (ix2 (y 0 : Fin 512) k) : EReal) * (b (ix2 (y 1 : Fin 256) k) : EReal) := by
  unfold k0_pay9; pointwise
  rfl

theorem rows_at {e : EltTy} (x : Vec Ideal S1536x2304 e) (r : Fin 1536) (k : Fin 2304) :
    rows (⟨r.val / 512, by have := r.isLt; omega⟩ : Fin 3) x (ix2 (⟨r.val % 512, Nat.mod_lt _ (by norm_num)⟩ : Fin 512) k) = x (ix2 r k) := by
  refine congrArg x ?_
  funext a; apply Fin.ext
  match a with
  | ⟨0, _⟩ => show 512 * (r.val / 512) + r.val % 512 = r.val; omega
  | ⟨1, _⟩ => rfl

theorem gDot_apply (x : Vec Ideal S1536x2304 .fp8e4m3) (w : Vec Ideal S2304x256 .fp8e4m3) (r : Fin 1536) (l : Fin 256) :
    (gDot x w (ix2 r l) : EReal) = ∑ k : Fin 2304, (x (ix2 r k) : EReal) * (w (ix2 k l) : EReal) :=
  (pay7_apply _ _ _).trans (Finset.sum_congr rfl fun k _ => congrArg₂ (fun a b : EReal => a * b) (rows_at x r k) rfl)

theorem dDot_apply (x : Vec Ideal S1536x2304 .fp8e5m2) (w : Vec Ideal S256x2304 .fp8e4m3) (r : Fin 1536) (l : Fin 256) :
    (dDot x w (ix2 r l) : EReal) = ∑ k : Fin 2304, (x (ix2 r k) : EReal) * (w (ix2 l k) : EReal) :=
  (pay9_apply _ _ _).trans (Finset.sum_congr rfl fun k _ => congrArg₂ (fun a b : EReal => a * b) (rows_at x r k) rfl)

/-! ## The two results -/

/-- A product of two scales. -/
def mulE (a b : EReal) : EReal := a * b

/-- One entry of the codes times the first weight. -/
def XW (x : Vec Ideal S1536x2304 .fp8e4m3) (W : Vec Ideal S2304x18432 .fp8e4m3) (r : Fin 1536) (q : Fin 18432) : EReal :=
  ∑ k : Fin 2304, (x (ix2 r k) : EReal) * (W (ix2 k q) : EReal)

/-- One entry of the upstream codes times the second weight's transpose. -/
def YW (d : Vec Ideal S1536x2304 .fp8e5m2) (W : Vec Ideal S9216x2304 .fp8e4m3) (r : Fin 1536) (f : Fin 9216) : EReal :=
  ∑ k : Fin 2304, (d (ix2 r k) : EReal) * (W (ix2 f k) : EReal)

/-- Column `l` of block `b` of the hidden width. -/
def colF (b : Fin 36) (l : Fin 256) : Fin 9216 := ⟨b.val * 256 + l.val, by have := b.isLt; have := l.isLt; omega⟩
/-- Its gate column. -/
def colG (b : Fin 36) (l : Fin 256) : Fin 18432 := ⟨b.val * 256 + l.val, by have := b.isLt; have := l.isLt; omega⟩
/-- Its up column. -/
def colU (b : Fin 36) (l : Fin 256) : Fin 18432 := ⟨9216 + (b.val * 256 + l.val), by have := b.isLt; have := l.isLt; omega⟩

/-- The three entries, cast: what a single entry of each result is. -/
def aC {F : FTy → Type} [FloatOps F] (v g u : Elt F .f32) : Elt F .bf16 := FloatOps.truncf .bf16 bitsLt_bf16_f32 (aP v g u)
def dgC {F : FTy → Type} [FloatOps F] (v w g u d : Elt F .f32) : Elt F .bf16 := FloatOps.truncf .bf16 bitsLt_bf16_f32 (dgP v w g u d)
def duC {F : FTy → Type} [FloatOps F] (v w g d : Elt F .f32) : Elt F .bf16 := FloatOps.truncf .bf16 bitsLt_bf16_f32 (duP v w g d)

/-- Over the reals rounding to odd keeps every value, as the cast does. -/
theorem odd_ideal (x : Ideal .f32) : odd (F := Ideal) x = FloatOps.truncf .bf16 bitsLt_bf16_f32 x := by
  have h : FloatOps.cmpf .oeq x (FloatOps.extf .f32 bitsLt_bf16_f32 (FloatOps.truncf .bf16 bitsLt_bf16_f32 x : Ideal .bf16)) = (1 : BitVec 1) := by
    show Ideal.cmp .oeq (x : EReal) (x : EReal) = 1
    simp [Ideal.cmp]
  have k : ∀ b : BitVec 1, IntOp.ori (1 : BitVec 1) b = 1 := by decide
  unfold odd pick Scalar.select
  rw [h, k]
  exact if_pos rfl

/-- The activation. -/
def FA (v : EReal) (x : Vec Ideal S1536x2304 .fp8e4m3) (W : Vec Ideal S2304x18432 .fp8e4m3) : Vec Ideal S36x1536x256 .bf16 := fun i =>
  aC (F := Ideal) v (XW x W (i 1) (colG (i 0) (i 2))) (XW x W (i 1) (colU (i 0) (i 2)))

/-- The hidden gradient. -/
def FH (v w : EReal) (x : Vec Ideal S1536x2304 .fp8e4m3) (d : Vec Ideal S1536x2304 .fp8e5m2) (W : Vec Ideal S2304x18432 .fp8e4m3)
    (W2 : Vec Ideal S9216x2304 .fp8e4m3) : Vec Ideal S2x36x1536x256 .bf16 := fun i =>
  if (i 0).val = 0 then
    dgC (F := Ideal) v w (XW x W (i 2) (colG (i 1) (i 3))) (XW x W (i 2) (colU (i 1) (i 3))) (YW d W2 (i 2) (colF (i 1) (i 3)))
  else duC (F := Ideal) v w (XW x W (i 2) (colG (i 1) (i 3))) (YW d W2 (i 2) (colF (i 1) (i 3)))

variable {m : (ℓ : Loc nD τ sig) → Buf (Elt Ideal) ℓ} (c : Dev nD)

theorem dotG (t : Fin cfg0.N) (ht : t.val < 36) (r : Fin 1536) (l : Fin 256) :
    ((dots m c t).1 (ix2 r l) : EReal) = XW (V m c main_arg4) (V m c main_arg6) r (colG ⟨t.val, ht⟩ l) := by
  refine (gDot_apply _ _ r l).trans (Finset.sum_congr rfl fun k _ => ?_)
  exact congrArg₂ (fun a b : EReal => a * b) (congrFun (blk3 m c t) _) (blk5 m c t ht (ix2 k l))

theorem dotU (t : Fin cfg0.N) (ht : t.val < 36) (r : Fin 1536) (l : Fin 256) :
    ((dots m c t).2.1 (ix2 r l) : EReal) = XW (V m c main_arg4) (V m c main_arg6) r (colU ⟨t.val, ht⟩ l) := by
  refine (gDot_apply _ _ r l).trans (Finset.sum_congr rfl fun k _ => ?_)
  exact congrArg₂ (fun a b : EReal => a * b) (congrFun (blk3 m c t) _) (blk6 m c t ht (ix2 k l))

theorem dotD (t : Fin cfg0.N) (ht : t.val < 36) (r : Fin 1536) (l : Fin 256) :
    ((dots m c t).2.2 (ix2 r l) : EReal) = YW (V m c main_arg5) (V m c main_arg7) r (colF ⟨t.val, ht⟩ l) := by
  refine (dDot_apply _ _ r l).trans (Finset.sum_congr rfl fun k _ => ?_)
  exact congrArg₂ (fun a b : EReal => a * b) (congrFun (blk4 m c t) _) (blk7 m c t ht (ix2 l k))

theorem res_a : (dats m 0 c).arrAt 8 cfg0.N = FA (vOf (V m c main_v2)) (V m c main_arg4) (V m c main_arg6) :=
  fin8 m c _ fun t y ht => by
    have hl := tlt t
    have hp : t.val - 1 < 36 := by omega
    rw [aft8 m c t ht, blk0]
    exact (odd_ideal _).trans <| congrArg₂ (aC (F := Ideal) (vOf (V m c main_v2))) (dotG c ⟨t.val - 1, pr t⟩ hp _ _) (dotU c ⟨t.val - 1, pr t⟩ hp _ _)

theorem dgC_congr {v w g g' u u' d d' : EReal} (h1 : g = g') (h2 : u = u') (h3 : d = d') : dgC (F := Ideal) v w g u d = dgC (F := Ideal) v w g' u' d' := by
  subst h1 h2 h3; rfl

theorem res_h : (dats m 0 c).arrAt 9 cfg0.N = FH (vOf (V m c main_v2)) (wOf (V m c main_v3) (V m c main_arg3)) (V m c main_arg4) (V m c main_arg5) (V m c main_arg6) (V m c main_arg7) :=
  fin9 m c _ fun t y ht => by
    have hl := tlt t
    have hp : t.val - 1 < 36 := by omega
    rw [aft9 m c t ht, blk0, blk1, blk2]
    have g := dotG (m := m) c ⟨t.val - 1, pr t⟩ hp (y 2) (y 3)
    have u := dotU (m := m) c ⟨t.val - 1, pr t⟩ hp (y 2) (y 3)
    have d := dotD (m := m) c ⟨t.val - 1, pr t⟩ hp (y 2) (y 3)
    by_cases h0 : (y 0).val = 0
    · exact (if_pos h0).trans ((odd_ideal _).trans <| (dgC_congr g u d).trans (if_pos h0).symm)
    · exact (if_neg h0).trans ((odd_ideal _).trans <| (congrArg₂ (duC (F := Ideal) _ _) g d).trans (if_neg h0).symm)

/-! ## The scales -/

theorem V_v2_0 : (V m c main_v2 (ix1 (0 : Fin 2)) : EReal) = m ((c : Thread nD τ).loc main_arg0) ValueIdx.ix0 := by
  show StableHlo.after hostOps0 _ _ _ = _
  after_results
  pointwise
  rfl

theorem V_v2_1 : (V m c main_v2 (ix1 (1 : Fin 2)) : EReal) = m ((c : Thread nD τ).loc main_arg1) ValueIdx.ix0 := by
  show StableHlo.after hostOps0 _ _ _ = _
  after_results
  pointwise
  rfl

theorem V_v3 : (V m c main_v3 (ix1 (0 : Fin 1)) : EReal) = m ((c : Thread nD τ).loc main_arg2) ValueIdx.ix0 := by
  show StableHlo.after hostOps0 _ _ _ = _
  after_results
  pointwise
  rfl

/-- The factor of the products with the first weight: the two scales' product. -/
theorem vOf_eq : (vOf (V m c main_v2) : EReal) = mulE (m ((c : Thread nD τ).loc main_arg0) ValueIdx.ix0) (m ((c : Thread nD τ).loc main_arg1) ValueIdx.ix0) :=
  congrArg₂ mulE (V_v2_0 c) (V_v2_1 c)

/-- The factor of the product with the second weight. -/
theorem wOf_eq : (wOf (V m c main_v3) (V m c main_arg3) : EReal) = mulE (V m c main_arg3 (ix2 (0 : Fin 8) (0 : Fin 128))) (m ((c : Thread nD τ).loc main_arg2) ValueIdx.ix0) :=
  congrArg (mulE (V m c main_arg3 (ix2 (0 : Fin 8) (0 : Fin 128)))) (V_v3 c)

end Cert.ForwardIdeal.Hand

end
-- ==== Proof.FRef.lean ====
/- What the forward call's reference computes at the ideal instance: the same formulas. -/
module

public import proofs.«01_k».proof.Proof.FVal
public import proofs.«01_k».proof.Proof.Gen.ForwardRefIdeal.Frame
public import Idealize.ShloMosaic.Lib.Pipeline.Value

@[expose] public section

set_option maxRecDepth 16384

noncomputable section

namespace Cert.ForwardRefIdeal.Hand

open Idealize.ShloMosaic.Tactic
open Cert.ForwardRefIdeal Cert.ForwardRefIdeal.Gen
open Cert.ForwardIdeal.Hand (FA FH XW YW mulE aC dgC duC colF colG colU)
open Idealize.ShloMosaic hiding ix0 ix1 ix2 ix3 ix4 ix5
open Idealize.ShloMosaic.ValueIdx
open Idealize.ShloMosaic.TcCoe Idealize.SL.Sem

/-! ## The payloads -/

/-- The only entry of a 1x1 vector. -/
def cell (s : Vec Ideal S1x1 .f32) : EReal := s (ix2 (0 : Fin 1) (0 : Fin 1))

variable (x : Vec Ideal S1536x2304 .fp8e4m3) (W : Vec Ideal S2304x18432 .fp8e4m3) (s0 s1 : Vec Ideal S1x1 .f32)
variable (d : Vec Ideal S1536x2304 .fp8e5m2) (W2 : Vec Ideal S9216x2304 .fp8e4m3) (s3 s2 : Vec Ideal S1x1 .f32)

theorem pay3_at (y : S1536x18432.Idx) : (k0_pay3 x W s0 s1 y : EReal) = mulE (XW x W (y 0) (y 1)) (mulE (cell s0) (cell s1)) := by
  unfold k0_pay3; pointwise
  rfl

theorem pay6_at (y : S1536x9216.Idx) : (k0_pay6 d W2 s3 s2 y : EReal) = mulE (YW d W2 (y 0) (y 1)) (mulE (cell s3) (cell s2)) := by
  unfold k0_pay6; pointwise
  rfl

/-- The gate column of a hidden column. -/
def gcol (f : Fin 9216) : Fin 18432 := ⟨f.val, by have := f.isLt; omega⟩
/-- The up column of a hidden column. -/
def ucol (f : Fin 9216) : Fin 18432 := ⟨9216 + f.val, by have := f.isLt; omega⟩

theorem slice_g (v : FVec Ideal S1536x18432 .f32) (r : Fin 1536) (f : Fin 9216) :
    extractStridedSlice S1536x9216 ![0, 0] v slices_S1536x18432_o0_0_S1536x9216 (ix2 r f) = v (ix2 r (gcol f)) := by
  refine extractStridedSlice_apply ![0, 0] v slices_S1536x18432_o0_0_S1536x9216 (ix2 r f) (ix2 r (gcol f)) ?_
  intro a
  match a with
  | ⟨0, _⟩ => exact (Nat.zero_add r.val).symm
  | ⟨1, _⟩ => exact (Nat.zero_add f.val).symm

theorem slice_u (v : FVec Ideal S1536x18432 .f32) (r : Fin 1536) (f : Fin 9216) :
    extractStridedSlice S1536x9216 ![0, 9216] v slices_S1536x18432_o0_9216_S1536x9216 (ix2 r f) = v (ix2 r (ucol f)) := by
  refine extractStridedSlice_apply ![0, 9216] v slices_S1536x18432_o0_9216_S1536x9216 (ix2 r f) (ix2 r (ucol f)) ?_
  intro a
  match a with
  | ⟨0, _⟩ => exact (Nat.zero_add r.val).symm
  | ⟨1, _⟩ => rfl

theorem pay4_at (r : Fin 1536) (f : Fin 9216) : (k0_pay4 x W s0 s1 (ix2 r f) : EReal) = mulE (XW x W r (gcol f)) (mulE (cell s0) (cell s1)) := by
  unfold k0_pay4
  exact (slice_g _ r f).trans (pay3_at x W s0 s1 _)

theorem pay5_at (r : Fin 1536) (f : Fin 9216) : (k0_pay5 x W s0 s1 (ix2 r f) : EReal) = mulE (XW x W r (ucol f)) (mulE (cell s0) (cell s1)) := by
  unfold k0_pay5
  exact (slice_u _ r f).trans (pay3_at x W s0 s1 _)

/-- The gate's gradient from the scaled products. -/
def dgX (g u d : Elt Ideal .f32) : Elt Ideal .bf16 :=
  FloatOps.truncf .bf16 bitsLt_bf16_f32 (FloatOps.mulf (FloatOps.mulf (FloatOps.mulf d u) (FloatOps.logistic g))
    (FloatOps.addf (FloatOps.ofBits .f32 0x3F800000#32 : Ideal .f32) (FloatOps.mulf g
      (FloatOps.subf (FloatOps.ofBits .f32 0x3F800000#32 : Ideal .f32) (FloatOps.logistic g)))) : Ideal .f32)

/-- The up value's gradient from the scaled products. -/
def duX (g d : Elt Ideal .f32) : Elt Ideal .bf16 :=
  FloatOps.truncf .bf16 bitsLt_bf16_f32 (FloatOps.mulf (FloatOps.mulf d g) (FloatOps.logistic g) : Ideal .f32)

theorem dgX_congr {g g' u u' d d' : EReal} (h1 : g = g') (h2 : u = u') (h3 : d = d') : dgX g u d = dgX g' u' d' := by
  subst h1 h2 h3; rfl

theorem pay8_at (r : Fin 1536) (f : Fin 9216) : (k0_pay8 x W s0 s1 d W2 s3 s2 (ix2 r f) : EReal)
    = dgC (F := Ideal) (mulE (cell s0) (cell s1)) (mulE (cell s3) (cell s2)) (XW x W r (gcol f)) (XW x W r (ucol f)) (YW d W2 r f) :=
  have e : k0_pay8 x W s0 s1 d W2 s3 s2 (ix2 r f) = dgX (k0_pay4 x W s0 s1 (ix2 r f)) (k0_pay5 x W s0 s1 (ix2 r f)) (k0_pay6 d W2 s3 s2 (ix2 r f)) := rfl
  e.trans (dgX_congr (pay4_at x W s0 s1 r f) (pay5_at x W s0 s1 r f) (pay6_at d W2 s3 s2 (ix2 r f)))

theorem pay9_at (r : Fin 1536) (f : Fin 9216) : (k0_pay9 x W s0 s1 d W2 s3 s2 (ix2 r f) : EReal)
    = duC (F := Ideal) (mulE (cell s0) (cell s1)) (mulE (cell s3) (cell s2)) (XW x W r (gcol f)) (YW d W2 r f) :=
  have e : k0_pay9 x W s0 s1 d W2 s3 s2 (ix2 r f) = duX (k0_pay4 x W s0 s1 (ix2 r f)) (k0_pay6 d W2 s3 s2 (ix2 r f)) := rfl
  e.trans (congrArg₂ duX (pay4_at x W s0 s1 r f) (pay6_at d W2 s3 s2 (ix2 r f)))

/-- The blocked layout: block, row, column of the block. -/
theorem lay (v : FVec Ideal S1536x9216 .bf16) (b : Fin 36) (r : Fin 1536) (l : Fin 256) :
    transpose S36x1536x256 [1, 0, 2] (shapeCast S1536x36x256 v shapeCasts_S1536x9216_S1536x36x256) transposes_S1536x36x256_p1_0_2_S36x1536x256 (ix3 b r l)
      = v (ix2 r (colF b l)) := by
  refine (transpose_apply [1, 0, 2] (shapeCast S1536x36x256 v shapeCasts_S1536x9216_S1536x36x256) transposes_S1536x36x256_p1_0_2_S36x1536x256 (ix3 b r l) (ix3 r b l) ?_).trans ?_
  · intro a
    match a with
    | ⟨0, _⟩ => rfl
    | ⟨1, _⟩ => rfl
    | ⟨2, _⟩ => rfl
  refine shapeCast_apply v shapeCasts_S1536x9216_S1536x36x256 (ix3 r b l) (ix2 r (colF b l)) ?_
  rw [Shape.rowMajor_val_three, Shape.rowMajor_val_two]
  show r.val * 9216 + (b.val * 256 + l.val) = (r.val * 36 + b.val) * 256 + l.val
  omega

/-- One more axis in front. -/
theorem front (v : FVec Ideal S36x1536x256 .bf16) (y : S1x36x1536x256.Idx) :
    shapeCast S1x36x1536x256 v shapeCasts_S36x1536x256_S1x36x1536x256 y = v (ix3 (y 1 : Fin 36) (y 2 : Fin 1536) (y 3 : Fin 256)) := by
  have h0 : (y 0).val < 1 := (y 0).isLt
  refine shapeCast_apply v shapeCasts_S36x1536x256_S1x36x1536x256 y (ix3 (y 1 : Fin 36) (y 2 : Fin 1536) (y 3 : Fin 256)) ?_
  rw [Shape.rowMajor_val_three, Shape.rowMajor_val_four]
  show ((y 1).val * 1536 + (y 2).val) * 256 + (y 3).val = (((y 0).val * 36 + (y 1).val) * 1536 + (y 2).val) * 256 + (y 3).val
  omega

/-- A half of the hidden gradient in its blocked layout. -/
theorem pay1_at (v : Vec Ideal S1536x9216 .bf16) (y : S1x36x1536x256.Idx) :
    k0_pay1 (F := Ideal) v y = v (ix2 (y 2 : Fin 1536) (colF (y 1) (y 3))) := by
  unfold k0_pay1
  exact (front _ y).trans (lay v (y 1) (y 2) (y 3))

/-- The activation from the scaled products. -/
def aX (g u : Elt Ideal .f32) : Elt Ideal .bf16 :=
  FloatOps.truncf .bf16 bitsLt_bf16_f32 (FloatOps.mulf (FloatOps.mulf g (FloatOps.logistic g)) u : Ideal .f32)

/-- The activation in its blocked layout. -/
theorem pay10_at (y : S36x1536x256.Idx) : (k0_pay10 x W s0 s1 y : EReal) = FA (mulE (cell s0) (cell s1)) x W y := by
  have e : y = ix3 (y 0 : Fin 36) (y 1 : Fin 1536) (y 2 : Fin 256) := by
    funext a
    match a with
    | ⟨0, _⟩ => rfl
    | ⟨1, _⟩ => rfl
    | ⟨2, _⟩ => rfl
  unfold k0_pay10
  refine (congrArg _ e).trans ((lay _ (y 0) (y 1) (y 2)).trans ?_)
  exact congrArg₂ aX (pay4_at x W s0 s1 (y 1) (colF (y 0) (y 2))) (pay5_at x W s0 s1 (y 1) (colF (y 0) (y 2)))

/-! ## The two blocks -/

theorem hz2 : (![0, 0] : Fin 2 → ℕ) = fun _ => 0 := by funext a; match a with | ⟨0, _⟩ => rfl | ⟨1, _⟩ => rfl

theorem hz3 : (![0, 0, 0] : Fin 3 → ℕ) = fun _ => 0 := by funext a; match a with | ⟨0, _⟩ => rfl | ⟨1, _⟩ => rfl | ⟨2, _⟩ => rfl

/-- The corner cell of the upstream gradient's scale. -/
theorem ld_corner (v : Vec Ideal S8x128 .f32) : cell (View.ld v r0_4) = v (ix2 (0 : Fin 8) (0 : Fin 128)) := by
  show v _ = v _
  congr 1
  funext a; apply Fin.ext
  match a with
  | ⟨0, _⟩ => rfl
  | ⟨1, _⟩ => rfl

theorem out8_eq (v : Vec Ideal S8x128 .f32) (y : S36x1536x256.Idx) :
    out0_8 (F := Ideal) s0 s1 s2 v x d W W2 y = FA (mulE (cell s0) (cell s1)) x W y := by
  unfold out0_8
  rw [View.ld_unit_zero hz2, View.ld_unit_zero hz2, View.ld_unit_zero hz2, View.ld_unit_zero hz2]
  exact (congrFun (View.canon_unit_zero hz3 _ _) y).trans (pay10_at x W s0 s1 y)

theorem pieceG (z : S1x36x1536x256.Idx) :
    k0_pay1 (k0_pay8 x W s0 s1 d W2 s3 s2) z = FH (mulE (cell s0) (cell s1)) (mulE (cell s3) (cell s2)) x d W W2 (r0_6.idx z) := by
  have h0 : (z 0).val < 1 := (z 0).isLt
  have e : r0_6.idx z = ix4 (0 : Fin 2) (z 1 : Fin 36) (z 2 : Fin 1536) (z 3 : Fin 256) := by
    funext a; apply Fin.ext
    match a with
    | ⟨0, _⟩ => show 0 + 1 * (z 0).val = 0; omega
    | ⟨1, _⟩ => show 0 + 1 * (z 1).val = (z 1).val; omega
    | ⟨2, _⟩ => show 0 + 1 * (z 2).val = (z 2).val; omega
    | ⟨3, _⟩ => show 0 + 1 * (z 3).val = (z 3).val; omega
  rw [e]
  exact (pay1_at _ z).trans ((pay8_at x W s0 s1 d W2 s3 s2 _ _).trans (if_pos rfl).symm)

theorem pieceU (z : S1x36x1536x256.Idx) :
    k0_pay2 (k0_pay9 x W s0 s1 d W2 s3 s2) z = FH (mulE (cell s0) (cell s1)) (mulE (cell s3) (cell s2)) x d W W2 (r0_7.idx z) := by
  have h0 : (z 0).val < 1 := (z 0).isLt
  have e : r0_7.idx z = ix4 (1 : Fin 2) (z 1 : Fin 36) (z 2 : Fin 1536) (z 3 : Fin 256) := by
    funext a; apply Fin.ext
    match a with
    | ⟨0, _⟩ => show 1 + 1 * (z 0).val = 1; omega
    | ⟨1, _⟩ => show 0 + 1 * (z 1).val = (z 1).val; omega
    | ⟨2, _⟩ => show 0 + 1 * (z 2).val = (z 2).val; omega
    | ⟨3, _⟩ => show 0 + 1 * (z 3).val = (z 3).val; omega
  rw [e]
  exact (pay1_at _ z).trans ((pay9_at x W s0 s1 d W2 s3 s2 _ _).trans (if_neg (by decide : ¬(1 : ℕ) = 0)).symm)

theorem out9_eq (v : Vec Ideal S8x128 .f32) (y : S2x36x1536x256.Idx) :
    out0_9 (F := Ideal) s0 s1 s2 v x d W W2 y = FH (mulE (cell s0) (cell s1)) (mulE (v (ix2 (0 : Fin 8) (0 : Fin 128))) (cell s2)) x d W W2 y := by
  rw [← ld_corner v]
  unfold out0_9
  rw [View.ld_unit_zero hz2, View.ld_unit_zero hz2, View.ld_unit_zero hz2, View.ld_unit_zero hz2, View.ld_unit_zero hz2, View.ld_unit_zero hz2, View.ld_unit_zero hz2]
  refine View.canon_apply_of_pieces (FH (mulE (cell s0) (cell s1)) (mulE (cell (View.ld v r0_4)) (cell s2)) x d W W2) _ ?_ y (cover0_9 _ _ y)
  refine List.forall_mem_cons.2 ⟨fun z => pieceU x W s0 s1 d W2 _ s2 z, ?_⟩
  refine List.forall_mem_cons.2 ⟨fun z => pieceG x W s0 s1 d W2 _ s2 z, ?_⟩
  exact fun p hp => absurd hp List.not_mem_nil

/-! ## The arrays -/

variable (m : (ℓ : Loc nD τ sig) → Buf (Elt Ideal) ℓ)

theorem widx0 : ∀ t : Fin cfg0.N, win0_0.index t = ![0, 0] := by decide +kernel
theorem widx1 : ∀ t : Fin cfg0.N, win0_1.index t = ![0, 0] := by decide +kernel
theorem widx2 : ∀ t : Fin cfg0.N, win0_2.index t = ![0, 0] := by decide +kernel
theorem widx3 : ∀ t : Fin cfg0.N, win0_3.index t = ![0, 0] := by decide +kernel
theorem widx4 : ∀ t : Fin cfg0.N, win0_4.index t = ![0, 0] := by decide +kernel
theorem widx5 : ∀ t : Fin cfg0.N, win0_5.index t = ![0, 0] := by decide +kernel
theorem widx6 : ∀ t : Fin cfg0.N, win0_6.index t = ![0, 0] := by decide +kernel
theorem widx7 : ∀ t : Fin cfg0.N, win0_7.index t = ![0, 0] := by decide +kernel
theorem widx8 : ∀ t : Fin cfg0.N, win0_8.index t = ![0, 0, 0] := by decide +kernel
theorem widx9 : ∀ t : Fin cfg0.N, win0_9.index t = ![0, 0, 0, 0] := by decide +kernel

theorem blk0 (c : Dev nD) (t : Fin cfg0.N) : (iblk m c 0 t : Vec Ideal S1x1 .f32) = V m c main_v0 := by
  funext y
  unfold iblk
  rw [View.read_apply]
  show V m c main_v0 _ = V m c main_v0 _
  congr 1
  funext a; apply Fin.ext
  have h := congrFun (widx0 t) a
  match a with
  | ⟨0, _⟩ => show win0_0.index t 0 * 1 + 1 * (y 0).val = (y 0).val; rw [show win0_0.index t 0 = 0 from h]; omega
  | ⟨1, _⟩ => show win0_0.index t 1 * 1 + 1 * (y 1).val = (y 1).val; rw [show win0_0.index t 1 = 0 from h]; omega

theorem blk1 (c : Dev nD) (t : Fin cfg0.N) : (iblk m c 1 t : Vec Ideal S1x1 .f32) = V m c main_v1 := by
  funext y
  unfold iblk
  rw [View.read_apply]
  show V m c main_v1 _ = V m c main_v1 _
  congr 1
  funext a; apply Fin.ext
  have h := congrFun (widx1 t) a
  match a with
  | ⟨0, _⟩ => show win0_1.index t 0 * 1 + 1 * (y 0).val = (y 0).val; rw [show win0_1.index t 0 = 0 from h]; omega
  | ⟨1, _⟩ => show win0_1.index t 1 * 1 + 1 * (y 1).val = (y 1).val; rw [show win0_1.index t 1 = 0 from h]; omega

theorem blk2 (c : Dev nD) (t : Fin cfg0.N) : (iblk m c 2 t : Vec Ideal S1x1 .f32) = V m c main_v2 := by
  funext y
  unfold iblk
  rw [View.read_apply]
  show V m c main_v2 _ = V m c main_v2 _
  congr 1
  funext a; apply Fin.ext
  have h := congrFun (widx2 t) a
  match a with
  | ⟨0, _⟩ => show win0_2.index t 0 * 1 + 1 * (y 0).val = (y 0).val; rw [show win0_2.index t 0 = 0 from h]; omega
  | ⟨1, _⟩ => show win0_2.index t 1 * 1 + 1 * (y 1).val = (y 1).val; rw [show win0_2.index t 1 = 0 from h]; omega

theorem blk3 (c : Dev nD) (t : Fin cfg0.N) : (iblk m c 3 t : Vec Ideal S8x128 .f32) = V m c main_arg3 := by
  funext y
  unfold iblk
  rw [View.read_apply]
  show V m c main_arg3 _ = V m c main_arg3 _
  congr 1
  funext a; apply Fin.ext
  have h := congrFun (widx3 t) a
  match a with
  | ⟨0, _⟩ => show win0_3.index t 0 * 8 + 1 * (y 0).val = (y 0).val; rw [show win0_3.index t 0 = 0 from h]; omega
  | ⟨1, _⟩ => show win0_3.index t 1 * 128 + 1 * (y 1).val = (y 1).val; rw [show win0_3.index t 1 = 0 from h]; omega

theorem blk4 (c : Dev nD) (t : Fin cfg0.N) : (iblk m c 4 t : Vec Ideal S1536x2304 .fp8e4m3) = V m c main_arg4 := by
  funext y
  unfold iblk
  rw [View.read_apply]
  show V m c main_arg4 _ = V m c main_arg4 _
  congr 1
  funext a; apply Fin.ext
  have h := congrFun (widx4 t) a
  match a with
  | ⟨0, _⟩ => show win0_4.index t 0 * 1536 + 1 * (y 0).val = (y 0).val; rw [show win0_4.index t 0 = 0 from h]; omega
  | ⟨1, _⟩ => show win0_4.index t 1 * 2304 + 1 * (y 1).val = (y 1).val; rw [show win0_4.index t 1 = 0 from h]; omega

theorem blk5 (c : Dev nD) (t : Fin cfg0.N) : (iblk m c 5 t : Vec Ideal S1536x2304 .fp8e5m2) = V m c main_arg5 := by
  funext y
  unfold iblk
  rw [View.read_apply]
  show V m c main_arg5 _ = V m c main_arg5 _
  congr 1
  funext a; apply Fin.ext
  have h := congrFun (widx5 t) a
  match a with
  | ⟨0, _⟩ => show win0_5.index t 0 * 1536 + 1 * (y 0).val = (y 0).val; rw [show win0_5.index t 0 = 0 from h]; omega
  | ⟨1, _⟩ => show win0_5.index t 1 * 2304 + 1 * (y 1).val = (y 1).val; rw [show win0_5.index t 1 = 0 from h]; omega

theorem blk6 (c : Dev nD) (t : Fin cfg0.N) : (iblk m c 6 t : Vec Ideal S2304x18432 .fp8e4m3) = V m c main_arg6 := by
  funext y
  unfold iblk
  rw [View.read_apply]
  show V m c main_arg6 _ = V m c main_arg6 _
  congr 1
  funext a; apply Fin.ext
  have h := congrFun (widx6 t) a
  match a with
  | ⟨0, _⟩ => show win0_6.index t 0 * 2304 + 1 * (y 0).val = (y 0).val; rw [show win0_6.index t 0 = 0 from h]; omega
  | ⟨1, _⟩ => show win0_6.index t 1 * 18432 + 1 * (y 1).val = (y 1).val; rw [show win0_6.index t 1 = 0 from h]; omega

theorem blk7 (c : Dev nD) (t : Fin cfg0.N) : (iblk m c 7 t : Vec Ideal S9216x2304 .fp8e4m3) = V m c main_arg7 := by
  funext y
  unfold iblk
  rw [View.read_apply]
  show V m c main_arg7 _ = V m c main_arg7 _
  congr 1
  funext a; apply Fin.ext
  have h := congrFun (widx7 t) a
  match a with
  | ⟨0, _⟩ => show win0_7.index t 0 * 9216 + 1 * (y 0).val = (y 0).val; rw [show win0_7.index t 0 = 0 from h]; omega
  | ⟨1, _⟩ => show win0_7.index t 1 * 2304 + 1 * (y 1).val = (y 1).val; rw [show win0_7.index t 1 = 0 from h]; omega

theorem res_a (c : Dev nD) : (dats m 0 c).arrAt 8 cfg0.N = (FA (mulE (cell (V m c main_v0)) (cell (V m c main_v1))) (V m c main_arg4) (V m c main_arg6) : (main_v3_0.ty).Contents (Elt Ideal)) :=
  (dats m 0 c).arrAt_eq_of_cover 8 (FA (mulE (cell (V m c main_v0)) (cell (V m c main_v1))) (V m c main_arg4) (V m c main_arg6) : (main_v3_0.ty).Contents (Elt Ideal))
    (fun t hf => by
      show (cfg0.win 8).cut (grid0.coords t) ((dats m 0 c).after 8 t) = _
      rw [after0_8, blk0, blk1, blk2, blk3, blk4, blk5, blk6, blk7]
      funext y
      refine (out8_eq (V m c main_arg4) (V m c main_arg6) (V m c main_v0) (V m c main_v1) (V m c main_arg5) (V m c main_arg7) (V m c main_v2) (V m c main_arg3) y).trans ?_
      rw [View.read_apply]
      generalize FA (mulE (cell (V m c main_v0)) (cell (V m c main_v1))) (V m c main_arg4) (V m c main_arg6) = G
      show G _ = G _
      congr 1
      funext a; apply Fin.ext
      have h := congrFun (widx8 t) a
      match a with
      | ⟨0, _⟩ => show (y 0).val = win0_8.index t 0 * 36 + 1 * (y 0).val; rw [show win0_8.index t 0 = 0 from h]; omega
      | ⟨1, _⟩ => show (y 1).val = win0_8.index t 1 * 1536 + 1 * (y 1).val; rw [show win0_8.index t 1 = 0 from h]; omega
      | ⟨2, _⟩ => show (y 2).val = win0_8.index t 2 * 256 + 1 * (y 2).val; rw [show win0_8.index t 2 = 0 from h]; omega) fun i =>
    have mem : ∀ t : Fin cfg0.N, i ∈ ((cfg0.win 8).blk t).view.set := by
      intro t
      show i ∈ ((View.whole main_v3_0).slice (win0_8.rect t)).set
      rw [View.set_slice_whole, Rect.mem_set_unit]
      intro a
      have h0 : (i 0 : Nat) < 36 := (i 0).isLt
      have h1 : (i 1 : Nat) < 1536 := (i 1).isLt
      have h2 : (i 2 : Nat) < 256 := (i 2).isLt
      have h := congrFun (widx8 t) a
      match a with
      | ⟨0, _⟩ => show win0_8.index t 0 * 36 ≤ (i 0 : Nat) ∧ (i 0 : Nat) < win0_8.index t 0 * 36 + 36; rw [show win0_8.index t 0 = 0 from h]; omega
      | ⟨1, _⟩ => show win0_8.index t 1 * 1536 ≤ (i 1 : Nat) ∧ (i 1 : Nat) < win0_8.index t 1 * 1536 + 1536; rw [show win0_8.index t 1 = 0 from h]; omega
      | ⟨2, _⟩ => show win0_8.index t 2 * 256 ≤ (i 2 : Nat) ∧ (i 2 : Nat) < win0_8.index t 2 * 256 + 256; rw [show win0_8.index t 2 = 0 from h]; omega
    ⟨⟨0, by decide +kernel⟩, (by decide +kernel), mem _⟩

theorem res_h (c : Dev nD) : (dats m 0 c).arrAt 9 cfg0.N = (FH (mulE (cell (V m c main_v0)) (cell (V m c main_v1))) (mulE (V m c main_arg3 (ix2 (0 : Fin 8) (0 : Fin 128))) (cell (V m c main_v2))) (V m c main_arg4) (V m c main_arg5) (V m c main_arg6) (V m c main_arg7) : (main_v3_1.ty).Contents (Elt Ideal)) :=
  (dats m 0 c).arrAt_eq_of_cover 9 (FH (mulE (cell (V m c main_v0)) (cell (V m c main_v1))) (mulE (V m c main_arg3 (ix2 (0 : Fin 8) (0 : Fin 128))) (cell (V m c main_v2))) (V m c main_arg4) (V m c main_arg5) (V m c main_arg6) (V m c main_arg7) : (main_v3_1.ty).Contents (Elt Ideal))
    (fun t hf => by
      show (cfg0.win 9).cut (grid0.coords t) ((dats m 0 c).after 9 t) = _
      rw [after0_9, blk0, blk1, blk2, blk3, blk4, blk5, blk6, blk7]
      funext y
      refine (out9_eq (V m c main_arg4) (V m c main_arg6) (V m c main_v0) (V m c main_v1) (V m c main_arg5) (V m c main_arg7) (V m c main_v2) (V m c main_arg3) y).trans ?_
      rw [View.read_apply]
      generalize FH (mulE (cell (V m c main_v0)) (cell (V m c main_v1))) (mulE (V m c main_arg3 (ix2 (0 : Fin 8) (0 : Fin 128))) (cell (V m c main_v2))) (V m c main_arg4) (V m c main_arg5) (V m c main_arg6) (V m c main_arg7) = G
      show G _ = G _
      congr 1
      funext a; apply Fin.ext
      have h := congrFun (widx9 t) a
      match a with
      | ⟨0, _⟩ => show (y 0).val = win0_9.index t 0 * 2 + 1 * (y 0).val; rw [show win0_9.index t 0 = 0 from h]; omega
      | ⟨1, _⟩ => show (y 1).val = win0_9.index t 1 * 36 + 1 * (y 1).val; rw [show win0_9.index t 1 = 0 from h]; omega
      | ⟨2, _⟩ => show (y 2).val = win0_9.index t 2 * 1536 + 1 * (y 2).val; rw [show win0_9.index t 2 = 0 from h]; omega
      | ⟨3, _⟩ => show (y 3).val = win0_9.index t 3 * 256 + 1 * (y 3).val; rw [show win0_9.index t 3 = 0 from h]; omega) fun i =>
    have mem : ∀ t : Fin cfg0.N, i ∈ ((cfg0.win 9).blk t).view.set := by
      intro t
      show i ∈ ((View.whole main_v3_1).slice (win0_9.rect t)).set
      rw [View.set_slice_whole, Rect.mem_set_unit]
      intro a
      have h0 : (i 0 : Nat) < 2 := (i 0).isLt
      have h1 : (i 1 : Nat) < 36 := (i 1).isLt
      have h2 : (i 2 : Nat) < 1536 := (i 2).isLt
      have h3 : (i 3 : Nat) < 256 := (i 3).isLt
      have h := congrFun (widx9 t) a
      match a with
      | ⟨0, _⟩ => show win0_9.index t 0 * 2 ≤ (i 0 : Nat) ∧ (i 0 : Nat) < win0_9.index t 0 * 2 + 2; rw [show win0_9.index t 0 = 0 from h]; omega
      | ⟨1, _⟩ => show win0_9.index t 1 * 36 ≤ (i 1 : Nat) ∧ (i 1 : Nat) < win0_9.index t 1 * 36 + 36; rw [show win0_9.index t 1 = 0 from h]; omega
      | ⟨2, _⟩ => show win0_9.index t 2 * 1536 ≤ (i 2 : Nat) ∧ (i 2 : Nat) < win0_9.index t 2 * 1536 + 1536; rw [show win0_9.index t 2 = 0 from h]; omega
      | ⟨3, _⟩ => show win0_9.index t 3 * 256 ≤ (i 3 : Nat) ∧ (i 3 : Nat) < win0_9.index t 3 * 256 + 256; rw [show win0_9.index t 3 = 0 from h]; omega
    ⟨⟨0, by decide +kernel⟩, (by decide +kernel), mem _⟩

/-! ## The scales -/

theorem V_v0 (c : Dev nD) : cell (V m c main_v0) = m ((c : Thread nD τ).loc main_arg0) ValueIdx.ix0 := by
  show StableHlo.after hostOps0 _ _ _ = _
  after_results
  rfl

theorem V_v1 (c : Dev nD) : cell (V m c main_v1) = m ((c : Thread nD τ).loc main_arg1) ValueIdx.ix0 := by
  show StableHlo.after hostOps0 _ _ _ = _
  after_results
  rfl

theorem V_v2 (c : Dev nD) : cell (V m c main_v2) = m ((c : Thread nD τ).loc main_arg2) ValueIdx.ix0 := by
  show StableHlo.after hostOps0 _ _ _ = _
  after_results
  rfl

end Cert.ForwardRefIdeal.Hand

end
-- ==== Proof.FEq.lean ====
/- The value claim of the forward call: it and its reference end with equal results. -/
module

public import proofs.«01_k».proof.Defs
public import proofs.«01_k».proof.Proof.FRef
public import Idealize.ShloMosaic.Adequacy

@[expose] public section

set_option maxRecDepth 16384

noncomputable section

namespace Cert.Hand

open Idealize.ShloMosaic hiding ix0 ix1 ix2 ix3 ix4 ix5
open Idealize.ShloMosaic.ValueIdx
open Idealize.ShloMosaic.TcCoe Idealize.SL.Sem

open Cert.ForwardIdeal.Hand (FA FH mulE)

theorem FA_congr {v v' : EReal} {x x' W W'} (h0 : v = v') (h1 : x = x') (h2 : W = W') : FA v x W = FA v' x' W' := by
  subst h0 h1 h2; rfl
theorem FH_congr {v v' w w' : EReal} {x x' d d' W W' U U'} (h0 : v = v') (h1 : w = w') (h2 : x = x') (h3 : d = d') (h4 : W = W') (h5 : U = U') :
    FH v w x d W U = FH v' w' x' d' W' U' := by
  subst h0 h1 h2 h3 h4 h5; rfl

/-- The forward call's run: each result named, the arguments unchanged. -/
theorem run_forward (m : (ℓ : Loc Cert.ForwardIdeal.nD Cert.ForwardIdeal.τ Cert.ForwardIdeal.sig) → Buf (Elt Ideal) ℓ) (ρ : Dev Cert.ForwardIdeal.nD → PrngReg) :
    θ_run (Cert.ForwardIdeal.defs (F := Ideal)) (onTc (τ := Cert.ForwardIdeal.τ) (Cert.ForwardIdeal.main (F := Ideal))) ⟨m, fun _ => 0, ρ⟩ (fun r => ∀ c : Dev Cert.ForwardIdeal.nD,
      r.2.mem ((c.tc : Thread Cert.ForwardIdeal.nD Cert.ForwardIdeal.τ).loc Cert.ForwardIdeal.main_v4_0) = (Cert.ForwardIdeal.Gen.dats m 0 c).arrAt 8 Cert.ForwardIdeal.cfg0.N
      ∧ r.2.mem ((c.tc : Thread Cert.ForwardIdeal.nD Cert.ForwardIdeal.τ).loc Cert.ForwardIdeal.main_v4_1) = (Cert.ForwardIdeal.Gen.dats m 0 c).arrAt 9 Cert.ForwardIdeal.cfg0.N
      ∧ r.2.mem ((c.tc : Thread Cert.ForwardIdeal.nD Cert.ForwardIdeal.τ).loc Cert.ForwardIdeal.main_arg0) = m ((c.tc : Thread Cert.ForwardIdeal.nD Cert.ForwardIdeal.τ).loc Cert.ForwardIdeal.main_arg0)
      ∧ r.2.mem ((c.tc : Thread Cert.ForwardIdeal.nD Cert.ForwardIdeal.τ).loc Cert.ForwardIdeal.main_arg1) = m ((c.tc : Thread Cert.ForwardIdeal.nD Cert.ForwardIdeal.τ).loc Cert.ForwardIdeal.main_arg1)
      ∧ r.2.mem ((c.tc : Thread Cert.ForwardIdeal.nD Cert.ForwardIdeal.τ).loc Cert.ForwardIdeal.main_arg2) = m ((c.tc : Thread Cert.ForwardIdeal.nD Cert.ForwardIdeal.τ).loc Cert.ForwardIdeal.main_arg2)
      ∧ r.2.mem ((c.tc : Thread Cert.ForwardIdeal.nD Cert.ForwardIdeal.τ).loc Cert.ForwardIdeal.main_arg3) = m ((c.tc : Thread Cert.ForwardIdeal.nD Cert.ForwardIdeal.τ).loc Cert.ForwardIdeal.main_arg3)
      ∧ r.2.mem ((c.tc : Thread Cert.ForwardIdeal.nD Cert.ForwardIdeal.τ).loc Cert.ForwardIdeal.main_arg4) = m ((c.tc : Thread Cert.ForwardIdeal.nD Cert.ForwardIdeal.τ).loc Cert.ForwardIdeal.main_arg4)
      ∧ r.2.mem ((c.tc : Thread Cert.ForwardIdeal.nD Cert.ForwardIdeal.τ).loc Cert.ForwardIdeal.main_arg5) = m ((c.tc : Thread Cert.ForwardIdeal.nD Cert.ForwardIdeal.τ).loc Cert.ForwardIdeal.main_arg5)
      ∧ r.2.mem ((c.tc : Thread Cert.ForwardIdeal.nD Cert.ForwardIdeal.τ).loc Cert.ForwardIdeal.main_arg6) = m ((c.tc : Thread Cert.ForwardIdeal.nD Cert.ForwardIdeal.τ).loc Cert.ForwardIdeal.main_arg6)
      ∧ r.2.mem ((c.tc : Thread Cert.ForwardIdeal.nD Cert.ForwardIdeal.τ).loc Cert.ForwardIdeal.main_arg7) = m ((c.tc : Thread Cert.ForwardIdeal.nD Cert.ForwardIdeal.τ).loc Cert.ForwardIdeal.main_arg7)) :=
  (θ_run _ _ _).mono (fun _ h c => ⟨(h.2 c).1 8, (h.2 c).1 9, h.1 c⟩)
    (θ_run_and (Cert.ForwardIdeal.Gen.unchanged m ρ) (Cert.ForwardIdeal.Gen.run_main m ρ))

/-- Its reference's run. -/
theorem run_forward_ref (m : (ℓ : Loc Cert.ForwardRefIdeal.nD Cert.ForwardRefIdeal.τ Cert.ForwardRefIdeal.sig) → Buf (Elt Ideal) ℓ) (ρ : Dev Cert.ForwardRefIdeal.nD → PrngReg) :
    θ_run (Cert.ForwardRefIdeal.defs (F := Ideal)) (onTc (τ := Cert.ForwardRefIdeal.τ) (Cert.ForwardRefIdeal.main (F := Ideal))) ⟨m, fun _ => 0, ρ⟩ (fun r => ∀ c : Dev Cert.ForwardRefIdeal.nD,
      r.2.mem ((c.tc : Thread Cert.ForwardRefIdeal.nD Cert.ForwardRefIdeal.τ).loc Cert.ForwardRefIdeal.main_v3_0) = (Cert.ForwardRefIdeal.Gen.dats m 0 c).arrAt 8 Cert.ForwardRefIdeal.cfg0.N
      ∧ r.2.mem ((c.tc : Thread Cert.ForwardRefIdeal.nD Cert.ForwardRefIdeal.τ).loc Cert.ForwardRefIdeal.main_v3_1) = (Cert.ForwardRefIdeal.Gen.dats m 0 c).arrAt 9 Cert.ForwardRefIdeal.cfg0.N
      ∧ r.2.mem ((c.tc : Thread Cert.ForwardRefIdeal.nD Cert.ForwardRefIdeal.τ).loc Cert.ForwardRefIdeal.main_arg0) = m ((c.tc : Thread Cert.ForwardRefIdeal.nD Cert.ForwardRefIdeal.τ).loc Cert.ForwardRefIdeal.main_arg0)
      ∧ r.2.mem ((c.tc : Thread Cert.ForwardRefIdeal.nD Cert.ForwardRefIdeal.τ).loc Cert.ForwardRefIdeal.main_arg1) = m ((c.tc : Thread Cert.ForwardRefIdeal.nD Cert.ForwardRefIdeal.τ).loc Cert.ForwardRefIdeal.main_arg1)
      ∧ r.2.mem ((c.tc : Thread Cert.ForwardRefIdeal.nD Cert.ForwardRefIdeal.τ).loc Cert.ForwardRefIdeal.main_arg2) = m ((c.tc : Thread Cert.ForwardRefIdeal.nD Cert.ForwardRefIdeal.τ).loc Cert.ForwardRefIdeal.main_arg2)
      ∧ r.2.mem ((c.tc : Thread Cert.ForwardRefIdeal.nD Cert.ForwardRefIdeal.τ).loc Cert.ForwardRefIdeal.main_arg3) = m ((c.tc : Thread Cert.ForwardRefIdeal.nD Cert.ForwardRefIdeal.τ).loc Cert.ForwardRefIdeal.main_arg3)
      ∧ r.2.mem ((c.tc : Thread Cert.ForwardRefIdeal.nD Cert.ForwardRefIdeal.τ).loc Cert.ForwardRefIdeal.main_arg4) = m ((c.tc : Thread Cert.ForwardRefIdeal.nD Cert.ForwardRefIdeal.τ).loc Cert.ForwardRefIdeal.main_arg4)
      ∧ r.2.mem ((c.tc : Thread Cert.ForwardRefIdeal.nD Cert.ForwardRefIdeal.τ).loc Cert.ForwardRefIdeal.main_arg5) = m ((c.tc : Thread Cert.ForwardRefIdeal.nD Cert.ForwardRefIdeal.τ).loc Cert.ForwardRefIdeal.main_arg5)
      ∧ r.2.mem ((c.tc : Thread Cert.ForwardRefIdeal.nD Cert.ForwardRefIdeal.τ).loc Cert.ForwardRefIdeal.main_arg6) = m ((c.tc : Thread Cert.ForwardRefIdeal.nD Cert.ForwardRefIdeal.τ).loc Cert.ForwardRefIdeal.main_arg6)
      ∧ r.2.mem ((c.tc : Thread Cert.ForwardRefIdeal.nD Cert.ForwardRefIdeal.τ).loc Cert.ForwardRefIdeal.main_arg7) = m ((c.tc : Thread Cert.ForwardRefIdeal.nD Cert.ForwardRefIdeal.τ).loc Cert.ForwardRefIdeal.main_arg7)) :=
  (θ_run _ _ _).mono (fun _ h c => ⟨(h.2 c).1 8, (h.2 c).1 9, h.1 c⟩)
    (θ_run_and (Cert.ForwardRefIdeal.Gen.unchanged m ρ) (Cert.ForwardRefIdeal.Gen.run_main m ρ))

/-- The results agree, device by device. -/
theorem results_eqF (m : (ℓ : Loc Cert.ForwardIdeal.nD Cert.ForwardIdeal.τ Cert.ForwardIdeal.sig) → Buf (Elt Ideal) ℓ) (m' : (ℓ : Loc Cert.ForwardRefIdeal.nD Cert.ForwardRefIdeal.τ Cert.ForwardRefIdeal.sig) → Buf (Elt Ideal) ℓ) (c : Dev Cert.ForwardIdeal.nD)
    (hag : m' ((c.tc : Thread Cert.ForwardRefIdeal.nD Cert.ForwardRefIdeal.τ).loc Cert.ForwardRefIdeal.main_arg0) = m ((c.tc : Thread Cert.ForwardIdeal.nD Cert.ForwardIdeal.τ).loc Cert.ForwardIdeal.main_arg0)
      ∧ m' ((c.tc : Thread Cert.ForwardRefIdeal.nD Cert.ForwardRefIdeal.τ).loc Cert.ForwardRefIdeal.main_arg1) = m ((c.tc : Thread Cert.ForwardIdeal.nD Cert.ForwardIdeal.τ).loc Cert.ForwardIdeal.main_arg1)
      ∧ m' ((c.tc : Thread Cert.ForwardRefIdeal.nD Cert.ForwardRefIdeal.τ).loc Cert.ForwardRefIdeal.main_arg2) = m ((c.tc : Thread Cert.ForwardIdeal.nD Cert.ForwardIdeal.τ).loc Cert.ForwardIdeal.main_arg2)
      ∧ m' ((c.tc : Thread Cert.ForwardRefIdeal.nD Cert.ForwardRefIdeal.τ).loc Cert.ForwardRefIdeal.main_arg3) = m ((c.tc : Thread Cert.ForwardIdeal.nD Cert.ForwardIdeal.τ).loc Cert.ForwardIdeal.main_arg3)
      ∧ m' ((c.tc : Thread Cert.ForwardRefIdeal.nD Cert.ForwardRefIdeal.τ).loc Cert.ForwardRefIdeal.main_arg4) = m ((c.tc : Thread Cert.ForwardIdeal.nD Cert.ForwardIdeal.τ).loc Cert.ForwardIdeal.main_arg4)
      ∧ m' ((c.tc : Thread Cert.ForwardRefIdeal.nD Cert.ForwardRefIdeal.τ).loc Cert.ForwardRefIdeal.main_arg5) = m ((c.tc : Thread Cert.ForwardIdeal.nD Cert.ForwardIdeal.τ).loc Cert.ForwardIdeal.main_arg5)
      ∧ m' ((c.tc : Thread Cert.ForwardRefIdeal.nD Cert.ForwardRefIdeal.τ).loc Cert.ForwardRefIdeal.main_arg6) = m ((c.tc : Thread Cert.ForwardIdeal.nD Cert.ForwardIdeal.τ).loc Cert.ForwardIdeal.main_arg6)
      ∧ m' ((c.tc : Thread Cert.ForwardRefIdeal.nD Cert.ForwardRefIdeal.τ).loc Cert.ForwardRefIdeal.main_arg7) = m ((c.tc : Thread Cert.ForwardIdeal.nD Cert.ForwardIdeal.τ).loc Cert.ForwardIdeal.main_arg7)) :
    (Cert.ForwardRefIdeal.Gen.dats m' 0 c).arrAt 8 Cert.ForwardRefIdeal.cfg0.N = (Cert.ForwardIdeal.Gen.dats m 0 c).arrAt 8 Cert.ForwardIdeal.cfg0.N
      ∧ (Cert.ForwardRefIdeal.Gen.dats m' 0 c).arrAt 9 Cert.ForwardRefIdeal.cfg0.N = (Cert.ForwardIdeal.Gen.dats m 0 c).arrAt 9 Cert.ForwardIdeal.cfg0.N := by
  obtain ⟨e0, e1, e2, e3, e4, e5, e6, e7⟩ := hag
  have k3 := (Cert.ForwardRefIdeal.Gen.V_main_arg3 m' c).trans (e3.trans (Cert.ForwardIdeal.Gen.V_main_arg3 m c).symm)
  have k4 := (Cert.ForwardRefIdeal.Gen.V_main_arg4 m' c).trans (e4.trans (Cert.ForwardIdeal.Gen.V_main_arg4 m c).symm)
  have k5 := (Cert.ForwardRefIdeal.Gen.V_main_arg5 m' c).trans (e5.trans (Cert.ForwardIdeal.Gen.V_main_arg5 m c).symm)
  have k6 := (Cert.ForwardRefIdeal.Gen.V_main_arg6 m' c).trans (e6.trans (Cert.ForwardIdeal.Gen.V_main_arg6 m c).symm)
  have k7 := (Cert.ForwardRefIdeal.Gen.V_main_arg7 m' c).trans (e7.trans (Cert.ForwardIdeal.Gen.V_main_arg7 m c).symm)
  have v : mulE (Cert.ForwardRefIdeal.Hand.cell (Cert.ForwardRefIdeal.Gen.V m' c Cert.ForwardRefIdeal.main_v0)) (Cert.ForwardRefIdeal.Hand.cell (Cert.ForwardRefIdeal.Gen.V m' c Cert.ForwardRefIdeal.main_v1)) = Cert.ForwardIdeal.Hand.vOf (Cert.ForwardIdeal.Gen.V m c Cert.ForwardIdeal.main_v2) :=
    (congrArg₂ mulE ((Cert.ForwardRefIdeal.Hand.V_v0 m' c).trans (congrFun e0 _)) ((Cert.ForwardRefIdeal.Hand.V_v1 m' c).trans (congrFun e1 _))).trans (Cert.ForwardIdeal.Hand.vOf_eq c).symm
  have w : mulE (Cert.ForwardRefIdeal.Gen.V m' c Cert.ForwardRefIdeal.main_arg3 (ix2 (0 : Fin 8) (0 : Fin 128))) (Cert.ForwardRefIdeal.Hand.cell (Cert.ForwardRefIdeal.Gen.V m' c Cert.ForwardRefIdeal.main_v2)) = Cert.ForwardIdeal.Hand.wOf (Cert.ForwardIdeal.Gen.V m c Cert.ForwardIdeal.main_v3) (Cert.ForwardIdeal.Gen.V m c Cert.ForwardIdeal.main_arg3) :=
    (congrArg₂ mulE (congrFun k3 _) ((Cert.ForwardRefIdeal.Hand.V_v2 m' c).trans (congrFun e2 _))).trans (Cert.ForwardIdeal.Hand.wOf_eq c).symm
  exact ⟨(Cert.ForwardRefIdeal.Hand.res_a m' c).trans ((FA_congr v k4 k6).trans (Cert.ForwardIdeal.Hand.res_a c).symm),
    (Cert.ForwardRefIdeal.Hand.res_h m' c).trans ((FH_congr v w k4 k5 k6 k7).trans (Cert.ForwardIdeal.Hand.res_h c).symm)⟩

theorem algebraicF : @Cert.algebraic_ForwardIdeal_ForwardRefIdeal Cert.ForwardIdeal.Gen.facts Cert.ForwardRefIdeal.Gen.facts :=
  fun m ρ m' ρ' _ hag => ⟨fun c => (Cert.ForwardIdeal.Gen.dats m 0 c).arrAt 8 Cert.ForwardIdeal.cfg0.N, fun c => (Cert.ForwardIdeal.Gen.dats m 0 c).arrAt 9 Cert.ForwardIdeal.cfg0.N,
    run_forward m ρ,
    (θ_run _ _ _).mono (fun _ h c => by
      obtain ⟨q0, q1⟩ := results_eqF m m' c (hag c)
      obtain ⟨r0, r1, rest⟩ := h c
      exact ⟨r0.trans q0, r1.trans q1, rest⟩)
      (run_forward_ref m' ρ')⟩

end Cert.Hand

end
-- ==== Proof.lean ====
module

public import proofs.«01_k».proof.Defs
public import proofs.«01_k».proof.Proof.Gen.GradientsRefIdeal
public import proofs.«01_k».proof.Proof.Gen.GradientsRefIdeal.Frame
public import proofs.«01_k».proof.Proof.GFrame
public import proofs.«01_k».proof.Proof.GBits
public import proofs.«01_k».proof.Proof.GEq
public import proofs.«01_k».proof.Proof.QEq
public import proofs.«01_k».proof.Proof.Gen.QuantiseDy
public import proofs.«01_k».proof.Proof.Gen.QuantiseDy.Frame
public import proofs.«01_k».proof.Proof.Gen.QuantiseDyIdeal
public import proofs.«01_k».proof.Proof.Gen.QuantiseDyIdeal.Frame
public import proofs.«01_k».proof.Proof.Gen.QuantiseDyIdeal.Value
public import proofs.«01_k».proof.Proof.Gen.QuantiseDyRefIdeal
public import proofs.«01_k».proof.Proof.Gen.QuantiseDyRefIdeal.Frame
public import proofs.«01_k».proof.Proof.Gen.QuantiseDyRefIdeal.Value
public import proofs.«01_k».proof.Proof.Gen.Forward
public import proofs.«01_k».proof.Proof.Gen.Forward.Frame
public import proofs.«01_k».proof.Proof.Gen.ForwardIdeal
public import proofs.«01_k».proof.Proof.Gen.ForwardIdeal.Frame
public import proofs.«01_k».proof.Proof.Gen.ForwardRefIdeal
public import proofs.«01_k».proof.Proof.Gen.ForwardRefIdeal.Frame
public import proofs.«01_k».proof.Proof.FEq
public import Idealize.ShloMosaic.Adequacy
public import Idealize.ShloMosaic.Init

@[expose] public section

noncomputable section

namespace Cert.Proof

open Idealize.ShloMosaic Idealize.SL.Sem

theorem claim : Cert.Claim := ⟨Cert.Gradients.Gen.facts, Cert.GradientsIdeal.Gen.facts, Cert.GradientsRefIdeal.Gen.facts,
  Cert.QuantiseDy.Gen.facts, Cert.QuantiseDyIdeal.Gen.facts, Cert.QuantiseDyRefIdeal.Gen.facts,
  Cert.Forward.Gen.facts, Cert.ForwardIdeal.Gen.facts, Cert.ForwardRefIdeal.Gen.facts, Cert.Hand.preFacts, Cert.Hand.dyFacts,
  Cert.GradientsIdeal.Hand.frame_bits,
  fun m ρ _ => Cert.GradientsIdeal.Hand.frame m ρ,
  fun m ρ _ => Cert.GradientsIdeal.Hand.frame m ρ,
  fun m ρ _ => Cert.GradientsRefIdeal.Gen.frame m ρ,
  fun m ρ _ => Cert.GradientsRefIdeal.Gen.frame m ρ,
  fun m ρ _ => Cert.QuantiseDy.Gen.frame m ρ,
  fun m ρ _ => Cert.QuantiseDyIdeal.Gen.frame m ρ,
  fun m ρ _ => Cert.QuantiseDyIdeal.Gen.frame m ρ,
  fun m ρ _ => Cert.QuantiseDyRefIdeal.Gen.frame m ρ,
  fun m ρ _ => Cert.QuantiseDyRefIdeal.Gen.frame m ρ,
  fun m ρ _ => Cert.Forward.Gen.frame m ρ,
  fun m ρ _ => Cert.ForwardIdeal.Gen.frame m ρ,
  fun m ρ _ => Cert.ForwardRefIdeal.Gen.frame m ρ,
  trivial,
  Cert.Hand.algebraic,
  trivial,
  Cert.Hand.algebraicQ,
  trivial,
  Cert.Hand.algebraicF⟩

end Cert.Proof

end
